-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Dgu (m : (ℓ : Loc Cert.Dgu.nD Cert.Dgu.τ Cert.Dgu.sig) → Buf (Elt Bits) ℓ) : Prop :=
  True

def Pre_DguIdeal (m : (ℓ : Loc Cert.DguIdeal.nD Cert.DguIdeal.τ Cert.DguIdeal.sig) → Buf (Elt Ideal) ℓ) : Prop :=
  True

def Pre_DguIdeal_finite_dgu [hPre_finite_dgu : Cert.Pre_finite_dgu.Facts] (m : (ℓ : Loc Cert.DguIdeal.nD Cert.DguIdeal.τ Cert.DguIdeal.sig) → Buf (Elt Ideal) ℓ) : Prop :=
  ∀ c : Dev Cert.DguIdeal.nD,
    (Cert.Pre_finite_dgu.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2))).1 = (fun _ => 1#1)
    ∧ (Cert.Pre_finite_dgu.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2))).2.1 = (fun _ => 1#1)
    ∧ (Cert.Pre_finite_dgu.fn (F := Ideal) (m ((c.tc : Thread Cert.DguIdeal.nD Cert.DguIdeal.τ).loc Cert.DguIdeal.main_arg0)) (m ((c.tc : Thread Cert.DguIdeal.nD Cert.DguIdeal.τ).loc Cert.DguIdeal.main_arg1)) (m ((c.tc : Thread Cert.DguIdeal.nD Cert.DguIdeal.τ).loc Cert.DguIdeal.main_arg2))).2.2 = (fun _ => 1#1)

def Pre_DguRefIdeal (m : (ℓ : Loc Cert.DguRefIdeal.nD Cert.DguRefIdeal.τ Cert.DguRefIdeal.sig) → Buf (Elt Ideal) ℓ) : Prop :=
  True

def Pre_DguRefIdeal_finite_dgu [hPre_finite_dgu : Cert.Pre_finite_dgu.Facts] (m : (ℓ : Loc Cert.DguRefIdeal.nD Cert.DguRefIdeal.τ Cert.DguRefIdeal.sig) → Buf (Elt Ideal) ℓ) : Prop :=
  ∀ c : Dev Cert.DguRefIdeal.nD,
    (Cert.Pre_finite_dgu.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2))).1 = (fun _ => 1#1)
    ∧ (Cert.Pre_finite_dgu.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2))).2.1 = (fun _ => 1#1)
    ∧ (Cert.Pre_finite_dgu.fn (F := Ideal) (m ((c.tc : Thread Cert.DguRefIdeal.nD Cert.DguRefIdeal.τ).loc Cert.DguRefIdeal.main_arg0)) (m ((c.tc : Thread Cert.DguRefIdeal.nD Cert.DguRefIdeal.τ).loc Cert.DguRefIdeal.main_arg1)) (m ((c.tc : Thread Cert.DguRefIdeal.nD Cert.DguRefIdeal.τ).loc Cert.DguRefIdeal.main_arg2))).2.2 = (fun _ => 1#1)

def Pre_Drms (m : (ℓ : Loc Cert.Drms.nD Cert.Drms.τ Cert.Drms.sig) → Buf (Elt Bits) ℓ) : Prop :=
  True

def Pre_DrmsIdeal (m : (ℓ : Loc Cert.DrmsIdeal.nD Cert.DrmsIdeal.τ Cert.DrmsIdeal.sig) → Buf (Elt Ideal) ℓ) : Prop :=
  True

def Pre_DrmsIdeal_finite_drms [hPre_finite_drms : Cert.Pre_finite_drms.Facts] (m : (ℓ : Loc Cert.DrmsIdeal.nD Cert.DrmsIdeal.τ Cert.DrmsIdeal.sig) → Buf (Elt Ideal) ℓ) : Prop :=
  ∀ c : Dev Cert.DrmsIdeal.nD,
    (Cert.Pre_finite_drms.fn (F := Ideal) (m ((c.tc : Thread Cert.DrmsIdeal.nD Cert.DrmsIdeal.τ).loc Cert.DrmsIdeal.main_arg0)) (m ((c.tc : Thread Cert.DrmsIdeal.nD Cert.DrmsIdeal.τ).loc Cert.DrmsIdeal.main_arg1)) (m ((c.tc : Thread Cert.DrmsIdeal.nD Cert.DrmsIdeal.τ).loc Cert.DrmsIdeal.main_arg2)) (m ((c.tc : Thread Cert.DrmsIdeal.nD Cert.DrmsIdeal.τ).loc Cert.DrmsIdeal.main_arg3))).1 = (fun _ => 1#1)
    ∧ (Cert.Pre_finite_drms.fn (F := Ideal) (m ((c.tc : Thread Cert.DrmsIdeal.nD Cert.DrmsIdeal.τ).loc Cert.DrmsIdeal.main_arg0)) (m ((c.tc : Thread Cert.DrmsIdeal.nD Cert.DrmsIdeal.τ).loc Cert.DrmsIdeal.main_arg1)) (m ((c.tc : Thread Cert.DrmsIdeal.nD Cert.DrmsIdeal.τ).loc Cert.DrmsIdeal.main_arg2)) (m ((c.tc : Thread Cert.DrmsIdeal.nD Cert.DrmsIdeal.τ).loc Cert.DrmsIdeal.main_arg3))).2.1 = (fun _ => 1#1)
    ∧ (Cert.Pre_finite_drms.fn (F := Ideal) (m ((c.tc : Thread Cert.DrmsIdeal.nD Cert.DrmsIdeal.τ).loc Cert.DrmsIdeal.main_arg0)) (m ((c.tc : Thread Cert.DrmsIdeal.nD Cert.DrmsIdeal.τ).loc Cert.DrmsIdeal.main_arg1)) (m ((c.tc : Thread Cert.DrmsIdeal.nD Cert.DrmsIdeal.τ).loc Cert.DrmsIdeal.main_arg2)) (m ((c.tc : Thread Cert.DrmsIdeal.nD Cert.DrmsIdeal.τ).loc Cert.DrmsIdeal.main_arg3))).2.2 = (fun _ => 1#1)

def Pre_DrmsRefIdeal (m : (ℓ : Loc Cert.DrmsRefIdeal.nD Cert.DrmsRefIdeal.τ Cert.DrmsRefIdeal.sig) → Buf (Elt Ideal) ℓ) : Prop :=
  True

def Pre_DrmsRefIdeal_finite_drms [hPre_finite_drms : Cert.Pre_finite_drms.Facts] (m : (ℓ : Loc Cert.DrmsRefIdeal.nD Cert.DrmsRefIdeal.τ Cert.DrmsRefIdeal.sig) → Buf (Elt Ideal) ℓ) : Prop :=
  ∀ c : Dev Cert.DrmsRefIdeal.nD,
    (Cert.Pre_finite_drms.fn (F := Ideal) (m ((c.tc : Thread Cert.DrmsRefIdeal.nD Cert.DrmsRefIdeal.τ).loc Cert.DrmsRefIdeal.main_arg0)) (m ((c.tc : Thread Cert.DrmsRefIdeal.nD Cert.DrmsRefIdeal.τ).loc Cert.DrmsRefIdeal.main_arg1)) (m ((c.tc : Thread Cert.DrmsRefIdeal.nD Cert.DrmsRefIdeal.τ).loc Cert.DrmsRefIdeal.main_arg2)) (m ((c.tc : Thread Cert.DrmsRefIdeal.nD Cert.DrmsRefIdeal.τ).loc Cert.DrmsRefIdeal.main_arg3))).1 = (fun _ => 1#1)
    ∧ (Cert.Pre_finite_drms.fn (F := Ideal) (m ((c.tc : Thread Cert.DrmsRefIdeal.nD Cert.DrmsRefIdeal.τ).loc Cert.DrmsRefIdeal.main_arg0)) (m ((c.tc : Thread Cert.DrmsRefIdeal.nD Cert.DrmsRefIdeal.τ).loc Cert.DrmsRefIdeal.main_arg1)) (m ((c.tc : Thread Cert.DrmsRefIdeal.nD Cert.DrmsRefIdeal.τ).loc Cert.DrmsRefIdeal.main_arg2)) (m ((c.tc : Thread Cert.DrmsRefIdeal.nD Cert.DrmsRefIdeal.τ).loc Cert.DrmsRefIdeal.main_arg3))).2.1 = (fun _ => 1#1)
    ∧ (Cert.Pre_finite_drms.fn (F := Ideal) (m ((c.tc : Thread Cert.DrmsRefIdeal.nD Cert.DrmsRefIdeal.τ).loc Cert.DrmsRefIdeal.main_arg0)) (m ((c.tc : Thread Cert.DrmsRefIdeal.nD Cert.DrmsRefIdeal.τ).loc Cert.DrmsRefIdeal.main_arg1)) (m ((c.tc : Thread Cert.DrmsRefIdeal.nD Cert.DrmsRefIdeal.τ).loc Cert.DrmsRefIdeal.main_arg2)) (m ((c.tc : Thread Cert.DrmsRefIdeal.nD Cert.DrmsRefIdeal.τ).loc Cert.DrmsRefIdeal.main_arg3))).2.2 = (fun _ => 1#1)

def Pre_Dqk (m : (ℓ : Loc Cert.Dqk.nD Cert.Dqk.τ Cert.Dqk.sig) → Buf (Elt Bits) ℓ) : Prop :=
  True

def Pre_DqkIdeal (m : (ℓ : Loc Cert.DqkIdeal.nD Cert.DqkIdeal.τ Cert.DqkIdeal.sig) → Buf (Elt Ideal) ℓ) : Prop :=
  True

def Pre_DqkIdeal_finite_dqk [hPre_finite_dqk : Cert.Pre_finite_dqk.Facts] (m : (ℓ : Loc Cert.DqkIdeal.nD Cert.DqkIdeal.τ Cert.DqkIdeal.sig) → Buf (Elt Ideal) ℓ) : Prop :=
  ∀ c : Dev Cert.DqkIdeal.nD,
    (Cert.Pre_finite_dqk.fn (F := Ideal) (m ((c.tc : Thread Cert.DqkIdeal.nD Cert.DqkIdeal.τ).loc Cert.DqkIdeal.main_arg0)) (m ((c.tc : Thread Cert.DqkIdeal.nD Cert.DqkIdeal.τ).loc Cert.DqkIdeal.main_arg1)) (m ((c.tc : Thread Cert.DqkIdeal.nD Cert.DqkIdeal.τ).loc Cert.DqkIdeal.main_arg2)) (m ((c.tc : Thread Cert.DqkIdeal.nD Cert.DqkIdeal.τ).loc Cert.DqkIdeal.main_arg3)) (m ((c.tc : Thread Cert.DqkIdeal.nD Cert.DqkIdeal.τ).loc Cert.DqkIdeal.main_arg4)) (m ((c.tc : Thread Cert.DqkIdeal.nD Cert.DqkIdeal.τ).loc Cert.DqkIdeal.main_arg5))).1 = (fun _ => 1#1)
    ∧ (Cert.Pre_finite_dqk.fn (F := Ideal) (m ((c.tc : Thread Cert.DqkIdeal.nD Cert.DqkIdeal.τ).loc Cert.DqkIdeal.main_arg0)) (m ((c.tc : Thread Cert.DqkIdeal.nD Cert.DqkIdeal.τ).loc Cert.DqkIdeal.main_arg1)) (m ((c.tc : Thread Cert.DqkIdeal.nD Cert.DqkIdeal.τ).loc Cert.DqkIdeal.main_arg2)) (m ((c.tc : Thread Cert.DqkIdeal.nD Cert.DqkIdeal.τ).loc Cert.DqkIdeal.main_arg3)) (m ((c.tc : Thread Cert.DqkIdeal.nD Cert.DqkIdeal.τ).loc Cert.DqkIdeal.main_arg4)) (m ((c.tc : Thread Cert.DqkIdeal.nD Cert.DqkIdeal.τ).loc Cert.DqkIdeal.main_arg5))).2.1 = (fun _ => 1#1)
    ∧ (Cert.Pre_finite_dqk.fn (F := Ideal) (m ((c.tc : Thread Cert.DqkIdeal.nD Cert.DqkIdeal.τ).loc Cert.DqkIdeal.main_arg0)) (m ((c.tc : Thread Cert.DqkIdeal.nD Cert.DqkIdeal.τ).loc Cert.DqkIdeal.main_arg1)) (m ((c.tc : Thread Cert.DqkIdeal.nD Cert.DqkIdeal.τ).loc Cert.DqkIdeal.main_arg2)) (m ((c.tc : Thread Cert.DqkIdeal.nD Cert.DqkIdeal.τ).loc Cert.DqkIdeal.main_arg3)) (m ((c.tc : Thread Cert.DqkIdeal.nD Cert.DqkIdeal.τ).loc Cert.DqkIdeal.main_arg4)) (m ((c.tc : Thread Cert.DqkIdeal.nD Cert.DqkIdeal.τ).loc Cert.DqkIdeal.main_arg5))).2.2.1 = (fun _ => 1#1)
    ∧ (Cert.Pre_finite_dqk.fn (F := Ideal) (m ((c.tc : Thread Cert.DqkIdeal.nD Cert.DqkIdeal.τ).loc Cert.DqkIdeal.main_arg0)) (m ((c.tc : Thread Cert.DqkIdeal.nD Cert.DqkIdeal.τ).loc Cert.DqkIdeal.main_arg1)) (m ((c.tc : Thread Cert.DqkIdeal.nD Cert.DqkIdeal.τ).loc Cert.DqkIdeal.main_arg2)) (m ((c.tc : Thread Cert.DqkIdeal.nD Cert.DqkIdeal.τ).loc Cert.DqkIdeal.main_arg3)) (m ((c.tc : Thread Cert.DqkIdeal.nD Cert.DqkIdeal.τ).loc Cert.DqkIdeal.main_arg4)) (m ((c.tc : Thread Cert.DqkIdeal.nD Cert.DqkIdeal.τ).loc Cert.DqkIdeal.main_arg5))).2.2.2.1 = (fun _ => 1#1)
    ∧ (Cert.Pre_finite_dqk.fn (F := Ideal) (m ((c.tc : Thread Cert.DqkIdeal.nD Cert.DqkIdeal.τ).loc Cert.DqkIdeal.main_arg0)) (m ((c.tc : Thread Cert.DqkIdeal.nD Cert.DqkIdeal.τ).loc Cert.DqkIdeal.main_arg1)) (m ((c.tc : Thread Cert.DqkIdeal.nD Cert.DqkIdeal.τ).loc Cert.DqkIdeal.main_arg2)) (m ((c.tc : Thread Cert.DqkIdeal.nD Cert.DqkIdeal.τ).loc Cert.DqkIdeal.main_arg3)) (m ((c.tc : Thread Cert.DqkIdeal.nD Cert.DqkIdeal.τ).loc Cert.DqkIdeal.main_arg4)) (m ((c.tc : Thread Cert.DqkIdeal.nD Cert.DqkIdeal.τ).loc Cert.DqkIdeal.main_arg5))).2.2.2.2 = (fun _ => 1#1)

def Pre_DqkRefIdeal (m : (ℓ : Loc Cert.DqkRefIdeal.nD Cert.DqkRefIdeal.τ Cert.DqkRefIdeal.sig) → Buf (Elt Ideal) ℓ) : Prop :=
  True

def Pre_DqkRefIdeal_finite_dqk [hPre_finite_dqk : Cert.Pre_finite_dqk.Facts] (m : (ℓ : Loc Cert.DqkRefIdeal.nD Cert.DqkRefIdeal.τ Cert.DqkRefIdeal.sig) → Buf (Elt Ideal) ℓ) : Prop :=
  ∀ c : Dev Cert.DqkRefIdeal.nD,
    (Cert.Pre_finite_dqk.fn (F := Ideal) (m ((c.tc : Thread Cert.DqkRefIdeal.nD Cert.DqkRefIdeal.τ).loc Cert.DqkRefIdeal.main_arg0)) (m ((c.tc : Thread Cert.DqkRefIdeal.nD Cert.DqkRefIdeal.τ).loc Cert.DqkRefIdeal.main_arg1)) (m ((c.tc : Thread Cert.DqkRefIdeal.nD Cert.DqkRefIdeal.τ).loc Cert.DqkRefIdeal.main_arg2)) (m ((c.tc : Thread Cert.DqkRefIdeal.nD Cert.DqkRefIdeal.τ).loc Cert.DqkRefIdeal.main_arg3)) (m ((c.tc : Thread Cert.DqkRefIdeal.nD Cert.DqkRefIdeal.τ).loc Cert.DqkRefIdeal.main_arg4)) (m ((c.tc : Thread Cert.DqkRefIdeal.nD Cert.DqkRefIdeal.τ).loc Cert.DqkRefIdeal.main_arg5))).1 = (fun _ => 1#1)
    ∧ (Cert.Pre_finite_dqk.fn (F := Ideal) (m ((c.tc : Thread Cert.DqkRefIdeal.nD Cert.DqkRefIdeal.τ).loc Cert.DqkRefIdeal.main_arg0)) (m ((c.tc : Thread Cert.DqkRefIdeal.nD Cert.DqkRefIdeal.τ).loc Cert.DqkRefIdeal.main_arg1)) (m ((c.tc : Thread Cert.DqkRefIdeal.nD Cert.DqkRefIdeal.τ).loc Cert.DqkRefIdeal.main_arg2)) (m ((c.tc : Thread Cert.DqkRefIdeal.nD Cert.DqkRefIdeal.τ).loc Cert.DqkRefIdeal.main_arg3)) (m ((c.tc : Thread Cert.DqkRefIdeal.nD Cert.DqkRefIdeal.τ).loc Cert.DqkRefIdeal.main_arg4)) (m ((c.tc : Thread Cert.DqkRefIdeal.nD Cert.DqkRefIdeal.τ).loc Cert.DqkRefIdeal.main_arg5))).2.1 = (fun _ => 1#1)
    ∧ (Cert.Pre_finite_dqk.fn (F := Ideal) (m ((c.tc : Thread Cert.DqkRefIdeal.nD Cert.DqkRefIdeal.τ).loc Cert.DqkRefIdeal.main_arg0)) (m ((c.tc : Thread Cert.DqkRefIdeal.nD Cert.DqkRefIdeal.τ).loc Cert.DqkRefIdeal.main_arg1)) (m ((c.tc : Thread Cert.DqkRefIdeal.nD Cert.DqkRefIdeal.τ).loc Cert.DqkRefIdeal.main_arg2)) (m ((c.tc : Thread Cert.DqkRefIdeal.nD Cert.DqkRefIdeal.τ).loc Cert.DqkRefIdeal.main_arg3)) (m ((c.tc : Thread Cert.DqkRefIdeal.nD Cert.DqkRefIdeal.τ).loc Cert.DqkRefIdeal.main_arg4)) (m ((c.tc : Thread Cert.DqkRefIdeal.nD Cert.DqkRefIdeal.τ).loc Cert.DqkRefIdeal.main_arg5))).2.2.1 = (fun _ => 1#1)
    ∧ (Cert.Pre_finite_dqk.fn (F := Ideal) (m ((c.tc : Thread Cert.DqkRefIdeal.nD Cert.DqkRefIdeal.τ).loc Cert.DqkRefIdeal.main_arg0)) (m ((c.tc : Thread Cert.DqkRefIdeal.nD Cert.DqkRefIdeal.τ).loc Cert.DqkRefIdeal.main_arg1)) (m ((c.tc : Thread Cert.DqkRefIdeal.nD Cert.DqkRefIdeal.τ).loc Cert.DqkRefIdeal.main_arg2)) (m ((c.tc : Thread Cert.DqkRefIdeal.nD Cert.DqkRefIdeal.τ).loc Cert.DqkRefIdeal.main_arg3)) (m ((c.tc : Thread Cert.DqkRefIdeal.nD Cert.DqkRefIdeal.τ).loc Cert.DqkRefIdeal.main_arg4)) (m ((c.tc : Thread Cert.DqkRefIdeal.nD Cert.DqkRefIdeal.τ).loc Cert.DqkRefIdeal.main_arg5))).2.2.2.1 = (fun _ => 1#1)
    ∧ (Cert.Pre_finite_dqk.fn (F := Ideal) (m ((c.tc : Thread Cert.DqkRefIdeal.nD Cert.DqkRefIdeal.τ).loc Cert.DqkRefIdeal.main_arg0)) (m ((c.tc : Thread Cert.DqkRefIdeal.nD Cert.DqkRefIdeal.τ).loc Cert.DqkRefIdeal.main_arg1)) (m ((c.tc : Thread Cert.DqkRefIdeal.nD Cert.DqkRefIdeal.τ).loc Cert.DqkRefIdeal.main_arg2)) (m ((c.tc : Thread Cert.DqkRefIdeal.nD Cert.DqkRefIdeal.τ).loc Cert.DqkRefIdeal.main_arg3)) (m ((c.tc : Thread Cert.DqkRefIdeal.nD Cert.DqkRefIdeal.τ).loc Cert.DqkRefIdeal.main_arg4)) (m ((c.tc : Thread Cert.DqkRefIdeal.nD Cert.DqkRefIdeal.τ).loc Cert.DqkRefIdeal.main_arg5))).2.2.2.2 = (fun _ => 1#1)

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguRefIdeal (m : (ℓ : Loc Cert.DwguRefIdeal.nD Cert.DwguRefIdeal.τ Cert.DwguRefIdeal.sig) → Buf (Elt Ideal) ℓ) : Prop :=
  True

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dhin (m : (ℓ : Loc Cert.Dhin.nD Cert.Dhin.τ Cert.Dhin.sig) → Buf (Elt Bits) ℓ) : Prop :=
  True

def Pre_DhinIdeal (m : (ℓ : Loc Cert.DhinIdeal.nD Cert.DhinIdeal.τ Cert.DhinIdeal.sig) → Buf (Elt Ideal) ℓ) : Prop :=
  True

def Pre_DhinRefIdeal (m : (ℓ : Loc Cert.DhinRefIdeal.nD Cert.DhinRefIdeal.τ Cert.DhinRefIdeal.sig) → Buf (Elt Ideal) ℓ) : Prop :=
  True

def Pre_DsqO (m : (ℓ : Loc Cert.DsqO.nD Cert.DsqO.τ Cert.DsqO.sig) → Buf (Elt Bits) ℓ) : Prop :=
  True

def Pre_DsqOIdeal (m : (ℓ : Loc Cert.DsqOIdeal.nD Cert.DsqOIdeal.τ Cert.DsqOIdeal.sig) → Buf (Elt Ideal) ℓ) : Prop :=
  True

def Pre_DsqORefIdeal (m : (ℓ : Loc Cert.DsqORefIdeal.nD Cert.DsqORefIdeal.τ Cert.DsqORefIdeal.sig) → Buf (Elt Ideal) ℓ) : Prop :=
  True

def Pre_DsqC (m : (ℓ : Loc Cert.DsqC.nD Cert.DsqC.τ Cert.DsqC.sig) → Buf (Elt Bits) ℓ) : Prop :=
  True

def Pre_DsqCIdeal (m : (ℓ : Loc Cert.DsqCIdeal.nD Cert.DsqCIdeal.τ Cert.DsqCIdeal.sig) → Buf (Elt Ideal) ℓ) : Prop :=
  True

def Pre_DsqCRefIdeal (m : (ℓ : Loc Cert.DsqCRefIdeal.nD Cert.DsqCRefIdeal.τ Cert.DsqCRefIdeal.sig) → Buf (Elt Ideal) ℓ) : Prop :=
  True

def Pre_DsqS (m : (ℓ : Loc Cert.DsqS.nD Cert.DsqS.τ Cert.DsqS.sig) → Buf (Elt Bits) ℓ) : Prop :=
  True

def Pre_DsqSIdeal (m : (ℓ : Loc Cert.DsqSIdeal.nD Cert.DsqSIdeal.τ Cert.DsqSIdeal.sig) → Buf (Elt Ideal) ℓ) : Prop :=
  True

def Pre_DsqSRefIdeal (m : (ℓ : Loc Cert.DsqSRefIdeal.nD Cert.DsqSRefIdeal.τ Cert.DsqSRefIdeal.sig) → Buf (Elt Ideal) ℓ) : Prop :=
  True

def Pre_DsqA (m : (ℓ : Loc Cert.DsqA.nD Cert.DsqA.τ Cert.DsqA.sig) → Buf (Elt Bits) ℓ) : Prop :=
  True

def Pre_DsqAIdeal (m : (ℓ : Loc Cert.DsqAIdeal.nD Cert.DsqAIdeal.τ Cert.DsqAIdeal.sig) → Buf (Elt Ideal) ℓ) : Prop :=
  True

def Pre_DsqARefIdeal (m : (ℓ : Loc Cert.DsqARefIdeal.nD Cert.DsqARefIdeal.τ Cert.DsqARefIdeal.sig) → Buf (Elt Ideal) ℓ) : Prop :=
  True

def Pre_DwsqO (m : (ℓ : Loc Cert.DwsqO.nD Cert.DwsqO.τ Cert.DwsqO.sig) → Buf (Elt Bits) ℓ) : Prop :=
  True

def Pre_DwsqOIdeal (m : (ℓ : Loc Cert.DwsqOIdeal.nD Cert.DwsqOIdeal.τ Cert.DwsqOIdeal.sig) → Buf (Elt Ideal) ℓ) : Prop :=
  True

def Pre_DwsqORefIdeal (m : (ℓ : Loc Cert.DwsqORefIdeal.nD Cert.DwsqORefIdeal.τ Cert.DwsqORefIdeal.sig) → Buf (Elt Ideal) ℓ) : Prop :=
  True

def Pre_DwsqM (m : (ℓ : Loc Cert.DwsqM.nD Cert.DwsqM.τ Cert.DwsqM.sig) → Buf (Elt Bits) ℓ) : Prop :=
  True

def Pre_DwsqMIdeal (m : (ℓ : Loc Cert.DwsqMIdeal.nD Cert.DwsqMIdeal.τ Cert.DwsqMIdeal.sig) → Buf (Elt Ideal) ℓ) : Prop :=
  True

def Pre_DwsqMRefIdeal (m : (ℓ : Loc Cert.DwsqMRefIdeal.nD Cert.DwsqMRefIdeal.τ Cert.DwsqMRefIdeal.sig) → Buf (Elt Ideal) ℓ) : Prop :=
  True

def Pre_DwsqA (m : (ℓ : Loc Cert.DwsqA.nD Cert.DwsqA.τ Cert.DwsqA.sig) → Buf (Elt Bits) ℓ) : Prop :=
  True

def Pre_DwsqAIdeal (m : (ℓ : Loc Cert.DwsqAIdeal.nD Cert.DwsqAIdeal.τ Cert.DwsqAIdeal.sig) → Buf (Elt Ideal) ℓ) : Prop :=
  True

def Pre_DwsqARefIdeal (m : (ℓ : Loc Cert.DwsqARefIdeal.nD Cert.DwsqARefIdeal.τ Cert.DwsqARefIdeal.sig) → Buf (Elt Ideal) ℓ) : Prop :=
  True

def Pre_Dmerge (m : (ℓ : Loc Cert.Dmerge.nD Cert.Dmerge.τ Cert.Dmerge.sig) → Buf (Elt Bits) ℓ) : Prop :=
  True

def Pre_DmergeIdeal (m : (ℓ : Loc Cert.DmergeIdeal.nD Cert.DmergeIdeal.τ Cert.DmergeIdeal.sig) → Buf (Elt Ideal) ℓ) : Prop :=
  True

def Pre_DmergeRefIdeal (m : (ℓ : Loc Cert.DmergeRefIdeal.nD Cert.DmergeRefIdeal.τ Cert.DmergeRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Fgu (m : (ℓ : Loc Cert.Fgu.nD Cert.Fgu.τ Cert.Fgu.sig) → Buf (Elt Bits) ℓ) : Prop :=
  True

def Pre_FguIdeal (m : (ℓ : Loc Cert.FguIdeal.nD Cert.FguIdeal.τ Cert.FguIdeal.sig) → Buf (Elt Ideal) ℓ) : Prop :=
  True

def Pre_FguRefIdeal (m : (ℓ : Loc Cert.FguRefIdeal.nD Cert.FguRefIdeal.τ Cert.FguRefIdeal.sig) → Buf (Elt Ideal) ℓ) : Prop :=
  True

def Pre_Fdown (m : (ℓ : Loc Cert.Fdown.nD Cert.Fdown.τ Cert.Fdown.sig) → Buf (Elt Bits) ℓ) : Prop :=
  True

def Pre_FdownIdeal (m : (ℓ : Loc Cert.FdownIdeal.nD Cert.FdownIdeal.τ Cert.FdownIdeal.sig) → Buf (Elt Ideal) ℓ) : Prop :=
  True

def Pre_FdownRefIdeal (m : (ℓ : Loc Cert.FdownRefIdeal.nD Cert.FdownRefIdeal.τ Cert.FdownRefIdeal.sig) → Buf (Elt Ideal) ℓ) : Prop :=
  True

def Pre_FsqC (m : (ℓ : Loc Cert.FsqC.nD Cert.FsqC.τ Cert.FsqC.sig) → Buf (Elt Bits) ℓ) : Prop :=
  True

def Pre_FsqCIdeal (m : (ℓ : Loc Cert.FsqCIdeal.nD Cert.FsqCIdeal.τ Cert.FsqCIdeal.sig) → Buf (Elt Ideal) ℓ) : Prop :=
  True

def Pre_FsqCRefIdeal (m : (ℓ : Loc Cert.FsqCRefIdeal.nD Cert.FsqCRefIdeal.τ Cert.FsqCRefIdeal.sig) → Buf (Elt Ideal) ℓ) : Prop :=
  True

def Pre_FsqS (m : (ℓ : Loc Cert.FsqS.nD Cert.FsqS.τ Cert.FsqS.sig) → Buf (Elt Bits) ℓ) : Prop :=
  True

def Pre_FsqSIdeal (m : (ℓ : Loc Cert.FsqSIdeal.nD Cert.FsqSIdeal.τ Cert.FsqSIdeal.sig) → Buf (Elt Ideal) ℓ) : Prop :=
  True

def Pre_FsqSRefIdeal (m : (ℓ : Loc Cert.FsqSRefIdeal.nD Cert.FsqSRefIdeal.τ Cert.FsqSRefIdeal.sig) → Buf (Elt Ideal) ℓ) : Prop :=
  True

def Pre_FsqA (m : (ℓ : Loc Cert.FsqA.nD Cert.FsqA.τ Cert.FsqA.sig) → Buf (Elt Bits) ℓ) : Prop :=
  True

def Pre_FsqAIdeal (m : (ℓ : Loc Cert.FsqAIdeal.nD Cert.FsqAIdeal.τ Cert.FsqAIdeal.sig) → Buf (Elt Ideal) ℓ) : Prop :=
  True

def Pre_FsqARefIdeal (m : (ℓ : Loc Cert.FsqARefIdeal.nD Cert.FsqARefIdeal.τ Cert.FsqARefIdeal.sig) → Buf (Elt Ideal) ℓ) : Prop :=
  True

def Pre_FsqO (m : (ℓ : Loc Cert.FsqO.nD Cert.FsqO.τ Cert.FsqO.sig) → Buf (Elt Bits) ℓ) : Prop :=
  True

def Pre_FsqOIdeal (m : (ℓ : Loc Cert.FsqOIdeal.nD Cert.FsqOIdeal.τ Cert.FsqOIdeal.sig) → Buf (Elt Ideal) ℓ) : Prop :=
  True

def Pre_FsqORefIdeal (m : (ℓ : Loc Cert.FsqORefIdeal.nD Cert.FsqORefIdeal.τ Cert.FsqORefIdeal.sig) → Buf (Elt Ideal) ℓ) : Prop :=
  True

def Pre_Dconv (m : (ℓ : Loc Cert.Dconv.nD Cert.Dconv.τ Cert.Dconv.sig) → Buf (Elt Bits) ℓ) : Prop :=
  True

def Pre_DconvIdeal (m : (ℓ : Loc Cert.DconvIdeal.nD Cert.DconvIdeal.τ Cert.DconvIdeal.sig) → Buf (Elt Ideal) ℓ) : Prop :=
  True

def Pre_DconvRefIdeal (m : (ℓ : Loc Cert.DconvRefIdeal.nD Cert.DconvRefIdeal.τ Cert.DconvRefIdeal.sig) → Buf (Elt Ideal) ℓ) : Prop :=
  True

def Pre_Frms (m : (ℓ : Loc Cert.Frms.nD Cert.Frms.τ Cert.Frms.sig) → Buf (Elt Bits) ℓ) : Prop :=
  True

def Pre_FrmsIdeal (m : (ℓ : Loc Cert.FrmsIdeal.nD Cert.FrmsIdeal.τ Cert.FrmsIdeal.sig) → Buf (Elt Ideal) ℓ) : Prop :=
  True

def Pre_FrmsRefIdeal (m : (ℓ : Loc Cert.FrmsRefIdeal.nD Cert.FrmsRefIdeal.τ Cert.FrmsRefIdeal.sig) → Buf (Elt Ideal) ℓ) : Prop :=
  True

def Pre_Fconv (m : (ℓ : Loc Cert.Fconv.nD Cert.Fconv.τ Cert.Fconv.sig) → Buf (Elt Bits) ℓ) : Prop :=
  True

def Pre_FconvIdeal (m : (ℓ : Loc Cert.FconvIdeal.nD Cert.FconvIdeal.τ Cert.FconvIdeal.sig) → Buf (Elt Ideal) ℓ) : Prop :=
  True

def Pre_FconvRefIdeal (m : (ℓ : Loc Cert.FconvRefIdeal.nD Cert.FconvRefIdeal.τ Cert.FconvRefIdeal.sig) → Buf (Elt Ideal) ℓ) : Prop :=
  True

def Pre_Fmerge (m : (ℓ : Loc Cert.Fmerge.nD Cert.Fmerge.τ Cert.Fmerge.sig) → Buf (Elt Bits) ℓ) : Prop :=
  True

def Pre_FmergeIdeal (m : (ℓ : Loc Cert.FmergeIdeal.nD Cert.FmergeIdeal.τ Cert.FmergeIdeal.sig) → Buf (Elt Ideal) ℓ) : Prop :=
  True

def Pre_FmergeRefIdeal (m : (ℓ : Loc Cert.FmergeRefIdeal.nD Cert.FmergeRefIdeal.τ Cert.FmergeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dgu [hDgu : Cert.Dgu.Facts] : Prop :=
  ∀ (m : (ℓ : Loc Cert.Dgu.nD Cert.Dgu.τ Cert.Dgu.sig) → Buf (Elt Bits) ℓ) (g : Dev Cert.Dgu.nD → PrngReg), Pre_Dgu m →
    θ_run (Cert.Dgu.defs (F := Bits)) (onTc (τ := Cert.Dgu.τ) (Cert.Dgu.main (F := Bits))) ⟨m, fun _ => 0, g⟩ (fun r => (∀ c : Dev Cert.Dgu.nD,
      r.2.mem ((c.tc : Thread Cert.Dgu.nD Cert.Dgu.τ).loc Cert.Dgu.main_arg0) = m ((c.tc : Thread Cert.Dgu.nD Cert.Dgu.τ).loc Cert.Dgu.main_arg0)
      ∧ r.2.mem ((c.tc : Thread Cert.Dgu.nD Cert.Dgu.τ).loc Cert.Dgu.main_arg1) = m ((c.tc : Thread Cert.Dgu.nD Cert.Dgu.τ).loc Cert.Dgu.main_arg1)
      ∧ r.2.mem ((c.tc : Thread Cert.Dgu.nD Cert.Dgu.τ).loc Cert.Dgu.main_arg2) = m ((c.tc : Thread Cert.Dgu.nD Cert.Dgu.τ).loc Cert.Dgu.main_arg2))
      ∧ r.2.sem = fun _ => 0)

def quiescent_DguIdeal [hDguIdeal : Cert.DguIdeal.Facts] : Prop :=
  ∀ (m : (ℓ : Loc Cert.DguIdeal.nD Cert.DguIdeal.τ Cert.DguIdeal.sig) → Buf (Elt Ideal) ℓ) (g : Dev Cert.DguIdeal.nD → PrngReg), Pre_DguIdeal m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
      ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ r.2.sem = fun _ => 0)

def quiescent_DguIdeal_pre_finite_dgu [hDguIdeal : Cert.DguIdeal.Facts] [hPre_finite_dgu : Cert.Pre_finite_dgu.Facts] : Prop :=
  ∀ (m : (ℓ : Loc Cert.DguIdeal.nD Cert.DguIdeal.τ Cert.DguIdeal.sig) → Buf (Elt Ideal) ℓ) (g : Dev Cert.DguIdeal.nD → PrngReg), Pre_DguIdeal_finite_dgu m →
    θ_run (Cert.DguIdeal.defs (F := Ideal)) (onTc (τ := Cert.DguIdeal.τ) (Cert.DguIdeal.main (F := Ideal))) ⟨m, fun _ => 0, g⟩ (fun r => (∀ c : Dev Cert.DguIdeal.nD,
      r.2.mem ((c.tc : Thread Cert.DguIdeal.nD Cert.DguIdeal.τ).loc Cert.DguIdeal.main_arg0) = m ((c.tc : Thread Cert.DguIdeal.nD Cert.DguIdeal.τ).loc Cert.DguIdeal.main_arg0)
      ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
      ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ r.2.sem = fun _ => 0)

def quiescent_DguRefIdeal [hDguRefIdeal : Cert.DguRefIdeal.Facts] : Prop :=
  ∀ (m : (ℓ : Loc Cert.DguRefIdeal.nD Cert.DguRefIdeal.τ Cert.DguRefIdeal.sig) → Buf (Elt Ideal) ℓ) (g : Dev Cert.DguRefIdeal.nD → PrngReg), Pre_DguRefIdeal m →
    θ_run (Cert.DguRefIdeal.defs (F := Ideal)) (onTc (τ := Cert.DguRefIdeal.τ) (Cert.DguRefIdeal.main (F := Ideal))) ⟨m, fun _ => 0, g⟩ (fun r => (∀ c : Dev Cert.DguRefIdeal.nD,
      r.2.mem ((c.tc : Thread Cert.DguRefIdeal.nD Cert.DguRefIdeal.τ).loc Cert.DguRefIdeal.main_arg0) = m ((c.tc : Thread Cert.DguRefIdeal.nD Cert.DguRefIdeal.τ).loc Cert.DguRefIdeal.main_arg0)
      ∧ r.2.mem ((c.tc : Thread Cert.DguRefIdeal.nD Cert.DguRefIdeal.τ).loc Cert.DguRefIdeal.main_arg1) = m ((c.tc : Thread Cert.DguRefIdeal.nD Cert.DguRefIdeal.τ).loc Cert.DguRefIdeal.main_arg1)
      ∧ r.2.mem ((c.tc : Thread Cert.DguRefIdeal.nD Cert.DguRefIdeal.τ).loc Cert.DguRefIdeal.main_arg2) = m ((c.tc : Thread Cert.DguRefIdeal.nD Cert.DguRefIdeal.τ).loc Cert.DguRefIdeal.main_arg2))
      ∧ r.2.sem = fun _ => 0)

def quiescent_DguRefIdeal_pre_finite_dgu [hDguRefIdeal : Cert.DguRefIdeal.Facts] [hPre_finite_dgu : Cert.Pre_finite_dgu.Facts] : Prop :=
  ∀ (m : (ℓ : Loc Cert.DguRefIdeal.nD Cert.DguRefIdeal.τ Cert.DguRefIdeal.sig) → Buf (Elt Ideal) ℓ) (g : Dev Cert.DguRefIdeal.nD → PrngReg), Pre_DguRefIdeal_finite_dgu m →
    θ_run (Cert.DguRefIdeal.defs (F := Ideal)) (onTc (τ := Cert.DguRefIdeal.τ) (Cert.DguRefIdeal.main (F := Ideal))) ⟨m, fun _ => 0, g⟩ (fun r => (∀ c : Dev Cert.DguRefIdeal.nD,
      r.2.mem ((c.tc : Thread Cert.DguRefIdeal.nD Cert.DguRefIdeal.τ).loc Cert.DguRefIdeal.main_arg0) = m ((c.tc : Thread Cert.DguRefIdeal.nD Cert.DguRefIdeal.τ).loc Cert.DguRefIdeal.main_arg0)
      ∧ r.2.mem ((c.tc : Thread Cert.DguRefIdeal.nD Cert.DguRefIdeal.τ).loc Cert.DguRefIdeal.main_arg1) = m ((c.tc : Thread Cert.DguRefIdeal.nD Cert.DguRefIdeal.τ).loc Cert.DguRefIdeal.main_arg1)
      ∧ r.2.mem ((c.tc : Thread Cert.DguRefIdeal.nD Cert.DguRefIdeal.τ).loc Cert.DguRefIdeal.main_arg2) = m ((c.tc : Thread Cert.DguRefIdeal.nD Cert.DguRefIdeal.τ).loc Cert.DguRefIdeal.main_arg2))
      ∧ r.2.sem = fun _ => 0)

def quiescent_Drms [hDrms : Cert.Drms.Facts] : Prop :=
  ∀ (m : (ℓ : Loc Cert.Drms.nD Cert.Drms.τ Cert.Drms.sig) → Buf (Elt Bits) ℓ) (g : Dev Cert.Drms.nD → PrngReg), Pre_Drms m →
    θ_run (Cert.Drms.defs (F := Bits)) (onTc (τ := Cert.Drms.τ) (Cert.Drms.main (F := Bits))) ⟨m, fun _ => 0, g⟩ (fun r => (∀ c : Dev Cert.Drms.nD,
      r.2.mem ((c.tc : Thread Cert.Drms.nD Cert.Drms.τ).loc Cert.Drms.main_arg0) = m ((c.tc : Thread Cert.Drms.nD Cert.Drms.τ).loc Cert.Drms.main_arg0)
      ∧ r.2.mem ((c.tc : Thread Cert.Drms.nD Cert.Drms.τ).loc Cert.Drms.main_arg1) = m ((c.tc : Thread Cert.Drms.nD Cert.Drms.τ).loc Cert.Drms.main_arg1)
      ∧ r.2.mem ((c.tc : Thread Cert.Drms.nD Cert.Drms.τ).loc Cert.Drms.main_arg2) = m ((c.tc : Thread Cert.Drms.nD Cert.Drms.τ).loc Cert.Drms.main_arg2)
      ∧ r.2.mem ((c.tc : Thread Cert.Drms.nD Cert.Drms.τ).loc Cert.Drms.main_arg3) = m ((c.tc : Thread Cert.Drms.nD Cert.Drms.τ).loc Cert.Drms.main_arg3))
      ∧ r.2.sem = fun _ => 0)

def quiescent_DrmsIdeal [hDrmsIdeal : Cert.DrmsIdeal.Facts] : Prop :=
  ∀ (m : (ℓ : Loc Cert.DrmsIdeal.nD Cert.DrmsIdeal.τ Cert.DrmsIdeal.sig) → Buf (Elt Ideal) ℓ) (g : Dev Cert.DrmsIdeal.nD → PrngReg), Pre_DrmsIdeal m →
    θ_run (Cert.DrmsIdeal.defs (F := Ideal)) (onTc (τ := Cert.DrmsIdeal.τ) (Cert.DrmsIdeal.main (F := Ideal))) ⟨m, fun _ => 0, g⟩ (fun r => (∀ c : Dev Cert.DrmsIdeal.nD,
      r.2.mem ((c.tc : Thread Cert.DrmsIdeal.nD Cert.DrmsIdeal.τ).loc Cert.DrmsIdeal.main_arg0) = m ((c.tc : Thread Cert.DrmsIdeal.nD Cert.DrmsIdeal.τ).loc Cert.DrmsIdeal.main_arg0)
      ∧ r.2.mem ((c.tc : Thread Cert.DrmsIdeal.nD Cert.DrmsIdeal.τ).loc Cert.DrmsIdeal.main_arg1) = m ((c.tc : Thread Cert.DrmsIdeal.nD Cert.DrmsIdeal.τ).loc Cert.DrmsIdeal.main_arg1)
      ∧ r.2.mem ((c.tc : Thread Cert.DrmsIdeal.nD Cert.DrmsIdeal.τ).loc Cert.DrmsIdeal.main_arg2) = m ((c.tc : Thread Cert.DrmsIdeal.nD Cert.DrmsIdeal.τ).loc Cert.DrmsIdeal.main_arg2)
      ∧ r.2.mem ((c.tc : Thread Cert.DrmsIdeal.nD Cert.DrmsIdeal.τ).loc Cert.DrmsIdeal.main_arg3) = m ((c.tc : Thread Cert.DrmsIdeal.nD Cert.DrmsIdeal.τ).loc Cert.DrmsIdeal.main_arg3))
      ∧ r.2.sem = fun _ => 0)

def quiescent_DrmsIdeal_pre_finite_drms [hDrmsIdeal : Cert.DrmsIdeal.Facts] [hPre_finite_drms : Cert.Pre_finite_drms.Facts] : Prop :=
  ∀ (m : (ℓ : Loc Cert.DrmsIdeal.nD Cert.DrmsIdeal.τ Cert.DrmsIdeal.sig) → Buf (Elt Ideal) ℓ) (g : Dev Cert.DrmsIdeal.nD → PrngReg), Pre_DrmsIdeal_finite_drms m →
    θ_run (Cert.DrmsIdeal.defs (F := Ideal)) (onTc (τ := Cert.DrmsIdeal.τ) (Cert.DrmsIdeal.main (F := Ideal))) ⟨m, fun _ => 0, g⟩ (fun r => (∀ c : Dev Cert.DrmsIdeal.nD,
      r.2.mem ((c.tc : Thread Cert.DrmsIdeal.nD Cert.DrmsIdeal.τ).loc Cert.DrmsIdeal.main_arg0) = m ((c.tc : Thread Cert.DrmsIdeal.nD Cert.DrmsIdeal.τ).loc Cert.DrmsIdeal.main_arg0)
      ∧ r.2.mem ((c.tc : Thread Cert.DrmsIdeal.nD Cert.DrmsIdeal.τ).loc Cert.DrmsIdeal.main_arg1) = m ((c.tc : Thread Cert.DrmsIdeal.nD Cert.DrmsIdeal.τ).loc Cert.DrmsIdeal.main_arg1)
      ∧ r.2.mem ((c.tc : Thread Cert.DrmsIdeal.nD Cert.DrmsIdeal.τ).loc Cert.DrmsIdeal.main_arg2) = m ((c.tc : Thread Cert.DrmsIdeal.nD Cert.DrmsIdeal.τ).loc Cert.DrmsIdeal.main_arg2)
      ∧ r.2.mem ((c.tc : Thread Cert.DrmsIdeal.nD Cert.DrmsIdeal.τ).loc Cert.DrmsIdeal.main_arg3) = m ((c.tc : Thread Cert.DrmsIdeal.nD Cert.DrmsIdeal.τ).loc Cert.DrmsIdeal.main_arg3))
      ∧ r.2.sem = fun _ => 0)

def quiescent_DrmsRefIdeal [hDrmsRefIdeal : Cert.DrmsRefIdeal.Facts] : Prop :=
  ∀ (m : (ℓ : Loc Cert.DrmsRefIdeal.nD Cert.DrmsRefIdeal.τ Cert.DrmsRefIdeal.sig) → Buf (Elt Ideal) ℓ) (g : Dev Cert.DrmsRefIdeal.nD → PrngReg), Pre_DrmsRefIdeal m →
    θ_run (Cert.DrmsRefIdeal.defs (F := Ideal)) (onTc (τ := Cert.DrmsRefIdeal.τ) (Cert.DrmsRefIdeal.main (F := Ideal))) ⟨m, fun _ => 0, g⟩ (fun r => (∀ c : Dev Cert.DrmsRefIdeal.nD,
      r.2.mem ((c.tc : Thread Cert.DrmsRefIdeal.nD Cert.DrmsRefIdeal.τ).loc Cert.DrmsRefIdeal.main_arg0) = m ((c.tc : Thread Cert.DrmsRefIdeal.nD Cert.DrmsRefIdeal.τ).loc Cert.DrmsRefIdeal.main_arg0)
      ∧ r.2.mem ((c.tc : Thread Cert.DrmsRefIdeal.nD Cert.DrmsRefIdeal.τ).loc Cert.DrmsRefIdeal.main_arg1) = m ((c.tc : Thread Cert.DrmsRefIdeal.nD Cert.DrmsRefIdeal.τ).loc Cert.DrmsRefIdeal.main_arg1)
      ∧ r.2.mem ((c.tc : Thread Cert.DrmsRefIdeal.nD Cert.DrmsRefIdeal.τ).loc Cert.DrmsRefIdeal.main_arg2) = m ((c.tc : Thread Cert.DrmsRefIdeal.nD Cert.DrmsRefIdeal.τ).loc Cert.DrmsRefIdeal.main_arg2)
      ∧ r.2.mem ((c.tc : Thread Cert.DrmsRefIdeal.nD Cert.DrmsRefIdeal.τ).loc Cert.DrmsRefIdeal.main_arg3) = m ((c.tc : Thread Cert.DrmsRefIdeal.nD Cert.DrmsRefIdeal.τ).loc Cert.DrmsRefIdeal.main_arg3))
      ∧ r.2.sem = fun _ => 0)

def quiescent_DrmsRefIdeal_pre_finite_drms [hDrmsRefIdeal : Cert.DrmsRefIdeal.Facts] [hPre_finite_drms : Cert.Pre_finite_drms.Facts] : Prop :=
  ∀ (m : (ℓ : Loc Cert.DrmsRefIdeal.nD Cert.DrmsRefIdeal.τ Cert.DrmsRefIdeal.sig) → Buf (Elt Ideal) ℓ) (g : Dev Cert.DrmsRefIdeal.nD → PrngReg), Pre_DrmsRefIdeal_finite_drms m →
    θ_run (Cert.DrmsRefIdeal.defs (F := Ideal)) (onTc (τ := Cert.DrmsRefIdeal.τ) (Cert.DrmsRefIdeal.main (F := Ideal))) ⟨m, fun _ => 0, g⟩ (fun r => (∀ c : Dev Cert.DrmsRefIdeal.nD,
      r.2.mem ((c.tc : Thread Cert.DrmsRefIdeal.nD Cert.DrmsRefIdeal.τ).loc Cert.DrmsRefIdeal.main_arg0) = m ((c.tc : Thread Cert.DrmsRefIdeal.nD Cert.DrmsRefIdeal.τ).loc Cert.DrmsRefIdeal.main_arg0)
      ∧ r.2.mem ((c.tc : Thread Cert.DrmsRefIdeal.nD Cert.DrmsRefIdeal.τ).loc Cert.DrmsRefIdeal.main_arg1) = m ((c.tc : Thread Cert.DrmsRefIdeal.nD Cert.DrmsRefIdeal.τ).loc Cert.DrmsRefIdeal.main_arg1)
      ∧ r.2.mem ((c.tc : Thread Cert.DrmsRefIdeal.nD Cert.DrmsRefIdeal.τ).loc Cert.DrmsRefIdeal.main_arg2) = m ((c.tc : Thread Cert.DrmsRefIdeal.nD Cert.DrmsRefIdeal.τ).loc Cert.DrmsRefIdeal.main_arg2)
      ∧ r.2.mem ((c.tc : Thread Cert.DrmsRefIdeal.nD Cert.DrmsRefIdeal.τ).loc Cert.DrmsRefIdeal.main_arg3) = m ((c.tc : Thread Cert.DrmsRefIdeal.nD Cert.DrmsRefIdeal.τ).loc Cert.DrmsRefIdeal.main_arg3))
      ∧ r.2.sem = fun _ => 0)

def quiescent_Dqk [hDqk : Cert.Dqk.Facts] : Prop :=
  ∀ (m : (ℓ : Loc Cert.Dqk.nD Cert.Dqk.τ Cert.Dqk.sig) → Buf (Elt Bits) ℓ) (g : Dev Cert.Dqk.nD → PrngReg), Pre_Dqk m →
    θ_run (Cert.Dqk.defs (F := Bits)) (onTc (τ := Cert.Dqk.τ) (Cert.Dqk.main (F := Bits))) ⟨m, fun _ => 0, g⟩ (fun r => (∀ c : Dev Cert.Dqk.nD,
      r.2.mem ((c.tc : Thread Cert.Dqk.nD Cert.Dqk.τ).loc Cert.Dqk.main_arg0) = m ((c.tc : Thread Cert.Dqk.nD Cert.Dqk.τ).loc Cert.Dqk.main_arg0)
      ∧ r.2.mem ((c.tc : Thread Cert.Dqk.nD Cert.Dqk.τ).loc Cert.Dqk.main_arg1) = m ((c.tc : Thread Cert.Dqk.nD Cert.Dqk.τ).loc Cert.Dqk.main_arg1)
      ∧ r.2.mem ((c.tc : Thread Cert.Dqk.nD Cert.Dqk.τ).loc Cert.Dqk.main_arg2) = m ((c.tc : Thread Cert.Dqk.nD Cert.Dqk.τ).loc Cert.Dqk.main_arg2)
      ∧ r.2.mem ((c.tc : Thread Cert.Dqk.nD Cert.Dqk.τ).loc Cert.Dqk.main_arg3) = m ((c.tc : Thread Cert.Dqk.nD Cert.Dqk.τ).loc Cert.Dqk.main_arg3)
      ∧ r.2.mem ((c.tc : Thread Cert.Dqk.nD Cert.Dqk.τ).loc Cert.Dqk.main_arg4) = m ((c.tc : Thread Cert.Dqk.nD Cert.Dqk.τ).loc Cert.Dqk.main_arg4)
      ∧ r.2.mem ((c.tc : Thread Cert.Dqk.nD Cert.Dqk.τ).loc Cert.Dqk.main_arg5) = m ((c.tc : Thread Cert.Dqk.nD Cert.Dqk.τ).loc Cert.Dqk.main_arg5))
      ∧ r.2.sem = fun _ => 0)

def quiescent_DqkIdeal [hDqkIdeal : Cert.DqkIdeal.Facts] : Prop :=
  ∀ (m : (ℓ : Loc Cert.DqkIdeal.nD Cert.DqkIdeal.τ Cert.DqkIdeal.sig) → Buf (Elt Ideal) ℓ) (g : Dev Cert.DqkIdeal.nD → PrngReg), Pre_DqkIdeal m →
    θ_run (Cert.DqkIdeal.defs (F := Ideal)) (onTc (τ := Cert.DqkIdeal.τ) (Cert.DqkIdeal.main (F := Ideal))) ⟨m, fun _ => 0, g⟩ (fun r => (∀ c : Dev Cert.DqkIdeal.nD,
      r.2.mem ((c.tc : Thread Cert.DqkIdeal.nD Cert.DqkIdeal.τ).loc Cert.DqkIdeal.main_arg0) = m ((c.tc : Thread Cert.DqkIdeal.nD Cert.DqkIdeal.τ).loc Cert.DqkIdeal.main_arg0)
      ∧ r.2.mem ((c.tc : Thread Cert.DqkIdeal.nD Cert.DqkIdeal.τ).loc Cert.DqkIdeal.main_arg1) = m ((c.tc : Thread Cert.DqkIdeal.nD Cert.DqkIdeal.τ).loc Cert.DqkIdeal.main_arg1)
      ∧ r.2.mem ((c.tc : Thread Cert.DqkIdeal.nD Cert.DqkIdeal.τ).loc Cert.DqkIdeal.main_arg2) = m ((c.tc : Thread Cert.DqkIdeal.nD Cert.DqkIdeal.τ).loc Cert.DqkIdeal.main_arg2)
      ∧ r.2.mem ((c.tc : Thread Cert.DqkIdeal.nD Cert.DqkIdeal.τ).loc Cert.DqkIdeal.main_arg3) = m ((c.tc : Thread Cert.DqkIdeal.nD Cert.DqkIdeal.τ).loc Cert.DqkIdeal.main_arg3)
      ∧ r.2.mem ((c.tc : Thread Cert.DqkIdeal.nD Cert.DqkIdeal.τ).loc Cert.DqkIdeal.main_arg4) = m ((c.tc : Thread Cert.DqkIdeal.nD Cert.DqkIdeal.τ).loc Cert.DqkIdeal.main_arg4)
      ∧ r.2.mem ((c.tc : Thread Cert.DqkIdeal.nD Cert.DqkIdeal.τ).loc Cert.DqkIdeal.main_arg5) = m ((c.tc : Thread Cert.DqkIdeal.nD Cert.DqkIdeal.τ).loc Cert.DqkIdeal.main_arg5))
      ∧ r.2.sem = fun _ => 0)

def quiescent_DqkIdeal_pre_finite_dqk [hDqkIdeal : Cert.DqkIdeal.Facts] [hPre_finite_dqk : Cert.Pre_finite_dqk.Facts] : Prop :=
  ∀ (m : (ℓ : Loc Cert.DqkIdeal.nD Cert.DqkIdeal.τ Cert.DqkIdeal.sig) → Buf (Elt Ideal) ℓ) (g : Dev Cert.DqkIdeal.nD → PrngReg), Pre_DqkIdeal_finite_dqk m →
    θ_run (Cert.DqkIdeal.defs (F := Ideal)) (onTc (τ := Cert.DqkIdeal.τ) (Cert.DqkIdeal.main (F := Ideal))) ⟨m, fun _ => 0, g⟩ (fun r => (∀ c : Dev Cert.DqkIdeal.nD,
      r.2.mem ((c.tc : Thread Cert.DqkIdeal.nD Cert.DqkIdeal.τ).loc Cert.DqkIdeal.main_arg0) = m ((c.tc : Thread Cert.DqkIdeal.nD Cert.DqkIdeal.τ).loc Cert.DqkIdeal.main_arg0)
      ∧ r.2.mem ((c.tc : Thread Cert.DqkIdeal.nD Cert.DqkIdeal.τ).loc Cert.DqkIdeal.main_arg1) = m ((c.tc : Thread Cert.DqkIdeal.nD Cert.DqkIdeal.τ).loc Cert.DqkIdeal.main_arg1)
      ∧ r.2.mem ((c.tc : Thread Cert.DqkIdeal.nD Cert.DqkIdeal.τ).loc Cert.DqkIdeal.main_arg2) = m ((c.tc : Thread Cert.DqkIdeal.nD Cert.DqkIdeal.τ).loc Cert.DqkIdeal.main_arg2)
      ∧ r.2.mem ((c.tc : Thread Cert.DqkIdeal.nD Cert.DqkIdeal.τ).loc Cert.DqkIdeal.main_arg3) = m ((c.tc : Thread Cert.DqkIdeal.nD Cert.DqkIdeal.τ).loc Cert.DqkIdeal.main_arg3)
      ∧ r.2.mem ((c.tc : Thread Cert.DqkIdeal.nD Cert.DqkIdeal.τ).loc Cert.DqkIdeal.main_arg4) = m ((c.tc : Thread Cert.DqkIdeal.nD Cert.DqkIdeal.τ).loc Cert.DqkIdeal.main_arg4)
      ∧ r.2.mem ((c.tc : Thread Cert.DqkIdeal.nD Cert.DqkIdeal.τ).loc Cert.DqkIdeal.main_arg5) = m ((c.tc : Thread Cert.DqkIdeal.nD Cert.DqkIdeal.τ).loc Cert.DqkIdeal.main_arg5))
      ∧ r.2.sem = fun _ => 0)

def quiescent_DqkRefIdeal [hDqkRefIdeal : Cert.DqkRefIdeal.Facts] : Prop :=
  ∀ (m : (ℓ : Loc Cert.DqkRefIdeal.nD Cert.DqkRefIdeal.τ Cert.DqkRefIdeal.sig) → Buf (Elt Ideal) ℓ) (g : Dev Cert.DqkRefIdeal.nD → PrngReg), Pre_DqkRefIdeal m →
    θ_run (Cert.DqkRefIdeal.defs (F := Ideal)) (onTc (τ := Cert.DqkRefIdeal.τ) (Cert.DqkRefIdeal.main (F := Ideal))) ⟨m, fun _ => 0, g⟩ (fun r => (∀ c : Dev Cert.DqkRefIdeal.nD,
      r.2.mem ((c.tc : Thread Cert.DqkRefIdeal.nD Cert.DqkRefIdeal.τ).loc Cert.DqkRefIdeal.main_arg0) = m ((c.tc : Thread Cert.DqkRefIdeal.nD Cert.DqkRefIdeal.τ).loc Cert.DqkRefIdeal.main_arg0)
      ∧ r.2.mem ((c.tc : Thread Cert.DqkRefIdeal.nD Cert.DqkRefIdeal.τ).loc Cert.DqkRefIdeal.main_arg1) = m ((c.tc : Thread Cert.DqkRefIdeal.nD Cert.DqkRefIdeal.τ).loc Cert.DqkRefIdeal.main_arg1)
      ∧ r.2.mem ((c.tc : Thread Cert.DqkRefIdeal.nD Cert.DqkRefIdeal.τ).loc Cert.DqkRefIdeal.main_arg2) = m ((c.tc : Thread Cert.DqkRefIdeal.nD Cert.DqkRefIdeal.τ).loc Cert.DqkRefIdeal.main_arg2)
      ∧ r.2.mem ((c.tc : Thread Cert.DqkRefIdeal.nD Cert.DqkRefIdeal.τ).loc Cert.DqkRefIdeal.main_arg3) = m ((c.tc : Thread Cert.DqkRefIdeal.nD Cert.DqkRefIdeal.τ).loc Cert.DqkRefIdeal.main_arg3)
      ∧ r.2.mem ((c.tc : Thread Cert.DqkRefIdeal.nD Cert.DqkRefIdeal.τ).loc Cert.DqkRefIdeal.main_arg4) = m ((c.tc : Thread Cert.DqkRefIdeal.nD Cert.DqkRefIdeal.τ).loc Cert.DqkRefIdeal.main_arg4)
      ∧ r.2.mem ((c.tc : Thread Cert.DqkRefIdeal.nD Cert.DqkRefIdeal.τ).loc Cert.DqkRefIdeal.main_arg5) = m ((c.tc : Thread Cert.DqkRefIdeal.nD Cert.DqkRefIdeal.τ).loc Cert.DqkRefIdeal.main_arg5))
      ∧ r.2.sem = fun _ => 0)

def quiescent_DqkRefIdeal_pre_finite_dqk [hDqkRefIdeal : Cert.DqkRefIdeal.Facts] [hPre_finite_dqk : Cert.Pre_finite_dqk.Facts] : Prop :=
  ∀ (m : (ℓ : Loc Cert.DqkRefIdeal.nD Cert.DqkRefIdeal.τ Cert.DqkRefIdeal.sig) → Buf (Elt Ideal) ℓ) (g : Dev Cert.DqkRefIdeal.nD → PrngReg), Pre_DqkRefIdeal_finite_dqk m →
    θ_run (Cert.DqkRefIdeal.defs (F := Ideal)) (onTc (τ := Cert.DqkRefIdeal.τ) (Cert.DqkRefIdeal.main (F := Ideal))) ⟨m, fun _ => 0, g⟩ (fun r => (∀ c : Dev Cert.DqkRefIdeal.nD,
      r.2.mem ((c.tc : Thread Cert.DqkRefIdeal.nD Cert.DqkRefIdeal.τ).loc Cert.DqkRefIdeal.main_arg0) = m ((c.tc : Thread Cert.DqkRefIdeal.nD Cert.DqkRefIdeal.τ).loc Cert.DqkRefIdeal.main_arg0)
      ∧ r.2.mem ((c.tc : Thread Cert.DqkRefIdeal.nD Cert.DqkRefIdeal.τ).loc Cert.DqkRefIdeal.main_arg1) = m ((c.tc : Thread Cert.DqkRefIdeal.nD Cert.DqkRefIdeal.τ).loc Cert.DqkRefIdeal.main_arg1)
      ∧ r.2.mem ((c.tc : Thread Cert.DqkRefIdeal.nD Cert.DqkRefIdeal.τ).loc Cert.DqkRefIdeal.main_arg2) = m ((c.tc : Thread Cert.DqkRefIdeal.nD Cert.DqkRefIdeal.τ).loc Cert.DqkRefIdeal.main_arg2)
      ∧ r.2.mem ((c.tc : Thread Cert.DqkRefIdeal.nD Cert.DqkRefIdeal.τ).loc Cert.DqkRefIdeal.main_arg3) = m ((c.tc : Thread Cert.DqkRefIdeal.nD Cert.DqkRefIdeal.τ).loc Cert.DqkRefIdeal.main_arg3)
      ∧ r.2.mem ((c.tc : Thread Cert.DqkRefIdeal.nD Cert.DqkRefIdeal.τ).loc Cert.DqkRefIdeal.main_arg4) = m ((c.tc : Thread Cert.DqkRefIdeal.nD Cert.DqkRefIdeal.τ).loc Cert.DqkRefIdeal.main_arg4)
      ∧ r.2.mem ((c.tc : Thread Cert.DqkRefIdeal.nD Cert.DqkRefIdeal.τ).loc Cert.DqkRefIdeal.main_arg5) = m ((c.tc : Thread Cert.DqkRefIdeal.nD Cert.DqkRefIdeal.τ).loc Cert.DqkRefIdeal.main_arg5))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1)
      ∧ r.2.mem ((c.tc : Thread Cert.Dwgu.nD Cert.Dwgu.τ).loc Cert.Dwgu.main_arg2) = m ((c.tc : Thread Cert.Dwgu.nD Cert.Dwgu.τ).loc Cert.Dwgu.main_arg2))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1)
      ∧ r.2.mem ((c.tc : Thread Cert.DwguIdeal.nD Cert.DwguIdeal.τ).loc Cert.DwguIdeal.main_arg2) = m ((c.tc : Thread Cert.DwguIdeal.nD Cert.DwguIdeal.τ).loc Cert.DwguIdeal.main_arg2))
      ∧ r.2.sem = fun _ => 0)

def quiescent_DwguRefIdeal [hDwguRefIdeal : Cert.DwguRefIdeal.Facts] : Prop :=
  ∀ (m : (ℓ : Loc Cert.DwguRefIdeal.nD Cert.DwguRefIdeal.τ Cert.DwguRefIdeal.sig) → Buf (Elt Ideal) ℓ) (g : Dev Cert.DwguRefIdeal.nD → PrngReg), Pre_DwguRefIdeal m →
    θ_run (Cert.DwguRefIdeal.defs (F := Ideal)) (onTc (τ := Cert.DwguRefIdeal.τ) (Cert.DwguRefIdeal.main (F := Ideal))) ⟨m, fun _ => 0, g⟩ (fun r => (∀ c : Dev Cert.DwguRefIdeal.nD,
      r.2.mem ((c.tc : Thread Cert.DwguRefIdeal.nD Cert.DwguRefIdeal.τ).loc Cert.DwguRefIdeal.main_arg0) = m ((c.tc : Thread Cert.DwguRefIdeal.nD Cert.DwguRefIdeal.τ).loc Cert.DwguRefIdeal.main_arg0)
      ∧ r.2.mem ((c.tc : Thread Cert.DwguRefIdeal.nD Cert.DwguRefIdeal.τ).loc Cert.DwguRefIdeal.main_arg1) = m ((c.tc : Thread Cert.DwguRefIdeal.nD Cert.DwguRefIdeal.τ).loc Cert.DwguRefIdeal.main_arg1)
      ∧ r.2.mem ((c.tc : Thread Cert.DwguRefIdeal.nD Cert.DwguRefIdeal.τ).loc Cert.DwguRefIdeal.main_arg2) = m ((c.tc : Thread Cert.DwguRefIdeal.nD Cert.DwguRefIdeal.τ).loc Cert.DwguRefIdeal.main_arg2))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1)
      ∧ r.2.mem ((c.tc : Thread Cert.Dwd.nD Cert.Dwd.τ).loc Cert.Dwd.main_arg2) = m ((c.tc : Thread Cert.Dwd.nD Cert.Dwd.τ).loc Cert.Dwd.main_arg2))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
      ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1)
      ∧ r.2.mem ((c.tc : Thread Cert.DwdRefIdeal.nD Cert.DwdRefIdeal.τ).loc Cert.DwdRefIdeal.main_arg2) = m ((c.tc : Thread Cert.DwdRefIdeal.nD Cert.DwdRefIdeal.τ).loc Cert.DwdRefIdeal.main_arg2))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1)
      ∧ r.2.mem ((c.tc : Thread Cert.Dwin.nD Cert.Dwin.τ).loc Cert.Dwin.main_arg2) = m ((c.tc : Thread Cert.Dwin.nD Cert.Dwin.τ).loc Cert.Dwin.main_arg2)
      ∧ r.2.mem ((c.tc : Thread Cert.Dwin.nD Cert.Dwin.τ).loc Cert.Dwin.main_arg3) = m ((c.tc : Thread Cert.Dwin.nD Cert.Dwin.τ).loc Cert.Dwin.main_arg3)
      ∧ r.2.mem ((c.tc : Thread Cert.Dwin.nD Cert.Dwin.τ).loc Cert.Dwin.main_arg4) = m ((c.tc : Thread Cert.Dwin.nD Cert.Dwin.τ).loc Cert.Dwin.main_arg4)
      ∧ r.2.mem ((c.tc : Thread Cert.Dwin.nD Cert.Dwin.τ).loc Cert.Dwin.main_arg5) = m ((c.tc : Thread Cert.Dwin.nD Cert.Dwin.τ).loc Cert.Dwin.main_arg5))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
      ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
      ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
      ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4)
      ∧ r.2.mem ((c.tc : Thread Cert.DwinIdeal.nD Cert.DwinIdeal.τ).loc Cert.DwinIdeal.main_arg5) = m ((c.tc : Thread Cert.DwinIdeal.nD Cert.DwinIdeal.τ).loc Cert.DwinIdeal.main_arg5))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1)
      ∧ r.2.mem ((c.tc : Thread Cert.DwinRefIdeal.nD Cert.DwinRefIdeal.τ).loc Cert.DwinRefIdeal.main_arg2) = m ((c.tc : Thread Cert.DwinRefIdeal.nD Cert.DwinRefIdeal.τ).loc Cert.DwinRefIdeal.main_arg2)
      ∧ r.2.mem ((c.tc : Thread Cert.DwinRefIdeal.nD Cert.DwinRefIdeal.τ).loc Cert.DwinRefIdeal.main_arg3) = m ((c.tc : Thread Cert.DwinRefIdeal.nD Cert.DwinRefIdeal.τ).loc Cert.DwinRefIdeal.main_arg3)
      ∧ r.2.mem ((c.tc : Thread Cert.DwinRefIdeal.nD Cert.DwinRefIdeal.τ).loc Cert.DwinRefIdeal.main_arg4) = m ((c.tc : Thread Cert.DwinRefIdeal.nD Cert.DwinRefIdeal.τ).loc Cert.DwinRefIdeal.main_arg4)
      ∧ r.2.mem ((c.tc : Thread Cert.DwinRefIdeal.nD Cert.DwinRefIdeal.τ).loc Cert.DwinRefIdeal.main_arg5) = m ((c.tc : Thread Cert.DwinRefIdeal.nD Cert.DwinRefIdeal.τ).loc Cert.DwinRefIdeal.main_arg5))
      ∧ r.2.sem = fun _ => 0)

def quiescent_Dhin [hDhin : Cert.Dhin.Facts] : Prop :=
  ∀ (m : (ℓ : Loc Cert.Dhin.nD Cert.Dhin.τ Cert.Dhin.sig) → Buf (Elt Bits) ℓ) (g : Dev Cert.Dhin.nD → PrngReg), Pre_Dhin m →
    θ_run (Cert.Dhin.defs (F := Bits)) (onTc (τ := Cert.Dhin.τ) (Cert.Dhin.main (F := Bits))) ⟨m, fun _ => 0, g⟩ (fun r => (∀ c : Dev Cert.Dhin.nD,
      r.2.mem ((c.tc : Thread Cert.Dhin.nD Cert.Dhin.τ).loc Cert.Dhin.main_arg0) = m ((c.tc : Thread Cert.Dhin.nD Cert.Dhin.τ).loc Cert.Dhin.main_arg0)
      ∧ r.2.mem ((c.tc : Thread Cert.Dhin.nD Cert.Dhin.τ).loc Cert.Dhin.main_arg1) = m ((c.tc : Thread Cert.Dhin.nD Cert.Dhin.τ).loc Cert.Dhin.main_arg1)
      ∧ r.2.mem ((c.tc : Thread Cert.Dhin.nD Cert.Dhin.τ).loc Cert.Dhin.main_arg2) = m ((c.tc : Thread Cert.Dhin.nD Cert.Dhin.τ).loc Cert.Dhin.main_arg2)
      ∧ r.2.mem ((c.tc : Thread Cert.Dhin.nD Cert.Dhin.τ).loc Cert.Dhin.main_arg3) = m ((c.tc : Thread Cert.Dhin.nD Cert.Dhin.τ).loc Cert.Dhin.main_arg3)
      ∧ r.2.mem ((c.tc : Thread Cert.Dhin.nD Cert.Dhin.τ).loc Cert.Dhin.main_arg4) = m ((c.tc : Thread Cert.Dhin.nD Cert.Dhin.τ).loc Cert.Dhin.main_arg4)
      ∧ r.2.mem ((c.tc : Thread Cert.Dhin.nD Cert.Dhin.τ).loc Cert.Dhin.main_arg5) = m ((c.tc : Thread Cert.Dhin.nD Cert.Dhin.τ).loc Cert.Dhin.main_arg5))
      ∧ r.2.sem = fun _ => 0)

def quiescent_DhinIdeal [hDhinIdeal : Cert.DhinIdeal.Facts] : Prop :=
  ∀ (m : (ℓ : Loc Cert.DhinIdeal.nD Cert.DhinIdeal.τ Cert.DhinIdeal.sig) → Buf (Elt Ideal) ℓ) (g : Dev Cert.DhinIdeal.nD → PrngReg), Pre_DhinIdeal m →
    θ_run (Cert.DhinIdeal.defs (F := Ideal)) (onTc (τ := Cert.DhinIdeal.τ) (Cert.DhinIdeal.main (F := Ideal))) ⟨m, fun _ => 0, g⟩ (fun r => (∀ c : Dev Cert.DhinIdeal.nD,
      r.2.mem ((c.tc : Thread Cert.DhinIdeal.nD Cert.DhinIdeal.τ).loc Cert.DhinIdeal.main_arg0) = m ((c.tc : Thread Cert.DhinIdeal.nD Cert.DhinIdeal.τ).loc Cert.DhinIdeal.main_arg0)
      ∧ r.2.mem ((c.tc : Thread Cert.DhinIdeal.nD Cert.DhinIdeal.τ).loc Cert.DhinIdeal.main_arg1) = m ((c.tc : Thread Cert.DhinIdeal.nD Cert.DhinIdeal.τ).loc Cert.DhinIdeal.main_arg1)
      ∧ r.2.mem ((c.tc : Thread Cert.DhinIdeal.nD Cert.DhinIdeal.τ).loc Cert.DhinIdeal.main_arg2) = m ((c.tc : Thread Cert.DhinIdeal.nD Cert.DhinIdeal.τ).loc Cert.DhinIdeal.main_arg2)
      ∧ r.2.mem ((c.tc : Thread Cert.DhinIdeal.nD Cert.DhinIdeal.τ).loc Cert.DhinIdeal.main_arg3) = m ((c.tc : Thread Cert.DhinIdeal.nD Cert.DhinIdeal.τ).loc Cert.DhinIdeal.main_arg3)
      ∧ r.2.mem ((c.tc : Thread Cert.DhinIdeal.nD Cert.DhinIdeal.τ).loc Cert.DhinIdeal.main_arg4) = m ((c.tc : Thread Cert.DhinIdeal.nD Cert.DhinIdeal.τ).loc Cert.DhinIdeal.main_arg4)
      ∧ r.2.mem ((c.tc : Thread Cert.DhinIdeal.nD Cert.DhinIdeal.τ).loc Cert.DhinIdeal.main_arg5) = m ((c.tc : Thread Cert.DhinIdeal.nD Cert.DhinIdeal.τ).loc Cert.DhinIdeal.main_arg5))
      ∧ r.2.sem = fun _ => 0)

def quiescent_DhinRefIdeal [hDhinRefIdeal : Cert.DhinRefIdeal.Facts] : Prop :=
  ∀ (m : (ℓ : Loc Cert.DhinRefIdeal.nD Cert.DhinRefIdeal.τ Cert.DhinRefIdeal.sig) → Buf (Elt Ideal) ℓ) (g : Dev Cert.DhinRefIdeal.nD → PrngReg), Pre_DhinRefIdeal m →
    θ_run (Cert.DhinRefIdeal.defs (F := Ideal)) (onTc (τ := Cert.DhinRefIdeal.τ) (Cert.DhinRefIdeal.main (F := Ideal))) ⟨m, fun _ => 0, g⟩ (fun r => (∀ c : Dev Cert.DhinRefIdeal.nD,
      r.2.mem ((c.tc : Thread Cert.DhinRefIdeal.nD Cert.DhinRefIdeal.τ).loc Cert.DhinRefIdeal.main_arg0) = m ((c.tc : Thread Cert.DhinRefIdeal.nD Cert.DhinRefIdeal.τ).loc Cert.DhinRefIdeal.main_arg0)
      ∧ r.2.mem ((c.tc : Thread Cert.DhinRefIdeal.nD Cert.DhinRefIdeal.τ).loc Cert.DhinRefIdeal.main_arg1) = m ((c.tc : Thread Cert.DhinRefIdeal.nD Cert.DhinRefIdeal.τ).loc Cert.DhinRefIdeal.main_arg1)
      ∧ r.2.mem ((c.tc : Thread Cert.DhinRefIdeal.nD Cert.DhinRefIdeal.τ).loc Cert.DhinRefIdeal.main_arg2) = m ((c.tc : Thread Cert.DhinRefIdeal.nD Cert.DhinRefIdeal.τ).loc Cert.DhinRefIdeal.main_arg2)
      ∧ r.2.mem ((c.tc : Thread Cert.DhinRefIdeal.nD Cert.DhinRefIdeal.τ).loc Cert.DhinRefIdeal.main_arg3) = m ((c.tc : Thread Cert.DhinRefIdeal.nD Cert.DhinRefIdeal.τ).loc Cert.DhinRefIdeal.main_arg3)
      ∧ r.2.mem ((c.tc : Thread Cert.DhinRefIdeal.nD Cert.DhinRefIdeal.τ).loc Cert.DhinRefIdeal.main_arg4) = m ((c.tc : Thread Cert.DhinRefIdeal.nD Cert.DhinRefIdeal.τ).loc Cert.DhinRefIdeal.main_arg4)
      ∧ r.2.mem ((c.tc : Thread Cert.DhinRefIdeal.nD Cert.DhinRefIdeal.τ).loc Cert.DhinRefIdeal.main_arg5) = m ((c.tc : Thread Cert.DhinRefIdeal.nD Cert.DhinRefIdeal.τ).loc Cert.DhinRefIdeal.main_arg5))
      ∧ r.2.sem = fun _ => 0)

def quiescent_DsqO [hDsqO : Cert.DsqO.Facts] : Prop :=
  ∀ (m : (ℓ : Loc Cert.DsqO.nD Cert.DsqO.τ Cert.DsqO.sig) → Buf (Elt Bits) ℓ) (g : Dev Cert.DsqO.nD → PrngReg), Pre_DsqO m →
    θ_run (Cert.DsqO.defs (F := Bits)) (onTc (τ := Cert.DsqO.τ) (Cert.DsqO.main (F := Bits))) ⟨m, fun _ => 0, g⟩ (fun r => (∀ c : Dev Cert.DsqO.nD,
      r.2.mem ((c.tc : Thread Cert.DsqO.nD Cert.DsqO.τ).loc Cert.DsqO.main_arg0) = m ((c.tc : Thread Cert.DsqO.nD Cert.DsqO.τ).loc Cert.DsqO.main_arg0)
      ∧ r.2.mem ((c.tc : Thread Cert.DsqO.nD Cert.DsqO.τ).loc Cert.DsqO.main_arg1) = m ((c.tc : Thread Cert.DsqO.nD Cert.DsqO.τ).loc Cert.DsqO.main_arg1))
      ∧ r.2.sem = fun _ => 0)

def quiescent_DsqOIdeal [hDsqOIdeal : Cert.DsqOIdeal.Facts] : Prop :=
  ∀ (m : (ℓ : Loc Cert.DsqOIdeal.nD Cert.DsqOIdeal.τ Cert.DsqOIdeal.sig) → Buf (Elt Ideal) ℓ) (g : Dev Cert.DsqOIdeal.nD → PrngReg), Pre_DsqOIdeal m →
    θ_run (Cert.DsqOIdeal.defs (F := Ideal)) (onTc (τ := Cert.DsqOIdeal.τ) (Cert.DsqOIdeal.main (F := Ideal))) ⟨m, fun _ => 0, g⟩ (fun r => (∀ c : Dev Cert.DsqOIdeal.nD,
      r.2.mem ((c.tc : Thread Cert.DsqOIdeal.nD Cert.DsqOIdeal.τ).loc Cert.DsqOIdeal.main_arg0) = m ((c.tc : Thread Cert.DsqOIdeal.nD Cert.DsqOIdeal.τ).loc Cert.DsqOIdeal.main_arg0)
      ∧ r.2.mem ((c.tc : Thread Cert.DsqOIdeal.nD Cert.DsqOIdeal.τ).loc Cert.DsqOIdeal.main_arg1) = m ((c.tc : Thread Cert.DsqOIdeal.nD Cert.DsqOIdeal.τ).loc Cert.DsqOIdeal.main_arg1))
      ∧ r.2.sem = fun _ => 0)

def quiescent_DsqORefIdeal [hDsqORefIdeal : Cert.DsqORefIdeal.Facts] : Prop :=
  ∀ (m : (ℓ : Loc Cert.DsqORefIdeal.nD Cert.DsqORefIdeal.τ Cert.DsqORefIdeal.sig) → Buf (Elt Ideal) ℓ) (g : Dev Cert.DsqORefIdeal.nD → PrngReg), Pre_DsqORefIdeal m →
    θ_run (Cert.DsqORefIdeal.defs (F := Ideal)) (onTc (τ := Cert.DsqORefIdeal.τ) (Cert.DsqORefIdeal.main (F := Ideal))) ⟨m, fun _ => 0, g⟩ (fun r => (∀ c : Dev Cert.DsqORefIdeal.nD,
      r.2.mem ((c.tc : Thread Cert.DsqORefIdeal.nD Cert.DsqORefIdeal.τ).loc Cert.DsqORefIdeal.main_arg0) = m ((c.tc : Thread Cert.DsqORefIdeal.nD Cert.DsqORefIdeal.τ).loc Cert.DsqORefIdeal.main_arg0)
      ∧ r.2.mem ((c.tc : Thread Cert.DsqORefIdeal.nD Cert.DsqORefIdeal.τ).loc Cert.DsqORefIdeal.main_arg1) = m ((c.tc : Thread Cert.DsqORefIdeal.nD Cert.DsqORefIdeal.τ).loc Cert.DsqORefIdeal.main_arg1))
      ∧ r.2.sem = fun _ => 0)

def quiescent_DsqC [hDsqC : Cert.DsqC.Facts] : Prop :=
  ∀ (m : (ℓ : Loc Cert.DsqC.nD Cert.DsqC.τ Cert.DsqC.sig) → Buf (Elt Bits) ℓ) (g : Dev Cert.DsqC.nD → PrngReg), Pre_DsqC m →
    θ_run (Cert.DsqC.defs (F := Bits)) (onTc (τ := Cert.DsqC.τ) (Cert.DsqC.main (F := Bits))) ⟨m, fun _ => 0, g⟩ (fun r => (∀ c : Dev Cert.DsqC.nD,
      r.2.mem ((c.tc : Thread Cert.DsqC.nD Cert.DsqC.τ).loc Cert.DsqC.main_arg0) = m ((c.tc : Thread Cert.DsqC.nD Cert.DsqC.τ).loc Cert.DsqC.main_arg0)
      ∧ r.2.mem ((c.tc : Thread Cert.DsqC.nD Cert.DsqC.τ).loc Cert.DsqC.main_arg1) = m ((c.tc : Thread Cert.DsqC.nD Cert.DsqC.τ).loc Cert.DsqC.main_arg1))
      ∧ r.2.sem = fun _ => 0)

def quiescent_DsqCIdeal [hDsqCIdeal : Cert.DsqCIdeal.Facts] : Prop :=
  ∀ (m : (ℓ : Loc Cert.DsqCIdeal.nD Cert.DsqCIdeal.τ Cert.DsqCIdeal.sig) → Buf (Elt Ideal) ℓ) (g : Dev Cert.DsqCIdeal.nD → PrngReg), Pre_DsqCIdeal m →
    θ_run (Cert.DsqCIdeal.defs (F := Ideal)) (onTc (τ := Cert.DsqCIdeal.τ) (Cert.DsqCIdeal.main (F := Ideal))) ⟨m, fun _ => 0, g⟩ (fun r => (∀ c : Dev Cert.DsqCIdeal.nD,
      r.2.mem ((c.tc : Thread Cert.DsqCIdeal.nD Cert.DsqCIdeal.τ).loc Cert.DsqCIdeal.main_arg0) = m ((c.tc : Thread Cert.DsqCIdeal.nD Cert.DsqCIdeal.τ).loc Cert.DsqCIdeal.main_arg0)
      ∧ r.2.mem ((c.tc : Thread Cert.DsqCIdeal.nD Cert.DsqCIdeal.τ).loc Cert.DsqCIdeal.main_arg1) = m ((c.tc : Thread Cert.DsqCIdeal.nD Cert.DsqCIdeal.τ).loc Cert.DsqCIdeal.main_arg1))
      ∧ r.2.sem = fun _ => 0)

def quiescent_DsqCRefIdeal [hDsqCRefIdeal : Cert.DsqCRefIdeal.Facts] : Prop :=
  ∀ (m : (ℓ : Loc Cert.DsqCRefIdeal.nD Cert.DsqCRefIdeal.τ Cert.DsqCRefIdeal.sig) → Buf (Elt Ideal) ℓ) (g : Dev Cert.DsqCRefIdeal.nD → PrngReg), Pre_DsqCRefIdeal m →
    θ_run (Cert.DsqCRefIdeal.defs (F := Ideal)) (onTc (τ := Cert.DsqCRefIdeal.τ) (Cert.DsqCRefIdeal.main (F := Ideal))) ⟨m, fun _ => 0, g⟩ (fun r => (∀ c : Dev Cert.DsqCRefIdeal.nD,
      r.2.mem ((c.tc : Thread Cert.DsqCRefIdeal.nD Cert.DsqCRefIdeal.τ).loc Cert.DsqCRefIdeal.main_arg0) = m ((c.tc : Thread Cert.DsqCRefIdeal.nD Cert.DsqCRefIdeal.τ).loc Cert.DsqCRefIdeal.main_arg0)
      ∧ r.2.mem ((c.tc : Thread Cert.DsqCRefIdeal.nD Cert.DsqCRefIdeal.τ).loc Cert.DsqCRefIdeal.main_arg1) = m ((c.tc : Thread Cert.DsqCRefIdeal.nD Cert.DsqCRefIdeal.τ).loc Cert.DsqCRefIdeal.main_arg1))
      ∧ r.2.sem = fun _ => 0)

def quiescent_DsqS [hDsqS : Cert.DsqS.Facts] : Prop :=
  ∀ (m : (ℓ : Loc Cert.DsqS.nD Cert.DsqS.τ Cert.DsqS.sig) → Buf (Elt Bits) ℓ) (g : Dev Cert.DsqS.nD → PrngReg), Pre_DsqS m →
    θ_run (Cert.DsqS.defs (F := Bits)) (onTc (τ := Cert.DsqS.τ) (Cert.DsqS.main (F := Bits))) ⟨m, fun _ => 0, g⟩ (fun r => (∀ c : Dev Cert.DsqS.nD,
      r.2.mem ((c.tc : Thread Cert.DsqS.nD Cert.DsqS.τ).loc Cert.DsqS.main_arg0) = m ((c.tc : Thread Cert.DsqS.nD Cert.DsqS.τ).loc Cert.DsqS.main_arg0)
      ∧ r.2.mem ((c.tc : Thread Cert.DsqS.nD Cert.DsqS.τ).loc Cert.DsqS.main_arg1) = m ((c.tc : Thread Cert.DsqS.nD Cert.DsqS.τ).loc Cert.DsqS.main_arg1))
      ∧ r.2.sem = fun _ => 0)

def quiescent_DsqSIdeal [hDsqSIdeal : Cert.DsqSIdeal.Facts] : Prop :=
  ∀ (m : (ℓ : Loc Cert.DsqSIdeal.nD Cert.DsqSIdeal.τ Cert.DsqSIdeal.sig) → Buf (Elt Ideal) ℓ) (g : Dev Cert.DsqSIdeal.nD → PrngReg), Pre_DsqSIdeal m →
    θ_run (Cert.DsqSIdeal.defs (F := Ideal)) (onTc (τ := Cert.DsqSIdeal.τ) (Cert.DsqSIdeal.main (F := Ideal))) ⟨m, fun _ => 0, g⟩ (fun r => (∀ c : Dev Cert.DsqSIdeal.nD,
      r.2.mem ((c.tc : Thread Cert.DsqSIdeal.nD Cert.DsqSIdeal.τ).loc Cert.DsqSIdeal.main_arg0) = m ((c.tc : Thread Cert.DsqSIdeal.nD Cert.DsqSIdeal.τ).loc Cert.DsqSIdeal.main_arg0)
      ∧ r.2.mem ((c.tc : Thread Cert.DsqSIdeal.nD Cert.DsqSIdeal.τ).loc Cert.DsqSIdeal.main_arg1) = m ((c.tc : Thread Cert.DsqSIdeal.nD Cert.DsqSIdeal.τ).loc Cert.DsqSIdeal.main_arg1))
      ∧ r.2.sem = fun _ => 0)

def quiescent_DsqSRefIdeal [hDsqSRefIdeal : Cert.DsqSRefIdeal.Facts] : Prop :=
  ∀ (m : (ℓ : Loc Cert.DsqSRefIdeal.nD Cert.DsqSRefIdeal.τ Cert.DsqSRefIdeal.sig) → Buf (Elt Ideal) ℓ) (g : Dev Cert.DsqSRefIdeal.nD → PrngReg), Pre_DsqSRefIdeal m →
    θ_run (Cert.DsqSRefIdeal.defs (F := Ideal)) (onTc (τ := Cert.DsqSRefIdeal.τ) (Cert.DsqSRefIdeal.main (F := Ideal))) ⟨m, fun _ => 0, g⟩ (fun r => (∀ c : Dev Cert.DsqSRefIdeal.nD,
      r.2.mem ((c.tc : Thread Cert.DsqSRefIdeal.nD Cert.DsqSRefIdeal.τ).loc Cert.DsqSRefIdeal.main_arg0) = m ((c.tc : Thread Cert.DsqSRefIdeal.nD Cert.DsqSRefIdeal.τ).loc Cert.DsqSRefIdeal.main_arg0)
      ∧ r.2.mem ((c.tc : Thread Cert.DsqSRefIdeal.nD Cert.DsqSRefIdeal.τ).loc Cert.DsqSRefIdeal.main_arg1) = m ((c.tc : Thread Cert.DsqSRefIdeal.nD Cert.DsqSRefIdeal.τ).loc Cert.DsqSRefIdeal.main_arg1))
      ∧ r.2.sem = fun _ => 0)

def quiescent_DsqA [hDsqA : Cert.DsqA.Facts] : Prop :=
  ∀ (m : (ℓ : Loc Cert.DsqA.nD Cert.DsqA.τ Cert.DsqA.sig) → Buf (Elt Bits) ℓ) (g : Dev Cert.DsqA.nD → PrngReg), Pre_DsqA m →
    θ_run (Cert.DsqA.defs (F := Bits)) (onTc (τ := Cert.DsqA.τ) (Cert.DsqA.main (F := Bits))) ⟨m, fun _ => 0, g⟩ (fun r => (∀ c : Dev Cert.DsqA.nD,
      r.2.mem ((c.tc : Thread Cert.DsqA.nD Cert.DsqA.τ).loc Cert.DsqA.main_arg0) = m ((c.tc : Thread Cert.DsqA.nD Cert.DsqA.τ).loc Cert.DsqA.main_arg0)
      ∧ r.2.mem ((c.tc : Thread Cert.DsqA.nD Cert.DsqA.τ).loc Cert.DsqA.main_arg1) = m ((c.tc : Thread Cert.DsqA.nD Cert.DsqA.τ).loc Cert.DsqA.main_arg1))
      ∧ r.2.sem = fun _ => 0)

def quiescent_DsqAIdeal [hDsqAIdeal : Cert.DsqAIdeal.Facts] : Prop :=
  ∀ (m : (ℓ : Loc Cert.DsqAIdeal.nD Cert.DsqAIdeal.τ Cert.DsqAIdeal.sig) → Buf (Elt Ideal) ℓ) (g : Dev Cert.DsqAIdeal.nD → PrngReg), Pre_DsqAIdeal m →
    θ_run (Cert.DsqAIdeal.defs (F := Ideal)) (onTc (τ := Cert.DsqAIdeal.τ) (Cert.DsqAIdeal.main (F := Ideal))) ⟨m, fun _ => 0, g⟩ (fun r => (∀ c : Dev Cert.DsqAIdeal.nD,
      r.2.mem ((c.tc : Thread Cert.DsqAIdeal.nD Cert.DsqAIdeal.τ).loc Cert.DsqAIdeal.main_arg0) = m ((c.tc : Thread Cert.DsqAIdeal.nD Cert.DsqAIdeal.τ).loc Cert.DsqAIdeal.main_arg0)
      ∧ r.2.mem ((c.tc : Thread Cert.DsqAIdeal.nD Cert.DsqAIdeal.τ).loc Cert.DsqAIdeal.main_arg1) = m ((c.tc : Thread Cert.DsqAIdeal.nD Cert.DsqAIdeal.τ).loc Cert.DsqAIdeal.main_arg1))
      ∧ r.2.sem = fun _ => 0)

def quiescent_DsqARefIdeal [hDsqARefIdeal : Cert.DsqARefIdeal.Facts] : Prop :=
  ∀ (m : (ℓ : Loc Cert.DsqARefIdeal.nD Cert.DsqARefIdeal.τ Cert.DsqARefIdeal.sig) → Buf (Elt Ideal) ℓ) (g : Dev Cert.DsqARefIdeal.nD → PrngReg), Pre_DsqARefIdeal m →
    θ_run (Cert.DsqARefIdeal.defs (F := Ideal)) (onTc (τ := Cert.DsqARefIdeal.τ) (Cert.DsqARefIdeal.main (F := Ideal))) ⟨m, fun _ => 0, g⟩ (fun r => (∀ c : Dev Cert.DsqARefIdeal.nD,
      r.2.mem ((c.tc : Thread Cert.DsqARefIdeal.nD Cert.DsqARefIdeal.τ).loc Cert.DsqARefIdeal.main_arg0) = m ((c.tc : Thread Cert.DsqARefIdeal.nD Cert.DsqARefIdeal.τ).loc Cert.DsqARefIdeal.main_arg0)
      ∧ r.2.mem ((c.tc : Thread Cert.DsqARefIdeal.nD Cert.DsqARefIdeal.τ).loc Cert.DsqARefIdeal.main_arg1) = m ((c.tc : Thread Cert.DsqARefIdeal.nD Cert.DsqARefIdeal.τ).loc Cert.DsqARefIdeal.main_arg1))
      ∧ r.2.sem = fun _ => 0)

def quiescent_DwsqO [hDwsqO : Cert.DwsqO.Facts] : Prop :=
  ∀ (m : (ℓ : Loc Cert.DwsqO.nD Cert.DwsqO.τ Cert.DwsqO.sig) → Buf (Elt Bits) ℓ) (g : Dev Cert.DwsqO.nD → PrngReg), Pre_DwsqO m →
    θ_run (Cert.DwsqO.defs (F := Bits)) (onTc (τ := Cert.DwsqO.τ) (Cert.DwsqO.main (F := Bits))) ⟨m, fun _ => 0, g⟩ (fun r => (∀ c : Dev Cert.DwsqO.nD,
      r.2.mem ((c.tc : Thread Cert.DwsqO.nD Cert.DwsqO.τ).loc Cert.DwsqO.main_arg0) = m ((c.tc : Thread Cert.DwsqO.nD Cert.DwsqO.τ).loc Cert.DwsqO.main_arg0)
      ∧ r.2.mem ((c.tc : Thread Cert.DwsqO.nD Cert.DwsqO.τ).loc Cert.DwsqO.main_arg1) = m ((c.tc : Thread Cert.DwsqO.nD Cert.DwsqO.τ).loc Cert.DwsqO.main_arg1)
      ∧ r.2.mem ((c.tc : Thread Cert.DwsqO.nD Cert.DwsqO.τ).loc Cert.DwsqO.main_arg2) = m ((c.tc : Thread Cert.DwsqO.nD Cert.DwsqO.τ).loc Cert.DwsqO.main_arg2))
      ∧ r.2.sem = fun _ => 0)

def quiescent_DwsqOIdeal [hDwsqOIdeal : Cert.DwsqOIdeal.Facts] : Prop :=
  ∀ (m : (ℓ : Loc Cert.DwsqOIdeal.nD Cert.DwsqOIdeal.τ Cert.DwsqOIdeal.sig) → Buf (Elt Ideal) ℓ) (g : Dev Cert.DwsqOIdeal.nD → PrngReg), Pre_DwsqOIdeal m →
    θ_run (Cert.DwsqOIdeal.defs (F := Ideal)) (onTc (τ := Cert.DwsqOIdeal.τ) (Cert.DwsqOIdeal.main (F := Ideal))) ⟨m, fun _ => 0, g⟩ (fun r => (∀ c : Dev Cert.DwsqOIdeal.nD,
      r.2.mem ((c.tc : Thread Cert.DwsqOIdeal.nD Cert.DwsqOIdeal.τ).loc Cert.DwsqOIdeal.main_arg0) = m ((c.tc : Thread Cert.DwsqOIdeal.nD Cert.DwsqOIdeal.τ).loc Cert.DwsqOIdeal.main_arg0)
      ∧ r.2.mem ((c.tc : Thread Cert.DwsqOIdeal.nD Cert.DwsqOIdeal.τ).loc Cert.DwsqOIdeal.main_arg1) = m ((c.tc : Thread Cert.DwsqOIdeal.nD Cert.DwsqOIdeal.τ).loc Cert.DwsqOIdeal.main_arg1)
      ∧ r.2.mem ((c.tc : Thread Cert.DwsqOIdeal.nD Cert.DwsqOIdeal.τ).loc Cert.DwsqOIdeal.main_arg2) = m ((c.tc : Thread Cert.DwsqOIdeal.nD Cert.DwsqOIdeal.τ).loc Cert.DwsqOIdeal.main_arg2))
      ∧ r.2.sem = fun _ => 0)

def quiescent_DwsqORefIdeal [hDwsqORefIdeal : Cert.DwsqORefIdeal.Facts] : Prop :=
  ∀ (m : (ℓ : Loc Cert.DwsqORefIdeal.nD Cert.DwsqORefIdeal.τ Cert.DwsqORefIdeal.sig) → Buf (Elt Ideal) ℓ) (g : Dev Cert.DwsqORefIdeal.nD → PrngReg), Pre_DwsqORefIdeal m →
    θ_run (Cert.DwsqORefIdeal.defs (F := Ideal)) (onTc (τ := Cert.DwsqORefIdeal.τ) (Cert.DwsqORefIdeal.main (F := Ideal))) ⟨m, fun _ => 0, g⟩ (fun r => (∀ c : Dev Cert.DwsqORefIdeal.nD,
      r.2.mem ((c.tc : Thread Cert.DwsqORefIdeal.nD Cert.DwsqORefIdeal.τ).loc Cert.DwsqORefIdeal.main_arg0) = m ((c.tc : Thread Cert.DwsqORefIdeal.nD Cert.DwsqORefIdeal.τ).loc Cert.DwsqORefIdeal.main_arg0)
      ∧ r.2.mem ((c.tc : Thread Cert.DwsqORefIdeal.nD Cert.DwsqORefIdeal.τ).loc Cert.DwsqORefIdeal.main_arg1) = m ((c.tc : Thread Cert.DwsqORefIdeal.nD Cert.DwsqORefIdeal.τ).loc Cert.DwsqORefIdeal.main_arg1)
      ∧ r.2.mem ((c.tc : Thread Cert.DwsqORefIdeal.nD Cert.DwsqORefIdeal.τ).loc Cert.DwsqORefIdeal.main_arg2) = m ((c.tc : Thread Cert.DwsqORefIdeal.nD Cert.DwsqORefIdeal.τ).loc Cert.DwsqORefIdeal.main_arg2))
      ∧ r.2.sem = fun _ => 0)

def quiescent_DwsqM [hDwsqM : Cert.DwsqM.Facts] : Prop :=
  ∀ (m : (ℓ : Loc Cert.DwsqM.nD Cert.DwsqM.τ Cert.DwsqM.sig) → Buf (Elt Bits) ℓ) (g : Dev Cert.DwsqM.nD → PrngReg), Pre_DwsqM m →
    θ_run (Cert.DwsqM.defs (F := Bits)) (onTc (τ := Cert.DwsqM.τ) (Cert.DwsqM.main (F := Bits))) ⟨m, fun _ => 0, g⟩ (fun r => (∀ c : Dev Cert.DwsqM.nD,
      r.2.mem ((c.tc : Thread Cert.DwsqM.nD Cert.DwsqM.τ).loc Cert.DwsqM.main_arg0) = m ((c.tc : Thread Cert.DwsqM.nD Cert.DwsqM.τ).loc Cert.DwsqM.main_arg0)
      ∧ r.2.mem ((c.tc : Thread Cert.DwsqM.nD Cert.DwsqM.τ).loc Cert.DwsqM.main_arg1) = m ((c.tc : Thread Cert.DwsqM.nD Cert.DwsqM.τ).loc Cert.DwsqM.main_arg1)
      ∧ r.2.mem ((c.tc : Thread Cert.DwsqM.nD Cert.DwsqM.τ).loc Cert.DwsqM.main_arg2) = m ((c.tc : Thread Cert.DwsqM.nD Cert.DwsqM.τ).loc Cert.DwsqM.main_arg2))
      ∧ r.2.sem = fun _ => 0)

def quiescent_DwsqMIdeal [hDwsqMIdeal : Cert.DwsqMIdeal.Facts] : Prop :=
  ∀ (m : (ℓ : Loc Cert.DwsqMIdeal.nD Cert.DwsqMIdeal.τ Cert.DwsqMIdeal.sig) → Buf (Elt Ideal) ℓ) (g : Dev Cert.DwsqMIdeal.nD → PrngReg), Pre_DwsqMIdeal m →
    θ_run (Cert.DwsqMIdeal.defs (F := Ideal)) (onTc (τ := Cert.DwsqMIdeal.τ) (Cert.DwsqMIdeal.main (F := Ideal))) ⟨m, fun _ => 0, g⟩ (fun r => (∀ c : Dev Cert.DwsqMIdeal.nD,
      r.2.mem ((c.tc : Thread Cert.DwsqMIdeal.nD Cert.DwsqMIdeal.τ).loc Cert.DwsqMIdeal.main_arg0) = m ((c.tc : Thread Cert.DwsqMIdeal.nD Cert.DwsqMIdeal.τ).loc Cert.DwsqMIdeal.main_arg0)
      ∧ r.2.mem ((c.tc : Thread Cert.DwsqMIdeal.nD Cert.DwsqMIdeal.τ).loc Cert.DwsqMIdeal.main_arg1) = m ((c.tc : Thread Cert.DwsqMIdeal.nD Cert.DwsqMIdeal.τ).loc Cert.DwsqMIdeal.main_arg1)
      ∧ r.2.mem ((c.tc : Thread Cert.DwsqMIdeal.nD Cert.DwsqMIdeal.τ).loc Cert.DwsqMIdeal.main_arg2) = m ((c.tc : Thread Cert.DwsqMIdeal.nD Cert.DwsqMIdeal.τ).loc Cert.DwsqMIdeal.main_arg2))
      ∧ r.2.sem = fun _ => 0)

def quiescent_DwsqMRefIdeal [hDwsqMRefIdeal : Cert.DwsqMRefIdeal.Facts] : Prop :=
  ∀ (m : (ℓ : Loc Cert.DwsqMRefIdeal.nD Cert.DwsqMRefIdeal.τ Cert.DwsqMRefIdeal.sig) → Buf (Elt Ideal) ℓ) (g : Dev Cert.DwsqMRefIdeal.nD → PrngReg), Pre_DwsqMRefIdeal m →
    θ_run (Cert.DwsqMRefIdeal.defs (F := Ideal)) (onTc (τ := Cert.DwsqMRefIdeal.τ) (Cert.DwsqMRefIdeal.main (F := Ideal))) ⟨m, fun _ => 0, g⟩ (fun r => (∀ c : Dev Cert.DwsqMRefIdeal.nD,
      r.2.mem ((c.tc : Thread Cert.DwsqMRefIdeal.nD Cert.DwsqMRefIdeal.τ).loc Cert.DwsqMRefIdeal.main_arg0) = m ((c.tc : Thread Cert.DwsqMRefIdeal.nD Cert.DwsqMRefIdeal.τ).loc Cert.DwsqMRefIdeal.main_arg0)
      ∧ r.2.mem ((c.tc : Thread Cert.DwsqMRefIdeal.nD Cert.DwsqMRefIdeal.τ).loc Cert.DwsqMRefIdeal.main_arg1) = m ((c.tc : Thread Cert.DwsqMRefIdeal.nD Cert.DwsqMRefIdeal.τ).loc Cert.DwsqMRefIdeal.main_arg1)
      ∧ r.2.mem ((c.tc : Thread Cert.DwsqMRefIdeal.nD Cert.DwsqMRefIdeal.τ).loc Cert.DwsqMRefIdeal.main_arg2) = m ((c.tc : Thread Cert.DwsqMRefIdeal.nD Cert.DwsqMRefIdeal.τ).loc Cert.DwsqMRefIdeal.main_arg2))
      ∧ r.2.sem = fun _ => 0)

def quiescent_DwsqA [hDwsqA : Cert.DwsqA.Facts] : Prop :=
  ∀ (m : (ℓ : Loc Cert.DwsqA.nD Cert.DwsqA.τ Cert.DwsqA.sig) → Buf (Elt Bits) ℓ) (g : Dev Cert.DwsqA.nD → PrngReg), Pre_DwsqA m →
    θ_run (Cert.DwsqA.defs (F := Bits)) (onTc (τ := Cert.DwsqA.τ) (Cert.DwsqA.main (F := Bits))) ⟨m, fun _ => 0, g⟩ (fun r => (∀ c : Dev Cert.DwsqA.nD,
      r.2.mem ((c.tc : Thread Cert.DwsqA.nD Cert.DwsqA.τ).loc Cert.DwsqA.main_arg0) = m ((c.tc : Thread Cert.DwsqA.nD Cert.DwsqA.τ).loc Cert.DwsqA.main_arg0)
      ∧ r.2.mem ((c.tc : Thread Cert.DwsqA.nD Cert.DwsqA.τ).loc Cert.DwsqA.main_arg1) = m ((c.tc : Thread Cert.DwsqA.nD Cert.DwsqA.τ).loc Cert.DwsqA.main_arg1)
      ∧ r.2.mem ((c.tc : Thread Cert.DwsqA.nD Cert.DwsqA.τ).loc Cert.DwsqA.main_arg2) = m ((c.tc : Thread Cert.DwsqA.nD Cert.DwsqA.τ).loc Cert.DwsqA.main_arg2))
      ∧ r.2.sem = fun _ => 0)

def quiescent_DwsqAIdeal [hDwsqAIdeal : Cert.DwsqAIdeal.Facts] : Prop :=
  ∀ (m : (ℓ : Loc Cert.DwsqAIdeal.nD Cert.DwsqAIdeal.τ Cert.DwsqAIdeal.sig) → Buf (Elt Ideal) ℓ) (g : Dev Cert.DwsqAIdeal.nD → PrngReg), Pre_DwsqAIdeal m →
    θ_run (Cert.DwsqAIdeal.defs (F := Ideal)) (onTc (τ := Cert.DwsqAIdeal.τ) (Cert.DwsqAIdeal.main (F := Ideal))) ⟨m, fun _ => 0, g⟩ (fun r => (∀ c : Dev Cert.DwsqAIdeal.nD,
      r.2.mem ((c.tc : Thread Cert.DwsqAIdeal.nD Cert.DwsqAIdeal.τ).loc Cert.DwsqAIdeal.main_arg0) = m ((c.tc : Thread Cert.DwsqAIdeal.nD Cert.DwsqAIdeal.τ).loc Cert.DwsqAIdeal.main_arg0)
      ∧ r.2.mem ((c.tc : Thread Cert.DwsqAIdeal.nD Cert.DwsqAIdeal.τ).loc Cert.DwsqAIdeal.main_arg1) = m ((c.tc : Thread Cert.DwsqAIdeal.nD Cert.DwsqAIdeal.τ).loc Cert.DwsqAIdeal.main_arg1)
      ∧ r.2.mem ((c.tc : Thread Cert.DwsqAIdeal.nD Cert.DwsqAIdeal.τ).loc Cert.DwsqAIdeal.main_arg2) = m ((c.tc : Thread Cert.DwsqAIdeal.nD Cert.DwsqAIdeal.τ).loc Cert.DwsqAIdeal.main_arg2))
      ∧ r.2.sem = fun _ => 0)

def quiescent_DwsqARefIdeal [hDwsqARefIdeal : Cert.DwsqARefIdeal.Facts] : Prop :=
  ∀ (m : (ℓ : Loc Cert.DwsqARefIdeal.nD Cert.DwsqARefIdeal.τ Cert.DwsqARefIdeal.sig) → Buf (Elt Ideal) ℓ) (g : Dev Cert.DwsqARefIdeal.nD → PrngReg), Pre_DwsqARefIdeal m →
    θ_run (Cert.DwsqARefIdeal.defs (F := Ideal)) (onTc (τ := Cert.DwsqARefIdeal.τ) (Cert.DwsqARefIdeal.main (F := Ideal))) ⟨m, fun _ => 0, g⟩ (fun r => (∀ c : Dev Cert.DwsqARefIdeal.nD,
      r.2.mem ((c.tc : Thread Cert.DwsqARefIdeal.nD Cert.DwsqARefIdeal.τ).loc Cert.DwsqARefIdeal.main_arg0) = m ((c.tc : Thread Cert.DwsqARefIdeal.nD Cert.DwsqARefIdeal.τ).loc Cert.DwsqARefIdeal.main_arg0)
      ∧ r.2.mem ((c.tc : Thread Cert.DwsqARefIdeal.nD Cert.DwsqARefIdeal.τ).loc Cert.DwsqARefIdeal.main_arg1) = m ((c.tc : Thread Cert.DwsqARefIdeal.nD Cert.DwsqARefIdeal.τ).loc Cert.DwsqARefIdeal.main_arg1)
      ∧ r.2.mem ((c.tc : Thread Cert.DwsqARefIdeal.nD Cert.DwsqARefIdeal.τ).loc Cert.DwsqARefIdeal.main_arg2) = m ((c.tc : Thread Cert.DwsqARefIdeal.nD Cert.DwsqARefIdeal.τ).loc Cert.DwsqARefIdeal.main_arg2))
      ∧ r.2.sem = fun _ => 0)

def quiescent_Dmerge [hDmerge : Cert.Dmerge.Facts] : Prop :=
  ∀ (m : (ℓ : Loc Cert.Dmerge.nD Cert.Dmerge.τ Cert.Dmerge.sig) → Buf (Elt Bits) ℓ) (g : Dev Cert.Dmerge.nD → PrngReg), Pre_Dmerge m →
    θ_run (Cert.Dmerge.defs (F := Bits)) (onTc (τ := Cert.Dmerge.τ) (Cert.Dmerge.main (F := Bits))) ⟨m, fun _ => 0, g⟩ (fun r => (∀ c : Dev Cert.Dmerge.nD,
      r.2.mem ((c.tc : Thread Cert.Dmerge.nD Cert.Dmerge.τ).loc Cert.Dmerge.main_arg0) = m ((c.tc : Thread Cert.Dmerge.nD Cert.Dmerge.τ).loc Cert.Dmerge.main_arg0)
      ∧ r.2.mem ((c.tc : Thread Cert.Dmerge.nD Cert.Dmerge.τ).loc Cert.Dmerge.main_arg1) = m ((c.tc : Thread Cert.Dmerge.nD Cert.Dmerge.τ).loc Cert.Dmerge.main_arg1)
      ∧ r.2.mem ((c.tc : Thread Cert.Dmerge.nD Cert.Dmerge.τ).loc Cert.Dmerge.main_arg2) = m ((c.tc : Thread Cert.Dmerge.nD Cert.Dmerge.τ).loc Cert.Dmerge.main_arg2)
      ∧ r.2.mem ((c.tc : Thread Cert.Dmerge.nD Cert.Dmerge.τ).loc Cert.Dmerge.main_arg3) = m ((c.tc : Thread Cert.Dmerge.nD Cert.Dmerge.τ).loc Cert.Dmerge.main_arg3)
      ∧ r.2.mem ((c.tc : Thread Cert.Dmerge.nD Cert.Dmerge.τ).loc Cert.Dmerge.main_arg4) = m ((c.tc : Thread Cert.Dmerge.nD Cert.Dmerge.τ).loc Cert.Dmerge.main_arg4)
      ∧ r.2.mem ((c.tc : Thread Cert.Dmerge.nD Cert.Dmerge.τ).loc Cert.Dmerge.main_arg5) = m ((c.tc : Thread Cert.Dmerge.nD Cert.Dmerge.τ).loc Cert.Dmerge.main_arg5))
      ∧ r.2.sem = fun _ => 0)

def quiescent_DmergeIdeal [hDmergeIdeal : Cert.DmergeIdeal.Facts] : Prop :=
  ∀ (m : (ℓ : Loc Cert.DmergeIdeal.nD Cert.DmergeIdeal.τ Cert.DmergeIdeal.sig) → Buf (Elt Ideal) ℓ) (g : Dev Cert.DmergeIdeal.nD → PrngReg), Pre_DmergeIdeal m →
    θ_run (Cert.DmergeIdeal.defs (F := Ideal)) (onTc (τ := Cert.DmergeIdeal.τ) (Cert.DmergeIdeal.main (F := Ideal))) ⟨m, fun _ => 0, g⟩ (fun r => (∀ c : Dev Cert.DmergeIdeal.nD,
      r.2.mem ((c.tc : Thread Cert.DmergeIdeal.nD Cert.DmergeIdeal.τ).loc Cert.DmergeIdeal.main_arg0) = m ((c.tc : Thread Cert.DmergeIdeal.nD Cert.DmergeIdeal.τ).loc Cert.DmergeIdeal.main_arg0)
      ∧ r.2.mem ((c.tc : Thread Cert.DmergeIdeal.nD Cert.DmergeIdeal.τ).loc Cert.DmergeIdeal.main_arg1) = m ((c.tc : Thread Cert.DmergeIdeal.nD Cert.DmergeIdeal.τ).loc Cert.DmergeIdeal.main_arg1)
      ∧ r.2.mem ((c.tc : Thread Cert.DmergeIdeal.nD Cert.DmergeIdeal.τ).loc Cert.DmergeIdeal.main_arg2) = m ((c.tc : Thread Cert.DmergeIdeal.nD Cert.DmergeIdeal.τ).loc Cert.DmergeIdeal.main_arg2)
      ∧ r.2.mem ((c.tc : Thread Cert.DmergeIdeal.nD Cert.DmergeIdeal.τ).loc Cert.DmergeIdeal.main_arg3) = m ((c.tc : Thread Cert.DmergeIdeal.nD Cert.DmergeIdeal.τ).loc Cert.DmergeIdeal.main_arg3)
      ∧ r.2.mem ((c.tc : Thread Cert.DmergeIdeal.nD Cert.DmergeIdeal.τ).loc Cert.DmergeIdeal.main_arg4) = m ((c.tc : Thread Cert.DmergeIdeal.nD Cert.DmergeIdeal.τ).loc Cert.DmergeIdeal.main_arg4)
      ∧ r.2.mem ((c.tc : Thread Cert.DmergeIdeal.nD Cert.DmergeIdeal.τ).loc Cert.DmergeIdeal.main_arg5) = m ((c.tc : Thread Cert.DmergeIdeal.nD Cert.DmergeIdeal.τ).loc Cert.DmergeIdeal.main_arg5))
      ∧ r.2.sem = fun _ => 0)

def quiescent_DmergeRefIdeal [hDmergeRefIdeal : Cert.DmergeRefIdeal.Facts] : Prop :=
  ∀ (m : (ℓ : Loc Cert.DmergeRefIdeal.nD Cert.DmergeRefIdeal.τ Cert.DmergeRefIdeal.sig) → Buf (Elt Ideal) ℓ) (g : Dev Cert.DmergeRefIdeal.nD → PrngReg), Pre_DmergeRefIdeal m →
    θ_run (Cert.DmergeRefIdeal.defs (F := Ideal)) (onTc (τ := Cert.DmergeRefIdeal.τ) (Cert.DmergeRefIdeal.main (F := Ideal))) ⟨m, fun _ => 0, g⟩ (fun r => (∀ c : Dev Cert.DmergeRefIdeal.nD,
      r.2.mem ((c.tc : Thread Cert.DmergeRefIdeal.nD Cert.DmergeRefIdeal.τ).loc Cert.DmergeRefIdeal.main_arg0) = m ((c.tc : Thread Cert.DmergeRefIdeal.nD Cert.DmergeRefIdeal.τ).loc Cert.DmergeRefIdeal.main_arg0)
      ∧ r.2.mem ((c.tc : Thread Cert.DmergeRefIdeal.nD Cert.DmergeRefIdeal.τ).loc Cert.DmergeRefIdeal.main_arg1) = m ((c.tc : Thread Cert.DmergeRefIdeal.nD Cert.DmergeRefIdeal.τ).loc Cert.DmergeRefIdeal.main_arg1)
      ∧ r.2.mem ((c.tc : Thread Cert.DmergeRefIdeal.nD Cert.DmergeRefIdeal.τ).loc Cert.DmergeRefIdeal.main_arg2) = m ((c.tc : Thread Cert.DmergeRefIdeal.nD Cert.DmergeRefIdeal.τ).loc Cert.DmergeRefIdeal.main_arg2)
      ∧ r.2.mem ((c.tc : Thread Cert.DmergeRefIdeal.nD Cert.DmergeRefIdeal.τ).loc Cert.DmergeRefIdeal.main_arg3) = m ((c.tc : Thread Cert.DmergeRefIdeal.nD Cert.DmergeRefIdeal.τ).loc Cert.DmergeRefIdeal.main_arg3)
      ∧ r.2.mem ((c.tc : Thread Cert.DmergeRefIdeal.nD Cert.DmergeRefIdeal.τ).loc Cert.DmergeRefIdeal.main_arg4) = m ((c.tc : Thread Cert.DmergeRefIdeal.nD Cert.DmergeRefIdeal.τ).loc Cert.DmergeRefIdeal.main_arg4)
      ∧ r.2.mem ((c.tc : Thread Cert.DmergeRefIdeal.nD Cert.DmergeRefIdeal.τ).loc Cert.DmergeRefIdeal.main_arg5) = m ((c.tc : Thread Cert.DmergeRefIdeal.nD Cert.DmergeRefIdeal.τ).loc Cert.DmergeRefIdeal.main_arg5))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1))
      ∧ r.2.sem = fun _ => 0)

def quiescent_Fgu [hFgu : Cert.Fgu.Facts] : Prop :=
  ∀ (m : (ℓ : Loc Cert.Fgu.nD Cert.Fgu.τ Cert.Fgu.sig) → Buf (Elt Bits) ℓ) (g : Dev Cert.Fgu.nD → PrngReg), Pre_Fgu m →
    θ_run (Cert.Fgu.defs (F := Bits)) (onTc (τ := Cert.Fgu.τ) (Cert.Fgu.main (F := Bits))) ⟨m, fun _ => 0, g⟩ (fun r => (∀ c : Dev Cert.Fgu.nD,
      r.2.mem ((c.tc : Thread Cert.Fgu.nD Cert.Fgu.τ).loc Cert.Fgu.main_arg0) = m ((c.tc : Thread Cert.Fgu.nD Cert.Fgu.τ).loc Cert.Fgu.main_arg0)
      ∧ r.2.mem ((c.tc : Thread Cert.Fgu.nD Cert.Fgu.τ).loc Cert.Fgu.main_arg1) = m ((c.tc : Thread Cert.Fgu.nD Cert.Fgu.τ).loc Cert.Fgu.main_arg1))
      ∧ r.2.sem = fun _ => 0)

def quiescent_FguIdeal [hFguIdeal : Cert.FguIdeal.Facts] : Prop :=
  ∀ (m : (ℓ : Loc Cert.FguIdeal.nD Cert.FguIdeal.τ Cert.FguIdeal.sig) → Buf (Elt Ideal) ℓ) (g : Dev Cert.FguIdeal.nD → PrngReg), Pre_FguIdeal m →
    θ_run (Cert.FguIdeal.defs (F := Ideal)) (onTc (τ := Cert.FguIdeal.τ) (Cert.FguIdeal.main (F := Ideal))) ⟨m, fun _ => 0, g⟩ (fun r => (∀ c : Dev Cert.FguIdeal.nD,
      r.2.mem ((c.tc : Thread Cert.FguIdeal.nD Cert.FguIdeal.τ).loc Cert.FguIdeal.main_arg0) = m ((c.tc : Thread Cert.FguIdeal.nD Cert.FguIdeal.τ).loc Cert.FguIdeal.main_arg0)
      ∧ r.2.mem ((c.tc : Thread Cert.FguIdeal.nD Cert.FguIdeal.τ).loc Cert.FguIdeal.main_arg1) = m ((c.tc : Thread Cert.FguIdeal.nD Cert.FguIdeal.τ).loc Cert.FguIdeal.main_arg1))
      ∧ r.2.sem = fun _ => 0)

def quiescent_FguRefIdeal [hFguRefIdeal : Cert.FguRefIdeal.Facts] : Prop :=
  ∀ (m : (ℓ : Loc Cert.FguRefIdeal.nD Cert.FguRefIdeal.τ Cert.FguRefIdeal.sig) → Buf (Elt Ideal) ℓ) (g : Dev Cert.FguRefIdeal.nD → PrngReg), Pre_FguRefIdeal m →
    θ_run (Cert.FguRefIdeal.defs (F := Ideal)) (onTc (τ := Cert.FguRefIdeal.τ) (Cert.FguRefIdeal.main (F := Ideal))) ⟨m, fun _ => 0, g⟩ (fun r => (∀ c : Dev Cert.FguRefIdeal.nD,
      r.2.mem ((c.tc : Thread Cert.FguRefIdeal.nD Cert.FguRefIdeal.τ).loc Cert.FguRefIdeal.main_arg0) = m ((c.tc : Thread Cert.FguRefIdeal.nD Cert.FguRefIdeal.τ).loc Cert.FguRefIdeal.main_arg0)
      ∧ r.2.mem ((c.tc : Thread Cert.FguRefIdeal.nD Cert.FguRefIdeal.τ).loc Cert.FguRefIdeal.main_arg1) = m ((c.tc : Thread Cert.FguRefIdeal.nD Cert.FguRefIdeal.τ).loc Cert.FguRefIdeal.main_arg1))
      ∧ r.2.sem = fun _ => 0)

def quiescent_Fdown [hFdown : Cert.Fdown.Facts] : Prop :=
  ∀ (m : (ℓ : Loc Cert.Fdown.nD Cert.Fdown.τ Cert.Fdown.sig) → Buf (Elt Bits) ℓ) (g : Dev Cert.Fdown.nD → PrngReg), Pre_Fdown m →
    θ_run (Cert.Fdown.defs (F := Bits)) (onTc (τ := Cert.Fdown.τ) (Cert.Fdown.main (F := Bits))) ⟨m, fun _ => 0, g⟩ (fun r => (∀ c : Dev Cert.Fdown.nD,
      r.2.mem ((c.tc : Thread Cert.Fdown.nD Cert.Fdown.τ).loc Cert.Fdown.main_arg0) = m ((c.tc : Thread Cert.Fdown.nD Cert.Fdown.τ).loc Cert.Fdown.main_arg0)
      ∧ r.2.mem ((c.tc : Thread Cert.Fdown.nD Cert.Fdown.τ).loc Cert.Fdown.main_arg1) = m ((c.tc : Thread Cert.Fdown.nD Cert.Fdown.τ).loc Cert.Fdown.main_arg1)
      ∧ r.2.mem ((c.tc : Thread Cert.Fdown.nD Cert.Fdown.τ).loc Cert.Fdown.main_arg2) = m ((c.tc : Thread Cert.Fdown.nD Cert.Fdown.τ).loc Cert.Fdown.main_arg2))
      ∧ r.2.sem = fun _ => 0)

def quiescent_FdownIdeal [hFdownIdeal : Cert.FdownIdeal.Facts] : Prop :=
  ∀ (m : (ℓ : Loc Cert.FdownIdeal.nD Cert.FdownIdeal.τ Cert.FdownIdeal.sig) → Buf (Elt Ideal) ℓ) (g : Dev Cert.FdownIdeal.nD → PrngReg), Pre_FdownIdeal m →
    θ_run (Cert.FdownIdeal.defs (F := Ideal)) (onTc (τ := Cert.FdownIdeal.τ) (Cert.FdownIdeal.main (F := Ideal))) ⟨m, fun _ => 0, g⟩ (fun r => (∀ c : Dev Cert.FdownIdeal.nD,
      r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
      ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1)
      ∧ r.2.mem ((c.tc : Thread Cert.FdownIdeal.nD Cert.FdownIdeal.τ).loc Cert.FdownIdeal.main_arg2) = m ((c.tc : Thread Cert.FdownIdeal.nD Cert.FdownIdeal.τ).loc Cert.FdownIdeal.main_arg2))
      ∧ r.2.sem = fun _ => 0)

def quiescent_FdownRefIdeal [hFdownRefIdeal : Cert.FdownRefIdeal.Facts] : Prop :=
  ∀ (m : (ℓ : Loc Cert.FdownRefIdeal.nD Cert.FdownRefIdeal.τ Cert.FdownRefIdeal.sig) → Buf (Elt Ideal) ℓ) (g : Dev Cert.FdownRefIdeal.nD → PrngReg), Pre_FdownRefIdeal m →
    θ_run (Cert.FdownRefIdeal.defs (F := Ideal)) (onTc (τ := Cert.FdownRefIdeal.τ) (Cert.FdownRefIdeal.main (F := Ideal))) ⟨m, fun _ => 0, g⟩ (fun r => (∀ c : Dev Cert.FdownRefIdeal.nD,
      r.2.mem ((c.tc : Thread Cert.FdownRefIdeal.nD Cert.FdownRefIdeal.τ).loc Cert.FdownRefIdeal.main_arg0) = m ((c.tc : Thread Cert.FdownRefIdeal.nD Cert.FdownRefIdeal.τ).loc Cert.FdownRefIdeal.main_arg0)
      ∧ r.2.mem ((c.tc : Thread Cert.FdownRefIdeal.nD Cert.FdownRefIdeal.τ).loc Cert.FdownRefIdeal.main_arg1) = m ((c.tc : Thread Cert.FdownRefIdeal.nD Cert.FdownRefIdeal.τ).loc Cert.FdownRefIdeal.main_arg1)
      ∧ r.2.mem ((c.tc : Thread Cert.FdownRefIdeal.nD Cert.FdownRefIdeal.τ).loc Cert.FdownRefIdeal.main_arg2) = m ((c.tc : Thread Cert.FdownRefIdeal.nD Cert.FdownRefIdeal.τ).loc Cert.FdownRefIdeal.main_arg2))
      ∧ r.2.sem = fun _ => 0)

def quiescent_FsqC [hFsqC : Cert.FsqC.Facts] : Prop :=
  ∀ (m : (ℓ : Loc Cert.FsqC.nD Cert.FsqC.τ Cert.FsqC.sig) → Buf (Elt Bits) ℓ) (g : Dev Cert.FsqC.nD → PrngReg), Pre_FsqC m →
    θ_run (Cert.FsqC.defs (F := Bits)) (onTc (τ := Cert.FsqC.τ) (Cert.FsqC.main (F := Bits))) ⟨m, fun _ => 0, g⟩ (fun r => (∀ c : Dev Cert.FsqC.nD,
      r.2.mem ((c.tc : Thread Cert.FsqC.nD Cert.FsqC.τ).loc Cert.FsqC.main_arg0) = m ((c.tc : Thread Cert.FsqC.nD Cert.FsqC.τ).loc Cert.FsqC.main_arg0)
      ∧ r.2.mem ((c.tc : Thread Cert.FsqC.nD Cert.FsqC.τ).loc Cert.FsqC.main_arg1) = m ((c.tc : Thread Cert.FsqC.nD Cert.FsqC.τ).loc Cert.FsqC.main_arg1))
      ∧ r.2.sem = fun _ => 0)

def quiescent_FsqCIdeal [hFsqCIdeal : Cert.FsqCIdeal.Facts] : Prop :=
  ∀ (m : (ℓ : Loc Cert.FsqCIdeal.nD Cert.FsqCIdeal.τ Cert.FsqCIdeal.sig) → Buf (Elt Ideal) ℓ) (g : Dev Cert.FsqCIdeal.nD → PrngReg), Pre_FsqCIdeal m →
    θ_run (Cert.FsqCIdeal.defs (F := Ideal)) (onTc (τ := Cert.FsqCIdeal.τ) (Cert.FsqCIdeal.main (F := Ideal))) ⟨m, fun _ => 0, g⟩ (fun r => (∀ c : Dev Cert.FsqCIdeal.nD,
      r.2.mem ((c.tc : Thread Cert.FsqCIdeal.nD Cert.FsqCIdeal.τ).loc Cert.FsqCIdeal.main_arg0) = m ((c.tc : Thread Cert.FsqCIdeal.nD Cert.FsqCIdeal.τ).loc Cert.FsqCIdeal.main_arg0)
      ∧ r.2.mem ((c.tc : Thread Cert.FsqCIdeal.nD Cert.FsqCIdeal.τ).loc Cert.FsqCIdeal.main_arg1) = m ((c.tc : Thread Cert.FsqCIdeal.nD Cert.FsqCIdeal.τ).loc Cert.FsqCIdeal.main_arg1))
      ∧ r.2.sem = fun _ => 0)

def quiescent_FsqCRefIdeal [hFsqCRefIdeal : Cert.FsqCRefIdeal.Facts] : Prop :=
  ∀ (m : (ℓ : Loc Cert.FsqCRefIdeal.nD Cert.FsqCRefIdeal.τ Cert.FsqCRefIdeal.sig) → Buf (Elt Ideal) ℓ) (g : Dev Cert.FsqCRefIdeal.nD → PrngReg), Pre_FsqCRefIdeal m →
    θ_run (Cert.FsqCRefIdeal.defs (F := Ideal)) (onTc (τ := Cert.FsqCRefIdeal.τ) (Cert.FsqCRefIdeal.main (F := Ideal))) ⟨m, fun _ => 0, g⟩ (fun r => (∀ c : Dev Cert.FsqCRefIdeal.nD,
      r.2.mem ((c.tc : Thread Cert.FsqCRefIdeal.nD Cert.FsqCRefIdeal.τ).loc Cert.FsqCRefIdeal.main_arg0) = m ((c.tc : Thread Cert.FsqCRefIdeal.nD Cert.FsqCRefIdeal.τ).loc Cert.FsqCRefIdeal.main_arg0)
      ∧ r.2.mem ((c.tc : Thread Cert.FsqCRefIdeal.nD Cert.FsqCRefIdeal.τ).loc Cert.FsqCRefIdeal.main_arg1) = m ((c.tc : Thread Cert.FsqCRefIdeal.nD Cert.FsqCRefIdeal.τ).loc Cert.FsqCRefIdeal.main_arg1))
      ∧ r.2.sem = fun _ => 0)

def quiescent_FsqS [hFsqS : Cert.FsqS.Facts] : Prop :=
  ∀ (m : (ℓ : Loc Cert.FsqS.nD Cert.FsqS.τ Cert.FsqS.sig) → Buf (Elt Bits) ℓ) (g : Dev Cert.FsqS.nD → PrngReg), Pre_FsqS m →
    θ_run (Cert.FsqS.defs (F := Bits)) (onTc (τ := Cert.FsqS.τ) (Cert.FsqS.main (F := Bits))) ⟨m, fun _ => 0, g⟩ (fun r => (∀ c : Dev Cert.FsqS.nD,
      r.2.mem ((c.tc : Thread Cert.FsqS.nD Cert.FsqS.τ).loc Cert.FsqS.main_arg0) = m ((c.tc : Thread Cert.FsqS.nD Cert.FsqS.τ).loc Cert.FsqS.main_arg0)
      ∧ r.2.mem ((c.tc : Thread Cert.FsqS.nD Cert.FsqS.τ).loc Cert.FsqS.main_arg1) = m ((c.tc : Thread Cert.FsqS.nD Cert.FsqS.τ).loc Cert.FsqS.main_arg1))
      ∧ r.2.sem = fun _ => 0)

def quiescent_FsqSIdeal [hFsqSIdeal : Cert.FsqSIdeal.Facts] : Prop :=
  ∀ (m : (ℓ : Loc Cert.FsqSIdeal.nD Cert.FsqSIdeal.τ Cert.FsqSIdeal.sig) → Buf (Elt Ideal) ℓ) (g : Dev Cert.FsqSIdeal.nD → PrngReg), Pre_FsqSIdeal m →
    θ_run (Cert.FsqSIdeal.defs (F := Ideal)) (onTc (τ := Cert.FsqSIdeal.τ) (Cert.FsqSIdeal.main (F := Ideal))) ⟨m, fun _ => 0, g⟩ (fun r => (∀ c : Dev Cert.FsqSIdeal.nD,
      r.2.mem ((c.tc : Thread Cert.FsqSIdeal.nD Cert.FsqSIdeal.τ).loc Cert.FsqSIdeal.main_arg0) = m ((c.tc : Thread Cert.FsqSIdeal.nD Cert.FsqSIdeal.τ).loc Cert.FsqSIdeal.main_arg0)
      ∧ r.2.mem ((c.tc : Thread Cert.FsqSIdeal.nD Cert.FsqSIdeal.τ).loc Cert.FsqSIdeal.main_arg1) = m ((c.tc : Thread Cert.FsqSIdeal.nD Cert.FsqSIdeal.τ).loc Cert.FsqSIdeal.main_arg1))
      ∧ r.2.sem = fun _ => 0)

def quiescent_FsqSRefIdeal [hFsqSRefIdeal : Cert.FsqSRefIdeal.Facts] : Prop :=
  ∀ (m : (ℓ : Loc Cert.FsqSRefIdeal.nD Cert.FsqSRefIdeal.τ Cert.FsqSRefIdeal.sig) → Buf (Elt Ideal) ℓ) (g : Dev Cert.FsqSRefIdeal.nD → PrngReg), Pre_FsqSRefIdeal m →
    θ_run (Cert.FsqSRefIdeal.defs (F := Ideal)) (onTc (τ := Cert.FsqSRefIdeal.τ) (Cert.FsqSRefIdeal.main (F := Ideal))) ⟨m, fun _ => 0, g⟩ (fun r => (∀ c : Dev Cert.FsqSRefIdeal.nD,
      r.2.mem ((c.tc : Thread Cert.FsqSRefIdeal.nD Cert.FsqSRefIdeal.τ).loc Cert.FsqSRefIdeal.main_arg0) = m ((c.tc : Thread Cert.FsqSRefIdeal.nD Cert.FsqSRefIdeal.τ).loc Cert.FsqSRefIdeal.main_arg0)
      ∧ r.2.mem ((c.tc : Thread Cert.FsqSRefIdeal.nD Cert.FsqSRefIdeal.τ).loc Cert.FsqSRefIdeal.main_arg1) = m ((c.tc : Thread Cert.FsqSRefIdeal.nD Cert.FsqSRefIdeal.τ).loc Cert.FsqSRefIdeal.main_arg1))
      ∧ r.2.sem = fun _ => 0)

def quiescent_FsqA [hFsqA : Cert.FsqA.Facts] : Prop :=
  ∀ (m : (ℓ : Loc Cert.FsqA.nD Cert.FsqA.τ Cert.FsqA.sig) → Buf (Elt Bits) ℓ) (g : Dev Cert.FsqA.nD → PrngReg), Pre_FsqA m →
    θ_run (Cert.FsqA.defs (F := Bits)) (onTc (τ := Cert.FsqA.τ) (Cert.FsqA.main (F := Bits))) ⟨m, fun _ => 0, g⟩ (fun r => (∀ c : Dev Cert.FsqA.nD,
      r.2.mem ((c.tc : Thread Cert.FsqA.nD Cert.FsqA.τ).loc Cert.FsqA.main_arg0) = m ((c.tc : Thread Cert.FsqA.nD Cert.FsqA.τ).loc Cert.FsqA.main_arg0)
      ∧ r.2.mem ((c.tc : Thread Cert.FsqA.nD Cert.FsqA.τ).loc Cert.FsqA.main_arg1) = m ((c.tc : Thread Cert.FsqA.nD Cert.FsqA.τ).loc Cert.FsqA.main_arg1))
      ∧ r.2.sem = fun _ => 0)

def quiescent_FsqAIdeal [hFsqAIdeal : Cert.FsqAIdeal.Facts] : Prop :=
  ∀ (m : (ℓ : Loc Cert.FsqAIdeal.nD Cert.FsqAIdeal.τ Cert.FsqAIdeal.sig) → Buf (Elt Ideal) ℓ) (g : Dev Cert.FsqAIdeal.nD → PrngReg), Pre_FsqAIdeal m →
    θ_run (Cert.FsqAIdeal.defs (F := Ideal)) (onTc (τ := Cert.FsqAIdeal.τ) (Cert.FsqAIdeal.main (F := Ideal))) ⟨m, fun _ => 0, g⟩ (fun r => (∀ c : Dev Cert.FsqAIdeal.nD,
      r.2.mem ((c.tc : Thread Cert.FsqAIdeal.nD Cert.FsqAIdeal.τ).loc Cert.FsqAIdeal.main_arg0) = m ((c.tc : Thread Cert.FsqAIdeal.nD Cert.FsqAIdeal.τ).loc Cert.FsqAIdeal.main_arg0)
      ∧ r.2.mem ((c.tc : Thread Cert.FsqAIdeal.nD Cert.FsqAIdeal.τ).loc Cert.FsqAIdeal.main_arg1) = m ((c.tc : Thread Cert.FsqAIdeal.nD Cert.FsqAIdeal.τ).loc Cert.FsqAIdeal.main_arg1))
      ∧ r.2.sem = fun _ => 0)

def quiescent_FsqARefIdeal [hFsqARefIdeal : Cert.FsqARefIdeal.Facts] : Prop :=
  ∀ (m : (ℓ : Loc Cert.FsqARefIdeal.nD Cert.FsqARefIdeal.τ Cert.FsqARefIdeal.sig) → Buf (Elt Ideal) ℓ) (g : Dev Cert.FsqARefIdeal.nD → PrngReg), Pre_FsqARefIdeal m →
    θ_run (Cert.FsqARefIdeal.defs (F := Ideal)) (onTc (τ := Cert.FsqARefIdeal.τ) (Cert.FsqARefIdeal.main (F := Ideal))) ⟨m, fun _ => 0, g⟩ (fun r => (∀ c : Dev Cert.FsqARefIdeal.nD,
      r.2.mem ((c.tc : Thread Cert.FsqARefIdeal.nD Cert.FsqARefIdeal.τ).loc Cert.FsqARefIdeal.main_arg0) = m ((c.tc : Thread Cert.FsqARefIdeal.nD Cert.FsqARefIdeal.τ).loc Cert.FsqARefIdeal.main_arg0)
      ∧ r.2.mem ((c.tc : Thread Cert.FsqARefIdeal.nD Cert.FsqARefIdeal.τ).loc Cert.FsqARefIdeal.main_arg1) = m ((c.tc : Thread Cert.FsqARefIdeal.nD Cert.FsqARefIdeal.τ).loc Cert.FsqARefIdeal.main_arg1))
      ∧ r.2.sem = fun _ => 0)

def quiescent_FsqO [hFsqO : Cert.FsqO.Facts] : Prop :=
  ∀ (m : (ℓ : Loc Cert.FsqO.nD Cert.FsqO.τ Cert.FsqO.sig) → Buf (Elt Bits) ℓ) (g : Dev Cert.FsqO.nD → PrngReg), Pre_FsqO m →
    θ_run (Cert.FsqO.defs (F := Bits)) (onTc (τ := Cert.FsqO.τ) (Cert.FsqO.main (F := Bits))) ⟨m, fun _ => 0, g⟩ (fun r => (∀ c : Dev Cert.FsqO.nD,
      r.2.mem ((c.tc : Thread Cert.FsqO.nD Cert.FsqO.τ).loc Cert.FsqO.main_arg0) = m ((c.tc : Thread Cert.FsqO.nD Cert.FsqO.τ).loc Cert.FsqO.main_arg0)
      ∧ r.2.mem ((c.tc : Thread Cert.FsqO.nD Cert.FsqO.τ).loc Cert.FsqO.main_arg1) = m ((c.tc : Thread Cert.FsqO.nD Cert.FsqO.τ).loc Cert.FsqO.main_arg1)
      ∧ r.2.mem ((c.tc : Thread Cert.FsqO.nD Cert.FsqO.τ).loc Cert.FsqO.main_arg2) = m ((c.tc : Thread Cert.FsqO.nD Cert.FsqO.τ).loc Cert.FsqO.main_arg2))
      ∧ r.2.sem = fun _ => 0)

def quiescent_FsqOIdeal [hFsqOIdeal : Cert.FsqOIdeal.Facts] : Prop :=
  ∀ (m : (ℓ : Loc Cert.FsqOIdeal.nD Cert.FsqOIdeal.τ Cert.FsqOIdeal.sig) → Buf (Elt Ideal) ℓ) (g : Dev Cert.FsqOIdeal.nD → PrngReg), Pre_FsqOIdeal m →
    θ_run (Cert.FsqOIdeal.defs (F := Ideal)) (onTc (τ := Cert.FsqOIdeal.τ) (Cert.FsqOIdeal.main (F := Ideal))) ⟨m, fun _ => 0, g⟩ (fun r => (∀ c : Dev Cert.FsqOIdeal.nD,
      r.2.mem ((c.tc : Thread Cert.FsqOIdeal.nD Cert.FsqOIdeal.τ).loc Cert.FsqOIdeal.main_arg0) = m ((c.tc : Thread Cert.FsqOIdeal.nD Cert.FsqOIdeal.τ).loc Cert.FsqOIdeal.main_arg0)
      ∧ r.2.mem ((c.tc : Thread Cert.FsqOIdeal.nD Cert.FsqOIdeal.τ).loc Cert.FsqOIdeal.main_arg1) = m ((c.tc : Thread Cert.FsqOIdeal.nD Cert.FsqOIdeal.τ).loc Cert.FsqOIdeal.main_arg1)
      ∧ r.2.mem ((c.tc : Thread Cert.FsqOIdeal.nD Cert.FsqOIdeal.τ).loc Cert.FsqOIdeal.main_arg2) = m ((c.tc : Thread Cert.FsqOIdeal.nD Cert.FsqOIdeal.τ).loc Cert.FsqOIdeal.main_arg2))
      ∧ r.2.sem = fun _ => 0)

def quiescent_FsqORefIdeal [hFsqORefIdeal : Cert.FsqORefIdeal.Facts] : Prop :=
  ∀ (m : (ℓ : Loc Cert.FsqORefIdeal.nD Cert.FsqORefIdeal.τ Cert.FsqORefIdeal.sig) → Buf (Elt Ideal) ℓ) (g : Dev Cert.FsqORefIdeal.nD → PrngReg), Pre_FsqORefIdeal m →
    θ_run (Cert.FsqORefIdeal.defs (F := Ideal)) (onTc (τ := Cert.FsqORefIdeal.τ) (Cert.FsqORefIdeal.main (F := Ideal))) ⟨m, fun _ => 0, g⟩ (fun r => (∀ c : Dev Cert.FsqORefIdeal.nD,
      r.2.mem ((c.tc : Thread Cert.FsqORefIdeal.nD Cert.FsqORefIdeal.τ).loc Cert.FsqORefIdeal.main_arg0) = m ((c.tc : Thread Cert.FsqORefIdeal.nD Cert.FsqORefIdeal.τ).loc Cert.FsqORefIdeal.main_arg0)
      ∧ r.2.mem ((c.tc : Thread Cert.FsqORefIdeal.nD Cert.FsqORefIdeal.τ).loc Cert.FsqORefIdeal.main_arg1) = m ((c.tc : Thread Cert.FsqORefIdeal.nD Cert.FsqORefIdeal.τ).loc Cert.FsqORefIdeal.main_arg1)
      ∧ r.2.mem ((c.tc : Thread Cert.FsqORefIdeal.nD Cert.FsqORefIdeal.τ).loc Cert.FsqORefIdeal.main_arg2) = m ((c.tc : Thread Cert.FsqORefIdeal.nD Cert.FsqORefIdeal.τ).loc Cert.FsqORefIdeal.main_arg2))
      ∧ r.2.sem = fun _ => 0)

def quiescent_Dconv [hDconv : Cert.Dconv.Facts] : Prop :=
  ∀ (m : (ℓ : Loc Cert.Dconv.nD Cert.Dconv.τ Cert.Dconv.sig) → Buf (Elt Bits) ℓ) (g : Dev Cert.Dconv.nD → PrngReg), Pre_Dconv m →
    θ_run (Cert.Dconv.defs (F := Bits)) (onTc (τ := Cert.Dconv.τ) (Cert.Dconv.main (F := Bits))) ⟨m, fun _ => 0, g⟩ (fun r => (∀ c : Dev Cert.Dconv.nD,
      r.2.mem ((c.tc : Thread Cert.Dconv.nD Cert.Dconv.τ).loc Cert.Dconv.main_arg0) = m ((c.tc : Thread Cert.Dconv.nD Cert.Dconv.τ).loc Cert.Dconv.main_arg0)
      ∧ r.2.mem ((c.tc : Thread Cert.Dconv.nD Cert.Dconv.τ).loc Cert.Dconv.main_arg1) = m ((c.tc : Thread Cert.Dconv.nD Cert.Dconv.τ).loc Cert.Dconv.main_arg1)
      ∧ r.2.mem ((c.tc : Thread Cert.Dconv.nD Cert.Dconv.τ).loc Cert.Dconv.main_arg2) = m ((c.tc : Thread Cert.Dconv.nD Cert.Dconv.τ).loc Cert.Dconv.main_arg2))
      ∧ r.2.sem = fun _ => 0)

def quiescent_DconvIdeal [hDconvIdeal : Cert.DconvIdeal.Facts] : Prop :=
  ∀ (m : (ℓ : Loc Cert.DconvIdeal.nD Cert.DconvIdeal.τ Cert.DconvIdeal.sig) → Buf (Elt Ideal) ℓ) (g : Dev Cert.DconvIdeal.nD → PrngReg), Pre_DconvIdeal m →
    θ_run (Cert.DconvIdeal.defs (F := Ideal)) (onTc (τ := Cert.DconvIdeal.τ) (Cert.DconvIdeal.main (F := Ideal))) ⟨m, fun _ => 0, g⟩ (fun r => (∀ c : Dev Cert.DconvIdeal.nD,
      r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
      ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
      ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2))
      ∧ r.2.sem = fun _ => 0)

def quiescent_DconvRefIdeal [hDconvRefIdeal : Cert.DconvRefIdeal.Facts] : Prop :=
  ∀ (m : (ℓ : Loc Cert.DconvRefIdeal.nD Cert.DconvRefIdeal.τ Cert.DconvRefIdeal.sig) → Buf (Elt Ideal) ℓ) (g : Dev Cert.DconvRefIdeal.nD → PrngReg), Pre_DconvRefIdeal m →
    θ_run (Cert.DconvRefIdeal.defs (F := Ideal)) (onTc (τ := Cert.DconvRefIdeal.τ) (Cert.DconvRefIdeal.main (F := Ideal))) ⟨m, fun _ => 0, g⟩ (fun r => (∀ c : Dev Cert.DconvRefIdeal.nD,
      r.2.mem ((c.tc : Thread Cert.DconvRefIdeal.nD Cert.DconvRefIdeal.τ).loc Cert.DconvRefIdeal.main_arg0) = m ((c.tc : Thread Cert.DconvRefIdeal.nD Cert.DconvRefIdeal.τ).loc Cert.DconvRefIdeal.main_arg0)
      ∧ r.2.mem ((c.tc : Thread Cert.DconvRefIdeal.nD Cert.DconvRefIdeal.τ).loc Cert.DconvRefIdeal.main_arg1) = m ((c.tc : Thread Cert.DconvRefIdeal.nD Cert.DconvRefIdeal.τ).loc Cert.DconvRefIdeal.main_arg1)
      ∧ r.2.mem ((c.tc : Thread Cert.DconvRefIdeal.nD Cert.DconvRefIdeal.τ).loc Cert.DconvRefIdeal.main_arg2) = m ((c.tc : Thread Cert.DconvRefIdeal.nD Cert.DconvRefIdeal.τ).loc Cert.DconvRefIdeal.main_arg2))
      ∧ r.2.sem = fun _ => 0)

def quiescent_Frms [hFrms : Cert.Frms.Facts] : Prop :=
  ∀ (m : (ℓ : Loc Cert.Frms.nD Cert.Frms.τ Cert.Frms.sig) → Buf (Elt Bits) ℓ) (g : Dev Cert.Frms.nD → PrngReg), Pre_Frms m →
    θ_run (Cert.Frms.defs (F := Bits)) (onTc (τ := Cert.Frms.τ) (Cert.Frms.main (F := Bits))) ⟨m, fun _ => 0, g⟩ (fun r => (∀ c : Dev Cert.Frms.nD,
      r.2.mem ((c.tc : Thread Cert.Frms.nD Cert.Frms.τ).loc Cert.Frms.main_arg0) = m ((c.tc : Thread Cert.Frms.nD Cert.Frms.τ).loc Cert.Frms.main_arg0)
      ∧ r.2.mem ((c.tc : Thread Cert.Frms.nD Cert.Frms.τ).loc Cert.Frms.main_arg1) = m ((c.tc : Thread Cert.Frms.nD Cert.Frms.τ).loc Cert.Frms.main_arg1))
      ∧ r.2.sem = fun _ => 0)

def quiescent_FrmsIdeal [hFrmsIdeal : Cert.FrmsIdeal.Facts] : Prop :=
  ∀ (m : (ℓ : Loc Cert.FrmsIdeal.nD Cert.FrmsIdeal.τ Cert.FrmsIdeal.sig) → Buf (Elt Ideal) ℓ) (g : Dev Cert.FrmsIdeal.nD → PrngReg), Pre_FrmsIdeal m →
    θ_run (Cert.FrmsIdeal.defs (F := Ideal)) (onTc (τ := Cert.FrmsIdeal.τ) (Cert.FrmsIdeal.main (F := Ideal))) ⟨m, fun _ => 0, g⟩ (fun r => (∀ c : Dev Cert.FrmsIdeal.nD,
      r.2.mem ((c.tc : Thread Cert.FrmsIdeal.nD Cert.FrmsIdeal.τ).loc Cert.FrmsIdeal.main_arg0) = m ((c.tc : Thread Cert.FrmsIdeal.nD Cert.FrmsIdeal.τ).loc Cert.FrmsIdeal.main_arg0)
      ∧ r.2.mem ((c.tc : Thread Cert.FrmsIdeal.nD Cert.FrmsIdeal.τ).loc Cert.FrmsIdeal.main_arg1) = m ((c.tc : Thread Cert.FrmsIdeal.nD Cert.FrmsIdeal.τ).loc Cert.FrmsIdeal.main_arg1))
      ∧ r.2.sem = fun _ => 0)

def quiescent_FrmsRefIdeal [hFrmsRefIdeal : Cert.FrmsRefIdeal.Facts] : Prop :=
  ∀ (m : (ℓ : Loc Cert.FrmsRefIdeal.nD Cert.FrmsRefIdeal.τ Cert.FrmsRefIdeal.sig) → Buf (Elt Ideal) ℓ) (g : Dev Cert.FrmsRefIdeal.nD → PrngReg), Pre_FrmsRefIdeal m →
    θ_run (Cert.FrmsRefIdeal.defs (F := Ideal)) (onTc (τ := Cert.FrmsRefIdeal.τ) (Cert.FrmsRefIdeal.main (F := Ideal))) ⟨m, fun _ => 0, g⟩ (fun r => (∀ c : Dev Cert.FrmsRefIdeal.nD,
      r.2.mem ((c.tc : Thread Cert.FrmsRefIdeal.nD Cert.FrmsRefIdeal.τ).loc Cert.FrmsRefIdeal.main_arg0) = m ((c.tc : Thread Cert.FrmsRefIdeal.nD Cert.FrmsRefIdeal.τ).loc Cert.FrmsRefIdeal.main_arg0)
      ∧ r.2.mem ((c.tc : Thread Cert.FrmsRefIdeal.nD Cert.FrmsRefIdeal.τ).loc Cert.FrmsRefIdeal.main_arg1) = m ((c.tc : Thread Cert.FrmsRefIdeal.nD Cert.FrmsRefIdeal.τ).loc Cert.FrmsRefIdeal.main_arg1))
      ∧ r.2.sem = fun _ => 0)

def quiescent_Fconv [hFconv : Cert.Fconv.Facts] : Prop :=
  ∀ (m : (ℓ : Loc Cert.Fconv.nD Cert.Fconv.τ Cert.Fconv.sig) → Buf (Elt Bits) ℓ) (g : Dev Cert.Fconv.nD → PrngReg), Pre_Fconv m →
    θ_run (Cert.Fconv.defs (F := Bits)) (onTc (τ := Cert.Fconv.τ) (Cert.Fconv.main (F := Bits))) ⟨m, fun _ => 0, g⟩ (fun r => (∀ c : Dev Cert.Fconv.nD,
      r.2.mem ((c.tc : Thread Cert.Fconv.nD Cert.Fconv.τ).loc Cert.Fconv.main_arg0) = m ((c.tc : Thread Cert.Fconv.nD Cert.Fconv.τ).loc Cert.Fconv.main_arg0)
      ∧ r.2.mem ((c.tc : Thread Cert.Fconv.nD Cert.Fconv.τ).loc Cert.Fconv.main_arg1) = m ((c.tc : Thread Cert.Fconv.nD Cert.Fconv.τ).loc Cert.Fconv.main_arg1))
      ∧ r.2.sem = fun _ => 0)

def quiescent_FconvIdeal [hFconvIdeal : Cert.FconvIdeal.Facts] : Prop :=
  ∀ (m : (ℓ : Loc Cert.FconvIdeal.nD Cert.FconvIdeal.τ Cert.FconvIdeal.sig) → Buf (Elt Ideal) ℓ) (g : Dev Cert.FconvIdeal.nD → PrngReg), Pre_FconvIdeal m →
    θ_run (Cert.FconvIdeal.defs (F := Ideal)) (onTc (τ := Cert.FconvIdeal.τ) (Cert.FconvIdeal.main (F := Ideal))) ⟨m, fun _ => 0, g⟩ (fun r => (∀ c : Dev Cert.FconvIdeal.nD,
      r.2.mem ((c.tc : Thread Cert.FconvIdeal.nD Cert.FconvIdeal.τ).loc Cert.FconvIdeal.main_arg0) = m ((c.tc : Thread Cert.FconvIdeal.nD Cert.FconvIdeal.τ).loc Cert.FconvIdeal.main_arg0)
      ∧ r.2.mem ((c.tc : Thread Cert.FconvIdeal.nD Cert.FconvIdeal.τ).loc Cert.FconvIdeal.main_arg1) = m ((c.tc : Thread Cert.FconvIdeal.nD Cert.FconvIdeal.τ).loc Cert.FconvIdeal.main_arg1))
      ∧ r.2.sem = fun _ => 0)

def quiescent_FconvRefIdeal [hFconvRefIdeal : Cert.FconvRefIdeal.Facts] : Prop :=
  ∀ (m : (ℓ : Loc Cert.FconvRefIdeal.nD Cert.FconvRefIdeal.τ Cert.FconvRefIdeal.sig) → Buf (Elt Ideal) ℓ) (g : Dev Cert.FconvRefIdeal.nD → PrngReg), Pre_FconvRefIdeal m →
    θ_run (Cert.FconvRefIdeal.defs (F := Ideal)) (onTc (τ := Cert.FconvRefIdeal.τ) (Cert.FconvRefIdeal.main (F := Ideal))) ⟨m, fun _ => 0, g⟩ (fun r => (∀ c : Dev Cert.FconvRefIdeal.nD,
      r.2.mem ((c.tc : Thread Cert.FconvRefIdeal.nD Cert.FconvRefIdeal.τ).loc Cert.FconvRefIdeal.main_arg0) = m ((c.tc : Thread Cert.FconvRefIdeal.nD Cert.FconvRefIdeal.τ).loc Cert.FconvRefIdeal.main_arg0)
      ∧ r.2.mem ((c.tc : Thread Cert.FconvRefIdeal.nD Cert.FconvRefIdeal.τ).loc Cert.FconvRefIdeal.main_arg1) = m ((c.tc : Thread Cert.FconvRefIdeal.nD Cert.FconvRefIdeal.τ).loc Cert.FconvRefIdeal.main_arg1))
      ∧ r.2.sem = fun _ => 0)

def quiescent_Fmerge [hFmerge : Cert.Fmerge.Facts] : Prop :=
  ∀ (m : (ℓ : Loc Cert.Fmerge.nD Cert.Fmerge.τ Cert.Fmerge.sig) → Buf (Elt Bits) ℓ) (g : Dev Cert.Fmerge.nD → PrngReg), Pre_Fmerge m →
    θ_run (Cert.Fmerge.defs (F := Bits)) (onTc (τ := Cert.Fmerge.τ) (Cert.Fmerge.main (F := Bits))) ⟨m, fun _ => 0, g⟩ (fun r => (∀ c : Dev Cert.Fmerge.nD,
      r.2.mem ((c.tc : Thread Cert.Fmerge.nD Cert.Fmerge.τ).loc Cert.Fmerge.main_arg0) = m ((c.tc : Thread Cert.Fmerge.nD Cert.Fmerge.τ).loc Cert.Fmerge.main_arg0)
      ∧ r.2.mem ((c.tc : Thread Cert.Fmerge.nD Cert.Fmerge.τ).loc Cert.Fmerge.main_arg1) = m ((c.tc : Thread Cert.Fmerge.nD Cert.Fmerge.τ).loc Cert.Fmerge.main_arg1)
      ∧ r.2.mem ((c.tc : Thread Cert.Fmerge.nD Cert.Fmerge.τ).loc Cert.Fmerge.main_arg2) = m ((c.tc : Thread Cert.Fmerge.nD Cert.Fmerge.τ).loc Cert.Fmerge.main_arg2)
      ∧ r.2.mem ((c.tc : Thread Cert.Fmerge.nD Cert.Fmerge.τ).loc Cert.Fmerge.main_arg3) = m ((c.tc : Thread Cert.Fmerge.nD Cert.Fmerge.τ).loc Cert.Fmerge.main_arg3)
      ∧ r.2.mem ((c.tc : Thread Cert.Fmerge.nD Cert.Fmerge.τ).loc Cert.Fmerge.main_arg4) = m ((c.tc : Thread Cert.Fmerge.nD Cert.Fmerge.τ).loc Cert.Fmerge.main_arg4))
      ∧ r.2.sem = fun _ => 0)

def quiescent_FmergeIdeal [hFmergeIdeal : Cert.FmergeIdeal.Facts] : Prop :=
  ∀ (m : (ℓ : Loc Cert.FmergeIdeal.nD Cert.FmergeIdeal.τ Cert.FmergeIdeal.sig) → Buf (Elt Ideal) ℓ) (g : Dev Cert.FmergeIdeal.nD → PrngReg), Pre_FmergeIdeal m →
    θ_run (Cert.FmergeIdeal.defs (F := Ideal)) (onTc (τ := Cert.FmergeIdeal.τ) (Cert.FmergeIdeal.main (F := Ideal))) ⟨m, fun _ => 0, g⟩ (fun r => (∀ c : Dev Cert.FmergeIdeal.nD,
      r.2.mem ((c.tc : Thread Cert.FmergeIdeal.nD Cert.FmergeIdeal.τ).loc Cert.FmergeIdeal.main_arg0) = m ((c.tc : Thread Cert.FmergeIdeal.nD Cert.FmergeIdeal.τ).loc Cert.FmergeIdeal.main_arg0)
      ∧ r.2.mem ((c.tc : Thread Cert.FmergeIdeal.nD Cert.FmergeIdeal.τ).loc Cert.FmergeIdeal.main_arg1) = m ((c.tc : Thread Cert.FmergeIdeal.nD Cert.FmergeIdeal.τ).loc Cert.FmergeIdeal.main_arg1)
      ∧ r.2.mem ((c.tc : Thread Cert.FmergeIdeal.nD Cert.FmergeIdeal.τ).loc Cert.FmergeIdeal.main_arg2) = m ((c.tc : Thread Cert.FmergeIdeal.nD Cert.FmergeIdeal.τ).loc Cert.FmergeIdeal.main_arg2)
      ∧ r.2.mem ((c.tc : Thread Cert.FmergeIdeal.nD Cert.FmergeIdeal.τ).loc Cert.FmergeIdeal.main_arg3) = m ((c.tc : Thread Cert.FmergeIdeal.nD Cert.FmergeIdeal.τ).loc Cert.FmergeIdeal.main_arg3)
      ∧ r.2.mem ((c.tc : Thread Cert.FmergeIdeal.nD Cert.FmergeIdeal.τ).loc Cert.FmergeIdeal.main_arg4) = m ((c.tc : Thread Cert.FmergeIdeal.nD Cert.FmergeIdeal.τ).loc Cert.FmergeIdeal.main_arg4))
      ∧ r.2.sem = fun _ => 0)

def quiescent_FmergeRefIdeal [hFmergeRefIdeal : Cert.FmergeRefIdeal.Facts] : Prop :=
  ∀ (m : (ℓ : Loc Cert.FmergeRefIdeal.nD Cert.FmergeRefIdeal.τ Cert.FmergeRefIdeal.sig) → Buf (Elt Ideal) ℓ) (g : Dev Cert.FmergeRefIdeal.nD → PrngReg), Pre_FmergeRefIdeal m →
    θ_run (Cert.FmergeRefIdeal.defs (F := Ideal)) (onTc (τ := Cert.FmergeRefIdeal.τ) (Cert.FmergeRefIdeal.main (F := Ideal))) ⟨m, fun _ => 0, g⟩ (fun r => (∀ c : Dev Cert.FmergeRefIdeal.nD,
      r.2.mem ((c.tc : Thread Cert.FmergeRefIdeal.nD Cert.FmergeRefIdeal.τ).loc Cert.FmergeRefIdeal.main_arg0) = m ((c.tc : Thread Cert.FmergeRefIdeal.nD Cert.FmergeRefIdeal.τ).loc Cert.FmergeRefIdeal.main_arg0)
      ∧ r.2.mem ((c.tc : Thread Cert.FmergeRefIdeal.nD Cert.FmergeRefIdeal.τ).loc Cert.FmergeRefIdeal.main_arg1) = m ((c.tc : Thread Cert.FmergeRefIdeal.nD Cert.FmergeRefIdeal.τ).loc Cert.FmergeRefIdeal.main_arg1)
      ∧ r.2.mem ((c.tc : Thread Cert.FmergeRefIdeal.nD Cert.FmergeRefIdeal.τ).loc Cert.FmergeRefIdeal.main_arg2) = m ((c.tc : Thread Cert.FmergeRefIdeal.nD Cert.FmergeRefIdeal.τ).loc Cert.FmergeRefIdeal.main_arg2)
      ∧ r.2.mem ((c.tc : Thread Cert.FmergeRefIdeal.nD Cert.FmergeRefIdeal.τ).loc Cert.FmergeRefIdeal.main_arg3) = m ((c.tc : Thread Cert.FmergeRefIdeal.nD Cert.FmergeRefIdeal.τ).loc Cert.FmergeRefIdeal.main_arg3)
      ∧ r.2.mem ((c.tc : Thread Cert.FmergeRefIdeal.nD Cert.FmergeRefIdeal.τ).loc Cert.FmergeRefIdeal.main_arg4) = m ((c.tc : Thread Cert.FmergeRefIdeal.nD Cert.FmergeRefIdeal.τ).loc Cert.FmergeRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dgu_DguIdeal : Prop :=
  True

def algebraic_DguIdeal_DguRefIdeal_pre_finite_dgu [hDguIdeal : Cert.DguIdeal.Facts] [hDguRefIdeal : Cert.DguRefIdeal.Facts] [hPre_finite_dgu : Cert.Pre_finite_dgu.Facts] : Prop :=
  ∀ (m : (ℓ : Loc Cert.DguIdeal.nD Cert.DguIdeal.τ Cert.DguIdeal.sig) → Buf (Elt Ideal) ℓ) (g : Dev Cert.DguIdeal.nD → PrngReg)
    (m' : (ℓ : Loc Cert.DguRefIdeal.nD Cert.DguRefIdeal.τ Cert.DguRefIdeal.sig) → Buf (Elt Ideal) ℓ) (g' : Dev Cert.DguRefIdeal.nD → PrngReg), Pre_DguIdeal_finite_dgu m →
    (∀ c : Dev Cert.DguIdeal.nD,
      m' ((c.tc : Thread Cert.DguRefIdeal.nD Cert.DguRefIdeal.τ).loc Cert.DguRefIdeal.main_arg0) = m ((c.tc : Thread Cert.DguIdeal.nD Cert.DguIdeal.τ).loc Cert.DguIdeal.main_arg0)
      ∧ m' ((c.tc : Thread Cert.DguRefIdeal.nD Cert.DguRefIdeal.τ).loc Cert.DguRefIdeal.main_arg1) = m ((c.tc : Thread Cert.DguIdeal.nD Cert.DguIdeal.τ).loc Cert.DguIdeal.main_arg1)
      ∧ m' ((c.tc : Thread Cert.DguRefIdeal.nD Cert.DguRefIdeal.τ).loc Cert.DguRefIdeal.main_arg2) = m ((c.tc : Thread Cert.DguIdeal.nD Cert.DguIdeal.τ).loc Cert.DguIdeal.main_arg2)) →
    ∃ (v0 : (c : Dev Cert.DguIdeal.nD) → Buf (Elt Ideal) ((c.tc : Thread Cert.DguIdeal.nD Cert.DguIdeal.τ).loc Cert.DguIdeal.main_v0)),
      θ_run (Cert.DguIdeal.defs (F := Ideal)) (onTc (τ := Cert.DguIdeal.τ) (Cert.DguIdeal.main (F := Ideal))) ⟨m, fun _ => 0, g⟩ (fun r => ∀ c : Dev Cert.DguIdeal.nD,
          r.2.mem ((c.tc : Thread Cert.DguIdeal.nD Cert.DguIdeal.τ).loc Cert.DguIdeal.main_v0) = v0 c
          ∧ r.2.mem ((c.tc : Thread Cert.DguIdeal.nD Cert.DguIdeal.τ).loc Cert.DguIdeal.main_arg0) = m ((c.tc : Thread Cert.DguIdeal.nD Cert.DguIdeal.τ).loc Cert.DguIdeal.main_arg0)
          ∧ r.2.mem ((c.tc : Thread Cert.DguIdeal.nD Cert.DguIdeal.τ).loc Cert.DguIdeal.main_arg1) = m ((c.tc : Thread Cert.DguIdeal.nD Cert.DguIdeal.τ).loc Cert.DguIdeal.main_arg1)
          ∧ r.2.mem ((c.tc : Thread Cert.DguIdeal.nD Cert.DguIdeal.τ).loc Cert.DguIdeal.main_arg2) = m ((c.tc : Thread Cert.DguIdeal.nD Cert.DguIdeal.τ).loc Cert.DguIdeal.main_arg2))
      ∧ θ_run (Cert.DguRefIdeal.defs (F := Ideal)) (onTc (τ := Cert.DguRefIdeal.τ) (Cert.DguRefIdeal.main (F := Ideal))) ⟨m', fun _ => 0, g'⟩ (fun r => ∀ c : Dev Cert.DguRefIdeal.nD,
          r.2.mem ((c.tc : Thread Cert.DguRefIdeal.nD Cert.DguRefIdeal.τ).loc Cert.DguRefIdeal.main_v23) = v0 c
          ∧ r.2.mem ((c.tc : Thread Cert.DguRefIdeal.nD Cert.DguRefIdeal.τ).loc Cert.DguRefIdeal.main_arg0) = m' ((c.tc : Thread Cert.DguRefIdeal.nD Cert.DguRefIdeal.τ).loc Cert.DguRefIdeal.main_arg0)
          ∧ r.2.mem ((c.tc : Thread Cert.DguRefIdeal.nD Cert.DguRefIdeal.τ).loc Cert.DguRefIdeal.main_arg1) = m' ((c.tc : Thread Cert.DguRefIdeal.nD Cert.DguRefIdeal.τ).loc Cert.DguRefIdeal.main_arg1)
          ∧ r.2.mem ((c.tc : Thread Cert.DguRefIdeal.nD Cert.DguRefIdeal.τ).loc Cert.DguRefIdeal.main_arg2) = m' ((c.tc : Thread Cert.DguRefIdeal.nD Cert.DguRefIdeal.τ).loc Cert.DguRefIdeal.main_arg2))

def preserves_Drms_DrmsIdeal : Prop :=
  True

def algebraic_DrmsIdeal_DrmsRefIdeal_pre_finite_drms [hDrmsIdeal : Cert.DrmsIdeal.Facts] [hDrmsRefIdeal : Cert.DrmsRefIdeal.Facts] [hPre_finite_drms : Cert.Pre_finite_drms.Facts] : Prop :=
  ∀ (m : (ℓ : Loc Cert.DrmsIdeal.nD Cert.DrmsIdeal.τ Cert.DrmsIdeal.sig) → Buf (Elt Ideal) ℓ) (g : Dev Cert.DrmsIdeal.nD → PrngReg)
    (m' : (ℓ : Loc Cert.DrmsRefIdeal.nD Cert.DrmsRefIdeal.τ Cert.DrmsRefIdeal.sig) → Buf (Elt Ideal) ℓ) (g' : Dev Cert.DrmsRefIdeal.nD → PrngReg), Pre_DrmsIdeal_finite_drms m →
    (∀ c : Dev Cert.DrmsIdeal.nD,
      m' ((c.tc : Thread Cert.DrmsRefIdeal.nD Cert.DrmsRefIdeal.τ).loc Cert.DrmsRefIdeal.main_arg0) = m ((c.tc : Thread Cert.DrmsIdeal.nD Cert.DrmsIdeal.τ).loc Cert.DrmsIdeal.main_arg0)
      ∧ m' ((c.tc : Thread Cert.DrmsRefIdeal.nD Cert.DrmsRefIdeal.τ).loc Cert.DrmsRefIdeal.main_arg1) = m ((c.tc : Thread Cert.DrmsIdeal.nD Cert.DrmsIdeal.τ).loc Cert.DrmsIdeal.main_arg1)
      ∧ m' ((c.tc : Thread Cert.DrmsRefIdeal.nD Cert.DrmsRefIdeal.τ).loc Cert.DrmsRefIdeal.main_arg2) = m ((c.tc : Thread Cert.DrmsIdeal.nD Cert.DrmsIdeal.τ).loc Cert.DrmsIdeal.main_arg2)
      ∧ m' ((c.tc : Thread Cert.DrmsRefIdeal.nD Cert.DrmsRefIdeal.τ).loc Cert.DrmsRefIdeal.main_arg3) = m ((c.tc : Thread Cert.DrmsIdeal.nD Cert.DrmsIdeal.τ).loc Cert.DrmsIdeal.main_arg3)) →
    ∃ (v0 : (c : Dev Cert.DrmsIdeal.nD) → Buf (Elt Ideal) ((c.tc : Thread Cert.DrmsIdeal.nD Cert.DrmsIdeal.τ).loc Cert.DrmsIdeal.main_v0_0)) (v1 : (c : Dev Cert.DrmsIdeal.nD) → Buf (Elt Ideal) ((c.tc : Thread Cert.DrmsIdeal.nD Cert.DrmsIdeal.τ).loc Cert.DrmsIdeal.main_v0_1)),
      θ_run (Cert.DrmsIdeal.defs (F := Ideal)) (onTc (τ := Cert.DrmsIdeal.τ) (Cert.DrmsIdeal.main (F := Ideal))) ⟨m, fun _ => 0, g⟩ (fun r => ∀ c : Dev Cert.DrmsIdeal.nD,
          r.2.mem ((c.tc : Thread Cert.DrmsIdeal.nD Cert.DrmsIdeal.τ).loc Cert.DrmsIdeal.main_v0_0) = v0 c
          ∧ r.2.mem ((c.tc : Thread Cert.DrmsIdeal.nD Cert.DrmsIdeal.τ).loc Cert.DrmsIdeal.main_v0_1) = v1 c
          ∧ r.2.mem ((c.tc : Thread Cert.DrmsIdeal.nD Cert.DrmsIdeal.τ).loc Cert.DrmsIdeal.main_arg0) = m ((c.tc : Thread Cert.DrmsIdeal.nD Cert.DrmsIdeal.τ).loc Cert.DrmsIdeal.main_arg0)
          ∧ r.2.mem ((c.tc : Thread Cert.DrmsIdeal.nD Cert.DrmsIdeal.τ).loc Cert.DrmsIdeal.main_arg1) = m ((c.tc : Thread Cert.DrmsIdeal.nD Cert.DrmsIdeal.τ).loc Cert.DrmsIdeal.main_arg1)
          ∧ r.2.mem ((c.tc : Thread Cert.DrmsIdeal.nD Cert.DrmsIdeal.τ).loc Cert.DrmsIdeal.main_arg2) = m ((c.tc : Thread Cert.DrmsIdeal.nD Cert.DrmsIdeal.τ).loc Cert.DrmsIdeal.main_arg2)
          ∧ r.2.mem ((c.tc : Thread Cert.DrmsIdeal.nD Cert.DrmsIdeal.τ).loc Cert.DrmsIdeal.main_arg3) = m ((c.tc : Thread Cert.DrmsIdeal.nD Cert.DrmsIdeal.τ).loc Cert.DrmsIdeal.main_arg3))
      ∧ θ_run (Cert.DrmsRefIdeal.defs (F := Ideal)) (onTc (τ := Cert.DrmsRefIdeal.τ) (Cert.DrmsRefIdeal.main (F := Ideal))) ⟨m', fun _ => 0, g'⟩ (fun r => ∀ c : Dev Cert.DrmsRefIdeal.nD,
          r.2.mem ((c.tc : Thread Cert.DrmsRefIdeal.nD Cert.DrmsRefIdeal.τ).loc Cert.DrmsRefIdeal.main_v37) = v0 c
          ∧ r.2.mem ((c.tc : Thread Cert.DrmsRefIdeal.nD Cert.DrmsRefIdeal.τ).loc Cert.DrmsRefIdeal.main_v38) = v1 c
          ∧ r.2.mem ((c.tc : Thread Cert.DrmsRefIdeal.nD Cert.DrmsRefIdeal.τ).loc Cert.DrmsRefIdeal.main_arg0) = m' ((c.tc : Thread Cert.DrmsRefIdeal.nD Cert.DrmsRefIdeal.τ).loc Cert.DrmsRefIdeal.main_arg0)
          ∧ r.2.mem ((c.tc : Thread Cert.DrmsRefIdeal.nD Cert.DrmsRefIdeal.τ).loc Cert.DrmsRefIdeal.main_arg1) = m' ((c.tc : Thread Cert.DrmsRefIdeal.nD Cert.DrmsRefIdeal.τ).loc Cert.DrmsRefIdeal.main_arg1)
          ∧ r.2.mem ((c.tc : Thread Cert.DrmsRefIdeal.nD Cert.DrmsRefIdeal.τ).loc Cert.DrmsRefIdeal.main_arg2) = m' ((c.tc : Thread Cert.DrmsRefIdeal.nD Cert.DrmsRefIdeal.τ).loc Cert.DrmsRefIdeal.main_arg2)
          ∧ r.2.mem ((c.tc : Thread Cert.DrmsRefIdeal.nD Cert.DrmsRefIdeal.τ).loc Cert.DrmsRefIdeal.main_arg3) = m' ((c.tc : Thread Cert.DrmsRefIdeal.nD Cert.DrmsRefIdeal.τ).loc Cert.DrmsRefIdeal.main_arg3))

def preserves_Dqk_DqkIdeal : Prop :=
  True

def algebraic_DqkIdeal_DqkRefIdeal_pre_finite_dqk [hDqkIdeal : Cert.DqkIdeal.Facts] [hDqkRefIdeal : Cert.DqkRefIdeal.Facts] [hPre_finite_dqk : Cert.Pre_finite_dqk.Facts] : Prop :=
  ∀ (m : (ℓ : Loc Cert.DqkIdeal.nD Cert.DqkIdeal.τ Cert.DqkIdeal.sig) → Buf (Elt Ideal) ℓ) (g : Dev Cert.DqkIdeal.nD → PrngReg)
    (m' : (ℓ : Loc Cert.DqkRefIdeal.nD Cert.DqkRefIdeal.τ Cert.DqkRefIdeal.sig) → Buf (Elt Ideal) ℓ) (g' : Dev Cert.DqkRefIdeal.nD → PrngReg), Pre_DqkIdeal_finite_dqk m →
    (∀ c : Dev Cert.DqkIdeal.nD,
      m' ((c.tc : Thread Cert.DqkRefIdeal.nD Cert.DqkRefIdeal.τ).loc Cert.DqkRefIdeal.main_arg0) = m ((c.tc : Thread Cert.DqkIdeal.nD Cert.DqkIdeal.τ).loc Cert.DqkIdeal.main_arg0)
      ∧ m' ((c.tc : Thread Cert.DqkRefIdeal.nD Cert.DqkRefIdeal.τ).loc Cert.DqkRefIdeal.main_arg1) = m ((c.tc : Thread Cert.DqkIdeal.nD Cert.DqkIdeal.τ).loc Cert.DqkIdeal.main_arg1)
      ∧ m' ((c.tc : Thread Cert.DqkRefIdeal.nD Cert.DqkRefIdeal.τ).loc Cert.DqkRefIdeal.main_arg2) = m ((c.tc : Thread Cert.DqkIdeal.nD Cert.DqkIdeal.τ).loc Cert.DqkIdeal.main_arg2)
      ∧ m' ((c.tc : Thread Cert.DqkRefIdeal.nD Cert.DqkRefIdeal.τ).loc Cert.DqkRefIdeal.main_arg3) = m ((c.tc : Thread Cert.DqkIdeal.nD Cert.DqkIdeal.τ).loc Cert.DqkIdeal.main_arg3)
      ∧ m' ((c.tc : Thread Cert.DqkRefIdeal.nD Cert.DqkRefIdeal.τ).loc Cert.DqkRefIdeal.main_arg4) = m ((c.tc : Thread Cert.DqkIdeal.nD Cert.DqkIdeal.τ).loc Cert.DqkIdeal.main_arg4)
      ∧ m' ((c.tc : Thread Cert.DqkRefIdeal.nD Cert.DqkRefIdeal.τ).loc Cert.DqkRefIdeal.main_arg5) = m ((c.tc : Thread Cert.DqkIdeal.nD Cert.DqkIdeal.τ).loc Cert.DqkIdeal.main_arg5)) →
    ∃ (v0 : (c : Dev Cert.DqkIdeal.nD) → Buf (Elt Ideal) ((c.tc : Thread Cert.DqkIdeal.nD Cert.DqkIdeal.τ).loc Cert.DqkIdeal.main_v0_0)) (v1 : (c : Dev Cert.DqkIdeal.nD) → Buf (Elt Ideal) ((c.tc : Thread Cert.DqkIdeal.nD Cert.DqkIdeal.τ).loc Cert.DqkIdeal.main_v0_1)) (v2 : (c : Dev Cert.DqkIdeal.nD) → Buf (Elt Ideal) ((c.tc : Thread Cert.DqkIdeal.nD Cert.DqkIdeal.τ).loc Cert.DqkIdeal.main_v0_2)),
      θ_run (Cert.DqkIdeal.defs (F := Ideal)) (onTc (τ := Cert.DqkIdeal.τ) (Cert.DqkIdeal.main (F := Ideal))) ⟨m, fun _ => 0, g⟩ (fun r => ∀ c : Dev Cert.DqkIdeal.nD,
          r.2.mem ((c.tc : Thread Cert.DqkIdeal.nD Cert.DqkIdeal.τ).loc Cert.DqkIdeal.main_v0_0) = v0 c
          ∧ r.2.mem ((c.tc : Thread Cert.DqkIdeal.nD Cert.DqkIdeal.τ).loc Cert.DqkIdeal.main_v0_1) = v1 c
          ∧ r.2.mem ((c.tc : Thread Cert.DqkIdeal.nD Cert.DqkIdeal.τ).loc Cert.DqkIdeal.main_v0_2) = v2 c
          ∧ r.2.mem ((c.tc : Thread Cert.DqkIdeal.nD Cert.DqkIdeal.τ).loc Cert.DqkIdeal.main_arg0) = m ((c.tc : Thread Cert.DqkIdeal.nD Cert.DqkIdeal.τ).loc Cert.DqkIdeal.main_arg0)
          ∧ r.2.mem ((c.tc : Thread Cert.DqkIdeal.nD Cert.DqkIdeal.τ).loc Cert.DqkIdeal.main_arg1) = m ((c.tc : Thread Cert.DqkIdeal.nD Cert.DqkIdeal.τ).loc Cert.DqkIdeal.main_arg1)
          ∧ r.2.mem ((c.tc : Thread Cert.DqkIdeal.nD Cert.DqkIdeal.τ).loc Cert.DqkIdeal.main_arg2) = m ((c.tc : Thread Cert.DqkIdeal.nD Cert.DqkIdeal.τ).loc Cert.DqkIdeal.main_arg2)
          ∧ r.2.mem ((c.tc : Thread Cert.DqkIdeal.nD Cert.DqkIdeal.τ).loc Cert.DqkIdeal.main_arg3) = m ((c.tc : Thread Cert.DqkIdeal.nD Cert.DqkIdeal.τ).loc Cert.DqkIdeal.main_arg3)
          ∧ r.2.mem ((c.tc : Thread Cert.DqkIdeal.nD Cert.DqkIdeal.τ).loc Cert.DqkIdeal.main_arg4) = m ((c.tc : Thread Cert.DqkIdeal.nD Cert.DqkIdeal.τ).loc Cert.DqkIdeal.main_arg4)
          ∧ r.2.mem ((c.tc : Thread Cert.DqkIdeal.nD Cert.DqkIdeal.τ).loc Cert.DqkIdeal.main_arg5) = m ((c.tc : Thread Cert.DqkIdeal.nD Cert.DqkIdeal.τ).loc Cert.DqkIdeal.main_arg5))
      ∧ θ_run (Cert.DqkRefIdeal.defs (F := Ideal)) (onTc (τ := Cert.DqkRefIdeal.τ) (Cert.DqkRefIdeal.main (F := Ideal))) ⟨m', fun _ => 0, g'⟩ (fun r => ∀ c : Dev Cert.DqkRefIdeal.nD,
          r.2.mem ((c.tc : Thread Cert.DqkRefIdeal.nD Cert.DqkRefIdeal.τ).loc Cert.DqkRefIdeal.main_v83) = v0 c
          ∧ r.2.mem ((c.tc : Thread Cert.DqkRefIdeal.nD Cert.DqkRefIdeal.τ).loc Cert.DqkRefIdeal.main_v84) = v1 c
          ∧ r.2.mem ((c.tc : Thread Cert.DqkRefIdeal.nD Cert.DqkRefIdeal.τ).loc Cert.DqkRefIdeal.main_v85) = v2 c
          ∧ r.2.mem ((c.tc : Thread Cert.DqkRefIdeal.nD Cert.DqkRefIdeal.τ).loc Cert.DqkRefIdeal.main_arg0) = m' ((c.tc : Thread Cert.DqkRefIdeal.nD Cert.DqkRefIdeal.τ).loc Cert.DqkRefIdeal.main_arg0)
          ∧ r.2.mem ((c.tc : Thread Cert.DqkRefIdeal.nD Cert.DqkRefIdeal.τ).loc Cert.DqkRefIdeal.main_arg1) = m' ((c.tc : Thread Cert.DqkRefIdeal.nD Cert.DqkRefIdeal.τ).loc Cert.DqkRefIdeal.main_arg1)
          ∧ r.2.mem ((c.tc : Thread Cert.DqkRefIdeal.nD Cert.DqkRefIdeal.τ).loc Cert.DqkRefIdeal.main_arg2) = m' ((c.tc : Thread Cert.DqkRefIdeal.nD Cert.DqkRefIdeal.τ).loc Cert.DqkRefIdeal.main_arg2)
          ∧ r.2.mem ((c.tc : Thread Cert.DqkRefIdeal.nD Cert.DqkRefIdeal.τ).loc Cert.DqkRefIdeal.main_arg3) = m' ((c.tc : Thread Cert.DqkRefIdeal.nD Cert.DqkRefIdeal.τ).loc Cert.DqkRefIdeal.main_arg3)
          ∧ r.2.mem ((c.tc : Thread Cert.DqkRefIdeal.nD Cert.DqkRefIdeal.τ).loc Cert.DqkRefIdeal.main_arg4) = m' ((c.tc : Thread Cert.DqkRefIdeal.nD Cert.DqkRefIdeal.τ).loc Cert.DqkRefIdeal.main_arg4)
          ∧ r.2.mem ((c.tc : Thread Cert.DqkRefIdeal.nD Cert.DqkRefIdeal.τ).loc Cert.DqkRefIdeal.main_arg5) = m' ((c.tc : Thread Cert.DqkRefIdeal.nD Cert.DqkRefIdeal.τ).loc Cert.DqkRefIdeal.main_arg5))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v7) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Dwgu_DwguIdeal : Prop :=
  True

def algebraic_DwguIdeal_DwguRefIdeal [hDwguIdeal : Cert.DwguIdeal.Facts] [hDwguRefIdeal : Cert.DwguRefIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguRefIdeal.nD Cert.DwguRefIdeal.τ Cert.DwguRefIdeal.sig) → Buf (Elt Ideal) ℓ) (g' : Dev Cert.DwguRefIdeal.nD → PrngReg), Pre_DwguIdeal m →
    (∀ c : Dev Cert.DwguIdeal.nD,
      m' ((c.tc : Thread Cert.DwguRefIdeal.nD Cert.DwguRefIdeal.τ).loc Cert.DwguRefIdeal.main_arg0) = m ((c.tc : Thread Cert.DwguIdeal.nD Cert.DwguIdeal.τ).loc Cert.DwguIdeal.main_arg0)
      ∧ m' ((c.tc : Thread Cert.DwguRefIdeal.nD Cert.DwguRefIdeal.τ).loc Cert.DwguRefIdeal.main_arg1) = m ((c.tc : Thread Cert.DwguIdeal.nD Cert.DwguIdeal.τ).loc Cert.DwguIdeal.main_arg1)
      ∧ m' ((c.tc : Thread Cert.DwguRefIdeal.nD Cert.DwguRefIdeal.τ).loc Cert.DwguRefIdeal.main_arg2) = m ((c.tc : Thread Cert.DwguIdeal.nD Cert.DwguIdeal.τ).loc Cert.DwguIdeal.main_arg2)) →
    ∃ (v0 : (c : Dev Cert.DwguIdeal.nD) → Buf (Elt Ideal) ((c.tc : Thread Cert.DwguIdeal.nD Cert.DwguIdeal.τ).loc Cert.DwguIdeal.main_v0)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v0) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1)
          ∧ r.2.mem ((c.tc : Thread Cert.DwguIdeal.nD Cert.DwguIdeal.τ).loc Cert.DwguIdeal.main_arg2) = m ((c.tc : Thread Cert.DwguIdeal.nD Cert.DwguIdeal.τ).loc Cert.DwguIdeal.main_arg2))
      ∧ θ_run (Cert.DwguRefIdeal.defs (F := Ideal)) (onTc (τ := Cert.DwguRefIdeal.τ) (Cert.DwguRefIdeal.main (F := Ideal))) ⟨m', fun _ => 0, g'⟩ (fun r => ∀ c : Dev Cert.DwguRefIdeal.nD,
          r.2.mem ((c.tc : Thread Cert.DwguRefIdeal.nD Cert.DwguRefIdeal.τ).loc Cert.DwguRefIdeal.main_v9) = v0 c
          ∧ r.2.mem ((c.tc : Thread Cert.DwguRefIdeal.nD Cert.DwguRefIdeal.τ).loc Cert.DwguRefIdeal.main_arg0) = m' ((c.tc : Thread Cert.DwguRefIdeal.nD Cert.DwguRefIdeal.τ).loc Cert.DwguRefIdeal.main_arg0)
          ∧ r.2.mem ((c.tc : Thread Cert.DwguRefIdeal.nD Cert.DwguRefIdeal.τ).loc Cert.DwguRefIdeal.main_arg1) = m' ((c.tc : Thread Cert.DwguRefIdeal.nD Cert.DwguRefIdeal.τ).loc Cert.DwguRefIdeal.main_arg1)
          ∧ r.2.mem ((c.tc : Thread Cert.DwguRefIdeal.nD Cert.DwguRefIdeal.τ).loc Cert.DwguRefIdeal.main_arg2) = m' ((c.tc : Thread Cert.DwguRefIdeal.nD Cert.DwguRefIdeal.τ).loc Cert.DwguRefIdeal.main_arg2))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)
      ∧ m' ((c.tc : Thread Cert.DwdRefIdeal.nD Cert.DwdRefIdeal.τ).loc Cert.DwdRefIdeal.main_arg2) = m ((c.tc : Thread Cert.DwdIdeal.nD Cert.DwdIdeal.τ).loc Cert.DwdIdeal.main_arg2)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
          ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v11) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1)
          ∧ r.2.mem ((c.tc : Thread Cert.DwdRefIdeal.nD Cert.DwdRefIdeal.τ).loc Cert.DwdRefIdeal.main_arg2) = m' ((c.tc : Thread Cert.DwdRefIdeal.nD Cert.DwdRefIdeal.τ).loc Cert.DwdRefIdeal.main_arg2))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)
      ∧ m' ((c.tc : Thread Cert.DwinRefIdeal.nD Cert.DwinRefIdeal.τ).loc Cert.DwinRefIdeal.main_arg2) = m ((c.tc : Thread Cert.DwinIdeal.nD Cert.DwinIdeal.τ).loc Cert.DwinIdeal.main_arg2)
      ∧ m' ((c.tc : Thread Cert.DwinRefIdeal.nD Cert.DwinRefIdeal.τ).loc Cert.DwinRefIdeal.main_arg3) = m ((c.tc : Thread Cert.DwinIdeal.nD Cert.DwinIdeal.τ).loc Cert.DwinIdeal.main_arg3)
      ∧ m' ((c.tc : Thread Cert.DwinRefIdeal.nD Cert.DwinRefIdeal.τ).loc Cert.DwinRefIdeal.main_arg4) = m ((c.tc : Thread Cert.DwinIdeal.nD Cert.DwinIdeal.τ).loc Cert.DwinIdeal.main_arg4)
      ∧ m' ((c.tc : Thread Cert.DwinRefIdeal.nD Cert.DwinRefIdeal.τ).loc Cert.DwinRefIdeal.main_arg5) = m ((c.tc : Thread Cert.DwinIdeal.nD Cert.DwinIdeal.τ).loc Cert.DwinIdeal.main_arg5)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1)
          ∧ r.2.mem ((c.tc : Thread Cert.DwinIdeal.nD Cert.DwinIdeal.τ).loc Cert.DwinIdeal.main_arg2) = m ((c.tc : Thread Cert.DwinIdeal.nD Cert.DwinIdeal.τ).loc Cert.DwinIdeal.main_arg2)
          ∧ r.2.mem ((c.tc : Thread Cert.DwinIdeal.nD Cert.DwinIdeal.τ).loc Cert.DwinIdeal.main_arg3) = m ((c.tc : Thread Cert.DwinIdeal.nD Cert.DwinIdeal.τ).loc Cert.DwinIdeal.main_arg3)
          ∧ r.2.mem ((c.tc : Thread Cert.DwinIdeal.nD Cert.DwinIdeal.τ).loc Cert.DwinIdeal.main_arg4) = m ((c.tc : Thread Cert.DwinIdeal.nD Cert.DwinIdeal.τ).loc Cert.DwinIdeal.main_arg4)
          ∧ r.2.mem ((c.tc : Thread Cert.DwinIdeal.nD Cert.DwinIdeal.τ).loc Cert.DwinIdeal.main_arg5) = m ((c.tc : Thread Cert.DwinIdeal.nD Cert.DwinIdeal.τ).loc Cert.DwinIdeal.main_arg5))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v7) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1)
          ∧ r.2.mem ((c.tc : Thread Cert.DwinRefIdeal.nD Cert.DwinRefIdeal.τ).loc Cert.DwinRefIdeal.main_arg2) = m' ((c.tc : Thread Cert.DwinRefIdeal.nD Cert.DwinRefIdeal.τ).loc Cert.DwinRefIdeal.main_arg2)
          ∧ r.2.mem ((c.tc : Thread Cert.DwinRefIdeal.nD Cert.DwinRefIdeal.τ).loc Cert.DwinRefIdeal.main_arg3) = m' ((c.tc : Thread Cert.DwinRefIdeal.nD Cert.DwinRefIdeal.τ).loc Cert.DwinRefIdeal.main_arg3)
          ∧ r.2.mem ((c.tc : Thread Cert.DwinRefIdeal.nD Cert.DwinRefIdeal.τ).loc Cert.DwinRefIdeal.main_arg4) = m' ((c.tc : Thread Cert.DwinRefIdeal.nD Cert.DwinRefIdeal.τ).loc Cert.DwinRefIdeal.main_arg4)
          ∧ r.2.mem ((c.tc : Thread Cert.DwinRefIdeal.nD Cert.DwinRefIdeal.τ).loc Cert.DwinRefIdeal.main_arg5) = m' ((c.tc : Thread Cert.DwinRefIdeal.nD Cert.DwinRefIdeal.τ).loc Cert.DwinRefIdeal.main_arg5))

def preserves_Dhin_DhinIdeal : Prop :=
  True

def algebraic_DhinIdeal_DhinRefIdeal [hDhinIdeal : Cert.DhinIdeal.Facts] [hDhinRefIdeal : Cert.DhinRefIdeal.Facts] : Prop :=
  ∀ (m : (ℓ : Loc Cert.DhinIdeal.nD Cert.DhinIdeal.τ Cert.DhinIdeal.sig) → Buf (Elt Ideal) ℓ) (g : Dev Cert.DhinIdeal.nD → PrngReg)
    (m' : (ℓ : Loc Cert.DhinRefIdeal.nD Cert.DhinRefIdeal.τ Cert.DhinRefIdeal.sig) → Buf (Elt Ideal) ℓ) (g' : Dev Cert.DhinRefIdeal.nD → PrngReg), Pre_DhinIdeal m →
    (∀ c : Dev Cert.DhinIdeal.nD,
      m' ((c.tc : Thread Cert.DhinRefIdeal.nD Cert.DhinRefIdeal.τ).loc Cert.DhinRefIdeal.main_arg0) = m ((c.tc : Thread Cert.DhinIdeal.nD Cert.DhinIdeal.τ).loc Cert.DhinIdeal.main_arg0)
      ∧ m' ((c.tc : Thread Cert.DhinRefIdeal.nD Cert.DhinRefIdeal.τ).loc Cert.DhinRefIdeal.main_arg1) = m ((c.tc : Thread Cert.DhinIdeal.nD Cert.DhinIdeal.τ).loc Cert.DhinIdeal.main_arg1)
      ∧ m' ((c.tc : Thread Cert.DhinRefIdeal.nD Cert.DhinRefIdeal.τ).loc Cert.DhinRefIdeal.main_arg2) = m ((c.tc : Thread Cert.DhinIdeal.nD Cert.DhinIdeal.τ).loc Cert.DhinIdeal.main_arg2)
      ∧ m' ((c.tc : Thread Cert.DhinRefIdeal.nD Cert.DhinRefIdeal.τ).loc Cert.DhinRefIdeal.main_arg3) = m ((c.tc : Thread Cert.DhinIdeal.nD Cert.DhinIdeal.τ).loc Cert.DhinIdeal.main_arg3)
      ∧ m' ((c.tc : Thread Cert.DhinRefIdeal.nD Cert.DhinRefIdeal.τ).loc Cert.DhinRefIdeal.main_arg4) = m ((c.tc : Thread Cert.DhinIdeal.nD Cert.DhinIdeal.τ).loc Cert.DhinIdeal.main_arg4)
      ∧ m' ((c.tc : Thread Cert.DhinRefIdeal.nD Cert.DhinRefIdeal.τ).loc Cert.DhinRefIdeal.main_arg5) = m ((c.tc : Thread Cert.DhinIdeal.nD Cert.DhinIdeal.τ).loc Cert.DhinIdeal.main_arg5)) →
    ∃ (v0 : (c : Dev Cert.DhinIdeal.nD) → Buf (Elt Ideal) ((c.tc : Thread Cert.DhinIdeal.nD Cert.DhinIdeal.τ).loc Cert.DhinIdeal.main_v0)),
      θ_run (Cert.DhinIdeal.defs (F := Ideal)) (onTc (τ := Cert.DhinIdeal.τ) (Cert.DhinIdeal.main (F := Ideal))) ⟨m, fun _ => 0, g⟩ (fun r => ∀ c : Dev Cert.DhinIdeal.nD,
          r.2.mem ((c.tc : Thread Cert.DhinIdeal.nD Cert.DhinIdeal.τ).loc Cert.DhinIdeal.main_v0) = v0 c
          ∧ r.2.mem ((c.tc : Thread Cert.DhinIdeal.nD Cert.DhinIdeal.τ).loc Cert.DhinIdeal.main_arg0) = m ((c.tc : Thread Cert.DhinIdeal.nD Cert.DhinIdeal.τ).loc Cert.DhinIdeal.main_arg0)
          ∧ r.2.mem ((c.tc : Thread Cert.DhinIdeal.nD Cert.DhinIdeal.τ).loc Cert.DhinIdeal.main_arg1) = m ((c.tc : Thread Cert.DhinIdeal.nD Cert.DhinIdeal.τ).loc Cert.DhinIdeal.main_arg1)
          ∧ r.2.mem ((c.tc : Thread Cert.DhinIdeal.nD Cert.DhinIdeal.τ).loc Cert.DhinIdeal.main_arg2) = m ((c.tc : Thread Cert.DhinIdeal.nD Cert.DhinIdeal.τ).loc Cert.DhinIdeal.main_arg2)
          ∧ r.2.mem ((c.tc : Thread Cert.DhinIdeal.nD Cert.DhinIdeal.τ).loc Cert.DhinIdeal.main_arg3) = m ((c.tc : Thread Cert.DhinIdeal.nD Cert.DhinIdeal.τ).loc Cert.DhinIdeal.main_arg3)
          ∧ r.2.mem ((c.tc : Thread Cert.DhinIdeal.nD Cert.DhinIdeal.τ).loc Cert.DhinIdeal.main_arg4) = m ((c.tc : Thread Cert.DhinIdeal.nD Cert.DhinIdeal.τ).loc Cert.DhinIdeal.main_arg4)
          ∧ r.2.mem ((c.tc : Thread Cert.DhinIdeal.nD Cert.DhinIdeal.τ).loc Cert.DhinIdeal.main_arg5) = m ((c.tc : Thread Cert.DhinIdeal.nD Cert.DhinIdeal.τ).loc Cert.DhinIdeal.main_arg5))
      ∧ θ_run (Cert.DhinRefIdeal.defs (F := Ideal)) (onTc (τ := Cert.DhinRefIdeal.τ) (Cert.DhinRefIdeal.main (F := Ideal))) ⟨m', fun _ => 0, g'⟩ (fun r => ∀ c : Dev Cert.DhinRefIdeal.nD,
          r.2.mem ((c.tc : Thread Cert.DhinRefIdeal.nD Cert.DhinRefIdeal.τ).loc Cert.DhinRefIdeal.main_v5) = v0 c
          ∧ r.2.mem ((c.tc : Thread Cert.DhinRefIdeal.nD Cert.DhinRefIdeal.τ).loc Cert.DhinRefIdeal.main_arg0) = m' ((c.tc : Thread Cert.DhinRefIdeal.nD Cert.DhinRefIdeal.τ).loc Cert.DhinRefIdeal.main_arg0)
          ∧ r.2.mem ((c.tc : Thread Cert.DhinRefIdeal.nD Cert.DhinRefIdeal.τ).loc Cert.DhinRefIdeal.main_arg1) = m' ((c.tc : Thread Cert.DhinRefIdeal.nD Cert.DhinRefIdeal.τ).loc Cert.DhinRefIdeal.main_arg1)
          ∧ r.2.mem ((c.tc : Thread Cert.DhinRefIdeal.nD Cert.DhinRefIdeal.τ).loc Cert.DhinRefIdeal.main_arg2) = m' ((c.tc : Thread Cert.DhinRefIdeal.nD Cert.DhinRefIdeal.τ).loc Cert.DhinRefIdeal.main_arg2)
          ∧ r.2.mem ((c.tc : Thread Cert.DhinRefIdeal.nD Cert.DhinRefIdeal.τ).loc Cert.DhinRefIdeal.main_arg3) = m' ((c.tc : Thread Cert.DhinRefIdeal.nD Cert.DhinRefIdeal.τ).loc Cert.DhinRefIdeal.main_arg3)
          ∧ r.2.mem ((c.tc : Thread Cert.DhinRefIdeal.nD Cert.DhinRefIdeal.τ).loc Cert.DhinRefIdeal.main_arg4) = m' ((c.tc : Thread Cert.DhinRefIdeal.nD Cert.DhinRefIdeal.τ).loc Cert.DhinRefIdeal.main_arg4)
          ∧ r.2.mem ((c.tc : Thread Cert.DhinRefIdeal.nD Cert.DhinRefIdeal.τ).loc Cert.DhinRefIdeal.main_arg5) = m' ((c.tc : Thread Cert.DhinRefIdeal.nD Cert.DhinRefIdeal.τ).loc Cert.DhinRefIdeal.main_arg5))

def preserves_DsqO_DsqOIdeal : Prop :=
  True

def algebraic_DsqOIdeal_DsqORefIdeal [hDsqOIdeal : Cert.DsqOIdeal.Facts] [hDsqORefIdeal : Cert.DsqORefIdeal.Facts] : Prop :=
  ∀ (m : (ℓ : Loc Cert.DsqOIdeal.nD Cert.DsqOIdeal.τ Cert.DsqOIdeal.sig) → Buf (Elt Ideal) ℓ) (g : Dev Cert.DsqOIdeal.nD → PrngReg)
    (m' : (ℓ : Loc Cert.DsqORefIdeal.nD Cert.DsqORefIdeal.τ Cert.DsqORefIdeal.sig) → Buf (Elt Ideal) ℓ) (g' : Dev Cert.DsqORefIdeal.nD → PrngReg), Pre_DsqOIdeal m →
    (∀ c : Dev Cert.DsqOIdeal.nD,
      m' ((c.tc : Thread Cert.DsqORefIdeal.nD Cert.DsqORefIdeal.τ).loc Cert.DsqORefIdeal.main_arg0) = m ((c.tc : Thread Cert.DsqOIdeal.nD Cert.DsqOIdeal.τ).loc Cert.DsqOIdeal.main_arg0)
      ∧ m' ((c.tc : Thread Cert.DsqORefIdeal.nD Cert.DsqORefIdeal.τ).loc Cert.DsqORefIdeal.main_arg1) = m ((c.tc : Thread Cert.DsqOIdeal.nD Cert.DsqOIdeal.τ).loc Cert.DsqOIdeal.main_arg1)) →
    ∃ (v0 : (c : Dev Cert.DsqOIdeal.nD) → Buf (Elt Ideal) ((c.tc : Thread Cert.DsqOIdeal.nD Cert.DsqOIdeal.τ).loc Cert.DsqOIdeal.main_v0)),
      θ_run (Cert.DsqOIdeal.defs (F := Ideal)) (onTc (τ := Cert.DsqOIdeal.τ) (Cert.DsqOIdeal.main (F := Ideal))) ⟨m, fun _ => 0, g⟩ (fun r => ∀ c : Dev Cert.DsqOIdeal.nD,
          r.2.mem ((c.tc : Thread Cert.DsqOIdeal.nD Cert.DsqOIdeal.τ).loc Cert.DsqOIdeal.main_v0) = v0 c
          ∧ r.2.mem ((c.tc : Thread Cert.DsqOIdeal.nD Cert.DsqOIdeal.τ).loc Cert.DsqOIdeal.main_arg0) = m ((c.tc : Thread Cert.DsqOIdeal.nD Cert.DsqOIdeal.τ).loc Cert.DsqOIdeal.main_arg0)
          ∧ r.2.mem ((c.tc : Thread Cert.DsqOIdeal.nD Cert.DsqOIdeal.τ).loc Cert.DsqOIdeal.main_arg1) = m ((c.tc : Thread Cert.DsqOIdeal.nD Cert.DsqOIdeal.τ).loc Cert.DsqOIdeal.main_arg1))
      ∧ θ_run (Cert.DsqORefIdeal.defs (F := Ideal)) (onTc (τ := Cert.DsqORefIdeal.τ) (Cert.DsqORefIdeal.main (F := Ideal))) ⟨m', fun _ => 0, g'⟩ (fun r => ∀ c : Dev Cert.DsqORefIdeal.nD,
          r.2.mem ((c.tc : Thread Cert.DsqORefIdeal.nD Cert.DsqORefIdeal.τ).loc Cert.DsqORefIdeal.main_v5) = v0 c
          ∧ r.2.mem ((c.tc : Thread Cert.DsqORefIdeal.nD Cert.DsqORefIdeal.τ).loc Cert.DsqORefIdeal.main_arg0) = m' ((c.tc : Thread Cert.DsqORefIdeal.nD Cert.DsqORefIdeal.τ).loc Cert.DsqORefIdeal.main_arg0)
          ∧ r.2.mem ((c.tc : Thread Cert.DsqORefIdeal.nD Cert.DsqORefIdeal.τ).loc Cert.DsqORefIdeal.main_arg1) = m' ((c.tc : Thread Cert.DsqORefIdeal.nD Cert.DsqORefIdeal.τ).loc Cert.DsqORefIdeal.main_arg1))

def preserves_DsqC_DsqCIdeal : Prop :=
  True

def algebraic_DsqCIdeal_DsqCRefIdeal [hDsqCIdeal : Cert.DsqCIdeal.Facts] [hDsqCRefIdeal : Cert.DsqCRefIdeal.Facts] : Prop :=
  ∀ (m : (ℓ : Loc Cert.DsqCIdeal.nD Cert.DsqCIdeal.τ Cert.DsqCIdeal.sig) → Buf (Elt Ideal) ℓ) (g : Dev Cert.DsqCIdeal.nD → PrngReg)
    (m' : (ℓ : Loc Cert.DsqCRefIdeal.nD Cert.DsqCRefIdeal.τ Cert.DsqCRefIdeal.sig) → Buf (Elt Ideal) ℓ) (g' : Dev Cert.DsqCRefIdeal.nD → PrngReg), Pre_DsqCIdeal m →
    (∀ c : Dev Cert.DsqCIdeal.nD,
      m' ((c.tc : Thread Cert.DsqCRefIdeal.nD Cert.DsqCRefIdeal.τ).loc Cert.DsqCRefIdeal.main_arg0) = m ((c.tc : Thread Cert.DsqCIdeal.nD Cert.DsqCIdeal.τ).loc Cert.DsqCIdeal.main_arg0)
      ∧ m' ((c.tc : Thread Cert.DsqCRefIdeal.nD Cert.DsqCRefIdeal.τ).loc Cert.DsqCRefIdeal.main_arg1) = m ((c.tc : Thread Cert.DsqCIdeal.nD Cert.DsqCIdeal.τ).loc Cert.DsqCIdeal.main_arg1)) →
    ∃ (v0 : (c : Dev Cert.DsqCIdeal.nD) → Buf (Elt Ideal) ((c.tc : Thread Cert.DsqCIdeal.nD Cert.DsqCIdeal.τ).loc Cert.DsqCIdeal.main_v0)),
      θ_run (Cert.DsqCIdeal.defs (F := Ideal)) (onTc (τ := Cert.DsqCIdeal.τ) (Cert.DsqCIdeal.main (F := Ideal))) ⟨m, fun _ => 0, g⟩ (fun r => ∀ c : Dev Cert.DsqCIdeal.nD,
          r.2.mem ((c.tc : Thread Cert.DsqCIdeal.nD Cert.DsqCIdeal.τ).loc Cert.DsqCIdeal.main_v0) = v0 c
          ∧ r.2.mem ((c.tc : Thread Cert.DsqCIdeal.nD Cert.DsqCIdeal.τ).loc Cert.DsqCIdeal.main_arg0) = m ((c.tc : Thread Cert.DsqCIdeal.nD Cert.DsqCIdeal.τ).loc Cert.DsqCIdeal.main_arg0)
          ∧ r.2.mem ((c.tc : Thread Cert.DsqCIdeal.nD Cert.DsqCIdeal.τ).loc Cert.DsqCIdeal.main_arg1) = m ((c.tc : Thread Cert.DsqCIdeal.nD Cert.DsqCIdeal.τ).loc Cert.DsqCIdeal.main_arg1))
      ∧ θ_run (Cert.DsqCRefIdeal.defs (F := Ideal)) (onTc (τ := Cert.DsqCRefIdeal.τ) (Cert.DsqCRefIdeal.main (F := Ideal))) ⟨m', fun _ => 0, g'⟩ (fun r => ∀ c : Dev Cert.DsqCRefIdeal.nD,
          r.2.mem ((c.tc : Thread Cert.DsqCRefIdeal.nD Cert.DsqCRefIdeal.τ).loc Cert.DsqCRefIdeal.main_v6) = v0 c
          ∧ r.2.mem ((c.tc : Thread Cert.DsqCRefIdeal.nD Cert.DsqCRefIdeal.τ).loc Cert.DsqCRefIdeal.main_arg0) = m' ((c.tc : Thread Cert.DsqCRefIdeal.nD Cert.DsqCRefIdeal.τ).loc Cert.DsqCRefIdeal.main_arg0)
          ∧ r.2.mem ((c.tc : Thread Cert.DsqCRefIdeal.nD Cert.DsqCRefIdeal.τ).loc Cert.DsqCRefIdeal.main_arg1) = m' ((c.tc : Thread Cert.DsqCRefIdeal.nD Cert.DsqCRefIdeal.τ).loc Cert.DsqCRefIdeal.main_arg1))

def preserves_DsqS_DsqSIdeal : Prop :=
  True

def algebraic_DsqSIdeal_DsqSRefIdeal [hDsqSIdeal : Cert.DsqSIdeal.Facts] [hDsqSRefIdeal : Cert.DsqSRefIdeal.Facts] : Prop :=
  ∀ (m : (ℓ : Loc Cert.DsqSIdeal.nD Cert.DsqSIdeal.τ Cert.DsqSIdeal.sig) → Buf (Elt Ideal) ℓ) (g : Dev Cert.DsqSIdeal.nD → PrngReg)
    (m' : (ℓ : Loc Cert.DsqSRefIdeal.nD Cert.DsqSRefIdeal.τ Cert.DsqSRefIdeal.sig) → Buf (Elt Ideal) ℓ) (g' : Dev Cert.DsqSRefIdeal.nD → PrngReg), Pre_DsqSIdeal m →
    (∀ c : Dev Cert.DsqSIdeal.nD,
      m' ((c.tc : Thread Cert.DsqSRefIdeal.nD Cert.DsqSRefIdeal.τ).loc Cert.DsqSRefIdeal.main_arg0) = m ((c.tc : Thread Cert.DsqSIdeal.nD Cert.DsqSIdeal.τ).loc Cert.DsqSIdeal.main_arg0)
      ∧ m' ((c.tc : Thread Cert.DsqSRefIdeal.nD Cert.DsqSRefIdeal.τ).loc Cert.DsqSRefIdeal.main_arg1) = m ((c.tc : Thread Cert.DsqSIdeal.nD Cert.DsqSIdeal.τ).loc Cert.DsqSIdeal.main_arg1)) →
    ∃ (v0 : (c : Dev Cert.DsqSIdeal.nD) → Buf (Elt Ideal) ((c.tc : Thread Cert.DsqSIdeal.nD Cert.DsqSIdeal.τ).loc Cert.DsqSIdeal.main_v0)),
      θ_run (Cert.DsqSIdeal.defs (F := Ideal)) (onTc (τ := Cert.DsqSIdeal.τ) (Cert.DsqSIdeal.main (F := Ideal))) ⟨m, fun _ => 0, g⟩ (fun r => ∀ c : Dev Cert.DsqSIdeal.nD,
          r.2.mem ((c.tc : Thread Cert.DsqSIdeal.nD Cert.DsqSIdeal.τ).loc Cert.DsqSIdeal.main_v0) = v0 c
          ∧ r.2.mem ((c.tc : Thread Cert.DsqSIdeal.nD Cert.DsqSIdeal.τ).loc Cert.DsqSIdeal.main_arg0) = m ((c.tc : Thread Cert.DsqSIdeal.nD Cert.DsqSIdeal.τ).loc Cert.DsqSIdeal.main_arg0)
          ∧ r.2.mem ((c.tc : Thread Cert.DsqSIdeal.nD Cert.DsqSIdeal.τ).loc Cert.DsqSIdeal.main_arg1) = m ((c.tc : Thread Cert.DsqSIdeal.nD Cert.DsqSIdeal.τ).loc Cert.DsqSIdeal.main_arg1))
      ∧ θ_run (Cert.DsqSRefIdeal.defs (F := Ideal)) (onTc (τ := Cert.DsqSRefIdeal.τ) (Cert.DsqSRefIdeal.main (F := Ideal))) ⟨m', fun _ => 0, g'⟩ (fun r => ∀ c : Dev Cert.DsqSRefIdeal.nD,
          r.2.mem ((c.tc : Thread Cert.DsqSRefIdeal.nD Cert.DsqSRefIdeal.τ).loc Cert.DsqSRefIdeal.main_v6) = v0 c
          ∧ r.2.mem ((c.tc : Thread Cert.DsqSRefIdeal.nD Cert.DsqSRefIdeal.τ).loc Cert.DsqSRefIdeal.main_arg0) = m' ((c.tc : Thread Cert.DsqSRefIdeal.nD Cert.DsqSRefIdeal.τ).loc Cert.DsqSRefIdeal.main_arg0)
          ∧ r.2.mem ((c.tc : Thread Cert.DsqSRefIdeal.nD Cert.DsqSRefIdeal.τ).loc Cert.DsqSRefIdeal.main_arg1) = m' ((c.tc : Thread Cert.DsqSRefIdeal.nD Cert.DsqSRefIdeal.τ).loc Cert.DsqSRefIdeal.main_arg1))

def preserves_DsqA_DsqAIdeal : Prop :=
  True

def algebraic_DsqAIdeal_DsqARefIdeal [hDsqAIdeal : Cert.DsqAIdeal.Facts] [hDsqARefIdeal : Cert.DsqARefIdeal.Facts] : Prop :=
  ∀ (m : (ℓ : Loc Cert.DsqAIdeal.nD Cert.DsqAIdeal.τ Cert.DsqAIdeal.sig) → Buf (Elt Ideal) ℓ) (g : Dev Cert.DsqAIdeal.nD → PrngReg)
    (m' : (ℓ : Loc Cert.DsqARefIdeal.nD Cert.DsqARefIdeal.τ Cert.DsqARefIdeal.sig) → Buf (Elt Ideal) ℓ) (g' : Dev Cert.DsqARefIdeal.nD → PrngReg), Pre_DsqAIdeal m →
    (∀ c : Dev Cert.DsqAIdeal.nD,
      m' ((c.tc : Thread Cert.DsqARefIdeal.nD Cert.DsqARefIdeal.τ).loc Cert.DsqARefIdeal.main_arg0) = m ((c.tc : Thread Cert.DsqAIdeal.nD Cert.DsqAIdeal.τ).loc Cert.DsqAIdeal.main_arg0)
      ∧ m' ((c.tc : Thread Cert.DsqARefIdeal.nD Cert.DsqARefIdeal.τ).loc Cert.DsqARefIdeal.main_arg1) = m ((c.tc : Thread Cert.DsqAIdeal.nD Cert.DsqAIdeal.τ).loc Cert.DsqAIdeal.main_arg1)) →
    ∃ (v0 : (c : Dev Cert.DsqAIdeal.nD) → Buf (Elt Ideal) ((c.tc : Thread Cert.DsqAIdeal.nD Cert.DsqAIdeal.τ).loc Cert.DsqAIdeal.main_v0)),
      θ_run (Cert.DsqAIdeal.defs (F := Ideal)) (onTc (τ := Cert.DsqAIdeal.τ) (Cert.DsqAIdeal.main (F := Ideal))) ⟨m, fun _ => 0, g⟩ (fun r => ∀ c : Dev Cert.DsqAIdeal.nD,
          r.2.mem ((c.tc : Thread Cert.DsqAIdeal.nD Cert.DsqAIdeal.τ).loc Cert.DsqAIdeal.main_v0) = v0 c
          ∧ r.2.mem ((c.tc : Thread Cert.DsqAIdeal.nD Cert.DsqAIdeal.τ).loc Cert.DsqAIdeal.main_arg0) = m ((c.tc : Thread Cert.DsqAIdeal.nD Cert.DsqAIdeal.τ).loc Cert.DsqAIdeal.main_arg0)
          ∧ r.2.mem ((c.tc : Thread Cert.DsqAIdeal.nD Cert.DsqAIdeal.τ).loc Cert.DsqAIdeal.main_arg1) = m ((c.tc : Thread Cert.DsqAIdeal.nD Cert.DsqAIdeal.τ).loc Cert.DsqAIdeal.main_arg1))
      ∧ θ_run (Cert.DsqARefIdeal.defs (F := Ideal)) (onTc (τ := Cert.DsqARefIdeal.τ) (Cert.DsqARefIdeal.main (F := Ideal))) ⟨m', fun _ => 0, g'⟩ (fun r => ∀ c : Dev Cert.DsqARefIdeal.nD,
          r.2.mem ((c.tc : Thread Cert.DsqARefIdeal.nD Cert.DsqARefIdeal.τ).loc Cert.DsqARefIdeal.main_v6) = v0 c
          ∧ r.2.mem ((c.tc : Thread Cert.DsqARefIdeal.nD Cert.DsqARefIdeal.τ).loc Cert.DsqARefIdeal.main_arg0) = m' ((c.tc : Thread Cert.DsqARefIdeal.nD Cert.DsqARefIdeal.τ).loc Cert.DsqARefIdeal.main_arg0)
          ∧ r.2.mem ((c.tc : Thread Cert.DsqARefIdeal.nD Cert.DsqARefIdeal.τ).loc Cert.DsqARefIdeal.main_arg1) = m' ((c.tc : Thread Cert.DsqARefIdeal.nD Cert.DsqARefIdeal.τ).loc Cert.DsqARefIdeal.main_arg1))

def preserves_DwsqO_DwsqOIdeal : Prop :=
  True

def algebraic_DwsqOIdeal_DwsqORefIdeal [hDwsqOIdeal : Cert.DwsqOIdeal.Facts] [hDwsqORefIdeal : Cert.DwsqORefIdeal.Facts] : Prop :=
  ∀ (m : (ℓ : Loc Cert.DwsqOIdeal.nD Cert.DwsqOIdeal.τ Cert.DwsqOIdeal.sig) → Buf (Elt Ideal) ℓ) (g : Dev Cert.DwsqOIdeal.nD → PrngReg)
    (m' : (ℓ : Loc Cert.DwsqORefIdeal.nD Cert.DwsqORefIdeal.τ Cert.DwsqORefIdeal.sig) → Buf (Elt Ideal) ℓ) (g' : Dev Cert.DwsqORefIdeal.nD → PrngReg), Pre_DwsqOIdeal m →
    (∀ c : Dev Cert.DwsqOIdeal.nD,
      m' ((c.tc : Thread Cert.DwsqORefIdeal.nD Cert.DwsqORefIdeal.τ).loc Cert.DwsqORefIdeal.main_arg0) = m ((c.tc : Thread Cert.DwsqOIdeal.nD Cert.DwsqOIdeal.τ).loc Cert.DwsqOIdeal.main_arg0)
      ∧ m' ((c.tc : Thread Cert.DwsqORefIdeal.nD Cert.DwsqORefIdeal.τ).loc Cert.DwsqORefIdeal.main_arg1) = m ((c.tc : Thread Cert.DwsqOIdeal.nD Cert.DwsqOIdeal.τ).loc Cert.DwsqOIdeal.main_arg1)
      ∧ m' ((c.tc : Thread Cert.DwsqORefIdeal.nD Cert.DwsqORefIdeal.τ).loc Cert.DwsqORefIdeal.main_arg2) = m ((c.tc : Thread Cert.DwsqOIdeal.nD Cert.DwsqOIdeal.τ).loc Cert.DwsqOIdeal.main_arg2)) →
    ∃ (v0 : (c : Dev Cert.DwsqOIdeal.nD) → Buf (Elt Ideal) ((c.tc : Thread Cert.DwsqOIdeal.nD Cert.DwsqOIdeal.τ).loc Cert.DwsqOIdeal.main_v0)),
      θ_run (Cert.DwsqOIdeal.defs (F := Ideal)) (onTc (τ := Cert.DwsqOIdeal.τ) (Cert.DwsqOIdeal.main (F := Ideal))) ⟨m, fun _ => 0, g⟩ (fun r => ∀ c : Dev Cert.DwsqOIdeal.nD,
          r.2.mem ((c.tc : Thread Cert.DwsqOIdeal.nD Cert.DwsqOIdeal.τ).loc Cert.DwsqOIdeal.main_v0) = v0 c
          ∧ r.2.mem ((c.tc : Thread Cert.DwsqOIdeal.nD Cert.DwsqOIdeal.τ).loc Cert.DwsqOIdeal.main_arg0) = m ((c.tc : Thread Cert.DwsqOIdeal.nD Cert.DwsqOIdeal.τ).loc Cert.DwsqOIdeal.main_arg0)
          ∧ r.2.mem ((c.tc : Thread Cert.DwsqOIdeal.nD Cert.DwsqOIdeal.τ).loc Cert.DwsqOIdeal.main_arg1) = m ((c.tc : Thread Cert.DwsqOIdeal.nD Cert.DwsqOIdeal.τ).loc Cert.DwsqOIdeal.main_arg1)
          ∧ r.2.mem ((c.tc : Thread Cert.DwsqOIdeal.nD Cert.DwsqOIdeal.τ).loc Cert.DwsqOIdeal.main_arg2) = m ((c.tc : Thread Cert.DwsqOIdeal.nD Cert.DwsqOIdeal.τ).loc Cert.DwsqOIdeal.main_arg2))
      ∧ θ_run (Cert.DwsqORefIdeal.defs (F := Ideal)) (onTc (τ := Cert.DwsqORefIdeal.τ) (Cert.DwsqORefIdeal.main (F := Ideal))) ⟨m', fun _ => 0, g'⟩ (fun r => ∀ c : Dev Cert.DwsqORefIdeal.nD,
          r.2.mem ((c.tc : Thread Cert.DwsqORefIdeal.nD Cert.DwsqORefIdeal.τ).loc Cert.DwsqORefIdeal.main_v7) = v0 c
          ∧ r.2.mem ((c.tc : Thread Cert.DwsqORefIdeal.nD Cert.DwsqORefIdeal.τ).loc Cert.DwsqORefIdeal.main_arg0) = m' ((c.tc : Thread Cert.DwsqORefIdeal.nD Cert.DwsqORefIdeal.τ).loc Cert.DwsqORefIdeal.main_arg0)
          ∧ r.2.mem ((c.tc : Thread Cert.DwsqORefIdeal.nD Cert.DwsqORefIdeal.τ).loc Cert.DwsqORefIdeal.main_arg1) = m' ((c.tc : Thread Cert.DwsqORefIdeal.nD Cert.DwsqORefIdeal.τ).loc Cert.DwsqORefIdeal.main_arg1)
          ∧ r.2.mem ((c.tc : Thread Cert.DwsqORefIdeal.nD Cert.DwsqORefIdeal.τ).loc Cert.DwsqORefIdeal.main_arg2) = m' ((c.tc : Thread Cert.DwsqORefIdeal.nD Cert.DwsqORefIdeal.τ).loc Cert.DwsqORefIdeal.main_arg2))

def preserves_DwsqM_DwsqMIdeal : Prop :=
  True

def algebraic_DwsqMIdeal_DwsqMRefIdeal [hDwsqMIdeal : Cert.DwsqMIdeal.Facts] [hDwsqMRefIdeal : Cert.DwsqMRefIdeal.Facts] : Prop :=
  ∀ (m : (ℓ : Loc Cert.DwsqMIdeal.nD Cert.DwsqMIdeal.τ Cert.DwsqMIdeal.sig) → Buf (Elt Ideal) ℓ) (g : Dev Cert.DwsqMIdeal.nD → PrngReg)
    (m' : (ℓ : Loc Cert.DwsqMRefIdeal.nD Cert.DwsqMRefIdeal.τ Cert.DwsqMRefIdeal.sig) → Buf (Elt Ideal) ℓ) (g' : Dev Cert.DwsqMRefIdeal.nD → PrngReg), Pre_DwsqMIdeal m →
    (∀ c : Dev Cert.DwsqMIdeal.nD,
      m' ((c.tc : Thread Cert.DwsqMRefIdeal.nD Cert.DwsqMRefIdeal.τ).loc Cert.DwsqMRefIdeal.main_arg0) = m ((c.tc : Thread Cert.DwsqMIdeal.nD Cert.DwsqMIdeal.τ).loc Cert.DwsqMIdeal.main_arg0)
      ∧ m' ((c.tc : Thread Cert.DwsqMRefIdeal.nD Cert.DwsqMRefIdeal.τ).loc Cert.DwsqMRefIdeal.main_arg1) = m ((c.tc : Thread Cert.DwsqMIdeal.nD Cert.DwsqMIdeal.τ).loc Cert.DwsqMIdeal.main_arg1)
      ∧ m' ((c.tc : Thread Cert.DwsqMRefIdeal.nD Cert.DwsqMRefIdeal.τ).loc Cert.DwsqMRefIdeal.main_arg2) = m ((c.tc : Thread Cert.DwsqMIdeal.nD Cert.DwsqMIdeal.τ).loc Cert.DwsqMIdeal.main_arg2)) →
    ∃ (v0 : (c : Dev Cert.DwsqMIdeal.nD) → Buf (Elt Ideal) ((c.tc : Thread Cert.DwsqMIdeal.nD Cert.DwsqMIdeal.τ).loc Cert.DwsqMIdeal.main_v0)),
      θ_run (Cert.DwsqMIdeal.defs (F := Ideal)) (onTc (τ := Cert.DwsqMIdeal.τ) (Cert.DwsqMIdeal.main (F := Ideal))) ⟨m, fun _ => 0, g⟩ (fun r => ∀ c : Dev Cert.DwsqMIdeal.nD,
          r.2.mem ((c.tc : Thread Cert.DwsqMIdeal.nD Cert.DwsqMIdeal.τ).loc Cert.DwsqMIdeal.main_v0) = v0 c
          ∧ r.2.mem ((c.tc : Thread Cert.DwsqMIdeal.nD Cert.DwsqMIdeal.τ).loc Cert.DwsqMIdeal.main_arg0) = m ((c.tc : Thread Cert.DwsqMIdeal.nD Cert.DwsqMIdeal.τ).loc Cert.DwsqMIdeal.main_arg0)
          ∧ r.2.mem ((c.tc : Thread Cert.DwsqMIdeal.nD Cert.DwsqMIdeal.τ).loc Cert.DwsqMIdeal.main_arg1) = m ((c.tc : Thread Cert.DwsqMIdeal.nD Cert.DwsqMIdeal.τ).loc Cert.DwsqMIdeal.main_arg1)
          ∧ r.2.mem ((c.tc : Thread Cert.DwsqMIdeal.nD Cert.DwsqMIdeal.τ).loc Cert.DwsqMIdeal.main_arg2) = m ((c.tc : Thread Cert.DwsqMIdeal.nD Cert.DwsqMIdeal.τ).loc Cert.DwsqMIdeal.main_arg2))
      ∧ θ_run (Cert.DwsqMRefIdeal.defs (F := Ideal)) (onTc (τ := Cert.DwsqMRefIdeal.τ) (Cert.DwsqMRefIdeal.main (F := Ideal))) ⟨m', fun _ => 0, g'⟩ (fun r => ∀ c : Dev Cert.DwsqMRefIdeal.nD,
          r.2.mem ((c.tc : Thread Cert.DwsqMRefIdeal.nD Cert.DwsqMRefIdeal.τ).loc Cert.DwsqMRefIdeal.main_v8) = v0 c
          ∧ r.2.mem ((c.tc : Thread Cert.DwsqMRefIdeal.nD Cert.DwsqMRefIdeal.τ).loc Cert.DwsqMRefIdeal.main_arg0) = m' ((c.tc : Thread Cert.DwsqMRefIdeal.nD Cert.DwsqMRefIdeal.τ).loc Cert.DwsqMRefIdeal.main_arg0)
          ∧ r.2.mem ((c.tc : Thread Cert.DwsqMRefIdeal.nD Cert.DwsqMRefIdeal.τ).loc Cert.DwsqMRefIdeal.main_arg1) = m' ((c.tc : Thread Cert.DwsqMRefIdeal.nD Cert.DwsqMRefIdeal.τ).loc Cert.DwsqMRefIdeal.main_arg1)
          ∧ r.2.mem ((c.tc : Thread Cert.DwsqMRefIdeal.nD Cert.DwsqMRefIdeal.τ).loc Cert.DwsqMRefIdeal.main_arg2) = m' ((c.tc : Thread Cert.DwsqMRefIdeal.nD Cert.DwsqMRefIdeal.τ).loc Cert.DwsqMRefIdeal.main_arg2))

def preserves_DwsqA_DwsqAIdeal : Prop :=
  True

def algebraic_DwsqAIdeal_DwsqARefIdeal [hDwsqAIdeal : Cert.DwsqAIdeal.Facts] [hDwsqARefIdeal : Cert.DwsqARefIdeal.Facts] : Prop :=
  ∀ (m : (ℓ : Loc Cert.DwsqAIdeal.nD Cert.DwsqAIdeal.τ Cert.DwsqAIdeal.sig) → Buf (Elt Ideal) ℓ) (g : Dev Cert.DwsqAIdeal.nD → PrngReg)
    (m' : (ℓ : Loc Cert.DwsqARefIdeal.nD Cert.DwsqARefIdeal.τ Cert.DwsqARefIdeal.sig) → Buf (Elt Ideal) ℓ) (g' : Dev Cert.DwsqARefIdeal.nD → PrngReg), Pre_DwsqAIdeal m →
    (∀ c : Dev Cert.DwsqAIdeal.nD,
      m' ((c.tc : Thread Cert.DwsqARefIdeal.nD Cert.DwsqARefIdeal.τ).loc Cert.DwsqARefIdeal.main_arg0) = m ((c.tc : Thread Cert.DwsqAIdeal.nD Cert.DwsqAIdeal.τ).loc Cert.DwsqAIdeal.main_arg0)
      ∧ m' ((c.tc : Thread Cert.DwsqARefIdeal.nD Cert.DwsqARefIdeal.τ).loc Cert.DwsqARefIdeal.main_arg1) = m ((c.tc : Thread Cert.DwsqAIdeal.nD Cert.DwsqAIdeal.τ).loc Cert.DwsqAIdeal.main_arg1)
      ∧ m' ((c.tc : Thread Cert.DwsqARefIdeal.nD Cert.DwsqARefIdeal.τ).loc Cert.DwsqARefIdeal.main_arg2) = m ((c.tc : Thread Cert.DwsqAIdeal.nD Cert.DwsqAIdeal.τ).loc Cert.DwsqAIdeal.main_arg2)) →
    ∃ (v0 : (c : Dev Cert.DwsqAIdeal.nD) → Buf (Elt Ideal) ((c.tc : Thread Cert.DwsqAIdeal.nD Cert.DwsqAIdeal.τ).loc Cert.DwsqAIdeal.main_v0)),
      θ_run (Cert.DwsqAIdeal.defs (F := Ideal)) (onTc (τ := Cert.DwsqAIdeal.τ) (Cert.DwsqAIdeal.main (F := Ideal))) ⟨m, fun _ => 0, g⟩ (fun r => ∀ c : Dev Cert.DwsqAIdeal.nD,
          r.2.mem ((c.tc : Thread Cert.DwsqAIdeal.nD Cert.DwsqAIdeal.τ).loc Cert.DwsqAIdeal.main_v0) = v0 c
          ∧ r.2.mem ((c.tc : Thread Cert.DwsqAIdeal.nD Cert.DwsqAIdeal.τ).loc Cert.DwsqAIdeal.main_arg0) = m ((c.tc : Thread Cert.DwsqAIdeal.nD Cert.DwsqAIdeal.τ).loc Cert.DwsqAIdeal.main_arg0)
          ∧ r.2.mem ((c.tc : Thread Cert.DwsqAIdeal.nD Cert.DwsqAIdeal.τ).loc Cert.DwsqAIdeal.main_arg1) = m ((c.tc : Thread Cert.DwsqAIdeal.nD Cert.DwsqAIdeal.τ).loc Cert.DwsqAIdeal.main_arg1)
          ∧ r.2.mem ((c.tc : Thread Cert.DwsqAIdeal.nD Cert.DwsqAIdeal.τ).loc Cert.DwsqAIdeal.main_arg2) = m ((c.tc : Thread Cert.DwsqAIdeal.nD Cert.DwsqAIdeal.τ).loc Cert.DwsqAIdeal.main_arg2))
      ∧ θ_run (Cert.DwsqARefIdeal.defs (F := Ideal)) (onTc (τ := Cert.DwsqARefIdeal.τ) (Cert.DwsqARefIdeal.main (F := Ideal))) ⟨m', fun _ => 0, g'⟩ (fun r => ∀ c : Dev Cert.DwsqARefIdeal.nD,
          r.2.mem ((c.tc : Thread Cert.DwsqARefIdeal.nD Cert.DwsqARefIdeal.τ).loc Cert.DwsqARefIdeal.main_v7) = v0 c
          ∧ r.2.mem ((c.tc : Thread Cert.DwsqARefIdeal.nD Cert.DwsqARefIdeal.τ).loc Cert.DwsqARefIdeal.main_arg0) = m' ((c.tc : Thread Cert.DwsqARefIdeal.nD Cert.DwsqARefIdeal.τ).loc Cert.DwsqARefIdeal.main_arg0)
          ∧ r.2.mem ((c.tc : Thread Cert.DwsqARefIdeal.nD Cert.DwsqARefIdeal.τ).loc Cert.DwsqARefIdeal.main_arg1) = m' ((c.tc : Thread Cert.DwsqARefIdeal.nD Cert.DwsqARefIdeal.τ).loc Cert.DwsqARefIdeal.main_arg1)
          ∧ r.2.mem ((c.tc : Thread Cert.DwsqARefIdeal.nD Cert.DwsqARefIdeal.τ).loc Cert.DwsqARefIdeal.main_arg2) = m' ((c.tc : Thread Cert.DwsqARefIdeal.nD Cert.DwsqARefIdeal.τ).loc Cert.DwsqARefIdeal.main_arg2))

def preserves_Dmerge_DmergeIdeal : Prop :=
  True

def algebraic_DmergeIdeal_DmergeRefIdeal [hDmergeIdeal : Cert.DmergeIdeal.Facts] [hDmergeRefIdeal : Cert.DmergeRefIdeal.Facts] : Prop :=
  ∀ (m : (ℓ : Loc Cert.DmergeIdeal.nD Cert.DmergeIdeal.τ Cert.DmergeIdeal.sig) → Buf (Elt Ideal) ℓ) (g : Dev Cert.DmergeIdeal.nD → PrngReg)
    (m' : (ℓ : Loc Cert.DmergeRefIdeal.nD Cert.DmergeRefIdeal.τ Cert.DmergeRefIdeal.sig) → Buf (Elt Ideal) ℓ) (g' : Dev Cert.DmergeRefIdeal.nD → PrngReg), Pre_DmergeIdeal m →
    (∀ c : Dev Cert.DmergeIdeal.nD,
      m' ((c.tc : Thread Cert.DmergeRefIdeal.nD Cert.DmergeRefIdeal.τ).loc Cert.DmergeRefIdeal.main_arg0) = m ((c.tc : Thread Cert.DmergeIdeal.nD Cert.DmergeIdeal.τ).loc Cert.DmergeIdeal.main_arg0)
      ∧ m' ((c.tc : Thread Cert.DmergeRefIdeal.nD Cert.DmergeRefIdeal.τ).loc Cert.DmergeRefIdeal.main_arg1) = m ((c.tc : Thread Cert.DmergeIdeal.nD Cert.DmergeIdeal.τ).loc Cert.DmergeIdeal.main_arg1)
      ∧ m' ((c.tc : Thread Cert.DmergeRefIdeal.nD Cert.DmergeRefIdeal.τ).loc Cert.DmergeRefIdeal.main_arg2) = m ((c.tc : Thread Cert.DmergeIdeal.nD Cert.DmergeIdeal.τ).loc Cert.DmergeIdeal.main_arg2)
      ∧ m' ((c.tc : Thread Cert.DmergeRefIdeal.nD Cert.DmergeRefIdeal.τ).loc Cert.DmergeRefIdeal.main_arg3) = m ((c.tc : Thread Cert.DmergeIdeal.nD Cert.DmergeIdeal.τ).loc Cert.DmergeIdeal.main_arg3)
      ∧ m' ((c.tc : Thread Cert.DmergeRefIdeal.nD Cert.DmergeRefIdeal.τ).loc Cert.DmergeRefIdeal.main_arg4) = m ((c.tc : Thread Cert.DmergeIdeal.nD Cert.DmergeIdeal.τ).loc Cert.DmergeIdeal.main_arg4)
      ∧ m' ((c.tc : Thread Cert.DmergeRefIdeal.nD Cert.DmergeRefIdeal.τ).loc Cert.DmergeRefIdeal.main_arg5) = m ((c.tc : Thread Cert.DmergeIdeal.nD Cert.DmergeIdeal.τ).loc Cert.DmergeIdeal.main_arg5)) →
    ∃ (v0 : (c : Dev Cert.DmergeIdeal.nD) → Buf (Elt Ideal) ((c.tc : Thread Cert.DmergeIdeal.nD Cert.DmergeIdeal.τ).loc Cert.DmergeIdeal.main_v0_0)) (v1 : (c : Dev Cert.DmergeIdeal.nD) → Buf (Elt Ideal) ((c.tc : Thread Cert.DmergeIdeal.nD Cert.DmergeIdeal.τ).loc Cert.DmergeIdeal.main_v0_1)) (v2 : (c : Dev Cert.DmergeIdeal.nD) → Buf (Elt Ideal) ((c.tc : Thread Cert.DmergeIdeal.nD Cert.DmergeIdeal.τ).loc Cert.DmergeIdeal.main_v0_2)) (v3 : (c : Dev Cert.DmergeIdeal.nD) → Buf (Elt Ideal) ((c.tc : Thread Cert.DmergeIdeal.nD Cert.DmergeIdeal.τ).loc Cert.DmergeIdeal.main_v0_3)) (v4 : (c : Dev Cert.DmergeIdeal.nD) → Buf (Elt Ideal) ((c.tc : Thread Cert.DmergeIdeal.nD Cert.DmergeIdeal.τ).loc Cert.DmergeIdeal.main_v0_4)),
      θ_run (Cert.DmergeIdeal.defs (F := Ideal)) (onTc (τ := Cert.DmergeIdeal.τ) (Cert.DmergeIdeal.main (F := Ideal))) ⟨m, fun _ => 0, g⟩ (fun r => ∀ c : Dev Cert.DmergeIdeal.nD,
          r.2.mem ((c.tc : Thread Cert.DmergeIdeal.nD Cert.DmergeIdeal.τ).loc Cert.DmergeIdeal.main_v0_0) = v0 c
          ∧ r.2.mem ((c.tc : Thread Cert.DmergeIdeal.nD Cert.DmergeIdeal.τ).loc Cert.DmergeIdeal.main_v0_1) = v1 c
          ∧ r.2.mem ((c.tc : Thread Cert.DmergeIdeal.nD Cert.DmergeIdeal.τ).loc Cert.DmergeIdeal.main_v0_2) = v2 c
          ∧ r.2.mem ((c.tc : Thread Cert.DmergeIdeal.nD Cert.DmergeIdeal.τ).loc Cert.DmergeIdeal.main_v0_3) = v3 c
          ∧ r.2.mem ((c.tc : Thread Cert.DmergeIdeal.nD Cert.DmergeIdeal.τ).loc Cert.DmergeIdeal.main_v0_4) = v4 c
          ∧ r.2.mem ((c.tc : Thread Cert.DmergeIdeal.nD Cert.DmergeIdeal.τ).loc Cert.DmergeIdeal.main_arg0) = m ((c.tc : Thread Cert.DmergeIdeal.nD Cert.DmergeIdeal.τ).loc Cert.DmergeIdeal.main_arg0)
          ∧ r.2.mem ((c.tc : Thread Cert.DmergeIdeal.nD Cert.DmergeIdeal.τ).loc Cert.DmergeIdeal.main_arg1) = m ((c.tc : Thread Cert.DmergeIdeal.nD Cert.DmergeIdeal.τ).loc Cert.DmergeIdeal.main_arg1)
          ∧ r.2.mem ((c.tc : Thread Cert.DmergeIdeal.nD Cert.DmergeIdeal.τ).loc Cert.DmergeIdeal.main_arg2) = m ((c.tc : Thread Cert.DmergeIdeal.nD Cert.DmergeIdeal.τ).loc Cert.DmergeIdeal.main_arg2)
          ∧ r.2.mem ((c.tc : Thread Cert.DmergeIdeal.nD Cert.DmergeIdeal.τ).loc Cert.DmergeIdeal.main_arg3) = m ((c.tc : Thread Cert.DmergeIdeal.nD Cert.DmergeIdeal.τ).loc Cert.DmergeIdeal.main_arg3)
          ∧ r.2.mem ((c.tc : Thread Cert.DmergeIdeal.nD Cert.DmergeIdeal.τ).loc Cert.DmergeIdeal.main_arg4) = m ((c.tc : Thread Cert.DmergeIdeal.nD Cert.DmergeIdeal.τ).loc Cert.DmergeIdeal.main_arg4)
          ∧ r.2.mem ((c.tc : Thread Cert.DmergeIdeal.nD Cert.DmergeIdeal.τ).loc Cert.DmergeIdeal.main_arg5) = m ((c.tc : Thread Cert.DmergeIdeal.nD Cert.DmergeIdeal.τ).loc Cert.DmergeIdeal.main_arg5))
      ∧ θ_run (Cert.DmergeRefIdeal.defs (F := Ideal)) (onTc (τ := Cert.DmergeRefIdeal.τ) (Cert.DmergeRefIdeal.main (F := Ideal))) ⟨m', fun _ => 0, g'⟩ (fun r => ∀ c : Dev Cert.DmergeRefIdeal.nD,
          r.2.mem ((c.tc : Thread Cert.DmergeRefIdeal.nD Cert.DmergeRefIdeal.τ).loc Cert.DmergeRefIdeal.main_v46) = v0 c
          ∧ r.2.mem ((c.tc : Thread Cert.DmergeRefIdeal.nD Cert.DmergeRefIdeal.τ).loc Cert.DmergeRefIdeal.main_v47) = v1 c
          ∧ r.2.mem ((c.tc : Thread Cert.DmergeRefIdeal.nD Cert.DmergeRefIdeal.τ).loc Cert.DmergeRefIdeal.main_v48) = v2 c
          ∧ r.2.mem ((c.tc : Thread Cert.DmergeRefIdeal.nD Cert.DmergeRefIdeal.τ).loc Cert.DmergeRefIdeal.main_v49) = v3 c
          ∧ r.2.mem ((c.tc : Thread Cert.DmergeRefIdeal.nD Cert.DmergeRefIdeal.τ).loc Cert.DmergeRefIdeal.main_v44) = v4 c
          ∧ r.2.mem ((c.tc : Thread Cert.DmergeRefIdeal.nD Cert.DmergeRefIdeal.τ).loc Cert.DmergeRefIdeal.main_arg0) = m' ((c.tc : Thread Cert.DmergeRefIdeal.nD Cert.DmergeRefIdeal.τ).loc Cert.DmergeRefIdeal.main_arg0)
          ∧ r.2.mem ((c.tc : Thread Cert.DmergeRefIdeal.nD Cert.DmergeRefIdeal.τ).loc Cert.DmergeRefIdeal.main_arg1) = m' ((c.tc : Thread Cert.DmergeRefIdeal.nD Cert.DmergeRefIdeal.τ).loc Cert.DmergeRefIdeal.main_arg1)
          ∧ r.2.mem ((c.tc : Thread Cert.DmergeRefIdeal.nD Cert.DmergeRefIdeal.τ).loc Cert.DmergeRefIdeal.main_arg2) = m' ((c.tc : Thread Cert.DmergeRefIdeal.nD Cert.DmergeRefIdeal.τ).loc Cert.DmergeRefIdeal.main_arg2)
          ∧ r.2.mem ((c.tc : Thread Cert.DmergeRefIdeal.nD Cert.DmergeRefIdeal.τ).loc Cert.DmergeRefIdeal.main_arg3) = m' ((c.tc : Thread Cert.DmergeRefIdeal.nD Cert.DmergeRefIdeal.τ).loc Cert.DmergeRefIdeal.main_arg3)
          ∧ r.2.mem ((c.tc : Thread Cert.DmergeRefIdeal.nD Cert.DmergeRefIdeal.τ).loc Cert.DmergeRefIdeal.main_arg4) = m' ((c.tc : Thread Cert.DmergeRefIdeal.nD Cert.DmergeRefIdeal.τ).loc Cert.DmergeRefIdeal.main_arg4)
          ∧ r.2.mem ((c.tc : Thread Cert.DmergeRefIdeal.nD Cert.DmergeRefIdeal.τ).loc Cert.DmergeRefIdeal.main_arg5) = m' ((c.tc : Thread Cert.DmergeRefIdeal.nD Cert.DmergeRefIdeal.τ).loc Cert.DmergeRefIdeal.main_arg5))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)) →
    ∃ (v0 : (c : Dev Cert.FinIdeal.nD) → Buf (Elt Ideal) ((c.tc : Thread Cert.FinIdeal.nD Cert.FinIdeal.τ).loc Cert.FinIdeal.main_v0)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v0) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v2) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1))

def preserves_Fgu_FguIdeal : Prop :=
  True

def algebraic_FguIdeal_FguRefIdeal [hFguIdeal : Cert.FguIdeal.Facts] [hFguRefIdeal : Cert.FguRefIdeal.Facts] : Prop :=
  ∀ (m : (ℓ : Loc Cert.FguIdeal.nD Cert.FguIdeal.τ Cert.FguIdeal.sig) → Buf (Elt Ideal) ℓ) (g : Dev Cert.FguIdeal.nD → PrngReg)
    (m' : (ℓ : Loc Cert.FguRefIdeal.nD Cert.FguRefIdeal.τ Cert.FguRefIdeal.sig) → Buf (Elt Ideal) ℓ) (g' : Dev Cert.FguRefIdeal.nD → PrngReg), Pre_FguIdeal m →
    (∀ c : Dev Cert.FguIdeal.nD,
      m' ((c.tc : Thread Cert.FguRefIdeal.nD Cert.FguRefIdeal.τ).loc Cert.FguRefIdeal.main_arg0) = m ((c.tc : Thread Cert.FguIdeal.nD Cert.FguIdeal.τ).loc Cert.FguIdeal.main_arg0)
      ∧ m' ((c.tc : Thread Cert.FguRefIdeal.nD Cert.FguRefIdeal.τ).loc Cert.FguRefIdeal.main_arg1) = m ((c.tc : Thread Cert.FguIdeal.nD Cert.FguIdeal.τ).loc Cert.FguIdeal.main_arg1)) →
    ∃ (v0 : (c : Dev Cert.FguIdeal.nD) → Buf (Elt Ideal) ((c.tc : Thread Cert.FguIdeal.nD Cert.FguIdeal.τ).loc Cert.FguIdeal.main_v0_0)) (v1 : (c : Dev Cert.FguIdeal.nD) → Buf (Elt Ideal) ((c.tc : Thread Cert.FguIdeal.nD Cert.FguIdeal.τ).loc Cert.FguIdeal.main_v0_1)),
      θ_run (Cert.FguIdeal.defs (F := Ideal)) (onTc (τ := Cert.FguIdeal.τ) (Cert.FguIdeal.main (F := Ideal))) ⟨m, fun _ => 0, g⟩ (fun r => ∀ c : Dev Cert.FguIdeal.nD,
          r.2.mem ((c.tc : Thread Cert.FguIdeal.nD Cert.FguIdeal.τ).loc Cert.FguIdeal.main_v0_0) = v0 c
          ∧ r.2.mem ((c.tc : Thread Cert.FguIdeal.nD Cert.FguIdeal.τ).loc Cert.FguIdeal.main_v0_1) = v1 c
          ∧ r.2.mem ((c.tc : Thread Cert.FguIdeal.nD Cert.FguIdeal.τ).loc Cert.FguIdeal.main_arg0) = m ((c.tc : Thread Cert.FguIdeal.nD Cert.FguIdeal.τ).loc Cert.FguIdeal.main_arg0)
          ∧ r.2.mem ((c.tc : Thread Cert.FguIdeal.nD Cert.FguIdeal.τ).loc Cert.FguIdeal.main_arg1) = m ((c.tc : Thread Cert.FguIdeal.nD Cert.FguIdeal.τ).loc Cert.FguIdeal.main_arg1))
      ∧ θ_run (Cert.FguRefIdeal.defs (F := Ideal)) (onTc (τ := Cert.FguRefIdeal.τ) (Cert.FguRefIdeal.main (F := Ideal))) ⟨m', fun _ => 0, g'⟩ (fun r => ∀ c : Dev Cert.FguRefIdeal.nD,
          r.2.mem ((c.tc : Thread Cert.FguRefIdeal.nD Cert.FguRefIdeal.τ).loc Cert.FguRefIdeal.main_v9) = v0 c
          ∧ r.2.mem ((c.tc : Thread Cert.FguRefIdeal.nD Cert.FguRefIdeal.τ).loc Cert.FguRefIdeal.main_v12) = v1 c
          ∧ r.2.mem ((c.tc : Thread Cert.FguRefIdeal.nD Cert.FguRefIdeal.τ).loc Cert.FguRefIdeal.main_arg0) = m' ((c.tc : Thread Cert.FguRefIdeal.nD Cert.FguRefIdeal.τ).loc Cert.FguRefIdeal.main_arg0)
          ∧ r.2.mem ((c.tc : Thread Cert.FguRefIdeal.nD Cert.FguRefIdeal.τ).loc Cert.FguRefIdeal.main_arg1) = m' ((c.tc : Thread Cert.FguRefIdeal.nD Cert.FguRefIdeal.τ).loc Cert.FguRefIdeal.main_arg1))

def preserves_Fdown_FdownIdeal : Prop :=
  True

def algebraic_FdownIdeal_FdownRefIdeal [hFdownIdeal : Cert.FdownIdeal.Facts] [hFdownRefIdeal : Cert.FdownRefIdeal.Facts] : Prop :=
  ∀ (m : (ℓ : Loc Cert.FdownIdeal.nD Cert.FdownIdeal.τ Cert.FdownIdeal.sig) → Buf (Elt Ideal) ℓ) (g : Dev Cert.FdownIdeal.nD → PrngReg)
    (m' : (ℓ : Loc Cert.FdownRefIdeal.nD Cert.FdownRefIdeal.τ Cert.FdownRefIdeal.sig) → Buf (Elt Ideal) ℓ) (g' : Dev Cert.FdownRefIdeal.nD → PrngReg), Pre_FdownIdeal m →
    (∀ c : Dev Cert.FdownIdeal.nD,
      m' ((c.tc : Thread Cert.FdownRefIdeal.nD Cert.FdownRefIdeal.τ).loc Cert.FdownRefIdeal.main_arg0) = m ((c.tc : Thread Cert.FdownIdeal.nD Cert.FdownIdeal.τ).loc Cert.FdownIdeal.main_arg0)
      ∧ m' ((c.tc : Thread Cert.FdownRefIdeal.nD Cert.FdownRefIdeal.τ).loc Cert.FdownRefIdeal.main_arg1) = m ((c.tc : Thread Cert.FdownIdeal.nD Cert.FdownIdeal.τ).loc Cert.FdownIdeal.main_arg1)
      ∧ m' ((c.tc : Thread Cert.FdownRefIdeal.nD Cert.FdownRefIdeal.τ).loc Cert.FdownRefIdeal.main_arg2) = m ((c.tc : Thread Cert.FdownIdeal.nD Cert.FdownIdeal.τ).loc Cert.FdownIdeal.main_arg2)) →
    ∃ (v0 : (c : Dev Cert.FdownIdeal.nD) → Buf (Elt Ideal) ((c.tc : Thread Cert.FdownIdeal.nD Cert.FdownIdeal.τ).loc Cert.FdownIdeal.main_v0)),
      θ_run (Cert.FdownIdeal.defs (F := Ideal)) (onTc (τ := Cert.FdownIdeal.τ) (Cert.FdownIdeal.main (F := Ideal))) ⟨m, fun _ => 0, g⟩ (fun r => ∀ c : Dev Cert.FdownIdeal.nD,
          r.2.mem ((c.tc : Thread Cert.FdownIdeal.nD Cert.FdownIdeal.τ).loc Cert.FdownIdeal.main_v0) = v0 c
          ∧ r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
          ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1)
          ∧ r.2.mem ((c.tc : Thread Cert.FdownIdeal.nD Cert.FdownIdeal.τ).loc Cert.FdownIdeal.main_arg2) = m ((c.tc : Thread Cert.FdownIdeal.nD Cert.FdownIdeal.τ).loc Cert.FdownIdeal.main_arg2))
      ∧ θ_run (Cert.FdownRefIdeal.defs (F := Ideal)) (onTc (τ := Cert.FdownRefIdeal.τ) (Cert.FdownRefIdeal.main (F := Ideal))) ⟨m', fun _ => 0, g'⟩ (fun r => ∀ c : Dev Cert.FdownRefIdeal.nD,
          r.2.mem ((c.tc : Thread Cert.FdownRefIdeal.nD Cert.FdownRefIdeal.τ).loc Cert.FdownRefIdeal.main_v6) = v0 c
          ∧ r.2.mem ((c.tc : Thread Cert.FdownRefIdeal.nD Cert.FdownRefIdeal.τ).loc Cert.FdownRefIdeal.main_arg0) = m' ((c.tc : Thread Cert.FdownRefIdeal.nD Cert.FdownRefIdeal.τ).loc Cert.FdownRefIdeal.main_arg0)
          ∧ r.2.mem ((c.tc : Thread Cert.FdownRefIdeal.nD Cert.FdownRefIdeal.τ).loc Cert.FdownRefIdeal.main_arg1) = m' ((c.tc : Thread Cert.FdownRefIdeal.nD Cert.FdownRefIdeal.τ).loc Cert.FdownRefIdeal.main_arg1)
          ∧ r.2.mem ((c.tc : Thread Cert.FdownRefIdeal.nD Cert.FdownRefIdeal.τ).loc Cert.FdownRefIdeal.main_arg2) = m' ((c.tc : Thread Cert.FdownRefIdeal.nD Cert.FdownRefIdeal.τ).loc Cert.FdownRefIdeal.main_arg2))

def preserves_FsqC_FsqCIdeal : Prop :=
  True

def algebraic_FsqCIdeal_FsqCRefIdeal [hFsqCIdeal : Cert.FsqCIdeal.Facts] [hFsqCRefIdeal : Cert.FsqCRefIdeal.Facts] : Prop :=
  ∀ (m : (ℓ : Loc Cert.FsqCIdeal.nD Cert.FsqCIdeal.τ Cert.FsqCIdeal.sig) → Buf (Elt Ideal) ℓ) (g : Dev Cert.FsqCIdeal.nD → PrngReg)
    (m' : (ℓ : Loc Cert.FsqCRefIdeal.nD Cert.FsqCRefIdeal.τ Cert.FsqCRefIdeal.sig) → Buf (Elt Ideal) ℓ) (g' : Dev Cert.FsqCRefIdeal.nD → PrngReg), Pre_FsqCIdeal m →
    (∀ c : Dev Cert.FsqCIdeal.nD,
      m' ((c.tc : Thread Cert.FsqCRefIdeal.nD Cert.FsqCRefIdeal.τ).loc Cert.FsqCRefIdeal.main_arg0) = m ((c.tc : Thread Cert.FsqCIdeal.nD Cert.FsqCIdeal.τ).loc Cert.FsqCIdeal.main_arg0)
      ∧ m' ((c.tc : Thread Cert.FsqCRefIdeal.nD Cert.FsqCRefIdeal.τ).loc Cert.FsqCRefIdeal.main_arg1) = m ((c.tc : Thread Cert.FsqCIdeal.nD Cert.FsqCIdeal.τ).loc Cert.FsqCIdeal.main_arg1)) →
    ∃ (v0 : (c : Dev Cert.FsqCIdeal.nD) → Buf (Elt Ideal) ((c.tc : Thread Cert.FsqCIdeal.nD Cert.FsqCIdeal.τ).loc Cert.FsqCIdeal.main_v0)),
      θ_run (Cert.FsqCIdeal.defs (F := Ideal)) (onTc (τ := Cert.FsqCIdeal.τ) (Cert.FsqCIdeal.main (F := Ideal))) ⟨m, fun _ => 0, g⟩ (fun r => ∀ c : Dev Cert.FsqCIdeal.nD,
          r.2.mem ((c.tc : Thread Cert.FsqCIdeal.nD Cert.FsqCIdeal.τ).loc Cert.FsqCIdeal.main_v0) = v0 c
          ∧ r.2.mem ((c.tc : Thread Cert.FsqCIdeal.nD Cert.FsqCIdeal.τ).loc Cert.FsqCIdeal.main_arg0) = m ((c.tc : Thread Cert.FsqCIdeal.nD Cert.FsqCIdeal.τ).loc Cert.FsqCIdeal.main_arg0)
          ∧ r.2.mem ((c.tc : Thread Cert.FsqCIdeal.nD Cert.FsqCIdeal.τ).loc Cert.FsqCIdeal.main_arg1) = m ((c.tc : Thread Cert.FsqCIdeal.nD Cert.FsqCIdeal.τ).loc Cert.FsqCIdeal.main_arg1))
      ∧ θ_run (Cert.FsqCRefIdeal.defs (F := Ideal)) (onTc (τ := Cert.FsqCRefIdeal.τ) (Cert.FsqCRefIdeal.main (F := Ideal))) ⟨m', fun _ => 0, g'⟩ (fun r => ∀ c : Dev Cert.FsqCRefIdeal.nD,
          r.2.mem ((c.tc : Thread Cert.FsqCRefIdeal.nD Cert.FsqCRefIdeal.τ).loc Cert.FsqCRefIdeal.main_v4) = v0 c
          ∧ r.2.mem ((c.tc : Thread Cert.FsqCRefIdeal.nD Cert.FsqCRefIdeal.τ).loc Cert.FsqCRefIdeal.main_arg0) = m' ((c.tc : Thread Cert.FsqCRefIdeal.nD Cert.FsqCRefIdeal.τ).loc Cert.FsqCRefIdeal.main_arg0)
          ∧ r.2.mem ((c.tc : Thread Cert.FsqCRefIdeal.nD Cert.FsqCRefIdeal.τ).loc Cert.FsqCRefIdeal.main_arg1) = m' ((c.tc : Thread Cert.FsqCRefIdeal.nD Cert.FsqCRefIdeal.τ).loc Cert.FsqCRefIdeal.main_arg1))

def preserves_FsqS_FsqSIdeal : Prop :=
  True

def algebraic_FsqSIdeal_FsqSRefIdeal [hFsqSIdeal : Cert.FsqSIdeal.Facts] [hFsqSRefIdeal : Cert.FsqSRefIdeal.Facts] : Prop :=
  ∀ (m : (ℓ : Loc Cert.FsqSIdeal.nD Cert.FsqSIdeal.τ Cert.FsqSIdeal.sig) → Buf (Elt Ideal) ℓ) (g : Dev Cert.FsqSIdeal.nD → PrngReg)
    (m' : (ℓ : Loc Cert.FsqSRefIdeal.nD Cert.FsqSRefIdeal.τ Cert.FsqSRefIdeal.sig) → Buf (Elt Ideal) ℓ) (g' : Dev Cert.FsqSRefIdeal.nD → PrngReg), Pre_FsqSIdeal m →
    (∀ c : Dev Cert.FsqSIdeal.nD,
      m' ((c.tc : Thread Cert.FsqSRefIdeal.nD Cert.FsqSRefIdeal.τ).loc Cert.FsqSRefIdeal.main_arg0) = m ((c.tc : Thread Cert.FsqSIdeal.nD Cert.FsqSIdeal.τ).loc Cert.FsqSIdeal.main_arg0)
      ∧ m' ((c.tc : Thread Cert.FsqSRefIdeal.nD Cert.FsqSRefIdeal.τ).loc Cert.FsqSRefIdeal.main_arg1) = m ((c.tc : Thread Cert.FsqSIdeal.nD Cert.FsqSIdeal.τ).loc Cert.FsqSIdeal.main_arg1)) →
    ∃ (v0 : (c : Dev Cert.FsqSIdeal.nD) → Buf (Elt Ideal) ((c.tc : Thread Cert.FsqSIdeal.nD Cert.FsqSIdeal.τ).loc Cert.FsqSIdeal.main_v0)),
      θ_run (Cert.FsqSIdeal.defs (F := Ideal)) (onTc (τ := Cert.FsqSIdeal.τ) (Cert.FsqSIdeal.main (F := Ideal))) ⟨m, fun _ => 0, g⟩ (fun r => ∀ c : Dev Cert.FsqSIdeal.nD,
          r.2.mem ((c.tc : Thread Cert.FsqSIdeal.nD Cert.FsqSIdeal.τ).loc Cert.FsqSIdeal.main_v0) = v0 c
          ∧ r.2.mem ((c.tc : Thread Cert.FsqSIdeal.nD Cert.FsqSIdeal.τ).loc Cert.FsqSIdeal.main_arg0) = m ((c.tc : Thread Cert.FsqSIdeal.nD Cert.FsqSIdeal.τ).loc Cert.FsqSIdeal.main_arg0)
          ∧ r.2.mem ((c.tc : Thread Cert.FsqSIdeal.nD Cert.FsqSIdeal.τ).loc Cert.FsqSIdeal.main_arg1) = m ((c.tc : Thread Cert.FsqSIdeal.nD Cert.FsqSIdeal.τ).loc Cert.FsqSIdeal.main_arg1))
      ∧ θ_run (Cert.FsqSRefIdeal.defs (F := Ideal)) (onTc (τ := Cert.FsqSRefIdeal.τ) (Cert.FsqSRefIdeal.main (F := Ideal))) ⟨m', fun _ => 0, g'⟩ (fun r => ∀ c : Dev Cert.FsqSRefIdeal.nD,
          r.2.mem ((c.tc : Thread Cert.FsqSRefIdeal.nD Cert.FsqSRefIdeal.τ).loc Cert.FsqSRefIdeal.main_v4) = v0 c
          ∧ r.2.mem ((c.tc : Thread Cert.FsqSRefIdeal.nD Cert.FsqSRefIdeal.τ).loc Cert.FsqSRefIdeal.main_arg0) = m' ((c.tc : Thread Cert.FsqSRefIdeal.nD Cert.FsqSRefIdeal.τ).loc Cert.FsqSRefIdeal.main_arg0)
          ∧ r.2.mem ((c.tc : Thread Cert.FsqSRefIdeal.nD Cert.FsqSRefIdeal.τ).loc Cert.FsqSRefIdeal.main_arg1) = m' ((c.tc : Thread Cert.FsqSRefIdeal.nD Cert.FsqSRefIdeal.τ).loc Cert.FsqSRefIdeal.main_arg1))

def preserves_FsqA_FsqAIdeal : Prop :=
  True

def algebraic_FsqAIdeal_FsqARefIdeal [hFsqAIdeal : Cert.FsqAIdeal.Facts] [hFsqARefIdeal : Cert.FsqARefIdeal.Facts] : Prop :=
  ∀ (m : (ℓ : Loc Cert.FsqAIdeal.nD Cert.FsqAIdeal.τ Cert.FsqAIdeal.sig) → Buf (Elt Ideal) ℓ) (g : Dev Cert.FsqAIdeal.nD → PrngReg)
    (m' : (ℓ : Loc Cert.FsqARefIdeal.nD Cert.FsqARefIdeal.τ Cert.FsqARefIdeal.sig) → Buf (Elt Ideal) ℓ) (g' : Dev Cert.FsqARefIdeal.nD → PrngReg), Pre_FsqAIdeal m →
    (∀ c : Dev Cert.FsqAIdeal.nD,
      m' ((c.tc : Thread Cert.FsqARefIdeal.nD Cert.FsqARefIdeal.τ).loc Cert.FsqARefIdeal.main_arg0) = m ((c.tc : Thread Cert.FsqAIdeal.nD Cert.FsqAIdeal.τ).loc Cert.FsqAIdeal.main_arg0)
      ∧ m' ((c.tc : Thread Cert.FsqARefIdeal.nD Cert.FsqARefIdeal.τ).loc Cert.FsqARefIdeal.main_arg1) = m ((c.tc : Thread Cert.FsqAIdeal.nD Cert.FsqAIdeal.τ).loc Cert.FsqAIdeal.main_arg1)) →
    ∃ (v0 : (c : Dev Cert.FsqAIdeal.nD) → Buf (Elt Ideal) ((c.tc : Thread Cert.FsqAIdeal.nD Cert.FsqAIdeal.τ).loc Cert.FsqAIdeal.main_v0)),
      θ_run (Cert.FsqAIdeal.defs (F := Ideal)) (onTc (τ := Cert.FsqAIdeal.τ) (Cert.FsqAIdeal.main (F := Ideal))) ⟨m, fun _ => 0, g⟩ (fun r => ∀ c : Dev Cert.FsqAIdeal.nD,
          r.2.mem ((c.tc : Thread Cert.FsqAIdeal.nD Cert.FsqAIdeal.τ).loc Cert.FsqAIdeal.main_v0) = v0 c
          ∧ r.2.mem ((c.tc : Thread Cert.FsqAIdeal.nD Cert.FsqAIdeal.τ).loc Cert.FsqAIdeal.main_arg0) = m ((c.tc : Thread Cert.FsqAIdeal.nD Cert.FsqAIdeal.τ).loc Cert.FsqAIdeal.main_arg0)
          ∧ r.2.mem ((c.tc : Thread Cert.FsqAIdeal.nD Cert.FsqAIdeal.τ).loc Cert.FsqAIdeal.main_arg1) = m ((c.tc : Thread Cert.FsqAIdeal.nD Cert.FsqAIdeal.τ).loc Cert.FsqAIdeal.main_arg1))
      ∧ θ_run (Cert.FsqARefIdeal.defs (F := Ideal)) (onTc (τ := Cert.FsqARefIdeal.τ) (Cert.FsqARefIdeal.main (F := Ideal))) ⟨m', fun _ => 0, g'⟩ (fun r => ∀ c : Dev Cert.FsqARefIdeal.nD,
          r.2.mem ((c.tc : Thread Cert.FsqARefIdeal.nD Cert.FsqARefIdeal.τ).loc Cert.FsqARefIdeal.main_v3) = v0 c
          ∧ r.2.mem ((c.tc : Thread Cert.FsqARefIdeal.nD Cert.FsqARefIdeal.τ).loc Cert.FsqARefIdeal.main_arg0) = m' ((c.tc : Thread Cert.FsqARefIdeal.nD Cert.FsqARefIdeal.τ).loc Cert.FsqARefIdeal.main_arg0)
          ∧ r.2.mem ((c.tc : Thread Cert.FsqARefIdeal.nD Cert.FsqARefIdeal.τ).loc Cert.FsqARefIdeal.main_arg1) = m' ((c.tc : Thread Cert.FsqARefIdeal.nD Cert.FsqARefIdeal.τ).loc Cert.FsqARefIdeal.main_arg1))

def preserves_FsqO_FsqOIdeal : Prop :=
  True

def algebraic_FsqOIdeal_FsqORefIdeal [hFsqOIdeal : Cert.FsqOIdeal.Facts] [hFsqORefIdeal : Cert.FsqORefIdeal.Facts] : Prop :=
  ∀ (m : (ℓ : Loc Cert.FsqOIdeal.nD Cert.FsqOIdeal.τ Cert.FsqOIdeal.sig) → Buf (Elt Ideal) ℓ) (g : Dev Cert.FsqOIdeal.nD → PrngReg)
    (m' : (ℓ : Loc Cert.FsqORefIdeal.nD Cert.FsqORefIdeal.τ Cert.FsqORefIdeal.sig) → Buf (Elt Ideal) ℓ) (g' : Dev Cert.FsqORefIdeal.nD → PrngReg), Pre_FsqOIdeal m →
    (∀ c : Dev Cert.FsqOIdeal.nD,
      m' ((c.tc : Thread Cert.FsqORefIdeal.nD Cert.FsqORefIdeal.τ).loc Cert.FsqORefIdeal.main_arg0) = m ((c.tc : Thread Cert.FsqOIdeal.nD Cert.FsqOIdeal.τ).loc Cert.FsqOIdeal.main_arg0)
      ∧ m' ((c.tc : Thread Cert.FsqORefIdeal.nD Cert.FsqORefIdeal.τ).loc Cert.FsqORefIdeal.main_arg1) = m ((c.tc : Thread Cert.FsqOIdeal.nD Cert.FsqOIdeal.τ).loc Cert.FsqOIdeal.main_arg1)
      ∧ m' ((c.tc : Thread Cert.FsqORefIdeal.nD Cert.FsqORefIdeal.τ).loc Cert.FsqORefIdeal.main_arg2) = m ((c.tc : Thread Cert.FsqOIdeal.nD Cert.FsqOIdeal.τ).loc Cert.FsqOIdeal.main_arg2)) →
    ∃ (v0 : (c : Dev Cert.FsqOIdeal.nD) → Buf (Elt Ideal) ((c.tc : Thread Cert.FsqOIdeal.nD Cert.FsqOIdeal.τ).loc Cert.FsqOIdeal.main_v0)),
      θ_run (Cert.FsqOIdeal.defs (F := Ideal)) (onTc (τ := Cert.FsqOIdeal.τ) (Cert.FsqOIdeal.main (F := Ideal))) ⟨m, fun _ => 0, g⟩ (fun r => ∀ c : Dev Cert.FsqOIdeal.nD,
          r.2.mem ((c.tc : Thread Cert.FsqOIdeal.nD Cert.FsqOIdeal.τ).loc Cert.FsqOIdeal.main_v0) = v0 c
          ∧ r.2.mem ((c.tc : Thread Cert.FsqOIdeal.nD Cert.FsqOIdeal.τ).loc Cert.FsqOIdeal.main_arg0) = m ((c.tc : Thread Cert.FsqOIdeal.nD Cert.FsqOIdeal.τ).loc Cert.FsqOIdeal.main_arg0)
          ∧ r.2.mem ((c.tc : Thread Cert.FsqOIdeal.nD Cert.FsqOIdeal.τ).loc Cert.FsqOIdeal.main_arg1) = m ((c.tc : Thread Cert.FsqOIdeal.nD Cert.FsqOIdeal.τ).loc Cert.FsqOIdeal.main_arg1)
          ∧ r.2.mem ((c.tc : Thread Cert.FsqOIdeal.nD Cert.FsqOIdeal.τ).loc Cert.FsqOIdeal.main_arg2) = m ((c.tc : Thread Cert.FsqOIdeal.nD Cert.FsqOIdeal.τ).loc Cert.FsqOIdeal.main_arg2))
      ∧ θ_run (Cert.FsqORefIdeal.defs (F := Ideal)) (onTc (τ := Cert.FsqORefIdeal.τ) (Cert.FsqORefIdeal.main (F := Ideal))) ⟨m', fun _ => 0, g'⟩ (fun r => ∀ c : Dev Cert.FsqORefIdeal.nD,
          r.2.mem ((c.tc : Thread Cert.FsqORefIdeal.nD Cert.FsqORefIdeal.τ).loc Cert.FsqORefIdeal.main_v5) = v0 c
          ∧ r.2.mem ((c.tc : Thread Cert.FsqORefIdeal.nD Cert.FsqORefIdeal.τ).loc Cert.FsqORefIdeal.main_arg0) = m' ((c.tc : Thread Cert.FsqORefIdeal.nD Cert.FsqORefIdeal.τ).loc Cert.FsqORefIdeal.main_arg0)
          ∧ r.2.mem ((c.tc : Thread Cert.FsqORefIdeal.nD Cert.FsqORefIdeal.τ).loc Cert.FsqORefIdeal.main_arg1) = m' ((c.tc : Thread Cert.FsqORefIdeal.nD Cert.FsqORefIdeal.τ).loc Cert.FsqORefIdeal.main_arg1)
          ∧ r.2.mem ((c.tc : Thread Cert.FsqORefIdeal.nD Cert.FsqORefIdeal.τ).loc Cert.FsqORefIdeal.main_arg2) = m' ((c.tc : Thread Cert.FsqORefIdeal.nD Cert.FsqORefIdeal.τ).loc Cert.FsqORefIdeal.main_arg2))

def preserves_Dconv_DconvIdeal : Prop :=
  True

def algebraic_DconvIdeal_DconvRefIdeal [hDconvIdeal : Cert.DconvIdeal.Facts] [hDconvRefIdeal : Cert.DconvRefIdeal.Facts] : Prop :=
  ∀ (m : (ℓ : Loc Cert.DconvIdeal.nD Cert.DconvIdeal.τ Cert.DconvIdeal.sig) → Buf (Elt Ideal) ℓ) (g : Dev Cert.DconvIdeal.nD → PrngReg)
    (m' : (ℓ : Loc Cert.DconvRefIdeal.nD Cert.DconvRefIdeal.τ Cert.DconvRefIdeal.sig) → Buf (Elt Ideal) ℓ) (g' : Dev Cert.DconvRefIdeal.nD → PrngReg), Pre_DconvIdeal m →
    (∀ c : Dev Cert.DconvIdeal.nD,
      m' ((c.tc : Thread Cert.DconvRefIdeal.nD Cert.DconvRefIdeal.τ).loc Cert.DconvRefIdeal.main_arg0) = m ((c.tc : Thread Cert.DconvIdeal.nD Cert.DconvIdeal.τ).loc Cert.DconvIdeal.main_arg0)
      ∧ m' ((c.tc : Thread Cert.DconvRefIdeal.nD Cert.DconvRefIdeal.τ).loc Cert.DconvRefIdeal.main_arg1) = m ((c.tc : Thread Cert.DconvIdeal.nD Cert.DconvIdeal.τ).loc Cert.DconvIdeal.main_arg1)
      ∧ m' ((c.tc : Thread Cert.DconvRefIdeal.nD Cert.DconvRefIdeal.τ).loc Cert.DconvRefIdeal.main_arg2) = m ((c.tc : Thread Cert.DconvIdeal.nD Cert.DconvIdeal.τ).loc Cert.DconvIdeal.main_arg2)) →
    ∃ (v0 : (c : Dev Cert.DconvIdeal.nD) → Buf (Elt Ideal) ((c.tc : Thread Cert.DconvIdeal.nD Cert.DconvIdeal.τ).loc Cert.DconvIdeal.main_v0_0)) (v1 : (c : Dev Cert.DconvIdeal.nD) → Buf (Elt Ideal) ((c.tc : Thread Cert.DconvIdeal.nD Cert.DconvIdeal.τ).loc Cert.DconvIdeal.main_v0_1)),
      θ_run (Cert.DconvIdeal.defs (F := Ideal)) (onTc (τ := Cert.DconvIdeal.τ) (Cert.DconvIdeal.main (F := Ideal))) ⟨m, fun _ => 0, g⟩ (fun r => ∀ c : Dev Cert.DconvIdeal.nD,
          r.2.mem ((c.tc : Thread Cert.DconvIdeal.nD Cert.DconvIdeal.τ).loc Cert.DconvIdeal.main_v0_0) = v0 c
          ∧ r.2.mem ((c.tc : Thread Cert.DconvIdeal.nD Cert.DconvIdeal.τ).loc Cert.DconvIdeal.main_v0_1) = v1 c
          ∧ r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
          ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
          ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2))
      ∧ θ_run (Cert.DconvRefIdeal.defs (F := Ideal)) (onTc (τ := Cert.DconvRefIdeal.τ) (Cert.DconvRefIdeal.main (F := Ideal))) ⟨m', fun _ => 0, g'⟩ (fun r => ∀ c : Dev Cert.DconvRefIdeal.nD,
          r.2.mem ((c.tc : Thread Cert.DconvRefIdeal.nD Cert.DconvRefIdeal.τ).loc Cert.DconvRefIdeal.main_v66) = v0 c
          ∧ r.2.mem ((c.tc : Thread Cert.DconvRefIdeal.nD Cert.DconvRefIdeal.τ).loc Cert.DconvRefIdeal.main_v60) = v1 c
          ∧ r.2.mem ((c.tc : Thread Cert.DconvRefIdeal.nD Cert.DconvRefIdeal.τ).loc Cert.DconvRefIdeal.main_arg0) = m' ((c.tc : Thread Cert.DconvRefIdeal.nD Cert.DconvRefIdeal.τ).loc Cert.DconvRefIdeal.main_arg0)
          ∧ r.2.mem ((c.tc : Thread Cert.DconvRefIdeal.nD Cert.DconvRefIdeal.τ).loc Cert.DconvRefIdeal.main_arg1) = m' ((c.tc : Thread Cert.DconvRefIdeal.nD Cert.DconvRefIdeal.τ).loc Cert.DconvRefIdeal.main_arg1)
          ∧ r.2.mem ((c.tc : Thread Cert.DconvRefIdeal.nD Cert.DconvRefIdeal.τ).loc Cert.DconvRefIdeal.main_arg2) = m' ((c.tc : Thread Cert.DconvRefIdeal.nD Cert.DconvRefIdeal.τ).loc Cert.DconvRefIdeal.main_arg2))

def preserves_Frms_FrmsIdeal : Prop :=
  True

def algebraic_FrmsIdeal_FrmsRefIdeal [hFrmsIdeal : Cert.FrmsIdeal.Facts] [hFrmsRefIdeal : Cert.FrmsRefIdeal.Facts] : Prop :=
  ∀ (m : (ℓ : Loc Cert.FrmsIdeal.nD Cert.FrmsIdeal.τ Cert.FrmsIdeal.sig) → Buf (Elt Ideal) ℓ) (g : Dev Cert.FrmsIdeal.nD → PrngReg)
    (m' : (ℓ : Loc Cert.FrmsRefIdeal.nD Cert.FrmsRefIdeal.τ Cert.FrmsRefIdeal.sig) → Buf (Elt Ideal) ℓ) (g' : Dev Cert.FrmsRefIdeal.nD → PrngReg), Pre_FrmsIdeal m →
    (∀ c : Dev Cert.FrmsIdeal.nD,
      m' ((c.tc : Thread Cert.FrmsRefIdeal.nD Cert.FrmsRefIdeal.τ).loc Cert.FrmsRefIdeal.main_arg0) = m ((c.tc : Thread Cert.FrmsIdeal.nD Cert.FrmsIdeal.τ).loc Cert.FrmsIdeal.main_arg0)
      ∧ m' ((c.tc : Thread Cert.FrmsRefIdeal.nD Cert.FrmsRefIdeal.τ).loc Cert.FrmsRefIdeal.main_arg1) = m ((c.tc : Thread Cert.FrmsIdeal.nD Cert.FrmsIdeal.τ).loc Cert.FrmsIdeal.main_arg1)) →
    ∃ (v0 : (c : Dev Cert.FrmsIdeal.nD) → Buf (Elt Ideal) ((c.tc : Thread Cert.FrmsIdeal.nD Cert.FrmsIdeal.τ).loc Cert.FrmsIdeal.main_v0)),
      θ_run (Cert.FrmsIdeal.defs (F := Ideal)) (onTc (τ := Cert.FrmsIdeal.τ) (Cert.FrmsIdeal.main (F := Ideal))) ⟨m, fun _ => 0, g⟩ (fun r => ∀ c : Dev Cert.FrmsIdeal.nD,
          r.2.mem ((c.tc : Thread Cert.FrmsIdeal.nD Cert.FrmsIdeal.τ).loc Cert.FrmsIdeal.main_v0) = v0 c
          ∧ r.2.mem ((c.tc : Thread Cert.FrmsIdeal.nD Cert.FrmsIdeal.τ).loc Cert.FrmsIdeal.main_arg0) = m ((c.tc : Thread Cert.FrmsIdeal.nD Cert.FrmsIdeal.τ).loc Cert.FrmsIdeal.main_arg0)
          ∧ r.2.mem ((c.tc : Thread Cert.FrmsIdeal.nD Cert.FrmsIdeal.τ).loc Cert.FrmsIdeal.main_arg1) = m ((c.tc : Thread Cert.FrmsIdeal.nD Cert.FrmsIdeal.τ).loc Cert.FrmsIdeal.main_arg1))
      ∧ θ_run (Cert.FrmsRefIdeal.defs (F := Ideal)) (onTc (τ := Cert.FrmsRefIdeal.τ) (Cert.FrmsRefIdeal.main (F := Ideal))) ⟨m', fun _ => 0, g'⟩ (fun r => ∀ c : Dev Cert.FrmsRefIdeal.nD,
          r.2.mem ((c.tc : Thread Cert.FrmsRefIdeal.nD Cert.FrmsRefIdeal.τ).loc Cert.FrmsRefIdeal.main_v14) = v0 c
          ∧ r.2.mem ((c.tc : Thread Cert.FrmsRefIdeal.nD Cert.FrmsRefIdeal.τ).loc Cert.FrmsRefIdeal.main_arg0) = m' ((c.tc : Thread Cert.FrmsRefIdeal.nD Cert.FrmsRefIdeal.τ).loc Cert.FrmsRefIdeal.main_arg0)
          ∧ r.2.mem ((c.tc : Thread Cert.FrmsRefIdeal.nD Cert.FrmsRefIdeal.τ).loc Cert.FrmsRefIdeal.main_arg1) = m' ((c.tc : Thread Cert.FrmsRefIdeal.nD Cert.FrmsRefIdeal.τ).loc Cert.FrmsRefIdeal.main_arg1))

def preserves_Fconv_FconvIdeal : Prop :=
  True

def algebraic_FconvIdeal_FconvRefIdeal [hFconvIdeal : Cert.FconvIdeal.Facts] [hFconvRefIdeal : Cert.FconvRefIdeal.Facts] : Prop :=
  ∀ (m : (ℓ : Loc Cert.FconvIdeal.nD Cert.FconvIdeal.τ Cert.FconvIdeal.sig) → Buf (Elt Ideal) ℓ) (g : Dev Cert.FconvIdeal.nD → PrngReg)
    (m' : (ℓ : Loc Cert.FconvRefIdeal.nD Cert.FconvRefIdeal.τ Cert.FconvRefIdeal.sig) → Buf (Elt Ideal) ℓ) (g' : Dev Cert.FconvRefIdeal.nD → PrngReg), Pre_FconvIdeal m →
    (∀ c : Dev Cert.FconvIdeal.nD,
      m' ((c.tc : Thread Cert.FconvRefIdeal.nD Cert.FconvRefIdeal.τ).loc Cert.FconvRefIdeal.main_arg0) = m ((c.tc : Thread Cert.FconvIdeal.nD Cert.FconvIdeal.τ).loc Cert.FconvIdeal.main_arg0)
      ∧ m' ((c.tc : Thread Cert.FconvRefIdeal.nD Cert.FconvRefIdeal.τ).loc Cert.FconvRefIdeal.main_arg1) = m ((c.tc : Thread Cert.FconvIdeal.nD Cert.FconvIdeal.τ).loc Cert.FconvIdeal.main_arg1)) →
    ∃ (v0 : (c : Dev Cert.FconvIdeal.nD) → Buf (Elt Ideal) ((c.tc : Thread Cert.FconvIdeal.nD Cert.FconvIdeal.τ).loc Cert.FconvIdeal.main_v0)),
      θ_run (Cert.FconvIdeal.defs (F := Ideal)) (onTc (τ := Cert.FconvIdeal.τ) (Cert.FconvIdeal.main (F := Ideal))) ⟨m, fun _ => 0, g⟩ (fun r => ∀ c : Dev Cert.FconvIdeal.nD,
          r.2.mem ((c.tc : Thread Cert.FconvIdeal.nD Cert.FconvIdeal.τ).loc Cert.FconvIdeal.main_v0) = v0 c
          ∧ r.2.mem ((c.tc : Thread Cert.FconvIdeal.nD Cert.FconvIdeal.τ).loc Cert.FconvIdeal.main_arg0) = m ((c.tc : Thread Cert.FconvIdeal.nD Cert.FconvIdeal.τ).loc Cert.FconvIdeal.main_arg0)
          ∧ r.2.mem ((c.tc : Thread Cert.FconvIdeal.nD Cert.FconvIdeal.τ).loc Cert.FconvIdeal.main_arg1) = m ((c.tc : Thread Cert.FconvIdeal.nD Cert.FconvIdeal.τ).loc Cert.FconvIdeal.main_arg1))
      ∧ θ_run (Cert.FconvRefIdeal.defs (F := Ideal)) (onTc (τ := Cert.FconvRefIdeal.τ) (Cert.FconvRefIdeal.main (F := Ideal))) ⟨m', fun _ => 0, g'⟩ (fun r => ∀ c : Dev Cert.FconvRefIdeal.nD,
          r.2.mem ((c.tc : Thread Cert.FconvRefIdeal.nD Cert.FconvRefIdeal.τ).loc Cert.FconvRefIdeal.main_v27) = v0 c
          ∧ r.2.mem ((c.tc : Thread Cert.FconvRefIdeal.nD Cert.FconvRefIdeal.τ).loc Cert.FconvRefIdeal.main_arg0) = m' ((c.tc : Thread Cert.FconvRefIdeal.nD Cert.FconvRefIdeal.τ).loc Cert.FconvRefIdeal.main_arg0)
          ∧ r.2.mem ((c.tc : Thread Cert.FconvRefIdeal.nD Cert.FconvRefIdeal.τ).loc Cert.FconvRefIdeal.main_arg1) = m' ((c.tc : Thread Cert.FconvRefIdeal.nD Cert.FconvRefIdeal.τ).loc Cert.FconvRefIdeal.main_arg1))

def preserves_Fmerge_FmergeIdeal : Prop :=
  True

def algebraic_FmergeIdeal_FmergeRefIdeal [hFmergeIdeal : Cert.FmergeIdeal.Facts] [hFmergeRefIdeal : Cert.FmergeRefIdeal.Facts] : Prop :=
  ∀ (m : (ℓ : Loc Cert.FmergeIdeal.nD Cert.FmergeIdeal.τ Cert.FmergeIdeal.sig) → Buf (Elt Ideal) ℓ) (g : Dev Cert.FmergeIdeal.nD → PrngReg)
    (m' : (ℓ : Loc Cert.FmergeRefIdeal.nD Cert.FmergeRefIdeal.τ Cert.FmergeRefIdeal.sig) → Buf (Elt Ideal) ℓ) (g' : Dev Cert.FmergeRefIdeal.nD → PrngReg), Pre_FmergeIdeal m →
    (∀ c : Dev Cert.FmergeIdeal.nD,
      m' ((c.tc : Thread Cert.FmergeRefIdeal.nD Cert.FmergeRefIdeal.τ).loc Cert.FmergeRefIdeal.main_arg0) = m ((c.tc : Thread Cert.FmergeIdeal.nD Cert.FmergeIdeal.τ).loc Cert.FmergeIdeal.main_arg0)
      ∧ m' ((c.tc : Thread Cert.FmergeRefIdeal.nD Cert.FmergeRefIdeal.τ).loc Cert.FmergeRefIdeal.main_arg1) = m ((c.tc : Thread Cert.FmergeIdeal.nD Cert.FmergeIdeal.τ).loc Cert.FmergeIdeal.main_arg1)
      ∧ m' ((c.tc : Thread Cert.FmergeRefIdeal.nD Cert.FmergeRefIdeal.τ).loc Cert.FmergeRefIdeal.main_arg2) = m ((c.tc : Thread Cert.FmergeIdeal.nD Cert.FmergeIdeal.τ).loc Cert.FmergeIdeal.main_arg2)
      ∧ m' ((c.tc : Thread Cert.FmergeRefIdeal.nD Cert.FmergeRefIdeal.τ).loc Cert.FmergeRefIdeal.main_arg3) = m ((c.tc : Thread Cert.FmergeIdeal.nD Cert.FmergeIdeal.τ).loc Cert.FmergeIdeal.main_arg3)
      ∧ m' ((c.tc : Thread Cert.FmergeRefIdeal.nD Cert.FmergeRefIdeal.τ).loc Cert.FmergeRefIdeal.main_arg4) = m ((c.tc : Thread Cert.FmergeIdeal.nD Cert.FmergeIdeal.τ).loc Cert.FmergeIdeal.main_arg4)) →
    ∃ (v0 : (c : Dev Cert.FmergeIdeal.nD) → Buf (Elt Ideal) ((c.tc : Thread Cert.FmergeIdeal.nD Cert.FmergeIdeal.τ).loc Cert.FmergeIdeal.main_v0)),
      θ_run (Cert.FmergeIdeal.defs (F := Ideal)) (onTc (τ := Cert.FmergeIdeal.τ) (Cert.FmergeIdeal.main (F := Ideal))) ⟨m, fun _ => 0, g⟩ (fun r => ∀ c : Dev Cert.FmergeIdeal.nD,
          r.2.mem ((c.tc : Thread Cert.FmergeIdeal.nD Cert.FmergeIdeal.τ).loc Cert.FmergeIdeal.main_v0) = v0 c
          ∧ r.2.mem ((c.tc : Thread Cert.FmergeIdeal.nD Cert.FmergeIdeal.τ).loc Cert.FmergeIdeal.main_arg0) = m ((c.tc : Thread Cert.FmergeIdeal.nD Cert.FmergeIdeal.τ).loc Cert.FmergeIdeal.main_arg0)
          ∧ r.2.mem ((c.tc : Thread Cert.FmergeIdeal.nD Cert.FmergeIdeal.τ).loc Cert.FmergeIdeal.main_arg1) = m ((c.tc : Thread Cert.FmergeIdeal.nD Cert.FmergeIdeal.τ).loc Cert.FmergeIdeal.main_arg1)
          ∧ r.2.mem ((c.tc : Thread Cert.FmergeIdeal.nD Cert.FmergeIdeal.τ).loc Cert.FmergeIdeal.main_arg2) = m ((c.tc : Thread Cert.FmergeIdeal.nD Cert.FmergeIdeal.τ).loc Cert.FmergeIdeal.main_arg2)
          ∧ r.2.mem ((c.tc : Thread Cert.FmergeIdeal.nD Cert.FmergeIdeal.τ).loc Cert.FmergeIdeal.main_arg3) = m ((c.tc : Thread Cert.FmergeIdeal.nD Cert.FmergeIdeal.τ).loc Cert.FmergeIdeal.main_arg3)
          ∧ r.2.mem ((c.tc : Thread Cert.FmergeIdeal.nD Cert.FmergeIdeal.τ).loc Cert.FmergeIdeal.main_arg4) = m ((c.tc : Thread Cert.FmergeIdeal.nD Cert.FmergeIdeal.τ).loc Cert.FmergeIdeal.main_arg4))
      ∧ θ_run (Cert.FmergeRefIdeal.defs (F := Ideal)) (onTc (τ := Cert.FmergeRefIdeal.τ) (Cert.FmergeRefIdeal.main (F := Ideal))) ⟨m', fun _ => 0, g'⟩ (fun r => ∀ c : Dev Cert.FmergeRefIdeal.nD,
          r.2.mem ((c.tc : Thread Cert.FmergeRefIdeal.nD Cert.FmergeRefIdeal.τ).loc Cert.FmergeRefIdeal.main_v22) = v0 c
          ∧ r.2.mem ((c.tc : Thread Cert.FmergeRefIdeal.nD Cert.FmergeRefIdeal.τ).loc Cert.FmergeRefIdeal.main_arg0) = m' ((c.tc : Thread Cert.FmergeRefIdeal.nD Cert.FmergeRefIdeal.τ).loc Cert.FmergeRefIdeal.main_arg0)
          ∧ r.2.mem ((c.tc : Thread Cert.FmergeRefIdeal.nD Cert.FmergeRefIdeal.τ).loc Cert.FmergeRefIdeal.main_arg1) = m' ((c.tc : Thread Cert.FmergeRefIdeal.nD Cert.FmergeRefIdeal.τ).loc Cert.FmergeRefIdeal.main_arg1)
          ∧ r.2.mem ((c.tc : Thread Cert.FmergeRefIdeal.nD Cert.FmergeRefIdeal.τ).loc Cert.FmergeRefIdeal.main_arg2) = m' ((c.tc : Thread Cert.FmergeRefIdeal.nD Cert.FmergeRefIdeal.τ).loc Cert.FmergeRefIdeal.main_arg2)
          ∧ r.2.mem ((c.tc : Thread Cert.FmergeRefIdeal.nD Cert.FmergeRefIdeal.τ).loc Cert.FmergeRefIdeal.main_arg3) = m' ((c.tc : Thread Cert.FmergeRefIdeal.nD Cert.FmergeRefIdeal.τ).loc Cert.FmergeRefIdeal.main_arg3)
          ∧ r.2.mem ((c.tc : Thread Cert.FmergeRefIdeal.nD Cert.FmergeRefIdeal.τ).loc Cert.FmergeRefIdeal.main_arg4) = m' ((c.tc : Thread Cert.FmergeRefIdeal.nD Cert.FmergeRefIdeal.τ).loc Cert.FmergeRefIdeal.main_arg4))

def Claim : Prop :=
  ∃ (hKernel : Cert.Kernel.Facts) (hKernelIdeal : Cert.KernelIdeal.Facts) (hReferenceIdeal : Cert.ReferenceIdeal.Facts) (hDgu : Cert.Dgu.Facts) (hDguIdeal : Cert.DguIdeal.Facts) (hDguRefIdeal : Cert.DguRefIdeal.Facts) (hDrms : Cert.Drms.Facts) (hDrmsIdeal : Cert.DrmsIdeal.Facts) (hDrmsRefIdeal : Cert.DrmsRefIdeal.Facts) (hDqk : Cert.Dqk.Facts) (hDqkIdeal : Cert.DqkIdeal.Facts) (hDqkRefIdeal : Cert.DqkRefIdeal.Facts) (hDh : Cert.Dh.Facts) (hDhIdeal : Cert.DhIdeal.Facts) (hDhRefIdeal : Cert.DhRefIdeal.Facts) (hDwgu : Cert.Dwgu.Facts) (hDwguIdeal : Cert.DwguIdeal.Facts) (hDwguRefIdeal : Cert.DwguRefIdeal.Facts) (hDwd : Cert.Dwd.Facts) (hDwdIdeal : Cert.DwdIdeal.Facts) (hDwdRefIdeal : Cert.DwdRefIdeal.Facts) (hDwin : Cert.Dwin.Facts) (hDwinIdeal : Cert.DwinIdeal.Facts) (hDwinRefIdeal : Cert.DwinRefIdeal.Facts) (hDhin : Cert.Dhin.Facts) (hDhinIdeal : Cert.DhinIdeal.Facts) (hDhinRefIdeal : Cert.DhinRefIdeal.Facts) (hDsqO : Cert.DsqO.Facts) (hDsqOIdeal : Cert.DsqOIdeal.Facts) (hDsqORefIdeal : Cert.DsqORefIdeal.Facts) (hDsqC : Cert.DsqC.Facts) (hDsqCIdeal : Cert.DsqCIdeal.Facts) (hDsqCRefIdeal : Cert.DsqCRefIdeal.Facts) (hDsqS : Cert.DsqS.Facts) (hDsqSIdeal : Cert.DsqSIdeal.Facts) (hDsqSRefIdeal : Cert.DsqSRefIdeal.Facts) (hDsqA : Cert.DsqA.Facts) (hDsqAIdeal : Cert.DsqAIdeal.Facts) (hDsqARefIdeal : Cert.DsqARefIdeal.Facts) (hDwsqO : Cert.DwsqO.Facts) (hDwsqOIdeal : Cert.DwsqOIdeal.Facts) (hDwsqORefIdeal : Cert.DwsqORefIdeal.Facts) (hDwsqM : Cert.DwsqM.Facts) (hDwsqMIdeal : Cert.DwsqMIdeal.Facts) (hDwsqMRefIdeal : Cert.DwsqMRefIdeal.Facts) (hDwsqA : Cert.DwsqA.Facts) (hDwsqAIdeal : Cert.DwsqAIdeal.Facts) (hDwsqARefIdeal : Cert.DwsqARefIdeal.Facts) (hDmerge : Cert.Dmerge.Facts) (hDmergeIdeal : Cert.DmergeIdeal.Facts) (hDmergeRefIdeal : Cert.DmergeRefIdeal.Facts) (hFin : Cert.Fin.Facts) (hFinIdeal : Cert.FinIdeal.Facts) (hFinRefIdeal : Cert.FinRefIdeal.Facts) (hFgu : Cert.Fgu.Facts) (hFguIdeal : Cert.FguIdeal.Facts) (hFguRefIdeal : Cert.FguRefIdeal.Facts) (hFdown : Cert.Fdown.Facts) (hFdownIdeal : Cert.FdownIdeal.Facts) (hFdownRefIdeal : Cert.FdownRefIdeal.Facts) (hFsqC : Cert.FsqC.Facts) (hFsqCIdeal : Cert.FsqCIdeal.Facts) (hFsqCRefIdeal : Cert.FsqCRefIdeal.Facts) (hFsqS : Cert.FsqS.Facts) (hFsqSIdeal : Cert.FsqSIdeal.Facts) (hFsqSRefIdeal : Cert.FsqSRefIdeal.Facts) (hFsqA : Cert.FsqA.Facts) (hFsqAIdeal : Cert.FsqAIdeal.Facts) (hFsqARefIdeal : Cert.FsqARefIdeal.Facts) (hFsqO : Cert.FsqO.Facts) (hFsqOIdeal : Cert.FsqOIdeal.Facts) (hFsqORefIdeal : Cert.FsqORefIdeal.Facts) (hDconv : Cert.Dconv.Facts) (hDconvIdeal : Cert.DconvIdeal.Facts) (hDconvRefIdeal : Cert.DconvRefIdeal.Facts) (hFrms : Cert.Frms.Facts) (hFrmsIdeal : Cert.FrmsIdeal.Facts) (hFrmsRefIdeal : Cert.FrmsRefIdeal.Facts) (hFconv : Cert.Fconv.Facts) (hFconvIdeal : Cert.FconvIdeal.Facts) (hFconvRefIdeal : Cert.FconvRefIdeal.Facts) (hFmerge : Cert.Fmerge.Facts) (hFmergeIdeal : Cert.FmergeIdeal.Facts) (hFmergeRefIdeal : Cert.FmergeRefIdeal.Facts) (hPre_finite : Cert.Pre_finite.Facts) (hPre_finite_dgu : Cert.Pre_finite_dgu.Facts) (hPre_finite_drms : Cert.Pre_finite_drms.Facts) (hPre_finite_dqk : Cert.Pre_finite_dqk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dgu (hDgu := hDgu)
    ∧ quiescent_DguIdeal (hDguIdeal := hDguIdeal)
    ∧ quiescent_DguIdeal_pre_finite_dgu (hDguIdeal := hDguIdeal) (hPre_finite_dgu := hPre_finite_dgu)
    ∧ quiescent_DguRefIdeal (hDguRefIdeal := hDguRefIdeal)
    ∧ quiescent_DguRefIdeal_pre_finite_dgu (hDguRefIdeal := hDguRefIdeal) (hPre_finite_dgu := hPre_finite_dgu)
    ∧ quiescent_Drms (hDrms := hDrms)
    ∧ quiescent_DrmsIdeal (hDrmsIdeal := hDrmsIdeal)
    ∧ quiescent_DrmsIdeal_pre_finite_drms (hDrmsIdeal := hDrmsIdeal) (hPre_finite_drms := hPre_finite_drms)
    ∧ quiescent_DrmsRefIdeal (hDrmsRefIdeal := hDrmsRefIdeal)
    ∧ quiescent_DrmsRefIdeal_pre_finite_drms (hDrmsRefIdeal := hDrmsRefIdeal) (hPre_finite_drms := hPre_finite_drms)
    ∧ quiescent_Dqk (hDqk := hDqk)
    ∧ quiescent_DqkIdeal (hDqkIdeal := hDqkIdeal)
    ∧ quiescent_DqkIdeal_pre_finite_dqk (hDqkIdeal := hDqkIdeal) (hPre_finite_dqk := hPre_finite_dqk)
    ∧ quiescent_DqkRefIdeal (hDqkRefIdeal := hDqkRefIdeal)
    ∧ quiescent_DqkRefIdeal_pre_finite_dqk (hDqkRefIdeal := hDqkRefIdeal) (hPre_finite_dqk := hPre_finite_dqk)
    ∧ quiescent_Dh (hDh := hDh)
    ∧ quiescent_DhIdeal (hDhIdeal := hDhIdeal)
    ∧ quiescent_DhRefIdeal (hDhRefIdeal := hDhRefIdeal)
    ∧ quiescent_Dwgu (hDwgu := hDwgu)
    ∧ quiescent_DwguIdeal (hDwguIdeal := hDwguIdeal)
    ∧ quiescent_DwguRefIdeal (hDwguRefIdeal := hDwguRefIdeal)
    ∧ quiescent_Dwd (hDwd := hDwd)
    ∧ quiescent_DwdIdeal (hDwdIdeal := hDwdIdeal)
    ∧ quiescent_DwdRefIdeal (hDwdRefIdeal := hDwdRefIdeal)
    ∧ quiescent_Dwin (hDwin := hDwin)
    ∧ quiescent_DwinIdeal (hDwinIdeal := hDwinIdeal)
    ∧ quiescent_DwinRefIdeal (hDwinRefIdeal := hDwinRefIdeal)
    ∧ quiescent_Dhin (hDhin := hDhin)
    ∧ quiescent_DhinIdeal (hDhinIdeal := hDhinIdeal)
    ∧ quiescent_DhinRefIdeal (hDhinRefIdeal := hDhinRefIdeal)
    ∧ quiescent_DsqO (hDsqO := hDsqO)
    ∧ quiescent_DsqOIdeal (hDsqOIdeal := hDsqOIdeal)
    ∧ quiescent_DsqORefIdeal (hDsqORefIdeal := hDsqORefIdeal)
    ∧ quiescent_DsqC (hDsqC := hDsqC)
    ∧ quiescent_DsqCIdeal (hDsqCIdeal := hDsqCIdeal)
    ∧ quiescent_DsqCRefIdeal (hDsqCRefIdeal := hDsqCRefIdeal)
    ∧ quiescent_DsqS (hDsqS := hDsqS)
    ∧ quiescent_DsqSIdeal (hDsqSIdeal := hDsqSIdeal)
    ∧ quiescent_DsqSRefIdeal (hDsqSRefIdeal := hDsqSRefIdeal)
    ∧ quiescent_DsqA (hDsqA := hDsqA)
    ∧ quiescent_DsqAIdeal (hDsqAIdeal := hDsqAIdeal)
    ∧ quiescent_DsqARefIdeal (hDsqARefIdeal := hDsqARefIdeal)
    ∧ quiescent_DwsqO (hDwsqO := hDwsqO)
    ∧ quiescent_DwsqOIdeal (hDwsqOIdeal := hDwsqOIdeal)
    ∧ quiescent_DwsqORefIdeal (hDwsqORefIdeal := hDwsqORefIdeal)
    ∧ quiescent_DwsqM (hDwsqM := hDwsqM)
    ∧ quiescent_DwsqMIdeal (hDwsqMIdeal := hDwsqMIdeal)
    ∧ quiescent_DwsqMRefIdeal (hDwsqMRefIdeal := hDwsqMRefIdeal)
    ∧ quiescent_DwsqA (hDwsqA := hDwsqA)
    ∧ quiescent_DwsqAIdeal (hDwsqAIdeal := hDwsqAIdeal)
    ∧ quiescent_DwsqARefIdeal (hDwsqARefIdeal := hDwsqARefIdeal)
    ∧ quiescent_Dmerge (hDmerge := hDmerge)
    ∧ quiescent_DmergeIdeal (hDmergeIdeal := hDmergeIdeal)
    ∧ quiescent_DmergeRefIdeal (hDmergeRefIdeal := hDmergeRefIdeal)
    ∧ quiescent_Fin (hFin := hFin)
    ∧ quiescent_FinIdeal (hFinIdeal := hFinIdeal)
    ∧ quiescent_FinRefIdeal (hFinRefIdeal := hFinRefIdeal)
    ∧ quiescent_Fgu (hFgu := hFgu)
    ∧ quiescent_FguIdeal (hFguIdeal := hFguIdeal)
    ∧ quiescent_FguRefIdeal (hFguRefIdeal := hFguRefIdeal)
    ∧ quiescent_Fdown (hFdown := hFdown)
    ∧ quiescent_FdownIdeal (hFdownIdeal := hFdownIdeal)
    ∧ quiescent_FdownRefIdeal (hFdownRefIdeal := hFdownRefIdeal)
    ∧ quiescent_FsqC (hFsqC := hFsqC)
    ∧ quiescent_FsqCIdeal (hFsqCIdeal := hFsqCIdeal)
    ∧ quiescent_FsqCRefIdeal (hFsqCRefIdeal := hFsqCRefIdeal)
    ∧ quiescent_FsqS (hFsqS := hFsqS)
    ∧ quiescent_FsqSIdeal (hFsqSIdeal := hFsqSIdeal)
    ∧ quiescent_FsqSRefIdeal (hFsqSRefIdeal := hFsqSRefIdeal)
    ∧ quiescent_FsqA (hFsqA := hFsqA)
    ∧ quiescent_FsqAIdeal (hFsqAIdeal := hFsqAIdeal)
    ∧ quiescent_FsqARefIdeal (hFsqARefIdeal := hFsqARefIdeal)
    ∧ quiescent_FsqO (hFsqO := hFsqO)
    ∧ quiescent_FsqOIdeal (hFsqOIdeal := hFsqOIdeal)
    ∧ quiescent_FsqORefIdeal (hFsqORefIdeal := hFsqORefIdeal)
    ∧ quiescent_Dconv (hDconv := hDconv)
    ∧ quiescent_DconvIdeal (hDconvIdeal := hDconvIdeal)
    ∧ quiescent_DconvRefIdeal (hDconvRefIdeal := hDconvRefIdeal)
    ∧ quiescent_Frms (hFrms := hFrms)
    ∧ quiescent_FrmsIdeal (hFrmsIdeal := hFrmsIdeal)
    ∧ quiescent_FrmsRefIdeal (hFrmsRefIdeal := hFrmsRefIdeal)
    ∧ quiescent_Fconv (hFconv := hFconv)
    ∧ quiescent_FconvIdeal (hFconvIdeal := hFconvIdeal)
    ∧ quiescent_FconvRefIdeal (hFconvRefIdeal := hFconvRefIdeal)
    ∧ quiescent_Fmerge (hFmerge := hFmerge)
    ∧ quiescent_FmergeIdeal (hFmergeIdeal := hFmergeIdeal)
    ∧ quiescent_FmergeRefIdeal (hFmergeRefIdeal := hFmergeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dgu_DguIdeal
    ∧ algebraic_DguIdeal_DguRefIdeal_pre_finite_dgu (hDguIdeal := hDguIdeal) (hDguRefIdeal := hDguRefIdeal) (hPre_finite_dgu := hPre_finite_dgu)
    ∧ preserves_Drms_DrmsIdeal
    ∧ algebraic_DrmsIdeal_DrmsRefIdeal_pre_finite_drms (hDrmsIdeal := hDrmsIdeal) (hDrmsRefIdeal := hDrmsRefIdeal) (hPre_finite_drms := hPre_finite_drms)
    ∧ preserves_Dqk_DqkIdeal
    ∧ algebraic_DqkIdeal_DqkRefIdeal_pre_finite_dqk (hDqkIdeal := hDqkIdeal) (hDqkRefIdeal := hDqkRefIdeal) (hPre_finite_dqk := hPre_finite_dqk)
    ∧ preserves_Dh_DhIdeal
    ∧ algebraic_DhIdeal_DhRefIdeal (hDhIdeal := hDhIdeal) (hDhRefIdeal := hDhRefIdeal)
    ∧ preserves_Dwgu_DwguIdeal
    ∧ algebraic_DwguIdeal_DwguRefIdeal (hDwguIdeal := hDwguIdeal) (hDwguRefIdeal := hDwguRefIdeal)
    ∧ preserves_Dwd_DwdIdeal
    ∧ algebraic_DwdIdeal_DwdRefIdeal (hDwdIdeal := hDwdIdeal) (hDwdRefIdeal := hDwdRefIdeal)
    ∧ preserves_Dwin_DwinIdeal
    ∧ algebraic_DwinIdeal_DwinRefIdeal (hDwinIdeal := hDwinIdeal) (hDwinRefIdeal := hDwinRefIdeal)
    ∧ preserves_Dhin_DhinIdeal
    ∧ algebraic_DhinIdeal_DhinRefIdeal (hDhinIdeal := hDhinIdeal) (hDhinRefIdeal := hDhinRefIdeal)
    ∧ preserves_DsqO_DsqOIdeal
    ∧ algebraic_DsqOIdeal_DsqORefIdeal (hDsqOIdeal := hDsqOIdeal) (hDsqORefIdeal := hDsqORefIdeal)
    ∧ preserves_DsqC_DsqCIdeal
    ∧ algebraic_DsqCIdeal_DsqCRefIdeal (hDsqCIdeal := hDsqCIdeal) (hDsqCRefIdeal := hDsqCRefIdeal)
    ∧ preserves_DsqS_DsqSIdeal
    ∧ algebraic_DsqSIdeal_DsqSRefIdeal (hDsqSIdeal := hDsqSIdeal) (hDsqSRefIdeal := hDsqSRefIdeal)
    ∧ preserves_DsqA_DsqAIdeal
    ∧ algebraic_DsqAIdeal_DsqARefIdeal (hDsqAIdeal := hDsqAIdeal) (hDsqARefIdeal := hDsqARefIdeal)
    ∧ preserves_DwsqO_DwsqOIdeal
    ∧ algebraic_DwsqOIdeal_DwsqORefIdeal (hDwsqOIdeal := hDwsqOIdeal) (hDwsqORefIdeal := hDwsqORefIdeal)
    ∧ preserves_DwsqM_DwsqMIdeal
    ∧ algebraic_DwsqMIdeal_DwsqMRefIdeal (hDwsqMIdeal := hDwsqMIdeal) (hDwsqMRefIdeal := hDwsqMRefIdeal)
    ∧ preserves_DwsqA_DwsqAIdeal
    ∧ algebraic_DwsqAIdeal_DwsqARefIdeal (hDwsqAIdeal := hDwsqAIdeal) (hDwsqARefIdeal := hDwsqARefIdeal)
    ∧ preserves_Dmerge_DmergeIdeal
    ∧ algebraic_DmergeIdeal_DmergeRefIdeal (hDmergeIdeal := hDmergeIdeal) (hDmergeRefIdeal := hDmergeRefIdeal)
    ∧ preserves_Fin_FinIdeal
    ∧ algebraic_FinIdeal_FinRefIdeal (hFinIdeal := hFinIdeal) (hFinRefIdeal := hFinRefIdeal)
    ∧ preserves_Fgu_FguIdeal
    ∧ algebraic_FguIdeal_FguRefIdeal (hFguIdeal := hFguIdeal) (hFguRefIdeal := hFguRefIdeal)
    ∧ preserves_Fdown_FdownIdeal
    ∧ algebraic_FdownIdeal_FdownRefIdeal (hFdownIdeal := hFdownIdeal) (hFdownRefIdeal := hFdownRefIdeal)
    ∧ preserves_FsqC_FsqCIdeal
    ∧ algebraic_FsqCIdeal_FsqCRefIdeal (hFsqCIdeal := hFsqCIdeal) (hFsqCRefIdeal := hFsqCRefIdeal)
    ∧ preserves_FsqS_FsqSIdeal
    ∧ algebraic_FsqSIdeal_FsqSRefIdeal (hFsqSIdeal := hFsqSIdeal) (hFsqSRefIdeal := hFsqSRefIdeal)
    ∧ preserves_FsqA_FsqAIdeal
    ∧ algebraic_FsqAIdeal_FsqARefIdeal (hFsqAIdeal := hFsqAIdeal) (hFsqARefIdeal := hFsqARefIdeal)
    ∧ preserves_FsqO_FsqOIdeal
    ∧ algebraic_FsqOIdeal_FsqORefIdeal (hFsqOIdeal := hFsqOIdeal) (hFsqORefIdeal := hFsqORefIdeal)
    ∧ preserves_Dconv_DconvIdeal
    ∧ algebraic_DconvIdeal_DconvRefIdeal (hDconvIdeal := hDconvIdeal) (hDconvRefIdeal := hDconvRefIdeal)
    ∧ preserves_Frms_FrmsIdeal
    ∧ algebraic_FrmsIdeal_FrmsRefIdeal (hFrmsIdeal := hFrmsIdeal) (hFrmsRefIdeal := hFrmsRefIdeal)
    ∧ preserves_Fconv_FconvIdeal
    ∧ algebraic_FconvIdeal_FconvRefIdeal (hFconvIdeal := hFconvIdeal) (hFconvRefIdeal := hFconvRefIdeal)
    ∧ preserves_Fmerge_FmergeIdeal
    ∧ algebraic_FmergeIdeal_FmergeRefIdeal (hFmergeIdeal := hFmergeIdeal) (hFmergeRefIdeal := hFmergeRefIdeal)
-- ==== Pre_finite.lean ====
abbrev S2048x1024 : Shape := ⟨2, ![2048, 1024]⟩
abbrev S2048x8 : Shape := ⟨2, ![2048, 8]⟩
abbrev S_ : Shape := ⟨0, ![]⟩

class Facts : Prop where
  bcast_S_S2048x1024 : S_.BroadcastsInDim S2048x1024 (![] : Fin 0 → Fin S2048x1024.rank)
  bcast_S_S2048x8 : S_.BroadcastsInDim S2048x8 (![] : Fin 0 → Fin S2048x8.rank)

variable [Facts]

def fn {F : FTy → Type} [FloatOps F] (main_arg0 : FVec F S2048x1024 .bf16) (main_arg1 : FVec F S2048x1024 .bf16) (main_arg2 : FVec F S2048x1024 .bf16) (main_arg3 : FVec F S2048x8 .f32) (main_arg4 : FVec F S2048x1024 .f32) : IVec S2048x1024 1 × IVec S2048x1024 1 × IVec S2048x1024 1 × IVec S2048x8 1 × IVec S2048x1024 1 :=
  let main_v0 : FVec F S2048x1024 .bf16 := Host.absf main_arg0
  let main_cst : FVec F S_ .bf16 := constant S_ .bf16 0x7F80#16
  let main_v1 : FVec F S2048x1024 .bf16 := broadcastInDim S2048x1024 ![] bcast_S_S2048x1024 main_cst
  let main_v2 : IVec S2048x1024 1 := cmpf .olt main_v0 main_v1
  let main_v3 : FVec F S2048x1024 .bf16 := Host.absf main_arg1
  let main_cst_0 : FVec F S_ .bf16 := constant S_ .bf16 0x7F80#16
  let main_v4 : FVec F S2048x1024 .bf16 := broadcastInDim S2048x1024 ![] bcast_S_S2048x1024 main_cst_0
  let main_v5 : IVec S2048x1024 1 := cmpf .olt main_v3 main_v4
  let main_v6 : FVec F S2048x1024 .bf16 := Host.absf main_arg2
  let main_cst_1 : FVec F S_ .bf16 := constant S_ .bf16 0x7F80#16
  let main_v7 : FVec F S2048x1024 .bf16 := broadcastInDim S2048x1024 ![] bcast_S_S2048x1024 main_cst_1
  let main_v8 : IVec S2048x1024 1 := cmpf .olt main_v6 main_v7
  let main_v9 : FVec F S2048x8 .f32 := Host.absf main_arg3
  let main_cst_2 : FVec F S_ .f32 := constant S_ .f32 0x7F800000#32
  let main_v10 : FVec F S2048x8 .f32 := broadcastInDim S2048x8 ![] bcast_S_S2048x8 main_cst_2
  let main_v11 : IVec S2048x8 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_finite_dgu.lean ====
abbrev S2048x1024 : Shape := ⟨2, ![2048, 1024]⟩
abbrev S1x4x704x1024 : Shape := ⟨4, ![1, 4, 704, 1024]⟩
abbrev S2x4x2048x704 : Shape := ⟨4, ![2, 4, 2048, 704]⟩
abbrev S_ : Shape := ⟨0, ![]⟩

class Facts : Prop where
  bcast_S_S2048x1024 : S_.BroadcastsInDim S2048x1024 (![] : Fin 0 → Fin S2048x1024.rank)
  bcast_S_S1x4x704x1024 : S_.BroadcastsInDim S1x4x704x1024 (![] : Fin 0 → Fin S1x4x704x1024.rank)
  bcast_S_S2x4x2048x704 : S_.BroadcastsInDim S2x4x2048x704 (![] : Fin 0 → Fin S2x4x2048x704.rank)

variable [Facts]

def fn {F : FTy → Type} [FloatOps F] (main_arg0 : FVec F S2048x1024 .f32) (main_arg1 : FVec F S1x4x704x1024 .bf16) (main_arg2 : FVec F S2x4x2048x704 .f32) : IVec S2048x1024 1 × IVec S1x4x704x1024 1 × IVec S2x4x2048x704 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x4x704x1024 .bf16 := Host.absf main_arg1
  let main_cst_0 : FVec F S_ .bf16 := constant S_ .bf16 0x7F80#16
  let main_v4 : FVec F S1x4x704x1024 .bf16 := broadcastInDim S1x4x704x1024 ![] bcast_S_S1x4x704x1024 main_cst_0
  let main_v5 : IVec S1x4x704x1024 1 := cmpf .olt main_v3 main_v4
  let main_v6 : FVec F S2x4x2048x704 .f32 := Host.absf main_arg2
  let main_cst_1 : FVec F S_ .f32 := constant S_ .f32 0x7F800000#32
  let main_v7 : FVec F S2x4x2048x704 .f32 := broadcastInDim S2x4x2048x704 ![] bcast_S_S2x4x2048x704 main_cst_1
  let main_v8 : IVec S2x4x2048x704 1 := cmpf .olt main_v6 main_v7
  (main_v2, main_v5, main_v8)
-- ==== Pre_finite_dqk.lean ====
abbrev S2048x1024 : Shape := ⟨2, ![2048, 1024]⟩
abbrev S2048x11776 : Shape := ⟨2, ![2048, 11776]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S2048x11776 : S_.BroadcastsInDim S2048x11776 (![] : Fin 0 → Fin S2048x11776.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S2048x1024 .f32) (main_arg3 : FVec F S2048x11776 .f32) (main_arg4 : FVec F S1x1024 .f32) (main_arg5 : FVec F S1x1024 .f32) : IVec S2048x1024 1 × IVec S2048x1024 1 × IVec S2048x11776 1 × IVec S1x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S2048x11776 .f32 := Host.absf main_arg3
  let main_cst_1 : FVec F S_ .f32 := constant S_ .f32 0x7F800000#32
  let main_v7 : FVec F S2048x11776 .f32 := broadcastInDim S2048x11776 ![] bcast_S_S2048x11776 main_cst_1
  let main_v8 : IVec S2048x11776 1 := cmpf .olt main_v6 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite_drms.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S1x1024 .f32) (main_arg3 : FVec F S2048x1024 .f32) : IVec S2048x1024 1 × IVec S2048x1024 1 × IVec S1x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Kernel.lean ====
abbrev S2048x1024 : Shape := ⟨2, ![2048, 1024]⟩
abbrev S2048x8 : Shape := ⟨2, ![2048, 8]⟩
abbrev S_ : Shape := ⟨0, ![]⟩
abbrev S8x2048 : Shape := ⟨2, ![8, 2048]⟩
abbrev S2048x8x128 : Shape := ⟨3, ![2048, 8, 128]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x1 : Shape := ⟨3, ![8, 2048, 1]⟩
abbrev S8x1x2048 : Shape := ⟨3, ![8, 1, 2048]⟩
abbrev S8x128x2048 : Shape := ⟨3, ![8, 128, 2048]⟩
abbrev S8x2048x128 : Shape := ⟨3, ![8, 2048, 128]⟩
abbrev S2048x128 : Shape := ⟨2, ![2048, 128]⟩
abbrev S1024x128 : Shape := ⟨2, ![1024, 128]⟩
abbrev S1x1x2048 : Shape := ⟨3, ![1, 1, 2048]⟩
abbrev S1x1024x128 : Shape := ⟨3, ![1, 1024, 128]⟩
abbrev S1x1024x1 : Shape := ⟨3, ![1, 1024, 1]⟩
abbrev S1024x1 : Shape := ⟨2, ![1024, 1]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 67
  | .vmem => 21
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x8, .f32⟩
  | .hbm, ⟨4, _⟩ => ⟨S2048x1024, .f32⟩
  | .hbm, ⟨5, _⟩ => ⟨S_, .f32⟩
  | .hbm, ⟨6, _⟩ => ⟨S_, .f32⟩
  | .hbm, ⟨7, _⟩ => ⟨S2048x8, .f32⟩
  | .hbm, ⟨8, _⟩ => ⟨S8x2048, .f32⟩
  | .hbm, ⟨9, _⟩ => ⟨S2048x1024, .f32⟩
  | .hbm, ⟨10, _⟩ => ⟨S2048x8x128, .f32⟩
  | .hbm, ⟨11, _⟩ => ⟨S2048x1024, .f32⟩
  | .hbm, ⟨12, _⟩ => ⟨S2048x8x128, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S8x2048x1, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S_, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S2048x8x128, .f32⟩
  | .hbm, ⟨48, _⟩ => ⟨S8x128x2048, .f32⟩
  | .hbm, ⟨49, _⟩ => ⟨S2048x1024, .f32⟩
  | .hbm, ⟨50, _⟩ => ⟨S2048x8x128, .f32⟩
  | .hbm, ⟨51, _⟩ => ⟨S8x2048x2048, .f32⟩
  | .hbm, ⟨52, _⟩ => ⟨S8x2048x1, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S8x2048x128, .f32⟩
  | .hbm, ⟨61, _⟩ => ⟨S8x1x2048, .f32⟩
  | .hbm, ⟨62, _⟩ => ⟨S8x1x2048, .f32⟩
  | .hbm, ⟨63, _⟩ => ⟨S8x1x2048, .f32⟩
  | .hbm, ⟨64, _⟩ => ⟨S2048x1024, .f32⟩
  | .hbm, ⟨65, _⟩ => ⟨S2048x1024, .f32⟩
  | .hbm, ⟨66, _⟩ => ⟨S2048x128, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S2048x128, .f32⟩
  | .local _ .vmem, ⟨7, _⟩ => ⟨S2048x128, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1024x128, .f32⟩
  | .local _ .vmem, ⟨13, _⟩ => ⟨S1x1024x128, .f32⟩
  | .local _ .vmem, ⟨14, _⟩ => ⟨S1x1x2048, .f32⟩
  | .local _ .vmem, ⟨15, _⟩ => ⟨S1x1x2048, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48_0 : Ref sig .tc := ⟨.hbm, 64, rfl⟩
abbrev main_v48_1 : Ref sig .tc := ⟨.hbm, 65, rfl⟩
abbrev main_v48_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  v9
def k0_off1 (i : grid0.Coords) : Fin 2 → Nat :=
  let arg1 : BitVec 32 := BitVec.ofNat 32 (i 1).val
  let c1024_i32 : BitVec 32 := 1024#32
  let v9 : BitVec 32 := Scalar.muli arg1 c1024_i32
  let v10 : BitVec 32 := v9
  let v12 : Index := Scalar.indexCast v10
  let c0_8 : Index := 0#32
  ![v12.toNat, 0]
def k0_off2 (i : grid0.Coords) : Fin 3 → Nat :=
  let c0_11 : Index := 0#32
  let c0_12 : Index := 0#32
  let arg1 : BitVec 32 := BitVec.ofNat 32 (i 1).val
  let c1024_i32 : BitVec 32 := 1024#32
  let v9 : BitVec 32 := Scalar.muli arg1 c1024_i32
  let v10 : BitVec 32 := v9
  let v20 : Index := Scalar.indexCast v10
  ![0, 0, v20.toNat]
@[reducible] def k0_t1_loop (i : grid0.Coords) : Scf.Loop 32 :=
  let arg1 : BitVec 32 := BitVec.ofNat 32 (i 1).val
  let c1_i32 : BitVec 32 := 1#32
  let v11 : BitVec 32 := Scalar.addi arg1 c1_i32
  let c2_i32 : BitVec 32 := 2#32
  let v63 : BitVec 32 := Scalar.subi c2_i32 v11
  let c1_i32_21 : BitVec 32 := 1#32
  let v65 : BitVec 32 := Scalar.divsi v63 c1_i32_21
  let v66 : BitVec 32 := Scalar.muli v65 c1_i32_21
  let v67 : BitVec 32 := Scalar.addi v11 v66
  let c1_i32_22 : BitVec 32 := 1#32
  ⟨v11, v67, c1_i32_22⟩
def k0_mult2 (i : grid0.Coords) (k0_t1 : Fin (k0_t1_loop i).trips) : BitVec 32 :=
  let arg1 : BitVec 32 := BitVec.ofNat 32 (i 1).val
  let c1_i32 : BitVec 32 := 1#32
  let v11 : BitVec 32 := Scalar.addi arg1 c1_i32
  let c1_i32_22 : BitVec 32 := 1#32
  let arg13 : BitVec 32 := Scf.iv v11 c1_i32_22 k0_t1
  let c1024_i32_33 : BitVec 32 := 1024#32
  let v89 : BitVec 32 := Scalar.muli arg13 c1024_i32_33
  v89
def k0_off3 (i : grid0.Coords) (k0_t1 : Fin (k0_t1_loop i).trips) : Fin 2 → Nat :=
  let arg1 : BitVec 32 := BitVec.ofNat 32 (i 1).val
  let c1_i32 : BitVec 32 := 1#32
  let v11 : BitVec 32 := Scalar.addi arg1 c1_i32
  let c1_i32_22 : BitVec 32 := 1#32
  let arg13 : BitVec 32 := Scf.iv v11 c1_i32_22 k0_t1
  let c1024_i32_33 : BitVec 32 := 1024#32
  let v89 : BitVec 32 := Scalar.muli arg13 c1024_i32_33
  let v90 : BitVec 32 := v89
  let v91 : Index := Scalar.indexCast v90
  let c0_34 : Index := 0#32
  ![v91.toNat, 0]
def k0_off4 (i : grid0.Coords) (k0_t1 : Fin (k0_t1_loop i).trips) : Fin 3 → Nat :=
  let c0_38 : Index := 0#32
  let c0_39 : Index := 0#32
  let arg1 : BitVec 32 := BitVec.ofNat 32 (i 1).val
  let c1_i32 : BitVec 32 := 1#32
  let v11 : BitVec 32 := Scalar.addi arg1 c1_i32
  let c1_i32_22 : BitVec 32 := 1#32
  let arg13 : BitVec 32 := Scf.iv v11 c1_i32_22 k0_t1
  let c1024_i32_33 : BitVec 32 := 1024#32
  let v89 : BitVec 32 := Scalar.muli arg13 c1024_i32_33
  let v90 : BitVec 32 := v89
  let v99 : Index := Scalar.indexCast v90
  ![0, 0, v99.toNat]
@[reducible] def k0_t2_loop (i : grid0.Coords) : Scf.Loop 32 :=
  let arg1 : BitVec 32 := BitVec.ofNat 32 (i 1).val
  let c1_i32 : BitVec 32 := 1#32
  let v11 : BitVec 32 := Scalar.addi arg1 c1_i32
  let c2_i32 : BitVec 32 := 2#32
  let v63 : BitVec 32 := Scalar.subi c2_i32 v11
  let c1_i32_21 : BitVec 32 := 1#32
  let v65 : BitVec 32 := Scalar.divsi v63 c1_i32_21
  let v66 : BitVec 32 := Scalar.muli v65 c1_i32_21
  let v67 : BitVec 32 := Scalar.addi v11 v66
  let v64 : BitVec 32 := Scalar.addi v11 v63
  let c1_i32_23 : BitVec 32 := 1#32
  ⟨v67, v64, c1_i32_23⟩
def k0_mult3 (i : grid0.Coords) (k0_t2 : Fin (k0_t2_loop i).trips) : BitVec 32 :=
  let arg1 : BitVec 32 := BitVec.ofNat 32 (i 1).val
  let c1_i32 : BitVec 32 := 1#32
  let v11 : BitVec 32 := Scalar.addi arg1 c1_i32
  let c2_i32 : BitVec 32 := 2#32
  let v63 : BitVec 32 := Scalar.subi c2_i32 v11
  let c1_i32_21 : BitVec 32 := 1#32
  let v65 : BitVec 32 := Scalar.divsi v63 c1_i32_21
  let v66 : BitVec 32 := Scalar.muli v65 c1_i32_21
  let v67 : BitVec 32 := Scalar.addi v11 v66
  let c1_i32_23 : BitVec 32 := 1#32
  let arg13 : BitVec 32 := Scf.iv v67 c1_i32_23 k0_t2
  let c1024_i32_33 : BitVec 32 := 1024#32
  let v89 : BitVec 32 := Scalar.muli arg13 c1024_i32_33
  v89
def k0_off5 (i : grid0.Coords) (k0_t2 : Fin (k0_t2_loop i).trips) : Fin 2 → Nat :=
  let arg1 : BitVec 32 := BitVec.ofNat 32 (i 1).val
  let c1_i32 : BitVec 32 := 1#32
  let v11 : BitVec 32 := Scalar.addi arg1 c1_i32
  let c2_i32 : BitVec 32 := 2#32
  let v63 : BitVec 32 := Scalar.subi c2_i32 v11
  let c1_i32_21 : BitVec 32 := 1#32
  let v65 : BitVec 32 := Scalar.divsi v63 c1_i32_21
  let v66 : BitVec 32 := Scalar.muli v65 c1_i32_21
  let v67 : BitVec 32 := Scalar.addi v11 v66
  let c1_i32_23 : BitVec 32 := 1#32
  let arg13 : BitVec 32 := Scf.iv v67 c1_i32_23 k0_t2
  let c1024_i32_33 : BitVec 32 := 1024#32
  let v89 : BitVec 32 := Scalar.muli arg13 c1024_i32_33
  let v90 : BitVec 32 := v89
  let v91 : Index := Scalar.indexCast v90
  let c0_34 : Index := 0#32
  ![v91.toNat, 0]
def k0_off6 (i : grid0.Coords) (k0_t2 : Fin (k0_t2_loop i).trips) : Fin 3 → Nat :=
  let c0_38 : Index := 0#32
  let c0_39 : Index := 0#32
  let arg1 : BitVec 32 := BitVec.ofNat 32 (i 1).val
  let c1_i32 : BitVec 32 := 1#32
  let v11 : BitVec 32 := Scalar.addi arg1 c1_i32
  let c2_i32 : BitVec 32 := 2#32
  let v63 : BitVec 32 := Scalar.subi c2_i32 v11
  let c1_i32_21 : BitVec 32 := 1#32
  let v65 : BitVec 32 := Scalar.divsi v63 c1_i32_21
  let v66 : BitVec 32 := Scalar.muli v65 c1_i32_21
  let v67 : BitVec 32 := Scalar.addi v11 v66
  let c1_i32_23 : BitVec 32 := 1#32
  let arg13 : BitVec 32 := Scf.iv v67 c1_i32_23 k0_t2
  let c1024_i32_33 : BitVec 32 := 1024#32
  let v89 : BitVec 32 := Scalar.muli arg13 c1024_i32_33
  let v90 : BitVec 32 := v89
  let v99 : Index := Scalar.indexCast v90
  ![0, 0, v99.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S2048x1024 : Shape := ⟨2, ![2048, 1024]⟩
abbrev S2048x8 : Shape := ⟨2, ![2048, 8]⟩
abbrev S_ : Shape := ⟨0, ![]⟩
abbrev S8x2048 : Shape := ⟨2, ![8, 2048]⟩
abbrev S2048x8x128 : Shape := ⟨3, ![2048, 8, 128]⟩
abbrev S8x2048x2048 : Shape := ⟨3, ![8, 2048, 2048]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S8x2048x128 : Shape := ⟨3, ![8, 2048, 128]⟩
abbrev S2048x128 : Shape := ⟨2, ![2048, 128]⟩

abbrev nBuf : Space → Nat
  | .hbm => 125
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x8, .f32⟩
  | .hbm, ⟨4, _⟩ => ⟨S2048x1024, .f32⟩
  | .hbm, ⟨5, _⟩ => ⟨S_, .f32⟩
  | .hbm, ⟨6, _⟩ => ⟨S_, .f32⟩
  | .hbm, ⟨7, _⟩ => ⟨S2048x8, .f32⟩
  | .hbm, ⟨8, _⟩ => ⟨S8x2048, .f32⟩
  | .hbm, ⟨9, _⟩ => ⟨S2048x1024, .f32⟩
  | .hbm, ⟨10, _⟩ => ⟨S2048x8x128, .f32⟩
  | .hbm, ⟨11, _⟩ => ⟨S2048x1024, .f32⟩
  | .hbm, ⟨12, _⟩ => ⟨S2048x8x128, .f32⟩
  | .hbm, ⟨13, _⟩ => ⟨S2048x1024, .f32⟩
  | .hbm, ⟨14, _⟩ => ⟨S2048x8x128, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x1, .f32⟩
  | .hbm, ⟨20, _⟩ => ⟨S8x1x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S2048, .i32⟩
  | .hbm, ⟨25, _⟩ => ⟨S1x2048, .i32⟩
  | .hbm, ⟨26, _⟩ => ⟨S2048, .i32⟩
  | .hbm, ⟨27, _⟩ => ⟨S2048x1, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S8x2048x2048, .f32⟩
  | .hbm, ⟨32, _⟩ => ⟨S_, .f32⟩
  | .hbm, ⟨33, _⟩ => ⟨S_, .f32⟩
  | .hbm, ⟨34, _⟩ => ⟨S8x2048x2048, .i1⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S8x2048x1, .f32⟩
  | .hbm, ⟨42, _⟩ => ⟨S8x2048x2048, .f32⟩
  | .hbm, ⟨43, _⟩ => ⟨S8x2048x2048, .i1⟩
  | .hbm, ⟨44, _⟩ => ⟨S8x2048x2048, .f32⟩
  | .hbm, ⟨45, _⟩ => ⟨S_, .f32⟩
  | .hbm, ⟨46, _⟩ => ⟨S8x2048, .f32⟩
  | .hbm, ⟨47, _⟩ => ⟨S_, .f32⟩
  | .hbm, ⟨48, _⟩ => ⟨S8x2048, .f32⟩
  | .hbm, ⟨49, _⟩ => ⟨S8x2048, .f32⟩
  | .hbm, ⟨50, _⟩ => ⟨S_, .f32⟩
  | .hbm, ⟨51, _⟩ => ⟨S8x2048, .f32⟩
  | .hbm, ⟨52, _⟩ => ⟨S8x2048, .i1⟩
  | .hbm, ⟨53, _⟩ => ⟨S_, .f32⟩
  | .hbm, ⟨54, _⟩ => ⟨S8x2048, .f32⟩
  | .hbm, ⟨55, _⟩ => ⟨S8x2048, .i1⟩
  | .hbm, ⟨56, _⟩ => ⟨S_, .f32⟩
  | .hbm, ⟨57, _⟩ => ⟨S8x2048, .f32⟩
  | .hbm, ⟨58, _⟩ => ⟨S_, .f32⟩
  | .hbm, ⟨59, _⟩ => ⟨S8x2048, .f32⟩
  | .hbm, ⟨60, _⟩ => ⟨S_, .f32⟩
  | .hbm, ⟨61, _⟩ => ⟨S8x2048, .f32⟩
  | .hbm, ⟨62, _⟩ => ⟨S8x2048, .f32⟩
  | .hbm, ⟨63, _⟩ => ⟨S8x2048, .f32⟩
  | .hbm, ⟨64, _⟩ => ⟨S8x2048x1, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048, .f32⟩
  | .hbm, ⟨70, _⟩ => ⟨S8x2048x1, .f32⟩
  | .hbm, ⟨71, _⟩ => ⟨S8x2048x2048, .f32⟩
  | .hbm, ⟨72, _⟩ => ⟨S8x2048x2048, .f32⟩
  | .hbm, ⟨73, _⟩ => ⟨S8x2048x1, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x128x2048, .f32⟩
  | .hbm, ⟨78, _⟩ => ⟨S2048x8x128, .f32⟩
  | .hbm, ⟨79, _⟩ => ⟨S2048x8x128, .f32⟩
  | .hbm, ⟨80, _⟩ => ⟨S8x128x2048, .f32⟩
  | .hbm, ⟨81, _⟩ => ⟨S8x2048x2048, .f32⟩
  | .hbm, ⟨82, _⟩ => ⟨S8x128x2048, .f32⟩
  | .hbm, ⟨83, _⟩ => ⟨S2048x8x128, .f32⟩
  | .hbm, ⟨84, _⟩ => ⟨S8x2048x2048, .f32⟩
  | .hbm, ⟨85, _⟩ => ⟨S8x2048x2048, .f32⟩
  | .hbm, ⟨86, _⟩ => ⟨S8x2048x2048, .f32⟩
  | .hbm, ⟨87, _⟩ => ⟨S_, .f32⟩
  | .hbm, ⟨88, _⟩ => ⟨S8x2048, .f32⟩
  | .hbm, ⟨89, _⟩ => ⟨S8x2048x1, .f32⟩
  | .hbm, ⟨90, _⟩ => ⟨S8x2048x1, .f32⟩
  | .hbm, ⟨91, _⟩ => ⟨S8x2048x2048, .f32⟩
  | .hbm, ⟨92, _⟩ => ⟨S8x2048x2048, .f32⟩
  | .hbm, ⟨93, _⟩ => ⟨S_, .f32⟩
  | .hbm, ⟨94, _⟩ => ⟨S8x2048, .f32⟩
  | .hbm, ⟨95, _⟩ => ⟨S8x2048x2048, .f32⟩
  | .hbm, ⟨96, _⟩ => ⟨S8x2048x2048, .f32⟩
  | .hbm, ⟨97, _⟩ => ⟨S8x2048x2048, .f32⟩
  | .hbm, ⟨98, _⟩ => ⟨S_, .f32⟩
  | .hbm, ⟨99, _⟩ => ⟨S8x2048x2048, .f32⟩
  | .hbm, ⟨100, _⟩ => ⟨S8x2048x2048, .f32⟩
  | .hbm, ⟨101, _⟩ => ⟨S_, .f32⟩
  | .hbm, ⟨102, _⟩ => ⟨S8x2048, .f32⟩
  | .hbm, ⟨103, _⟩ => ⟨S8x2048x1, .f32⟩
  | .hbm, ⟨104, _⟩ => ⟨S8x2048x2048, .f32⟩
  | .hbm, ⟨105, _⟩ => ⟨S_, .f32⟩
  | .hbm, ⟨106, _⟩ => ⟨S8x2048, .f32⟩
  | .hbm, ⟨107, _⟩ => ⟨S8x1x2048, .f32⟩
  | .hbm, ⟨108, _⟩ => ⟨S_, .f32⟩
  | .hbm, ⟨109, _⟩ => ⟨S8x2048, .f32⟩
  | .hbm, ⟨110, _⟩ => ⟨S_, .f32⟩
  | .hbm, ⟨111, _⟩ => ⟨S8x2048, .f32⟩
  | .hbm, ⟨112, _⟩ => ⟨S8x2048, .f32⟩
  | .hbm, ⟨113, _⟩ => ⟨S_, .f32⟩
  | .hbm, ⟨114, _⟩ => ⟨S8x2048x2048, .f32⟩
  | .hbm, ⟨115, _⟩ => ⟨S8x2048x2048, .f32⟩
  | .hbm, ⟨116, _⟩ => ⟨S8x2048x128, .f32⟩
  | .hbm, ⟨117, _⟩ => ⟨S2048x8x128, .f32⟩
  | .hbm, ⟨118, _⟩ => ⟨S2048x1024, .f32⟩
  | .hbm, ⟨119, _⟩ => ⟨S2048x1024, .f32⟩
  | .hbm, ⟨120, _⟩ => ⟨S2048x8, .f32⟩
  | .hbm, ⟨121, _⟩ => ⟨S2048x8, .f32⟩
  | .hbm, ⟨122, _⟩ => ⟨S_, .i32⟩
  | .hbm, ⟨123, _⟩ => ⟨S_, .f32⟩
  | .hbm, ⟨124, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_call1_v0 : Ref sig .tc := ⟨.hbm, 33, rfl⟩
abbrev main_v24_1 : Ref sig .tc := ⟨.hbm, 34, rfl⟩
abbrev main_call1_v2 : Ref sig .tc := ⟨.hbm, 35, rfl⟩
abbrev main_v24_0 : Ref sig .tc := ⟨.hbm, 36, rfl⟩
abbrev main_call1_cst : Ref sig .tc := ⟨.hbm, 37, rfl⟩
abbrev main_v24_2 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_call2_cst : Ref sig .tc := ⟨.hbm, 98, rfl⟩
abbrev main_call2_v0 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c : Ref sig .tc := ⟨.hbm, 122, rfl⟩
abbrev main_call3_v0 : Ref sig .tc := ⟨.hbm, 123, rfl⟩
abbrev main_v89 : Ref sig .tc := ⟨.hbm, 124, rfl⟩

abbrev nD : Nat := 1
abbrev τ : Topo := Topo.v7x

variable {F : FTy → Type} [FloatOps F]
-- ==== Dgu.lean ====
abbrev S2048x1024 : Shape := ⟨2, ![2048, 1024]⟩
abbrev S1x4x704x1024 : Shape := ⟨4, ![1, 4, 704, 1024]⟩
abbrev S2x4x2048x704 : Shape := ⟨4, ![2, 4, 2048, 704]⟩
abbrev S1024x1024 : Shape := ⟨2, ![1024, 1024]⟩
abbrev S1x1x704x1024 : Shape := ⟨4, ![1, 1, 704, 1024]⟩
abbrev S1x1x1024x704 : Shape := ⟨4, ![1, 1, 1024, 704]⟩
abbrev S2x1x1024x704 : Shape := ⟨4, ![2, 1, 1024, 704]⟩
abbrev S704x1024 : Shape := ⟨2, ![704, 1024]⟩
abbrev S1024x704 : Shape := ⟨2, ![1024, 704]⟩

abbrev nBuf : Space → Nat
  | .hbm => 4
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x4x704x1024, .bf16⟩
  | .hbm, ⟨2, _⟩ => ⟨S2x4x2048x704, .f32⟩
  | .hbm, ⟨3, _⟩ => ⟨S2x4x2048x704, .bf16⟩
  | .local _ .vmem, ⟨0, _⟩ => ⟨S1024x1024, .f32⟩
  | .local _ .vmem, ⟨1, _⟩ => ⟨S1024x1024, .f32⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x1024x704, .f32⟩
  | .local _ .vmem, ⟨5, _⟩ => ⟨S1x1x1024x704, .f32⟩
  | .local _ .vmem, ⟨6, _⟩ => ⟨S1x1x1024x704, .f32⟩
  | .local _ .vmem, ⟨7, _⟩ => ⟨S1x1x1024x704, .f32⟩
  | .local _ .vmem, ⟨8, _⟩ => ⟨S2x1x1024x704, .bf16⟩
  | .local _ .vmem, ⟨9, _⟩ => ⟨S2x1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DguRefIdeal.lean ====
abbrev S2048x1024 : Shape := ⟨2, ![2048, 1024]⟩
abbrev S1x4x704x1024 : Shape := ⟨4, ![1, 4, 704, 1024]⟩
abbrev S2x4x2048x704 : Shape := ⟨4, ![2, 4, 2048, 704]⟩
abbrev S4x704x1024 : Shape := ⟨3, ![4, 704, 1024]⟩
abbrev S1x4x2048x704 : Shape := ⟨4, ![1, 4, 2048, 704]⟩
abbrev S4x2048x704 : Shape := ⟨3, ![4, 2048, 704]⟩
abbrev S_ : Shape := ⟨0, ![]⟩
abbrev S2048x4x704 : Shape := ⟨3, ![2048, 4, 704]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x4x704x1024, .bf16⟩
  | .hbm, ⟨2, _⟩ => ⟨S2x4x2048x704, .f32⟩
  | .hbm, ⟨3, _⟩ => ⟨S4x704x1024, .bf16⟩
  | .hbm, ⟨4, _⟩ => ⟨S4x704x1024, .f32⟩
  | .hbm, ⟨5, _⟩ => ⟨S1x4x2048x704, .f32⟩
  | .hbm, ⟨6, _⟩ => ⟨S4x2048x704, .f32⟩
  | .hbm, ⟨7, _⟩ => ⟨S4x2048x704, .f32⟩
  | .hbm, ⟨8, _⟩ => ⟨S4x2048x704, .f32⟩
  | .hbm, ⟨9, _⟩ => ⟨S_, .f32⟩
  | .hbm, ⟨10, _⟩ => ⟨S4x2048x704, .f32⟩
  | .hbm, ⟨11, _⟩ => ⟨S4x2048x704, .f32⟩
  | .hbm, ⟨12, _⟩ => ⟨S_, .f32⟩
  | .hbm, ⟨13, _⟩ => ⟨S4x2048x704, .f32⟩
  | .hbm, ⟨14, _⟩ => ⟨S4x2048x704, .f32⟩
  | .hbm, ⟨15, _⟩ => ⟨S_, .f32⟩
  | .hbm, ⟨16, _⟩ => ⟨S4x2048x704, .f32⟩
  | .hbm, ⟨17, _⟩ => ⟨S4x2048x704, .f32⟩
  | .hbm, ⟨18, _⟩ => ⟨S4x2048x704, .f32⟩
  | .hbm, ⟨19, _⟩ => ⟨S4x2048x704, .f32⟩
  | .hbm, ⟨20, _⟩ => ⟨S1x4x2048x704, .f32⟩
  | .hbm, ⟨21, _⟩ => ⟨S4x2048x704, .f32⟩
  | .hbm, ⟨22, _⟩ => ⟨S4x2048x704, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x4x704, .f32⟩
  | .hbm, ⟨31, _⟩ => ⟨S4x2048x704, .f32⟩
  | .hbm, ⟨32, _⟩ => ⟨S4x2048x704, .f32⟩
  | .hbm, ⟨33, _⟩ => ⟨S4x2048x704, .f32⟩
  | .hbm, ⟨34, _⟩ => ⟨S1x4x2048x704, .f32⟩
  | .hbm, ⟨35, _⟩ => ⟨S_, .f32⟩
  | .hbm, ⟨36, _⟩ => ⟨S2x4x2048x704, .f32⟩
  | .hbm, ⟨37, _⟩ => ⟨S4x2048x704, .f32⟩
  | .hbm, ⟨38, _⟩ => ⟨S4x2048x704, .f32⟩
  | .hbm, ⟨39, _⟩ => ⟨S4x2048x704, .f32⟩
  | .hbm, ⟨40, _⟩ => ⟨S4x2048x704, .f32⟩
  | .hbm, ⟨41, _⟩ => ⟨S1x4x2048x704, .f32⟩
  | .hbm, ⟨42, _⟩ => ⟨S_, .f32⟩
  | .hbm, ⟨43, _⟩ => ⟨S2x4x2048x704, .f32⟩
  | .hbm, ⟨44, _⟩ => ⟨S2x4x2048x704, .f32⟩
  | .hbm, ⟨45, _⟩ => ⟨S2x4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]
-- ==== Drms.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DrmsRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Dqk.lean ====
abbrev S2048x1024 : Shape := ⟨2, ![2048, 1024]⟩
abbrev S2048x11776 : Shape := ⟨2, ![2048, 11776]⟩
abbrev S1x1024 : Shape := ⟨2, ![1, 1024]⟩
abbrev S2048x3072 : Shape := ⟨2, ![2048, 3072]⟩
abbrev S512x1024 : Shape := ⟨2, ![512, 1024]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S128 : Shape := ⟨1, ![128]⟩

abbrev nBuf : Space → Nat
  | .hbm => 9
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x11776, .f32⟩
  | .hbm, ⟨4, _⟩ => ⟨S1x1024, .f32⟩
  | .hbm, ⟨5, _⟩ => ⟨S1x1024, .f32⟩
  | .hbm, ⟨6, _⟩ => ⟨S2048x3072, .bf16⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x3072, .bf16⟩
  | .local _ .vmem, ⟨13, _⟩ => ⟨S512x3072, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v265 : BitVec 1 := Scalar.cmpi .eq arg0 c0_i32
  let v266 : BitVec 32 := Scalar.extui v265
  let c0_i32_121 : BitVec 32 := 0#32
  let v267 : BitVec 1 := Scalar.cmpi .ne v266 c0_i32_121
  v267

def k0_cond2 (i : grid0.Coords) : BitVec 1 :=
  let arg0 : BitVec 32 := BitVec.ofNat 32 (i 0).val
  let c0_i32_122 : BitVec 32 := 0#32
  let v268 : BitVec 1 := Scalar.cmpi .sgt arg0 c0_i32_122
  let v269 : BitVec 32 := Scalar.extui v268
  let c0_i32_123 : BitVec 32 := 0#32
  let v270 : BitVec 1 := Scalar.cmpi .ne v269 c0_i32_123
  v270

def k0_cond3 (i : grid0.Coords) : BitVec 1 :=
  let arg0 : BitVec 32 := BitVec.ofNat 32 (i 0).val
  let c0_i32_246 : BitVec 32 := 0#32
  let v536 : BitVec 1 := Scalar.cmpi .eq arg0 c0_i32_246
  let v537 : BitVec 32 := Scalar.extui v536
  let c0_i32_247 : BitVec 32 := 0#32
  let v538 : BitVec 1 := Scalar.cmpi .ne v537 c0_i32_247
  v538

def k0_cond4 (i : grid0.Coords) : BitVec 1 :=
  let arg0 : BitVec 32 := BitVec.ofNat 32 (i 0).val
  let c0_i32_248 : BitVec 32 := 0#32
  let v539 : BitVec 1 := Scalar.cmpi .sgt arg0 c0_i32_248
  let v540 : BitVec 32 := Scalar.extui v539
  let c0_i32_249 : BitVec 32 := 0#32
  let v541 : BitVec 1 := Scalar.cmpi .ne v540 c0_i32_249
  v541

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DqkRefIdeal.lean ====
abbrev S2048x1024 : Shape := ⟨2, ![2048, 1024]⟩
abbrev S2048x11776 : Shape := ⟨2, ![2048, 11776]⟩
abbrev S1x1024 : Shape := ⟨2, ![1, 1024]⟩
abbrev S8x128 : Shape := ⟨2, ![8, 128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x8x128 : Shape := ⟨3, ![1, 8, 128]⟩
abbrev S2048x3072 : Shape := ⟨2, ![2048, 3072]⟩

abbrev nBuf : Space → Nat
  | .hbm => 110
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x11776, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S8x128, .f32⟩
  | .hbm, ⟨9, _⟩ => ⟨S8x128, .f32⟩
  | .hbm, ⟨10, _⟩ => ⟨S2048x8x128, .f32⟩
  | .hbm, ⟨11, _⟩ => ⟨S2048x8x128, .f32⟩
  | .hbm, ⟨12, _⟩ => ⟨S_, .f32⟩
  | .hbm, ⟨13, _⟩ => ⟨S2048x8, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S2048x8x1, .f32⟩
  | .hbm, ⟨22, _⟩ => ⟨S2048x8x1, .f32⟩
  | .hbm, ⟨23, _⟩ => ⟨S_, .f32⟩
  | .hbm, ⟨24, _⟩ => ⟨S2048x8x1, .f32⟩
  | .hbm, ⟨25, _⟩ => ⟨S2048x8x1, .f32⟩
  | .hbm, ⟨26, _⟩ => ⟨S2048x8x128, .f32⟩
  | .hbm, ⟨27, _⟩ => ⟨S2048x8x128, .f32⟩
  | .hbm, ⟨28, _⟩ => ⟨S1x8x128, .f32⟩
  | .hbm, ⟨29, _⟩ => ⟨S2048x8x128, .f32⟩
  | .hbm, ⟨30, _⟩ => ⟨S2048x8x128, .f32⟩
  | .hbm, ⟨31, _⟩ => ⟨S2048x8x128, .f32⟩
  | .hbm, ⟨32, _⟩ => ⟨S2048x8x128, .f32⟩
  | .hbm, ⟨33, _⟩ => ⟨S_, .f32⟩
  | .hbm, ⟨34, _⟩ => ⟨S2048x8, .f32⟩
  | .hbm, ⟨35, _⟩ => ⟨S2048x8x1, .f32⟩
  | .hbm, ⟨36, _⟩ => ⟨S_, .f32⟩
  | .hbm, ⟨37, _⟩ => ⟨S2048x8x1, .f32⟩
  | .hbm, ⟨38, _⟩ => ⟨S2048x8x1, .f32⟩
  | .hbm, ⟨39, _⟩ => ⟨S_, .f32⟩
  | .hbm, ⟨40, _⟩ => ⟨S2048x8x1, .f32⟩
  | .hbm, ⟨41, _⟩ => ⟨S2048x8x1, .f32⟩
  | .hbm, ⟨42, _⟩ => ⟨S2048x8x1, .f32⟩
  | .hbm, ⟨43, _⟩ => ⟨S2048x8x1, .f32⟩
  | .hbm, ⟨44, _⟩ => ⟨S_, .f32⟩
  | .hbm, ⟨45, _⟩ => ⟨S2048x8x1, .f32⟩
  | .hbm, ⟨46, _⟩ => ⟨S2048x8x1, .f32⟩
  | .hbm, ⟨47, _⟩ => ⟨S2048x8x128, .f32⟩
  | .hbm, ⟨48, _⟩ => ⟨S2048x8x128, .f32⟩
  | .hbm, ⟨49, _⟩ => ⟨S1x8x128, .f32⟩
  | .hbm, ⟨50, _⟩ => ⟨S2048x8x128, .f32⟩
  | .hbm, ⟨51, _⟩ => ⟨S2048x8x128, .f32⟩
  | .hbm, ⟨52, _⟩ => ⟨S2048x8x128, .f32⟩
  | .hbm, ⟨53, _⟩ => ⟨S2048x8x128, .f32⟩
  | .hbm, ⟨54, _⟩ => ⟨S2048x8x128, .f32⟩
  | .hbm, ⟨55, _⟩ => ⟨S_, .f32⟩
  | .hbm, ⟨56, _⟩ => ⟨S8x128, .f32⟩
  | .hbm, ⟨57, _⟩ => ⟨S1x8x128, .f32⟩
  | .hbm, ⟨58, _⟩ => ⟨S2048x8x128, .f32⟩
  | .hbm, ⟨59, _⟩ => ⟨S2048x8x128, .f32⟩
  | .hbm, ⟨60, _⟩ => ⟨S_, .f32⟩
  | .hbm, ⟨61, _⟩ => ⟨S8x128, .f32⟩
  | .hbm, ⟨62, _⟩ => ⟨S2048x8x128, .f32⟩
  | .hbm, ⟨63, _⟩ => ⟨S_, .f32⟩
  | .hbm, ⟨64, _⟩ => ⟨S2048x8, .f32⟩
  | .hbm, ⟨65, _⟩ => ⟨S2048x8x1, .f32⟩
  | .hbm, ⟨66, _⟩ => ⟨S2048x8x128, .f32⟩
  | .hbm, ⟨67, _⟩ => ⟨S2048x8x128, .f32⟩
  | .hbm, ⟨68, _⟩ => ⟨S2048x8x1, .f32⟩
  | .hbm, ⟨69, _⟩ => ⟨S_, .f32⟩
  | .hbm, ⟨70, _⟩ => ⟨S2048x8x1, .f32⟩
  | .hbm, ⟨71, _⟩ => ⟨S2048x8x1, .f32⟩
  | .hbm, ⟨72, _⟩ => ⟨S_, .f32⟩
  | .hbm, ⟨73, _⟩ => ⟨S2048x8, .f32⟩
  | .hbm, ⟨74, _⟩ => ⟨S2048x8x128, .f32⟩
  | .hbm, ⟨75, _⟩ => ⟨S2048x8x128, .f32⟩
  | .hbm, ⟨76, _⟩ => ⟨S2048x8x128, .f32⟩
  | .hbm, ⟨77, _⟩ => ⟨S2048x8x128, .f32⟩
  | .hbm, ⟨78, _⟩ => ⟨S2048x8x128, .f32⟩
  | .hbm, ⟨79, _⟩ => ⟨S2048x1024, .f32⟩
  | .hbm, ⟨80, _⟩ => ⟨S2048x8x128, .f32⟩
  | .hbm, ⟨81, _⟩ => ⟨S_, .f32⟩
  | .hbm, ⟨82, _⟩ => ⟨S8x128, .f32⟩
  | .hbm, ⟨83, _⟩ => ⟨S1x8x128, .f32⟩
  | .hbm, ⟨84, _⟩ => ⟨S2048x8x128, .f32⟩
  | .hbm, ⟨85, _⟩ => ⟨S2048x8x128, .f32⟩
  | .hbm, ⟨86, _⟩ => ⟨S_, .f32⟩
  | .hbm, ⟨87, _⟩ => ⟨S8x128, .f32⟩
  | .hbm, ⟨88, _⟩ => ⟨S2048x8x128, .f32⟩
  | .hbm, ⟨89, _⟩ => ⟨S_, .f32⟩
  | .hbm, ⟨90, _⟩ => ⟨S2048x8, .f32⟩
  | .hbm, ⟨91, _⟩ => ⟨S2048x8x1, .f32⟩
  | .hbm, ⟨92, _⟩ => ⟨S2048x8x128, .f32⟩
  | .hbm, ⟨93, _⟩ => ⟨S2048x8x128, .f32⟩
  | .hbm, ⟨94, _⟩ => ⟨S2048x8x1, .f32⟩
  | .hbm, ⟨95, _⟩ => ⟨S_, .f32⟩
  | .hbm, ⟨96, _⟩ => ⟨S2048x8x1, .f32⟩
  | .hbm, ⟨97, _⟩ => ⟨S2048x8x1, .f32⟩
  | .hbm, ⟨98, _⟩ => ⟨S_, .f32⟩
  | .hbm, ⟨99, _⟩ => ⟨S2048x8, .f32⟩
  | .hbm, ⟨100, _⟩ => ⟨S2048x8x128, .f32⟩
  | .hbm, ⟨101, _⟩ => ⟨S2048x8x128, .f32⟩
  | .hbm, ⟨102, _⟩ => ⟨S2048x8x128, .f32⟩
  | .hbm, ⟨103, _⟩ => ⟨S2048x8x128, .f32⟩
  | .hbm, ⟨104, _⟩ => ⟨S2048x8x128, .f32⟩
  | .hbm, ⟨105, _⟩ => ⟨S2048x1024, .f32⟩
  | .hbm, ⟨106, _⟩ => ⟨S2048x3072, .f32⟩
  | .hbm, ⟨107, _⟩ => ⟨S2048x3072, .bf16⟩
  | .hbm, ⟨108, _⟩ => ⟨S1x1024, .f32⟩
  | .hbm, ⟨109, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩

abbrev nD : Nat := 1
abbrev τ : Topo := Topo.v7x

variable {F : FTy → Type} [FloatOps F]
-- ==== Dh.lean ====
abbrev S8x2048x704 : Shape := ⟨3, ![8, 2048, 704]⟩
abbrev S1x8x704x1024 : Shape := ⟨4, ![1, 8, 704, 1024]⟩
abbrev S2048x1024 : Shape := ⟨2, ![2048, 1024]⟩
abbrev S1x2048x704 : Shape := ⟨3, ![1, 2048, 704]⟩
abbrev S1x1x704x1024 : Shape := ⟨4, ![1, 1, 704, 1024]⟩
abbrev S2048x704 : Shape := ⟨2, ![2048, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x704, .bf16⟩
  | .hbm, ⟨1, _⟩ => ⟨S1x8x704x1024, .bf16⟩
  | .hbm, ⟨2, _⟩ => ⟨S2048x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S2048x1024, .f32⟩
  | .local _ .vmem, ⟨5, _⟩ => ⟨S2048x1024, .f32⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== DhRefIdeal.lean ====
abbrev S8x2048x704 : Shape := ⟨3, ![8, 2048, 704]⟩
abbrev S1x8x704x1024 : Shape := ⟨4, ![1, 8, 704, 1024]⟩
abbrev S8x704x1024 : Shape := ⟨3, ![8, 704, 1024]⟩
abbrev S_ : Shape := ⟨0, ![]⟩
abbrev S2048x1024 : Shape := ⟨2, ![2048, 1024]⟩
abbrev S8x704x2048 : Shape := ⟨3, ![8, 704, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S1x8x704x1024, .bf16⟩
  | .hbm, ⟨2, _⟩ => ⟨S8x704x1024, .bf16⟩
  | .hbm, ⟨3, _⟩ => ⟨S8x704x1024, .f32⟩
  | .hbm, ⟨4, _⟩ => ⟨S_, .f32⟩
  | .hbm, ⟨5, _⟩ => ⟨S2048x1024, .f32⟩
  | .hbm, ⟨6, _⟩ => ⟨S8x704x2048, .f32⟩
  | .hbm, ⟨7, _⟩ => ⟨S8x2048x704, .f32⟩
  | .hbm, ⟨8, _⟩ => ⟨S8x2048x704, .f32⟩
  | .hbm, ⟨9, _⟩ => ⟨S8x704x2048, .f32⟩
  | .hbm, ⟨10, _⟩ => ⟨S2048x1024, .f32⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dwgu.lean ====
abbrev S8x2048x704 : Shape := ⟨3, ![8, 2048, 704]⟩
abbrev S2048x1024 : Shape := ⟨2, ![2048, 1024]⟩
abbrev S2x4x1x704x1024 : Shape := ⟨5, ![2, 4, 1, 704, 1024]⟩
abbrev S1x2048x704 : Shape := ⟨3, ![1, 2048, 704]⟩
abbrev S1x1x1x704x1024 : Shape := ⟨5, ![1, 1, 1, 704, 1024]⟩
abbrev S2048x704 : Shape := ⟨2, ![2048, 704]⟩
abbrev S704x1024 : Shape := ⟨2, ![704, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8x2048x704, .bf16⟩
  | .hbm, ⟨1, _⟩ => ⟨S2048x1024, .bf16⟩
  | .hbm, ⟨2, _⟩ => ⟨S2x4x1x704x1024, .bf16⟩
  | .hbm, ⟨3, _⟩ => ⟨S2x4x1x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x1x1x704x1024, .bf16⟩
  | .local _ .vmem, ⟨4, _⟩ => ⟨S1x1x1x704x1024, .bf16⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  let c0_i32_13 : BitVec 32 := 0#32
  ![v9.toNat, v26.toNat, c0_i32_10.toNat, c0_i32_11.toNat, c0_i32_12.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwguRefIdeal.lean ====
abbrev S8x2048x704 : Shape := ⟨3, ![8, 2048, 704]⟩
abbrev S2048x1024 : Shape := ⟨2, ![2048, 1024]⟩
abbrev S2x4x1x704x1024 : Shape := ⟨5, ![2, 4, 1, 704, 1024]⟩
abbrev S_ : Shape := ⟨0, ![]⟩
abbrev S8x704x1024 : Shape := ⟨3, ![8, 704, 1024]⟩
abbrev S8x704x2048 : Shape := ⟨3, ![8, 704, 2048]⟩
abbrev S4x2x1x704x1024 : Shape := ⟨5, ![4, 2, 1, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x1024, .bf16⟩
  | .hbm, ⟨2, _⟩ => ⟨S2x4x1x704x1024, .bf16⟩
  | .hbm, ⟨3, _⟩ => ⟨S2048x1024, .f32⟩
  | .hbm, ⟨4, _⟩ => ⟨S_, .f32⟩
  | .hbm, ⟨5, _⟩ => ⟨S8x704x1024, .f32⟩
  | .hbm, ⟨6, _⟩ => ⟨S8x704x2048, .f32⟩
  | .hbm, ⟨7, _⟩ => ⟨S8x2048x704, .f32⟩
  | .hbm, ⟨8, _⟩ => ⟨S8x2048x704, .f32⟩
  | .hbm, ⟨9, _⟩ => ⟨S8x704x2048, .f32⟩
  | .hbm, ⟨10, _⟩ => ⟨S8x704x1024, .f32⟩
  | .hbm, ⟨11, _⟩ => ⟨S4x2x1x704x1024, .f32⟩
  | .hbm, ⟨12, _⟩ => ⟨S2x4x1x704x1024, .f32⟩
  | .hbm, ⟨13, _⟩ => ⟨S2x4x1x704x1024, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Dwd.lean ====
abbrev S4x2048x704 : Shape := ⟨3, ![4, 2048, 704]⟩
abbrev S2048x1024 : Shape := ⟨2, ![2048, 1024]⟩
abbrev S2x4x1x352x1024 : Shape := ⟨5, ![2, 4, 1, 352, 1024]⟩
abbrev S1x2048x704 : Shape := ⟨3, ![1, 2048, 704]⟩
abbrev S2x1x1x352x1024 : Shape := ⟨5, ![2, 1, 1, 352, 1024]⟩
abbrev S2048x704 : Shape := ⟨2, ![2048, 704]⟩
abbrev S704x1024 : Shape := ⟨2, ![704, 1024]⟩
abbrev S352x1024 : Shape := ⟨2, ![352, 1024]⟩
abbrev S1x1x1x352x1024 : Shape := ⟨5, ![1, 1, 1, 352, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S2x4x1x352x1024, .bf16⟩
  | .hbm, ⟨3, _⟩ => ⟨S2x4x1x352x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2x1x1x352x1024, .bf16⟩
  | .local _ .vmem, ⟨4, _⟩ => ⟨S2x1x1x352x1024, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2x1x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwdRefIdeal.lean ====
abbrev S4x2048x704 : Shape := ⟨3, ![4, 2048, 704]⟩
abbrev S2048x1024 : Shape := ⟨2, ![2048, 1024]⟩
abbrev S2x4x1x352x1024 : Shape := ⟨5, ![2, 4, 1, 352, 1024]⟩
abbrev S_ : Shape := ⟨0, ![]⟩
abbrev S4x704x1024 : Shape := ⟨3, ![4, 704, 1024]⟩
abbrev S1024x4x704 : Shape := ⟨3, ![1024, 4, 704]⟩
abbrev S4x2x1x352x1024 : Shape := ⟨5, ![4, 2, 1, 352, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .f32⟩
  | .hbm, ⟨2, _⟩ => ⟨S2x4x1x352x1024, .bf16⟩
  | .hbm, ⟨3, _⟩ => ⟨S4x2048x704, .f32⟩
  | .hbm, ⟨4, _⟩ => ⟨S_, .f32⟩
  | .hbm, ⟨5, _⟩ => ⟨S4x704x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S1024x4x704, .f32⟩
  | .hbm, ⟨14, _⟩ => ⟨S4x704x1024, .f32⟩
  | .hbm, ⟨15, _⟩ => ⟨S4x2x1x352x1024, .f32⟩
  | .hbm, ⟨16, _⟩ => ⟨S2x4x1x352x1024, .f32⟩
  | .hbm, ⟨17, _⟩ => ⟨S2x4x1x352x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Dwin.lean ====
abbrev S2048x3072 : Shape := ⟨2, ![2048, 3072]⟩
abbrev S2048x2048 : Shape := ⟨2, ![2048, 2048]⟩
abbrev S2048x512 : Shape := ⟨2, ![2048, 512]⟩
abbrev S2048x1024 : Shape := ⟨2, ![2048, 1024]⟩
abbrev S1024x11776 : Shape := ⟨2, ![1024, 11776]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S2048x3072, .bf16⟩
  | .hbm, ⟨1, _⟩ => ⟨S2048x2048, .bf16⟩
  | .hbm, ⟨2, _⟩ => ⟨S2048x3072, .bf16⟩
  | .hbm, ⟨3, _⟩ => ⟨S2048x3072, .bf16⟩
  | .hbm, ⟨4, _⟩ => ⟨S2048x512, .bf16⟩
  | .hbm, ⟨5, _⟩ => ⟨S2048x1024, .bf16⟩
  | .hbm, ⟨6, _⟩ => ⟨S1024x11776, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x1024, .bf16⟩
  | .local _ .vmem, ⟨11, _⟩ => ⟨S1024x512, .bf16⟩
  | .local _ .vmem, ⟨12, _⟩ => ⟨S1024x512, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![23], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c6_i32 : BitVec 32 := 6#32
  let v1 : BitVec 1 := Scalar.cmpi .slt arg0 c6_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c6_i32_1 : BitVec 32 := 6#32
  let v5 : BitVec 1 := Scalar.cmpi .sge arg0 c6_i32_1
  let c10_i32 : BitVec 32 := 10#32
  let v6 : BitVec 1 := Scalar.cmpi .slt arg0 c10_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c10_i32_3 : BitVec 32 := 10#32
  let v10 : BitVec 1 := Scalar.cmpi .sge arg0 c10_i32_3
  let c16_i32 : BitVec 32 := 16#32
  let v11 : BitVec 1 := Scalar.cmpi .slt arg0 c16_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c16_i32_5 : BitVec 32 := 16#32
  let v15 : BitVec 1 := Scalar.cmpi .sge arg0 c16_i32_5
  let c22_i32 : BitVec 32 := 22#32
  let v16 : BitVec 1 := Scalar.cmpi .slt arg0 c22_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c22_i32_7 : BitVec 32 := 22#32
  let v20 : BitVec 1 := Scalar.cmpi .sge arg0 c22_i32_7
  let c23_i32 : BitVec 32 := 23#32
  let v21 : BitVec 1 := Scalar.cmpi .slt arg0 c23_i32
  let v22 : BitVec 1 := Scalar.andi v20 v21
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c22_i32 : BitVec 32 := 22#32
  let v0 : BitVec 32 := Scalar.subi arg0 c22_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DwinRefIdeal.lean ====
abbrev S2048x3072 : Shape := ⟨2, ![2048, 3072]⟩
abbrev S2048x2048 : Shape := ⟨2, ![2048, 2048]⟩
abbrev S2048x512 : Shape := ⟨2, ![2048, 512]⟩
abbrev S2048x1024 : Shape := ⟨2, ![2048, 1024]⟩
abbrev S_ : Shape := ⟨0, ![]⟩
abbrev S1024x11776 : Shape := ⟨2, ![1024, 11776]⟩
abbrev S2048x11776 : Shape := ⟨2, ![2048, 11776]⟩
abbrev S11776x1024 : Shape := ⟨2, ![11776, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x2048, .bf16⟩
  | .hbm, ⟨2, _⟩ => ⟨S2048x3072, .bf16⟩
  | .hbm, ⟨3, _⟩ => ⟨S2048x3072, .bf16⟩
  | .hbm, ⟨4, _⟩ => ⟨S2048x512, .bf16⟩
  | .hbm, ⟨5, _⟩ => ⟨S2048x1024, .bf16⟩
  | .hbm, ⟨6, _⟩ => ⟨S2048x1024, .f32⟩
  | .hbm, ⟨7, _⟩ => ⟨S_, .f32⟩
  | .hbm, ⟨8, _⟩ => ⟨S1024x11776, .f32⟩
  | .hbm, ⟨9, _⟩ => ⟨S2048x11776, .f32⟩
  | .hbm, ⟨10, _⟩ => ⟨S2048x11776, .bf16⟩
  | .hbm, ⟨11, _⟩ => ⟨S2048x11776, .f32⟩
  | .hbm, ⟨12, _⟩ => ⟨S11776x1024, .f32⟩
  | .hbm, ⟨13, _⟩ => ⟨S1024x11776, .f32⟩
  | .hbm, ⟨14, _⟩ => ⟨S1024x11776, .bf16⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Dhin.lean ====
abbrev S2048x3072 : Shape := ⟨2, ![2048, 3072]⟩
abbrev S2048x2048 : Shape := ⟨2, ![2048, 2048]⟩
abbrev S2048x512 : Shape := ⟨2, ![2048, 512]⟩
abbrev S1024x11776 : Shape := ⟨2, ![1024, 11776]⟩
abbrev S2048x1024 : Shape := ⟨2, ![2048, 1024]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .bf16⟩
  | .hbm, ⟨1, _⟩ => ⟨S2048x2048, .bf16⟩
  | .hbm, ⟨2, _⟩ => ⟨S2048x3072, .bf16⟩
  | .hbm, ⟨3, _⟩ => ⟨S2048x3072, .bf16⟩
  | .hbm, ⟨4, _⟩ => ⟨S2048x512, .bf16⟩
  | .hbm, ⟨5, _⟩ => ⟨S1024x11776, .bf16⟩
  | .hbm, ⟨6, _⟩ => ⟨S2048x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S2048x1024, .f32⟩
  | .local _ .vmem, ⟨13, _⟩ => ⟨S2048x1024, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![23], ![false]⟩

def k0_cond7 (i : grid0.Coords) : BitVec 1 :=
  let arg0 : BitVec 32 := BitVec.ofNat 32 (i 0).val
  let c22_i32_11 : BitVec 32 := 22#32
  let v28 : BitVec 1 := Scalar.cmpi .eq arg0 c22_i32_11
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c22_i32 : BitVec 32 := 22#32
  let v0 : BitVec 32 := Scalar.subi arg0 c22_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DhinRefIdeal.lean ====
abbrev S2048x3072 : Shape := ⟨2, ![2048, 3072]⟩
abbrev S2048x2048 : Shape := ⟨2, ![2048, 2048]⟩
abbrev S2048x512 : Shape := ⟨2, ![2048, 512]⟩
abbrev S1024x11776 : Shape := ⟨2, ![1024, 11776]⟩
abbrev S_ : Shape := ⟨0, ![]⟩
abbrev S2048x1024 : Shape := ⟨2, ![2048, 1024]⟩
abbrev S2048x11776 : Shape := ⟨2, ![2048, 11776]⟩

abbrev nBuf : Space → Nat
  | .hbm => 13
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x2048, .bf16⟩
  | .hbm, ⟨2, _⟩ => ⟨S2048x3072, .bf16⟩
  | .hbm, ⟨3, _⟩ => ⟨S2048x3072, .bf16⟩
  | .hbm, ⟨4, _⟩ => ⟨S2048x512, .bf16⟩
  | .hbm, ⟨5, _⟩ => ⟨S1024x11776, .bf16⟩
  | .hbm, ⟨6, _⟩ => ⟨S1024x11776, .f32⟩
  | .hbm, ⟨7, _⟩ => ⟨S_, .f32⟩
  | .hbm, ⟨8, _⟩ => ⟨S2048x1024, .f32⟩
  | .hbm, ⟨9, _⟩ => ⟨S2048x11776, .f32⟩
  | .hbm, ⟨10, _⟩ => ⟨S2048x11776, .bf16⟩
  | .hbm, ⟨11, _⟩ => ⟨S2048x11776, .f32⟩
  | .hbm, ⟨12, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== DsqO.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x4x1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DsqOIdeal.lean ====
  let c3_i32 : BitVec 32 := 3#32
  ![c0_i32.toNat, c3_i32.toNat, c0_i32_0.toNat, c0_i32_1.toNat]
-- ==== DsqORefIdeal.lean ====
abbrev S2048x1024 : Shape := ⟨2, ![2048, 1024]⟩
abbrev S1x4x1024x1024 : Shape := ⟨4, ![1, 4, 1024, 1024]⟩
abbrev S1x1x1024x1024 : Shape := ⟨4, ![1, 1, 1024, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x4x1024x1024, .bf16⟩
  | .hbm, ⟨2, _⟩ => ⟨S1x1x1024x1024, .bf16⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DsqC.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DsqCIdeal.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DsqCRefIdeal.lean ====
abbrev S2048x1024 : Shape := ⟨2, ![2048, 1024]⟩
abbrev S1x4x1024x1024 : Shape := ⟨4, ![1, 4, 1024, 1024]⟩
abbrev S1x1x1024x1024 : Shape := ⟨4, ![1, 1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S1x1x1024x1024, .bf16⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DsqS.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DsqSIdeal.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DsqSRefIdeal.lean ====
abbrev S2048x1024 : Shape := ⟨2, ![2048, 1024]⟩
abbrev S1x4x1024x1024 : Shape := ⟨4, ![1, 4, 1024, 1024]⟩
abbrev S1x1x1024x1024 : Shape := ⟨4, ![1, 1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S1x1x1024x1024, .bf16⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DsqA.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DsqAIdeal.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DsqARefIdeal.lean ====
abbrev S2048x1024 : Shape := ⟨2, ![2048, 1024]⟩
abbrev S1x4x1024x1024 : Shape := ⟨4, ![1, 4, 1024, 1024]⟩
abbrev S1x1x1024x1024 : Shape := ⟨4, ![1, 1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S1x1x1024x1024, .bf16⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwsqO.lean ====
abbrev S2048x1024 : Shape := ⟨2, ![2048, 1024]⟩
abbrev S2x4x1x128x1024 : Shape := ⟨5, ![2, 4, 1, 128, 1024]⟩
abbrev S2048x256 : Shape := ⟨2, ![2048, 256]⟩
abbrev S2x1x1x128x1024 : Shape := ⟨5, ![2, 1, 1, 128, 1024]⟩
abbrev S256x1024 : Shape := ⟨2, ![256, 1024]⟩
abbrev S128x1024 : Shape := ⟨2, ![128, 1024]⟩
abbrev S1x1x1x128x1024 : Shape := ⟨5, ![1, 1, 1, 128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2x4x1x128x1024, .bf16⟩
  | .hbm, ⟨3, _⟩ => ⟨S2x4x1x128x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2x1x1x128x1024, .bf16⟩
  | .local _ .vmem, ⟨4, _⟩ => ⟨S2x1x1x128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2x1x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwsqOIdeal.lean ====
abbrev S2048x1024 : Shape := ⟨2, ![2048, 1024]⟩
abbrev S2x4x1x128x1024 : Shape := ⟨5, ![2, 4, 1, 128, 1024]⟩
abbrev S2048x256 : Shape := ⟨2, ![2048, 256]⟩
abbrev S2x1x1x128x1024 : Shape := ⟨5, ![2, 1, 1, 128, 1024]⟩
abbrev S256x1024 : Shape := ⟨2, ![256, 1024]⟩
abbrev S128x1024 : Shape := ⟨2, ![128, 1024]⟩
abbrev S1x1x1x128x1024 : Shape := ⟨5, ![1, 1, 1, 128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2x4x1x128x1024, .bf16⟩
  | .hbm, ⟨3, _⟩ => ⟨S2x4x1x128x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2x1x1x128x1024, .bf16⟩
  | .local _ .vmem, ⟨4, _⟩ => ⟨S2x1x1x128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2x1x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwsqORefIdeal.lean ====
abbrev S2048x1024 : Shape := ⟨2, ![2048, 1024]⟩
abbrev S2x4x1x128x1024 : Shape := ⟨5, ![2, 4, 1, 128, 1024]⟩
abbrev S_ : Shape := ⟨0, ![]⟩
abbrev S1024x1024 : Shape := ⟨2, ![1024, 1024]⟩
abbrev S4x2x1x128x1024 : Shape := ⟨5, ![4, 2, 1, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S2x4x1x128x1024, .bf16⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S4x2x1x128x1024, .f32⟩
  | .hbm, ⟨10, _⟩ => ⟨S2x4x1x128x1024, .f32⟩
  | .hbm, ⟨11, _⟩ => ⟨S2x4x1x128x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DwsqM.lean ====
abbrev S2048x1024 : Shape := ⟨2, ![2048, 1024]⟩
abbrev S2x4x1x128x1024 : Shape := ⟨5, ![2, 4, 1, 128, 1024]⟩
abbrev S2048x256 : Shape := ⟨2, ![2048, 256]⟩
abbrev S2x1x1x128x1024 : Shape := ⟨5, ![2, 1, 1, 128, 1024]⟩
abbrev S256x1024 : Shape := ⟨2, ![256, 1024]⟩
abbrev S128x1024 : Shape := ⟨2, ![128, 1024]⟩
abbrev S1x1x1x128x1024 : Shape := ⟨5, ![1, 1, 1, 128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2x4x1x128x1024, .bf16⟩
  | .hbm, ⟨3, _⟩ => ⟨S2x4x1x128x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2x1x1x128x1024, .bf16⟩
  | .local _ .vmem, ⟨4, _⟩ => ⟨S2x1x1x128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2x1x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwsqMIdeal.lean ====
abbrev S2048x1024 : Shape := ⟨2, ![2048, 1024]⟩
abbrev S2x4x1x128x1024 : Shape := ⟨5, ![2, 4, 1, 128, 1024]⟩
abbrev S2048x256 : Shape := ⟨2, ![2048, 256]⟩
abbrev S2x1x1x128x1024 : Shape := ⟨5, ![2, 1, 1, 128, 1024]⟩
abbrev S256x1024 : Shape := ⟨2, ![256, 1024]⟩
abbrev S128x1024 : Shape := ⟨2, ![128, 1024]⟩
abbrev S1x1x1x128x1024 : Shape := ⟨5, ![1, 1, 1, 128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2x4x1x128x1024, .bf16⟩
  | .hbm, ⟨3, _⟩ => ⟨S2x4x1x128x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2x1x1x128x1024, .bf16⟩
  | .local _ .vmem, ⟨4, _⟩ => ⟨S2x1x1x128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2x1x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwsqMRefIdeal.lean ====
abbrev S2048x1024 : Shape := ⟨2, ![2048, 1024]⟩
abbrev S2x4x1x128x1024 : Shape := ⟨5, ![2, 4, 1, 128, 1024]⟩
abbrev S_ : Shape := ⟨0, ![]⟩
abbrev S1024x1024 : Shape := ⟨2, ![1024, 1024]⟩
abbrev S4x2x1x128x1024 : Shape := ⟨5, ![4, 2, 1, 128, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2x4x1x128x1024, .bf16⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S4x2x1x128x1024, .f32⟩
  | .hbm, ⟨11, _⟩ => ⟨S2x4x1x128x1024, .f32⟩
  | .hbm, ⟨12, _⟩ => ⟨S2x4x1x128x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DwsqA.lean ====
abbrev S2048x1024 : Shape := ⟨2, ![2048, 1024]⟩
abbrev S2x4x1x128x1024 : Shape := ⟨5, ![2, 4, 1, 128, 1024]⟩
abbrev S2048x256 : Shape := ⟨2, ![2048, 256]⟩
abbrev S2x1x1x128x1024 : Shape := ⟨5, ![2, 1, 1, 128, 1024]⟩
abbrev S256x1024 : Shape := ⟨2, ![256, 1024]⟩
abbrev S128x1024 : Shape := ⟨2, ![128, 1024]⟩
abbrev S1x1x1x128x1024 : Shape := ⟨5, ![1, 1, 1, 128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2x4x1x128x1024, .bf16⟩
  | .hbm, ⟨3, _⟩ => ⟨S2x4x1x128x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2x1x1x128x1024, .bf16⟩
  | .local _ .vmem, ⟨4, _⟩ => ⟨S2x1x1x128x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S2x1x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwsqARefIdeal.lean ====
abbrev S2048x1024 : Shape := ⟨2, ![2048, 1024]⟩
abbrev S2x4x1x128x1024 : Shape := ⟨5, ![2, 4, 1, 128, 1024]⟩
abbrev S_ : Shape := ⟨0, ![]⟩
abbrev S1024x1024 : Shape := ⟨2, ![1024, 1024]⟩
abbrev S4x2x1x128x1024 : Shape := ⟨5, ![4, 2, 1, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2x4x1x128x1024, .bf16⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S4x2x1x128x1024, .f32⟩
  | .hbm, ⟨10, _⟩ => ⟨S2x4x1x128x1024, .f32⟩
  | .hbm, ⟨11, _⟩ => ⟨S2x4x1x128x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Dmerge.lean ====
abbrev S2048x1024 : Shape := ⟨2, ![2048, 1024]⟩
abbrev S2048x11776 : Shape := ⟨2, ![2048, 11776]⟩
abbrev S3x1024 : Shape := ⟨2, ![3, 1024]⟩
abbrev S2048x3072 : Shape := ⟨2, ![2048, 3072]⟩
abbrev S512x1024 : Shape := ⟨2, ![512, 1024]⟩
abbrev S512x3072 : Shape := ⟨2, ![512, 3072]⟩
abbrev S1x1024 : Shape := ⟨2, ![1, 1024]⟩
abbrev S1024 : Shape := ⟨1, ![1024]⟩

abbrev nBuf : Space → Nat
  | .hbm => 11
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x11776, .f32⟩
  | .hbm, ⟨5, _⟩ => ⟨S3x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x3072, .bf16⟩
  | .hbm, ⟨10, _⟩ => ⟨S3x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S3x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | .local _ .vmem, ⟨23, _⟩ => ⟨S3x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v74 : BitVec 1 := Scalar.cmpi .eq arg0 c0_i32
  let v75 : BitVec 32 := Scalar.extui v74
  let c0_i32_41 : BitVec 32 := 0#32
  let v76 : BitVec 1 := Scalar.cmpi .ne v75 c0_i32_41
  v76

def k0_cond2 (i : grid0.Coords) : BitVec 1 :=
  let arg0 : BitVec 32 := BitVec.ofNat 32 (i 0).val
  let c0_i32_42 : BitVec 32 := 0#32
  let v77 : BitVec 1 := Scalar.cmpi .sgt arg0 c0_i32_42
  let v78 : BitVec 32 := Scalar.extui v77
  let c0_i32_43 : BitVec 32 := 0#32
  let v79 : BitVec 1 := Scalar.cmpi .ne v78 c0_i32_43
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== DmergeRefIdeal.lean ====
abbrev S2048x1024 : Shape := ⟨2, ![2048, 1024]⟩
abbrev S2048x11776 : Shape := ⟨2, ![2048, 11776]⟩
abbrev S3x1024 : Shape := ⟨2, ![3, 1024]⟩
abbrev S2048x3072 : Shape := ⟨2, ![2048, 3072]⟩
abbrev S2048x3x1024 : Shape := ⟨3, ![2048, 3, 1024]⟩
abbrev S1x3x1024 : Shape := ⟨3, ![1, 3, 1024]⟩
abbrev S_ : Shape := ⟨0, ![]⟩
abbrev S2048x1x1024 : Shape := ⟨3, ![2048, 1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x11776, .f32⟩
  | .hbm, ⟨5, _⟩ => ⟨S3x1024, .f32⟩
  | .hbm, ⟨6, _⟩ => ⟨S2048x3072, .f32⟩
  | .hbm, ⟨7, _⟩ => ⟨S2048x3x1024, .f32⟩
  | .hbm, ⟨8, _⟩ => ⟨S1x3x1024, .f32⟩
  | .hbm, ⟨9, _⟩ => ⟨S2048x3x1024, .f32⟩
  | .hbm, ⟨10, _⟩ => ⟨S2048x3x1024, .f32⟩
  | .hbm, ⟨11, _⟩ => ⟨S2048x3x1024, .f32⟩
  | .hbm, ⟨12, _⟩ => ⟨S2048x3x1024, .f32⟩
  | .hbm, ⟨13, _⟩ => ⟨S_, .f32⟩
  | .hbm, ⟨14, _⟩ => ⟨S2048x3x1024, .f32⟩
  | .hbm, ⟨15, _⟩ => ⟨S2048x3x1024, .f32⟩
  | .hbm, ⟨16, _⟩ => ⟨S_, .f32⟩
  | .hbm, ⟨17, _⟩ => ⟨S2048x3x1024, .f32⟩
  | .hbm, ⟨18, _⟩ => ⟨S2048x3x1024, .f32⟩
  | .hbm, ⟨19, _⟩ => ⟨S_, .f32⟩
  | .hbm, ⟨20, _⟩ => ⟨S2048x3x1024, .f32⟩
  | .hbm, ⟨21, _⟩ => ⟨S2048x3x1024, .f32⟩
  | .hbm, ⟨22, _⟩ => ⟨S2048x3x1024, .f32⟩
  | .hbm, ⟨23, _⟩ => ⟨S2048x1x1024, .f32⟩
  | .hbm, ⟨24, _⟩ => ⟨S2048x1024, .f32⟩
  | .hbm, ⟨25, _⟩ => ⟨S2048x1024, .f32⟩
  | .hbm, ⟨26, _⟩ => ⟨S2048x1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1x1024, .f32⟩
  | .hbm, ⟨39, _⟩ => ⟨S_, .f32⟩
  | .hbm, ⟨40, _⟩ => ⟨S2048x3x1024, .f32⟩
  | .hbm, ⟨41, _⟩ => ⟨S2048x1024, .f32⟩
  | .hbm, ⟨42, _⟩ => ⟨S2048x1024, .f32⟩
  | .hbm, ⟨43, _⟩ => ⟨S2048x1x1024, .f32⟩
  | .hbm, ⟨44, _⟩ => ⟨S_, .f32⟩
  | .hbm, ⟨45, _⟩ => ⟨S2048x3x1024, .f32⟩
  | .hbm, ⟨46, _⟩ => ⟨S2048x3x1024, .f32⟩
  | .hbm, ⟨47, _⟩ => ⟨S2048x1024, .f32⟩
  | .hbm, ⟨48, _⟩ => ⟨S2048x1024, .f32⟩
  | .hbm, ⟨49, _⟩ => ⟨S2048x1x1024, .f32⟩
  | .hbm, ⟨50, _⟩ => ⟨S_, .f32⟩
  | .hbm, ⟨51, _⟩ => ⟨S2048x3x1024, .f32⟩
  | .hbm, ⟨52, _⟩ => ⟨S2048x3x1024, .f32⟩
  | .hbm, ⟨53, _⟩ => ⟨S2048x3x1024, .f32⟩
  | .hbm, ⟨54, _⟩ => ⟨S_, .f32⟩
  | .hbm, ⟨55, _⟩ => ⟨S3x1024, .f32⟩
  | .hbm, ⟨56, _⟩ => ⟨S1x3x1024, .f32⟩
  | .hbm, ⟨57, _⟩ => ⟨S_, .f32⟩
  | .hbm, ⟨58, _⟩ => ⟨S3x1024, .f32⟩
  | .hbm, ⟨59, _⟩ => ⟨S2048x3072, .f32⟩
  | .hbm, ⟨60, _⟩ => ⟨S2048x1024, .bf16⟩
  | .hbm, ⟨61, _⟩ => ⟨S2048x1024, .bf16⟩
  | .hbm, ⟨62, _⟩ => ⟨S2048x1024, .bf16⟩
  | .hbm, ⟨63, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Fin.lean ====
abbrev S2048x1024 : Shape := ⟨2, ![2048, 1024]⟩
abbrev S1024x11776 : Shape := ⟨2, ![1024, 11776]⟩
abbrev S2048x11776 : Shape := ⟨2, ![2048, 11776]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x11776, .bf16⟩
  | .hbm, ⟨2, _⟩ => ⟨S2048x11776, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 23, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== FinRefIdeal.lean ====
abbrev S2048x1024 : Shape := ⟨2, ![2048, 1024]⟩
abbrev S1024x11776 : Shape := ⟨2, ![1024, 11776]⟩
abbrev S2048x11776 : Shape := ⟨2, ![2048, 11776]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x11776, .bf16⟩
  | .hbm, ⟨2, _⟩ => ⟨S2048x1024, .f32⟩
  | .hbm, ⟨3, _⟩ => ⟨S1024x11776, .f32⟩
  | .hbm, ⟨4, _⟩ => ⟨S2048x11776, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Fgu.lean ====
abbrev S2048x1024 : Shape := ⟨2, ![2048, 1024]⟩
abbrev S1x8x704x1024 : Shape := ⟨4, ![1, 8, 704, 1024]⟩
abbrev S2x4x2048x704 : Shape := ⟨4, ![2, 4, 2048, 704]⟩
abbrev S4x2048x704 : Shape := ⟨3, ![4, 2048, 704]⟩
abbrev S1x1x704x1024 : Shape := ⟨4, ![1, 1, 704, 1024]⟩
abbrev S2x1x2048x704 : Shape := ⟨4, ![2, 1, 2048, 704]⟩
abbrev S1x2048x704 : Shape := ⟨3, ![1, 2048, 704]⟩
abbrev S704x1024 : Shape := ⟨2, ![704, 1024]⟩
abbrev S2048x704 : Shape := ⟨2, ![2048, 704]⟩
abbrev S1x1x2048x704 : Shape := ⟨4, ![1, 1, 2048, 704]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1x8x704x1024, .bf16⟩
  | .hbm, ⟨2, _⟩ => ⟨S2x4x2048x704, .f32⟩
  | .hbm, ⟨3, _⟩ => ⟨S4x2048x704, .bf16⟩
  | .local _ .vmem, ⟨0, _⟩ => ⟨S2048x1024, .bf16⟩
  | .local _ .vmem, ⟨1, _⟩ => ⟨S1x1x704x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S2x1x2048x704, .f32⟩
  | .local _ .vmem, ⟨6, _⟩ => ⟨S2x1x2048x704, .f32⟩
  | .local _ .vmem, ⟨7, _⟩ => ⟨S1x2048x704, .bf16⟩
  | .local _ .vmem, ⟨8, _⟩ => ⟨S1x2048x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x2048x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FguRefIdeal.lean ====
abbrev S2048x1024 : Shape := ⟨2, ![2048, 1024]⟩
abbrev S1x8x704x1024 : Shape := ⟨4, ![1, 8, 704, 1024]⟩
abbrev S8x704x1024 : Shape := ⟨3, ![8, 704, 1024]⟩
abbrev S8x704x2048 : Shape := ⟨3, ![8, 704, 2048]⟩
abbrev S8x2048x704 : Shape := ⟨3, ![8, 2048, 704]⟩
abbrev S4x2048x704 : Shape := ⟨3, ![4, 2048, 704]⟩
abbrev S1x4x2048x704 : Shape := ⟨4, ![1, 4, 2048, 704]⟩
abbrev S2x4x2048x704 : Shape := ⟨4, ![2, 4, 2048, 704]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x8x704x1024, .bf16⟩
  | .hbm, ⟨2, _⟩ => ⟨S2048x1024, .f32⟩
  | .hbm, ⟨3, _⟩ => ⟨S8x704x1024, .bf16⟩
  | .hbm, ⟨4, _⟩ => ⟨S8x704x1024, .f32⟩
  | .hbm, ⟨5, _⟩ => ⟨S8x704x2048, .f32⟩
  | .hbm, ⟨6, _⟩ => ⟨S8x2048x704, .f32⟩
  | .hbm, ⟨7, _⟩ => ⟨S4x2048x704, .f32⟩
  | .hbm, ⟨8, _⟩ => ⟨S4x2048x704, .f32⟩
  | .hbm, ⟨9, _⟩ => ⟨S1x4x2048x704, .f32⟩
  | .hbm, ⟨10, _⟩ => ⟨S1x4x2048x704, .f32⟩
  | .hbm, ⟨11, _⟩ => ⟨S2x4x2048x704, .f32⟩
  | .hbm, ⟨12, _⟩ => ⟨S4x2048x704, .f32⟩
  | .hbm, ⟨13, _⟩ => ⟨S4x2048x704, .f32⟩
  | .hbm, ⟨14, _⟩ => ⟨S_, .f32⟩
  | .hbm, ⟨15, _⟩ => ⟨S4x2048x704, .f32⟩
  | .hbm, ⟨16, _⟩ => ⟨S4x2048x704, .f32⟩
  | .hbm, ⟨17, _⟩ => ⟨S_, .f32⟩
  | .hbm, ⟨18, _⟩ => ⟨S4x2048x704, .f32⟩
  | .hbm, ⟨19, _⟩ => ⟨S4x2048x704, .f32⟩
  | .hbm, ⟨20, _⟩ => ⟨S4x2048x704, .f32⟩
  | .hbm, ⟨21, _⟩ => ⟨S4x2048x704, .f32⟩
  | .hbm, ⟨22, _⟩ => ⟨S4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Fdown.lean ====
abbrev S2048x1024 : Shape := ⟨2, ![2048, 1024]⟩
abbrev S4x2048x704 : Shape := ⟨3, ![4, 2048, 704]⟩
abbrev S1x4x704x1024 : Shape := ⟨4, ![1, 4, 704, 1024]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S4x2048x704, .bf16⟩
  | .hbm, ⟨2, _⟩ => ⟨S1x4x704x1024, .bf16⟩
  | .hbm, ⟨3, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== FdownRefIdeal.lean ====
abbrev S2048x1024 : Shape := ⟨2, ![2048, 1024]⟩
abbrev S4x2048x704 : Shape := ⟨3, ![4, 2048, 704]⟩
abbrev S1x4x704x1024 : Shape := ⟨4, ![1, 4, 704, 1024]⟩
abbrev S4x704x1024 : Shape := ⟨3, ![4, 704, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2048x704, .bf16⟩
  | .hbm, ⟨2, _⟩ => ⟨S1x4x704x1024, .bf16⟩
  | .hbm, ⟨3, _⟩ => ⟨S4x2048x704, .f32⟩
  | .hbm, ⟨4, _⟩ => ⟨S4x704x1024, .bf16⟩
  | .hbm, ⟨5, _⟩ => ⟨S4x704x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FsqC.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FsqCIdeal.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FsqCRefIdeal.lean ====
abbrev S2048x1024 : Shape := ⟨2, ![2048, 1024]⟩
abbrev S1x4x1024x1024 : Shape := ⟨4, ![1, 4, 1024, 1024]⟩
abbrev S1x1x1024x1024 : Shape := ⟨4, ![1, 1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .hbm, ⟨3, _⟩ => ⟨S1x1x1024x1024, .bf16⟩
  | .hbm, ⟨4, _⟩ => ⟨S1024x1024, .bf16⟩
  | .hbm, ⟨5, _⟩ => ⟨S1024x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FsqS.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FsqSIdeal.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FsqSRefIdeal.lean ====
abbrev S2048x1024 : Shape := ⟨2, ![2048, 1024]⟩
abbrev S1x4x1024x1024 : Shape := ⟨4, ![1, 4, 1024, 1024]⟩
abbrev S1x1x1024x1024 : Shape := ⟨4, ![1, 1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .hbm, ⟨3, _⟩ => ⟨S1x1x1024x1024, .bf16⟩
  | .hbm, ⟨4, _⟩ => ⟨S1024x1024, .bf16⟩
  | .hbm, ⟨5, _⟩ => ⟨S1024x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FsqA.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x4x1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== FsqARefIdeal.lean ====
abbrev S2048x1024 : Shape := ⟨2, ![2048, 1024]⟩
abbrev S1x4x1024x1024 : Shape := ⟨4, ![1, 4, 1024, 1024]⟩
abbrev S1x1x1024x1024 : Shape := ⟨4, ![1, 1, 1024, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x4x1024x1024, .bf16⟩
  | .hbm, ⟨2, _⟩ => ⟨S1x1x1024x1024, .bf16⟩
  | .hbm, ⟨3, _⟩ => ⟨S1024x1024, .bf16⟩
  | .hbm, ⟨4, _⟩ => ⟨S1024x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FsqO.lean ====
abbrev S2048x1024 : Shape := ⟨2, ![2048, 1024]⟩
abbrev S1x4x1024x1024 : Shape := ⟨4, ![1, 4, 1024, 1024]⟩
abbrev S1024x1024 : Shape := ⟨2, ![1024, 1024]⟩
abbrev S1x1x1024x1024 : Shape := ⟨4, ![1, 1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== FsqORefIdeal.lean ====
abbrev S2048x1024 : Shape := ⟨2, ![2048, 1024]⟩
abbrev S1x4x1024x1024 : Shape := ⟨4, ![1, 4, 1024, 1024]⟩
abbrev S1x1x1024x1024 : Shape := ⟨4, ![1, 1, 1024, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1x4x1024x1024, .bf16⟩
  | .hbm, ⟨2, _⟩ => ⟨S2048x1024, .f32⟩
  | .hbm, ⟨3, _⟩ => ⟨S2048x1024, .f32⟩
  | .hbm, ⟨4, _⟩ => ⟨S1x1x1024x1024, .bf16⟩
  | .hbm, ⟨5, _⟩ => ⟨S1024x1024, .bf16⟩
  | .hbm, ⟨6, _⟩ => ⟨S1024x1024, .f32⟩
  | .hbm, ⟨7, _⟩ => ⟨S2048x1024, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dconv.lean ====
abbrev S2048x1024 : Shape := ⟨2, ![2048, 1024]⟩
abbrev S2048x11776 : Shape := ⟨2, ![2048, 11776]⟩
abbrev S3x1024 : Shape := ⟨2, ![3, 1024]⟩
abbrev S2048x3072 : Shape := ⟨2, ![2048, 3072]⟩
abbrev S512x1024 : Shape := ⟨2, ![512, 1024]⟩
abbrev S8x1024 : Shape := ⟨2, ![8, 1024]⟩
abbrev S512x3072 : Shape := ⟨2, ![512, 3072]⟩
abbrev S1x1024 : Shape := ⟨2, ![1, 1024]⟩
abbrev S1024 : Shape := ⟨1, ![1024]⟩

abbrev nBuf : Space → Nat
  | .hbm => 5
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x11776, .f32⟩
  | .hbm, ⟨2, _⟩ => ⟨S3x1024, .f32⟩
  | .hbm, ⟨3, _⟩ => ⟨S2048x3072, .bf16⟩
  | .hbm, ⟨4, _⟩ => ⟨S3x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | .local _ .vmem, ⟨16, _⟩ => ⟨S3x1024, .f32⟩
  | .local _ .vmem, ⟨17, _⟩ => ⟨S512x3072, .bf16⟩
  | .local _ .vmem, ⟨18, _⟩ => ⟨S512x3072, .bf16⟩
  | .local _ .vmem, ⟨19, _⟩ => ⟨S3x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_41 : BitVec 32 := 0#32
  let v108 : BitVec 1 := Scalar.cmpi .eq arg0 c0_i32_41
  let v109 : BitVec 32 := Scalar.extui v108
  let c0_i32_42 : BitVec 32 := 0#32
  let v110 : BitVec 1 := Scalar.cmpi .ne v109 c0_i32_42
  v110

def k0_cond2 (i : grid0.Coords) : BitVec 1 :=
  let arg0 : BitVec 32 := BitVec.ofNat 32 (i 0).val
  let c0_i32_43 : BitVec 32 := 0#32
  let v111 : BitVec 1 := Scalar.cmpi .sgt arg0 c0_i32_43
  let v112 : BitVec 32 := Scalar.extui v111
  let c0_i32_44 : BitVec 32 := 0#32
  let v113 : BitVec 1 := Scalar.cmpi .ne v112 c0_i32_44
  v113

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DconvRefIdeal.lean ====
abbrev S2048x1024 : Shape := ⟨2, ![2048, 1024]⟩
abbrev S2048x11776 : Shape := ⟨2, ![2048, 11776]⟩
abbrev S3x1024 : Shape := ⟨2, ![3, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩
abbrev S2048x3072 : Shape := ⟨2, ![2048, 3072]⟩

abbrev nBuf : Space → Nat
  | .hbm => 84
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x11776, .f32⟩
  | .hbm, ⟨2, _⟩ => ⟨S3x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2x1024, .f32⟩
  | .hbm, ⟨9, _⟩ => ⟨S2050x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S2050x1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S2050x1024, .f32⟩
  | .hbm, ⟨58, _⟩ => ⟨S2050x1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S3x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S2050x1024, .f32⟩
  | .hbm, ⟨73, _⟩ => ⟨S2050x1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S2x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x3072, .f32⟩
  | .hbm, ⟨83, _⟩ => ⟨S2048x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Frms.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FrmsRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Fconv.lean ====
abbrev S2048x11776 : Shape := ⟨2, ![2048, 11776]⟩
abbrev S3x1024 : Shape := ⟨2, ![3, 1024]⟩
abbrev S2048x1024 : Shape := ⟨2, ![2048, 1024]⟩
abbrev S512x1024 : Shape := ⟨2, ![512, 1024]⟩
abbrev S8x1024 : Shape := ⟨2, ![8, 1024]⟩
abbrev S1x1024 : Shape := ⟨2, ![1, 1024]⟩

abbrev nBuf : Space → Nat
  | .hbm => 3
  | .vmem => 13
  | .smem => 0
  | _ => 0

abbrev bufTy : (tb : Table) → Fin (tcTables nBuf tb) → BufTy
  | .hbm, ⟨0, _⟩ => ⟨S2048x11776, .f32⟩
  | .hbm, ⟨1, _⟩ => ⟨S3x1024, .f32⟩
  | .hbm, ⟨2, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S3x1024, .f32⟩
  | .local _ .vmem, ⟨11, _⟩ => ⟨S512x1024, .bf16⟩
  | .local _ .vmem, ⟨12, _⟩ => ⟨S512x1024, .bf16⟩
  | _, _ => ⟨S2048x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FconvRefIdeal.lean ====
abbrev S2048x11776 : Shape := ⟨2, ![2048, 11776]⟩
abbrev S3x1024 : Shape := ⟨2, ![3, 1024]⟩
abbrev S2048x1024 : Shape := ⟨2, ![2048, 1024]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S2048x11776, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2x1024, .f32⟩
  | .hbm, ⟨8, _⟩ => ⟨S2050x1024, .f32⟩
  | .hbm, ⟨9, _⟩ => ⟨S1x1024, .f32⟩
  | .hbm, ⟨10, _⟩ => ⟨S1024, .f32⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .bf16⟩
  | _, _ => ⟨S2048x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Fmerge.lean ====
abbrev S2048x1024 : Shape := ⟨2, ![2048, 1024]⟩
abbrev S2048x11776 : Shape := ⟨2, ![2048, 11776]⟩
abbrev S3x1024 : Shape := ⟨2, ![3, 1024]⟩
abbrev S512x1024 : Shape := ⟨2, ![512, 1024]⟩
abbrev S1x1024 : Shape := ⟨2, ![1, 1024]⟩

abbrev nBuf : Space → Nat
  | .hbm => 6
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x11776, .f32⟩
  | .hbm, ⟨4, _⟩ => ⟨S3x1024, .f32⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S3x1024, .f32⟩
  | .local _ .vmem, ⟨13, _⟩ => ⟨S512x1024, .bf16⟩
  | .local _ .vmem, ⟨14, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FmergeRefIdeal.lean ====
abbrev S2048x1024 : Shape := ⟨2, ![2048, 1024]⟩
abbrev S2048x11776 : Shape := ⟨2, ![2048, 11776]⟩
abbrev S3x1024 : Shape := ⟨2, ![3, 1024]⟩
abbrev S2048x3072 : Shape := ⟨2, ![2048, 3072]⟩
abbrev S2048x3x1024 : Shape := ⟨3, ![2048, 3, 1024]⟩
abbrev S1x3x1024 : Shape := ⟨3, ![1, 3, 1024]⟩
abbrev S_ : Shape := ⟨0, ![]⟩
abbrev S2048x1x1024 : Shape := ⟨3, ![2048, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x11776, .f32⟩
  | .hbm, ⟨4, _⟩ => ⟨S3x1024, .f32⟩
  | .hbm, ⟨5, _⟩ => ⟨S2048x3072, .f32⟩
  | .hbm, ⟨6, _⟩ => ⟨S2048x3x1024, .f32⟩
  | .hbm, ⟨7, _⟩ => ⟨S1x3x1024, .f32⟩
  | .hbm, ⟨8, _⟩ => ⟨S2048x3x1024, .f32⟩
  | .hbm, ⟨9, _⟩ => ⟨S2048x3x1024, .f32⟩
  | .hbm, ⟨10, _⟩ => ⟨S2048x3x1024, .f32⟩
  | .hbm, ⟨11, _⟩ => ⟨S2048x3x1024, .f32⟩
  | .hbm, ⟨12, _⟩ => ⟨S_, .f32⟩
  | .hbm, ⟨13, _⟩ => ⟨S2048x3x1024, .f32⟩
  | .hbm, ⟨14, _⟩ => ⟨S2048x3x1024, .f32⟩
  | .hbm, ⟨15, _⟩ => ⟨S_, .f32⟩
  | .hbm, ⟨16, _⟩ => ⟨S2048x3x1024, .f32⟩
  | .hbm, ⟨17, _⟩ => ⟨S2048x3x1024, .f32⟩
  | .hbm, ⟨18, _⟩ => ⟨S2048x1x1024, .f32⟩
  | .hbm, ⟨19, _⟩ => ⟨S2048x1024, .f32⟩
  | .hbm, ⟨20, _⟩ => ⟨S2048x1024, .f32⟩
  | .hbm, ⟨21, _⟩ => ⟨S2048x1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Proof.Dkv.Point.lean ====
module

public import proofs.«01_k».proof.Proof.Gen.KernelIdeal.Value
public import Idealize.ShloMosaic.Lib.WritesUnit
public import Idealize.ShloMosaic.Lib.Pipeline.ValueKit.Tiles
public import Idealize.ShloMosaic.Lib.Pointwise

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem

variable {F : FTy → Type} [FloatOps F]

/-! # What one grid point leaves in its output blocks, as a term in its input blocks -/

/-- Rows `1024 n .. 1024 n + 1023` of a whole-sequence block. -/
def rowsAt {α : Type} (n : Fin 2) (x : S2048x128.Idx → α) : S1024x128.Idx → α :=
  fun j => x (ix2 ⟨n.val * 1024 + (j 0).val, by have := n.isLt; have : (j 0).val < 1024 := (j 0).isLt; omega⟩ ⟨(j 1).val, (j 1).isLt⟩)

/-- Lanes `1024 n .. 1024 n + 1023` of a whole-sequence row. -/
def lanesAt {α : Type} (n : Fin 2) (x : S1x1x2048.Idx → α) : S1x1x1024.Idx → α :=
  fun j => x (ix3 0 0 ⟨n.val * 1024 + (j 2).val, by have := n.isLt; have : (j 2).val < 1024 := (j 2).isLt; omega⟩)

/-- The first lane of a block, as a column. -/
def colOf {α : Type} (x : S1x1024x128.Idx → α) : S1x1024x1.Idx → α :=
  fun j => x (ix3 0 ⟨(j 1).val, (j 1).isLt⟩ 0)

theorem ld_rows {Val : EltTy → Type} {e : EltTy} {off : Fin 2 → ℕ} (n : Fin 2) (h : off = ![n.val * 1024, 0]) (x : S2048x128.Idx → Val e)
    (inb : ∀ a, off a + (![1024, 128] : Fin 2 → ℕ) a ≤ S2048x128.size a) :
    View.ld x (Rect.unit (s := S2048x128) off ![1024, 128] inb) = rowsAt n x := by
  subst h; funext j
  exact View.ld_unit_apply_of _ _ _ _ _ _ fun a => match a with
    | ⟨0, _⟩ => rfl
    | ⟨1, _⟩ => (Nat.zero_add _).symm

theorem ld_lanes {Val : EltTy → Type} {e : EltTy} {off : Fin 3 → ℕ} (n : Fin 2) (h : off = ![0, 0, n.val * 1024]) (x : S1x1x2048.Idx → Val e)
    (inb : ∀ a, off a + (![1, 1, 1024] : Fin 3 → ℕ) a ≤ S1x1x2048.size a) :
    View.ld x (Rect.unit (s := S1x1x2048) off ![1, 1, 1024] inb) = lanesAt n x := by
  subst h; funext j
  exact View.ld_unit_apply_of _ _ _ _ _ _ fun a => match a with
    | ⟨0, _⟩ => by have h : (j 0).val < 1 := (j 0).isLt; show 0 = 0 + (j 0).val; omega
    | ⟨1, _⟩ => by have h : (j 1).val < 1 := (j 1).isLt; show 0 = 0 + (j 1).val; omega
    | ⟨2, _⟩ => rfl

theorem ld_col {Val : EltTy → Type} {e : EltTy} (x : S1x1024x128.Idx → Val e) (inb) :
    View.ld x (Rect.unit (s := S1x1024x128) ![0, 0, 0] ![1, 1024, 1] inb) = colOf x := by
  funext j
  exact View.ld_unit_apply_of _ _ _ _ _ _ fun a => match a with
    | ⟨0, _⟩ => by have h : (j 0).val < 1 := (j 0).isLt; show 0 = 0 + (j 0).val; omega
    | ⟨1, _⟩ => (Nat.zero_add _).symm
    | ⟨2, _⟩ => by have h : (j 2).val < 1 := (j 2).isLt; show 0 = 0 + (j 2).val; omega

theorem ld_all {Val : EltTy → Type} {e : EltTy} (x : S1024x128.Idx → Val e) (inb) :
    View.ld x (Rect.unit (s := S1024x128) ![0, 0] ![1024, 128] inb) = x :=
  View.ld_unit_zero (by funext a; match a with | ⟨0, _⟩ => rfl | ⟨1, _⟩ => rfl) inb x

/-- The three sums carried by a point: the keys' gradient before the scale, the values' gradient, the folded score gradients. -/
abbrev Carry (F : FTy → Type) := FVec F S1024x128 .f32 × FVec F S1024x128 .f32 × FVec F S1024x128 .f32

/-- The carry after the diagonal block, in the rows that it loads. -/
def diagOf (k v : Vec F S1024x128 .bf16) (cc : Vec F S1x1024x1 .f32) (q : Vec F S1024x128 .bf16) (d : Vec F S1024x128 .f32)
    (cr lse dl : Vec F S1x1x1024 .f32) : Carry F :=
  (k0_pay25 v q (k0_pay18 d) (k0_pay19 k cc q cr lse) k0_pay20 k0_pay21 dl,
   k0_pay24 (k0_pay18 d) (k0_pay19 k cc q cr lse) k0_pay20 k0_pay21,
   k0_pay26 v (k0_pay18 d) (k0_pay19 k cc q cr lse) k0_pay20 k0_pay21 dl)

/-- The carry after the diagonal block: query rows `1024 n ..`. -/
def diag (n : Fin 2) (x0 : Vec F S2048x128 .bf16) (x1 : Vec F S1024x128 .bf16) (x2 : Vec F S1024x128 .bf16) (x3 : Vec F S2048x128 .f32) (x4 : Vec F S1x1x2048 .f32) (x5 : Vec F S1x1x2048 .f32) (x6 : Vec F S1x1024x128 .f32) (x7 : Vec F S1x1x2048 .f32) : Carry F :=
  diagOf x1 x2 (colOf x6) (rowsAt n x0) (rowsAt n x3) (lanesAt n x7) (lanesAt n x4) (lanesAt n x5)

/-- One trip of the loop over the query blocks below the diagonal, in the rows that it loads. -/
def tripOf (k v : Vec F S1024x128 .bf16) (cc : Vec F S1x1024x1 .f32) (q : Vec F S1024x128 .bf16) (d : Vec F S1024x128 .f32)
    (cr lse dl : Vec F S1x1x1024 .f32) (acc : Carry F) : Carry F :=
  (k0_pay27 acc.1 (k0_pay6 k v (k0_pay17 cc) q d cr lse dl),
   k0_pay28 acc.2.1 (k0_pay5 k (k0_pay17 cc) q d cr lse),
   k0_pay29 acc.2.2 (k0_pay4 k v (k0_pay17 cc) q d cr lse dl) (k0_pay7 k v (k0_pay17 cc) q d cr lse dl) (k0_pay8 k v (k0_pay17 cc) q d cr lse dl))

/-- The trip over query block 1, the only one. -/
def below (x0 : Vec F S2048x128 .bf16) (x1 : Vec F S1024x128 .bf16) (x2 : Vec F S1024x128 .bf16) (x3 : Vec F S2048x128 .f32) (x4 : Vec F S1x1x2048 .f32) (x5 : Vec F S1x1x2048 .f32) (x6 : Vec F S1x1024x128 .f32) (x7 : Vec F S1x1x2048 .f32) (acc : Carry F) : Carry F :=
  tripOf x1 x2 (colOf x6) (rowsAt 1 x0) (rowsAt 1 x3) (lanesAt 1 x7) (lanesAt 1 x4) (lanesAt 1 x5) acc

/-- The carry at the end of a point of key block `n`. -/
def carried (n : Fin 2) (x0 : Vec F S2048x128 .bf16) (x1 : Vec F S1024x128 .bf16) (x2 : Vec F S1024x128 .bf16) (x3 : Vec F S2048x128 .f32) (x4 : Vec F S1x1x2048 .f32) (x5 : Vec F S1x1x2048 .f32) (x6 : Vec F S1x1024x128 .f32) (x7 : Vec F S1x1x2048 .f32) : Carry F :=
  if n = 0 then below x0 x1 x2 x3 x4 x5 x6 x7 (diag 0 x0 x1 x2 x3 x4 x5 x6 x7) else diag 1 x0 x1 x2 x3 x4 x5 x6 x7

section Words

theorem word_off : ∀ a : Fin 2, BitVec.toNat (Scalar.indexCast (Scalar.muli (BitVec.ofNat 32 a.val) 1024#32)) = a.val * 1024 := by decide

theorem trips_first : ∀ a : Fin 2, Scf.trips (Scalar.addi (BitVec.ofNat 32 a.val) 1#32)
    (Scalar.addi (Scalar.addi (BitVec.ofNat 32 a.val) 1#32)
      (Scalar.muli (Scalar.divsi (Scalar.subi (2#32) (Scalar.addi (BitVec.ofNat 32 a.val) 1#32)) 1#32) 1#32)) 1#32 = 1 - a.val := by decide

theorem trips_rest : ∀ a : Fin 2, Scf.trips (Scalar.addi (Scalar.addi (BitVec.ofNat 32 a.val) 1#32)
      (Scalar.muli (Scalar.divsi (Scalar.subi (2#32) (Scalar.addi (BitVec.ofNat 32 a.val) 1#32)) 1#32) 1#32))
    (Scalar.addi (Scalar.addi (BitVec.ofNat 32 a.val) 1#32) (Scalar.subi (2#32) (Scalar.addi (BitVec.ofNat 32 a.val) 1#32))) 1#32 = 0 := by decide

theorem off1_eq (i : grid0.Coords) (n : Fin 2) (h : i 1 = n) : k0_off1 i = ![n.val * 1024, 0] := by
  subst h; unfold k0_off1; simp only [word_off (i 1)]

theorem off2_eq (i : grid0.Coords) (n : Fin 2) (h : i 1 = n) : k0_off2 i = ![0, 0, n.val * 1024] := by
  subst h; unfold k0_off2; simp only [word_off (i 1)]

theorem off3_eq (i : grid0.Coords) (h : i 1 = (0 : Fin 2)) (k : Fin (k0_t1_loop i).trips) : k0_off3 i k = ![(1 : Fin 2).val * 1024, 0] := by
  have hk : k.val = 0 := by
    have h1 := k.isLt
    have h2 : (k0_t1_loop i).trips = 1 - (i 1).val := trips_first (i 1)
    omega
  unfold k0_off3; rw [h]; simp only [hk]; decide
theorem off4_eq (i : grid0.Coords) (h : i 1 = (0 : Fin 2)) (k : Fin (k0_t1_loop i).trips) : k0_off4 i k = ![0, 0, (1 : Fin 2).val * 1024] := by
  have hk : k.val = 0 := by
    have h1 := k.isLt
    have h2 : (k0_t1_loop i).trips = 1 - (i 1).val := trips_first (i 1)
    omega
  unfold k0_off4; rw [h]; simp only [hk]; decide

end Words

section Point

variable (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1024x128 .f32) (harg8 : arg8.IsWhole) (arg9 : Memref sig .tc .vmem S1x1x2048 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x128 .f32) (harg12 : arg12.IsWhole)
  (x0 : Vec F S2048x128 .bf16) (x1 : Vec F S1024x128 .bf16) (x2 : Vec F S1024x128 .bf16) (x3 : Vec F S2048x128 .f32) (x4 : Vec F S1x1x2048 .f32) (x5 : Vec F S1x1x2048 .f32) (x6 : Vec F S1x1024x128 .f32) (x7 : Vec F S1x1x2048 .f32)

/-- One trip of the loop, at a point of key block 0. -/
theorem trip_eq (𝒱 : Variants) (bd : Option 𝒱.V) (h : i 1 = (0 : Fin 2)) (k : Fin (k0_t1_loop i).trips) (arg0 v10 v11 : BitVec 32)
    (v13 : Vec F S1024x128 .bf16) (v16 : FVec F S1024x128 .bf16) (v31 : FVec F S1024x1024 .f32) (v34 : IVec S1024x1024 1) (v35 : FVec F S1024x1024 .f32)  (acc : Carry F) :
    tripR_k0_t1 𝒱 c bd i arg2 harg2 arg3 harg3 arg4 harg4 arg5 harg5 arg6 harg6 arg7 harg7 arg8 harg8 arg9 harg9 arg10 harg10 arg11 harg11 arg12 harg12 arg0 x1 x2 (k0_pay17 (colOf x6)) v10 v11 v13 v16 v31 v34 v35
      (harg2.unread x0) (harg5.unread x3) (harg6.unread x4) (harg7.unread x5) (harg9.unread x7) k acc = below x0 x1 x2 x3 x4 x5 x6 x7 acc := by
  unfold tripR_k0_t1 trip_k0_t1
  dsimp only
  sl_unfold_words
  simp only [View.readAt_eq_ld, harg2.read_unread, harg3.read_unread, harg4.read_unread, harg5.read_unread, harg6.read_unread, harg7.read_unread, harg8.read_unread, harg9.read_unread]
  show tripOf x1 x2 (colOf x6) (View.ld x0 (Rect.unit (s := S2048x128) (k0_off3 i k) ![1024, 128] (k0_off3_inb i k)))
    (View.ld x3 (Rect.unit (s := S2048x128) (k0_off3 i k) ![1024, 128] (k0_off3_inb i k)))
    (View.ld x7 (Rect.unit (s := S1x1x2048) (k0_off4 i k) ![1, 1, 1024] (k0_off4_inb i k)))
    (View.ld x4 (Rect.unit (s := S1x1x2048) (k0_off4 i k) ![1, 1, 1024] (k0_off4_inb i k)))
    (View.ld x5 (Rect.unit (s := S1x1x2048) (k0_off4 i k) ![1, 1, 1024] (k0_off4_inb i k))) acc = _
  rw [ld_rows 1 (off3_eq i h k), ld_rows 1 (off3_eq i h k), ld_lanes 1 (off4_eq i h k), ld_lanes 1 (off4_eq i h k), ld_lanes 1 (off4_eq i h k)]
  rfl

/-- The carry after the diagonal block, in the body's own loads. -/
def loaded : Carry F :=
  diagOf (View.ld x1 (Rect.unit (s := S1024x128) ![0, 0] ![1024, 128] inb_S1024x128_S1024x128_0_0))
    (View.ld x2 (Rect.unit (s := S1024x128) ![0, 0] ![1024, 128] inb_S1024x128_S1024x128_0_0))
    (View.ld x6 (Rect.unit (s := S1x1024x128) ![0, 0, 0] ![1, 1024, 1] inb_S1x1024x128_S1x1024x1_0_0_0))
    (View.ld x0 (Rect.unit (s := S2048x128) (k0_off1 i) ![1024, 128] (k0_off1_inb i)))
    (View.ld x3 (Rect.unit (s := S2048x128) (k0_off1 i) ![1024, 128] (k0_off1_inb i)))
    (View.ld x7 (Rect.unit (s := S1x1x2048) (k0_off2 i) ![1, 1, 1024] (k0_off2_inb i)))
    (View.ld x4 (Rect.unit (s := S1x1x2048) (k0_off2 i) ![1, 1, 1024] (k0_off2_inb i)))
    (View.ld x5 (Rect.unit (s := S1x1x2048) (k0_off2 i) ![1, 1, 1024] (k0_off2_inb i)))

theorem loaded_eq (n : Fin 2) (h : i 1 = n) : loaded i x0 x1 x2 x3 x4 x5 x6 x7 = diag n x0 x1 x2 x3 x4 x5 x6 x7 := by
  unfold loaded diag
  rw [ld_all, ld_all, ld_col, ld_rows n (off1_eq i n h), ld_rows n (off1_eq i n h), ld_lanes n (off2_eq i n h), ld_lanes n (off2_eq i n h), ld_lanes n (off2_eq i n h)]

/-- What the two loops leave in the carry. -/
theorem loops_eq (n : Fin 2) (h : i 1 = n) (arg0 v10 v11 v67 : BitVec 32)
    (v13 : Vec F S1024x128 .bf16) (v16 : FVec F S1024x128 .bf16) (v31 : FVec F S1024x1024 .f32) (v34 : IVec S1024x1024 1) (v35 : FVec F S1024x1024 .f32)
    (T1 T2 : ℕ) (h1 : T1 = 1 - (i 1).val) (h2 : T2 = 0) :
    st_k0_t2 (F := F) Variants.none c none i arg2 harg2 arg3 harg3 arg4 harg4 arg5 harg5 arg6 harg6 arg7 harg7 arg8 harg8 arg9 harg9 arg10 harg10 arg11 harg11 arg12 harg12 arg0 (View.ld x1 (Rect.unit (s := S1024x128) ![0, 0] ![1024, 128] inb_S1024x128_S1024x128_0_0))
      (View.ld x2 (Rect.unit (s := S1024x128) ![0, 0] ![1024, 128] inb_S1024x128_S1024x128_0_0))
      (k0_pay17 (View.ld x6 (Rect.unit (s := S1x1024x128) ![0, 0, 0] ![1, 1024, 1] inb_S1x1024x128_S1x1024x1_0_0_0))) v10 v11 v13 v16 v31 v34 v35 v67 (harg2.unread x0) (harg5.unread x3) (harg6.unread x4) (harg7.unread x5) (harg9.unread x7)
      (st_k0_t1 (F := F) Variants.none c none i arg2 harg2 arg3 harg3 arg4 harg4 arg5 harg5 arg6 harg6 arg7 harg7 arg8 harg8 arg9 harg9 arg10 harg10 arg11 harg11 arg12 harg12 arg0 (View.ld x1 (Rect.unit (s := S1024x128) ![0, 0] ![1024, 128] inb_S1024x128_S1024x128_0_0))
      (View.ld x2 (Rect.unit (s := S1024x128) ![0, 0] ![1024, 128] inb_S1024x128_S1024x128_0_0))
      (k0_pay17 (View.ld x6 (Rect.unit (s := S1x1024x128) ![0, 0, 0] ![1, 1024, 1] inb_S1x1024x128_S1x1024x1_0_0_0))) v10 v11 v13 v16 v31 v34 v35 (harg2.unread x0) (harg5.unread x3) (harg6.unread x4) (harg7.unread x5) (harg9.unread x7) (loaded i x0 x1 x2 x3 x4 x5 x6 x7) T1) T2 = carried n x0 x1 x2 x3 x4 x5 x6 x7 := by
  subst h2
  rw [st_k0_t2.eq_1, loaded_eq i x0 x1 x2 x3 x4 x5 x6 x7 n h, ld_all, ld_all, ld_col]
  unfold carried
  by_cases hn : n = 0
  · subst hn
    rw [if_pos rfl]
    have e : T1 = 0 + 1 := by rw [h1, h]; rfl
    subst e
    have hk : 0 < (k0_t1_loop i).trips := by
      have e2 : (k0_t1_loop i).trips = 1 - (i 1).val := trips_first (i 1)
      rw [e2, h]; decide
    refine (st_k0_t1_succ (F := F) Variants.none c none i arg2 harg2 arg3 harg3 arg4 harg4 arg5 harg5 arg6 harg6 arg7 harg7 arg8 harg8 arg9 harg9 arg10 harg10 arg11 harg11 arg12 harg12 arg0 x1
      x2
      (k0_pay17 (colOf x6)) v10 v11 v13 v16 v31 v34 v35 (harg2.unread x0) (harg5.unread x3) (harg6.unread x4) (harg7.unread x5) (harg9.unread x7) (diag 0 x0 x1 x2 x3 x4 x5 x6 x7) ⟨0, hk⟩).trans ?_
    rw [trip_eq c i arg2 harg2 arg3 harg3 arg4 harg4 arg5 harg5 arg6 harg6 arg7 harg7 arg8 harg8 arg9 harg9 arg10 harg10 arg11 harg11 arg12 harg12 x0 x1 x2 x3 x4 x5 x6 x7 Variants.none none h, st_k0_t1_zero]
  · have hn1 : n = 1 := Fin.eq_one_of_ne_zero n hn
    subst hn1
    have e : T1 = 0 := by rw [h1, h]; rfl
    subst e
    rw [if_neg (by decide), st_k0_t1_zero]

end Point

/-- A store of rows `1024 n ..` over a whole-sequence buffer, read back at an index. -/
theorem rows_update {sig : RefSig} {κ : Kind} {sp : Space} (v : View sig κ sp S2048x128 .f32) (f : v.ty.Contents (Elt F)) (n : Fin 2) {off : Fin 2 → ℕ} (h : off = ![n.val * 1024, 0])
    (inb : ∀ a, off a + (![1024, 128] : Fin 2 → ℕ) a ≤ S2048x128.size a) (w : Vec F S1024x128 .f32) (L : List (View.Piece (Elt F) S2048x128 .f32)) (y : S2048x128.Idx) :
    v.read (Elt F) (v.writes (Elt F) f ((⟨Rect.unit (s := S2048x128) off ![1024, 128] inb, w⟩ : View.Piece (Elt F) S2048x128 .f32) :: L)) y
      = if hy : n.val * 1024 ≤ (y 0).val ∧ (y 0).val < n.val * 1024 + 1024 then
          w (ix2 ⟨(y 0).val - n.val * 1024, by omega⟩ ⟨(y 1).val, (y 1).isLt⟩)
        else v.read (Elt F) (v.writes (Elt F) f L) y := by
  split
  · rename_i hy
    exact View.read_writes_cons_unit_of_mem v f inb w L y (ix2 ⟨(y 0).val - n.val * 1024, by omega⟩ ⟨(y 1).val, (y 1).isLt⟩) h fun a => match a with
      | ⟨0, _⟩ => by show (y 0).val = n.val * 1024 + ((y 0).val - n.val * 1024); omega
      | ⟨1, _⟩ => (Nat.zero_add _).symm
  · rename_i hy
    refine View.read_writes_cons_unit_of_not_mem v f inb w L y h (0 : Fin 2) ?_
    show (y 0).val < n.val * 1024 ∨ n.val * 1024 + 1024 ≤ (y 0).val
    omega
-- ==== Proof.Dkv.PointA.lean ====
module

public import proofs.«01_k».proof.Proof.Gen.KernelIdeal.Value
public import proofs.«01_k».proof.Proof.Dkv.Point
public import Idealize.ShloMosaic.Lib.WritesUnit
public import Idealize.ShloMosaic.Lib.Pipeline.ValueKit.Tiles
public import Idealize.ShloMosaic.Lib.Pointwise

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem

variable {F : FTy → Type} [FloatOps F]

section Point

variable (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1024x128 .f32) (harg8 : arg8.IsWhole) (arg9 : Memref sig .tc .vmem S1x1x2048 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x128 .f32) (harg12 : arg12.IsWhole)
  (x0 : Vec F S2048x128 .bf16) (x1 : Vec F S1024x128 .bf16) (x2 : Vec F S1024x128 .bf16) (x3 : Vec F S2048x128 .f32) (x4 : Vec F S1x1x2048 .f32) (x5 : Vec F S1x1x2048 .f32) (x6 : Vec F S1x1024x128 .f32) (x7 : Vec F S1x1x2048 .f32)

/-- A point's block of the keys' gradient. -/
theorem out0_A_8_eq (n : Fin 2) (h : i 1 = n) (hc0 : cond0_0 i) : out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay33 (carried n x0 x1 x2 x3 x4 x5 x6 x7).1 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread]
  refine (View.canon_unit_zero (by funext a; match a with | ⟨0, _⟩ => rfl | ⟨1, _⟩ => rfl) _ _).trans ?_
  exact congrArg (fun z : Carry F => k0_pay33 z.1) (loops_eq c i arg2 harg2 arg3 harg3 arg4 harg4 arg5 harg5 arg6 harg6 arg7 harg7 arg8 harg8 arg9 harg9 arg10 harg10 arg11 harg11 arg12 harg12 x0 x1 x2 x3 x4 x5 x6 x7 n h _ _ _ _ _ _ _ _ _ _ _ (trips_first (i 1)) (trips_rest (i 1)))

/-- A point's block of the values' gradient. -/
theorem out0_A_9_eq (n : Fin 2) (h : i 1 = n) (hc0 : cond0_0 i) : out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 = (carried n x0 x1 x2 x3 x4 x5 x6 x7).2.1 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread]
  refine (View.canon_unit_zero (by funext a; match a with | ⟨0, _⟩ => rfl | ⟨1, _⟩ => rfl) _ _).trans ?_
  exact congrArg (fun z : Carry F => z.2.1) (loops_eq c i arg2 harg2 arg3 harg3 arg4 harg4 arg5 harg5 arg6 harg6 arg7 harg7 arg8 harg8 arg9 harg9 arg10 harg10 arg11 harg11 arg12 harg12 x0 x1 x2 x3 x4 x5 x6 x7 n h _ _ _ _ _ _ _ _ _ _ _ (trips_first (i 1)) (trips_rest (i 1)))

end Point
-- ==== Proof.Dkv.PointB.lean ====
module

public import proofs.«01_k».proof.Proof.Gen.KernelIdeal.Value
public import proofs.«01_k».proof.Proof.Dkv.Point
public import Idealize.ShloMosaic.Lib.WritesUnit
public import Idealize.ShloMosaic.Lib.Pipeline.ValueKit.Tiles
public import Idealize.ShloMosaic.Lib.Pointwise

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem

variable {F : FTy → Type} [FloatOps F]

section Point

variable (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1024x128 .f32) (harg8 : arg8.IsWhole) (arg9 : Memref sig .tc .vmem S1x1x2048 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x128 .f32) (harg12 : arg12.IsWhole)
  (x0 : Vec F S2048x128 .bf16) (x1 : Vec F S1024x128 .bf16) (x2 : Vec F S1024x128 .bf16) (x3 : Vec F S2048x128 .f32) (x4 : Vec F S1x1x2048 .f32) (x5 : Vec F S1x1x2048 .f32) (x6 : Vec F S1x1024x128 .f32) (x7 : Vec F S1x1x2048 .f32)

/-- A point's block of the keys' gradient. -/
theorem out0_B_8_eq (n : Fin 2) (h : i 1 = n) (hc0 : ¬cond0_0 i) (xo10 : Vec F S2048x128 .f32) : out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo10 = k0_pay33 (carried n x0 x1 x2 x3 x4 x5 x6 x7).1 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo10)]
  unfold kernelRun0_B
  dsimp only
  sl_unfold_words
  simp only [View.readAt_eq_ld, harg2.read_unread, harg3.read_unread, harg4.read_unread, harg5.read_unread, harg6.read_unread, harg7.read_unread, harg8.read_unread, harg9.read_unread, harg12.read_unread]
  refine (View.canon_unit_zero (by funext a; match a with | ⟨0, _⟩ => rfl | ⟨1, _⟩ => rfl) _ _).trans ?_
  exact congrArg (fun z : Carry F => k0_pay33 z.1) (loops_eq c i arg2 harg2 arg3 harg3 arg4 harg4 arg5 harg5 arg6 harg6 arg7 harg7 arg8 harg8 arg9 harg9 arg10 harg10 arg11 harg11 arg12 harg12 x0 x1 x2 x3 x4 x5 x6 x7 n h _ _ _ _ _ _ _ _ _ _ _ (trips_first (i 1)) (trips_rest (i 1)))

/-- A point's block of the values' gradient. -/
theorem out0_B_9_eq (n : Fin 2) (h : i 1 = n) (hc0 : ¬cond0_0 i) (xo10 : Vec F S2048x128 .f32) : out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo10 = (carried n x0 x1 x2 x3 x4 x5 x6 x7).2.1 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo10)]
  unfold kernelRun0_B
  dsimp only
  sl_unfold_words
  simp only [View.readAt_eq_ld, harg2.read_unread, harg3.read_unread, harg4.read_unread, harg5.read_unread, harg6.read_unread, harg7.read_unread, harg8.read_unread, harg9.read_unread, harg12.read_unread]
  refine (View.canon_unit_zero (by funext a; match a with | ⟨0, _⟩ => rfl | ⟨1, _⟩ => rfl) _ _).trans ?_
  exact congrArg (fun z : Carry F => z.2.1) (loops_eq c i arg2 harg2 arg3 harg3 arg4 harg4 arg5 harg5 arg6 harg6 arg7 harg7 arg8 harg8 arg9 harg9 arg10 harg10 arg11 harg11 arg12 harg12 x0 x1 x2 x3 x4 x5 x6 x7 n h _ _ _ _ _ _ _ _ _ _ _ (trips_first (i 1)) (trips_rest (i 1)))

end Point
-- ==== Proof.Dkv.PointA10.lean ====
module

public import proofs.«01_k».proof.Proof.Gen.KernelIdeal.Value
public import proofs.«01_k».proof.Proof.Dkv.Point
public import Idealize.ShloMosaic.Lib.WritesUnit
public import Idealize.ShloMosaic.Lib.Pipeline.ValueKit.Tiles
public import Idealize.ShloMosaic.Lib.Pointwise

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem

variable {F : FTy → Type} [FloatOps F]

section Point

variable (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1024x128 .f32) (harg8 : arg8.IsWhole) (arg9 : Memref sig .tc .vmem S1x1x2048 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x128 .f32) (harg12 : arg12.IsWhole)
  (x0 : Vec F S2048x128 .bf16) (x1 : Vec F S1024x128 .bf16) (x2 : Vec F S1024x128 .bf16) (x3 : Vec F S2048x128 .f32) (x4 : Vec F S1x1x2048 .f32) (x5 : Vec F S1x1x2048 .f32) (x6 : Vec F S1x1024x128 .f32) (x7 : Vec F S1x1x2048 .f32)

/-- A point's update of the score gradients' row sums: its key rows, in its head's lane, the other rows as they were. -/
theorem out0_A_10_apply (n : Fin 2) (h : i 1 = n) (hc0 : cond0_0 i) (y : S2048x128.Idx) : out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 y
    = if hy : n.val * 1024 ≤ (y 0).val ∧ (y 0).val < n.val * 1024 + 1024 then
        k0_pay1 (carried n x0 x1 x2 x3 x4 x5 x6 x7).2.2 (iota .tc S1024x128 32 [1] iota_S1024x128_d1_w32) (k0_pay34 (rowsAt n (k0_pay16 : Vec F S2048x128 .f32))) (k0_pay35 (BitVec.ofNat 32 (i 0).val))
          (ix2 ⟨(y 0).val - n.val * 1024, by omega⟩ ⟨(y 1).val, (y 1).isLt⟩)
      else k0_pay16 y := by
  unfold out0_A_10
  unfold kernelRun0_A
  dsimp only
  sl_unfold_words
  simp only [View.readAt_eq_ld, harg2.read_unread, harg3.read_unread, harg4.read_unread, harg5.read_unread, harg6.read_unread, harg7.read_unread, harg8.read_unread, harg9.read_unread]
  have e0 : View.read (Elt F) arg12.view (arg12.view.writes (Elt F) arg12.view.junk
      [(⟨Rect.unit (s := S2048x128) ![0, 0] ![2048, 128] inb_S2048x128_S2048x128_0_0, k0_pay16⟩ : View.Piece (Elt F) S2048x128 .f32)]) = k0_pay16 := by
    funext z
    exact View.read_writes_cons_unit_of_mem arg12.view _ _ _ _ z z rfl fun a => match a with
      | ⟨0, _⟩ => (Nat.zero_add _).symm
      | ⟨1, _⟩ => (Nat.zero_add _).symm
  refine (rows_update _ _ n (off1_eq i n h) _ _ _ _).trans ?_

  by_cases hy : n.val * 1024 ≤ (y 0).val ∧ (y 0).val < n.val * 1024 + 1024
  · rw [dif_pos hy, dif_pos hy]
    refine congrFun (congrArg₂ (fun (z : Carry F) (p : Vec F S1024x128 .f32) => k0_pay1 z.2.2 (iota .tc S1024x128 32 [1] iota_S1024x128_d1_w32) (k0_pay34 p) (k0_pay35 (BitVec.ofNat 32 (i 0).val)))
      ?_ ?_) _
    · exact (loops_eq c i arg2 harg2 arg3 harg3 arg4 harg4 arg5 harg5 arg6 harg6 arg7 harg7 arg8 harg8 arg9 harg9 arg10 harg10 arg11 harg11 arg12 harg12 x0 x1 x2 x3 x4 x5 x6 x7 n h _ _ _ _ _ _ _ _ _ _ _ (trips_first (i 1)) (trips_rest (i 1)))
    · rw [e0]; exact (ld_rows n (off1_eq i n h) _ _)
  · rw [dif_neg hy, dif_neg hy]
    exact View.read_writes_cons_unit_of_mem _ _ _ _ _ y y rfl fun a => match a with
      | ⟨0, _⟩ => (Nat.zero_add _).symm
      | ⟨1, _⟩ => (Nat.zero_add _).symm

end Point
-- ==== Proof.Dkv.PointB10.lean ====
module

public import proofs.«01_k».proof.Proof.Gen.KernelIdeal.Value
public import proofs.«01_k».proof.Proof.Dkv.Point
public import Idealize.ShloMosaic.Lib.WritesUnit
public import Idealize.ShloMosaic.Lib.Pipeline.ValueKit.Tiles
public import Idealize.ShloMosaic.Lib.Pointwise

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem

variable {F : FTy → Type} [FloatOps F]

section Point

variable (c : Dev nD) (i : grid0.Coords) (arg2 : Memref sig .tc .vmem S2048x128 .bf16) (harg2 : arg2.IsWhole) (arg3 : Memref sig .tc .vmem S1024x128 .bf16) (harg3 : arg3.IsWhole) (arg4 : Memref sig .tc .vmem S1024x128 .bf16) (harg4 : arg4.IsWhole) (arg5 : Memref sig .tc .vmem S2048x128 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1024x128 .f32) (harg8 : arg8.IsWhole) (arg9 : Memref sig .tc .vmem S1x1x2048 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S2048x128 .f32) (harg12 : arg12.IsWhole)
  (x0 : Vec F S2048x128 .bf16) (x1 : Vec F S1024x128 .bf16) (x2 : Vec F S1024x128 .bf16) (x3 : Vec F S2048x128 .f32) (x4 : Vec F S1x1x2048 .f32) (x5 : Vec F S1x1x2048 .f32) (x6 : Vec F S1x1024x128 .f32) (x7 : Vec F S1x1x2048 .f32)

/-- A point's update of the score gradients' row sums: its key rows, in its head's lane, the other rows as they were. -/
theorem out0_B_10_apply (n : Fin 2) (h : i 1 = n) (hc0 : ¬cond0_0 i) (xo10 : Vec F S2048x128 .f32) (y : S2048x128.Idx) : out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo10 y
    = if hy : n.val * 1024 ≤ (y 0).val ∧ (y 0).val < n.val * 1024 + 1024 then
        k0_pay1 (carried n x0 x1 x2 x3 x4 x5 x6 x7).2.2 (iota .tc S1024x128 32 [1] iota_S1024x128_d1_w32) (k0_pay34 (rowsAt n (xo10 : Vec F S2048x128 .f32))) (k0_pay35 (BitVec.ofNat 32 (i 0).val))
          (ix2 ⟨(y 0).val - n.val * 1024, by omega⟩ ⟨(y 1).val, (y 1).isLt⟩)
      else xo10 y := by
  unfold out0_B_10
  unfold kernelRun0_B
  dsimp only
  sl_unfold_words
  simp only [View.readAt_eq_ld, harg2.read_unread, harg3.read_unread, harg4.read_unread, harg5.read_unread, harg6.read_unread, harg7.read_unread, harg8.read_unread, harg9.read_unread, harg12.read_unread]
  refine (rows_update _ _ n (off1_eq i n h) _ _ _ _).trans ?_

  by_cases hy : n.val * 1024 ≤ (y 0).val ∧ (y 0).val < n.val * 1024 + 1024
  · rw [dif_pos hy, dif_pos hy]
    refine congrFun (congrArg₂ (fun (z : Carry F) (p : Vec F S1024x128 .f32) => k0_pay1 z.2.2 (iota .tc S1024x128 32 [1] iota_S1024x128_d1_w32) (k0_pay34 p) (k0_pay35 (BitVec.ofNat 32 (i 0).val)))
      ?_ ?_) _
    · exact (loops_eq c i arg2 harg2 arg3 harg3 arg4 harg4 arg5 harg5 arg6 harg6 arg7 harg7 arg8 harg8 arg9 harg9 arg10 harg10 arg11 harg11 arg12 harg12 x0 x1 x2 x3 x4 x5 x6 x7 n h _ _ _ _ _ _ _ _ _ _ _ (trips_first (i 1)) (trips_rest (i 1)))
    · exact (ld_rows n (off1_eq i n h) _ _)
  · rw [dif_neg hy, dif_neg hy]
    exact congrFun (harg12.read_unread xo10) y

end Point
-- ==== Proof.Dkv.Tile.lean ====
module

public import proofs.«01_k».proof.Proof.Dkv.Point
public import Idealize.ShloMosaic.Lib.Pointwise
public import Idealize.ShloMosaic.Lib.WordCmp
public import Idealize.ShloMosaic.PureOps.Ideal.Laws

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem

/-! # One grid point's sums, read at an index over the extended reals -/

/-- Rows `1024 n + i`, as an index of the whole sequence. -/
abbrev seqAt (n : Fin 2) (i : Fin 1024) : Fin 2048 := ⟨n.val * 1024 + i.val, by omega⟩

/-- A sum over the sequence is the sum over its two blocks. -/
theorem sum_seq (f : Fin 2048 → EReal) : ∑ i, f i = ∑ i, f (seqAt 0 i) + ∑ i, f (seqAt 1 i) := by
  rw [show (∑ i : Fin 2048, f i) = ∑ i : Fin (1024 + 1024), f ⟨i.val, i.isLt⟩ from rfl, Fin.sum_univ_add]
  refine congrArg₂ _ (Finset.sum_congr rfl fun i _ => congrArg f (Fin.ext ?_)) (Finset.sum_congr rfl fun i _ => congrArg f (Fin.ext ?_))
  · show i.val = 0 * 1024 + i.val; omega
  · show 1024 + i.val = 1 * 1024 + i.val; omega

/-- Folding a row of 1024 into 128 lanes keeps its sum. -/
theorem sum_fold (f : Fin 1024 → EReal) :
    ∑ l : Fin 128, (f ⟨l.val, by omega⟩ + f ⟨128 + l.val, by omega⟩ + f ⟨256 + l.val, by omega⟩ + f ⟨384 + l.val, by omega⟩ + f ⟨512 + l.val, by omega⟩
      + f ⟨640 + l.val, by omega⟩ + f ⟨768 + l.val, by omega⟩ + f ⟨896 + l.val, by omega⟩) = ∑ i, f i := by
  rw [show (∑ i : Fin 1024, f i) = ∑ i : Fin (8 * 128), f ⟨i.val, i.isLt⟩ from rfl, ← Equiv.sum_comp finProdFinEquiv, Fintype.sum_prod_type, Finset.sum_comm]
  refine Finset.sum_congr rfl fun l _ => ?_
  rw [Fin.sum_univ_eight]
  refine congrArg₂ _ (congrArg₂ _ (congrArg₂ _ (congrArg₂ _ (congrArg₂ _ (congrArg₂ _ (congrArg₂ _ ?_ ?_) ?_) ?_) ?_) ?_) ?_) ?_ <;>
    refine congrArg f (Fin.ext ?_) <;> simp [finProdFinEquiv] <;> omega

/-- The literal that the kernel multiplies the logits by. -/
def scl : EReal := Ideal.ofBits .f32 0x3DB504F3#32

section Tile

variable (x0 : S2048x128.Idx → EReal) (x1 x2 : S1024x128.Idx → EReal) (x3 : S2048x128.Idx → EReal) (x4 x5 : S1x1x2048.Idx → EReal)
  (x6 : S1x1024x128.Idx → EReal) (x7 : S1x1x2048.Idx → EReal)

/-- The probability of key row `j` for query `i`, as the kernel recomputes it. -/
def pt (j : Fin 1024) (i : Fin 2048) : EReal :=
  Ideal.exp (((∑ d : Fin 128, x1 (ix2 j d) * x0 (ix2 i d)) * scl + (x7 (ix3 0 0 i) - x4 (ix3 0 0 i))) - x6 (ix3 0 j 0))

/-- The same, zero above the diagonal. -/
def pm (n : Fin 2) (j : Fin 1024) (i : Fin 2048) : EReal := if n.val * 1024 + j.val ≤ i.val then pt x0 x1 x4 x6 x7 j i else 0

/-- The score's gradient of key row `j` for query `i`. -/
def dst (n : Fin 2) (j : Fin 1024) (i : Fin 2048) : EReal :=
  pm x0 x1 x4 x6 x7 n j i * (∑ d : Fin 128, x2 (ix2 j d) * x3 (ix2 i d) - x5 (ix3 0 0 i))

theorem mask_bit (j i : Fin 1024) (a b : EReal) :
    Scalar.select (IntOp.cmpi .sle (BitVec.ofNat 32 j.val) (BitVec.ofNat 32 i.val)) a b = if j.val ≤ i.val then a else b := by
  have hj : (BitVec.ofNat 32 j.val).toNat = j.val := by rw [BitVec.toNat_ofNat]; omega
  have hi : (BitVec.ofNat 32 i.val).toNat = i.val := by rw [BitVec.toNat_ofNat]; omega
  rw [WordCmp.cmpi_sle_of_lt (by rw [hj]; omega) (by rw [hi]; omega), hj, hi, Scalar.select_ofBool]
  simp only [decide_eq_true_eq]

theorem pm_diag (n : Fin 2) (j i : Fin 1024) (h : j.val ≤ i.val) : pm x0 x1 x4 x6 x7 n j (seqAt n i) = pt x0 x1 x4 x6 x7 j (seqAt n i) :=
  if_pos (by show n.val * 1024 + j.val ≤ n.val * 1024 + i.val; omega)
theorem pm_diag_zero (n : Fin 2) (j i : Fin 1024) (h : ¬j.val ≤ i.val) : pm x0 x1 x4 x6 x7 n j (seqAt n i) = 0 :=
  if_neg (by show ¬n.val * 1024 + j.val ≤ n.val * 1024 + i.val; omega)
theorem pm_below (j i : Fin 1024) : pm x0 x1 x4 x6 x7 0 j (seqAt 1 i) = pt x0 x1 x4 x6 x7 j (seqAt 1 i) :=
  if_pos (by show 0 * 1024 + j.val ≤ 1 * 1024 + i.val; omega)
theorem pm_above (j i : Fin 1024) : pm x0 x1 x4 x6 x7 1 j (seqAt 0 i) = 0 :=
  if_neg (by show ¬1 * 1024 + j.val ≤ 0 * 1024 + i.val; omega)

/-- The diagonal block's probability, masked. -/
theorem diag_p (n : Fin 2) (j i : Fin 1024) :
    k0_pay22 (F := Ideal) (k0_pay19 x1 (colOf x6) (rowsAt n x0) (lanesAt n x7) (lanesAt n x4)) k0_pay20 k0_pay21 (ix2 j i) = pm x0 x1 x4 x6 x7 n j (seqAt n i) := by
  unfold k0_pay22 k0_pay19 k0_pay20 k0_pay21 k0_pay17
  pointwise
  rw [mask_bit]
  split
  · rename_i h; rw [pm_diag _ _ _ _ _ _ _ _ h]; rfl
  · rename_i h; rw [pm_diag_zero _ _ _ _ _ _ _ _ h]

/-- The diagonal block's score gradient. -/
theorem diag_dst (n : Fin 2) (j i : Fin 1024) :
    k0_pay23 (F := Ideal) x2 (k0_pay18 (rowsAt n x3)) (k0_pay19 x1 (colOf x6) (rowsAt n x0) (lanesAt n x7) (lanesAt n x4)) k0_pay20 k0_pay21 (lanesAt n x5) (ix2 j i)
      = dst x0 x1 x2 x3 x4 x5 x6 x7 n j (seqAt n i) := by
  have e := diag_p x0 x1 x4 x6 x7 n j i
  unfold k0_pay23 k0_pay18
  generalize k0_pay22 (F := Ideal) _ _ _ = P at e ⊢
  pointwise
  rw [e]
  rfl

theorem trip_p (j i : Fin 1024) :
    k0_pay3 (F := Ideal) x1 (k0_pay17 (colOf x6)) (rowsAt 1 x0) (lanesAt 1 x7) (lanesAt 1 x4) (ix2 j i) = pm x0 x1 x4 x6 x7 0 j (seqAt 1 i) := by
  rw [pm_below]
  unfold k0_pay3 k0_pay17
  pointwise
  rfl

theorem trip_dst (j i : Fin 1024) :
    k0_pay4 (F := Ideal) x1 x2 (k0_pay17 (colOf x6)) (rowsAt 1 x0) (rowsAt 1 x3) (lanesAt 1 x7) (lanesAt 1 x4) (lanesAt 1 x5) (ix2 j i)
      = dst x0 x1 x2 x3 x4 x5 x6 x7 0 j (seqAt 1 i) := by
  have e := trip_p x0 x1 x4 x6 x7 j i
  unfold k0_pay4 k0_pay2
  generalize k0_pay3 (F := Ideal) _ _ _ _ _ = P at e ⊢
  pointwise
  rw [e]
  rfl

/-- The diagonal block's three sums. -/
theorem diag_1 (n : Fin 2) (j : Fin 1024) (d : Fin 128) :
    (diag (F := Ideal) n x0 x1 x2 x3 x4 x5 x6 x7).1 (ix2 j d) = ∑ i, dst x0 x1 x2 x3 x4 x5 x6 x7 n j (seqAt n i) * x0 (ix2 (seqAt n i) d) := by
  have e := diag_dst x0 x1 x2 x3 x4 x5 x6 x7 n j
  unfold diag diagOf k0_pay25
  dsimp only
  generalize k0_pay23 (F := Ideal) _ _ _ _ _ _ = P at e ⊢
  pointwise
  exact Finset.sum_congr rfl fun i _ => congrArg (· * _) (e i)

theorem diag_2 (n : Fin 2) (j : Fin 1024) (d : Fin 128) :
    (diag (F := Ideal) n x0 x1 x2 x3 x4 x5 x6 x7).2.1 (ix2 j d) = ∑ i, pm x0 x1 x4 x6 x7 n j (seqAt n i) * x3 (ix2 (seqAt n i) d) := by
  have e := diag_p x0 x1 x4 x6 x7 n j
  unfold diag diagOf k0_pay24 k0_pay18
  dsimp only
  generalize k0_pay22 (F := Ideal) _ _ _ = P at e ⊢
  pointwise
  exact Finset.sum_congr rfl fun i _ => congrArg (· * _) (e i)

theorem diag_3 (n : Fin 2) (j : Fin 1024) :
    ∑ l : Fin 128, (diag (F := Ideal) n x0 x1 x2 x3 x4 x5 x6 x7).2.2 (ix2 j l) = ∑ i, dst x0 x1 x2 x3 x4 x5 x6 x7 n j (seqAt n i) := by
  have e := diag_dst x0 x1 x2 x3 x4 x5 x6 x7 n j
  unfold diag diagOf k0_pay26
  dsimp only
  generalize k0_pay23 (F := Ideal) _ _ _ _ _ _ = P at e ⊢
  pointwise
  rw [← Finset.sum_congr rfl fun i _ => e i]
  exact sum_fold fun i => P (ix2 j i)

/-- What a trip adds. -/
theorem below_1 (acc : Carry Ideal) (j : Fin 1024) (d : Fin 128) :
    (below (F := Ideal) x0 x1 x2 x3 x4 x5 x6 x7 acc).1 (ix2 j d) = acc.1 (ix2 j d) + ∑ i, dst x0 x1 x2 x3 x4 x5 x6 x7 0 j (seqAt 1 i) * x0 (ix2 (seqAt 1 i) d) := by
  have e := trip_dst x0 x1 x2 x3 x4 x5 x6 x7 j
  unfold below tripOf k0_pay27 k0_pay6
  dsimp only
  generalize k0_pay4 (F := Ideal) _ _ _ _ _ _ _ _ = P at e ⊢
  pointwise
  exact congrArg (_ + ·) (Finset.sum_congr rfl fun i _ => congrArg (· * _) (e i))

theorem below_2 (acc : Carry Ideal) (j : Fin 1024) (d : Fin 128) :
    (below (F := Ideal) x0 x1 x2 x3 x4 x5 x6 x7 acc).2.1 (ix2 j d) = acc.2.1 (ix2 j d) + ∑ i, pm x0 x1 x4 x6 x7 0 j (seqAt 1 i) * x3 (ix2 (seqAt 1 i) d) := by
  have e := trip_p x0 x1 x4 x6 x7 j
  unfold below tripOf k0_pay28 k0_pay5 k0_pay2
  dsimp only
  generalize k0_pay3 (F := Ideal) _ _ _ _ _ = P at e ⊢
  pointwise
  exact congrArg (_ + ·) (Finset.sum_congr rfl fun i _ => congrArg (· * _) (e i))

theorem below_3 (acc : Carry Ideal) (j : Fin 1024) :
    ∑ l : Fin 128, (below (F := Ideal) x0 x1 x2 x3 x4 x5 x6 x7 acc).2.2 (ix2 j l) = ∑ l : Fin 128, acc.2.2 (ix2 j l) + ∑ i, dst x0 x1 x2 x3 x4 x5 x6 x7 0 j (seqAt 1 i) := by
  have e := trip_dst x0 x1 x2 x3 x4 x5 x6 x7 j
  unfold below tripOf k0_pay29 k0_pay7 k0_pay8
  dsimp only
  generalize k0_pay4 (F := Ideal) _ _ _ _ _ _ _ _ = P at e ⊢
  pointwise
  rw [← Finset.sum_congr rfl fun i _ => e i, Finset.sum_add_distrib]
  exact congrArg (_ + ·) (sum_fold fun i => P (ix2 j i))

/-- The keys' gradient of a point, before the scale: a sum over the whole sequence. -/
theorem carried_1 (n : Fin 2) (j : Fin 1024) (d : Fin 128) :
    (carried (F := Ideal) n x0 x1 x2 x3 x4 x5 x6 x7).1 (ix2 j d) = ∑ i, dst x0 x1 x2 x3 x4 x5 x6 x7 n j i * x0 (ix2 i d) := by
  rw [sum_seq]
  unfold carried
  by_cases h : n = 0
  · subst h; rw [if_pos rfl, below_1, diag_1]
  · have h1 : n = 1 := Fin.eq_one_of_ne_zero n h
    subst h1
    rw [if_neg h, diag_1]
    simp only [dst, pm_above, zero_mul, Finset.sum_const_zero, zero_add]

theorem carried_2 (n : Fin 2) (j : Fin 1024) (d : Fin 128) :
    (carried (F := Ideal) n x0 x1 x2 x3 x4 x5 x6 x7).2.1 (ix2 j d) = ∑ i, pm x0 x1 x4 x6 x7 n j i * x3 (ix2 i d) := by
  rw [sum_seq]
  unfold carried
  by_cases h : n = 0
  · subst h; rw [if_pos rfl, below_2, diag_2]
  · have h1 : n = 1 := Fin.eq_one_of_ne_zero n h
    subst h1
    rw [if_neg h, diag_2]
    simp only [pm_above, zero_mul, Finset.sum_const_zero, zero_add]

theorem carried_3 (n : Fin 2) (j : Fin 1024) :
    ∑ l : Fin 128, (carried (F := Ideal) n x0 x1 x2 x3 x4 x5 x6 x7).2.2 (ix2 j l) = ∑ i, dst x0 x1 x2 x3 x4 x5 x6 x7 n j i := by
  rw [sum_seq]
  unfold carried
  by_cases h : n = 0
  · subst h; rw [if_pos rfl, below_3, diag_3]
  · have h1 : n = 1 := Fin.eq_one_of_ne_zero n h
    subst h1
    rw [if_neg h, diag_3]
    simp only [dst, pm_above, zero_mul, Finset.sum_const_zero, zero_add]

/-- The scale of the keys' gradient. -/
theorem pay33_apply (a : FVec Ideal S1024x128 .f32) (j : S1024x128.Idx) : k0_pay33 a j = a j * scl := by
  unfold k0_pay33
  pointwise
  rfl

/-- The row sums go to the head's lane. -/
theorem pay1_apply (a : FVec Ideal S1024x128 .f32) (h : ℕ) (hh : h < 8) (p : Vec Ideal S1024x128 .f32) (j : Fin 1024) (l : Fin 128) :
    k0_pay1 a (iota .tc S1024x128 32 [1] iota_S1024x128_d1_w32) (k0_pay34 p) (k0_pay35 (BitVec.ofNat 32 h)) (ix2 j l)
      = p (ix2 j l) + if l.val = h then ∑ x : Fin 128, a (ix2 j x) else 0 := by
  unfold k0_pay1 k0_pay34 k0_pay35
  pointwise
  have hl : (BitVec.ofNat 32 l.val).toNat = l.val := by rw [BitVec.toNat_ofNat]; omega
  have hh' : (BitVec.ofNat 32 h).toNat = h := by rw [BitVec.toNat_ofNat]; omega
  rw [WordCmp.cmpi_eq_eq_toNat, hl, hh', Scalar.select_ofBool]
  simp only [decide_eq_true_eq]

end Tile
-- ==== Proof.Dkv.Arrays.lean ====
module

public import proofs.«01_k».proof.Proof.Dkv.PointA
public import proofs.«01_k».proof.Proof.Dkv.PointB
public import proofs.«01_k».proof.Proof.Dkv.PointA10
public import proofs.«01_k».proof.Proof.Dkv.PointB10
public import proofs.«01_k».proof.Proof.Dkv.Tile
public import proofs.«01_k».proof.Proof.Gen.KernelIdeal.Value
public import Idealize.ShloMosaic.Lib.Pipeline.ValueKit

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem

/-! # The three result arrays, read at an index -/

/-- Lane `d` of head `h`, as a column of the model's width. -/
abbrev lane (h : Fin 8) (d : Fin 128) : Fin 1024 := ⟨h.val * 128 + d.val, by omega⟩

/-- The index maps of the windows that read one head's or one tile's block. -/
theorem idx : ∀ t : Fin cfg0.N, win0_0.index t = ![0, t.val / 2] ∧ win0_1.index t = ![t.val % 2, t.val / 2] ∧ win0_2.index t = ![t.val % 2, t.val / 2]
    ∧ win0_3.index t = ![0, t.val / 2] ∧ win0_4.index t = ![t.val / 2, 0, 0] ∧ win0_5.index t = ![t.val / 2, 0, 0] ∧ win0_6.index t = ![t.val / 2, t.val % 2, 0]
    ∧ win0_7.index t = ![t.val / 2, 0, 0] ∧ win0_8.index t = ![t.val % 2, t.val / 2] ∧ win0_9.index t = ![t.val % 2, t.val / 2] :=
  (by decide +kernel : ∀ t : Fin grid0.N, _)

/-- A point's head and its tile of keys. -/
abbrev hd (t : Fin cfg0.N) : Fin 8 := ⟨t.val / 2, by have := t.isLt; have e : cfg0.N = 16 := N_0; omega⟩
abbrev kb (t : Fin cfg0.N) : Fin 2 := ⟨t.val % 2, by omega⟩

theorem coords0 : ∀ t : Fin cfg0.N, (grid0.coords t 0).val = t.val / 2 := (by decide +kernel : ∀ t : Fin grid0.N, _)
theorem coords1_val : ∀ t : Fin cfg0.N, (grid0.coords t 1).val = t.val % 2 := (by decide +kernel : ∀ t : Fin grid0.N, _)
theorem coords1 (t : Fin cfg0.N) : grid0.coords t 1 = kb t := Fin.ext (coords1_val t)

section
variable (m : (ℓ : Loc nD τ sig) → Buf (Elt Idealize.ShloMosaic.Ideal) ℓ) (c : Dev nD)

/-! The arrays as the kernel finds them. -/
def qA : S2048x1024.Idx → EReal := V m c main_arg0
def kA : S2048x1024.Idx → EReal := V m c main_arg1
def vA : S2048x1024.Idx → EReal := V m c main_arg2
def doA : S2048x1024.Idx → EReal := V m c main_arg4
def lseA : S8x1x2048.Idx → EReal := V m c main_v45
def deltaA : S8x1x2048.Idx → EReal := V m c main_v46
def ccolA : S8x2048x128.Idx → EReal := V m c main_v44
def crowA : S8x1x2048.Idx → EReal := V m c main_v47

/-! Each input block is its array, read at the block's place. -/
theorem read0 (W : ∀ b : Ref sig .tc, Buf (Elt Idealize.ShloMosaic.Ideal) ((c : Thread nD τ).loc b)) (t : Fin cfg0.N) (y : S2048x128.Idx) :
    (((cfg0.win 0).blk t).view.read (Elt Idealize.ShloMosaic.Ideal) (W (Pipeline.arrRef spec0 0)) y : EReal) = W main_arg0 ((win0_0.blk t).view.emb y) := rfl
theorem at0 (t : Fin cfg0.N) (y : S2048x128.Idx) : (iblk m c 0 t y : EReal) = qA m c ((win0_0.blk t).view.emb y) := by
  delta iblk qA; exact read0 c (V m c) t y
theorem blk_q (t : Fin cfg0.N) (i : Fin 2048) (d : Fin 128) : (iblk m c 0 t (ix2 i d) : EReal) = qA m c (ix2 i (lane (hd t) d)) := by
  rw [at0]; generalize qA m c = W; blk_ext [(idx t).1]
theorem read1 (W : ∀ b : Ref sig .tc, Buf (Elt Idealize.ShloMosaic.Ideal) ((c : Thread nD τ).loc b)) (t : Fin cfg0.N) (y : S1024x128.Idx) :
    (((cfg0.win 1).blk t).view.read (Elt Idealize.ShloMosaic.Ideal) (W (Pipeline.arrRef spec0 1)) y : EReal) = W main_arg1 ((win0_1.blk t).view.emb y) := rfl
theorem at1 (t : Fin cfg0.N) (y : S1024x128.Idx) : (iblk m c 1 t y : EReal) = kA m c ((win0_1.blk t).view.emb y) := by
  delta iblk kA; exact read1 c (V m c) t y
theorem blk_k (t : Fin cfg0.N) (j : Fin 1024) (d : Fin 128) : (iblk m c 1 t (ix2 j d) : EReal) = kA m c (ix2 (seqAt (kb t) j) (lane (hd t) d)) := by
  rw [at1]; generalize kA m c = W; blk_ext [(idx t).2.1]
theorem read2 (W : ∀ b : Ref sig .tc, Buf (Elt Idealize.ShloMosaic.Ideal) ((c : Thread nD τ).loc b)) (t : Fin cfg0.N) (y : S1024x128.Idx) :
    (((cfg0.win 2).blk t).view.read (Elt Idealize.ShloMosaic.Ideal) (W (Pipeline.arrRef spec0 2)) y : EReal) = W main_arg2 ((win0_2.blk t).view.emb y) := rfl
theorem at2 (t : Fin cfg0.N) (y : S1024x128.Idx) : (iblk m c 2 t y : EReal) = vA m c ((win0_2.blk t).view.emb y) := by
  delta iblk vA; exact read2 c (V m c) t y
theorem blk_v (t : Fin cfg0.N) (j : Fin 1024) (d : Fin 128) : (iblk m c 2 t (ix2 j d) : EReal) = vA m c (ix2 (seqAt (kb t) j) (lane (hd t) d)) := by
  rw [at2]; generalize vA m c = W; blk_ext [(idx t).2.2.1]
theorem read3 (W : ∀ b : Ref sig .tc, Buf (Elt Idealize.ShloMosaic.Ideal) ((c : Thread nD τ).loc b)) (t : Fin cfg0.N) (y : S2048x128.Idx) :
    (((cfg0.win 3).blk t).view.read (Elt Idealize.ShloMosaic.Ideal) (W (Pipeline.arrRef spec0 3)) y : EReal) = W main_arg4 ((win0_3.blk t).view.emb y) := rfl
theorem at3 (t : Fin cfg0.N) (y : S2048x128.Idx) : (iblk m c 3 t y : EReal) = doA m c ((win0_3.blk t).view.emb y) := by
  delta iblk doA; exact read3 c (V m c) t y
theorem blk_do (t : Fin cfg0.N) (i : Fin 2048) (d : Fin 128) : (iblk m c 3 t (ix2 i d) : EReal) = doA m c (ix2 i (lane (hd t) d)) := by
  rw [at3]; generalize doA m c = W; blk_ext [(idx t).2.2.2.1]
theorem read4 (W : ∀ b : Ref sig .tc, Buf (Elt Idealize.ShloMosaic.Ideal) ((c : Thread nD τ).loc b)) (t : Fin cfg0.N) (y : S1x1x2048.Idx) :
    (((cfg0.win 4).blk t).view.read (Elt Idealize.ShloMosaic.Ideal) (W (Pipeline.arrRef spec0 4)) y : EReal) = W main_v45 ((win0_4.blk t).view.emb y) := rfl
theorem at4 (t : Fin cfg0.N) (y : S1x1x2048.Idx) : (iblk m c 4 t y : EReal) = lseA m c ((win0_4.blk t).view.emb y) := by
  delta iblk lseA; exact read4 c (V m c) t y
theorem blk_lse (t : Fin cfg0.N) (i : Fin 2048) : (iblk m c 4 t (ix3 0 0 i) : EReal) = lseA m c (ix3 (hd t) 0 i) := by
  rw [at4]; generalize lseA m c = W; blk_ext [(idx t).2.2.2.2.1]
theorem read5 (W : ∀ b : Ref sig .tc, Buf (Elt Idealize.ShloMosaic.Ideal) ((c : Thread nD τ).loc b)) (t : Fin cfg0.N) (y : S1x1x2048.Idx) :
    (((cfg0.win 5).blk t).view.read (Elt Idealize.ShloMosaic.Ideal) (W (Pipeline.arrRef spec0 5)) y : EReal) = W main_v46 ((win0_5.blk t).view.emb y) := rfl
theorem at5 (t : Fin cfg0.N) (y : S1x1x2048.Idx) : (iblk m c 5 t y : EReal) = deltaA m c ((win0_5.blk t).view.emb y) := by
  delta iblk deltaA; exact read5 c (V m c) t y
theorem blk_delta (t : Fin cfg0.N) (i : Fin 2048) : (iblk m c 5 t (ix3 0 0 i) : EReal) = deltaA m c (ix3 (hd t) 0 i) := by
  rw [at5]; generalize deltaA m c = W; blk_ext [(idx t).2.2.2.2.2.1]
theorem read6 (W : ∀ b : Ref sig .tc, Buf (Elt Idealize.ShloMosaic.Ideal) ((c : Thread nD τ).loc b)) (t : Fin cfg0.N) (y : S1x1024x128.Idx) :
    (((cfg0.win 6).blk t).view.read (Elt Idealize.ShloMosaic.Ideal) (W (Pipeline.arrRef spec0 6)) y : EReal) = W main_v44 ((win0_6.blk t).view.emb y) := rfl
theorem at6 (t : Fin cfg0.N) (y : S1x1024x128.Idx) : (iblk m c 6 t y : EReal) = ccolA m c ((win0_6.blk t).view.emb y) := by
  delta iblk ccolA; exact read6 c (V m c) t y
theorem blk_ccol (t : Fin cfg0.N) (j : Fin 1024) : (iblk m c 6 t (ix3 0 j 0) : EReal) = ccolA m c (ix3 (hd t) (seqAt (kb t) j) 0) := by
  rw [at6]; generalize ccolA m c = W; blk_ext [(idx t).2.2.2.2.2.2.1]
theorem read7 (W : ∀ b : Ref sig .tc, Buf (Elt Idealize.ShloMosaic.Ideal) ((c : Thread nD τ).loc b)) (t : Fin cfg0.N) (y : S1x1x2048.Idx) :
    (((cfg0.win 7).blk t).view.read (Elt Idealize.ShloMosaic.Ideal) (W (Pipeline.arrRef spec0 7)) y : EReal) = W main_v47 ((win0_7.blk t).view.emb y) := rfl
theorem at7 (t : Fin cfg0.N) (y : S1x1x2048.Idx) : (iblk m c 7 t y : EReal) = crowA m c ((win0_7.blk t).view.emb y) := by
  delta iblk crowA; exact read7 c (V m c) t y
theorem blk_crow (t : Fin cfg0.N) (i : Fin 2048) : (iblk m c 7 t (ix3 0 0 i) : EReal) = crowA m c (ix3 (hd t) 0 i) := by
  rw [at7]; generalize crowA m c = W; blk_ext [(idx t).2.2.2.2.2.2.2.1]

end

section
variable (qA kA vA doA : S2048x1024.Idx → EReal) (lseA deltaA crowA : S8x1x2048.Idx → EReal) (ccolA : S8x2048x128.Idx → EReal)

/-- The weight the kernel gives query `i` at key `j` in head `h`, before the mask. -/
def ptA (h : Fin 8) (j i : Fin 2048) : EReal :=
  Ideal.exp (((∑ d : Fin 128, kA (ix2 j (lane h d)) * qA (ix2 i (lane h d))) * scl
    + (crowA (ix3 h 0 i) - lseA (ix3 h 0 i))) - ccolA (ix3 h j 0))

/-- … zero at keys after the query. -/
def pmA (h : Fin 8) (j i : Fin 2048) : EReal := if j.val ≤ i.val then ptA qA kA lseA crowA ccolA h j i else 0

/-- The gradient of that score. -/
def dsA (h : Fin 8) (j i : Fin 2048) : EReal :=
  pmA qA kA lseA crowA ccolA h j i * ((∑ d : Fin 128, vA (ix2 j (lane h d)) * doA (ix2 i (lane h d))) - deltaA (ix3 h 0 i))

/-- The head of a column. -/
abbrev hdOf (e : Fin 1024) : Fin 8 := ⟨e.val / 128, by omega⟩

/-- The keys' gradient. -/
def dkA : S2048x1024.Idx → EReal := fun y => (∑ i : Fin 2048, dsA qA kA vA doA lseA deltaA crowA ccolA (hdOf (y 1)) (y 0) i * qA (ix2 i (y 1))) * scl
/-- The values' gradient. -/
def dvA : S2048x1024.Idx → EReal := fun y => ∑ i : Fin 2048, pmA qA kA lseA crowA ccolA (hdOf (y 1)) (y 0) i * doA (ix2 i (y 1))
/-- The score gradients' sums over the queries: head `h`'s in lane `h`, the other lanes zero. -/
def csA : S2048x128.Idx → EReal := fun y => if hl : (y 1).val < 8 then ∑ i : Fin 2048, dsA qA kA vA doA lseA deltaA crowA ccolA ⟨(y 1).val, hl⟩ (y 0) i else 0
end

section
variable (m : (ℓ : Loc nD τ sig) → Buf (Elt Idealize.ShloMosaic.Ideal) ℓ) (c : Dev nD)

theorem pm_blk (t : Fin cfg0.N) (j : Fin 1024) (i : Fin 2048) :
    pm (iblk m c 0 t) (iblk m c 1 t) (iblk m c 4 t) (iblk m c 6 t) (iblk m c 7 t) (kb t) j i = pmA (qA m c) (kA m c) (lseA m c) (crowA m c) (ccolA m c) (hd t) (seqAt (kb t) j) i := by
  simp only [pm, pt, pmA, ptA, blk_q, blk_k, blk_lse, blk_ccol, blk_crow]

theorem dst_blk (t : Fin cfg0.N) (j : Fin 1024) (i : Fin 2048) :
    dst (iblk m c 0 t) (iblk m c 1 t) (iblk m c 2 t) (iblk m c 3 t) (iblk m c 4 t) (iblk m c 5 t) (iblk m c 6 t) (iblk m c 7 t) (kb t) j i
      = dsA (qA m c) (kA m c) (vA m c) (doA m c) (lseA m c) (deltaA m c) (crowA m c) (ccolA m c) (hd t) (seqAt (kb t) j) i := by
  simp only [dst, dsA, pm_blk, blk_v, blk_do, blk_delta]
end

end Cert.Dkv

end
-- ==== Proof.Dkv.Host.lean ====
module

public import proofs.«01_k».proof.Proof.Dkv.Arrays
public import proofs.«01_k».proof.Proof.Gen.ReferenceIdeal.Read
public import Idealize.ShloMosaic.Lib.Claim

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem
open Cert.ReferenceIdeal.Read

/-! # What the kernel's host lines leave, in the reference's terms -/

section
variable (m : (ℓ : Loc nD τ sig) → Buf (Elt Idealize.ShloMosaic.Ideal) ℓ) (c : Dev nD)

abbrev a0 : S2048x1024.Idx → EReal := m ((c : Thread nD τ).loc main_arg0)
abbrev a1 : S2048x1024.Idx → EReal := m ((c : Thread nD τ).loc main_arg1)
abbrev a2 : S2048x1024.Idx → EReal := m ((c : Thread nD τ).loc main_arg2)
abbrev a3 : S2048x8.Idx → EReal := m ((c : Thread nD τ).loc main_arg3)
abbrev a4 : S2048x1024.Idx → EReal := m ((c : Thread nD τ).loc main_arg4)

theorem host_crow : crowA m c = shapeCast S8x1x2048 (val_main_v1 (F := Idealize.ShloMosaic.Ideal) (a3 m c)) shapeCasts_S8x2048_S8x1x2048 := by
  unfold crowA
  simp only [V, List.flatten_cons, List.flatten_nil, List.append_nil, hostOps0, hostOps0_1, hostOps0_2, hostOps0_3, List.cons_append, List.nil_append]
  after_results
  rfl
theorem host_ccol : ccolA m c = broadcastInDim S8x2048x128 ![0, 1, 2] bcast_S8x2048x1_S8x2048x128_0_1_2 (val_main_v11 (F := Idealize.ShloMosaic.Ideal) (a3 m c)) := by
  unfold ccolA
  simp only [V, List.flatten_cons, List.flatten_nil, List.append_nil, hostOps0, hostOps0_1, hostOps0_2, hostOps0_3, List.cons_append, List.nil_append]
  after_results
  rfl

/-- A row's maximum plus the logarithm of its sum of exponentials. -/
def lseTerm (x0 x1 : Vec Idealize.ShloMosaic.Ideal S2048x1024 .bf16) (x3 : Vec Idealize.ShloMosaic.Ideal S2048x8 .f32) : Vec Idealize.ShloMosaic.Ideal S8x1x2048 .f32 :=
  shapeCast S8x1x2048 (addf (F := Idealize.ShloMosaic.Ideal) (φ := .f32) (s := S8x2048x1) (val_main_v42 (F := Idealize.ShloMosaic.Ideal) x0 x1 x3) (Host.log (F := Idealize.ShloMosaic.Ideal) (φ := .f32) (val_main_v47 (F := Idealize.ShloMosaic.Ideal) x0 x1 x3))) shapeCasts_S8x2048x1_S8x1x2048

/-- A row's weights against the products of its output's gradient with the values. -/
def deltaTerm (x0 x1 x2 : Vec Idealize.ShloMosaic.Ideal S2048x1024 .bf16) (x3 : Vec Idealize.ShloMosaic.Ideal S2048x8 .f32) (x4 : Vec Idealize.ShloMosaic.Ideal S2048x1024 .f32) : Vec Idealize.ShloMosaic.Ideal S8x1x2048 .f32 :=
  shapeCast S8x1x2048 (Host.reduceAdd (F := Idealize.ShloMosaic.Ideal) (φ := .f32) (mulf (F := Idealize.ShloMosaic.Ideal) (φ := .f32) (s := S8x2048x2048) (val_main_v49 (F := Idealize.ShloMosaic.Ideal) x0 x1 x3) (val_main_v57 (F := Idealize.ShloMosaic.Ideal) x2 x4)) (val_main_cst_9 (F := Idealize.ShloMosaic.Ideal)) reducesTo_S8x2048x2048_S8x2048_d2 h_S_) shapeCasts_S8x2048_S8x1x2048

theorem host_lse : lseA m c = lseTerm (a0 m c) (a1 m c) (a3 m c) := by
  unfold lseA
  simp only [V, List.flatten_cons, List.flatten_nil, List.append_nil, hostOps0, hostOps0_1, hostOps0_2, hostOps0_3, List.cons_append, List.nil_append]
  after_results
  rfl
theorem host_delta : deltaA m c = deltaTerm (a0 m c) (a1 m c) (a2 m c) (a3 m c) (a4 m c) := by
  unfold deltaA
  simp only [V, List.flatten_cons, List.flatten_nil, List.append_nil, hostOps0, hostOps0_1, hostOps0_2, hostOps0_3, List.cons_append, List.nil_append]
  after_results
  rfl

end

end Cert.Dkv

end
-- ==== Proof.Dkv.Host2.lean ====
module

public import proofs.«01_k».proof.Proof.Dkv.Host
public import proofs.«01_k».proof.Proof.Gen.ReferenceIdeal.Read
public import Idealize.ShloMosaic.Lib.Claim

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem
open Cert.ReferenceIdeal.Read

section
abbrev I := Idealize.ShloMosaic.Ideal
theorem cast_row (z : S8x2048.Idx → EReal) (h : Fin 8) (i : Fin 2048) : shapeCast S8x1x2048 z shapeCasts_S8x2048_S8x1x2048 (ix3 h 0 i) = z (ix2 h i) := by
  pointwise
theorem cast_col (z : S8x2048.Idx → EReal) (h : Fin 8) (j : Fin 2048) (l : Fin 128) :
    broadcastInDim S8x2048x128 ![0, 1, 2] bcast_S8x2048x1_S8x2048x128_0_1_2 (broadcastInDim S8x2048x1 ![0, 1] bcast_S8x2048_S8x2048x1_0_1 z) (ix3 h j l) = z (ix2 h j) := by
  pointwise
theorem cast_lse (z w : FVec I S8x2048 .f32) (h : Fin 8) (i : Fin 2048) :
    (shapeCast S8x1x2048 (addf (F := I) (φ := .f32) (s := S8x2048x1) (broadcastInDim S8x2048x1 ![0, 1] bcast_S8x2048_S8x2048x1_0_1 z) (Host.log (F := I) (φ := .f32) (broadcastInDim S8x2048x1 ![0, 1] bcast_S8x2048_S8x2048x1_0_1 w))) shapeCasts_S8x2048x1_S8x1x2048 (ix3 h 0 i) : EReal)
      = z (ix2 h i) + Ideal.log (w (ix2 h i)) := by
  pointwise
theorem cast_delta (z w : FVec I S8x2048x2048 .f32) (h : Fin 8) (i : Fin 2048) :
    (shapeCast S8x1x2048 (Host.reduceAdd (F := I) (φ := .f32) (mulf (F := I) (φ := .f32) (s := S8x2048x2048) z w) (constant S_ .f32 0x00000000#32 : FVec I S_ .f32) reducesTo_S8x2048x2048_S8x2048_d2 h_S_) shapeCasts_S8x2048_S8x1x2048 (ix3 h 0 i) : EReal)
      = ∑ k : Fin 2048, z (ix3 h i k) * w (ix3 h i k) := by
  pointwise

variable (m : (ℓ : Loc nD τ sig) → Buf (Elt Idealize.ShloMosaic.Ideal) ℓ) (c : Dev nD)

theorem host_q : qA m c = a0 m c := by unfold qA; exact V_main_arg0 m c
theorem host_k : kA m c = a1 m c := by unfold kA; exact V_main_arg1 m c
theorem host_v : vA m c = a2 m c := by unfold vA; exact V_main_arg2 m c
theorem host_do : doA m c = a4 m c := by unfold doA; exact V_main_arg4 m c

theorem crow_apply (h : Fin 8) (i : Fin 2048) : crowA m c (ix3 h 0 i) = val_main_v1 (F := I) (a3 m c) (ix2 h i) :=
  (congrFun (host_crow m c) _).trans (cast_row _ h i)
theorem ccol_apply (h : Fin 8) (j : Fin 2048) (l : Fin 128) : ccolA m c (ix3 h j l) = val_main_v1 (F := I) (a3 m c) (ix2 h j) := by
  refine (congrFun (host_ccol m c) _).trans ?_
  unfold val_main_v11
  exact cast_col _ h j l
theorem lse_apply (h : Fin 8) (i : Fin 2048) : lseA m c (ix3 h 0 i)
    = (val_main_v32 (F := I) (a0 m c) (a1 m c) (a3 m c) (ix2 h i) : EReal) + Ideal.log (val_main_v46 (F := I) (a0 m c) (a1 m c) (a3 m c) (ix2 h i)) := by
  refine (congrFun (host_lse m c) _).trans ?_
  unfold lseTerm val_main_v42 val_main_v47
  exact cast_lse _ _ h i
theorem delta_apply (h : Fin 8) (i : Fin 2048) : deltaA m c (ix3 h 0 i)
    = ∑ k : Fin 2048, (val_main_v49 (F := I) (a0 m c) (a1 m c) (a3 m c) (ix3 h i k) : EReal) * val_main_v57 (F := I) (a2 m c) (a4 m c) (ix3 h i k) := by
  refine (congrFun (host_delta m c) _).trans ?_
  unfold deltaTerm val_main_cst_9
  exact cast_delta _ _ h i
end

end Cert.Dkv

end
-- ==== Proof.Dkv.Ref.lean ====
module

public import proofs.«01_k».proof.Proof.Dkv.Host2
public import proofs.«01_k».proof.Proof.Gen.ReferenceIdeal.Read
public import Idealize.ShloMosaic.Lib.Claim

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem
open Cert.ReferenceIdeal.Read

/-! # The reference's values, read at an index -/

theorem mask_bit2 (j i : Fin 2048) (a b : EReal) :
    Scalar.select (IntOp.cmpi .sle (BitVec.ofNat 32 j.val) (BitVec.ofNat 32 i.val)) a b = if j.val ≤ i.val then a else b := by
  have hj : (BitVec.ofNat 32 j.val).toNat = j.val := by rw [BitVec.toNat_ofNat]; omega
  have hi : (BitVec.ofNat 32 i.val).toNat = i.val := by rw [BitVec.toNat_ofNat]; omega
  rw [WordCmp.cmpi_sle_of_lt (by rw [hj]; omega) (by rw [hi]; omega), hj, hi, Scalar.select_ofBool]
  simp only [decide_eq_true_eq]

theorem neg_inf : Ideal.ofBits .f32 0xFF800000#32 = (⊥ : EReal) := by
  simp [Ideal.ofBits, Ideal.ieee, -EReal.coe_mul]

section
variable (x0 x1 x2 : S2048x1024.Idx → EReal) (x3 : S2048x8.Idx → EReal) (x4 : S2048x1024.Idx → EReal)

theorem r3 (j : Fin 2048) (h : Fin 8) (d : Fin 128) : (val_main_v3 (F := I) x1 (ix3 j h d) : EReal) = x1 (ix2 j (lane h d)) := by
  unfold val_main_v3 val_main_v2
  pointwise
theorem r5 (j : Fin 2048) (h : Fin 8) (d : Fin 128) : (val_main_v5 (F := I) x2 (ix3 j h d) : EReal) = x2 (ix2 j (lane h d)) := by
  unfold val_main_v5 val_main_v4
  pointwise
theorem r7 (j : Fin 2048) (h : Fin 8) (d : Fin 128) : (val_main_v7 (F := I) x0 (ix3 j h d) : EReal) = x0 (ix2 j (lane h d)) := by
  unfold val_main_v7 val_main_v6
  pointwise
theorem r56 (j : Fin 2048) (h : Fin 8) (d : Fin 128) : (val_main_v56 (F := I) x4 (ix3 h d j) : EReal) = x4 (ix2 j (lane h d)) := by
  unfold val_main_v56 val_main_v55
  pointwise
theorem r57 (h : Fin 8) (i j : Fin 2048) : (val_main_v57 (F := I) x2 x4 (ix3 h i j) : EReal) = ∑ d : Fin 128, x4 (ix2 i (lane h d)) * x2 (ix2 j (lane h d)) := by
  unfold val_main_v57
  pointwise
  exact Finset.sum_congr rfl fun d _ => by rw [r56, r5]
theorem r24 (h : Fin 8) (i j : Fin 2048) : (val_main_v24_0 (F := I) x0 x1 x3 (ix3 h i j) : EReal)
   = if j.val ≤ i.val then (∑ d : Fin 128, x0 (ix2 i (lane h d)) * x1 (ix2 j (lane h d))) * scl + (val_main_v1 (F := I) x3 (ix2 h i) - val_main_v1 (F := I) x3 (ix2 h j)) else ⊥ := by
  unfold val_main_v24_0 val_main_v24_1 val_main_v22 val_main_v20 val_main_v21 val_main_v19 val_main_v18 val_main_v17 val_main_v16 val_main_v23 val_main_v10 val_main_v8 val_main_v9 val_main_cst val_main_v15 val_main_v13 val_main_v14 val_main_v11 val_main_v12 val_main_call1_v2 val_main_call1_v0 val_main_cst_0
  pointwise
  rw [mask_bit2]
  split
  · simp only [r7, r3]; rfl
  · exact neg_inf
theorem r45 (h : Fin 8) (i j : Fin 2048) : (val_main_v45 (F := I) x0 x1 x3 (ix3 h i j) : EReal)
   = Ideal.exp (val_main_v24_0 (F := I) x0 x1 x3 (ix3 h i j) - val_main_v32 (F := I) x0 x1 x3 (ix2 h i)) := by
  unfold val_main_v45 val_main_v44 val_main_v43 val_main_v42
  pointwise
theorem r46 (h : Fin 8) (i : Fin 2048) : (val_main_v46 (F := I) x0 x1 x3 (ix2 h i) : EReal) = ∑ j : Fin 2048, val_main_v45 (F := I) x0 x1 x3 (ix3 h i j) := by
  unfold val_main_v46 val_main_cst_9
  pointwise
theorem r31 (i : Cert.ReferenceIdeal.S8x2048.Idx) : (val_main_v31 (F := I) i : EReal) = ⊥ := by
  rw [val_main_v31_apply]
  exact neg_inf
theorem r32 (h : Fin 8) (i : Fin 2048) : (val_main_v32 (F := I) x0 x1 x3 (ix2 h i) : EReal) = val_main_v25 (F := I) x0 x1 x3 (ix2 h i) := by
  rw [val_main_v32_apply, r31]
  exact max_bot_left _
theorem r25 (h : Fin 8) (i : Fin 2048) : (val_main_v25 (F := I) x0 x1 x3 (ix2 h i) : EReal) = (Finset.univ : Finset (Fin 2048)).fold max ⊥ (fun j => val_main_v24_0 (F := I) x0 x1 x3 (ix3 h i j)) := by
  unfold val_main_v25 val_main_cst_1
  pointwise
  rw [neg_inf]
theorem r49 (h : Fin 8) (i j : Fin 2048) : (val_main_v49 (F := I) x0 x1 x3 (ix3 h i j) : EReal)
   = Ideal.div (val_main_v45 (F := I) x0 x1 x3 (ix3 h i j)) (val_main_v46 (F := I) x0 x1 x3 (ix2 h i)) := by
  unfold val_main_v49 val_main_v48 val_main_v47
  pointwise
theorem r63 (h : Fin 8) (i : Fin 2048) : (val_main_v63 (F := I) x0 x1 x2 x3 x4 (ix2 h i) : EReal)
   = ∑ j : Fin 2048, (val_main_v57 (F := I) x2 x4 (ix3 h i j) : EReal) * Ideal.div 1 (val_main_v46 (F := I) x0 x1 x3 (ix2 h i) * val_main_v46 (F := I) x0 x1 x3 (ix2 h i)) * val_main_v45 (F := I) x0 x1 x3 (ix3 h i j) := by
  unfold val_main_v63 val_main_v62 val_main_v61 val_main_v60 val_main_v52 val_main_v51 val_main_v50 val_main_cst_10 val_main_cst_11 val_main_v47
  pointwise
theorem r72 (h : Fin 8) (i j : Fin 2048) : (val_main_v72 (F := I) x0 x1 x2 x3 x4 (ix3 h i j) : EReal)
   = if j.val ≤ i.val then (Ideal.div (val_main_v57 (F := I) x2 x4 (ix3 h i j)) (val_main_v46 (F := I) x0 x1 x3 (ix2 h i)) + -(val_main_v63 (F := I) x0 x1 x2 x3 x4 (ix2 h i))) * val_main_v45 (F := I) x0 x1 x3 (ix3 h i j) else 0 := by
  unfold val_main_v72 val_main_v71 val_main_v70 val_main_v69 val_main_v68 val_main_v67 val_main_v66 val_main_v65 val_main_v64 val_main_cst_12 val_main_v47 val_main_call2_v0 val_main_call2_cst val_main_v24_1 val_main_v22 val_main_v20 val_main_v21 val_main_v19 val_main_v18 val_main_v17 val_main_v16
  pointwise
  rw [mask_bit2]
  simp only [Fin.sum_univ_one]
end

end Cert.Dkv

end
-- ==== Proof.Dkv.Ref2.lean ====
module

public import proofs.«01_k».proof.Proof.Dkv.Ref
public import proofs.«01_k».proof.Proof.Gen.ReferenceIdeal.Read
public import Idealize.ShloMosaic.Lib.Claim

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem
open Cert.ReferenceIdeal.Read

/-! # The reference's results, read at an index -/

section
variable (x0 x1 x2 : S2048x1024.Idx → EReal) (x3 : S2048x8.Idx → EReal) (x4 : S2048x1024.Idx → EReal)

theorem r86 (j : Fin 2048) (h : Fin 8) (d : Fin 128) : (val_main_v86 (F := I) x0 x1 x3 x4 (ix2 j (lane h d)) : EReal)
   = ∑ i : Fin 2048, x4 (ix2 i (lane h d)) * val_main_v49 (F := I) x0 x1 x3 (ix3 h i j) := by
  unfold val_main_v86 val_main_v59 val_main_v58
  pointwise
  have e1 : ∀ hh, (⟨(h.val * 128 + d.val) / 128, hh⟩ : Fin 8) = h := fun _ => Fin.ext (by show (h.val * 128 + d.val) / 128 = h.val; omega)
  have e2 : ∀ hh, (⟨(h.val * 128 + d.val) % 128, hh⟩ : Fin 128) = d := fun _ => Fin.ext (by show (h.val * 128 + d.val) % 128 = d.val; omega)
  exact Finset.sum_congr rfl fun x _ => by rw [e1, e2, r56]
theorem r85 (j : Fin 2048) (h : Fin 8) (d : Fin 128) : (val_main_v85 (F := I) x0 x1 x2 x3 x4 (ix2 j (lane h d)) : EReal)
   = ∑ i : Fin 2048, (val_main_v72 (F := I) x0 x1 x2 x3 x4 (ix3 h i j) * scl) * x0 (ix2 i (lane h d)) := by
  unfold val_main_v85 val_main_v84 val_main_v83 val_main_v82 val_main_v81 val_main_cst_17
  pointwise
  have e1 : ∀ hh, (⟨(h.val * 128 + d.val) / 128, hh⟩ : Fin 8) = h := fun _ => Fin.ext (by show (h.val * 128 + d.val) / 128 = h.val; omega)
  have e2 : ∀ hh, (⟨(h.val * 128 + d.val) % 128, hh⟩ : Fin 128) = d := fun _ => Fin.ext (by show (h.val * 128 + d.val) % 128 = d.val; omega)
  exact Finset.sum_congr rfl fun x _ => by rw [e1, e2, r7] <;> rfl
theorem r80 (h : Fin 8) (j : Fin 2048) : (val_main_v80 (F := I) x0 x1 x2 x3 x4 (ix2 h j) : EReal)
   = (∑ i : Fin 2048, -val_main_v72 (F := I) x0 x1 x2 x3 x4 (ix3 h i j)) + ∑ k : Fin 2048, val_main_v72 (F := I) x0 x1 x2 x3 x4 (ix3 h j k) := by
  unfold val_main_v80 val_main_v79 val_main_v78 val_main_v77 val_main_v76 val_main_v75 val_main_v74 val_main_v73 val_main_cst_13 val_main_cst_14 val_main_cst_15 val_main_cst_16
  pointwise
  simp only [Fin.sum_univ_one]
theorem r89 (j : Fin 2048) (l : Fin 128) : (val_main_v89 (F := I) x0 x1 x2 x3 x4 (ix2 j l) : EReal)
   = if hl : l.val < 8 then -val_main_v80 (F := I) x0 x1 x2 x3 x4 (ix2 ⟨l.val, hl⟩ j) else 0 := by
  unfold val_main_v89 val_main_v88 val_main_v87 val_main_call3_v0 val_main_c
  pointwise
  split
  · rfl
  · show (FloatOps.sitofp (F := I) .f32 0#32 : EReal) = 0
    show (((0#32 : BitVec 32).toInt : ℝ) : EReal) = 0
    simp
end

end Cert.Dkv

end
-- ==== Proof.Dkv.Real.lean ====
module

public import proofs.«01_k».proof.Proof.Dkv.Ref
public import proofs.«01_k».proof.Proof.Gen.ReferenceIdeal.Read
public import Idealize.ShloMosaic.Lib.Claim

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem
open Cert.ReferenceIdeal.Read

/-! # One row of the attention's weights over the reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_real {ι : Type} [Fintype ι] (f : ι → EReal) (g : ι → ℝ) (h : ∀ i, f i = (g i : EReal)) : ∑ i, f i = ((∑ i, g i : ℝ) : EReal) := by
  rw [coe_sum]
  exact Finset.sum_congr rfl fun i _ => h i

theorem row {n : ℕ} (b : Fin n → Prop) [DecidablePred b] (i0 : Fin n) (hb : b i0) (l dp : Fin n → ℝ) (L E DP : Fin n → EReal) (M Z Dl S : EReal)
    (hDP : ∀ j, DP j = (dp j : EReal))
    (hL : ∀ j, L j = if b j then (l j : EReal) else ⊥)
    (hM : M = Finset.univ.fold max ⊥ L) (hE : ∀ j, E j = Ideal.exp (L j - M)) (hZ : Z = ∑ j, E j)
    (hD : Dl = ∑ j, Ideal.div (E j) Z * DP j) (hS : S = ∑ j, DP j * Ideal.div 1 (Z * Z) * E j) :
    ∃ (p : Fin n → ℝ) (lse dl : ℝ), M + Ideal.log Z = (lse : EReal) ∧ Dl = (dl : EReal) ∧ (∀ j, Ideal.div (E j) Z = (p j : EReal))
      ∧ (∀ j, (if b j then Ideal.exp ((l j - lse : ℝ) : EReal) else 0) = (p j : EReal))
      ∧ (∀ j, (if b j then (Ideal.div (DP j) Z + -S) * E j else 0) = ((p j * (dp j - dl) : ℝ) : EReal))
      ∧ ∑ j, p j * (dp j - dl) = 0 := by
  obtain ⟨m, hm⟩ : ∃ m : ℝ, M = (m : EReal) := by
    have h1 : M ≠ ⊤ := by
      apply ne_of_lt
      rw [hM, Finset.fold_max_lt]
      refine ⟨bot_lt_top, fun j _ => ?_⟩
      rw [hL j]
      split
      · exact EReal.coe_lt_top _
      · exact bot_lt_top
    have h2 : M ≠ ⊥ := by
      apply ne_of_gt
      rw [hM, Finset.lt_fold_max]
      refine Or.inr ⟨i0, Finset.mem_univ _, ?_⟩
      rw [hL i0, if_pos hb]
      exact EReal.bot_lt_coe _
    exact ⟨M.toReal, (EReal.coe_toReal h1 h2).symm⟩
  let e : Fin n → ℝ := fun j => if b j then Real.exp (l j - m) else 0
  have he : ∀ j, E j = (e j : EReal) := fun j => by
    rw [hE j, hL j, hm]
    by_cases h : b j
    · simp only [if_pos h, e, ← EReal.coe_sub, Ideal.exp_coe]
    · simp [if_neg h, e]
  have hz : Z = ((∑ j, e j : ℝ) : EReal) := hZ.trans (sum_real E e he)
  have hpos : 0 < ∑ j, e j := by
    refine Finset.sum_pos' (fun j _ => ?_) ⟨i0, Finset.mem_univ _, ?_⟩
    · by_cases h : b j
      · simp only [if_pos h, e]; exact (Real.exp_pos _).le
      · simp [if_neg h, e]
    · simp only [if_pos hb, e]; exact Real.exp_pos _
  generalize hzz : ∑ j, e j = z at hz hpos
  have z0 : z ≠ 0 := hpos.ne'
  have hp : ∀ j, Ideal.div (E j) Z = ((e j / z : ℝ) : EReal) := fun j => by
    rw [he, hz, Ideal.div_coe z0, ← EReal.coe_mul]
    congr 1
    ring
  have hdl : Dl = ((∑ j, e j / z * dp j : ℝ) : EReal) := by
    rw [hD]
    exact sum_real _ _ fun j => by rw [hp, hDP, EReal.coe_mul]
  have hSr : S = (((∑ j, e j / z * dp j) / z : ℝ) : EReal) := by
    rw [hS, sum_real _ (fun j => dp j * (1 / (z * z)) * e j) fun j => ?_]
    · congr 1
      rw [Finset.sum_div]
      refine Finset.sum_congr rfl fun j _ => ?_
      field_simp
    · rw [hDP, he, hz, ← EReal.coe_mul, Ideal.div_coe (mul_ne_zero z0 z0), one_mul, EReal.coe_mul, EReal.coe_mul]
  generalize hdd : ∑ j, e j / z * dp j = dl at hdl hSr
  refine ⟨fun j => e j / z, m + Real.log z, dl, ?_, hdl, hp, fun j => ?_, fun j => ?_, ?_⟩
  · rw [hm, hz, Ideal.log_coe, if_neg (not_le.mpr hpos), EReal.coe_add]
  · by_cases h : b j
    · rw [if_pos h, Ideal.exp_coe]
      congr 1
      simp only [e, if_pos h]
      rw [show l j - (m + Real.log z) = (l j - m) - Real.log z by ring, Real.exp_sub, Real.exp_log hpos]
    · simp [e, if_neg h]
  · by_cases h : b j
    · rw [if_pos h, hDP, hz, hSr, he, Ideal.div_coe z0, ← EReal.coe_mul, ← EReal.coe_neg, ← EReal.coe_add, ← EReal.coe_mul]
      congr 1
      field_simp
      ring
    · simp [e, if_neg h]
  · have h1 : ∑ j, e j / z = 1 := by rw [← Finset.sum_div, hzz, div_self z0]
    simp only [mul_sub, Finset.sum_sub_distrib, ← Finset.sum_mul, h1, hdd]
    ring

end Cert.Dkv

end
-- ==== Proof.Dkv.Cells.lean ====
module

public import proofs.«01_k».proof.Proof.Dkv.Ref2
public import proofs.«01_k».proof.Proof.Dkv.Real
public import proofs.«01_k».proof.Proof.Gen.ReferenceIdeal.Read
public import Idealize.ShloMosaic.Lib.Claim

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem
open Cert.ReferenceIdeal.Read

/-! # Kernel and reference agree, one query row at a time -/

theorem scl_real : ∃ s : ℝ, scl = (s : EReal) := by
  refine ⟨EReal.toReal scl, (EReal.coe_toReal ?_ ?_).symm⟩ <;>
  · unfold scl
    simp [Ideal.ofBits, Ideal.ieee, -EReal.coe_mul]

section
variable (x0 x1 x2 : S2048x1024.Idx → EReal) (x3 : S2048x8.Idx → EReal) (x4 : S2048x1024.Idx → EReal)
variable (lse delta crow : S8x1x2048.Idx → EReal) (ccol : S8x2048x128.Idx → EReal)

theorem cells (q k v o : S2048x1024.Idx → ℝ) (cc : Fin 8 → Fin 2048 → ℝ)
    (h0 : ∀ y, x0 y = (q y : EReal)) (h1 : ∀ y, x1 y = (k y : EReal)) (h2 : ∀ y, x2 y = (v y : EReal)) (h4 : ∀ y, x4 y = (o y : EReal))
    (hc : ∀ h i, (val_main_v1 (F := I) x3 (ix2 h i) : EReal) = (cc h i : EReal))
    (hcrow : ∀ h i, crow (ix3 h 0 i) = val_main_v1 (F := I) x3 (ix2 h i))
    (hccol : ∀ h j l, ccol (ix3 h j l) = val_main_v1 (F := I) x3 (ix2 h j))
    (hlse : ∀ h i, lse (ix3 h 0 i) = val_main_v32 (F := I) x0 x1 x3 (ix2 h i) + Ideal.log (val_main_v46 (F := I) x0 x1 x3 (ix2 h i)))
    (hdelta : ∀ h i, delta (ix3 h 0 i) = ∑ j : Fin 2048, (val_main_v49 (F := I) x0 x1 x3 (ix3 h i j) * val_main_v57 (F := I) x2 x4 (ix3 h i j) : EReal))
    (h : Fin 8) (i : Fin 2048) :
    ∃ p g : Fin 2048 → ℝ, (∀ j, pmA x0 x1 lse crow ccol h j i = (p j : EReal)) ∧ (∀ j, (val_main_v49 (F := I) x0 x1 x3 (ix3 h i j) : EReal) = (p j : EReal))
      ∧ (∀ j, dsA x0 x1 x2 x4 lse delta crow ccol h j i = (g j : EReal)) ∧ (∀ j, (val_main_v72 (F := I) x0 x1 x2 x3 x4 (ix3 h i j) : EReal) = (g j : EReal))
      ∧ ∑ j, g j = 0 := by
  obtain ⟨s, hs⟩ := scl_real
  have hqk : ∀ j, (∑ d : Fin 128, x0 (ix2 i (lane h d)) * x1 (ix2 j (lane h d))) = ((∑ d : Fin 128, q (ix2 i (lane h d)) * k (ix2 j (lane h d)) : ℝ) : EReal) := fun j =>
    sum_real _ _ fun d => by rw [h0, h1, EReal.coe_mul]
  have hdo : ∀ j, (∑ d : Fin 128, x4 (ix2 i (lane h d)) * x2 (ix2 j (lane h d))) = ((∑ d : Fin 128, o (ix2 i (lane h d)) * v (ix2 j (lane h d)) : ℝ) : EReal) := fun j =>
    sum_real _ _ fun d => by rw [h4, h2, EReal.coe_mul]
  obtain ⟨p, ls, dl, e1, e2, e3, e4, e5, e6⟩ := row (fun j : Fin 2048 => j.val ≤ i.val) i le_rfl
    (fun j => (∑ d : Fin 128, q (ix2 i (lane h d)) * k (ix2 j (lane h d))) * s + (cc h i - cc h j))
    (fun j => ∑ d : Fin 128, o (ix2 i (lane h d)) * v (ix2 j (lane h d)))
    (fun j => val_main_v24_0 (F := I) x0 x1 x3 (ix3 h i j)) (fun j => val_main_v45 (F := I) x0 x1 x3 (ix3 h i j)) (fun j => val_main_v57 (F := I) x2 x4 (ix3 h i j))
    (val_main_v32 (F := I) x0 x1 x3 (ix2 h i)) (val_main_v46 (F := I) x0 x1 x3 (ix2 h i)) (delta (ix3 h 0 i)) (val_main_v63 (F := I) x0 x1 x2 x3 x4 (ix2 h i))
    (fun j => (r57 x2 x4 h i j).trans (hdo j))
    (fun j => by rw [r24, hqk, hs, hc, hc, EReal.coe_add, EReal.coe_mul, EReal.coe_sub])
    ((r32 x0 x1 x3 h i).trans (r25 x0 x1 x3 h i)) (fun j => r45 x0 x1 x3 h i j) (r46 x0 x1 x3 h i)
    ((hdelta h i).trans (Finset.sum_congr rfl fun j _ => by rw [r49])) (r63 x0 x1 x2 x3 x4 h i)
  have hp : ∀ j, pmA x0 x1 lse crow ccol h j i = (p j : EReal) := fun j => by
    rw [← e4 j]
    unfold pmA ptA
    rw [Finset.sum_congr rfl fun d _ => mul_comm (x1 (ix2 j (lane h d))) (x0 (ix2 i (lane h d))), hqk, hs, hcrow, hccol, hlse, e1, hc, hc]
    refine if_congr Iff.rfl (congrArg Ideal.exp ?_) rfl
    rw [← EReal.coe_mul, ← EReal.coe_sub, ← EReal.coe_add, ← EReal.coe_sub]
    refine congrArg Real.toEReal ?_
    ring
  refine ⟨p, fun j => p j * ((∑ d : Fin 128, o (ix2 i (lane h d)) * v (ix2 j (lane h d))) - dl), hp, fun j => (r49 x0 x1 x3 h i j).trans (e3 j), fun j => ?_, fun j => (r72 x0 x1 x2 x3 x4 h i j).trans (e5 j), e6⟩
  unfold dsA
  rw [hp, Finset.sum_congr rfl fun d _ => mul_comm (x2 (ix2 j (lane h d))) (x4 (ix2 i (lane h d))), hdo, e2, EReal.coe_mul, EReal.coe_sub]
end

end Cert.Dkv

end
-- ==== Proof.Dkv.Finite.lean ====
module

public import proofs.«01_k».proof.Proof.Dkv.Cells
public import proofs.«01_k».proof.Pre_finite
public import proofs.«01_k».proof.Proof.Gen.ReferenceIdeal.Read
public import Idealize.ShloMosaic.Lib.Claim

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem
open Cert.ReferenceIdeal.Read

/-! # Finite inputs, and the cumulative sums they give, are real numbers -/

theorem real_of_abs_lt (x : EReal) (h : max x (-x) < ⊤) : ∃ r : ℝ, x = (r : EReal) := by
  refine ⟨x.toReal, (EReal.coe_toReal ?_ ?_).symm⟩
  · rintro rfl; simp at h
  · rintro rfl; simp at h

theorem foldl_real {α : Type} (f : EReal → α → EReal) (hf : ∀ r a, (∃ u : ℝ, r = (u : EReal)) → ∃ u : ℝ, f r a = (u : EReal)) (l : List α) :
    ∀ r, (∃ u : ℝ, r = (u : EReal)) → ∃ u : ℝ, l.foldl f r = (u : EReal) := by
  induction l with
  | nil => exact fun r h => h
  | cons a l ih => exact fun r h => ih _ (hf r a h)

theorem window_real {s t u : Shape} (window strides lo hi : Fin s.rank → Nat) (x : s.Idx → EReal) (init : u.Idx → EReal) (h : s.ReduceWindows window strides lo hi t) (hu : 0 < u.numel)
    (hx : ∀ y, ∃ r : ℝ, x y = (r : EReal)) (hi0 : ∀ y, ∃ r : ℝ, init y = (r : EReal)) (y : t.Idx) :
    ∃ r : ℝ, Host.reduceWindow (· + ·) window strides lo hi x init h hu y = (r : EReal) := by
  unfold Host.reduceWindow
  refine foldl_real _ (fun r a hr => ?_) _ _ (hi0 _)
  obtain ⟨u, rfl⟩ := hr
  dsimp only
  split
  · rename_i hin
    obtain ⟨w, hw⟩ := hx (fun a => ⟨_, (hin a).2⟩)
    exact ⟨u + w, by rw [hw, EReal.coe_add]⟩
  · obtain ⟨w, hw⟩ := hi0 (Shape.Idx.first hu)
    exact ⟨u + w, by rw [hw, EReal.coe_add]⟩

theorem windowAdd_real {s t u : Shape} (window strides lo hi : Fin s.rank → Nat) (x : FVec I s .f32) (init : u.Idx → I .f32) (h : s.ReduceWindows window strides lo hi t) (hu : 0 < u.numel)
    (hx : ∀ y, ∃ r : ℝ, (x y : EReal) = (r : EReal)) (hi0 : ∃ r : ℝ, (init (Shape.Idx.first hu) : EReal) = (r : EReal)) (y : t.Idx) :
    ∃ r : ℝ, (Host.reduceWindowAdd (F := I) window strides lo hi x init h hu y : EReal) = (r : EReal) :=
  window_real window strides lo hi x (fun _ : (⟨0, ![]⟩ : Shape).Idx => init (Shape.Idx.first hu)) h (by decide) hx (fun _ => hi0) y

theorem init_real (i : Cert.ReferenceIdeal.S_.Idx) : ∃ r : ℝ, (val_main_call0_call0_v0 (F := I) i : EReal) = (r : EReal) := by
  rw [val_main_call0_call0_v0_apply]
  exact ⟨0, Ideal.ofBits_zero_f32⟩

theorem v0_real (x3 : S2048x8.Idx → EReal) (hx : ∀ y, ∃ r : ℝ, x3 y = (r : EReal)) (y : S2048x8.Idx) : ∃ r : ℝ, (val_main_v0 (F := I) x3 y : EReal) = (r : EReal) := by
  have e := init_real (Shape.Idx.first Cert.ReferenceIdeal.Gen.h_S_)
  unfold val_main_v0
  revert e
  generalize (val_main_call0_call0_v0 (F := I)) = z
  intro e
  exact windowAdd_real (s := Cert.ReferenceIdeal.S2048x8) (t := Cert.ReferenceIdeal.S2048x8) (u := Cert.ReferenceIdeal.S_) ![2048, 1] ![1, 1] ![2047, 0] ![0, 0] x3 z
    Cert.ReferenceIdeal.Gen.reduceWindows_S2048x8_S2048x8_w2048s1p2047_0_w1s1p0_0 Cert.ReferenceIdeal.Gen.h_S_ hx e y

theorem c_real (x3 : S2048x8.Idx → EReal) (hx : ∀ y, ∃ r : ℝ, x3 y = (r : EReal)) :
    ∃ cc : Fin 8 → Fin 2048 → ℝ, ∀ h i, (val_main_v1 (F := I) x3 (ix2 h i) : EReal) = (cc h i : EReal) := by
  have e : ∀ (h : Fin 8) (i : Fin 2048), ∃ r : ℝ, (val_main_v1 (F := I) x3 (ix2 h i) : EReal) = (r : EReal) := fun h i => by
    rw [val_main_v1_apply]
    exact v0_real x3 hx _
  choose cc hcc using e
  exact ⟨cc, hcc⟩

theorem facts_pre : Cert.Pre_finite.Facts where
  bcast_S_S2048x1024 := by decide
  bcast_S_S2048x8 := by decide

theorem inf_bf16 : Ideal.ofBits .bf16 0x7F80#16 = (⊤ : EReal) := by
  simp [Ideal.ofBits, Ideal.ieee, -EReal.coe_mul]
theorem inf_f32 : Ideal.ofBits .f32 0x7F800000#32 = (⊤ : EReal) := by
  simp [Ideal.ofBits, Ideal.ieee, -EReal.coe_mul]

theorem lt_of_bit (x y : EReal) (h : Ideal.cmp .olt x y = 1#1) : x < y := by
  unfold Ideal.cmp at h
  by_contra hn
  simp [hn] at h

attribute [local instance] facts_pre

theorem fin_gen {s : Shape} {φ : FTy} (hb : (⟨0, ![]⟩ : Shape).BroadcastsInDim s (![] : Fin 0 → Fin s.rank)) (b : BitVec φ.bits) (hinf : Ideal.ofBits φ b = (⊤ : EReal)) (x : FVec I s φ)
    (h : cmpf .olt (Host.absf x) (broadcastInDim s ![] hb (constant (F := I) ⟨0, ![]⟩ φ b)) = fun _ => 1#1) (y : s.Idx) : ∃ r : ℝ, (x y : EReal) = (r : EReal) := by
  have e := congrFun h y
  refine real_of_abs_lt _ ?_
  rw [← hinf]
  exact lt_of_bit _ _ e

end Cert.Dkv

end
-- ==== Proof.Dkv.Arrays3.lean ====
module

public import proofs.«01_k».proof.Proof.Dkv.PointA
public import proofs.«01_k».proof.Proof.Dkv.PointB
public import proofs.«01_k».proof.Proof.Dkv.PointA10
public import proofs.«01_k».proof.Proof.Dkv.PointB10
public import proofs.«01_k».proof.Proof.Dkv.Arrays
public import proofs.«01_k».proof.Proof.Gen.KernelIdeal.Value
public import Idealize.ShloMosaic.Lib.Pipeline.ValueKit

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem

section
variable (m : (ℓ : Loc nD τ sig) → Buf (Elt Idealize.ShloMosaic.Ideal) ℓ) (c : Dev nD)

/-- What point `t` adds to the sums at row `j`, lane `l`: its own rows, in its head's lane. -/
def term (t : Fin cfg0.N) (j : Fin 2048) (l : Fin 128) : EReal :=
  if j.val / 1024 = t.val % 2 ∧ l.val = t.val / 2 then
    ∑ i : Fin 2048, dsA (qA m c) (kA m c) (vA m c) (doA m c) (lseA m c) (deltaA m c) (crowA m c) (ccolA m c) (hd t) j i
  else 0

theorem update_eq (t : Fin cfg0.N) (prev : Vec Idealize.ShloMosaic.Ideal S2048x128 .f32) (j : Fin 2048) (l : Fin 128) :
    ((if hy : (kb t).val * 1024 ≤ j.val ∧ j.val < (kb t).val * 1024 + 1024 then
        k0_pay1 (carried (kb t) (iblk m c 0 t) (iblk m c 1 t) (iblk m c 2 t) (iblk m c 3 t) (iblk m c 4 t) (iblk m c 5 t) (iblk m c 6 t) (iblk m c 7 t)).2.2 (iota .tc S1024x128 32 [1] iota_S1024x128_d1_w32) (k0_pay34 (rowsAt (kb t) prev)) (k0_pay35 (BitVec.ofNat 32 (grid0.coords t 0).val))
          (ix2 (⟨j.val - (kb t).val * 1024, by omega⟩ : Fin 1024) l)
      else prev (ix2 j l)) : EReal) = prev (ix2 j l) + term m c t j l := by
  split
  · rename_i hy
    obtain ⟨h1, h2⟩ := hy
    have hj : seqAt (kb t) ⟨j.val - (kb t).val * 1024, by omega⟩ = j := Fin.ext (by show (kb t).val * 1024 + (j.val - (kb t).val * 1024) = j.val; omega)
    have hq : j.val / 1024 = t.val % 2 := by
      have : (kb t).val = t.val % 2 := rfl
      omega
    rw [coords0, pay1_apply _ _ (hd t).isLt, carried_3]
    simp only [dst_blk, hj]
    refine congrArg₂ (· + ·) (congrArg prev ?_) ?_
    · exact congrArg (fun z => (ix2 z l : S2048x128.Idx)) hj
    · unfold term
      simp only [hq, true_and]
  · rename_i hy
    have hq : ¬ j.val / 1024 = t.val % 2 := by
      have : (kb t).val = t.val % 2 := rfl
      omega
    unfold term
    simp only [hq, false_and, if_false, add_zero]

theorem zeros (y : S2048x128.Idx) : (k0_pay16 (F := Idealize.ShloMosaic.Ideal) y : EReal) = 0 := by
  unfold k0_pay16
  pointwise

theorem first (t : Fin cfg0.N) (h0 : t.val % 16 = 0) (j : Fin 2048) (l : Fin 128) :
    ((outsAt0 m c t.val t.isLt).2.2 (ix2 j l) : EReal) = 0 + term m c t j l := by
  simp only [outsAt0_A m c t h0]
  rw [out0_A_10_apply (n := kb t) (h := coords1 t)]
  refine (update_eq m c t (k0_pay16 (F := Idealize.ShloMosaic.Ideal)) j l).trans ?_
  rw [zeros]

theorem next (t : Fin cfg0.N) (h0 : ¬t.val % 16 = 0) (j : Fin 2048) (l : Fin 128) :
    ((outsAt0 m c t.val t.isLt).2.2 (ix2 j l) : EReal) = (outsAt0 m c (t.val - 1) (Nat.lt_of_le_of_lt (Nat.sub_le _ _) t.isLt)).2.2 (ix2 j l) + term m c t j l := by
  simp only [outsAt0_B m c t h0]
  rw [out0_B_10_apply (n := kb t) (h := coords1 t)]
  exact update_eq m c t _ j l

theorem last (t : Fin cfg0.N) (ht : t.val + 1 = cfg0.N) (j : Fin 2048) (l : Fin 128) :
    ((outsAt0 m c t.val t.isLt).2.2 (ix2 j l) : EReal) = csA (qA m c) (kA m c) (vA m c) (doA m c) (lseA m c) (deltaA m c) (crowA m c) (ccolA m c) (ix2 j l) := by
  have e := Pipeline.eq_sum_fin_of_reset_step_last (M := EReal) (fun n h => (outsAt0 m c n h).2.2 (ix2 j l)) 16 0 (fun t => term m c t j l)
    (fun t h => first m c t h j l) (fun t h => next m c t h j l) (le_of_eq N_0) t ht
  refine e.trans ?_
  rw [zero_add]
  show _ = if hl : l.val < 8 then ∑ i : Fin 2048, dsA _ _ _ _ _ _ _ _ (⟨l.val, hl⟩ : Fin 8) j i else 0
  have hN : cfg0.N = 16 := N_0
  split
  · rename_i hl
    have hp : 2 * l.val + j.val / 1024 < cfg0.N := by omega
    rw [Finset.sum_eq_single (⟨2 * l.val + j.val / 1024, hp⟩ : Fin cfg0.N)]
    · unfold term
      rw [if_pos (by constructor <;> simp only <;> omega)]
      have : hd ⟨2 * l.val + j.val / 1024, hp⟩ = ⟨l.val, hl⟩ := Fin.ext (by show (2 * l.val + j.val / 1024) / 2 = l.val; omega)
      rw [this]
    · intro p _ hne
      unfold term
      rw [if_neg]
      rintro ⟨h1, h2⟩
      exact hne (Fin.ext (by show p.val = 2 * l.val + j.val / 1024; omega))
    · intro h; exact absurd (Finset.mem_univ _) h
  · rename_i hl
    refine Finset.sum_eq_zero fun p _ => ?_
    unfold term
    rw [if_neg]
    rintro ⟨h1, h2⟩
    have := p.isLt
    omega

theorem whole10 : (cfg0.win 10).WholeAt t0_15 := by decide +kernel

theorem ix2_eta' (y : S2048x128.Idx) : y = ix2 (⟨(y 0).val, (y 0).isLt⟩ : Fin 2048) (⟨(y 1).val, (y 1).isLt⟩ : Fin 128) := by
  funext a; match a with | ⟨0, _⟩ => rfl | ⟨1, _⟩ => rfl

theorem arr10 : (dats m 0 c).arrAt 10 cfg0.N = csA (qA m c) (kA m c) (vA m c) (doA m c) (lseA m c) (deltaA m c) (crowA m c) (ccolA m c) := by
  refine (dats m 0 c).arrAt_eq_of_after_last 10 t0_15 whole10 _ fun y => ?_
  blk_simp
  rw [after0_10]
  obtain ⟨j, l, rfl⟩ : ∃ (j : Fin 2048) (l : Fin 128), y = ix2 j l := ⟨_, _, ix2_eta' y⟩
  exact last m c t0_15 (show (15 : ℕ) + 1 = cfg0.N from N_0.symm) j l
end

end Cert.Dkv

end
-- ==== Proof.Dkv.Arrays2.lean ====
module

public import proofs.«01_k».proof.Proof.Dkv.PointA
public import proofs.«01_k».proof.Proof.Dkv.PointB
public import proofs.«01_k».proof.Proof.Dkv.PointA10
public import proofs.«01_k».proof.Proof.Dkv.PointB10
public import proofs.«01_k».proof.Proof.Dkv.Arrays
public import proofs.«01_k».proof.Proof.Gen.KernelIdeal.Value
public import Idealize.ShloMosaic.Lib.Pipeline.ValueKit

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem

section
variable (m : (ℓ : Loc nD τ sig) → Buf (Elt Idealize.ShloMosaic.Ideal) ℓ) (c : Dev nD)

theorem out8 (t : Fin cfg0.N) : (outsAt0 m c t.val t.isLt).1 = k0_pay33 (carried (kb t) (iblk m c 0 t) (iblk m c 1 t) (iblk m c 2 t) (iblk m c 3 t) (iblk m c 4 t) (iblk m c 5 t) (iblk m c 6 t) (iblk m c 7 t)).1 := by
  by_cases h0 : t.val % 16 = 0
  · simp only [outsAt0_A m c t h0]
    rw [out0_A_8_eq (n := kb t) (h := coords1 t)]
  · simp only [outsAt0_B m c t h0]
    rw [out0_B_8_eq (n := kb t) (h := coords1 t)]

theorem out9 (t : Fin cfg0.N) : (outsAt0 m c t.val t.isLt).2.1 = (carried (kb t) (iblk m c 0 t) (iblk m c 1 t) (iblk m c 2 t) (iblk m c 3 t) (iblk m c 4 t) (iblk m c 5 t) (iblk m c 6 t) (iblk m c 7 t)).2.1 := by
  by_cases h0 : t.val % 16 = 0
  · simp only [outsAt0_A m c t h0]
    rw [out0_A_9_eq (n := kb t) (h := coords1 t)]
  · simp only [outsAt0_B m c t h0]
    rw [out0_B_9_eq (n := kb t) (h := coords1 t)]

theorem hdOf_lane (h : Fin 8) (d : Fin 128) : hdOf (lane h d) = h := Fin.ext (by show (h.val * 128 + d.val) / 128 = h.val; omega)

/-- A point's block of the keys' gradient is the array's block. -/
theorem point8 (t : Fin cfg0.N) (j : Fin 1024) (d : Fin 128) :
    (k0_pay33 (carried (kb t) (iblk m c 0 t) (iblk m c 1 t) (iblk m c 2 t) (iblk m c 3 t) (iblk m c 4 t) (iblk m c 5 t) (iblk m c 6 t) (iblk m c 7 t)).1 (ix2 j d) : EReal)
      = dkA (qA m c) (kA m c) (vA m c) (doA m c) (lseA m c) (deltaA m c) (crowA m c) (ccolA m c) (ix2 (seqAt (kb t) j) (lane (hd t) d)) := by
  rw [pay33_apply, carried_1]
  simp only [dst_blk, blk_q]
  show _ = (∑ i : Fin 2048, dsA _ _ _ _ _ _ _ _ (hdOf (lane (hd t) d)) (seqAt (kb t) j) i * qA m c (ix2 i (lane (hd t) d))) * scl
  rw [hdOf_lane]

/-- A point's block of the values' gradient is the array's block. -/
theorem point9 (t : Fin cfg0.N) (j : Fin 1024) (d : Fin 128) :
    ((carried (kb t) (iblk m c 0 t) (iblk m c 1 t) (iblk m c 2 t) (iblk m c 3 t) (iblk m c 4 t) (iblk m c 5 t) (iblk m c 6 t) (iblk m c 7 t)).2.1 (ix2 j d) : EReal)
      = dvA (qA m c) (kA m c) (doA m c) (lseA m c) (crowA m c) (ccolA m c) (ix2 (seqAt (kb t) j) (lane (hd t) d)) := by
  rw [carried_2]
  simp only [pm_blk, blk_do]
  show _ = ∑ i : Fin 2048, pmA _ _ _ _ _ (hdOf (lane (hd t) d)) (seqAt (kb t) j) i * doA m c (ix2 i (lane (hd t) d))
  rw [hdOf_lane]

theorem emb8 (t : Fin cfg0.N) (j : Fin 1024) (d : Fin 128) : (win0_8.blk t).view.emb (ix2 j d) = (ix2 (seqAt (kb t) j) (lane (hd t) d) : S2048x1024.Idx) := by
  blk_ext [(idx t).2.2.2.2.2.2.2.2.1]
theorem emb9 (t : Fin cfg0.N) (j : Fin 1024) (d : Fin 128) : (win0_9.blk t).view.emb (ix2 j d) = (ix2 (seqAt (kb t) j) (lane (hd t) d) : S2048x1024.Idx) := by
  blk_ext [(idx t).2.2.2.2.2.2.2.2.2]

theorem ix2_eta (y : S1024x128.Idx) : y = ix2 (⟨(y 0).val, (y 0).isLt⟩ : Fin 1024) (⟨(y 1).val, (y 1).isLt⟩ : Fin 128) := by
  funext a; match a with | ⟨0, _⟩ => rfl | ⟨1, _⟩ => rfl

theorem covers8 : (cfg0.win 8).Covers := by decide +kernel
theorem covers9 : (cfg0.win 9).Covers := by decide +kernel

theorem arr8 : (dats m 0 c).arrAt 8 cfg0.N = dkA (qA m c) (kA m c) (vA m c) (doA m c) (lseA m c) (deltaA m c) (crowA m c) (ccolA m c) := by
  refine (dats m 0 c).arrAt_eq_of_covers 8 _ covers8 fun t hf y => ?_
  blk_simp
  rw [after0_8, out8]
  obtain ⟨j, d, rfl⟩ : ∃ (j : Fin 1024) (d : Fin 128), y = ix2 j d := ⟨_, _, ix2_eta y⟩
  exact (point8 m c t j d).trans (congrArg _ (emb8 t j d).symm)

theorem arr9 : (dats m 0 c).arrAt 9 cfg0.N = dvA (qA m c) (kA m c) (doA m c) (lseA m c) (crowA m c) (ccolA m c) := by
  refine (dats m 0 c).arrAt_eq_of_covers 9 _ covers9 fun t hf y => ?_
  blk_simp
  rw [after0_9, out9]
  obtain ⟨j, d, rfl⟩ : ∃ (j : Fin 1024) (d : Fin 128), y = ix2 j d := ⟨_, _, ix2_eta y⟩
  exact (point9 m c t j d).trans (congrArg _ (emb9 t j d).symm)

end

end Cert.Dkv

end
-- ==== Proof.Dkv.Final.lean ====
module

public import proofs.«01_k».proof.Proof.Dkv.Finite
public import proofs.«01_k».proof.Proof.Dkv.Arrays3
public import proofs.«01_k».proof.Proof.Dkv.Arrays2
public import proofs.«01_k».proof.Proof.Gen.ReferenceIdeal.Read
public import Idealize.ShloMosaic.Lib.Claim

@[expose] public section

set_option maxRecDepth 16384

noncomputable section

namespace Cert.Dkv

open Cert.KernelIdeal Cert.KernelIdeal.Gen Idealize.ShloMosaic Idealize.ShloMosaic.TcCoe Idealize.ShloMosaic.Tactic Idealize.SL.Sem
open Cert.ReferenceIdeal.Read

/-! # The kernel's result arrays are the reference's -/

theorem at_lane (y : S2048x1024.Idx) : y = ix2 (y 0) (lane (hdOf (y 1)) ⟨(y 1).val % 128, by omega⟩) := by
  refine (?_ : y = ix2 (y 0) (y 1)).trans ?_
  · funext a; fin_cases a <;> rfl
  · refine congrArg (ix2 (y 0)) (Fin.ext ?_)
    show (y 1).val = (y 1).val / 128 * 128 + (y 1).val % 128
    omega
theorem ext_lane (f g : S2048x1024.Idx → EReal) (e : ∀ (j : Fin 2048) (h : Fin 8) (d : Fin 128), f (ix2 j (lane h d)) = g (ix2 j (lane h d))) : f = g := by
  funext y
  rw [at_lane y]
  exact e _ _ _
theorem ext_col (f g : S2048x128.Idx → EReal) (e : ∀ (j : Fin 2048) (l : Fin 128), f (ix2 j l) = g (ix2 j l)) : f = g := by
  funext y
  have hy : y = ix2 (y 0) (y 1) := by funext a; fin_cases a <;> rfl
  rw [hy]
  exact e _ _

section
variable (x0 x1 x2 : S2048x1024.Idx → EReal) (x3 : S2048x8.Idx → EReal) (x4 : S2048x1024.Idx → EReal)
variable (lse delta crow : S8x1x2048.Idx → EReal) (ccol : S8x2048x128.Idx → EReal)

theorem results
    (h0 : ∀ y, ∃ r : ℝ, x0 y = (r : EReal)) (h1 : ∀ y, ∃ r : ℝ, x1 y = (r : EReal)) (h2 : ∀ y, ∃ r : ℝ, x2 y = (r : EReal)) (h3 : ∀ y, ∃ r : ℝ, x3 y = (r : EReal))
    (h4 : ∀ y, ∃ r : ℝ, x4 y = (r : EReal))
    (hcrow : ∀ h i, crow (ix3 h 0 i) = val_main_v1 (F := I) x3 (ix2 h i))
    (hccol : ∀ h j l, ccol (ix3 h j l) = val_main_v1 (F := I) x3 (ix2 h j))
    (hlse : ∀ h i, lse (ix3 h 0 i) = val_main_v32 (F := I) x0 x1 x3 (ix2 h i) + Ideal.log (val_main_v46 (F := I) x0 x1 x3 (ix2 h i)))
    (hdelta : ∀ h i, delta (ix3 h 0 i) = ∑ j : Fin 2048, (val_main_v49 (F := I) x0 x1 x3 (ix3 h i j) * val_main_v57 (F := I) x2 x4 (ix3 h i j) : EReal)) :
    dkA x0 x1 x2 x4 lse delta crow ccol = (val_main_v85 (F := I) x0 x1 x2 x3 x4 : S2048x1024.Idx → EReal)
    ∧ dvA x0 x1 x4 lse crow ccol = (val_main_v86 (F := I) x0 x1 x3 x4 : S2048x1024.Idx → EReal)
    ∧ csA x0 x1 x2 x4 lse delta crow ccol = (val_main_v89 (F := I) x0 x1 x2 x3 x4 : S2048x128.Idx → EReal) := by
  obtain ⟨cc, hc⟩ := c_real x3 h3
  choose q hq using h0
  choose k hk using h1
  choose v hv using h2
  choose o ho using h4
  choose p g e1 e2 e3 e4 e5 using cells x0 x1 x2 x3 x4 lse delta crow ccol q k v o cc hq hk hv ho hc hcrow hccol hlse hdelta
  obtain ⟨s, hs⟩ := scl_real
  refine ⟨?_, ?_, ?_⟩
  · refine ext_lane _ _ fun j h d => ?_
    rw [r85]
    show (∑ i : Fin 2048, dsA x0 x1 x2 x4 lse delta crow ccol (hdOf (lane h d)) j i * x0 (ix2 i (lane h d))) * scl = _
    rw [hdOf_lane, sum_real _ (fun i => g h i j * q (ix2 i (lane h d))) (fun i => by rw [e3, hq, EReal.coe_mul]),
      sum_real _ (fun i => g h i j * s * q (ix2 i (lane h d))) (fun i => by rw [e4, hq, hs, EReal.coe_mul, EReal.coe_mul]), hs, ← EReal.coe_mul, Finset.sum_mul]
    exact congrArg Real.toEReal (Finset.sum_congr rfl fun i _ => by ring)
  · refine ext_lane _ _ fun j h d => ?_
    rw [r86]
    show (∑ i : Fin 2048, pmA x0 x1 lse crow ccol (hdOf (lane h d)) j i * x4 (ix2 i (lane h d))) = _
    rw [hdOf_lane]
    exact Finset.sum_congr rfl fun i _ => by rw [e1, e2]; exact mul_comm _ _
  · refine ext_col _ _ fun j l => ?_
    rw [r89]
    show (if hl : l.val < 8 then ∑ i : Fin 2048, dsA x0 x1 x2 x4 lse delta crow ccol ⟨l.val, hl⟩ j i else 0) = _
    split
    · rename_i hl
      generalize (⟨l.val, hl⟩ : Fin 8) = h
      rw [r80, sum_real _ _ (fun i => e3 h i j), sum_real _ (fun i => -g h i j) (fun i => by rw [e4, EReal.coe_neg]),
        sum_real _ _ (fun i => e4 h j i), e5, Finset.sum_neg_distrib, ← EReal.coe_add, ← EReal.coe_neg]
      exact congrArg Real.toEReal (by ring)
    · rfl
end

section
variable (m : (ℓ : Loc nD τ sig) → Buf (Elt Idealize.ShloMosaic.Ideal) ℓ) (c : Dev nD)

theorem final (h0 : ∀ y, ∃ r : ℝ, a0 m c y = (r : EReal)) (h1 : ∀ y, ∃ r : ℝ, a1 m c y = (r : EReal)) (h2 : ∀ y, ∃ r : ℝ, a2 m c y = (r : EReal)) (h3 : ∀ y, ∃ r : ℝ, a3 m c y = (r : EReal))
    (h4 : ∀ y, ∃ r : ℝ, a4 m c y = (r : EReal)) :
    ((dats m 0 c).arrAt 8 cfg0.N : S2048x1024.Idx → EReal) = val_main_v85 (F := I) (a0 m c) (a1 m c) (a2 m c) (a3 m c) (a4 m c)
    ∧ ((dats m 0 c).arrAt 9 cfg0.N : S2048x1024.Idx → EReal) = val_main_v86 (F := I) (a0 m c) (a1 m c) (a3 m c) (a4 m c)
    ∧ ((dats m 0 c).arrAt 10 cfg0.N : S2048x128.Idx → EReal) = val_main_v89 (F := I) (a0 m c) (a1 m c) (a2 m c) (a3 m c) (a4 m c) := by
  have e := results (a0 m c) (a1 m c) (a2 m c) (a3 m c) (a4 m c) (lseA m c) (deltaA m c) (crowA m c) (ccolA m c) h0 h1 h2 h3 h4
    (crow_apply m c) (ccol_apply m c) (lse_apply m c) (delta_apply m c)
  have f8 := arr8 m c
  have f9 := arr9 m c
  have f10 := arr10 m c
  rw [host_q, host_k, host_v, host_do] at f8 f10
  rw [host_q, host_k, host_do] at f9
  exact ⟨f8.trans e.1, f9.trans e.2.1, f10.trans e.2.2⟩
end

end Cert.Dkv

end
-- ==== Proof.Bwd.Dgu.lean ====
module

public import proofs.«01_k».proof.Defs
public import proofs.«01_k».proof.Proof.Gen.DguIdeal
public import proofs.«01_k».proof.Proof.Gen.DguIdeal.Value
public import proofs.«01_k».proof.Proof.Gen.DguRefIdeal
public import proofs.«01_k».proof.Proof.Gen.DguRefIdeal.Run
public import proofs.«01_k».proof.Proof.Gen.DguRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise
public import proofs.«01_k».proof.Proof.Dkv.Finite

@[expose] public section

set_option maxRecDepth 16384

noncomputable section

namespace Cert.Bwd.Dgu

open Cert.DguIdeal Cert.DguIdeal.Gen Idealize.ShloMosaic Idealize.ShloMosaic.TcCoe Idealize.ShloMosaic.Tactic Idealize.SL.Sem

/-! # The gradients of the gate and of the upper half, from the saved halves and the product's gradient -/

/-- The index maps: a block of rows and a block of columns. -/
theorem idx : ∀ t : Fin cfg0.N, win0_0.index t = ![t.val / 4, 0] ∧ win0_1.index t = ![0, t.val % 4, 0, 0] ∧ win0_2.index t = ![0, t.val % 4, t.val / 4, 0] ∧ win0_3.index t = ![1, t.val % 4, t.val / 4, 0] ∧ win0_4.index t = ![0, t.val % 4, t.val / 4, 0] :=
  (by decide +kernel : ∀ t : Fin grid0.N, _)

def half1 : EReal := Ideal.ofBits .f32 0x3F000000#32

theorem half1_eq : half1 = ((1 / 2 : ℝ) : EReal) := by
  unfold half1
  simp [Ideal.ofBits, Ideal.ieee, -EReal.coe_mul]
  try norm_num

theorem half1_mul_sum {n : ℕ} (f : Fin n → EReal) : half1 * ∑ s, f s = ∑ s, half1 * f s := by
  have h0 : (0 : EReal) ≤ half1 := by rw [half1_eq]; exact EReal.coe_nonneg.mpr (by norm_num)
  have h1 : half1 ≠ ⊤ := by rw [half1_eq]; exact EReal.coe_ne_top _
  induction n with
  | zero => simp
  | succ n ih => rw [Fin.sum_univ_castSucc, Fin.sum_univ_castSucc, EReal.left_distrib_of_nonneg_of_ne_top h0 h1, ih]
/-- The logistic function. -/
def lgs (g : EReal) : EReal := Ideal.div 1 (1 + Ideal.exp (-g))

theorem pay2 (x0 : Vec Idealize.ShloMosaic.Ideal S1024x1024 .f32) (x1 : Vec Idealize.ShloMosaic.Ideal S1x1x704x1024 .bf16) (s : Fin 1024) (f : Fin 704) :
    (k0_pay2 x0 x1 (ix2 s f) : EReal) = half1 * ∑ d : Fin 1024, x0 (ix2 s d) * x1 (ix4 0 0 f d) := by
  unfold k0_pay2
  pointwise
  rfl

theorem pay3 (g : Vec Idealize.ShloMosaic.Ideal S1x1x1024x704 .f32) (s : Fin 1024) (f : Fin 704) :
    (k0_pay3 g (ix2 s f) : EReal) = g (ix4 0 0 s f) := by
  unfold k0_pay3
  pointwise

theorem pay4 (g : Vec Idealize.ShloMosaic.Ideal S1x1x1024x704 .f32) (s : Fin 1024) (f : Fin 704) :
    (k0_pay4 g (ix2 s f) : EReal) = lgs (g (ix4 0 0 s f)) := by
  unfold k0_pay4 lgs
  pointwise
  rw [pay3, sub_eq_add_neg, zero_add]

theorem pay5 (x0 : Vec Idealize.ShloMosaic.Ideal S1024x1024 .f32) (x1 : Vec Idealize.ShloMosaic.Ideal S1x1x704x1024 .bf16) (g u : Vec Idealize.ShloMosaic.Ideal S1x1x1024x704 .f32) (s : Fin 1024) (f : Fin 704) :
    (k0_pay5 x0 x1 g u (ix4 0 0 s f) : EReal) = (half1 * ∑ d : Fin 1024, x0 (ix2 s d) * x1 (ix4 0 0 f d)) * u (ix4 0 0 s f) * (lgs (g (ix4 0 0 s f)) + g (ix4 0 0 s f) * lgs (g (ix4 0 0 s f)) * (1 - lgs (g (ix4 0 0 s f)))) := by
  rw [← pay2, ← pay4]
  unfold k0_pay5
  pointwise
  rw [pay3]

theorem pay6 (x0 : Vec Idealize.ShloMosaic.Ideal S1024x1024 .f32) (x1 : Vec Idealize.ShloMosaic.Ideal S1x1x704x1024 .bf16) (g : Vec Idealize.ShloMosaic.Ideal S1x1x1024x704 .f32) (s : Fin 1024) (f : Fin 704) :
    (k0_pay1 (k0_pay6 x0 x1 g) (ix4 0 0 s f) : EReal) = (half1 * ∑ d : Fin 1024, x0 (ix2 s d) * x1 (ix4 0 0 f d)) * g (ix4 0 0 s f) * lgs (g (ix4 0 0 s f)) := by
  rw [← pay2, ← pay4]
  unfold k0_pay1 k0_pay6
  pointwise
  rw [pay3]

theorem refA (x0 : (⟨S2048x1024, .f32⟩ : BufTy).Contents (Elt Idealize.ShloMosaic.Ideal)) (x1 : (⟨S1x4x704x1024, .bf16⟩ : BufTy).Contents (Elt Idealize.ShloMosaic.Ideal)) (j : Fin 4) (s : Fin 2048) (f : Fin 704) :
    (Cert.DguRefIdeal.Read.val_main_v14 (F := Idealize.ShloMosaic.Ideal) x0 x1 (ix3 j s f) : EReal) = ∑ d : Fin 1024, half1 * x0 (ix2 s d) * x1 (ix4 0 j f d) := by
  unfold Cert.DguRefIdeal.Read.val_main_v14 Cert.DguRefIdeal.Read.val_main_v13 Cert.DguRefIdeal.Read.val_main_v12 Cert.DguRefIdeal.Read.val_main_v11 Cert.DguRefIdeal.Read.val_main_v1 Cert.DguRefIdeal.Read.val_main_v0 Cert.DguRefIdeal.Read.val_main_cst_0
  pointwise
  rfl

theorem refS (x2 : (⟨S2x4x2048x704, .f32⟩ : BufTy).Contents (Elt Idealize.ShloMosaic.Ideal)) (j : Fin 4) (s : Fin 2048) (f : Fin 704) :
    (Cert.DguRefIdeal.Read.val_main_v4_2 (F := Idealize.ShloMosaic.Ideal) x2 (ix3 j s f) : EReal) = lgs (x2 (ix4 0 j s f)) := by
  unfold Cert.DguRefIdeal.Read.val_main_v4_2 Cert.DguRefIdeal.Read.val_main_call0_v4 Cert.DguRefIdeal.Read.val_main_call0_v3 Cert.DguRefIdeal.Read.val_main_call0_v2 Cert.DguRefIdeal.Read.val_main_call0_v1 Cert.DguRefIdeal.Read.val_main_call0_v0 Cert.DguRefIdeal.Read.val_main_call0_cst Cert.DguRefIdeal.Read.val_main_call0_cst_0 Cert.DguRefIdeal.Read.val_main_v3 Cert.DguRefIdeal.Read.val_main_v2
  pointwise
  rfl

theorem refG (x2 : (⟨S2x4x2048x704, .f32⟩ : BufTy).Contents (Elt Idealize.ShloMosaic.Ideal)) (j : Fin 4) (s : Fin 2048) (f : Fin 704) :
    (Cert.DguRefIdeal.Read.val_main_v3 (F := Idealize.ShloMosaic.Ideal) x2 (ix3 j s f) : EReal) = x2 (ix4 0 j s f) := by
  unfold Cert.DguRefIdeal.Read.val_main_v3 Cert.DguRefIdeal.Read.val_main_v2
  pointwise

theorem refU (x2 : (⟨S2x4x2048x704, .f32⟩ : BufTy).Contents (Elt Idealize.ShloMosaic.Ideal)) (j : Fin 4) (s : Fin 2048) (f : Fin 704) :
    (Cert.DguRefIdeal.Read.val_main_v6 (F := Idealize.ShloMosaic.Ideal) x2 (ix3 j s f) : EReal) = x2 (ix4 1 j s f) := by
  unfold Cert.DguRefIdeal.Read.val_main_v6 Cert.DguRefIdeal.Read.val_main_v5
  pointwise

/-- The product's gradient. -/
def da (x0 : S2048x1024.Idx → EReal) (x1 : S1x4x704x1024.Idx → EReal) (j : Fin 4) (s : Fin 2048) (f : Fin 704) : EReal :=
  half1 * ∑ d : Fin 1024, x0 (ix2 s d) * x1 (ix4 0 j f d)

theorem ref14 (x0 : (⟨S2048x1024, .f32⟩ : BufTy).Contents (Elt Idealize.ShloMosaic.Ideal)) (x1 : (⟨S1x4x704x1024, .bf16⟩ : BufTy).Contents (Elt Idealize.ShloMosaic.Ideal)) (j : Fin 4) (s : Fin 2048) (f : Fin 704) :
    (Cert.DguRefIdeal.Read.val_main_v14 (F := Idealize.ShloMosaic.Ideal) x0 x1 (ix3 j s f) : EReal) = da x0 x1 j s f := by
  rw [refA]
  unfold da
  rw [half1_mul_sum]
  exact Finset.sum_congr rfl fun d _ => mul_assoc _ _ _

theorem ref0 (x0 : (⟨S2048x1024, .f32⟩ : BufTy).Contents (Elt Idealize.ShloMosaic.Ideal)) (x1 : (⟨S1x4x704x1024, .bf16⟩ : BufTy).Contents (Elt Idealize.ShloMosaic.Ideal)) (x2 : (⟨S2x4x2048x704, .f32⟩ : BufTy).Contents (Elt Idealize.ShloMosaic.Ideal)) (j : Fin 4) (s : Fin 2048) (f : Fin 704) :
    (Cert.DguRefIdeal.Read.val_main_v23 (F := Idealize.ShloMosaic.Ideal) x0 x1 x2 (ix4 0 j s f) : EReal) = da x0 x1 j s f * x2 (ix4 1 j s f) * lgs (x2 (ix4 0 j s f)) + x2 (ix4 0 j s f) * (da x0 x1 j s f * x2 (ix4 1 j s f)) * (lgs (x2 (ix4 0 j s f)) * (1 - lgs (x2 (ix4 0 j s f)))) := by
  rw [← refS x2 j s f, ← refG x2 j s f, ← refU x2 j s f, ← ref14 x0 x1 j s f]
  unfold Cert.DguRefIdeal.Read.val_main_v23 Cert.DguRefIdeal.Read.val_main_v22 Cert.DguRefIdeal.Read.val_main_v21 Cert.DguRefIdeal.Read.val_main_v20 Cert.DguRefIdeal.Read.val_main_v18 Cert.DguRefIdeal.Read.val_main_v17 Cert.DguRefIdeal.Read.val_main_cst_1 Cert.DguRefIdeal.Read.val_main_cst_2 Cert.DguRefIdeal.Read.val_main_v19 Cert.DguRefIdeal.Read.val_main_call1_v2 Cert.DguRefIdeal.Read.val_main_call1_v1 Cert.DguRefIdeal.Read.val_main_call1_v0 Cert.DguRefIdeal.Read.val_main_v16 Cert.DguRefIdeal.Read.val_main_v4_1 Cert.DguRefIdeal.Read.val_main_call0_v7 Cert.DguRefIdeal.Read.val_main_call0_v6 Cert.DguRefIdeal.Read.val_main_call0_cst_1
  pointwise
  try rfl

theorem ref1 (x0 : (⟨S2048x1024, .f32⟩ : BufTy).Contents (Elt Idealize.ShloMosaic.Ideal)) (x1 : (⟨S1x4x704x1024, .bf16⟩ : BufTy).Contents (Elt Idealize.ShloMosaic.Ideal)) (x2 : (⟨S2x4x2048x704, .f32⟩ : BufTy).Contents (Elt Idealize.ShloMosaic.Ideal)) (j : Fin 4) (s : Fin 2048) (f : Fin 704) :
    (Cert.DguRefIdeal.Read.val_main_v23 (F := Idealize.ShloMosaic.Ideal) x0 x1 x2 (ix4 1 j s f) : EReal) = x2 (ix4 0 j s f) * lgs (x2 (ix4 0 j s f)) * da x0 x1 j s f := by
  rw [← refS x2 j s f, ← refG x2 j s f, ← ref14 x0 x1 j s f]
  unfold Cert.DguRefIdeal.Read.val_main_v23 Cert.DguRefIdeal.Read.val_main_v22 Cert.DguRefIdeal.Read.val_main_v21 Cert.DguRefIdeal.Read.val_main_v20 Cert.DguRefIdeal.Read.val_main_v18 Cert.DguRefIdeal.Read.val_main_v17 Cert.DguRefIdeal.Read.val_main_cst_1 Cert.DguRefIdeal.Read.val_main_cst_2 Cert.DguRefIdeal.Read.val_main_v15 Cert.DguRefIdeal.Read.val_main_v4_0
  pointwise
  try rfl

theorem sig_real (r : ℝ) : ∃ q : ℝ, lgs (r : EReal) = (q : EReal) := by
  unfold lgs
  have h : (1 : ℝ) + Real.exp (-r) ≠ 0 := by positivity
  refine ⟨1 * (1 / (1 + Real.exp (-r))), ?_⟩
  rw [← EReal.coe_neg, Ideal.exp_coe, ← EReal.coe_one, ← EReal.coe_add, Ideal.div_coe h, EReal.coe_mul]

theorem da_real (x0 : S2048x1024.Idx → EReal) (x1 : S1x4x704x1024.Idx → EReal) (h0 : ∀ y, ∃ r : ℝ, x0 y = (r : EReal)) (h1 : ∀ y, ∃ r : ℝ, x1 y = (r : EReal)) (j : Fin 4) (s : Fin 2048) (f : Fin 704) :
    ∃ r : ℝ, da x0 x1 j s f = (r : EReal) := by
  choose a ha using h0
  choose b hb using h1
  refine ⟨1 / 2 * ∑ d : Fin 1024, a (ix2 s d) * b (ix4 0 j f d), ?_⟩
  unfold da
  simp only [ha, hb, half1_eq, ← EReal.coe_mul]
  rw [EReal.coe_mul]
  exact congrArg (fun q : EReal => ((1 / 2 : ℝ) : EReal) * q) (Cert.Dkv.coe_sum _ _).symm

/-- The gradients of the two halves, from the whole arrays. -/
def dgu (x0 : S2048x1024.Idx → EReal) (x1 : S1x4x704x1024.Idx → EReal) (x2 : S2x4x2048x704.Idx → EReal) (p : Fin 2) (j : Fin 4) (s : Fin 2048) (f : Fin 704) : EReal :=
  match p with
  | ⟨0, _⟩ => da x0 x1 j s f * x2 (ix4 1 j s f) * (lgs (x2 (ix4 0 j s f)) + x2 (ix4 0 j s f) * lgs (x2 (ix4 0 j s f)) * (1 - lgs (x2 (ix4 0 j s f))))
  | ⟨1, _⟩ => da x0 x1 j s f * x2 (ix4 0 j s f) * lgs (x2 (ix4 0 j s f))

def grad (x0 : S2048x1024.Idx → EReal) (x1 : S1x4x704x1024.Idx → EReal) (x2 : S2x4x2048x704.Idx → EReal) : S2x4x2048x704.Idx → EReal :=
  fun y => dgu x0 x1 x2 (y 0) (y 1) (y 2) (y 3)

theorem eta_res (y : S2x4x2048x704.Idx) : y = ix4 (⟨(y 0).val, (y 0).isLt⟩ : Fin 2) (⟨(y 1).val, (y 1).isLt⟩ : Fin 4) (⟨(y 2).val, (y 2).isLt⟩ : Fin 2048) (⟨(y 3).val, (y 3).isLt⟩ : Fin 704) := by
  funext a
  match a with
  | ⟨0, _⟩ => rfl
  | ⟨1, _⟩ => rfl
  | ⟨2, _⟩ => rfl
  | ⟨3, _⟩ => rfl

theorem eta_blk (y : S2x1x1024x704.Idx) : y = ix4 (⟨(y 0).val, (y 0).isLt⟩ : Fin 2) 0 (⟨(y 2).val, (y 2).isLt⟩ : Fin 1024) (⟨(y 3).val, (y 3).isLt⟩ : Fin 704) := by
  funext a
  match a with
  | ⟨0, _⟩ => rfl
  | ⟨1, _⟩ => exact Subsingleton.elim (α := Fin 1) _ _
  | ⟨2, _⟩ => rfl
  | ⟨3, _⟩ => rfl

theorem eta_half (y : S1x1x1024x704.Idx) : y = ix4 0 0 (⟨(y 2).val, (y 2).isLt⟩ : Fin 1024) (⟨(y 3).val, (y 3).isLt⟩ : Fin 704) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem ref (x0 : S2048x1024.Idx → EReal) (x1 : S1x4x704x1024.Idx → EReal) (x2 : S2x4x2048x704.Idx → EReal)
    (h0 : ∀ y, ∃ r : ℝ, x0 y = (r : EReal)) (h1 : ∀ y, ∃ r : ℝ, x1 y = (r : EReal)) (h2 : ∀ y, ∃ r : ℝ, x2 y = (r : EReal)) :
    Cert.DguRefIdeal.Read.val_main_v23 (F := Idealize.ShloMosaic.Ideal) x0 x1 x2 = grad x0 x1 x2 := by
  funext y
  obtain ⟨p, j, s, f, rfl⟩ : ∃ (p : Fin 2) (j : Fin 4) (s : Fin 2048) (f : Fin 704), y = ix4 p j s f := ⟨_, _, _, _, eta_res y⟩
  match p with
  | ⟨0, _⟩ =>
    refine (ref0 x0 x1 x2 j s f).trans ?_
    show _ = da x0 x1 j s f * x2 (ix4 1 j s f) * (lgs (x2 (ix4 0 j s f)) + x2 (ix4 0 j s f) * lgs (x2 (ix4 0 j s f)) * (1 - lgs (x2 (ix4 0 j s f))))
    obtain ⟨a, ha⟩ := da_real x0 x1 h0 h1 j s f
    obtain ⟨u, hu⟩ := h2 (ix4 1 j s f)
    obtain ⟨g, hg⟩ := h2 (ix4 0 j s f)
    obtain ⟨q, hq⟩ := sig_real g
    rw [ha, hu, hg, hq]
    simp only [← EReal.coe_one, ← EReal.coe_mul, ← EReal.coe_add, ← EReal.coe_sub]
    refine congrArg Real.toEReal ?_
    ring
  | ⟨1, _⟩ =>
    refine (ref1 x0 x1 x2 j s f).trans ?_
    show _ = da x0 x1 j s f * x2 (ix4 0 j s f) * lgs (x2 (ix4 0 j s f))
    rw [mul_comm (_ * _) (da x0 x1 j s f), ← mul_assoc]

/-- What a point leaves of each half. -/
def piece (x0 : Vec Idealize.ShloMosaic.Ideal S1024x1024 .f32) (x1 : Vec Idealize.ShloMosaic.Ideal S1x1x704x1024 .bf16) (x2 x3 : Vec Idealize.ShloMosaic.Ideal S1x1x1024x704 .f32) (p : Fin 2) (s : Fin 1024) (f : Fin 704) : EReal :=
  match p with
  | ⟨0, _⟩ => k0_pay5 x0 x1 x2 x3 (ix4 0 0 s f)
  | ⟨1, _⟩ => k0_pay1 (k0_pay6 x0 x1 x2) (ix4 0 0 s f)

theorem out_eq (x0 : Vec Idealize.ShloMosaic.Ideal S1024x1024 .f32) (x1 : Vec Idealize.ShloMosaic.Ideal S1x1x704x1024 .bf16) (x2 x3 : Vec Idealize.ShloMosaic.Ideal S1x1x1024x704 .f32) (p : Fin 2) (s : Fin 1024) (f : Fin 704) :
    (out0_4 x0 x1 x2 x3 (ix4 p 0 s f) : EReal) = piece x0 x1 x2 x3 p s f := by
  unfold out0_4
  refine View.canon_apply_of_pieces (Val := Elt Idealize.ShloMosaic.Ideal) (e := .bf16) (fun y : S2x1x1024x704.Idx => piece x0 x1 x2 x3 (y 0) (y 2) (y 3)) _ ?_ _ (cover0_4 _ _ _)
  rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl | ⟨2, _⟩ => rfl | ⟨3, _⟩ => rfl)]
  intro q hq
  rcases List.mem_cons.mp hq with rfl | hq
  · intro y
    obtain ⟨s, f, rfl⟩ : ∃ (s : Fin 1024) (f : Fin 704), y = ix4 0 0 s f := ⟨_, _, eta_half y⟩
    show _ = piece x0 x1 x2 x3 ⟨1 + 1 * 0, _⟩ ⟨0 + 1 * s.val, _⟩ ⟨0 + 1 * f.val, _⟩
    simp only [Nat.one_mul, Nat.zero_add]
    rfl
  rcases List.mem_cons.mp hq with rfl | hq
  · intro y
    obtain ⟨s, f, rfl⟩ : ∃ (s : Fin 1024) (f : Fin 704), y = ix4 0 0 s f := ⟨_, _, eta_half y⟩
    show _ = piece x0 x1 x2 x3 ⟨0 + 1 * 0, _⟩ ⟨0 + 1 * s.val, _⟩ ⟨0 + 1 * f.val, _⟩
    simp only [Nat.one_mul, Nat.zero_add]
    rfl
  exact absurd hq List.not_mem_nil

section
variable (m : (ℓ : Loc nD τ sig) → Buf (Elt Idealize.ShloMosaic.Ideal) ℓ) (c : Dev nD)

abbrev dx : S2048x1024.Idx → EReal := m ((c : Thread nD τ).loc main_arg0)
abbrev wd : S1x4x704x1024.Idx → EReal := m ((c : Thread nD τ).loc main_arg1)
abbrev gu : S2x4x2048x704.Idx → EReal := m ((c : Thread nD τ).loc main_arg2)

abbrev pj (t : Fin cfg0.N) : Fin 4 := ⟨t.val % 4, by omega⟩
abbrev ps (t : Fin cfg0.N) (s : Fin 1024) : Fin 2048 := ⟨t.val / 4 * 1024 + s.val, by have := t.isLt; have e : cfg0.N = 8 := N_0; omega⟩

theorem blk0 (t : Fin cfg0.N) (s : Fin 1024) (d : Fin 1024) : (iblk m c 0 t (ix2 s d) : EReal) = dx m c (ix2 (ps t s) d) := by
  show dx m c ((win0_0.blk t).view.emb (ix2 s d)) = _
  generalize dx m c = W; blk_ext [(idx t).1]
theorem blk1 (t : Fin cfg0.N) (f : Fin 704) (d : Fin 1024) : (iblk m c 1 t (ix4 0 0 f d) : EReal) = wd m c (ix4 0 (pj t) f d) := by
  show wd m c ((win0_1.blk t).view.emb (ix4 0 0 f d)) = _
  generalize wd m c = W; blk_ext [(idx t).2.1]
theorem blk2 (t : Fin cfg0.N) (s : Fin 1024) (f : Fin 704) : (iblk m c 2 t (ix4 0 0 s f) : EReal) = gu m c (ix4 0 (pj t) (ps t s) f) := by
  show gu m c ((win0_2.blk t).view.emb (ix4 0 0 s f)) = _
  generalize gu m c = W; blk_ext [(idx t).2.2.1]
theorem blk3 (t : Fin cfg0.N) (s : Fin 1024) (f : Fin 704) : (iblk m c 3 t (ix4 0 0 s f) : EReal) = gu m c (ix4 1 (pj t) (ps t s) f) := by
  show gu m c ((win0_3.blk t).view.emb (ix4 0 0 s f)) = _
  generalize gu m c = W; blk_ext [(idx t).2.2.2.1]
theorem emb4 (t : Fin cfg0.N) (p : Fin 2) (s : Fin 1024) (f : Fin 704) : (win0_4.blk t).view.emb (ix4 p 0 s f) = (ix4 p (pj t) (ps t s) f : S2x4x2048x704.Idx) := by
  blk_ext [(idx t).2.2.2.2]

theorem covers4 : (cfg0.win 4).Covers := by decide +kernel

abbrev dxb (t : Fin cfg0.N) : S1024x1024.Idx → EReal := iblk m c 0 t
abbrev wdb (t : Fin cfg0.N) : S1x1x704x1024.Idx → EReal := iblk m c 1 t

theorem da_blk (t : Fin cfg0.N) (s : Fin 1024) (f : Fin 704) :
    half1 * (∑ d : Fin 1024, dxb m c t (ix2 s d) * wdb m c t (ix4 0 0 f d)) = da (dx m c) (wd m c) (pj t) (ps t s) f := by
  unfold da
  exact congrArg (fun q : EReal => half1 * q) (Finset.sum_congr rfl fun d _ => congrArg₂ (fun p q : EReal => p * q) (blk0 m c t s d) (blk1 m c t f d))

theorem arr4 : (dats m 0 c).arrAt 4 cfg0.N = grad (dx m c) (wd m c) (gu m c) := by
  refine (dats m 0 c).arrAt_eq_of_covers 4 _ covers4 fun t hf y => ?_
  blk_simp
  rw [after0_4]
  obtain ⟨p, s, f, rfl⟩ : ∃ (p : Fin 2) (s : Fin 1024) (f : Fin 704), y = ix4 p 0 s f := ⟨_, _, _, eta_blk y⟩
  have e : (out0_4 (iblk m c 0 t) (iblk m c 1 t) (iblk m c 2 t) (iblk m c 3 t) (ix4 p 0 s f) : EReal) = grad (dx m c) (wd m c) (gu m c) (ix4 p (pj t) (ps t s) f) := by
    refine (out_eq _ _ _ _ p s f).trans ?_
    match p with
    | ⟨0, _⟩ =>
      refine (pay5 _ _ _ _ s f).trans ?_
      show _ = da (dx m c) (wd m c) (pj t) (ps t s) f * gu m c (ix4 1 (pj t) (ps t s) f) * (lgs (gu m c (ix4 0 (pj t) (ps t s) f)) + gu m c (ix4 0 (pj t) (ps t s) f) * lgs (gu m c (ix4 0 (pj t) (ps t s) f)) * (1 - lgs (gu m c (ix4 0 (pj t) (ps t s) f))))
      rw [← da_blk, ← blk2, ← blk3]
      first | done | rfl
    | ⟨1, _⟩ =>
      refine (pay6 _ _ _ s f).trans ?_
      show _ = da (dx m c) (wd m c) (pj t) (ps t s) f * gu m c (ix4 0 (pj t) (ps t s) f) * lgs (gu m c (ix4 0 (pj t) (ps t s) f))
      rw [← da_blk, ← blk2]
      first | done | rfl
  exact e.trans (congrArg _ (emb4 t p s f).symm)

end

theorem pre_facts : Cert.Pre_finite_dgu.Facts where
  bcast_S_S2048x1024 := by decide
  bcast_S_S1x4x704x1024 := by decide
  bcast_S_S2x4x2048x704 := by decide

theorem value : Cert.algebraic_DguIdeal_DguRefIdeal_pre_finite_dgu (hDguIdeal := Cert.DguIdeal.Gen.facts) (hDguRefIdeal := Cert.DguRefIdeal.Gen.facts) (hPre_finite_dgu := pre_facts) := by
  intro m g m' g' hpre hagree
  refine ⟨fun c => _, Cert.DguIdeal.Value.run_blocks m g, ?_⟩
  refine (θ_run (Cert.DguRefIdeal.defs (F := Idealize.ShloMosaic.Ideal)) _ _).mono (fun r h c => ?_) (Cert.DguRefIdeal.Value.run (F := Idealize.ShloMosaic.Ideal) m' g')
  obtain ⟨g0, g1, g2⟩ := hagree c
  obtain ⟨p0, p1, p2⟩ := hpre c
  have h0 := Cert.Dkv.fin_gen pre_facts.bcast_S_S2048x1024 _ Cert.Dkv.inf_f32 (dx m c) p0
  have h1 := Cert.Dkv.fin_gen pre_facts.bcast_S_S1x4x704x1024 _ Cert.Dkv.inf_bf16 (wd m c) p1
  have h2 := Cert.Dkv.fin_gen pre_facts.bcast_S_S2x4x2048x704 _ Cert.Dkv.inf_f32 (gu m c) p2
  refine ⟨(h c).1.trans ((Cert.DguRefIdeal.Read.val_main_v23_eq (F := Idealize.ShloMosaic.Ideal) _ _).trans ?_), (h c).2⟩
  rw [g0, g1, g2]
  exact (ref _ _ _ h0 h1 h2).trans (arr4 m c).symm

end Cert.Bwd.Dgu

end
-- ==== Proof.Bwd.Norm.lean ====
module

public import Idealize.ShloMosaic.Lib.Pipeline.ValueKit
public import Idealize.ShloMosaic.Lib.Pointwise
public import proofs.«01_k».proof.Proof.Dkv.Finite

@[expose] public section

noncomputable section

namespace Cert.Bwd.Norm

open Idealize.ShloMosaic

/-! # The gradient of a row's root mean square normalization, for rows of any length

`len` is the row's length. The kernels and the references arrange the gradient in two ways. -/

/-- What is added to the mean square. -/
def eps : EReal := Ideal.ofBits .f32 0x358637BD#32
def mhalf : EReal := Ideal.ofBits .f32 0xBF000000#32
theorem mhalf_eq : mhalf = ((-(1 / 2) : ℝ) : EReal) := by
  unfold mhalf
  simp [Ideal.ofBits, Ideal.ieee, -EReal.coe_mul]
  norm_num
theorem eps_pos : ∃ e : ℝ, 0 < e ∧ eps = (e : EReal) := by
  unfold eps
  refine ⟨8796093 * 2⁻¹ ^ 43, by positivity, ?_⟩
  simp [Ideal.ofBits, Ideal.ieee, -EReal.coe_mul]

section
variable {n : ℕ} (len : EReal)

/-- The mean square of a row, and one over its root. -/
def ms (x : Fin n → EReal) : EReal := Ideal.div (∑ e : Fin n, x e * x e) len + eps
def ri (x : Fin n → EReal) : EReal := Ideal.rsqrt (ms len x)
/-- A row's gradient, as the kernels form it. -/
def dxr (h x g : Fin n → EReal) (d : Fin n) : EReal :=
  ri len x * (h d * g d - x d * ri len x * Ideal.div (∑ e : Fin n, h e * g e * (x e * ri len x)) len)
/-- What a row's sum of squares gets, and a row's gradient, as the references form them. -/
def ssq (h x g : Fin n → EReal) : EReal :=
  Ideal.div ((∑ e : Fin n, x e * (h e * g e)) * (mhalf * Ideal.div (ri len x) (ms len x))) len
def dxs (h x g : Fin n → EReal) (d : Fin n) : EReal :=
  h d * g d * ri len x + x d * ssq len h x g + ssq len h x g * x d

/-- The two agree on finite rows, since the root's square times the mean square is one. -/
theorem dxs_eq (N : ℝ) (hN : 0 < N) (hl : len = (N : EReal)) (h x g : Fin n → EReal) (hh : ∀ e, ∃ r : ℝ, h e = (r : EReal)) (hx : ∀ e, ∃ r : ℝ, x e = (r : EReal)) (hg : ∀ e, ∃ r : ℝ, g e = (r : EReal)) (d : Fin n) :
    dxs len h x g d = dxr len h x g d := by
  choose h' eh using hh
  choose x' ex using hx
  choose g' eg using hg
  obtain rfl : h = fun e => (h' e : EReal) := funext eh
  obtain rfl : x = fun e => (x' e : EReal) := funext ex
  obtain rfl : g = fun e => (g' e : EReal) := funext eg
  obtain ⟨ε, hε, eε⟩ := eps_pos
  have hs : 0 ≤ ∑ e : Fin n, x' e * x' e := Finset.sum_nonneg fun e _ => mul_self_nonneg _
  obtain ⟨v, hv⟩ : ∃ v : ℝ, v = (∑ e : Fin n, x' e * x' e) * (1 / N) + ε := ⟨_, rfl⟩
  have hv0 : 0 < v := by rw [hv]; positivity
  have em : ms len (fun e => (x' e : EReal)) = (v : EReal) := by
    unfold ms
    rw [hl, eε, hv]
    simp only [← EReal.coe_mul]
    rw [← Cert.Dkv.coe_sum, Ideal.div_coe hN.ne', ← EReal.coe_mul, ← EReal.coe_add]
  have er : ri len (fun e => (x' e : EReal)) = (((Real.sqrt v)⁻¹ : ℝ) : EReal) := by
    unfold ri
    rw [em, Ideal.rsqrt_coe, if_neg (not_lt.mpr hv0.le), if_neg hv0.ne']
  have hq : (Real.sqrt v)⁻¹ * (Real.sqrt v)⁻¹ = 1 / v := by
    rw [← mul_inv, Real.mul_self_sqrt hv0.le, one_div]
  unfold dxs ssq dxr
  rw [er, em, hl, mhalf_eq]
  generalize (Real.sqrt v)⁻¹ = r at hq ⊢
  simp only [← EReal.coe_mul]
  simp only [← Cert.Dkv.coe_sum]
  rw [Ideal.div_coe hv0.ne']
  simp only [← EReal.coe_mul, ← EReal.coe_add, ← EReal.coe_sub, Ideal.div_coe hN.ne']
  refine congrArg Real.toEReal ?_
  have es : (∑ e : Fin n, h' e * g' e * (x' e * r)) = (∑ e : Fin n, x' e * (h' e * g' e)) * r := by
    rw [Finset.sum_mul]
    exact Finset.sum_congr rfl fun e _ => by ring
  rw [es, ← hq]
  ring

end

end Cert.Bwd.Norm

end
-- ==== Proof.Bwd.Drms.lean ====
module

public import proofs.«01_k».proof.Defs
public import proofs.«01_k».proof.Proof.Gen.DrmsIdeal
public import proofs.«01_k».proof.Proof.Gen.DrmsIdeal.Value
public import proofs.«01_k».proof.Proof.Gen.DrmsRefIdeal
public import proofs.«01_k».proof.Proof.Gen.DrmsRefIdeal.Run
public import proofs.«01_k».proof.Proof.Gen.DrmsRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise
public import proofs.«01_k».proof.Proof.Dkv.Finite
public import proofs.«01_k».proof.Proof.Bwd.Norm

@[expose] public section

set_option maxRecDepth 16384

noncomputable section

namespace Cert.Bwd.Drms

open Cert.DrmsIdeal Cert.DrmsIdeal.Gen Idealize.ShloMosaic Idealize.ShloMosaic.TcCoe Idealize.ShloMosaic.Tactic Idealize.SL.Sem

/-! # The gradients through the root mean square normalization -/

theorem idx : ∀ t : Fin cfg0.N, win0_0.index t = ![t.val, 0] ∧ win0_1.index t = ![t.val, 0] ∧ win0_2.index t = ![0, 0] ∧ win0_3.index t = ![t.val, 0] ∧ win0_4.index t = ![t.val, 0] ∧ win0_5.index t = ![0, 0] :=
  (by decide +kernel : ∀ t : Fin grid0.N, _)

abbrev row (t : Fin cfg0.N) (s : Fin 512) : Fin 2048 := ⟨t.val * 512 + s.val, by have := t.isLt; have e : cfg0.N = 4 := N_0; omega⟩

theorem ix2_eta (y : S512x1024.Idx) : y = ix2 (⟨(y 0).val, (y 0).isLt⟩ : Fin 512) (⟨(y 1).val, (y 1).isLt⟩ : Fin 1024) := by
  funext a; match a with | ⟨0, _⟩ => rfl | ⟨1, _⟩ => rfl
theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl
theorem ix2_eta1 (y : S1x1024.Idx) : y = ix2 (0 : Fin 1) (⟨(y 1).val, (y 1).isLt⟩ : Fin 1024) := by
  funext a; match a with | ⟨0, _⟩ => exact Subsingleton.elim (α := Fin 1) _ _ | ⟨1, _⟩ => rfl

/-- The row length. -/
def len : EReal := Ideal.ofBits .f32 0x44800000#32
/-- The mean square of a row, one over its root, and a row's gradient. -/
def ms (x : Fin 1024 → EReal) : EReal := Norm.ms len x
def ri (x : Fin 1024 → EReal) : EReal := Norm.ri len x
def dxr (h x g : Fin 1024 → EReal) (d : Fin 1024) : EReal := Norm.dxr len h x g d

theorem pay1 (a : FVec Idealize.ShloMosaic.Ideal S1x1024 .f32) (b : Vec Idealize.ShloMosaic.Ideal S1x1024 .f32) (d : Fin 1024) : (k0_pay1 a b (ix2 0 d) : EReal) = b (ix2 0 d) + a (ix2 0 d) := by
  unfold k0_pay1
  pointwise
theorem pay2 (x : Vec Idealize.ShloMosaic.Ideal S512x1024 .f32) (s : Fin 512) : (k0_pay2 (F := Idealize.ShloMosaic.Ideal) x (ix2 s 0) : EReal) = ri (fun e => x (ix2 s e)) := by
  unfold k0_pay2
  pointwise
  rfl
theorem pay3 (x : Vec Idealize.ShloMosaic.Ideal S512x1024 .f32) (s : Fin 512) (d : Fin 1024) : (k0_pay3 (F := Idealize.ShloMosaic.Ideal) x (ix2 s d) : EReal) = x (ix2 s d) * ri (fun e => x (ix2 s e)) := by
  unfold k0_pay3
  pointwise
  rw [pay2]
theorem pay4 (x h : Vec Idealize.ShloMosaic.Ideal S512x1024 .f32) (g : Vec Idealize.ShloMosaic.Ideal S1x1024 .f32) (r : Vec Idealize.ShloMosaic.Ideal S512x1024 .f32) (s : Fin 512) (d : Fin 1024) :
    (k0_pay4 x h g r (ix2 s d) : EReal) = r (ix2 s d) + dxr (fun e => h (ix2 s e)) (fun e => x (ix2 s e)) (fun e => g (ix2 0 e)) d := by
  unfold k0_pay4
  pointwise
  rw [pay2]
  simp only [pay3]
  rfl
theorem pay5 (x h : Vec Idealize.ShloMosaic.Ideal S512x1024 .f32) (d : Fin 1024) : (k0_pay5 (F := Idealize.ShloMosaic.Ideal) x h (ix2 0 d) : EReal) = ∑ s : Fin 512, h (ix2 s d) * (x (ix2 s d) * ri (fun e => x (ix2 s e))) := by
  unfold k0_pay5
  pointwise
  simp only [pay3]

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole)
  (x0 x1 : Vec Idealize.ShloMosaic.Ideal S512x1024 .f32) (x2 : Vec Idealize.ShloMosaic.Ideal S1x1024 .f32) (x3 : Vec Idealize.ShloMosaic.Ideal S512x1024 .f32) (xo : Vec Idealize.ShloMosaic.Ideal S1x1024 .f32)

theorem out0_A_4_eq (hc0 : cond0_0 i) (hc1 : ¬cond0_1 i) (s : Fin 512) (d : Fin 1024) :
    (out0_A_4 c i arg1 harg1 arg2 harg2 arg3 harg3 arg4 harg4 arg5 harg5 arg6 harg6 hc0 hc1 x0 x1 x2 x3 (ix2 s d) : EReal) = x3 (ix2 s d) + dxr (fun e => x0 (ix2 s e)) (fun e => x1 (ix2 s e)) (fun e => x2 (ix2 0 e)) d := by
  unfold out0_A_4
  rw [View.read_writes_eq_canon _ _ _ (cover0_A_4 c i arg1 harg1 arg2 harg2 arg3 harg3 arg4 harg4 arg5 harg5 arg6 harg6 hc0 hc1 x0 x1 x2 x3)]
  unfold kernelRun0_A; dsimp only
  sl_unfold_words
  simp only [View.readAt_eq_ld, harg1.read_unread, harg2.read_unread, harg3.read_unread, harg4.read_unread, harg6.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
  exact pay4 _ _ _ _ s d
theorem out0_A_5_eq (hc0 : cond0_0 i) (hc1 : ¬cond0_1 i) (d : Fin 1024) :
    (out0_A_5 c i arg1 harg1 arg2 harg2 arg3 harg3 arg4 harg4 arg5 harg5 arg6 harg6 hc0 hc1 x0 x1 x2 x3 (ix2 0 d) : EReal) = ∑ s : Fin 512, x0 (ix2 s d) * (x1 (ix2 s d) * ri (fun e => x1 (ix2 s e))) := by
  unfold out0_A_5
  rw [View.read_writes_eq_canon _ _ _ (cover0_A_5 c i arg1 harg1 arg2 harg2 arg3 harg3 arg4 harg4 arg5 harg5 arg6 harg6 hc0 hc1 x0 x1 x2 x3)]
  unfold kernelRun0_A; dsimp only
  sl_unfold_words
  simp only [View.readAt_eq_ld, harg1.read_unread, harg2.read_unread, harg3.read_unread, harg4.read_unread, harg6.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl)]
  exact pay5 _ _ d
theorem out0_B_4_eq (hc0 : ¬cond0_0 i) (hc1 : cond0_1 i) (s : Fin 512) (d : Fin 1024) :
    (out0_B_4 c i arg1 harg1 arg2 harg2 arg3 harg3 arg4 harg4 arg5 harg5 arg6 harg6 hc0 hc1 x0 x1 x2 x3 xo (ix2 s d) : EReal) = x3 (ix2 s d) + dxr (fun e => x0 (ix2 s e)) (fun e => x1 (ix2 s e)) (fun e => x2 (ix2 0 e)) d := by
  unfold out0_B_4
  rw [View.read_writes_eq_canon _ _ _ (cover0_B_4 c i arg1 harg1 arg2 harg2 arg3 harg3 arg4 harg4 arg5 harg5 arg6 harg6 hc0 hc1 x0 x1 x2 x3 xo)]
  unfold kernelRun0_B; dsimp only
  sl_unfold_words
  simp only [View.readAt_eq_ld, harg1.read_unread, harg2.read_unread, harg3.read_unread, harg4.read_unread, harg6.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
  exact pay4 _ _ _ _ s d
theorem out0_B_5_eq (hc0 : ¬cond0_0 i) (hc1 : cond0_1 i) (d : Fin 1024) :
    (out0_B_5 c i arg1 harg1 arg2 harg2 arg3 harg3 arg4 harg4 arg5 harg5 arg6 harg6 hc0 hc1 x0 x1 x2 x3 xo (ix2 0 d) : EReal) = xo (ix2 0 d) + ∑ s : Fin 512, x0 (ix2 s d) * (x1 (ix2 s d) * ri (fun e => x1 (ix2 s e))) := by
  unfold out0_B_5
  rw [View.read_writes_eq_canon _ _ _ (cover0_B_5 c i arg1 harg1 arg2 harg2 arg3 harg3 arg4 harg4 arg5 harg5 arg6 harg6 hc0 hc1 x0 x1 x2 x3 xo)]
  unfold kernelRun0_B; dsimp only
  sl_unfold_words
  simp only [View.readAt_eq_ld, harg1.read_unread, harg2.read_unread, harg3.read_unread, harg4.read_unread, harg6.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
  rw [pay1]
  exact congrArg (fun q : EReal => xo (ix2 0 d) + q) (pay5 _ _ d)

end

section
variable (h x : S2048x1024.Idx → EReal) (g : S1x1024.Idx → EReal) (r : S2048x1024.Idx → EReal)

/-- The gradient with respect to the normalized rows, on top of the other path's. -/
def dx : S2048x1024.Idx → EReal := fun y => r y + dxr (fun e => h (ix2 (y 0) e)) (fun e => x (ix2 (y 0) e)) (fun e => g (ix2 0 e)) (y 1)
def dgt (s : Fin 2048) (d : Fin 1024) : EReal := h (ix2 s d) * (x (ix2 s d) * ri (fun e => x (ix2 s e)))
/-- The gradient with respect to the weights. -/
def dg : S1x1024.Idx → EReal := fun y => ∑ s : Fin 2048, dgt h x s (y 1)
end

section
variable (m : (ℓ : Loc nD τ sig) → Buf (Elt Idealize.ShloMosaic.Ideal) ℓ) (c : Dev nD)

abbrev ah : S2048x1024.Idx → EReal := m ((c : Thread nD τ).loc main_arg0)
abbrev ax : S2048x1024.Idx → EReal := m ((c : Thread nD τ).loc main_arg1)
abbrev ag : S1x1024.Idx → EReal := m ((c : Thread nD τ).loc main_arg2)
abbrev ar : S2048x1024.Idx → EReal := m ((c : Thread nD τ).loc main_arg3)

theorem blk0 (t : Fin cfg0.N) (s : Fin 512) (d : Fin 1024) : (iblk m c 0 t (ix2 s d) : EReal) = ah m c (ix2 (row t s) d) := by
  show ah m c ((win0_0.blk t).view.emb (ix2 s d)) = _
  generalize ah m c = W; blk_ext [(idx t).1]
theorem blk1 (t : Fin cfg0.N) (s : Fin 512) (d : Fin 1024) : (iblk m c 1 t (ix2 s d) : EReal) = ax m c (ix2 (row t s) d) := by
  show ax m c ((win0_1.blk t).view.emb (ix2 s d)) = _
  generalize ax m c = W; blk_ext [(idx t).2.1]
theorem blk3 (t : Fin cfg0.N) (s : Fin 512) (d : Fin 1024) : (iblk m c 3 t (ix2 s d) : EReal) = ar m c (ix2 (row t s) d) := by
  show ar m c ((win0_3.blk t).view.emb (ix2 s d)) = _
  generalize ar m c = W; blk_ext [(idx t).2.2.2.1]
theorem blk2 (t : Fin cfg0.N) (d : Fin 1024) : (iblk m c 2 t (ix2 0 d) : EReal) = ag m c (ix2 0 d) := by
  show ag m c ((win0_2.blk t).view.emb (ix2 0 d)) = _
  generalize ag m c = W; blk_ext [(idx t).2.2.1]
theorem emb4 (t : Fin cfg0.N) (s : Fin 512) (d : Fin 1024) : (win0_4.blk t).view.emb (ix2 s d) = (ix2 (row t s) d : S2048x1024.Idx) := by
  blk_ext [(idx t).2.2.2.2.1]
theorem emb5 (t : Fin cfg0.N) (d : Fin 1024) : (win0_5.blk t).view.emb (ix2 0 d) = (ix2 0 d : S1x1024.Idx) := by
  blk_ext [(idx t).2.2.2.2.2]

theorem out4 (t : Fin cfg0.N) (s : Fin 512) (d : Fin 1024) : ((outsAt0 m c t.val t.isLt).1 (ix2 s d) : EReal) = dx (ah m c) (ax m c) (ag m c) (ar m c) (ix2 (row t s) d) := by
  have hN : t.val < 4 := lt_of_lt_of_eq t.isLt N_0
  have e0 : (fun e => (iblk m c 0 t (ix2 s e) : EReal)) = fun e => ah m c (ix2 (row t s) e) := funext fun e => blk0 m c t s e
  have e1 : (fun e => (iblk m c 1 t (ix2 s e) : EReal)) = fun e => ax m c (ix2 (row t s) e) := funext fun e => blk1 m c t s e
  have e2 : (fun e => (iblk m c 2 t (ix2 0 e) : EReal)) = fun e => ag m c (ix2 0 e) := funext fun e => blk2 m c t e
  by_cases h0 : t.val % 4 = 0
  · simp only [outsAt0_A m c t h0 (by omega)]
    rw [out0_A_4_eq, blk3, e0, e1, e2]
    rfl
  · simp only [outsAt0_B m c t h0 (by omega)]
    rw [out0_B_4_eq, blk3, e0, e1, e2]
    rfl
theorem covers4 : (cfg0.win 4).Covers := by decide +kernel
theorem arr4 : (dats m 0 c).arrAt 4 cfg0.N = dx (ah m c) (ax m c) (ag m c) (ar m c) := by
  refine (dats m 0 c).arrAt_eq_of_covers 4 _ covers4 fun t hf y => ?_
  blk_simp
  rw [after0_4]
  obtain ⟨s, d, rfl⟩ : ∃ (s : Fin 512) (d : Fin 1024), y = ix2 s d := ⟨_, _, ix2_eta y⟩
  exact (out4 m c t s d).trans (congrArg _ (emb4 t s d).symm)

/-- What point `t` adds to the weights' gradient. -/
def term (t : Fin cfg0.N) (d : Fin 1024) : EReal := ∑ s : Fin 512, dgt (ah m c) (ax m c) (row t s) d

abbrev hb (t : Fin cfg0.N) : S512x1024.Idx → EReal := iblk m c 0 t
abbrev xb (t : Fin cfg0.N) : S512x1024.Idx → EReal := iblk m c 1 t

theorem term_eq (t : Fin cfg0.N) (d : Fin 1024) :
    (∑ s : Fin 512, hb m c t (ix2 s d) * (xb m c t (ix2 s d) * ri (fun e => xb m c t (ix2 s e)))) = term m c t d := by
  refine Finset.sum_congr rfl fun s _ => ?_
  have e1 : (fun e => xb m c t (ix2 s e)) = fun e => ax m c (ix2 (row t s) e) := funext fun e => blk1 m c t s e
  rw [e1]
  exact congrArg₂ (fun p q : EReal => p * (q * ri (fun e => ax m c (ix2 (row t s) e)))) (blk0 m c t s d) (blk1 m c t s d)
theorem first (t : Fin cfg0.N) (h0 : t.val % 4 = 0) (d : Fin 1024) :
    ((outsAt0 m c t.val t.isLt).2 (ix2 0 d) : EReal) = 0 + term m c t d := by
  have hN : t.val < 4 := lt_of_lt_of_eq t.isLt N_0
  simp only [outsAt0_A m c t h0 (by omega)]
  rw [out0_A_5_eq, zero_add]
  exact term_eq m c t d
theorem next (t : Fin cfg0.N) (h0 : ¬t.val % 4 = 0) (d : Fin 1024) :
    ((outsAt0 m c t.val t.isLt).2 (ix2 0 d) : EReal) = (outsAt0 m c (t.val - 1) (Nat.lt_of_le_of_lt (Nat.sub_le _ _) t.isLt)).2 (ix2 0 d) + term m c t d := by
  simp only [outsAt0_B m c t h0 (by omega)]
  rw [out0_B_5_eq]
  exact congrArg _ (term_eq m c t d)
theorem out5 (t : Fin cfg0.N) (h3 : t.val % 4 = 3) (d : Fin 1024) :
    ((outsAt0 m c t.val t.isLt).2 (ix2 0 d) : EReal) = dg (ah m c) (ax m c) (ix2 0 d) := by
  have hN : cfg0.N = 4 := N_0
  have e := Pipeline.eq_sum_fin_of_reset_step_of_flush (M := EReal) (fun n h => (outsAt0 m c n h).2 (ix2 0 d)) 4 0 (fun t => term m c t d)
    (fun t h => first m c t h d) (fun t h => next m c t h d) t h3
  refine e.trans ?_
  rw [zero_add]
  show _ = ∑ s : Fin (4 * 512), dgt (ah m c) (ax m c) s d
  rw [← finProdFinEquiv.sum_comp, Fintype.sum_prod_type]
  refine Finset.sum_congr rfl fun j _ => Finset.sum_congr rfl fun s _ => ?_
  refine congrArg (fun r => dgt (ah m c) (ax m c) r d) (Fin.ext ?_)
  show (4 * (t.val / 4) + j.val) * 512 + s.val = s.val + 512 * j.val
  have := t.isLt
  omega
theorem covers5 : (cfg0.win 5).Covers := by decide +kernel
theorem arr5 : (dats m 0 c).arrAt 5 cfg0.N = dg (ah m c) (ax m c) := by
  refine (dats m 0 c).arrAt_eq_of_covers 5 _ covers5 fun t hf y => ?_
  blk_simp
  rw [after0_5]
  obtain ⟨d, rfl⟩ : ∃ (d : Fin 1024), y = ix2 0 d := ⟨_, ix2_eta1 y⟩
  exact (out5 m c t ((flush0_5 t).mp hf) d).trans (congrArg _ (emb5 t d).symm)

end

/-! The reference's row gradient: the same, since the root's square times the mean square is one. -/

theorem len_eq : len = ((1024 : ℝ) : EReal) := by
  unfold len
  simp [Ideal.ofBits, Ideal.ieee, -EReal.coe_mul]
  norm_num
/-- The reference's row gradient, as it is formed. -/
def dxs (h x g : Fin 1024 → EReal) (d : Fin 1024) : EReal := Norm.dxs len h x g d
theorem dxs_eq (h x g : Fin 1024 → EReal) (hh : ∀ e, ∃ r : ℝ, h e = (r : EReal)) (hx : ∀ e, ∃ r : ℝ, x e = (r : EReal)) (hg : ∀ e, ∃ r : ℝ, g e = (r : EReal)) (d : Fin 1024) :
    dxs h x g d = dxr h x g d :=
  Norm.dxs_eq len 1024 (by norm_num) len_eq h x g hh hx hg d

section
variable (x0 x1 : (⟨S2048x1024, .f32⟩ : BufTy).Contents (Elt Idealize.ShloMosaic.Ideal)) (x2 : (⟨S1x1024, .f32⟩ : BufTy).Contents (Elt Idealize.ShloMosaic.Ideal)) (x3 : (⟨S2048x1024, .f32⟩ : BufTy).Contents (Elt Idealize.ShloMosaic.Ideal))

theorem ref7 (s : Fin 2048) : (Cert.DrmsRefIdeal.Read.val_main_v7 (F := Idealize.ShloMosaic.Ideal) x1 (ix2 s 0) : EReal) = ms (fun e => x1 (ix2 s e)) := by
  unfold Cert.DrmsRefIdeal.Read.val_main_v7 Cert.DrmsRefIdeal.Read.val_main_v5 Cert.DrmsRefIdeal.Read.val_main_v3 Cert.DrmsRefIdeal.Read.val_main_v2 Cert.DrmsRefIdeal.Read.val_main_v1 Cert.DrmsRefIdeal.Read.val_main_v4 Cert.DrmsRefIdeal.Read.val_main_v6 Cert.DrmsRefIdeal.Read.val_main_cst Cert.DrmsRefIdeal.Read.val_main_cst_0 Cert.DrmsRefIdeal.Read.val_main_cst_1
  pointwise
  first | done | rfl
theorem ref8 (s : Fin 2048) : (Cert.DrmsRefIdeal.Read.val_main_v8 (F := Idealize.ShloMosaic.Ideal) x1 (ix2 s 0) : EReal) = ri (fun e => x1 (ix2 s e)) := by
  unfold Cert.DrmsRefIdeal.Read.val_main_v8
  pointwise
  rw [ref7]
  rfl
theorem ref32 (s : Fin 2048) (d : Fin 1024) : (Cert.DrmsRefIdeal.Read.val_main_v32 (F := Idealize.ShloMosaic.Ideal) x0 x1 x2 (ix2 s d) : EReal) =
    Norm.ssq len (fun e => x0 (ix2 s e)) (fun e => x1 (ix2 s e)) (fun e => x2 (ix2 0 e)) := by
  unfold Cert.DrmsRefIdeal.Read.val_main_v32 Cert.DrmsRefIdeal.Read.val_main_v31 Cert.DrmsRefIdeal.Read.val_main_v30 Cert.DrmsRefIdeal.Read.val_main_v28 Cert.DrmsRefIdeal.Read.val_main_v25 Cert.DrmsRefIdeal.Read.val_main_v24 Cert.DrmsRefIdeal.Read.val_main_v23 Cert.DrmsRefIdeal.Read.val_main_v21 Cert.DrmsRefIdeal.Read.val_main_v20 Cert.DrmsRefIdeal.Read.val_main_v14 Cert.DrmsRefIdeal.Read.val_main_v0 Cert.DrmsRefIdeal.Read.val_main_v11 Cert.DrmsRefIdeal.Read.val_main_v10 Cert.DrmsRefIdeal.Read.val_main_v9 Cert.DrmsRefIdeal.Read.val_main_v29 Cert.DrmsRefIdeal.Read.val_main_cst_2 Cert.DrmsRefIdeal.Read.val_main_cst_5 Cert.DrmsRefIdeal.Read.val_main_cst_6 Cert.DrmsRefIdeal.Read.val_main_cst_7
  pointwise
  refine (Fin.sum_univ_one _).trans ?_
  rw [ref7, ref8]
  rfl
theorem ref37 (s : Fin 2048) (d : Fin 1024) : (Cert.DrmsRefIdeal.Read.val_main_v37 (F := Idealize.ShloMosaic.Ideal) x0 x1 x2 x3 (ix2 s d) : EReal) =
    x3 (ix2 s d) + dxs (fun e => x0 (ix2 s e)) (fun e => x1 (ix2 s e)) (fun e => x2 (ix2 0 e)) d := by
  unfold Cert.DrmsRefIdeal.Read.val_main_v37 Cert.DrmsRefIdeal.Read.val_main_v36 Cert.DrmsRefIdeal.Read.val_main_v34 Cert.DrmsRefIdeal.Read.val_main_v27 Cert.DrmsRefIdeal.Read.val_main_v21 Cert.DrmsRefIdeal.Read.val_main_v20 Cert.DrmsRefIdeal.Read.val_main_v14 Cert.DrmsRefIdeal.Read.val_main_v0 Cert.DrmsRefIdeal.Read.val_main_v26 Cert.DrmsRefIdeal.Read.val_main_v33 Cert.DrmsRefIdeal.Read.val_main_v35
  pointwise
  rw [ref32, ref8]
  rfl
theorem ref38 (d : Fin 1024) : (Cert.DrmsRefIdeal.Read.val_main_v38 (F := Idealize.ShloMosaic.Ideal) x0 x1 (ix2 0 d) : EReal) = dg x0 x1 (ix2 0 d) := by
  unfold Cert.DrmsRefIdeal.Read.val_main_v38 Cert.DrmsRefIdeal.Read.val_main_v22 Cert.DrmsRefIdeal.Read.val_main_v19 Cert.DrmsRefIdeal.Read.val_main_v18 Cert.DrmsRefIdeal.Read.val_main_v17 Cert.DrmsRefIdeal.Read.val_main_v13 Cert.DrmsRefIdeal.Read.val_main_v12 Cert.DrmsRefIdeal.Read.val_main_cst_3 Cert.DrmsRefIdeal.Read.val_main_cst_4
  pointwise
  refine (Fin.sum_univ_one _).trans ?_
  refine Finset.sum_congr rfl fun s _ => ?_
  rw [ref8]
  exact mul_comm (_ : EReal) (x0 (ix2 s d))

theorem refX (h0 : ∀ y, ∃ r : ℝ, x0 y = (r : EReal)) (h1 : ∀ y, ∃ r : ℝ, x1 y = (r : EReal)) (h2 : ∀ y, ∃ r : ℝ, x2 y = (r : EReal)) :
    Cert.DrmsRefIdeal.Read.val_main_v37 (F := Idealize.ShloMosaic.Ideal) x0 x1 x2 x3 = dx x0 x1 x2 x3 := funext fun y => by
  obtain ⟨s, d, rfl⟩ : ∃ (s : Fin 2048) (d : Fin 1024), y = ix2 s d := ⟨_, _, ix2_eta' y⟩
  exact (ref37 x0 x1 x2 x3 s d).trans (congrArg (fun q : EReal => x3 (ix2 s d) + q) (dxs_eq _ _ _ (fun e => h0 _) (fun e => h1 _) (fun e => h2 _) d))
theorem refG : Cert.DrmsRefIdeal.Read.val_main_v38 (F := Idealize.ShloMosaic.Ideal) x0 x1 = dg x0 x1 := funext fun y => by
  obtain ⟨d, rfl⟩ : ∃ (d : Fin 1024), y = ix2 0 d := ⟨_, ix2_eta1 y⟩
  exact ref38 x0 x1 d
end

theorem pre_facts : Cert.Pre_finite_drms.Facts where
  bcast_S_S2048x1024 := by decide
  bcast_S_S1x1024 := by decide

theorem value : Cert.algebraic_DrmsIdeal_DrmsRefIdeal_pre_finite_drms (hDrmsIdeal := Cert.DrmsIdeal.Gen.facts) (hDrmsRefIdeal := Cert.DrmsRefIdeal.Gen.facts) (hPre_finite_drms := pre_facts) := by
  intro m g m' g' hpre hagree
  refine ⟨fun c => _, fun c => _, Cert.DrmsIdeal.Value.run_blocks m g, ?_⟩
  refine (θ_run (Cert.DrmsRefIdeal.defs (F := Idealize.ShloMosaic.Ideal)) _ _).mono (fun r h c => ?_) (Cert.DrmsRefIdeal.Value.run (F := Idealize.ShloMosaic.Ideal) m' g')
  obtain ⟨g0, g1, g2, g3⟩ := hagree c
  obtain ⟨p0, p1, p2⟩ := hpre c
  have h0 := Cert.Dkv.fin_gen pre_facts.bcast_S_S2048x1024 _ Cert.Dkv.inf_f32 (ah m c) p0
  have h1 := Cert.Dkv.fin_gen pre_facts.bcast_S_S2048x1024 _ Cert.Dkv.inf_f32 (ax m c) p1
  have h2 := Cert.Dkv.fin_gen pre_facts.bcast_S_S1x1024 _ Cert.Dkv.inf_f32 (ag m c) p2
  refine ⟨(h c).1.trans ((Cert.DrmsRefIdeal.Read.val_main_v37_eq (F := Idealize.ShloMosaic.Ideal) m' c).trans ?_), (h c).2.1.trans ((Cert.DrmsRefIdeal.Read.val_main_v38_eq (F := Idealize.ShloMosaic.Ideal) _ _).trans ?_), (h c).2.2⟩
  · clear h
    rw [g0, g1, g2, g3]
    exact (refX _ _ _ _ h0 h1 h2).trans (arr4 m c).symm
  · clear h
    rw [g0, g1]
    exact (refG _ _).trans (arr5 m c).symm

end Cert.Bwd.Drms

end
-- ==== Proof.Bwd.Dqk.lean ====
module

public import proofs.«01_k».proof.Defs
public import proofs.«01_k».proof.Proof.Gen.DqkIdeal
public import proofs.«01_k».proof.Proof.Gen.DqkIdeal.Value
public import proofs.«01_k».proof.Proof.Gen.DqkRefIdeal
public import proofs.«01_k».proof.Proof.Gen.DqkRefIdeal.Run
public import proofs.«01_k».proof.Proof.Gen.DqkRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise
public import proofs.«01_k».proof.Proof.Bwd.Norm

@[expose] public section

set_option maxRecDepth 16384

noncomputable section

namespace Cert.Bwd.Dqk

open Cert.DqkIdeal Cert.DqkIdeal.Gen Idealize.ShloMosaic Idealize.ShloMosaic.TcCoe Idealize.ShloMosaic.Tactic Idealize.SL.Sem

/-! # The gradients through the queries' and keys' norms

A row of queries, or of keys, is eight heads of 128 lanes, and each head has its own norm. -/

theorem idx : ∀ t : Fin cfg0.N, win0_0.index t = ![t.val, 0] ∧ win0_1.index t = ![t.val, 0] ∧ win0_2.index t = ![t.val, 0] ∧ win0_3.index t = ![t.val, 5] ∧ win0_4.index t = ![t.val, 6] ∧ win0_5.index t = ![0, 0] ∧ win0_6.index t = ![0, 0] ∧ win0_7.index t = ![t.val, 0] ∧ win0_8.index t = ![0, 0] ∧ win0_9.index t = ![0, 0] :=
  (by decide +kernel : ∀ t : Fin grid0.N, _)

abbrev row (t : Fin cfg0.N) (s : Fin 512) : Fin 2048 := ⟨t.val * 512 + s.val, by have := t.isLt; have e : cfg0.N = 4 := N_0; omega⟩
/-- A column of three side by side, its part and its place there; a place's head and its lane there. -/
abbrev hi (q : Fin 3072) : Fin 3 := ⟨q.val / 1024, by omega⟩
abbrev lo (q : Fin 3072) : Fin 1024 := ⟨q.val % 1024, by omega⟩
abbrev head (d : Fin 1024) : Fin 8 := ⟨d.val / 128, by omega⟩
abbrev lane (d : Fin 1024) : Fin 128 := ⟨d.val % 128, by omega⟩
abbrev at' (n : Fin 8) (e : Fin 128) : Fin 1024 := ⟨n.val * 128 + e.val, by omega⟩
/-- The queries' and the keys' columns of the input product. -/
abbrev zq (d : Fin 1024) : Fin 11776 := ⟨5120 + d.val, by omega⟩
abbrev zk (d : Fin 1024) : Fin 11776 := ⟨6144 + d.val, by omega⟩

theorem ix2_eta (y : S512x1024.Idx) : y = ix2 (⟨(y 0).val, (y 0).isLt⟩ : Fin 512) (⟨(y 1).val, (y 1).isLt⟩ : Fin 1024) := by
  funext a; match a with | ⟨0, _⟩ => rfl | ⟨1, _⟩ => rfl
theorem ix2_etah (y : S512x128.Idx) : y = ix2 (⟨(y 0).val, (y 0).isLt⟩ : Fin 512) (⟨(y 1).val, (y 1).isLt⟩ : Fin 128) := by
  funext a; match a with | ⟨0, _⟩ => rfl | ⟨1, _⟩ => rfl
theorem ix2_etag (y : S1x128.Idx) : y = ix2 (0 : Fin 1) (⟨(y 1).val, (y 1).isLt⟩ : Fin 128) := by
  funext a; match a with | ⟨0, _⟩ => exact Subsingleton.elim (α := Fin 1) _ _ | ⟨1, _⟩ => rfl
theorem ix2_eta1 (y : S1x1024.Idx) : y = ix2 (0 : Fin 1) (⟨(y 1).val, (y 1).isLt⟩ : Fin 1024) := by
  funext a; match a with | ⟨0, _⟩ => exact Subsingleton.elim (α := Fin 1) _ _ | ⟨1, _⟩ => rfl
theorem ix2_etaz (y : S512x3072.Idx) : y = ix2 (⟨(y 0).val, (y 0).isLt⟩ : Fin 512) (⟨(y 1).val, (y 1).isLt⟩ : Fin 3072) := by
  funext a; match a with | ⟨0, _⟩ => rfl | ⟨1, _⟩ => rfl
theorem ix2_etaZ (y : S2048x3072.Idx) : y = ix2 (⟨(y 0).val, (y 0).isLt⟩ : Fin 2048) (⟨(y 1).val, (y 1).isLt⟩ : Fin 3072) := by
  funext a; match a with | ⟨0, _⟩ => rfl | ⟨1, _⟩ => rfl

/-- The length of a head. -/
def len : EReal := Ideal.ofBits .f32 0x43000000#32
theorem len_eq : len = ((128 : ℝ) : EReal) := by
  unfold len
  simp [Ideal.ofBits, Ideal.ieee, -EReal.coe_mul]
  norm_num

/-- A head of a row, a row's gradient, and what a row adds to a gain's. -/
abbrev hd (X : Fin 1024 → EReal) (n : Fin 8) : Fin 128 → EReal := fun e => X (at' n e)
def dx (h x g : Fin 1024 → EReal) (d : Fin 1024) : EReal := Norm.dxr len (hd h (head d)) (hd x (head d)) (hd g (head d)) (lane d)
def dgt (h x : Fin 1024 → EReal) (d : Fin 1024) : EReal := h d * (x d * Norm.ri len (hd x (head d)))

theorem head_at (n : Fin 8) (e : Fin 128) : head (at' n e) = n := Fin.ext (by show (n.val * 128 + e.val) / 128 = n.val; omega)
theorem lane_at (n : Fin 8) (e : Fin 128) : lane (at' n e) = e := Fin.ext (by show (n.val * 128 + e.val) % 128 = e.val; omega)
theorem at_head (d : Fin 1024) : at' (head d) (lane d) = d := Fin.ext (by show d.val / 128 * 128 + d.val % 128 = d.val; omega)
theorem dx_at (h x g : Fin 1024 → EReal) (n : Fin 8) (e : Fin 128) : dx h x g (at' n e) = Norm.dxr len (hd h n) (hd x n) (hd g n) e := by
  unfold dx; rw [head_at, lane_at]
theorem dgt_at (h x : Fin 1024 → EReal) (n : Fin 8) (e : Fin 128) : dgt h x (at' n e) = hd h n e * (hd x n e * Norm.ri len (hd x n)) := by
  unfold dgt; rw [head_at]

theorem pay1 (a b : Vec Idealize.ShloMosaic.Ideal S1x1024 .f32) (d : Fin 1024) : (k0_pay1 a b (ix2 0 d) : EReal) = b (ix2 0 d) + a (ix2 0 d) := by
  unfold k0_pay1
  pointwise
theorem pay41 (a b : Vec Idealize.ShloMosaic.Ideal S1x1024 .f32) (d : Fin 1024) : (k0_pay41 a b (ix2 0 d) : EReal) = b (ix2 0 d) + a (ix2 0 d) := pay1 a b d
theorem pay3 (x : Vec Idealize.ShloMosaic.Ideal S512x128 .f32) (s : Fin 512) : (k0_pay3 (F := Idealize.ShloMosaic.Ideal) x (ix2 s 0) : EReal) = Norm.ri len (fun e => x (ix2 s e)) := by
  unfold k0_pay3
  pointwise
  rfl
theorem pay4 (x : Vec Idealize.ShloMosaic.Ideal S512x128 .f32) (s : Fin 512) (d : Fin 128) : (k0_pay4 (F := Idealize.ShloMosaic.Ideal) x (ix2 s d) : EReal) = x (ix2 s d) * Norm.ri len (fun e => x (ix2 s e)) := by
  unfold k0_pay4
  pointwise
  rw [pay3]
theorem pay5 (x h : Vec Idealize.ShloMosaic.Ideal S512x128 .f32) (g : Vec Idealize.ShloMosaic.Ideal S1x128 .f32) (s : Fin 512) (d : Fin 128) :
    (k0_pay5 x h g (ix2 s d) : EReal) = Norm.dxr len (fun e => h (ix2 s e)) (fun e => x (ix2 s e)) (fun e => g (ix2 0 e)) d := by
  unfold k0_pay5
  pointwise
  rw [pay3]
  simp only [pay4]
  rfl
theorem pay6 (x h : Vec Idealize.ShloMosaic.Ideal S512x128 .f32) (d : Fin 128) : (k0_pay6 (F := Idealize.ShloMosaic.Ideal) x h (ix2 0 d) : EReal) = ∑ s : Fin 512, h (ix2 s d) * (x (ix2 s d) * Norm.ri len (fun e => x (ix2 s e))) := by
  unfold k0_pay6
  pointwise
  simp only [pay4]

/-- Head `n` of a block, and of a gain, read alone. -/
theorem ldh (o : ℕ) (n : Fin 8) (ho : o = n.val * 128) (X : Vec Idealize.ShloMosaic.Ideal S512x1024 .f32) (h) (s : Fin 512) (e : Fin 128) : (View.ld X (Rect.unit ![0, o] ![512, 128] h) (ix2 s e) : EReal) = X (ix2 s (at' n e)) := by
  refine congrArg X ?_
  funext a
  match a with
  | ⟨0, _⟩ => exact Fin.ext (by show 0 + 1 * s.val = s.val; omega)
  | ⟨1, _⟩ => exact Fin.ext (by show o + 1 * e.val = n.val * 128 + e.val; omega)
theorem ldg (o : ℕ) (n : Fin 8) (ho : o = n.val * 128) (X : Vec Idealize.ShloMosaic.Ideal S1x1024 .f32) (h) (e : Fin 128) : (View.ld X (Rect.unit ![0, o] ![1, 128] h) (ix2 0 e) : EReal) = X (ix2 0 (at' n e)) := by
  refine congrArg X ?_
  funext a
  match a with
  | ⟨0, _⟩ => rfl
  | ⟨1, _⟩ => exact Fin.ext (by show o + 1 * e.val = n.val * 128 + e.val; omega)

/-! What one block computes. -/

section
variable (x0 x1 x2 x3 x4 : Vec Idealize.ShloMosaic.Ideal S512x1024 .f32) (x5 x6 : Vec Idealize.ShloMosaic.Ideal S1x1024 .f32)

def dzb (k : Fin 3) (s : Fin 512) (d : Fin 1024) : EReal :=
  (![dx (fun q => x0 (ix2 s q)) (fun q => x3 (ix2 s q)) (fun q => x5 (ix2 0 q)) d, dx (fun q => x1 (ix2 s q)) (fun q => x4 (ix2 s q)) (fun q => x6 (ix2 0 q)) d, x2 (ix2 s d)] : Fin 3 → EReal) k
def dgb (d : Fin 1024) : EReal := ∑ s : Fin 512, dgt (fun q => x0 (ix2 s q)) (fun q => x3 (ix2 s q)) d

theorem dzb0 (s : Fin 512) (d : Fin 1024) : dzb x0 x1 x2 x3 x4 x5 x6 0 s d = dx (fun q => x0 (ix2 s q)) (fun q => x3 (ix2 s q)) (fun q => x5 (ix2 0 q)) d := rfl
theorem dzb1 (s : Fin 512) (d : Fin 1024) : dzb x0 x1 x2 x3 x4 x5 x6 1 s d = dx (fun q => x1 (ix2 s q)) (fun q => x4 (ix2 s q)) (fun q => x6 (ix2 0 q)) d := rfl
theorem place (k : Fin 3) (s : Fin 512) (d : Fin 1024) (y : S512x3072.Idx) (h0 : (y 0).val = s.val) (h1 : (y 1).val = k.val * 1024 + d.val) :
    dzb x0 x1 x2 x3 x4 x5 x6 (hi (y 1)) (y 0) (lo (y 1)) = dzb x0 x1 x2 x3 x4 x5 x6 k s d := by
  have e0 : y 0 = s := Fin.ext h0
  have e1 : hi (y 1) = k := Fin.ext (by show (y 1).val / 1024 = k.val; omega)
  have e2 : lo (y 1) = d := Fin.ext (by show (y 1).val % 1024 = d.val; omega)
  rw [e0, e1, e2]
/-- Head `n` of the queries' gradient at its place, of the keys', and the values' gradient. -/
theorem pieceq (o : ℕ) (n : Fin 8) (ho : o = n.val * 128) (hx hh hg hp) (y : S512x128.Idx) (p : S512x3072.Idx) (hy : p = (Rect.unit (s := S512x3072) ![0, o] ![512, 128] hp).emb y) :
    (k0_pay5 (View.ld x3 (Rect.unit ![0, o] ![512, 128] hx)) (View.ld x0 (Rect.unit ![0, o] ![512, 128] hh)) (View.ld x5 (Rect.unit ![0, o] ![1, 128] hg)) y : EReal) = dzb x0 x1 x2 x3 x4 x5 x6 (hi (p 1)) (p 0) (lo (p 1)) := by
  obtain ⟨s, e, rfl⟩ : ∃ (s : Fin 512) (e : Fin 128), y = ix2 s e := ⟨_, _, ix2_etah y⟩
  have h0 : (p 0).val = 0 + 1 * s.val := congrArg (fun z : S512x3072.Idx => (z 0).val) hy
  have h1 : (p 1).val = o + 1 * e.val := congrArg (fun z : S512x3072.Idx => (z 1).val) hy
  clear hy
  refine (pay5 _ _ _ s e).trans (Eq.trans ?_ (place x0 x1 x2 x3 x4 x5 x6 0 s (at' n e) p (by omega) (h1.trans (by show _ = 0 * 1024 + (n.val * 128 + e.val); omega))).symm)
  rw [funext (ldh o n ho x0 hh s), funext (ldh o n ho x3 hx s), funext (ldg o n ho x5 hg), dzb0, dx_at]
theorem piecek (o : ℕ) (n : Fin 8) (ho : o = n.val * 128) (hx hh hg hp) (y : S512x128.Idx) (p : S512x3072.Idx) (hy : p = (Rect.unit (s := S512x3072) ![0, 1024 + o] ![512, 128] hp).emb y) :
    (k0_pay5 (View.ld x4 (Rect.unit ![0, o] ![512, 128] hx)) (View.ld x1 (Rect.unit ![0, o] ![512, 128] hh)) (View.ld x6 (Rect.unit ![0, o] ![1, 128] hg)) y : EReal) = dzb x0 x1 x2 x3 x4 x5 x6 (hi (p 1)) (p 0) (lo (p 1)) := by
  obtain ⟨s, e, rfl⟩ : ∃ (s : Fin 512) (e : Fin 128), y = ix2 s e := ⟨_, _, ix2_etah y⟩
  have h0 : (p 0).val = 0 + 1 * s.val := congrArg (fun z : S512x3072.Idx => (z 0).val) hy
  have h1 : (p 1).val = 1024 + o + 1 * e.val := congrArg (fun z : S512x3072.Idx => (z 1).val) hy
  clear hy
  refine (pay5 _ _ _ s e).trans (Eq.trans ?_ (place x0 x1 x2 x3 x4 x5 x6 1 s (at' n e) p (by omega) (h1.trans (by show _ = 1 * 1024 + (n.val * 128 + e.val); omega))).symm)
  rw [funext (ldh o n ho x1 hh s), funext (ldh o n ho x4 hx s), funext (ldg o n ho x6 hg), dzb1, dx_at]
theorem piecev (hx hp) (y : S512x1024.Idx) (p : S512x3072.Idx) (hy : p = (Rect.unit (s := S512x3072) ![0, 2048] ![512, 1024] hp).emb y) :
    (k0_pay2 (View.ld x2 (Rect.unit ![0, 0] ![512, 1024] hx)) y : EReal) = dzb x0 x1 x2 x3 x4 x5 x6 (hi (p 1)) (p 0) (lo (p 1)) := by
  obtain ⟨s, d, rfl⟩ : ∃ (s : Fin 512) (d : Fin 1024), y = ix2 s d := ⟨_, _, ix2_eta y⟩
  rw [place x0 x1 x2 x3 x4 x5 x6 2 s d p (by rw [hy]; show 0 + 1 * s.val = s.val; omega) (by rw [hy]; show 2048 + 1 * d.val = 2 * 1024 + d.val; omega)]
  rw [View.ld_unit_zero (by funext a; match a with | ⟨0, _⟩ => rfl | ⟨1, _⟩ => rfl)]
  rfl
/-- Head `n` of a gain's gradient at its place. -/
theorem pieceg (o : ℕ) (n : Fin 8) (ho : o = n.val * 128) (hx hh) (y : S1x128.Idx) (d : Fin 1024) (hy : d.val = o + 1 * (y 1).val) :
    (k0_pay6 (View.ld x3 (Rect.unit ![0, o] ![512, 128] hx)) (View.ld x0 (Rect.unit ![0, o] ![512, 128] hh)) y : EReal) = dgb x0 x3 d := by
  obtain ⟨e, rfl⟩ : ∃ (e : Fin 128), y = ix2 0 e := ⟨_, ix2_etag y⟩
  obtain rfl : d = at' n e := Fin.ext (hy.trans (by show o + 1 * e.val = n.val * 128 + e.val; omega))
  refine (pay6 _ _ e).trans (Finset.sum_congr rfl fun s _ => ?_)
  rw [dgt_at, funext (ldh o n ho x3 hx s), ldh o n ho x0 hh s e, ldh o n ho x3 hx s e]
/-- A head's gradient as a stored piece, from column `p`, and a gain's. -/
abbrev hz (x h : Vec Idealize.ShloMosaic.Ideal S512x1024 .f32) (g : Vec Idealize.ShloMosaic.Ideal S1x1024 .f32) (p o : ℕ) (hp : ∀ a, (![0, p] : Fin 2 → ℕ) a + (![512, 128] : Fin 2 → ℕ) a ≤ S512x3072.size a) (hx : ∀ a, (![0, o] : Fin 2 → ℕ) a + (![512, 128] : Fin 2 → ℕ) a ≤ S512x1024.size a) (hg : ∀ a, (![0, o] : Fin 2 → ℕ) a + (![1, 128] : Fin 2 → ℕ) a ≤ S1x1024.size a) : View.Piece (Elt Idealize.ShloMosaic.Ideal) S512x3072 .bf16 :=
  ⟨Rect.unit ![0, p] ![512, 128] hp, k0_pay5 (View.ld x (Rect.unit ![0, o] ![512, 128] hx)) (View.ld h (Rect.unit ![0, o] ![512, 128] hx)) (View.ld g (Rect.unit ![0, o] ![1, 128] hg))⟩
abbrev hg (x h : Vec Idealize.ShloMosaic.Ideal S512x1024 .f32) (o : ℕ) (hp : ∀ a, (![0, o] : Fin 2 → ℕ) a + (![1, 128] : Fin 2 → ℕ) a ≤ S1x1024.size a) (hx : ∀ a, (![0, o] : Fin 2 → ℕ) a + (![512, 128] : Fin 2 → ℕ) a ≤ S512x1024.size a) : View.Piece (Elt Idealize.ShloMosaic.Ideal) S1x1024 .f32 :=
  ⟨Rect.unit ![0, o] ![1, 128] hp, k0_pay6 (View.ld x (Rect.unit ![0, o] ![512, 128] hx)) (View.ld h (Rect.unit ![0, o] ![512, 128] hx))⟩
/-- All that a block stores of the joined gradient, the last store first, and of one gain's gradient in the scratch row. -/
def Lz : List (View.Piece (Elt Idealize.ShloMosaic.Ideal) S512x3072 .bf16) :=
  [⟨Rect.unit ![0, 2048] ![512, 1024] inb_S512x3072_S512x1024_0_2048, k0_pay2 (View.ld x2 (Rect.unit ![0, 0] ![512, 1024] inb_S512x1024_S512x1024_0_0))⟩,
    hz x4 x1 x6 1920 896 inb_S512x3072_S512x128_0_1920 inb_S512x1024_S512x128_0_896 inb_S1x1024_S1x128_0_896,
    hz x4 x1 x6 1792 768 inb_S512x3072_S512x128_0_1792 inb_S512x1024_S512x128_0_768 inb_S1x1024_S1x128_0_768,
    hz x4 x1 x6 1664 640 inb_S512x3072_S512x128_0_1664 inb_S512x1024_S512x128_0_640 inb_S1x1024_S1x128_0_640,
    hz x4 x1 x6 1536 512 inb_S512x3072_S512x128_0_1536 inb_S512x1024_S512x128_0_512 inb_S1x1024_S1x128_0_512,
    hz x4 x1 x6 1408 384 inb_S512x3072_S512x128_0_1408 inb_S512x1024_S512x128_0_384 inb_S1x1024_S1x128_0_384,
    hz x4 x1 x6 1280 256 inb_S512x3072_S512x128_0_1280 inb_S512x1024_S512x128_0_256 inb_S1x1024_S1x128_0_256,
    hz x4 x1 x6 1152 128 inb_S512x3072_S512x128_0_1152 inb_S512x1024_S512x128_0_128 inb_S1x1024_S1x128_0_128,
    hz x4 x1 x6 1024 0 inb_S512x3072_S512x128_0_1024 inb_S512x1024_S512x128_0_0 inb_S1x1024_S1x128_0_0,
    hz x3 x0 x5 896 896 inb_S512x3072_S512x128_0_896 inb_S512x1024_S512x128_0_896 inb_S1x1024_S1x128_0_896,
    hz x3 x0 x5 768 768 inb_S512x3072_S512x128_0_768 inb_S512x1024_S512x128_0_768 inb_S1x1024_S1x128_0_768,
    hz x3 x0 x5 640 640 inb_S512x3072_S512x128_0_640 inb_S512x1024_S512x128_0_640 inb_S1x1024_S1x128_0_640,
    hz x3 x0 x5 512 512 inb_S512x3072_S512x128_0_512 inb_S512x1024_S512x128_0_512 inb_S1x1024_S1x128_0_512,
    hz x3 x0 x5 384 384 inb_S512x3072_S512x128_0_384 inb_S512x1024_S512x128_0_384 inb_S1x1024_S1x128_0_384,
    hz x3 x0 x5 256 256 inb_S512x3072_S512x128_0_256 inb_S512x1024_S512x128_0_256 inb_S1x1024_S1x128_0_256,
    hz x3 x0 x5 128 128 inb_S512x3072_S512x128_0_128 inb_S512x1024_S512x128_0_128 inb_S1x1024_S1x128_0_128,
    hz x3 x0 x5 0 0 inb_S512x3072_S512x128_0_0 inb_S512x1024_S512x128_0_0 inb_S1x1024_S1x128_0_0]
def Lg (x h : Vec Idealize.ShloMosaic.Ideal S512x1024 .f32) : List (View.Piece (Elt Idealize.ShloMosaic.Ideal) S1x1024 .f32) :=
  [hg x h 896 inb_S1x1024_S1x128_0_896 inb_S512x1024_S512x128_0_896,
    hg x h 768 inb_S1x1024_S1x128_0_768 inb_S512x1024_S512x128_0_768,
    hg x h 640 inb_S1x1024_S1x128_0_640 inb_S512x1024_S512x128_0_640,
    hg x h 512 inb_S1x1024_S1x128_0_512 inb_S512x1024_S512x128_0_512,
    hg x h 384 inb_S1x1024_S1x128_0_384 inb_S512x1024_S512x128_0_384,
    hg x h 256 inb_S1x1024_S1x128_0_256 inb_S512x1024_S512x128_0_256,
    hg x h 128 inb_S1x1024_S1x128_0_128 inb_S512x1024_S512x128_0_128,
    hg x h 0 inb_S1x1024_S1x128_0_0 inb_S512x1024_S512x128_0_0]
theorem Lz_eq : ∀ q ∈ Lz x0 x1 x2 x3 x4 x5 x6, ∀ y : q.1.shape.Idx, q.2 y = dzb x0 x1 x2 x3 x4 x5 x6 (hi (q.1.emb y 1)) (q.1.emb y 0) (lo (q.1.emb y 1)) := by
  intro q hq
  unfold Lz at hq
  simp only [List.mem_cons, List.not_mem_nil, or_false] at hq
  rcases hq with rfl | rfl | rfl | rfl | rfl | rfl | rfl | rfl | rfl | rfl | rfl | rfl | rfl | rfl | rfl | rfl | rfl <;> intro y
  · exact piecev x0 x1 x2 x3 x4 x5 x6 _ inb_S512x3072_S512x1024_0_2048 y _ rfl
  · exact piecek x0 x1 x2 x3 x4 x5 x6 896 7 rfl _ _ _ inb_S512x3072_S512x128_0_1920 y _ rfl
  · exact piecek x0 x1 x2 x3 x4 x5 x6 768 6 rfl _ _ _ inb_S512x3072_S512x128_0_1792 y _ rfl
  · exact piecek x0 x1 x2 x3 x4 x5 x6 640 5 rfl _ _ _ inb_S512x3072_S512x128_0_1664 y _ rfl
  · exact piecek x0 x1 x2 x3 x4 x5 x6 512 4 rfl _ _ _ inb_S512x3072_S512x128_0_1536 y _ rfl
  · exact piecek x0 x1 x2 x3 x4 x5 x6 384 3 rfl _ _ _ inb_S512x3072_S512x128_0_1408 y _ rfl
  · exact piecek x0 x1 x2 x3 x4 x5 x6 256 2 rfl _ _ _ inb_S512x3072_S512x128_0_1280 y _ rfl
  · exact piecek x0 x1 x2 x3 x4 x5 x6 128 1 rfl _ _ _ inb_S512x3072_S512x128_0_1152 y _ rfl
  · exact piecek x0 x1 x2 x3 x4 x5 x6 0 0 rfl _ _ _ inb_S512x3072_S512x128_0_1024 y _ rfl
  · exact pieceq x0 x1 x2 x3 x4 x5 x6 896 7 rfl _ _ _ inb_S512x3072_S512x128_0_896 y _ rfl
  · exact pieceq x0 x1 x2 x3 x4 x5 x6 768 6 rfl _ _ _ inb_S512x3072_S512x128_0_768 y _ rfl
  · exact pieceq x0 x1 x2 x3 x4 x5 x6 640 5 rfl _ _ _ inb_S512x3072_S512x128_0_640 y _ rfl
  · exact pieceq x0 x1 x2 x3 x4 x5 x6 512 4 rfl _ _ _ inb_S512x3072_S512x128_0_512 y _ rfl
  · exact pieceq x0 x1 x2 x3 x4 x5 x6 384 3 rfl _ _ _ inb_S512x3072_S512x128_0_384 y _ rfl
  · exact pieceq x0 x1 x2 x3 x4 x5 x6 256 2 rfl _ _ _ inb_S512x3072_S512x128_0_256 y _ rfl
  · exact pieceq x0 x1 x2 x3 x4 x5 x6 128 1 rfl _ _ _ inb_S512x3072_S512x128_0_128 y _ rfl
  · exact pieceq x0 x1 x2 x3 x4 x5 x6 0 0 rfl _ _ _ inb_S512x3072_S512x128_0_0 y _ rfl
theorem Lg_at (x h : Vec Idealize.ShloMosaic.Ideal S512x1024 .f32) (d : Fin 1024) : View.AllAt (Lg x h) (ix2 0 d) (dgb h x d) := by
  intro q hq
  unfold Lg at hq
  simp only [List.mem_cons, List.not_mem_nil, or_false] at hq
  rcases hq with rfl | rfl | rfl | rfl | rfl | rfl | rfl | rfl <;> intro y hy
  · exact pieceg h x 896 7 rfl _ _ y d (congrArg (fun z : S1x1024.Idx => (z 1).val) hy).symm
  · exact pieceg h x 768 6 rfl _ _ y d (congrArg (fun z : S1x1024.Idx => (z 1).val) hy).symm
  · exact pieceg h x 640 5 rfl _ _ y d (congrArg (fun z : S1x1024.Idx => (z 1).val) hy).symm
  · exact pieceg h x 512 4 rfl _ _ y d (congrArg (fun z : S1x1024.Idx => (z 1).val) hy).symm
  · exact pieceg h x 384 3 rfl _ _ y d (congrArg (fun z : S1x1024.Idx => (z 1).val) hy).symm
  · exact pieceg h x 256 2 rfl _ _ y d (congrArg (fun z : S1x1024.Idx => (z 1).val) hy).symm
  · exact pieceg h x 128 1 rfl _ _ y d (congrArg (fun z : S1x1024.Idx => (z 1).val) hy).symm
  · exact pieceg h x 0 0 rfl _ _ y d (congrArg (fun z : S1x1024.Idx => (z 1).val) hy).symm
end

/-- What the last `n` stores leave, where they cover. -/
theorem canon_last {L : List (View.Piece (Elt Idealize.ShloMosaic.Ideal) S1x1024 .f32)} (n : ℕ) (y : S1x1024.Idx) (v : EReal)
    (hc : ∃ p ∈ L.take n, y ∈ p.1.set) (h : View.AllAt (L.take n) y v) : (View.canon L y : EReal) = v := by
  induction L generalizing n with
  | nil => obtain ⟨p, hp, _⟩ := hc; simp at hp
  | cons p L ih =>
    match n with
    | 0 => obtain ⟨q, hq, _⟩ := hc; simp at hq
    | n + 1 =>
      rw [List.take_succ_cons] at hc h
      by_cases hm : y ∈ p.1.set
      · obtain ⟨x, rfl⟩ := p.1.exists_idx_of_mem hm
        rw [show p.1.idx x = p.1.emb x from rfl, View.canon_cons_emb]
        exact h p List.mem_cons_self x rfl
      · rw [View.canon_cons_of_not_mem _ _ hm]
        refine ih n ?_ fun q hq => h q (List.mem_cons_of_mem _ hq)
        obtain ⟨q, hq, hyq⟩ := hc
        rcases List.mem_cons.mp hq with rfl | hq'
        · exact absurd hyq hm
        · exact ⟨q, hq', hyq⟩
/-- The scratch row read back after its last eight stores. -/
theorem scr (v : View sig .tc .vmem S1x1024 .f32) (L : List (View.Piece (Elt Idealize.ShloMosaic.Ideal) S1x1024 .f32)) (h) (d : Fin 1024) (w : EReal)
    (hc : ∃ p ∈ L.take 8, (ix2 0 d : S1x1024.Idx) ∈ p.1.set) (ha : View.AllAt (L.take 8) (ix2 0 d) w) :
    (v.readCov L (Rect.unit (s := S1x1024) ![0, 0] ![1, 1024] h).toLoadRect (ix2 0 d) : EReal) = w := by
  rw [View.readCov_eq_canon']
  have e : (Rect.unit (s := S1x1024) ![0, 0] ![1, 1024] h).toLoadRect.idx (ix2 0 d) = ix2 0 d := by
    funext a
    match a with
    | ⟨0, _⟩ => rfl
    | ⟨1, _⟩ => exact Fin.ext (by show 0 + 1 * d.val = d.val; omega)
  show View.canon L ((Rect.unit (s := S1x1024) ![0, 0] ![1, 1024] h).toLoadRect.idx (ix2 0 d)) = w
  rw [e]
  exact canon_last 8 _ w hc ha
theorem scrg (x h : Vec Idealize.ShloMosaic.Ideal S512x1024 .f32) (v : View sig .tc .vmem S1x1024 .f32) (L : List (View.Piece (Elt Idealize.ShloMosaic.Ideal) S1x1024 .f32)) (hb) (hL : L.take 8 = Lg x h) (d : Fin 1024) :
    (v.readCov L (Rect.unit (s := S1x1024) ![0, 0] ![1, 1024] hb).toLoadRect (ix2 0 d) : EReal) = dgb h x d :=
  scr v L hb d _ (hL ▸ View.cover_of_tiledL (Lg x h) ![1, 128] (by sl_kernel_rfl) _) (hL ▸ Lg_at x h d)
theorem off0 : (![0, 0] : Fin 2 → ℕ) = fun _ => 0 := funext fun a => by match a with | ⟨0, _⟩ => rfl | ⟨1, _⟩ => rfl
theorem ld0 (X : Vec Idealize.ShloMosaic.Ideal S1x1024 .f32) (h) (d : Fin 1024) : (View.ld X (Rect.unit ![0, 0] ![1, 1024] h) (ix2 0 d) : EReal) = X (ix2 0 d) := by
  refine congrArg X (funext fun a => ?_)
  match a with
  | ⟨0, _⟩ => rfl
  | ⟨1, _⟩ => exact Fin.ext (by show 0 + 1 * d.val = d.val; omega)

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x3072 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
  (x0 x1 x2 x3 x4 : Vec Idealize.ShloMosaic.Ideal S512x1024 .f32) (x5 x6 xo8 xo9 : Vec Idealize.ShloMosaic.Ideal S1x1024 .f32)

theorem out0_A_7_eq (hc0 : cond0_0 i) (hc1 : ¬cond0_1 i) (hc2 : cond0_2 i) (hc3 : ¬cond0_3 i) (s : Fin 512) (q : Fin 3072) :
    (out0_A_7 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 (ix2 s q) : EReal) = dzb x0 x1 x2 x3 x4 x5 x6 (hi q) s (lo q) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6)]
  refine View.canon_apply_of_pieces (Val := Elt Idealize.ShloMosaic.Ideal) (e := .bf16) (fun y : S512x3072.Idx => dzb x0 x1 x2 x3 x4 x5 x6 (hi (y 1)) (y 0) (lo (y 1))) _ ?_ _ (cover0_A_7 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 _)
  unfold kernelRun0_A
  dsimp only
  sl_unfold_words
  simp only [View.readAt_eq_ld, harg1.read_unread, harg2.read_unread, harg3.read_unread, harg4.read_unread, harg5.read_unread, harg6.read_unread, harg7.read_unread, harg9.read_unread, harg10.read_unread, harg11.read_unread]
  exact Lz_eq x0 x1 x2 x3 x4 x5 x6
theorem out0_A_8_eq (hc0 : cond0_0 i) (hc1 : ¬cond0_1 i) (hc2 : cond0_2 i) (hc3 : ¬cond0_3 i) (d : Fin 1024) :
    (out0_A_8 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 (ix2 0 d) : EReal) = dgb x0 x3 d := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg9.read_unread, harg10.read_unread, harg11.read_unread]
  rw [View.canon_unit_zero off0]
  exact scrg x3 x0 _ _ _ rfl d
theorem out0_A_9_eq (hc0 : cond0_0 i) (hc1 : ¬cond0_1 i) (hc2 : cond0_2 i) (hc3 : ¬cond0_3 i) (d : Fin 1024) :
    (out0_A_9 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 (ix2 0 d) : EReal) = dgb x1 x4 d := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, harg9.read_unread, harg10.read_unread, harg11.read_unread]
  rw [View.canon_unit_zero off0]
  exact scrg x4 x1 _ _ _ rfl d

theorem out0_B_7_eq (hc0 : ¬cond0_0 i) (hc1 : cond0_1 i) (hc2 : ¬cond0_2 i) (hc3 : cond0_3 i) (s : Fin 512) (q : Fin 3072) :
    (out0_B_7 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo8 xo9 (ix2 s q) : EReal) = dzb x0 x1 x2 x3 x4 x5 x6 (hi q) s (lo q) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo8 xo9)]
  refine View.canon_apply_of_pieces (Val := Elt Idealize.ShloMosaic.Ideal) (e := .bf16) (fun y : S512x3072.Idx => dzb x0 x1 x2 x3 x4 x5 x6 (hi (y 1)) (y 0) (lo (y 1))) _ ?_ _ (cover0_B_7 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo8 xo9 _)
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg11.read_unread]
  exact Lz_eq x0 x1 x2 x3 x4 x5 x6
theorem out0_B_8_eq (hc0 : ¬cond0_0 i) (hc1 : cond0_1 i) (hc2 : ¬cond0_2 i) (hc3 : cond0_3 i) (d : Fin 1024) :
    (out0_B_8 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo8 xo9 (ix2 0 d) : EReal) = xo8 (ix2 0 d) + dgb x0 x3 d := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo8 xo9)]
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg11.read_unread]
  rw [View.canon_unit_zero off0]
  refine (pay41 _ _ d).trans (congrArg₂ (· + ·) (ld0 _ _ d) ?_)
  exact scrg x3 x0 _ _ _ rfl d
theorem out0_B_9_eq (hc0 : ¬cond0_0 i) (hc1 : cond0_1 i) (hc2 : ¬cond0_2 i) (hc3 : cond0_3 i) (d : Fin 1024) :
    (out0_B_9 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo8 xo9 (ix2 0 d) : EReal) = xo9 (ix2 0 d) + dgb x1 x4 d := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 hc2 hc3 x0 x1 x2 x3 x4 x5 x6 xo8 xo9)]
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg11.read_unread]
  rw [View.canon_unit_zero off0]
  refine (pay1 _ _ d).trans (congrArg₂ (· + ·) (ld0 _ _ d) ?_)
  exact scrg x4 x1 _ _ _ rfl d

end

section
variable (a0 a1 a2 : S2048x1024.Idx → EReal) (z : S2048x11776.Idx → EReal) (gq gk : S1x1024.Idx → EReal)

/-- The gradient of the queries', the keys' and the values' rows, side by side. -/
def dzw (k : Fin 3) (s : Fin 2048) (d : Fin 1024) : EReal :=
  (![dx (fun q => a0 (ix2 s q)) (fun q => z (ix2 s (zq q))) (fun q => gq (ix2 0 q)) d, dx (fun q => a1 (ix2 s q)) (fun q => z (ix2 s (zk q))) (fun q => gk (ix2 0 q)) d, a2 (ix2 s d)] : Fin 3 → EReal) k
def dz : S2048x3072.Idx → EReal := fun y => dzw a0 a1 a2 z gq gk (hi (y 1)) (y 0) (lo (y 1))
/-- What a row adds to the queries' gain's gradient and to the keys', and those gradients. -/
def rq (s : Fin 2048) (d : Fin 1024) : EReal := dgt (fun q => a0 (ix2 s q)) (fun q => z (ix2 s (zq q))) d
def rk (s : Fin 2048) (d : Fin 1024) : EReal := dgt (fun q => a1 (ix2 s q)) (fun q => z (ix2 s (zk q))) d
def dg (r : Fin 2048 → Fin 1024 → EReal) : S1x1024.Idx → EReal := fun y => ∑ s : Fin 2048, r s (y 1)
theorem dz_at (k : Fin 3) (s : Fin 2048) (d : Fin 1024) (q : Fin 3072) (h : q.val = k.val * 1024 + d.val) : dz a0 a1 a2 z gq gk (ix2 s q) = dzw a0 a1 a2 z gq gk k s d := by
  have hd := d.isLt
  have h1 : hi q = k := Fin.ext (show q.val / 1024 = k.val by omega)
  have h2 : lo q = d := Fin.ext (show q.val % 1024 = d.val by omega)
  show dzw a0 a1 a2 z gq gk (hi q) s (lo q) = _
  rw [h1, h2]
end

section
variable (m : (ℓ : Loc nD τ sig) → Buf (Elt Idealize.ShloMosaic.Ideal) ℓ) (c : Dev nD)

abbrev aq : S2048x1024.Idx → EReal := m ((c : Thread nD τ).loc main_arg0)
abbrev ak : S2048x1024.Idx → EReal := m ((c : Thread nD τ).loc main_arg1)
abbrev av : S2048x1024.Idx → EReal := m ((c : Thread nD τ).loc main_arg2)
abbrev az : S2048x11776.Idx → EReal := m ((c : Thread nD τ).loc main_arg3)
abbrev agq : S1x1024.Idx → EReal := m ((c : Thread nD τ).loc main_arg4)
abbrev agk : S1x1024.Idx → EReal := m ((c : Thread nD τ).loc main_arg5)

theorem blk0 (t : Fin cfg0.N) (s : Fin 512) (d : Fin 1024) : (iblk m c 0 t (ix2 s d) : EReal) = aq m c (ix2 (row t s) d) := by
  show aq m c ((win0_0.blk t).view.emb (ix2 s d)) = _
  generalize aq m c = W; blk_ext [(idx t).1]
theorem blk1 (t : Fin cfg0.N) (s : Fin 512) (d : Fin 1024) : (iblk m c 1 t (ix2 s d) : EReal) = ak m c (ix2 (row t s) d) := by
  show ak m c ((win0_1.blk t).view.emb (ix2 s d)) = _
  generalize ak m c = W; blk_ext [(idx t).2.1]
theorem blk2 (t : Fin cfg0.N) (s : Fin 512) (d : Fin 1024) : (iblk m c 2 t (ix2 s d) : EReal) = av m c (ix2 (row t s) d) := by
  show av m c ((win0_2.blk t).view.emb (ix2 s d)) = _
  generalize av m c = W; blk_ext [(idx t).2.2.1]
theorem blk3 (t : Fin cfg0.N) (s : Fin 512) (d : Fin 1024) : (X0_3 m c t (ix2 s d) : EReal) = az m c (ix2 (row t s) (zq d)) := by
  unfold X0_3 Pipeline.Window.fill
  refine (dif_pos (moved0_3 t _)).trans ?_
  show az m c ((win0_3.blk t).view.emb (fun a => ⟨(ix2 s d a : Fin _).val, _⟩)) = _
  generalize az m c = W; blk_ext [(idx t).2.2.2.1]
theorem blk4 (t : Fin cfg0.N) (s : Fin 512) (d : Fin 1024) : (X0_4 m c t (ix2 s d) : EReal) = az m c (ix2 (row t s) (zk d)) := by
  unfold X0_4 Pipeline.Window.fill
  refine (dif_pos (moved0_4 t _)).trans ?_
  show az m c ((win0_4.blk t).view.emb (fun a => ⟨(ix2 s d a : Fin _).val, _⟩)) = _
  generalize az m c = W; blk_ext [(idx t).2.2.2.2.1]
theorem blk5 (t : Fin cfg0.N) (d : Fin 1024) : (iblk m c 5 t (ix2 0 d) : EReal) = agq m c (ix2 0 d) := by
  show agq m c ((win0_5.blk t).view.emb (ix2 0 d)) = _
  generalize agq m c = W; blk_ext [(idx t).2.2.2.2.2.1]
theorem blk6 (t : Fin cfg0.N) (d : Fin 1024) : (iblk m c 6 t (ix2 0 d) : EReal) = agk m c (ix2 0 d) := by
  show agk m c ((win0_6.blk t).view.emb (ix2 0 d)) = _
  generalize agk m c = W; blk_ext [(idx t).2.2.2.2.2.2.1]
theorem emb7 (t : Fin cfg0.N) (s : Fin 512) (q : Fin 3072) : (win0_7.blk t).view.emb (ix2 s q) = (ix2 (row t s) q : S2048x3072.Idx) := by
  blk_ext [(idx t).2.2.2.2.2.2.2.1]
theorem emb8 (t : Fin cfg0.N) (d : Fin 1024) : (win0_8.blk t).view.emb (ix2 0 d) = (ix2 0 d : S1x1024.Idx) := by
  blk_ext [(idx t).2.2.2.2.2.2.2.2.1]
theorem emb9 (t : Fin cfg0.N) (d : Fin 1024) : (win0_9.blk t).view.emb (ix2 0 d) = (ix2 0 d : S1x1024.Idx) := by
  blk_ext [(idx t).2.2.2.2.2.2.2.2.2]

theorem row0 (t : Fin cfg0.N) (s : Fin 512) : (fun q => (iblk m c 0 t (ix2 s q) : EReal)) = fun q => aq m c (ix2 (row t s) q) := funext fun q => blk0 m c t s q
theorem row1 (t : Fin cfg0.N) (s : Fin 512) : (fun q => (iblk m c 1 t (ix2 s q) : EReal)) = fun q => ak m c (ix2 (row t s) q) := funext fun q => blk1 m c t s q
theorem row3 (t : Fin cfg0.N) (s : Fin 512) : (fun q => (X0_3 m c t (ix2 s q) : EReal)) = fun q => az m c (ix2 (row t s) (zq q)) := funext fun q => blk3 m c t s q
theorem row4 (t : Fin cfg0.N) (s : Fin 512) : (fun q => (X0_4 m c t (ix2 s q) : EReal)) = fun q => az m c (ix2 (row t s) (zk q)) := funext fun q => blk4 m c t s q
theorem row5 (t : Fin cfg0.N) : (fun q => (iblk m c 5 t (ix2 0 q) : EReal)) = fun q => agq m c (ix2 0 q) := funext fun q => blk5 m c t q
theorem row6 (t : Fin cfg0.N) : (fun q => (iblk m c 6 t (ix2 0 q) : EReal)) = fun q => agk m c (ix2 0 q) := funext fun q => blk6 m c t q

theorem dzb_eq (t : Fin cfg0.N) (k : Fin 3) (s : Fin 512) (d : Fin 1024) :
    dzb (iblk m c 0 t) (iblk m c 1 t) (iblk m c 2 t) (X0_3 m c t) (X0_4 m c t) (iblk m c 5 t) (iblk m c 6 t) k s d = dzw (aq m c) (ak m c) (av m c) (az m c) (agq m c) (agk m c) k (row t s) d := by
  unfold dzb dzw
  rw [row0, row1, row3, row4, row5, row6, blk2]
theorem dgq_eq (t : Fin cfg0.N) (d : Fin 1024) : dgb (iblk m c 0 t) (X0_3 m c t) d = ∑ s : Fin 512, rq (aq m c) (az m c) (row t s) d := by
  unfold dgb rq
  exact Finset.sum_congr rfl fun s _ => by rw [row0, row3]
theorem dgk_eq (t : Fin cfg0.N) (d : Fin 1024) : dgb (iblk m c 1 t) (X0_4 m c t) d = ∑ s : Fin 512, rk (ak m c) (az m c) (row t s) d := by
  unfold dgb rk
  exact Finset.sum_congr rfl fun s _ => by rw [row1, row4]

theorem out7 (t : Fin cfg0.N) (s : Fin 512) (q : Fin 3072) : ((outsAt0 m c t.val t.isLt).1 (ix2 s q) : EReal) = dz (aq m c) (ak m c) (av m c) (az m c) (agq m c) (agk m c) (ix2 (row t s) q) := by
  have hN : t.val < 4 := lt_of_lt_of_eq t.isLt N_0
  by_cases h0 : t.val % 4 = 0
  · simp only [outsAt0_A m c t h0 (by omega) h0 (by omega)]
    rw [out0_A_7_eq, dzb_eq]
    rfl
  · simp only [outsAt0_B m c t h0 (by omega) h0 (by omega)]
    rw [out0_B_7_eq, dzb_eq]
    rfl
theorem covers7 : (cfg0.win 7).Covers := by decide +kernel
theorem arr7 : (dats m 0 c).arrAt 7 cfg0.N = dz (aq m c) (ak m c) (av m c) (az m c) (agq m c) (agk m c) := by
  refine (dats m 0 c).arrAt_eq_of_covers 7 _ covers7 fun t hf y => ?_
  blk_simp
  rw [after0_7]
  obtain ⟨s, q, rfl⟩ : ∃ (s : Fin 512) (q : Fin 3072), y = ix2 s q := ⟨_, _, ix2_etaz y⟩
  exact (out7 m c t s q).trans (congrArg _ (emb7 t s q).symm)

/-- What point `t` adds to a gain's gradient; the four of them add up to it. -/
def term (r : Fin 2048 → Fin 1024 → EReal) (t : Fin cfg0.N) (d : Fin 1024) : EReal := ∑ s : Fin 512, r (row t s) d
theorem total (r : Fin 2048 → Fin 1024 → EReal) (f : (n : ℕ) → n < cfg0.N → EReal) (d : Fin 1024)
    (h0 : ∀ t : Fin cfg0.N, t.val % 4 = 0 → f t.val t.isLt = 0 + term r t d)
    (h1 : ∀ t : Fin cfg0.N, ¬t.val % 4 = 0 → f t.val t.isLt = f (t.val - 1) (Nat.lt_of_le_of_lt (Nat.sub_le _ _) t.isLt) + term r t d)
    (t : Fin cfg0.N) (h3 : t.val % 4 = 3) : f t.val t.isLt = dg r (ix2 0 d) := by
  have hN : cfg0.N = 4 := N_0
  have e := Pipeline.eq_sum_fin_of_reset_step_of_flush (M := EReal) f 4 0 (fun t => term r t d) h0 h1 t h3
  refine e.trans ?_
  rw [zero_add]
  show _ = ∑ s : Fin (4 * 512), r s d
  rw [← finProdFinEquiv.sum_comp, Fintype.sum_prod_type]
  refine Finset.sum_congr rfl fun j _ => Finset.sum_congr rfl fun s _ => ?_
  refine congrArg (fun p => r p d) (Fin.ext ?_)
  show (4 * (t.val / 4) + j.val) * 512 + s.val = s.val + 512 * j.val
  have := t.isLt
  omega

theorem out8 (t : Fin cfg0.N) (h3 : t.val % 4 = 3) (d : Fin 1024) : ((outsAt0 m c t.val t.isLt).2.1 (ix2 0 d) : EReal) = dg (rq (aq m c) (az m c)) (ix2 0 d) := by
  refine total (rq (aq m c) (az m c)) (fun n h => (outsAt0 m c n h).2.1 (ix2 0 d)) d (fun t h0 => ?_) (fun t h0 => ?_) t h3
  · have hN : t.val < 4 := lt_of_lt_of_eq t.isLt N_0
    simp only [outsAt0_A m c t h0 (by omega) h0 (by omega)]
    rw [out0_A_8_eq, zero_add, dgq_eq]
    rfl
  · simp only [outsAt0_B m c t h0 (by omega) h0 (by omega)]
    rw [out0_B_8_eq, dgq_eq]
    rfl
theorem covers8 : (cfg0.win 8).Covers := by decide +kernel
theorem arr8 : (dats m 0 c).arrAt 8 cfg0.N = dg (rq (aq m c) (az m c)) := by
  refine (dats m 0 c).arrAt_eq_of_covers 8 _ covers8 fun t hf y => ?_
  blk_simp
  rw [after0_8]
  obtain ⟨d, rfl⟩ : ∃ (d : Fin 1024), y = ix2 0 d := ⟨_, ix2_eta1 y⟩
  exact (out8 m c t ((flush0_8 t).mp hf) d).trans (congrArg _ (emb8 t d).symm)

theorem out9 (t : Fin cfg0.N) (h3 : t.val % 4 = 3) (d : Fin 1024) : ((outsAt0 m c t.val t.isLt).2.2 (ix2 0 d) : EReal) = dg (rk (ak m c) (az m c)) (ix2 0 d) := by
  refine total (rk (ak m c) (az m c)) (fun n h => (outsAt0 m c n h).2.2 (ix2 0 d)) d (fun t h0 => ?_) (fun t h0 => ?_) t h3
  · have hN : t.val < 4 := lt_of_lt_of_eq t.isLt N_0
    simp only [outsAt0_A m c t h0 (by omega) h0 (by omega)]
    rw [out0_A_9_eq, zero_add, dgk_eq]
    rfl
  · simp only [outsAt0_B m c t h0 (by omega) h0 (by omega)]
    rw [out0_B_9_eq, dgk_eq]
    rfl
theorem covers9 : (cfg0.win 9).Covers := by decide +kernel
theorem arr9 : (dats m 0 c).arrAt 9 cfg0.N = dg (rk (ak m c) (az m c)) := by
  refine (dats m 0 c).arrAt_eq_of_covers 9 _ covers9 fun t hf y => ?_
  blk_simp
  rw [after0_9]
  obtain ⟨d, rfl⟩ : ∃ (d : Fin 1024), y = ix2 0 d := ⟨_, ix2_eta1 y⟩
  exact (out9 m c t ((flush0_9 t).mp hf) d).trans (congrArg _ (emb9 t d).symm)

end

/-! The reference's stages, at a row, a head and a lane. -/

section
variable (x0 x1 x2 : (⟨S2048x1024, .f32⟩ : BufTy).Contents (Elt Idealize.ShloMosaic.Ideal)) (x3 : (⟨S2048x11776, .f32⟩ : BufTy).Contents (Elt Idealize.ShloMosaic.Ideal)) (x4 x5 : (⟨S1x1024, .f32⟩ : BufTy).Contents (Elt Idealize.ShloMosaic.Ideal))

theorem ref4 (s : Fin 2048) (n : Fin 8) (e : Fin 128) : (Cert.DqkRefIdeal.Read.val_main_v4 (F := Idealize.ShloMosaic.Ideal) x3 (ix3 s n e) : EReal) = x3 (ix2 s (zq (at' n e))) := by
  rw [Cert.DqkRefIdeal.Read.val_main_v4_apply, Cert.DqkRefIdeal.Read.val_main_v0_apply]
  refine congrArg x3 (funext fun a => ?_)
  match a with
  | ⟨0, _⟩ => exact Fin.ext (by show ((s.val * 8 + n.val) * 128 + e.val) / 1024 = s.val; omega)
  | ⟨1, _⟩ => exact Fin.ext (by show 5120 + ((s.val * 8 + n.val) * 128 + e.val) % 1024 = 5120 + (n.val * 128 + e.val); omega)
theorem ref21 (s : Fin 2048) (n : Fin 8) (e : Fin 128) : (Cert.DqkRefIdeal.Read.val_main_v21 (F := Idealize.ShloMosaic.Ideal) x3 (ix3 s n e) : EReal) = x3 (ix2 s (zk (at' n e))) := by
  rw [Cert.DqkRefIdeal.Read.val_main_v21_apply, Cert.DqkRefIdeal.Read.val_main_v1_apply]
  refine congrArg x3 (funext fun a => ?_)
  match a with
  | ⟨0, _⟩ => exact Fin.ext (by show ((s.val * 8 + n.val) * 128 + e.val) / 1024 = s.val; omega)
  | ⟨1, _⟩ => exact Fin.ext (by show 6144 + ((s.val * 8 + n.val) * 128 + e.val) % 1024 = 6144 + (n.val * 128 + e.val); omega)
theorem ref38 (s : Fin 2048) (n : Fin 8) (e : Fin 128) : (Cert.DqkRefIdeal.Read.val_main_v38 (F := Idealize.ShloMosaic.Ideal) x0 (ix3 s n e) : EReal) = x0 (ix2 s (at' n e)) := by
  rw [Cert.DqkRefIdeal.Read.val_main_v38_apply]
  refine congrArg x0 (funext fun a => ?_)
  match a with
  | ⟨0, _⟩ => exact Fin.ext (by show ((s.val * 8 + n.val) * 128 + e.val) / 1024 = s.val; omega)
  | ⟨1, _⟩ => exact Fin.ext (by show ((s.val * 8 + n.val) * 128 + e.val) % 1024 = n.val * 128 + e.val; omega)
theorem ref39 (s : Fin 2048) (n : Fin 8) (e : Fin 128) : (Cert.DqkRefIdeal.Read.val_main_v39 (F := Idealize.ShloMosaic.Ideal) x1 (ix3 s n e) : EReal) = x1 (ix2 s (at' n e)) := by
  rw [Cert.DqkRefIdeal.Read.val_main_v39_apply]
  refine congrArg x1 (funext fun a => ?_)
  match a with
  | ⟨0, _⟩ => exact Fin.ext (by show ((s.val * 8 + n.val) * 128 + e.val) / 1024 = s.val; omega)
  | ⟨1, _⟩ => exact Fin.ext (by show ((s.val * 8 + n.val) * 128 + e.val) % 1024 = n.val * 128 + e.val; omega)
theorem ref2 (n : Fin 8) (e : Fin 128) : (Cert.DqkRefIdeal.Read.val_main_v2 (F := Idealize.ShloMosaic.Ideal) x4 (ix2 n e) : EReal) = x4 (ix2 0 (at' n e)) := by
  rw [Cert.DqkRefIdeal.Read.val_main_v2_apply]
  refine congrArg x4 (funext fun a => ?_)
  match a with
  | ⟨0, _⟩ => exact Subsingleton.elim (α := Fin 1) _ _
  | ⟨1, _⟩ => exact Fin.ext (by show (n.val * 128 + e.val) % 1024 = n.val * 128 + e.val; omega)
theorem ref3 (n : Fin 8) (e : Fin 128) : (Cert.DqkRefIdeal.Read.val_main_v3 (F := Idealize.ShloMosaic.Ideal) x5 (ix2 n e) : EReal) = x5 (ix2 0 (at' n e)) := by
  rw [Cert.DqkRefIdeal.Read.val_main_v3_apply]
  refine congrArg x5 (funext fun a => ?_)
  match a with
  | ⟨0, _⟩ => exact Subsingleton.elim (α := Fin 1) _ _
  | ⟨1, _⟩ => exact Fin.ext (by show (n.val * 128 + e.val) % 1024 = n.val * 128 + e.val; omega)
theorem refmq (s : Fin 2048) (n : Fin 8) : (Cert.DqkRefIdeal.Read.val_main_v11 (F := Idealize.ShloMosaic.Ideal) x3 (ix3 s n 0) : EReal) = Norm.ms len (hd (fun q => x3 (ix2 s (zq q))) n) := by
  unfold Cert.DqkRefIdeal.Read.val_main_v11 Cert.DqkRefIdeal.Read.val_main_v9 Cert.DqkRefIdeal.Read.val_main_v7 Cert.DqkRefIdeal.Read.val_main_v6 Cert.DqkRefIdeal.Read.val_main_v5 Cert.DqkRefIdeal.Read.val_main_v8 Cert.DqkRefIdeal.Read.val_main_v10 Cert.DqkRefIdeal.Read.val_main_cst Cert.DqkRefIdeal.Read.val_main_cst_0 Cert.DqkRefIdeal.Read.val_main_cst_1
  pointwise
  simp only [ref4]
  rfl
theorem refrq (s : Fin 2048) (n : Fin 8) : (Cert.DqkRefIdeal.Read.val_main_v12 (F := Idealize.ShloMosaic.Ideal) x3 (ix3 s n 0) : EReal) = Norm.ri len (hd (fun q => x3 (ix2 s (zq q))) n) := by
  unfold Cert.DqkRefIdeal.Read.val_main_v12
  pointwise
  rw [refmq]
  rfl
theorem refhq (s : Fin 2048) (n : Fin 8) (e : Fin 128) : (Cert.DqkRefIdeal.Read.val_main_v65 (F := Idealize.ShloMosaic.Ideal) x0 x4 (ix3 s n e) : EReal) = (hd (fun q => x0 (ix2 s q)) n) e * (hd (fun q => x4 (ix2 0 q)) n) e := by
  unfold Cert.DqkRefIdeal.Read.val_main_v65 Cert.DqkRefIdeal.Read.val_main_v64 Cert.DqkRefIdeal.Read.val_main_v18
  pointwise
  rw [ref38, ref2]
theorem refsq (s : Fin 2048) (n : Fin 8) : (Cert.DqkRefIdeal.Read.val_main_v75 (F := Idealize.ShloMosaic.Ideal) x0 x3 x4 (ix2 s n) : EReal) = Norm.ssq len (hd (fun q => x0 (ix2 s q)) n) (hd (fun q => x3 (ix2 s (zq q))) n) (hd (fun q => x4 (ix2 0 q)) n) := by
  unfold Cert.DqkRefIdeal.Read.val_main_v75 Cert.DqkRefIdeal.Read.val_main_v74 Cert.DqkRefIdeal.Read.val_main_v72 Cert.DqkRefIdeal.Read.val_main_v69 Cert.DqkRefIdeal.Read.val_main_v68 Cert.DqkRefIdeal.Read.val_main_v67 Cert.DqkRefIdeal.Read.val_main_v15 Cert.DqkRefIdeal.Read.val_main_v14 Cert.DqkRefIdeal.Read.val_main_v13 Cert.DqkRefIdeal.Read.val_main_v73 Cert.DqkRefIdeal.Read.val_main_cst_2 Cert.DqkRefIdeal.Read.val_main_cst_14 Cert.DqkRefIdeal.Read.val_main_cst_15 Cert.DqkRefIdeal.Read.val_main_cst_16
  pointwise
  refine (Fin.sum_univ_one _).trans ?_
  simp only [refmq, refrq, ref4, refhq]
  rfl
theorem refdq (s : Fin 2048) (n : Fin 8) (e : Fin 128) : (Cert.DqkRefIdeal.Read.val_main_v80 (F := Idealize.ShloMosaic.Ideal) x0 x3 x4 (ix3 s n e) : EReal) = Norm.dxs len (hd (fun q => x0 (ix2 s q)) n) (hd (fun q => x3 (ix2 s (zq q))) n) (hd (fun q => x4 (ix2 0 q)) n) e := by
  unfold Cert.DqkRefIdeal.Read.val_main_v80 Cert.DqkRefIdeal.Read.val_main_v78 Cert.DqkRefIdeal.Read.val_main_v71 Cert.DqkRefIdeal.Read.val_main_v70 Cert.DqkRefIdeal.Read.val_main_v77 Cert.DqkRefIdeal.Read.val_main_v79 Cert.DqkRefIdeal.Read.val_main_v76
  pointwise
  simp only [refrq, ref4, refhq, refsq]
  rfl
theorem refoq (h0 : ∀ y, ∃ r : ℝ, x0 y = (r : EReal)) (h3 : ∀ y, ∃ r : ℝ, x3 y = (r : EReal)) (h4 : ∀ y, ∃ r : ℝ, x4 y = (r : EReal)) (s : Fin 2048) (d : Fin 1024) : (Cert.DqkRefIdeal.Read.val_main_v81 (F := Idealize.ShloMosaic.Ideal) x0 x3 x4 (ix2 s d) : EReal) = dx (fun q => x0 (ix2 s q)) (fun q => x3 (ix2 s (zq q))) (fun q => x4 (ix2 0 q)) d := by
  have e : Cert.DqkRefIdeal.Read.idx_main_v81 (ix2 s d) = ix3 s (head d) (lane d) := by
    funext a
    match a with
    | ⟨0, _⟩ => exact Fin.ext (by show (s.val * 1024 + d.val) / 1024 = s.val; omega)
    | ⟨1, _⟩ => exact Fin.ext (by show (s.val * 1024 + d.val) / 128 % 8 = d.val / 128; omega)
    | ⟨2, _⟩ => exact Fin.ext (by show (s.val * 1024 + d.val) % 128 = d.val % 128; omega)
  rw [Cert.DqkRefIdeal.Read.val_main_v81_apply, e, refdq]
  exact Norm.dxs_eq len 128 (by norm_num) len_eq _ _ _ (fun e => h0 _) (fun e => h3 _) (fun e => h4 _) _
theorem refgq (n : Fin 8) (e : Fin 128) : (Cert.DqkRefIdeal.Read.val_main_v66 (F := Idealize.ShloMosaic.Ideal) x0 x3 (ix2 n e) : EReal) = ∑ s : Fin 2048, rq x0 x3 s (at' n e) := by
  unfold Cert.DqkRefIdeal.Read.val_main_v66 Cert.DqkRefIdeal.Read.val_main_v63 Cert.DqkRefIdeal.Read.val_main_v62 Cert.DqkRefIdeal.Read.val_main_v61 Cert.DqkRefIdeal.Read.val_main_v17 Cert.DqkRefIdeal.Read.val_main_v16 Cert.DqkRefIdeal.Read.val_main_cst_12 Cert.DqkRefIdeal.Read.val_main_cst_13
  pointwise
  refine (Fin.sum_univ_one _).trans ?_
  refine Finset.sum_congr rfl fun s _ => ?_
  unfold rq
  rw [refrq, ref4, ref38, dgt_at]
  exact mul_comm (_ : EReal) (x0 _)
theorem refGq : Cert.DqkRefIdeal.Read.val_main_v84 (F := Idealize.ShloMosaic.Ideal) x0 x3 = dg (rq x0 x3) := funext fun y => by
  obtain ⟨d, rfl⟩ : ∃ (d : Fin 1024), y = ix2 0 d := ⟨_, ix2_eta1 y⟩
  have e : Cert.DqkRefIdeal.Read.idx_main_v84 (ix2 0 d) = ix2 (head d) (lane d) := by
    funext a
    match a with
    | ⟨0, _⟩ => exact Fin.ext (by show (0 * 1024 + d.val) / 128 = d.val / 128; omega)
    | ⟨1, _⟩ => exact Fin.ext (by show (0 * 1024 + d.val) % 128 = d.val % 128; omega)
  rw [Cert.DqkRefIdeal.Read.val_main_v84_apply, e]
  refine (refgq x0 x3 (head d) (lane d)).trans ?_
  rw [at_head]
  rfl

theorem refmk (s : Fin 2048) (n : Fin 8) : (Cert.DqkRefIdeal.Read.val_main_v28 (F := Idealize.ShloMosaic.Ideal) x3 (ix3 s n 0) : EReal) = Norm.ms len (hd (fun q => x3 (ix2 s (zk q))) n) := by
  unfold Cert.DqkRefIdeal.Read.val_main_v28 Cert.DqkRefIdeal.Read.val_main_v26 Cert.DqkRefIdeal.Read.val_main_v24 Cert.DqkRefIdeal.Read.val_main_v23 Cert.DqkRefIdeal.Read.val_main_v22 Cert.DqkRefIdeal.Read.val_main_v25 Cert.DqkRefIdeal.Read.val_main_v27 Cert.DqkRefIdeal.Read.val_main_cst_3 Cert.DqkRefIdeal.Read.val_main_cst_4 Cert.DqkRefIdeal.Read.val_main_cst_5
  pointwise
  simp only [ref21]
  rfl
theorem refrk (s : Fin 2048) (n : Fin 8) : (Cert.DqkRefIdeal.Read.val_main_v29 (F := Idealize.ShloMosaic.Ideal) x3 (ix3 s n 0) : EReal) = Norm.ri len (hd (fun q => x3 (ix2 s (zk q))) n) := by
  unfold Cert.DqkRefIdeal.Read.val_main_v29
  pointwise
  rw [refmk]
  rfl
theorem refhk (s : Fin 2048) (n : Fin 8) (e : Fin 128) : (Cert.DqkRefIdeal.Read.val_main_v44 (F := Idealize.ShloMosaic.Ideal) x1 x5 (ix3 s n e) : EReal) = (hd (fun q => x1 (ix2 s q)) n) e * (hd (fun q => x5 (ix2 0 q)) n) e := by
  unfold Cert.DqkRefIdeal.Read.val_main_v44 Cert.DqkRefIdeal.Read.val_main_v43 Cert.DqkRefIdeal.Read.val_main_v35
  pointwise
  rw [ref39, ref3]
theorem refsk (s : Fin 2048) (n : Fin 8) : (Cert.DqkRefIdeal.Read.val_main_v54 (F := Idealize.ShloMosaic.Ideal) x1 x3 x5 (ix2 s n) : EReal) = Norm.ssq len (hd (fun q => x1 (ix2 s q)) n) (hd (fun q => x3 (ix2 s (zk q))) n) (hd (fun q => x5 (ix2 0 q)) n) := by
  unfold Cert.DqkRefIdeal.Read.val_main_v54 Cert.DqkRefIdeal.Read.val_main_v53 Cert.DqkRefIdeal.Read.val_main_v51 Cert.DqkRefIdeal.Read.val_main_v48 Cert.DqkRefIdeal.Read.val_main_v47 Cert.DqkRefIdeal.Read.val_main_v46 Cert.DqkRefIdeal.Read.val_main_v32 Cert.DqkRefIdeal.Read.val_main_v31 Cert.DqkRefIdeal.Read.val_main_v30 Cert.DqkRefIdeal.Read.val_main_v52 Cert.DqkRefIdeal.Read.val_main_cst_6 Cert.DqkRefIdeal.Read.val_main_cst_9 Cert.DqkRefIdeal.Read.val_main_cst_10 Cert.DqkRefIdeal.Read.val_main_cst_11
  pointwise
  refine (Fin.sum_univ_one _).trans ?_
  simp only [refmk, refrk, ref21, refhk]
  rfl
theorem refdk (s : Fin 2048) (n : Fin 8) (e : Fin 128) : (Cert.DqkRefIdeal.Read.val_main_v59 (F := Idealize.ShloMosaic.Ideal) x1 x3 x5 (ix3 s n e) : EReal) = Norm.dxs len (hd (fun q => x1 (ix2 s q)) n) (hd (fun q => x3 (ix2 s (zk q))) n) (hd (fun q => x5 (ix2 0 q)) n) e := by
  unfold Cert.DqkRefIdeal.Read.val_main_v59 Cert.DqkRefIdeal.Read.val_main_v57 Cert.DqkRefIdeal.Read.val_main_v50 Cert.DqkRefIdeal.Read.val_main_v49 Cert.DqkRefIdeal.Read.val_main_v56 Cert.DqkRefIdeal.Read.val_main_v58 Cert.DqkRefIdeal.Read.val_main_v55
  pointwise
  simp only [refrk, ref21, refhk, refsk]
  rfl
theorem refok (h0 : ∀ y, ∃ r : ℝ, x1 y = (r : EReal)) (h3 : ∀ y, ∃ r : ℝ, x3 y = (r : EReal)) (h4 : ∀ y, ∃ r : ℝ, x5 y = (r : EReal)) (s : Fin 2048) (d : Fin 1024) : (Cert.DqkRefIdeal.Read.val_main_v60 (F := Idealize.ShloMosaic.Ideal) x1 x3 x5 (ix2 s d) : EReal) = dx (fun q => x1 (ix2 s q)) (fun q => x3 (ix2 s (zk q))) (fun q => x5 (ix2 0 q)) d := by
  have e : Cert.DqkRefIdeal.Read.idx_main_v60 (ix2 s d) = ix3 s (head d) (lane d) := by
    funext a
    match a with
    | ⟨0, _⟩ => exact Fin.ext (by show (s.val * 1024 + d.val) / 1024 = s.val; omega)
    | ⟨1, _⟩ => exact Fin.ext (by show (s.val * 1024 + d.val) / 128 % 8 = d.val / 128; omega)
    | ⟨2, _⟩ => exact Fin.ext (by show (s.val * 1024 + d.val) % 128 = d.val % 128; omega)
  rw [Cert.DqkRefIdeal.Read.val_main_v60_apply, e, refdk]
  exact Norm.dxs_eq len 128 (by norm_num) len_eq _ _ _ (fun e => h0 _) (fun e => h3 _) (fun e => h4 _) _
theorem refgk (n : Fin 8) (e : Fin 128) : (Cert.DqkRefIdeal.Read.val_main_v45 (F := Idealize.ShloMosaic.Ideal) x1 x3 (ix2 n e) : EReal) = ∑ s : Fin 2048, rk x1 x3 s (at' n e) := by
  unfold Cert.DqkRefIdeal.Read.val_main_v45 Cert.DqkRefIdeal.Read.val_main_v42 Cert.DqkRefIdeal.Read.val_main_v41 Cert.DqkRefIdeal.Read.val_main_v40 Cert.DqkRefIdeal.Read.val_main_v34 Cert.DqkRefIdeal.Read.val_main_v33 Cert.DqkRefIdeal.Read.val_main_cst_7 Cert.DqkRefIdeal.Read.val_main_cst_8
  pointwise
  refine (Fin.sum_univ_one _).trans ?_
  refine Finset.sum_congr rfl fun s _ => ?_
  unfold rk
  rw [refrk, ref21, ref39, dgt_at]
  exact mul_comm (_ : EReal) (x1 _)
theorem refGk : Cert.DqkRefIdeal.Read.val_main_v85 (F := Idealize.ShloMosaic.Ideal) x1 x3 = dg (rk x1 x3) := funext fun y => by
  obtain ⟨d, rfl⟩ : ∃ (d : Fin 1024), y = ix2 0 d := ⟨_, ix2_eta1 y⟩
  have e : Cert.DqkRefIdeal.Read.idx_main_v85 (ix2 0 d) = ix2 (head d) (lane d) := by
    funext a
    match a with
    | ⟨0, _⟩ => exact Fin.ext (by show (0 * 1024 + d.val) / 128 = d.val / 128; omega)
    | ⟨1, _⟩ => exact Fin.ext (by show (0 * 1024 + d.val) % 128 = d.val % 128; omega)
  rw [Cert.DqkRefIdeal.Read.val_main_v85_apply, e]
  refine (refgk x1 x3 (head d) (lane d)).trans ?_
  rw [at_head]
  rfl

theorem refZ (h0 : ∀ y, ∃ r : ℝ, x0 y = (r : EReal)) (h1 : ∀ y, ∃ r : ℝ, x1 y = (r : EReal)) (h3 : ∀ y, ∃ r : ℝ, x3 y = (r : EReal)) (h4 : ∀ y, ∃ r : ℝ, x4 y = (r : EReal)) (h5 : ∀ y, ∃ r : ℝ, x5 y = (r : EReal)) :
    Cert.DqkRefIdeal.Read.val_main_v83 (F := Idealize.ShloMosaic.Ideal) x0 x1 x2 x3 x4 x5 = dz x0 x1 x2 x3 x4 x5 := funext fun y => by
  obtain ⟨s, q, rfl⟩ : ∃ (s : Fin 2048) (q : Fin 3072), y = ix2 s q := ⟨_, _, ix2_etaZ y⟩
  unfold Cert.DqkRefIdeal.Read.val_main_v83 Cert.DqkRefIdeal.Read.val_main_v82
  pointwise
  by_cases h1' : q.val < 1024
  · refine (dif_pos h1').trans (Eq.trans ?_ (dz_at _ _ _ _ _ _ 0 s ⟨q.val, h1'⟩ q (by show q.val = 0 * 1024 + q.val; omega)).symm)
    exact refoq x0 x3 x4 h0 h3 h4 s _
  refine (dif_neg h1').trans ?_
  by_cases h2' : q.val - 1024 < 1024
  · refine (dif_pos h2').trans (Eq.trans ?_ (dz_at _ _ _ _ _ _ 1 s ⟨q.val - 1024, h2'⟩ q (by show q.val = 1 * 1024 + (q.val - 1024); omega)).symm)
    exact refok x1 x3 x5 h1 h3 h5 s _
  · have hq := q.isLt
    have h3' : q.val - 1024 - 1024 < 1024 := by omega
    exact (dif_neg h2').trans (dz_at _ _ _ _ _ _ 2 s ⟨q.val - 1024 - 1024, h3'⟩ q (by show q.val = 2 * 1024 + (q.val - 1024 - 1024); omega)).symm
end

theorem pre_facts : Cert.Pre_finite_dqk.Facts where
  bcast_S_S2048x1024 := by decide
  bcast_S_S2048x11776 := by decide
  bcast_S_S1x1024 := by decide

theorem value : Cert.algebraic_DqkIdeal_DqkRefIdeal_pre_finite_dqk (hDqkIdeal := Cert.DqkIdeal.Gen.facts) (hDqkRefIdeal := Cert.DqkRefIdeal.Gen.facts) (hPre_finite_dqk := pre_facts) := by
  intro m g m' g' hpre hagree
  refine ⟨fun c => _, fun c => _, fun c => _, Cert.DqkIdeal.Value.run_blocks m g, ?_⟩
  refine (θ_run (Cert.DqkRefIdeal.defs (F := Idealize.ShloMosaic.Ideal)) _ _).mono (fun r h c => ?_) (Cert.DqkRefIdeal.Value.run (F := Idealize.ShloMosaic.Ideal) m' g')
  obtain ⟨g0, g1, g2, g3, g4, g5⟩ := hagree c
  obtain ⟨p0, p1, p3, p4, p5⟩ := hpre c
  have h0 := Cert.Dkv.fin_gen pre_facts.bcast_S_S2048x1024 _ Cert.Dkv.inf_f32 (aq m c) p0
  have h1 := Cert.Dkv.fin_gen pre_facts.bcast_S_S2048x1024 _ Cert.Dkv.inf_f32 (ak m c) p1
  have h3 := Cert.Dkv.fin_gen pre_facts.bcast_S_S2048x11776 _ Cert.Dkv.inf_f32 (az m c) p3
  have h4 := Cert.Dkv.fin_gen pre_facts.bcast_S_S1x1024 _ Cert.Dkv.inf_f32 (agq m c) p4
  have h5 := Cert.Dkv.fin_gen pre_facts.bcast_S_S1x1024 _ Cert.Dkv.inf_f32 (agk m c) p5
  refine ⟨(h c).1.trans ((Cert.DqkRefIdeal.Read.val_main_v83_eq (F := Idealize.ShloMosaic.Ideal) m' c).trans ?_), (h c).2.1.trans ((Cert.DqkRefIdeal.Read.val_main_v84_eq (F := Idealize.ShloMosaic.Ideal) _ _).trans ?_), (h c).2.2.1.trans ((Cert.DqkRefIdeal.Read.val_main_v85_eq (F := Idealize.ShloMosaic.Ideal) _ _).trans ?_), (h c).2.2.2⟩
  · clear h
    rw [g0, g1, g2, g3, g4, g5]
    exact (refZ _ _ _ _ _ _ h0 h1 h3 h4 h5).trans (arr7 m c).symm
  · clear h
    rw [g0, g3]
    exact (refGq _ _).trans (arr8 m c).symm
  · clear h
    rw [g1, g3]
    exact (refGk _ _).trans (arr9 m c).symm

end Cert.Bwd.Dqk

end
-- ==== Proof.Bwd.Dh.lean ====
module

public import proofs.«01_k».proof.Defs
public import proofs.«01_k».proof.Proof.Gen.DhIdeal
public import proofs.«01_k».proof.Proof.Gen.DhIdeal.Value
public import proofs.«01_k».proof.Proof.Gen.DhRefIdeal
public import proofs.«01_k».proof.Proof.Gen.DhRefIdeal.Run
public import proofs.«01_k».proof.Proof.Gen.DhRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.Dh

open Cert.DhIdeal Cert.DhIdeal.Gen Idealize.ShloMosaic Idealize.ShloMosaic.TcCoe Idealize.ShloMosaic.Tactic Idealize.SL.Sem

/-! # The input's gradient of the two feed-forward products: eight blocks of columns, summed -/

/-- The index maps: a block of columns' gradients, its weight, and the whole result. -/
theorem idx : ∀ t : Fin cfg0.N, win0_0.index t = ![t.val, 0, 0] ∧ win0_1.index t = ![0, t.val, 0, 0] :=
  (by decide +kernel : ∀ t : Fin grid0.N, _)

abbrev pt (t : Fin cfg0.N) : Fin 8 := ⟨t.val, by have := t.isLt; have e : cfg0.N = 8 := N_0; omega⟩

/-- The gradient, from the whole arrays. -/
def prod (dgu : S8x2048x704.Idx → EReal) (w : S1x8x704x1024.Idx → EReal) : S2048x1024.Idx → EReal :=
  fun y => ∑ j : Fin 8, ∑ f : Fin 704, dgu (ix3 j (y 0) f) * w (ix4 0 j f (y 1))

theorem pay1 (x0 : Vec Idealize.ShloMosaic.Ideal S1x2048x704 .bf16) (x1 : Vec Idealize.ShloMosaic.Ideal S1x1x704x1024 .bf16) (s : Fin 2048) (d : Fin 1024) :
    (k0_pay1 x0 x1 (ix2 s d) : EReal) = ∑ f : Fin 704, x0 (ix3 0 s f) * x1 (ix4 0 0 f d) := by
  unfold k0_pay1
  pointwise

theorem pay2 (x0 : Vec Idealize.ShloMosaic.Ideal S1x2048x704 .bf16) (x1 : Vec Idealize.ShloMosaic.Ideal S1x1x704x1024 .bf16) (s : Fin 2048) (d : Fin 1024) :
    (k0_pay2 x0 x1 (ix2 s d) : EReal) = ∑ f : Fin 704, x0 (ix3 0 s f) * x1 (ix4 0 0 f d) := by
  refine Eq.trans ?_ (pay1 x0 x1 s d)
  unfold k0_pay2
  pointwise

theorem pay3 (x0 : Vec Idealize.ShloMosaic.Ideal S1x2048x704 .bf16) (x1 : Vec Idealize.ShloMosaic.Ideal S1x1x704x1024 .bf16) (xs : Vec Idealize.ShloMosaic.Ideal S2048x1024 .f32) (s : Fin 2048) (d : Fin 1024) :
    (k0_pay3 x0 x1 xs (ix2 s d) : EReal) = xs (ix2 s d) + ∑ f : Fin 704, x0 (ix3 0 s f) * x1 (ix4 0 0 f d) := by
  rw [← pay1]
  unfold k0_pay3
  pointwise

theorem ix2_eta (y : S2048x1024.Idx) : y = ix2 (⟨(y 0).val, (y 0).isLt⟩ : Fin 2048) (⟨(y 1).val, (y 1).isLt⟩ : Fin 1024) := by
  funext a
  match a with
  | ⟨0, _⟩ => rfl
  | ⟨1, _⟩ => rfl

theorem sout0_A_0_eq (c : Dev nD) (i : grid0.Coords) (arg3 : Memref sig .tc .vmem S1x2048x704 .bf16) (harg3 : arg3.IsWhole) (arg4 : Memref sig .tc .vmem S1x1x704x1024 .bf16) (harg4 : arg4.IsWhole)
    (arg5 : Memref sig .tc .vmem S2048x1024 .f32) (harg5 : arg5.IsWhole) (arg6 : Memref sig .tc .vmem S2048x1024 .f32) (harg6 : arg6.IsWhole) (hc0 : cond0_0 i) (hc1 : ¬cond0_1 i) (hc2 : ¬cond0_2 i)
    (x0 : Vec Idealize.ShloMosaic.Ideal S1x2048x704 .bf16) (x1 : Vec Idealize.ShloMosaic.Ideal S1x1x704x1024 .bf16) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  simp only [View.readAt_eq_ld, harg3.read_unread, harg4.read_unread, harg6.read_unread, harg5.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl | ⟨3, _⟩ => rfl)]

theorem sout0_B_0_eq (c : Dev nD) (i : grid0.Coords) (arg3 : Memref sig .tc .vmem S1x2048x704 .bf16) (harg3 : arg3.IsWhole) (arg4 : Memref sig .tc .vmem S1x1x704x1024 .bf16) (harg4 : arg4.IsWhole)
    (arg5 : Memref sig .tc .vmem S2048x1024 .f32) (harg5 : arg5.IsWhole) (arg6 : Memref sig .tc .vmem S2048x1024 .f32) (harg6 : arg6.IsWhole) (hc0 : ¬cond0_0 i) (hc1 : cond0_1 i) (hc2 : ¬cond0_2 i)
    (x0 : Vec Idealize.ShloMosaic.Ideal S1x2048x704 .bf16) (x1 : Vec Idealize.ShloMosaic.Ideal S1x1x704x1024 .bf16) (xs0 : Vec Idealize.ShloMosaic.Ideal S2048x1024 .f32) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  simp only [View.readAt_eq_ld, harg3.read_unread, harg4.read_unread, harg6.read_unread, harg5.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl)]

theorem sout0_C_0_eq (c : Dev nD) (i : grid0.Coords) (arg3 : Memref sig .tc .vmem S1x2048x704 .bf16) (harg3 : arg3.IsWhole) (arg4 : Memref sig .tc .vmem S1x1x704x1024 .bf16) (harg4 : arg4.IsWhole)
    (arg5 : Memref sig .tc .vmem S2048x1024 .f32) (harg5 : arg5.IsWhole) (arg6 : Memref sig .tc .vmem S2048x1024 .f32) (harg6 : arg6.IsWhole) (hc0 : ¬cond0_0 i) (hc1 : cond0_1 i) (hc2 : cond0_2 i)
    (x0 : Vec Idealize.ShloMosaic.Ideal S1x2048x704 .bf16) (x1 : Vec Idealize.ShloMosaic.Ideal S1x1x704x1024 .bf16) (xs0 : Vec Idealize.ShloMosaic.Ideal S2048x1024 .f32) :
    sout0_C_0 c i arg3 harg3 arg4 harg4 arg5 harg5 arg6 harg6 hc0 hc1 hc2 x0 x1 xs0 = k0_pay3 x0 x1 xs0 := by
  unfold sout0_C_0
  rw [View.read_writes_eq_canon _ _ _ (scover0_C_0 c i arg3 harg3 arg4 harg4 arg5 harg5 arg6 harg6 hc0 hc1 hc2 x0 x1 xs0)]
  unfold kernelRun0_C
  dsimp only
  sl_unfold_words
  simp only [View.readAt_eq_ld, harg3.read_unread, harg4.read_unread, harg6.read_unread, harg5.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl)]

theorem out0_C_2_eq (c : Dev nD) (i : grid0.Coords) (arg3 : Memref sig .tc .vmem S1x2048x704 .bf16) (harg3 : arg3.IsWhole) (arg4 : Memref sig .tc .vmem S1x1x704x1024 .bf16) (harg4 : arg4.IsWhole)
    (arg5 : Memref sig .tc .vmem S2048x1024 .f32) (harg5 : arg5.IsWhole) (arg6 : Memref sig .tc .vmem S2048x1024 .f32) (harg6 : arg6.IsWhole) (hc0 : ¬cond0_0 i) (hc1 : cond0_1 i) (hc2 : cond0_2 i)
    (x0 : Vec Idealize.ShloMosaic.Ideal S1x2048x704 .bf16) (x1 : Vec Idealize.ShloMosaic.Ideal S1x1x704x1024 .bf16) (xs0 : Vec Idealize.ShloMosaic.Ideal S2048x1024 .f32) :
    out0_C_2 c i arg3 harg3 arg4 harg4 arg5 harg5 arg6 harg6 hc0 hc1 hc2 x0 x1 xs0 = k0_pay3 x0 x1 xs0 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  simp only [View.readAt_eq_ld, harg3.read_unread, harg4.read_unread, harg6.read_unread, harg5.read_unread]
  refine (View.canon_unit_zero (by funext a; match a with | ⟨0, _⟩ => rfl | ⟨1, _⟩ => rfl) _ _).trans ?_
  refine (View.readCov_unit_zero _ (by funext a; match a with | ⟨0, _⟩ => rfl | ⟨1, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl)]

section
variable (m : (ℓ : Loc nD τ sig) → Buf (Elt Idealize.ShloMosaic.Ideal) ℓ) (c : Dev nD)

abbrev dgu : S8x2048x704.Idx → EReal := m ((c : Thread nD τ).loc main_arg0)
abbrev wgu : S1x8x704x1024.Idx → EReal := m ((c : Thread nD τ).loc main_arg1)

theorem blk0 (t : Fin cfg0.N) (s : Fin 2048) (f : Fin 704) : (iblk m c 0 t (ix3 0 s f) : EReal) = dgu m c (ix3 (pt t) s f) := by
  show dgu m c ((win0_0.blk t).view.emb (ix3 0 s f)) = _
  generalize dgu m c = W; blk_ext [(idx t).1]
theorem blk1 (t : Fin cfg0.N) (f : Fin 704) (d : Fin 1024) : (iblk m c 1 t (ix4 0 0 f d) : EReal) = wgu m c (ix4 0 (pt t) f d) := by
  show wgu m c ((win0_1.blk t).view.emb (ix4 0 0 f d)) = _
  generalize wgu m c = W; blk_ext [(idx t).2]

/-- What point `t` adds. -/
def term (t : Fin cfg0.N) (s : Fin 2048) (d : Fin 1024) : EReal :=
  ∑ f : Fin 704, dgu m c (ix3 (pt t) s f) * wgu m c (ix4 0 (pt t) f d)

theorem first (t : Fin cfg0.N) (h0 : t.val % 8 = 0) (s : Fin 2048) (d : Fin 1024) :
    ((outsAt0 m c t.val t.isLt).2 (ix2 s d) : EReal) = 0 + term m c t s d := by
  have hN : cfg0.N = 8 := N_0
  have := t.isLt
  simp only [outsAt0_A m c t h0 (by omega) (by omega)]
  rw [sout0_A_0_eq, pay2, zero_add]
  simp only [blk0, blk1]
  rfl

theorem next (t : Fin cfg0.N) (h0 : ¬t.val % 8 = 0) (s : Fin 2048) (d : Fin 1024) :
    ((outsAt0 m c t.val t.isLt).2 (ix2 s d) : EReal) = (outsAt0 m c (t.val - 1) (Nat.lt_of_le_of_lt (Nat.sub_le _ _) t.isLt)).2 (ix2 s d) + term m c t s d := by
  by_cases h2 : t.val % 8 = 7
  · simp only [outsAt0_C m c t h0 (by omega) h2]
    rw [sout0_C_0_eq, pay3]
    simp only [blk0, blk1]
    rfl
  · simp only [outsAt0_B m c t h0 (by omega) h2]
    rw [sout0_B_0_eq, pay3]
    simp only [blk0, blk1]
    rfl

theorem last (t : Fin cfg0.N) (ht : t.val + 1 = cfg0.N) (s : Fin 2048) (d : Fin 1024) :
    ((outsAt0 m c t.val t.isLt).1 (ix2 s d) : EReal) = prod (dgu m c) (wgu m c) (ix2 s d) := by
  have hN : cfg0.N = 8 := N_0
  have e := Pipeline.eq_sum_fin_of_reset_step_last (M := EReal) (fun n h => (outsAt0 m c n h).2 (ix2 s d)) 8 0 (fun t => term m c t s d)
    (fun t h => first m c t h s d) (fun t h => next m c t h s d) (le_of_eq N_0) t ht
  have e2 : ((outsAt0 m c t.val t.isLt).1 (ix2 s d) : EReal) = (outsAt0 m c t.val t.isLt).2 (ix2 s d) := by
    simp only [outsAt0_C m c t (by omega) (by omega) (by omega)]
    rw [sout0_C_0_eq, out0_C_2_eq]
  refine e2.trans (e.trans ?_)
  rw [zero_add]
  show _ = ∑ j : Fin 8, ∑ f : Fin 704, dgu m c (ix3 j s f) * wgu m c (ix4 0 j f d)
  refine Fintype.sum_equiv (finCongr hN) _ _ fun p => ?_
  rfl

abbrev tl : Fin cfg0.N := ⟨7, by have e : cfg0.N = 8 := N_0; omega⟩

theorem whole2 : (cfg0.win 2).WholeAt tl := by decide +kernel

theorem arr2 : (dats m 0 c).arrAt 2 cfg0.N = prod (dgu m c) (wgu m c) := by
  refine (dats m 0 c).arrAt_eq_of_after_last 2 tl whole2 _ fun y => ?_
  blk_simp
  rw [after0_2]
  obtain ⟨s, d, rfl⟩ : ∃ (s : Fin 2048) (d : Fin 1024), y = ix2 s d := ⟨_, _, ix2_eta y⟩
  exact last m c tl (show (7 : ℕ) + 1 = cfg0.N from N_0.symm) s d

end

theorem ref (x0 : (⟨S8x2048x704, .bf16⟩ : BufTy).Contents (Elt Idealize.ShloMosaic.Ideal)) (x1 : (⟨S1x8x704x1024, .bf16⟩ : BufTy).Contents (Elt Idealize.ShloMosaic.Ideal)) :
    Cert.DhRefIdeal.Read.val_main_v7 (F := Idealize.ShloMosaic.Ideal) x0 x1 = prod x0 x1 := by
  funext y
  obtain ⟨s, d, rfl⟩ : ∃ (s : Fin 2048) (d : Fin 1024), y = ix2 s d := ⟨_, _, ix2_eta y⟩
  unfold Cert.DhRefIdeal.Read.val_main_v7 Cert.DhRefIdeal.Read.val_main_v6 Cert.DhRefIdeal.Read.val_main_v5 Cert.DhRefIdeal.Read.val_main_v1 Cert.DhRefIdeal.Read.val_main_v0
  pointwise
  rfl

theorem value : Cert.algebraic_DhIdeal_DhRefIdeal (hDhIdeal := Cert.DhIdeal.Gen.facts) (hDhRefIdeal := Cert.DhRefIdeal.Gen.facts) := by
  intro m g m' g' _ hagree
  refine ⟨fun c => _, Cert.DhIdeal.Value.run_blocks m g, ?_⟩
  refine (θ_run (Cert.DhRefIdeal.defs (F := Idealize.ShloMosaic.Ideal)) _ _).mono (fun r h c => ?_) (Cert.DhRefIdeal.Value.run (F := Idealize.ShloMosaic.Ideal) m' g')
  obtain ⟨g0, g1⟩ := hagree c
  refine ⟨(h c).1.trans ((Cert.DhRefIdeal.Read.val_main_v7_eq (F := Idealize.ShloMosaic.Ideal) _ _).trans ((ref _ _).trans ?_)), (h c).2⟩
  exact (congrArg₂ prod g0 g1).trans (arr2 m c).symm

end Cert.Bwd.Dh

end
-- ==== Proof.Bwd.Dwgu.lean ====
module

public import proofs.«01_k».proof.Defs
public import proofs.«01_k».proof.Proof.Gen.DwguIdeal
public import proofs.«01_k».proof.Proof.Gen.DwguIdeal.Value
public import proofs.«01_k».proof.Proof.Gen.DwguRefIdeal
public import proofs.«01_k».proof.Proof.Gen.DwguRefIdeal.Run
public import proofs.«01_k».proof.Proof.Gen.DwguRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.Dwgu

open Cert.DwguIdeal Cert.DwguIdeal.Gen Idealize.ShloMosaic Idealize.ShloMosaic.TcCoe Idealize.ShloMosaic.Tactic Idealize.SL.Sem

/-! # The gradient of the gate and up weights: block `j` is its columns' gradients, transposed, by the input -/

/-- The index maps: a block of columns' gradients, the whole input, and the block's place among the even and odd blocks. -/
theorem idx : ∀ t : Fin cfg0.N, win0_0.index t = ![t.val, 0, 0] ∧ win0_1.index t = ![0, 0] ∧ win0_2.index t = ![t.val % 2, t.val / 2, 0, 0, 0] :=
  (by decide +kernel : ∀ t : Fin grid0.N, _)

abbrev pt (t : Fin cfg0.N) : Fin 8 := ⟨t.val, by have := t.isLt; have e : cfg0.N = 8 := N_0; omega⟩
abbrev core (t : Fin cfg0.N) : Fin 2 := ⟨t.val % 2, by omega⟩
abbrev chip (t : Fin cfg0.N) : Fin 4 := ⟨t.val / 2, by have := t.isLt; have e : cfg0.N = 8 := N_0; omega⟩

/-- The gradient, from the whole arrays: block `2 * q + p` at `p`, `q`. -/
def prod (dgu : S8x2048x704.Idx → EReal) (h : S2048x1024.Idx → EReal) : S2x4x1x704x1024.Idx → EReal :=
  fun y => ∑ s : Fin 2048, dgu (ix3 ⟨(y 1).val * 2 + (y 0).val, by have h0 : (y 0).val < 2 := (y 0).isLt; have h1 : (y 1).val < 4 := (y 1).isLt; omega⟩ s (y 3)) * h (ix2 s (y 4))

theorem pay (x0 : Vec Idealize.ShloMosaic.Ideal S1x2048x704 .bf16) (x1 : Vec Idealize.ShloMosaic.Ideal S2048x1024 .bf16) (f : Fin 704) (d : Fin 1024) :
    (k0_pay1 x0 x1 (ix5 0 0 0 f d) : EReal) = ∑ s : Fin 2048, x0 (ix3 0 s f) * x1 (ix2 s d) := by
  unfold k0_pay1
  pointwise

theorem ix5_eta (y : S1x1x1x704x1024.Idx) : y = ix5 0 0 0 (⟨(y 3).val, (y 3).isLt⟩ : Fin 704) (⟨(y 4).val, (y 4).isLt⟩ : Fin 1024) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

theorem ix5_eta' (y : S2x4x1x704x1024.Idx) : y = ix5 (⟨(y 0).val, (y 0).isLt⟩ : Fin 2) (⟨(y 1).val, (y 1).isLt⟩ : Fin 4) 0 (⟨(y 3).val, (y 3).isLt⟩ : Fin 704) (⟨(y 4).val, (y 4).isLt⟩ : Fin 1024) := by
  funext a
  match a with
  | ⟨0, _⟩ => rfl
  | ⟨1, _⟩ => rfl
  | ⟨2, _⟩ => exact Subsingleton.elim (α := Fin 1) _ _
  | ⟨3, _⟩ => rfl
  | ⟨4, _⟩ => rfl

theorem out_eq (c : Dev nD) (i : grid0.Coords) (arg3 : Memref sig .tc .vmem S1x2048x704 .bf16) (harg3 : arg3.IsWhole) (arg4 : Memref sig .tc .vmem S2048x1024 .bf16) (harg4 : arg4.IsWhole)
    (arg6 : Memref sig .tc .vmem S1x1x1x704x1024 .bf16) (harg6 : arg6.IsWhole) (x0 : Vec Idealize.ShloMosaic.Ideal S1x2048x704 .bf16) (x1 : Vec Idealize.ShloMosaic.Ideal S2048x1024 .bf16) :
    out0_A_2 c i arg3 harg3 arg4 harg4 arg6 harg6 x0 x1 = k0_pay1 x0 x1 := by
  unfold out0_A_2
  rw [View.read_writes_eq_canon _ _ _ (cover0_A_2 c i arg3 harg3 arg4 harg4 arg6 harg6 x0 x1)]
  unfold kernelRun0_A
  dsimp only
  sl_unfold_words
  simp only [View.readAt_eq_ld, harg3.read_unread, harg4.read_unread]
  refine (View.canon_unit_zero (by funext a; match a with | ⟨0, _⟩ => rfl | ⟨1, _⟩ => rfl | ⟨2, _⟩ => rfl | ⟨3, _⟩ => rfl | ⟨4, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl)]

section
variable (m : (ℓ : Loc nD τ sig) → Buf (Elt Idealize.ShloMosaic.Ideal) ℓ) (c : Dev nD)

abbrev dgu : S8x2048x704.Idx → EReal := m ((c : Thread nD τ).loc main_arg0)
abbrev hin : S2048x1024.Idx → EReal := m ((c : Thread nD τ).loc main_arg1)

theorem blk0 (t : Fin cfg0.N) (s : Fin 2048) (f : Fin 704) : (iblk m c 0 t (ix3 0 s f) : EReal) = dgu m c (ix3 (pt t) s f) := by
  show dgu m c ((win0_0.blk t).view.emb (ix3 0 s f)) = _
  generalize dgu m c = W; blk_ext [(idx t).1]
theorem blk1 (t : Fin cfg0.N) (s : Fin 2048) (d : Fin 1024) : (iblk m c 1 t (ix2 s d) : EReal) = hin m c (ix2 s d) := by
  show hin m c ((win0_1.blk t).view.emb (ix2 s d)) = _
  generalize hin m c = W; blk_ext [(idx t).2.1]
theorem emb2 (t : Fin cfg0.N) (f : Fin 704) (d : Fin 1024) : (win0_2.blk t).view.emb (ix5 0 0 0 f d) = (ix5 (core t) (chip t) 0 f d : S2x4x1x704x1024.Idx) := by
  blk_ext [(idx t).2.2]

theorem covers2 : (cfg0.win 2).Covers := by decide +kernel

theorem arr2 : (dats m 0 c).arrAt 2 cfg0.N = prod (dgu m c) (hin m c) := by
  refine (dats m 0 c).arrAt_eq_of_covers 2 _ covers2 fun t hf y => ?_
  blk_simp
  rw [after0_2]
  obtain ⟨f, d, rfl⟩ : ∃ (f : Fin 704) (d : Fin 1024), y = ix5 0 0 0 f d := ⟨_, _, ix5_eta y⟩
  have e : (outsAt0 m c t (ix5 0 0 0 f d) : EReal) = prod (dgu m c) (hin m c) (ix5 (core t) (chip t) 0 f d) := by
    unfold outsAt0
    rw [out_eq, pay]
    simp only [blk0, blk1]
    have hp : pt t = ⟨(chip t).val * 2 + (core t).val, by have h0 := (core t).isLt; have h1 := (chip t).isLt; omega⟩ := Fin.ext (by show t.val = t.val / 2 * 2 + t.val % 2; omega)
    rw [hp]
    rfl
  exact e.trans (congrArg _ (emb2 t f d).symm)

end

theorem ref (x0 : (⟨S8x2048x704, .bf16⟩ : BufTy).Contents (Elt Idealize.ShloMosaic.Ideal)) (x1 : (⟨S2048x1024, .bf16⟩ : BufTy).Contents (Elt Idealize.ShloMosaic.Ideal)) :
    Cert.DwguRefIdeal.Read.val_main_v9 (F := Idealize.ShloMosaic.Ideal) x0 x1 = prod x0 x1 := by
  funext y
  obtain ⟨p, q, f, d, rfl⟩ : ∃ (p : Fin 2) (q : Fin 4) (f : Fin 704) (d : Fin 1024), y = ix5 p q 0 f d := ⟨_, _, _, _, ix5_eta' y⟩
  unfold Cert.DwguRefIdeal.Read.val_main_v9 Cert.DwguRefIdeal.Read.val_main_v8 Cert.DwguRefIdeal.Read.val_main_v7 Cert.DwguRefIdeal.Read.val_main_v6 Cert.DwguRefIdeal.Read.val_main_v5 Cert.DwguRefIdeal.Read.val_main_v4 Cert.DwguRefIdeal.Read.val_main_v0
  pointwise
  show _ = ∑ s : Fin 2048, x0 (ix3 ⟨q.val * 2 + p.val, _⟩ s f) * x1 (ix2 s d)
  rfl

theorem value : Cert.algebraic_DwguIdeal_DwguRefIdeal (hDwguIdeal := Cert.DwguIdeal.Gen.facts) (hDwguRefIdeal := Cert.DwguRefIdeal.Gen.facts) := by
  intro m g m' g' _ hagree
  refine ⟨fun c => _, Cert.DwguIdeal.Value.run_blocks m g, ?_⟩
  refine (θ_run (Cert.DwguRefIdeal.defs (F := Idealize.ShloMosaic.Ideal)) _ _).mono (fun r h c => ?_) (Cert.DwguRefIdeal.Value.run (F := Idealize.ShloMosaic.Ideal) m' g')
  obtain ⟨g0, g1, g2⟩ := hagree c
  refine ⟨(h c).1.trans ((Cert.DwguRefIdeal.Read.val_main_v9_eq (F := Idealize.ShloMosaic.Ideal) _ _).trans ((ref _ _).trans ?_)), (h c).2⟩
  exact (congrArg₂ prod g0 g1).trans (arr2 m c).symm

end Cert.Bwd.Dwgu

end
-- ==== Proof.Bwd.Dwd.lean ====
module

public import proofs.«01_k».proof.Defs
public import proofs.«01_k».proof.Proof.Gen.DwdIdeal
public import proofs.«01_k».proof.Proof.Gen.DwdIdeal.Value
public import proofs.«01_k».proof.Proof.Gen.DwdRefIdeal
public import proofs.«01_k».proof.Proof.Gen.DwdRefIdeal.Run
public import proofs.«01_k».proof.Proof.Gen.DwdRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.Dwd

open Cert.DwdIdeal Cert.DwdIdeal.Gen Idealize.ShloMosaic Idealize.ShloMosaic.TcCoe Idealize.ShloMosaic.Tactic Idealize.SL.Sem

/-! # The gradient of a weight whose rows are split into the devices' blocks, the even ones first -/

/-- The factor of the residual branch. -/
def half1 : EReal := Ideal.ofBits .f32 0x3F000000#32

theorem half1_mul_sum {n : ℕ} (f : Fin n → EReal) : half1 * ∑ s, f s = ∑ s, half1 * f s := by
  have e : half1 = ((1 / 2 : ℝ) : EReal) := by
    unfold half1
    simp [Ideal.ofBits, Ideal.ieee, -EReal.coe_mul]
    try norm_num
  have h0 : (0 : EReal) ≤ half1 := by rw [e]; exact EReal.coe_nonneg.mpr (by norm_num)
  have h1 : half1 ≠ ⊤ := by rw [e]; exact EReal.coe_ne_top _
  induction n with
  | zero => simp
  | succ n ih => rw [Fin.sum_univ_castSucc, Fin.sum_univ_castSucc, EReal.left_distrib_of_nonneg_of_ne_top h0 h1, ih]

/-- The index maps: a block of the activations, the whole output's gradient, and the place of the two blocks of rows. -/
theorem idx : ∀ t : Fin cfg0.N, win0_0.index t = ![t.val, 0, 0] ∧ win0_1.index t = ![0, 0] ∧ win0_2.index t = ![0, t.val, 0, 0, 0] :=
  (by decide +kernel : ∀ t : Fin grid0.N, _)

abbrev pt (t : Fin cfg0.N) : Fin 4 := ⟨t.val, by have := t.isLt; have e : cfg0.N = 4 := N_0; omega⟩
/-- Row `r` of half `p`. -/
abbrev half (p : Fin 2) (r : Fin 352) : Fin 704 := ⟨p.val * 352 + r.val, by omega⟩

/-- The gradient, from the whole arrays: rows `352 * p` and after of block `q` at `p`, `q`. -/
def prod (a : S4x2048x704.Idx → EReal) (dy : S2048x1024.Idx → EReal) : S2x4x1x352x1024.Idx → EReal :=
  fun y => half1 * ∑ s : Fin 2048, a (ix3 ((y 1)) s (half (y 0) (y 3))) * dy (ix2 s (y 4))

/-- One point's product. -/
theorem pay1 (x0 : Vec Idealize.ShloMosaic.Ideal S1x2048x704 .bf16) (x1 : Vec Idealize.ShloMosaic.Ideal S2048x1024 .f32) (f : Fin 704) (d : Fin 1024) :
    (k0_pay1 x0 x1 (ix2 f d) : EReal) = half1 * ∑ s : Fin 2048, x0 (ix3 0 s f) * x1 (ix2 s d) := by
  unfold k0_pay1
  pointwise
  rfl

theorem pay2 (x0 : Vec Idealize.ShloMosaic.Ideal S1x2048x704 .bf16) (x1 : Vec Idealize.ShloMosaic.Ideal S2048x1024 .f32) (r : Fin 352) (d : Fin 1024) :
    (k0_pay2 x0 x1 (ix5 0 0 0 r d) : EReal) = k0_pay1 x0 x1 (ix2 (half 0 r) d) := by
  unfold k0_pay2
  pointwise
  congr 2; exact Fin.ext (by show r.val = 0 * 352 + r.val; omega)

theorem pay3 (x0 : Vec Idealize.ShloMosaic.Ideal S1x2048x704 .bf16) (x1 : Vec Idealize.ShloMosaic.Ideal S2048x1024 .f32) (r : Fin 352) (d : Fin 1024) :
    (k0_pay3 x0 x1 (ix5 0 0 0 r d) : EReal) = k0_pay1 x0 x1 (ix2 (half 1 r) d) := by
  unfold k0_pay3
  pointwise
  congr 2

theorem ix5_eta (y : S1x1x1x352x1024.Idx) : y = ix5 0 0 0 (⟨(y 3).val, (y 3).isLt⟩ : Fin 352) (⟨(y 4).val, (y 4).isLt⟩ : Fin 1024) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

theorem ix5_eta2 (y : S2x1x1x352x1024.Idx) : y = ix5 (⟨(y 0).val, (y 0).isLt⟩ : Fin 2) 0 0 (⟨(y 3).val, (y 3).isLt⟩ : Fin 352) (⟨(y 4).val, (y 4).isLt⟩ : Fin 1024) := by
  funext a
  match a with
  | ⟨0, _⟩ => rfl
  | ⟨1, _⟩ => exact Subsingleton.elim (α := Fin 1) _ _
  | ⟨2, _⟩ => exact Subsingleton.elim (α := Fin 1) _ _
  | ⟨3, _⟩ => rfl
  | ⟨4, _⟩ => rfl

theorem ix5_eta3 (y : S2x4x1x352x1024.Idx) : y = ix5 (⟨(y 0).val, (y 0).isLt⟩ : Fin 2) (⟨(y 1).val, (y 1).isLt⟩ : Fin 4) 0 (⟨(y 3).val, (y 3).isLt⟩ : Fin 352) (⟨(y 4).val, (y 4).isLt⟩ : Fin 1024) := by
  funext a
  match a with
  | ⟨0, _⟩ => rfl
  | ⟨1, _⟩ => rfl
  | ⟨2, _⟩ => exact Subsingleton.elim (α := Fin 1) _ _
  | ⟨3, _⟩ => rfl
  | ⟨4, _⟩ => rfl

/-- A point's two stores: the product's two halves. -/
theorem out_eq (c : Dev nD) (i : grid0.Coords) (arg3 : Memref sig .tc .vmem S1x2048x704 .bf16) (harg3 : arg3.IsWhole) (arg4 : Memref sig .tc .vmem S2048x1024 .f32) (harg4 : arg4.IsWhole)
    (arg6 : Memref sig .tc .vmem S2x1x1x352x1024 .bf16) (harg6 : arg6.IsWhole) (x0 : Vec Idealize.ShloMosaic.Ideal S1x2048x704 .bf16) (x1 : Vec Idealize.ShloMosaic.Ideal S2048x1024 .f32) (p : Fin 2) (r : Fin 352) (d : Fin 1024) :
    (out0_A_2 c i arg3 harg3 arg4 harg4 arg6 harg6 x0 x1 (ix5 p 0 0 r d) : EReal) = k0_pay1 x0 x1 (ix2 (half p r) d) := by
  unfold out0_A_2
  rw [View.read_writes_eq_canon _ _ _ (cover0_A_2 c i arg3 harg3 arg4 harg4 arg6 harg6 x0 x1)]
  refine View.canon_apply_of_pieces (fun y : S2x1x1x352x1024.Idx => k0_pay1 x0 x1 (ix2 (half (y 0) (y 3)) (y 4))) _ ?_ _ (cover0_A_2 c i arg3 harg3 arg4 harg4 arg6 harg6 x0 x1 _)
  unfold kernelRun0_A
  dsimp only
  sl_unfold_words
  simp only [View.readAt_eq_ld, harg3.read_unread, harg4.read_unread]
  rw [View.ld_unit_zero (by funext a; match a with | ⟨0, _⟩ => rfl | ⟨1, _⟩ => rfl | ⟨2, _⟩ => rfl), View.ld_unit_zero (by funext a; match a with | ⟨0, _⟩ => rfl | ⟨1, _⟩ => rfl)]
  intro q hq
  rcases List.mem_cons.mp hq with rfl | hq
  · intro y
    obtain ⟨r, d, rfl⟩ : ∃ (r : Fin 352) (d : Fin 1024), y = ix5 0 0 0 r d := ⟨_, _, ix5_eta y⟩
    refine (pay3 x0 x1 r d).trans (congrArg (k0_pay1 x0 x1) ?_)
    funext a
    match a with
    | ⟨0, _⟩ => exact Fin.ext (by show 1 * 352 + r.val = (1 + 1 * 0) * 352 + (0 + 1 * r.val); omega)
    | ⟨1, _⟩ => exact Fin.ext (by show d.val = 0 + 1 * d.val; omega)
  rcases List.mem_cons.mp hq with rfl | hq
  · intro y
    obtain ⟨r, d, rfl⟩ : ∃ (r : Fin 352) (d : Fin 1024), y = ix5 0 0 0 r d := ⟨_, _, ix5_eta y⟩
    refine (pay2 x0 x1 r d).trans (congrArg (k0_pay1 x0 x1) ?_)
    funext a
    match a with
    | ⟨0, _⟩ => exact Fin.ext (by show 0 * 352 + r.val = (0 + 1 * 0) * 352 + (0 + 1 * r.val); omega)
    | ⟨1, _⟩ => exact Fin.ext (by show d.val = 0 + 1 * d.val; omega)
  exact absurd hq List.not_mem_nil

section
variable (m : (ℓ : Loc nD τ sig) → Buf (Elt Idealize.ShloMosaic.Ideal) ℓ) (c : Dev nD)

abbrev ain : S4x2048x704.Idx → EReal := m ((c : Thread nD τ).loc main_arg0)
abbrev dy : S2048x1024.Idx → EReal := m ((c : Thread nD τ).loc main_arg1)

theorem blk0 (t : Fin cfg0.N) (s : Fin 2048) (f : Fin 704) : (iblk m c 0 t (ix3 0 s f) : EReal) = ain m c (ix3 (pt t) s f) := by
  show ain m c ((win0_0.blk t).view.emb (ix3 0 s f)) = _
  generalize ain m c = W; blk_ext [(idx t).1]
theorem blk1 (t : Fin cfg0.N) (s : Fin 2048) (d : Fin 1024) : (iblk m c 1 t (ix2 s d) : EReal) = dy m c (ix2 s d) := by
  show dy m c ((win0_1.blk t).view.emb (ix2 s d)) = _
  generalize dy m c = W; blk_ext [(idx t).2.1]
theorem emb2 (t : Fin cfg0.N) (p : Fin 2) (r : Fin 352) (d : Fin 1024) : (win0_2.blk t).view.emb (ix5 p 0 0 r d) = (ix5 p (pt t) 0 r d : S2x4x1x352x1024.Idx) := by
  blk_ext [(idx t).2.2]

theorem covers2 : (cfg0.win 2).Covers := by decide +kernel

theorem arr2 : (dats m 0 c).arrAt 2 cfg0.N = prod (ain m c) (dy m c) := by
  refine (dats m 0 c).arrAt_eq_of_covers 2 _ covers2 fun t hf y => ?_
  blk_simp
  rw [after0_2]
  obtain ⟨p, r, d, rfl⟩ : ∃ (p : Fin 2) (r : Fin 352) (d : Fin 1024), y = ix5 p 0 0 r d := ⟨_, _, _, ix5_eta2 y⟩
  have e : (outsAt0 m c t (ix5 p 0 0 r d) : EReal) = prod (ain m c) (dy m c) (ix5 p (pt t) 0 r d) := by
    unfold outsAt0
    rw [out_eq, pay1]
    simp only [blk0, blk1]
    rfl
  exact e.trans (congrArg _ (emb2 t p r d).symm)

end

theorem ref (x0 : (⟨S4x2048x704, .bf16⟩ : BufTy).Contents (Elt Idealize.ShloMosaic.Ideal)) (x1 : (⟨S2048x1024, .f32⟩ : BufTy).Contents (Elt Idealize.ShloMosaic.Ideal)) :
    Cert.DwdRefIdeal.Read.val_main_v11 (F := Idealize.ShloMosaic.Ideal) x0 x1 = prod x0 x1 := by
  funext y
  obtain ⟨p, q, r, d, rfl⟩ : ∃ (p : Fin 2) (q : Fin 4) (r : Fin 352) (d : Fin 1024), y = ix5 p q 0 r d := ⟨_, _, _, _, ix5_eta3 y⟩
  unfold Cert.DwdRefIdeal.Read.val_main_v11 Cert.DwdRefIdeal.Read.val_main_v10 Cert.DwdRefIdeal.Read.val_main_v9 Cert.DwdRefIdeal.Read.val_main_v8 Cert.DwdRefIdeal.Read.val_main_v7 Cert.DwdRefIdeal.Read.val_main_v6 Cert.DwdRefIdeal.Read.val_main_v5 Cert.DwdRefIdeal.Read.val_main_v0 Cert.DwdRefIdeal.Read.val_main_cst_1
  pointwise
  show _ = half1 * ∑ s : Fin 2048, x0 (ix3 q s (half p r)) * x1 (ix2 s d)
  rw [half1_mul_sum]
  refine Finset.sum_congr rfl fun s _ => ?_
  show half1 * x1 (ix2 s d) * x0 (ix3 q s (half p r)) = half1 * (x0 (ix3 q s (half p r)) * x1 (ix2 s d))
  rw [mul_assoc, mul_comm (x1 (ix2 s d) : EReal)]

theorem value : Cert.algebraic_DwdIdeal_DwdRefIdeal (hDwdIdeal := Cert.DwdIdeal.Gen.facts) (hDwdRefIdeal := Cert.DwdRefIdeal.Gen.facts) := by
  intro m g m' g' _ hagree
  refine ⟨fun c => _, Cert.DwdIdeal.Value.run_blocks m g, ?_⟩
  refine (θ_run (Cert.DwdRefIdeal.defs (F := Idealize.ShloMosaic.Ideal)) _ _).mono (fun r h c => ?_) (Cert.DwdRefIdeal.Value.run (F := Idealize.ShloMosaic.Ideal) m' g')
  obtain ⟨g0, g1, g2⟩ := hagree c
  refine ⟨(h c).1.trans ((Cert.DwdRefIdeal.Read.val_main_v11_eq (F := Idealize.ShloMosaic.Ideal) _ _).trans ((ref _ _).trans ?_)), (h c).2⟩
  exact (congrArg₂ prod g0 g1).trans (arr2 m c).symm

end Cert.Bwd.Dwd

end
-- ==== Proof.Bwd.Dwin.lean ====
module

public import proofs.«01_k».proof.Defs
public import proofs.«01_k».proof.Proof.Gen.DwinIdeal
public import proofs.«01_k».proof.Proof.Gen.DwinIdeal.Value
public import proofs.«01_k».proof.Proof.Gen.DwinRefIdeal
public import proofs.«01_k».proof.Proof.Gen.DwinRefIdeal.Run
public import proofs.«01_k».proof.Proof.Gen.DwinRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.Dwin

open Cert.DwinIdeal Cert.DwinIdeal.Gen Idealize.ShloMosaic Idealize.ShloMosaic.TcCoe Idealize.ShloMosaic.Tactic Idealize.SL.Sem

/-! # The gradient of the mixer's input weight: the input, transposed, by the five gradients' columns -/

/-- The index maps: each gradient's block of columns while its own columns are taken; the input; the block of columns of the result. -/
theorem idx : ∀ t : Fin cfg0.N, (0 ≤ t.val ∧ t.val < 6 → win0_0.index t = ![0, t.val - 0]) ∧ (6 ≤ t.val ∧ t.val < 10 → win0_1.index t = ![0, t.val - 6]) ∧ (10 ≤ t.val ∧ t.val < 16 → win0_2.index t = ![0, t.val - 10]) ∧ (16 ≤ t.val ∧ t.val < 22 → win0_3.index t = ![0, t.val - 16]) ∧ (22 ≤ t.val ∧ t.val < 23 → win0_4.index t = ![0, t.val - 22]) ∧ win0_5.index t = ![0, 0] ∧ win0_6.index t = ![0, t.val] :=
  (by decide +kernel : ∀ t : Fin grid0.N, _)

/-- The five gradients' columns, side by side. -/
def cat (z0 : S2048x3072.Idx → EReal) (z1 : S2048x2048.Idx → EReal) (z2 : S2048x3072.Idx → EReal) (z3 : S2048x3072.Idx → EReal) (z4 : S2048x512.Idx → EReal) (s : Fin 2048) (n : Fin 11776) : EReal :=
  if h0 : n.val < 3072 then z0 (ix2 s ⟨n.val, h0⟩)
  else if h1 : n.val - 3072 < 2048 then z1 (ix2 s ⟨n.val - 3072, by omega⟩)
  else if h2 : n.val - 3072 - 2048 < 3072 then z2 (ix2 s ⟨n.val - 3072 - 2048, h2⟩)
  else if h3 : n.val - 3072 - 2048 - 3072 < 3072 then z3 (ix2 s ⟨n.val - 3072 - 2048 - 3072, h3⟩)
  else z4 (ix2 s ⟨n.val - 3072 - 2048 - 3072 - 3072, by omega⟩)

theorem cat_0 (z0 : S2048x3072.Idx → EReal) (z1 : S2048x2048.Idx → EReal) (z2 : S2048x3072.Idx → EReal) (z3 : S2048x3072.Idx → EReal) (z4 : S2048x512.Idx → EReal) (s : Fin 2048) (n : Fin 11776) (k : Fin 3072) (h : n.val = 0 + k.val) :
    cat z0 z1 z2 z3 z4 s n = z0 (ix2 s k) := by
  unfold cat
  have hk := k.isLt
  rw [dif_pos (by omega)]
  exact congrArg (fun q => z0 (ix2 s q)) (Fin.ext (by show n.val = k.val; omega))

theorem cat_1 (z0 : S2048x3072.Idx → EReal) (z1 : S2048x2048.Idx → EReal) (z2 : S2048x3072.Idx → EReal) (z3 : S2048x3072.Idx → EReal) (z4 : S2048x512.Idx → EReal) (s : Fin 2048) (n : Fin 11776) (k : Fin 2048) (h : n.val = 3072 + k.val) :
    cat z0 z1 z2 z3 z4 s n = z1 (ix2 s k) := by
  unfold cat
  have hk := k.isLt
  rw [dif_neg (by omega)]
  rw [dif_pos (by omega)]
  exact congrArg (fun q => z1 (ix2 s q)) (Fin.ext (by show n.val - 3072 = k.val; omega))

theorem cat_2 (z0 : S2048x3072.Idx → EReal) (z1 : S2048x2048.Idx → EReal) (z2 : S2048x3072.Idx → EReal) (z3 : S2048x3072.Idx → EReal) (z4 : S2048x512.Idx → EReal) (s : Fin 2048) (n : Fin 11776) (k : Fin 3072) (h : n.val = 5120 + k.val) :
    cat z0 z1 z2 z3 z4 s n = z2 (ix2 s k) := by
  unfold cat
  have hk := k.isLt
  rw [dif_neg (by omega)]
  rw [dif_neg (by omega)]
  rw [dif_pos (by omega)]
  exact congrArg (fun q => z2 (ix2 s q)) (Fin.ext (by show n.val - 3072 - 2048 = k.val; omega))

theorem cat_3 (z0 : S2048x3072.Idx → EReal) (z1 : S2048x2048.Idx → EReal) (z2 : S2048x3072.Idx → EReal) (z3 : S2048x3072.Idx → EReal) (z4 : S2048x512.Idx → EReal) (s : Fin 2048) (n : Fin 11776) (k : Fin 3072) (h : n.val = 8192 + k.val) :
    cat z0 z1 z2 z3 z4 s n = z3 (ix2 s k) := by
  unfold cat
  have hk := k.isLt
  rw [dif_neg (by omega)]
  rw [dif_neg (by omega)]
  rw [dif_neg (by omega)]
  rw [dif_pos (by omega)]
  exact congrArg (fun q => z3 (ix2 s q)) (Fin.ext (by show n.val - 3072 - 2048 - 3072 = k.val; omega))

theorem cat_4 (z0 : S2048x3072.Idx → EReal) (z1 : S2048x2048.Idx → EReal) (z2 : S2048x3072.Idx → EReal) (z3 : S2048x3072.Idx → EReal) (z4 : S2048x512.Idx → EReal) (s : Fin 2048) (n : Fin 11776) (k : Fin 512) (h : n.val = 11264 + k.val) :
    cat z0 z1 z2 z3 z4 s n = z4 (ix2 s k) := by
  unfold cat
  have hk := k.isLt
  rw [dif_neg (by omega)]
  rw [dif_neg (by omega)]
  rw [dif_neg (by omega)]
  rw [dif_neg (by omega)]
  exact congrArg (fun q => z4 (ix2 s q)) (Fin.ext (by show n.val - 3072 - 2048 - 3072 - 3072 = k.val; omega))

/-- The gradient, from the whole arrays. -/
def prod (z0 : S2048x3072.Idx → EReal) (z1 : S2048x2048.Idx → EReal) (z2 : S2048x3072.Idx → EReal) (z3 : S2048x3072.Idx → EReal) (z4 : S2048x512.Idx → EReal) (h : S2048x1024.Idx → EReal) : S1024x11776.Idx → EReal :=
  fun y => ∑ s : Fin 2048, h (ix2 s (y 0)) * cat z0 z1 z2 z3 z4 s (y 1)

theorem pay1 (x : Vec Idealize.ShloMosaic.Ideal S2048x1024 .bf16) (z : Vec Idealize.ShloMosaic.Ideal S2048x512 .bf16) (d : Fin 1024) (n : Fin 512) :
    (k0_pay1 x z (ix2 d n) : EReal) = ∑ s : Fin 2048, x (ix2 s d) * z (ix2 s n) := by
  unfold k0_pay1
  pointwise

theorem pay2 (x : Vec Idealize.ShloMosaic.Ideal S2048x1024 .bf16) (z : Vec Idealize.ShloMosaic.Ideal S2048x512 .bf16) (d : Fin 1024) (n : Fin 512) :
    (k0_pay2 x z (ix2 d n) : EReal) = ∑ s : Fin 2048, x (ix2 s d) * z (ix2 s n) := by
  unfold k0_pay2
  pointwise

theorem pay3 (x : Vec Idealize.ShloMosaic.Ideal S2048x1024 .bf16) (z : Vec Idealize.ShloMosaic.Ideal S2048x512 .bf16) (d : Fin 1024) (n : Fin 512) :
    (k0_pay3 x z (ix2 d n) : EReal) = ∑ s : Fin 2048, x (ix2 s d) * z (ix2 s n) := by
  unfold k0_pay3
  pointwise

theorem pay4 (x : Vec Idealize.ShloMosaic.Ideal S2048x1024 .bf16) (z : Vec Idealize.ShloMosaic.Ideal S2048x512 .bf16) (d : Fin 1024) (n : Fin 512) :
    (k0_pay4 x z (ix2 d n) : EReal) = ∑ s : Fin 2048, x (ix2 s d) * z (ix2 s n) := by
  unfold k0_pay4
  pointwise

theorem pay5 (x : Vec Idealize.ShloMosaic.Ideal S2048x1024 .bf16) (z : Vec Idealize.ShloMosaic.Ideal S2048x512 .bf16) (d : Fin 1024) (n : Fin 512) :
    (k0_pay5 x z (ix2 d n) : EReal) = ∑ s : Fin 2048, x (ix2 s d) * z (ix2 s n) := by
  unfold k0_pay5
  pointwise

theorem eta_blk (y : S1024x512.Idx) : y = ix2 (⟨(y 0).val, (y 0).isLt⟩ : Fin 1024) (⟨(y 1).val, (y 1).isLt⟩ : Fin 512) := by
  funext a
  match a with
  | ⟨0, _⟩ => rfl
  | ⟨1, _⟩ => rfl

theorem eta_res (y : S1024x11776.Idx) : y = ix2 (⟨(y 0).val, (y 0).isLt⟩ : Fin 1024) (⟨(y 1).val, (y 1).isLt⟩ : Fin 11776) := by
  funext a
  match a with
  | ⟨0, _⟩ => rfl
  | ⟨1, _⟩ => rfl

theorem out_A (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S1024x512 .bf16) (harg7 : arg7.IsWhole)
    (hc0 : cond0_0 i) (hc1 : ¬cond0_1 i) (hc2 : ¬cond0_2 i) (hc3 : ¬cond0_3 i) (hc4 : ¬cond0_4 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S2048x1024 .bf16) :
    out0_A_6 c i arg1 harg1 arg2 harg2 arg3 harg3 arg4 harg4 arg5 harg5 arg6 harg6 arg7 harg7 hc0 hc1 hc2 hc3 hc4 x0 x1 x2 x3 x4 x5 = k0_pay1 x5 x0 := by
  unfold out0_A_6
  rw [View.read_writes_eq_canon _ _ _ (cover0_A_6 c i arg1 harg1 arg2 harg2 arg3 harg3 arg4 harg4 arg5 harg5 arg6 harg6 arg7 harg7 hc0 hc1 hc2 hc3 hc4 x0 x1 x2 x3 x4 x5)]
  unfold kernelRun0_A
  dsimp only
  sl_unfold_words
  simp only [View.readAt_eq_ld, harg1.read_unread, harg6.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl), View.ld_unit_zero (by funext a; match a with | ⟨0, _⟩ => rfl | ⟨1, _⟩ => rfl)]

theorem out_B (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S1024x512 .bf16) (harg7 : arg7.IsWhole)
    (hc0 : ¬cond0_0 i) (hc1 : cond0_1 i) (hc2 : ¬cond0_2 i) (hc3 : ¬cond0_3 i) (hc4 : ¬cond0_4 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S2048x1024 .bf16) :
    out0_B_6 c i arg1 harg1 arg2 harg2 arg3 harg3 arg4 harg4 arg5 harg5 arg6 harg6 arg7 harg7 hc0 hc1 hc2 hc3 hc4 x0 x1 x2 x3 x4 x5 = k0_pay2 x5 x1 := by
  unfold out0_B_6
  rw [View.read_writes_eq_canon _ _ _ (cover0_B_6 c i arg1 harg1 arg2 harg2 arg3 harg3 arg4 harg4 arg5 harg5 arg6 harg6 arg7 harg7 hc0 hc1 hc2 hc3 hc4 x0 x1 x2 x3 x4 x5)]
  unfold kernelRun0_B
  dsimp only
  sl_unfold_words
  simp only [View.readAt_eq_ld, harg2.read_unread, harg6.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl), View.ld_unit_zero (by funext a; match a with | ⟨0, _⟩ => rfl | ⟨1, _⟩ => rfl)]

theorem out_C (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S1024x512 .bf16) (harg7 : arg7.IsWhole)
    (hc0 : ¬cond0_0 i) (hc1 : ¬cond0_1 i) (hc2 : cond0_2 i) (hc3 : ¬cond0_3 i) (hc4 : ¬cond0_4 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S2048x1024 .bf16) :
    out0_C_6 c i arg1 harg1 arg2 harg2 arg3 harg3 arg4 harg4 arg5 harg5 arg6 harg6 arg7 harg7 hc0 hc1 hc2 hc3 hc4 x0 x1 x2 x3 x4 x5 = k0_pay3 x5 x2 := by
  unfold out0_C_6
  rw [View.read_writes_eq_canon _ _ _ (cover0_C_6 c i arg1 harg1 arg2 harg2 arg3 harg3 arg4 harg4 arg5 harg5 arg6 harg6 arg7 harg7 hc0 hc1 hc2 hc3 hc4 x0 x1 x2 x3 x4 x5)]
  unfold kernelRun0_C
  dsimp only
  sl_unfold_words
  simp only [View.readAt_eq_ld, harg3.read_unread, harg6.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl), View.ld_unit_zero (by funext a; match a with | ⟨0, _⟩ => rfl | ⟨1, _⟩ => rfl)]

theorem out_D (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S1024x512 .bf16) (harg7 : arg7.IsWhole)
    (hc0 : ¬cond0_0 i) (hc1 : ¬cond0_1 i) (hc2 : ¬cond0_2 i) (hc3 : cond0_3 i) (hc4 : ¬cond0_4 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S2048x1024 .bf16) :
    out0_D_6 c i arg1 harg1 arg2 harg2 arg3 harg3 arg4 harg4 arg5 harg5 arg6 harg6 arg7 harg7 hc0 hc1 hc2 hc3 hc4 x0 x1 x2 x3 x4 x5 = k0_pay4 x5 x3 := by
  unfold out0_D_6
  rw [View.read_writes_eq_canon _ _ _ (cover0_D_6 c i arg1 harg1 arg2 harg2 arg3 harg3 arg4 harg4 arg5 harg5 arg6 harg6 arg7 harg7 hc0 hc1 hc2 hc3 hc4 x0 x1 x2 x3 x4 x5)]
  unfold kernelRun0_D
  dsimp only
  sl_unfold_words
  simp only [View.readAt_eq_ld, harg4.read_unread, harg6.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl), View.ld_unit_zero (by funext a; match a with | ⟨0, _⟩ => rfl | ⟨1, _⟩ => rfl)]

theorem out_E (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x1024 .bf16) (harg6 : arg6.IsWhole) (arg7 : Memref sig .tc .vmem S1024x512 .bf16) (harg7 : arg7.IsWhole)
    (hc0 : ¬cond0_0 i) (hc1 : ¬cond0_1 i) (hc2 : ¬cond0_2 i) (hc3 : ¬cond0_3 i) (hc4 : cond0_4 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S2048x1024 .bf16) :
    out0_E_6 c i arg1 harg1 arg2 harg2 arg3 harg3 arg4 harg4 arg5 harg5 arg6 harg6 arg7 harg7 hc0 hc1 hc2 hc3 hc4 x0 x1 x2 x3 x4 x5 = k0_pay5 x5 x4 := by
  unfold out0_E_6
  rw [View.read_writes_eq_canon _ _ _ (cover0_E_6 c i arg1 harg1 arg2 harg2 arg3 harg3 arg4 harg4 arg5 harg5 arg6 harg6 arg7 harg7 hc0 hc1 hc2 hc3 hc4 x0 x1 x2 x3 x4 x5)]
  unfold kernelRun0_E
  dsimp only
  sl_unfold_words
  simp only [View.readAt_eq_ld, harg5.read_unread, harg6.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl), View.ld_unit_zero (by funext a; match a with | ⟨0, _⟩ => rfl | ⟨1, _⟩ => rfl)]

section
variable (m : (ℓ : Loc nD τ sig) → Buf (Elt Idealize.ShloMosaic.Ideal) ℓ) (c : Dev nD)

abbrev dz0 : S2048x3072.Idx → EReal := m ((c : Thread nD τ).loc main_arg0)
abbrev dz1 : S2048x2048.Idx → EReal := m ((c : Thread nD τ).loc main_arg1)
abbrev dz2 : S2048x3072.Idx → EReal := m ((c : Thread nD τ).loc main_arg2)
abbrev dz3 : S2048x3072.Idx → EReal := m ((c : Thread nD τ).loc main_arg3)
abbrev dz4 : S2048x512.Idx → EReal := m ((c : Thread nD τ).loc main_arg4)
abbrev hin : S2048x1024.Idx → EReal := m ((c : Thread nD τ).loc main_arg5)

theorem blk0 (t : Fin cfg0.N) (ht : 0 ≤ t.val ∧ t.val < 6) (s : Fin 2048) (n : Fin 512) : (iblk m c 0 t (ix2 s n) : EReal) = dz0 m c (ix2 s ⟨(t.val - 0) * 512 + n.val, by omega⟩) := by
  show dz0 m c ((win0_0.blk t).view.emb (ix2 s n)) = _
  generalize dz0 m c = W; blk_ext [(idx t).1 ht]
theorem blk1 (t : Fin cfg0.N) (ht : 6 ≤ t.val ∧ t.val < 10) (s : Fin 2048) (n : Fin 512) : (iblk m c 1 t (ix2 s n) : EReal) = dz1 m c (ix2 s ⟨(t.val - 6) * 512 + n.val, by omega⟩) := by
  show dz1 m c ((win0_1.blk t).view.emb (ix2 s n)) = _
  generalize dz1 m c = W; blk_ext [(idx t).2.1 ht]
theorem blk2 (t : Fin cfg0.N) (ht : 10 ≤ t.val ∧ t.val < 16) (s : Fin 2048) (n : Fin 512) : (iblk m c 2 t (ix2 s n) : EReal) = dz2 m c (ix2 s ⟨(t.val - 10) * 512 + n.val, by omega⟩) := by
  show dz2 m c ((win0_2.blk t).view.emb (ix2 s n)) = _
  generalize dz2 m c = W; blk_ext [(idx t).2.2.1 ht]
theorem blk3 (t : Fin cfg0.N) (ht : 16 ≤ t.val ∧ t.val < 22) (s : Fin 2048) (n : Fin 512) : (iblk m c 3 t (ix2 s n) : EReal) = dz3 m c (ix2 s ⟨(t.val - 16) * 512 + n.val, by omega⟩) := by
  show dz3 m c ((win0_3.blk t).view.emb (ix2 s n)) = _
  generalize dz3 m c = W; blk_ext [(idx t).2.2.2.1 ht]
theorem blk4 (t : Fin cfg0.N) (ht : 22 ≤ t.val ∧ t.val < 23) (s : Fin 2048) (n : Fin 512) : (iblk m c 4 t (ix2 s n) : EReal) = dz4 m c (ix2 s ⟨(t.val - 22) * 512 + n.val, by omega⟩) := by
  show dz4 m c ((win0_4.blk t).view.emb (ix2 s n)) = _
  generalize dz4 m c = W; blk_ext [(idx t).2.2.2.2.1 ht]
theorem blk5 (t : Fin cfg0.N) (s : Fin 2048) (d : Fin 1024) : (iblk m c 5 t (ix2 s d) : EReal) = hin m c (ix2 s d) := by
  show hin m c ((win0_5.blk t).view.emb (ix2 s d)) = _
  generalize hin m c = W; blk_ext [(idx t).2.2.2.2.2.1]
theorem emb6 (t : Fin cfg0.N) (d : Fin 1024) (n : Fin 512) : (win0_6.blk t).view.emb (ix2 d n) = (ix2 d ⟨t.val * 512 + n.val, by have := t.isLt; have e : cfg0.N = 23 := N_0; omega⟩ : S1024x11776.Idx) := by
  blk_ext [(idx t).2.2.2.2.2.2]

theorem covers6 : (cfg0.win 6).Covers := by decide +kernel

/-- What a point leaves in its block of the result. -/
theorem point (t : Fin cfg0.N) (d : Fin 1024) (n : Fin 512) :
    (outsAt0 m c t.val t.isLt (ix2 d n) : EReal) = prod (dz0 m c) (dz1 m c) (dz2 m c) (dz3 m c) (dz4 m c) (hin m c) (ix2 d ⟨t.val * 512 + n.val, by have := t.isLt; have e : cfg0.N = 23 := N_0; omega⟩) := by
  have hN : cfg0.N = 23 := N_0
  have hlt := t.isLt
  rcases (by omega : t.val < 6 ∨ (6 ≤ t.val ∧ t.val < 10) ∨ (10 ≤ t.val ∧ t.val < 16) ∨ (16 ≤ t.val ∧ t.val < 22) ∨ t.val = 22) with h | h | h | h | h
  · rw [outsAt0_A m c t (by omega) (by omega) (by omega) (by omega) (by omega), out_A, pay1]
    refine Finset.sum_congr rfl fun s _ => ?_
    rw [blk5, blk0 m c t (by omega)]
    refine congrArg (fun q : EReal => hin m c (ix2 s d) * q) (cat_0 _ _ _ _ _ s _ _ ?_).symm
    show t.val * 512 + n.val = 0 + ((t.val - 0) * 512 + n.val)
    omega
  · rw [outsAt0_B m c t (by omega) (by omega) (by omega) (by omega) (by omega), out_B, pay2]
    refine Finset.sum_congr rfl fun s _ => ?_
    rw [blk5, blk1 m c t (by omega)]
    refine congrArg (fun q : EReal => hin m c (ix2 s d) * q) (cat_1 _ _ _ _ _ s _ _ ?_).symm
    show t.val * 512 + n.val = 3072 + ((t.val - 6) * 512 + n.val)
    omega
  · rw [outsAt0_C m c t (by omega) (by omega) (by omega) (by omega) (by omega), out_C, pay3]
    refine Finset.sum_congr rfl fun s _ => ?_
    rw [blk5, blk2 m c t (by omega)]
    refine congrArg (fun q : EReal => hin m c (ix2 s d) * q) (cat_2 _ _ _ _ _ s _ _ ?_).symm
    show t.val * 512 + n.val = 5120 + ((t.val - 10) * 512 + n.val)
    omega
  · rw [outsAt0_D m c t (by omega) (by omega) (by omega) (by omega) (by omega), out_D, pay4]
    refine Finset.sum_congr rfl fun s _ => ?_
    rw [blk5, blk3 m c t (by omega)]
    refine congrArg (fun q : EReal => hin m c (ix2 s d) * q) (cat_3 _ _ _ _ _ s _ _ ?_).symm
    show t.val * 512 + n.val = 8192 + ((t.val - 16) * 512 + n.val)
    omega
  · rw [outsAt0_E m c t (by omega) (by omega) (by omega) (by omega) (by omega), out_E, pay5]
    refine Finset.sum_congr rfl fun s _ => ?_
    rw [blk5, blk4 m c t (by omega)]
    refine congrArg (fun q : EReal => hin m c (ix2 s d) * q) (cat_4 _ _ _ _ _ s _ _ ?_).symm
    show t.val * 512 + n.val = 11264 + ((t.val - 22) * 512 + n.val)
    omega

theorem arr6 : (dats m 0 c).arrAt 6 cfg0.N = prod (dz0 m c) (dz1 m c) (dz2 m c) (dz3 m c) (dz4 m c) (hin m c) := by
  refine (dats m 0 c).arrAt_eq_of_covers 6 _ covers6 fun t hf y => ?_
  blk_simp
  rw [after0_6]
  obtain ⟨d, n, rfl⟩ : ∃ (d : Fin 1024) (n : Fin 512), y = ix2 d n := ⟨_, _, eta_blk y⟩
  exact (point m c t d n).trans (congrArg _ (emb6 t d n).symm)

end

theorem ref (x0 : (⟨S2048x3072, .bf16⟩ : BufTy).Contents (Elt Idealize.ShloMosaic.Ideal)) (x1 : (⟨S2048x2048, .bf16⟩ : BufTy).Contents (Elt Idealize.ShloMosaic.Ideal)) (x2 : (⟨S2048x3072, .bf16⟩ : BufTy).Contents (Elt Idealize.ShloMosaic.Ideal)) (x3 : (⟨S2048x3072, .bf16⟩ : BufTy).Contents (Elt Idealize.ShloMosaic.Ideal)) (x4 : (⟨S2048x512, .bf16⟩ : BufTy).Contents (Elt Idealize.ShloMosaic.Ideal)) (x5 : (⟨S2048x1024, .bf16⟩ : BufTy).Contents (Elt Idealize.ShloMosaic.Ideal)) :
    Cert.DwinRefIdeal.Read.val_main_v7 (F := Idealize.ShloMosaic.Ideal) x0 x1 x2 x3 x4 x5 = prod x0 x1 x2 x3 x4 x5 := by
  funext y
  obtain ⟨d, n, rfl⟩ : ∃ (d : Fin 1024) (n : Fin 11776), y = ix2 d n := ⟨_, _, eta_res y⟩
  unfold Cert.DwinRefIdeal.Read.val_main_v7 Cert.DwinRefIdeal.Read.val_main_v6 Cert.DwinRefIdeal.Read.val_main_v5 Cert.DwinRefIdeal.Read.val_main_v4 Cert.DwinRefIdeal.Read.val_main_v3 Cert.DwinRefIdeal.Read.val_main_v0
  pointwise
  refine Finset.sum_congr rfl fun s _ => ?_
  exact mul_comm _ _

theorem value : Cert.algebraic_DwinIdeal_DwinRefIdeal (hDwinIdeal := Cert.DwinIdeal.Gen.facts) (hDwinRefIdeal := Cert.DwinRefIdeal.Gen.facts) := by
  intro m g m' g' _ hagree
  refine ⟨fun c => _, Cert.DwinIdeal.Value.run_blocks m g, ?_⟩
  refine (θ_run (Cert.DwinRefIdeal.defs (F := Idealize.ShloMosaic.Ideal)) _ _).mono (fun r h c => ?_) (Cert.DwinRefIdeal.Value.run (F := Idealize.ShloMosaic.Ideal) m' g')
  obtain ⟨g0, g1, g2, g3, g4, g5⟩ := hagree c
  refine ⟨(h c).1.trans ((Cert.DwinRefIdeal.Read.val_main_v7_eq (F := Idealize.ShloMosaic.Ideal) _ _ _ _ _ _).trans ((ref _ _ _ _ _ _).trans ?_)), (h c).2⟩
  refine Eq.trans ?_ (arr6 m c).symm
  rw [g0, g1, g2, g3, g4, g5]

end Cert.Bwd.Dwin

end
-- ==== Proof.Bwd.Dhin.lean ====
module

public import proofs.«01_k».proof.Defs
public import proofs.«01_k».proof.Proof.Gen.DhinIdeal
public import proofs.«01_k».proof.Proof.Gen.DhinIdeal.Frame
public import proofs.«01_k».proof.Proof.Gen.DhinRefIdeal
public import proofs.«01_k».proof.Proof.Gen.DhinRefIdeal.Run
public import proofs.«01_k».proof.Proof.Gen.DhinRefIdeal.Read
public import Idealize.ShloMosaic.Lib.Pipeline.Value
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.Dhin

open Cert.DhinIdeal Cert.DhinIdeal.Gen Idealize.ShloMosaic Idealize.ShloMosaic.TcCoe Idealize.ShloMosaic.Tactic Idealize.SL.Sem

/-! # The gradient of the mixer's input: the five gradients' columns by the input weight, transposed, 512 at a time -/

/-- The index maps: each gradient's block of columns while its own columns are taken, and the weight's block of columns. -/
theorem idx : ∀ t : Fin cfg0.N, (0 ≤ t.val ∧ t.val < 6 → win0_0.index t = ![0, t.val - 0]) ∧ (6 ≤ t.val ∧ t.val < 10 → win0_1.index t = ![0, t.val - 6]) ∧ (10 ≤ t.val ∧ t.val < 16 → win0_2.index t = ![0, t.val - 10]) ∧ (16 ≤ t.val ∧ t.val < 22 → win0_3.index t = ![0, t.val - 16]) ∧ (22 ≤ t.val ∧ t.val < 23 → win0_4.index t = ![0, t.val - 22]) ∧ win0_5.index t = ![0, t.val] :=
  (by decide +kernel : ∀ t : Fin grid0.N, _)

/-- The five gradients' columns, side by side. -/
def cat (z0 : S2048x3072.Idx → EReal) (z1 : S2048x2048.Idx → EReal) (z2 : S2048x3072.Idx → EReal) (z3 : S2048x3072.Idx → EReal) (z4 : S2048x512.Idx → EReal) (s : Fin 2048) (n : Fin 11776) : EReal :=
  if h0 : n.val < 3072 then z0 (ix2 s ⟨n.val, h0⟩)
  else if h1 : n.val - 3072 < 2048 then z1 (ix2 s ⟨n.val - 3072, by omega⟩)
  else if h2 : n.val - 3072 - 2048 < 3072 then z2 (ix2 s ⟨n.val - 3072 - 2048, h2⟩)
  else if h3 : n.val - 3072 - 2048 - 3072 < 3072 then z3 (ix2 s ⟨n.val - 3072 - 2048 - 3072, h3⟩)
  else z4 (ix2 s ⟨n.val - 3072 - 2048 - 3072 - 3072, by omega⟩)

theorem cat_0 (z0 : S2048x3072.Idx → EReal) (z1 : S2048x2048.Idx → EReal) (z2 : S2048x3072.Idx → EReal) (z3 : S2048x3072.Idx → EReal) (z4 : S2048x512.Idx → EReal) (s : Fin 2048) (n : Fin 11776) (k : Fin 3072) (h : n.val = 0 + k.val) :
    cat z0 z1 z2 z3 z4 s n = z0 (ix2 s k) := by
  unfold cat
  have hk := k.isLt
  rw [dif_pos (by omega)]
  exact congrArg (fun q => z0 (ix2 s q)) (Fin.ext (by show n.val = k.val; omega))

theorem cat_1 (z0 : S2048x3072.Idx → EReal) (z1 : S2048x2048.Idx → EReal) (z2 : S2048x3072.Idx → EReal) (z3 : S2048x3072.Idx → EReal) (z4 : S2048x512.Idx → EReal) (s : Fin 2048) (n : Fin 11776) (k : Fin 2048) (h : n.val = 3072 + k.val) :
    cat z0 z1 z2 z3 z4 s n = z1 (ix2 s k) := by
  unfold cat
  have hk := k.isLt
  rw [dif_neg (by omega)]
  rw [dif_pos (by omega)]
  exact congrArg (fun q => z1 (ix2 s q)) (Fin.ext (by show n.val - 3072 = k.val; omega))

theorem cat_2 (z0 : S2048x3072.Idx → EReal) (z1 : S2048x2048.Idx → EReal) (z2 : S2048x3072.Idx → EReal) (z3 : S2048x3072.Idx → EReal) (z4 : S2048x512.Idx → EReal) (s : Fin 2048) (n : Fin 11776) (k : Fin 3072) (h : n.val = 5120 + k.val) :
    cat z0 z1 z2 z3 z4 s n = z2 (ix2 s k) := by
  unfold cat
  have hk := k.isLt
  rw [dif_neg (by omega)]
  rw [dif_neg (by omega)]
  rw [dif_pos (by omega)]
  exact congrArg (fun q => z2 (ix2 s q)) (Fin.ext (by show n.val - 3072 - 2048 = k.val; omega))

theorem cat_3 (z0 : S2048x3072.Idx → EReal) (z1 : S2048x2048.Idx → EReal) (z2 : S2048x3072.Idx → EReal) (z3 : S2048x3072.Idx → EReal) (z4 : S2048x512.Idx → EReal) (s : Fin 2048) (n : Fin 11776) (k : Fin 3072) (h : n.val = 8192 + k.val) :
    cat z0 z1 z2 z3 z4 s n = z3 (ix2 s k) := by
  unfold cat
  have hk := k.isLt
  rw [dif_neg (by omega)]
  rw [dif_neg (by omega)]
  rw [dif_neg (by omega)]
  rw [dif_pos (by omega)]
  exact congrArg (fun q => z3 (ix2 s q)) (Fin.ext (by show n.val - 3072 - 2048 - 3072 = k.val; omega))

theorem cat_4 (z0 : S2048x3072.Idx → EReal) (z1 : S2048x2048.Idx → EReal) (z2 : S2048x3072.Idx → EReal) (z3 : S2048x3072.Idx → EReal) (z4 : S2048x512.Idx → EReal) (s : Fin 2048) (n : Fin 11776) (k : Fin 512) (h : n.val = 11264 + k.val) :
    cat z0 z1 z2 z3 z4 s n = z4 (ix2 s k) := by
  unfold cat
  have hk := k.isLt
  rw [dif_neg (by omega)]
  rw [dif_neg (by omega)]
  rw [dif_neg (by omega)]
  rw [dif_neg (by omega)]
  exact congrArg (fun q => z4 (ix2 s q)) (Fin.ext (by show n.val - 3072 - 2048 - 3072 - 3072 = k.val; omega))

/-- The gradient, from the whole arrays. -/
def prod (z0 : S2048x3072.Idx → EReal) (z1 : S2048x2048.Idx → EReal) (z2 : S2048x3072.Idx → EReal) (z3 : S2048x3072.Idx → EReal) (z4 : S2048x512.Idx → EReal) (w : S1024x11776.Idx → EReal) : S2048x1024.Idx → EReal :=
  fun y => ∑ n : Fin 11776, cat z0 z1 z2 z3 z4 (y 0) n * w (ix2 (y 1) n)

/-- A sum over the columns, 512 at a time. -/
theorem sum_blocks (f : Fin 11776 → EReal) : ∑ n : Fin 11776, f n = ∑ t : Fin 23, ∑ n : Fin 512, f ⟨t.val * 512 + n.val, by omega⟩ := by
  rw [← Fintype.sum_prod_type']
  refine (Fintype.sum_equiv ((finProdFinEquiv (m := 23) (n := 512)).trans (finCongr (by norm_num))) _ _ fun p => ?_).symm
  refine congrArg f (Fin.ext ?_)
  show p.1.val * 512 + p.2.val = p.2.val + 512 * p.1.val
  omega

theorem zeros (y : S2048x1024.Idx) : (k0_pay1 (F := Idealize.ShloMosaic.Ideal) y : EReal) = 0 := by
  unfold k0_pay1
  pointwise

theorem pay2 (xs : Vec Idealize.ShloMosaic.Ideal S2048x1024 .f32) (z : Vec Idealize.ShloMosaic.Ideal S2048x512 .bf16) (x : Vec Idealize.ShloMosaic.Ideal S1024x512 .bf16) (s : Fin 2048) (d : Fin 1024) :
    (k0_pay2 xs z x (ix2 s d) : EReal) = xs (ix2 s d) + ∑ n : Fin 512, z (ix2 s n) * x (ix2 d n) := by
  unfold k0_pay2
  pointwise

theorem pay3 (xs : Vec Idealize.ShloMosaic.Ideal S2048x1024 .f32) (z : Vec Idealize.ShloMosaic.Ideal S2048x512 .bf16) (x : Vec Idealize.ShloMosaic.Ideal S1024x512 .bf16) (s : Fin 2048) (d : Fin 1024) :
    (k0_pay3 xs z x (ix2 s d) : EReal) = xs (ix2 s d) + ∑ n : Fin 512, z (ix2 s n) * x (ix2 d n) := by
  unfold k0_pay3
  pointwise

theorem pay4 (xs : Vec Idealize.ShloMosaic.Ideal S2048x1024 .f32) (z : Vec Idealize.ShloMosaic.Ideal S2048x512 .bf16) (x : Vec Idealize.ShloMosaic.Ideal S1024x512 .bf16) (s : Fin 2048) (d : Fin 1024) :
    (k0_pay4 xs z x (ix2 s d) : EReal) = xs (ix2 s d) + ∑ n : Fin 512, z (ix2 s n) * x (ix2 d n) := by
  unfold k0_pay4
  pointwise

theorem pay5 (xs : Vec Idealize.ShloMosaic.Ideal S2048x1024 .f32) (z : Vec Idealize.ShloMosaic.Ideal S2048x512 .bf16) (x : Vec Idealize.ShloMosaic.Ideal S1024x512 .bf16) (s : Fin 2048) (d : Fin 1024) :
    (k0_pay5 xs z x (ix2 s d) : EReal) = xs (ix2 s d) + ∑ n : Fin 512, z (ix2 s n) * x (ix2 d n) := by
  unfold k0_pay5
  pointwise

theorem pay6 (xs : Vec Idealize.ShloMosaic.Ideal S2048x1024 .f32) (z : Vec Idealize.ShloMosaic.Ideal S2048x512 .bf16) (x : Vec Idealize.ShloMosaic.Ideal S1024x512 .bf16) (s : Fin 2048) (d : Fin 1024) :
    (k0_pay6 xs z x (ix2 s d) : EReal) = xs (ix2 s d) + ∑ n : Fin 512, z (ix2 s n) * x (ix2 d n) := by
  unfold k0_pay6
  pointwise

theorem eta_res (y : S2048x1024.Idx) : y = ix2 (⟨(y 0).val, (y 0).isLt⟩ : Fin 2048) (⟨(y 1).val, (y 1).isLt⟩ : Fin 1024) := by
  funext a
  match a with
  | ⟨0, _⟩ => rfl
  | ⟨1, _⟩ => rfl

theorem sout0_A_0_eq (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S2048x1024 .f32) (harg7 : arg7.IsWhole) (arg8 : Memref sig .tc .vmem S2048x1024 .f32) (harg8 : arg8.IsWhole)
    (hc0 : cond0_0 i) (hc1 : cond0_1 i) (hc2 : ¬cond0_2 i) (hc3 : ¬cond0_3 i) (hc4 : ¬cond0_4 i) (hc5 : ¬cond0_5 i) (hc6 : ¬cond0_6 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S1024x512 .bf16) :
    sout0_A_0 c i arg1 harg1 arg2 harg2 arg3 harg3 arg4 harg4 arg5 harg5 arg6 harg6 arg7 harg7 arg8 harg8 hc0 hc1 hc2 hc3 hc4 hc5 hc6 x0 x1 x2 x3 x4 x5 = k0_pay2 (k0_pay1 (F := Idealize.ShloMosaic.Ideal)) x0 x5 := by
  unfold sout0_A_0
  rw [View.read_writes_eq_canon _ _ _ (scover0_A_0 c i arg1 harg1 arg2 harg2 arg3 harg3 arg4 harg4 arg5 harg5 arg6 harg6 arg7 harg7 arg8 harg8 hc0 hc1 hc2 hc3 hc4 hc5 hc6 x0 x1 x2 x3 x4 x5)]
  unfold kernelRun0_A
  dsimp only
  sl_unfold_words
  simp only [View.readAt_eq_ld, harg1.read_unread, harg6.read_unread, harg8.read_unread]
  refine (View.canon_cons_unit_lit _ _ _ (by intro a; match a with | ⟨0, _⟩ => rfl | ⟨1, _⟩ => rfl)).trans ?_
  rw [View.readCov_unit_zero _ (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]

theorem sout0_B_0_eq (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S2048x1024 .f32) (harg7 : arg7.IsWhole) (arg8 : Memref sig .tc .vmem S2048x1024 .f32) (harg8 : arg8.IsWhole)
    (hc0 : ¬cond0_0 i) (hc1 : cond0_1 i) (hc2 : ¬cond0_2 i) (hc3 : ¬cond0_3 i) (hc4 : ¬cond0_4 i) (hc5 : ¬cond0_5 i) (hc6 : ¬cond0_6 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S1024x512 .bf16) (xs0 : Vec Idealize.ShloMosaic.Ideal S2048x1024 .f32) :
    sout0_B_0 c i arg1 harg1 arg2 harg2 arg3 harg3 arg4 harg4 arg5 harg5 arg6 harg6 arg7 harg7 arg8 harg8 hc0 hc1 hc2 hc3 hc4 hc5 hc6 x0 x1 x2 x3 x4 x5 xs0 = k0_pay2 xs0 x0 x5 := by
  unfold sout0_B_0
  rw [View.read_writes_eq_canon _ _ _ (scover0_B_0 c i arg1 harg1 arg2 harg2 arg3 harg3 arg4 harg4 arg5 harg5 arg6 harg6 arg7 harg7 arg8 harg8 hc0 hc1 hc2 hc3 hc4 hc5 hc6 x0 x1 x2 x3 x4 x5 xs0)]
  unfold kernelRun0_B
  dsimp only
  sl_unfold_words
  simp only [View.readAt_eq_ld, harg1.read_unread, harg6.read_unread, harg8.read_unread]
  refine (View.canon_cons_unit_lit _ _ _ (by intro a; match a with | ⟨0, _⟩ => rfl | ⟨1, _⟩ => rfl)).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]

theorem sout0_C_0_eq (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S2048x1024 .f32) (harg7 : arg7.IsWhole) (arg8 : Memref sig .tc .vmem S2048x1024 .f32) (harg8 : arg8.IsWhole)
    (hc0 : ¬cond0_0 i) (hc1 : ¬cond0_1 i) (hc2 : cond0_2 i) (hc3 : ¬cond0_3 i) (hc4 : ¬cond0_4 i) (hc5 : ¬cond0_5 i) (hc6 : ¬cond0_6 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S1024x512 .bf16) (xs0 : Vec Idealize.ShloMosaic.Ideal S2048x1024 .f32) :
    sout0_C_0 c i arg1 harg1 arg2 harg2 arg3 harg3 arg4 harg4 arg5 harg5 arg6 harg6 arg7 harg7 arg8 harg8 hc0 hc1 hc2 hc3 hc4 hc5 hc6 x0 x1 x2 x3 x4 x5 xs0 = k0_pay3 xs0 x1 x5 := by
  unfold sout0_C_0
  rw [View.read_writes_eq_canon _ _ _ (scover0_C_0 c i arg1 harg1 arg2 harg2 arg3 harg3 arg4 harg4 arg5 harg5 arg6 harg6 arg7 harg7 arg8 harg8 hc0 hc1 hc2 hc3 hc4 hc5 hc6 x0 x1 x2 x3 x4 x5 xs0)]
  unfold kernelRun0_C
  dsimp only
  sl_unfold_words
  simp only [View.readAt_eq_ld, harg2.read_unread, harg6.read_unread, harg8.read_unread]
  refine (View.canon_cons_unit_lit _ _ _ (by intro a; match a with | ⟨0, _⟩ => rfl | ⟨1, _⟩ => rfl)).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]

theorem sout0_D_0_eq (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S2048x1024 .f32) (harg7 : arg7.IsWhole) (arg8 : Memref sig .tc .vmem S2048x1024 .f32) (harg8 : arg8.IsWhole)
    (hc0 : ¬cond0_0 i) (hc1 : ¬cond0_1 i) (hc2 : ¬cond0_2 i) (hc3 : cond0_3 i) (hc4 : ¬cond0_4 i) (hc5 : ¬cond0_5 i) (hc6 : ¬cond0_6 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S1024x512 .bf16) (xs0 : Vec Idealize.ShloMosaic.Ideal S2048x1024 .f32) :
    sout0_D_0 c i arg1 harg1 arg2 harg2 arg3 harg3 arg4 harg4 arg5 harg5 arg6 harg6 arg7 harg7 arg8 harg8 hc0 hc1 hc2 hc3 hc4 hc5 hc6 x0 x1 x2 x3 x4 x5 xs0 = k0_pay4 xs0 x2 x5 := by
  unfold sout0_D_0
  rw [View.read_writes_eq_canon _ _ _ (scover0_D_0 c i arg1 harg1 arg2 harg2 arg3 harg3 arg4 harg4 arg5 harg5 arg6 harg6 arg7 harg7 arg8 harg8 hc0 hc1 hc2 hc3 hc4 hc5 hc6 x0 x1 x2 x3 x4 x5 xs0)]
  unfold kernelRun0_D
  dsimp only
  sl_unfold_words
  simp only [View.readAt_eq_ld, harg3.read_unread, harg6.read_unread, harg8.read_unread]
  refine (View.canon_cons_unit_lit _ _ _ (by intro a; match a with | ⟨0, _⟩ => rfl | ⟨1, _⟩ => rfl)).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]

theorem sout0_E_0_eq (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S2048x1024 .f32) (harg7 : arg7.IsWhole) (arg8 : Memref sig .tc .vmem S2048x1024 .f32) (harg8 : arg8.IsWhole)
    (hc0 : ¬cond0_0 i) (hc1 : ¬cond0_1 i) (hc2 : ¬cond0_2 i) (hc3 : ¬cond0_3 i) (hc4 : cond0_4 i) (hc5 : ¬cond0_5 i) (hc6 : ¬cond0_6 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S1024x512 .bf16) (xs0 : Vec Idealize.ShloMosaic.Ideal S2048x1024 .f32) :
    sout0_E_0 c i arg1 harg1 arg2 harg2 arg3 harg3 arg4 harg4 arg5 harg5 arg6 harg6 arg7 harg7 arg8 harg8 hc0 hc1 hc2 hc3 hc4 hc5 hc6 x0 x1 x2 x3 x4 x5 xs0 = k0_pay5 xs0 x3 x5 := by
  unfold sout0_E_0
  rw [View.read_writes_eq_canon _ _ _ (scover0_E_0 c i arg1 harg1 arg2 harg2 arg3 harg3 arg4 harg4 arg5 harg5 arg6 harg6 arg7 harg7 arg8 harg8 hc0 hc1 hc2 hc3 hc4 hc5 hc6 x0 x1 x2 x3 x4 x5 xs0)]
  unfold kernelRun0_E
  dsimp only
  sl_unfold_words
  simp only [View.readAt_eq_ld, harg4.read_unread, harg6.read_unread, harg8.read_unread]
  refine (View.canon_cons_unit_lit _ _ _ (by intro a; match a with | ⟨0, _⟩ => rfl | ⟨1, _⟩ => rfl)).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]

theorem sout0_F_0_eq (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S2048x1024 .f32) (harg7 : arg7.IsWhole) (arg8 : Memref sig .tc .vmem S2048x1024 .f32) (harg8 : arg8.IsWhole)
    (hc0 : ¬cond0_0 i) (hc1 : ¬cond0_1 i) (hc2 : ¬cond0_2 i) (hc3 : ¬cond0_3 i) (hc4 : ¬cond0_4 i) (hc5 : cond0_5 i) (hc6 : cond0_6 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S1024x512 .bf16) (xs0 : Vec Idealize.ShloMosaic.Ideal S2048x1024 .f32) :
    sout0_F_0 c i arg1 harg1 arg2 harg2 arg3 harg3 arg4 harg4 arg5 harg5 arg6 harg6 arg7 harg7 arg8 harg8 hc0 hc1 hc2 hc3 hc4 hc5 hc6 x0 x1 x2 x3 x4 x5 xs0 = k0_pay6 xs0 x4 x5 := by
  unfold sout0_F_0
  rw [View.read_writes_eq_canon _ _ _ (scover0_F_0 c i arg1 harg1 arg2 harg2 arg3 harg3 arg4 harg4 arg5 harg5 arg6 harg6 arg7 harg7 arg8 harg8 hc0 hc1 hc2 hc3 hc4 hc5 hc6 x0 x1 x2 x3 x4 x5 xs0)]
  unfold kernelRun0_F
  dsimp only
  sl_unfold_words
  simp only [View.readAt_eq_ld, harg5.read_unread, harg6.read_unread, harg8.read_unread]
  refine (View.canon_cons_unit_lit _ _ _ (by intro a; match a with | ⟨0, _⟩ => rfl | ⟨1, _⟩ => rfl)).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]

theorem out0_F_6_eq (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1024x512 .bf16) (harg6 : arg6.IsWhole) (arg7 : Memref sig .tc .vmem S2048x1024 .f32) (harg7 : arg7.IsWhole) (arg8 : Memref sig .tc .vmem S2048x1024 .f32) (harg8 : arg8.IsWhole)
    (hc0 : ¬cond0_0 i) (hc1 : ¬cond0_1 i) (hc2 : ¬cond0_2 i) (hc3 : ¬cond0_3 i) (hc4 : ¬cond0_4 i) (hc5 : cond0_5 i) (hc6 : cond0_6 i)
    (x0 : Vec Idealize.ShloMosaic.Ideal S2048x512 .bf16) (x1 : Vec Idealize.ShloMosaic.Ideal S2048x512 .bf16) (x2 : Vec Idealize.ShloMosaic.Ideal S2048x512 .bf16) (x3 : Vec Idealize.ShloMosaic.Ideal S2048x512 .bf16) (x4 : Vec Idealize.ShloMosaic.Ideal S2048x512 .bf16) (x5 : Vec Idealize.ShloMosaic.Ideal S1024x512 .bf16) (xs0 : Vec Idealize.ShloMosaic.Ideal S2048x1024 .f32) :
    out0_F_6 c i arg1 harg1 arg2 harg2 arg3 harg3 arg4 harg4 arg5 harg5 arg6 harg6 arg7 harg7 arg8 harg8 hc0 hc1 hc2 hc3 hc4 hc5 hc6 x0 x1 x2 x3 x4 x5 xs0 = k0_pay6 xs0 x4 x5 := by
  unfold out0_F_6
  rw [View.read_writes_eq_canon _ _ _ (cover0_F_6 c i arg1 harg1 arg2 harg2 arg3 harg3 arg4 harg4 arg5 harg5 arg6 harg6 arg7 harg7 arg8 harg8 hc0 hc1 hc2 hc3 hc4 hc5 hc6 x0 x1 x2 x3 x4 x5 xs0)]
  unfold kernelRun0_F
  dsimp only
  sl_unfold_words
  simp only [View.readAt_eq_ld, harg5.read_unread, harg6.read_unread, harg8.read_unread]
  refine (View.canon_unit_zero (by funext a; match a with | ⟨0, _⟩ => rfl | ⟨1, _⟩ => rfl) _ _).trans ?_
  refine (View.readCov_unit_zero _ (by funext a; match a with | ⟨0, _⟩ => rfl | ⟨1, _⟩ => rfl) _ _).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]

section
variable (m : (ℓ : Loc nD τ sig) → Buf (Elt Idealize.ShloMosaic.Ideal) ℓ) (c : Dev nD)

abbrev dz0 : S2048x3072.Idx → EReal := m ((c : Thread nD τ).loc main_arg0)
abbrev dz1 : S2048x2048.Idx → EReal := m ((c : Thread nD τ).loc main_arg1)
abbrev dz2 : S2048x3072.Idx → EReal := m ((c : Thread nD τ).loc main_arg2)
abbrev dz3 : S2048x3072.Idx → EReal := m ((c : Thread nD τ).loc main_arg3)
abbrev dz4 : S2048x512.Idx → EReal := m ((c : Thread nD τ).loc main_arg4)
abbrev win : S1024x11776.Idx → EReal := m ((c : Thread nD τ).loc main_arg5)

theorem blk0 (t : Fin cfg0.N) (ht : 0 ≤ t.val ∧ t.val < 6) (s : Fin 2048) (n : Fin 512) : (iblk m c 0 t (ix2 s n) : EReal) = dz0 m c (ix2 s ⟨(t.val - 0) * 512 + n.val, by omega⟩) := by
  show dz0 m c ((win0_0.blk t).view.emb (ix2 s n)) = _
  generalize dz0 m c = W; blk_ext [(idx t).1 ht]
theorem blk1 (t : Fin cfg0.N) (ht : 6 ≤ t.val ∧ t.val < 10) (s : Fin 2048) (n : Fin 512) : (iblk m c 1 t (ix2 s n) : EReal) = dz1 m c (ix2 s ⟨(t.val - 6) * 512 + n.val, by omega⟩) := by
  show dz1 m c ((win0_1.blk t).view.emb (ix2 s n)) = _
  generalize dz1 m c = W; blk_ext [(idx t).2.1 ht]
theorem blk2 (t : Fin cfg0.N) (ht : 10 ≤ t.val ∧ t.val < 16) (s : Fin 2048) (n : Fin 512) : (iblk m c 2 t (ix2 s n) : EReal) = dz2 m c (ix2 s ⟨(t.val - 10) * 512 + n.val, by omega⟩) := by
  show dz2 m c ((win0_2.blk t).view.emb (ix2 s n)) = _
  generalize dz2 m c = W; blk_ext [(idx t).2.2.1 ht]
theorem blk3 (t : Fin cfg0.N) (ht : 16 ≤ t.val ∧ t.val < 22) (s : Fin 2048) (n : Fin 512) : (iblk m c 3 t (ix2 s n) : EReal) = dz3 m c (ix2 s ⟨(t.val - 16) * 512 + n.val, by omega⟩) := by
  show dz3 m c ((win0_3.blk t).view.emb (ix2 s n)) = _
  generalize dz3 m c = W; blk_ext [(idx t).2.2.2.1 ht]
theorem blk4 (t : Fin cfg0.N) (ht : 22 ≤ t.val ∧ t.val < 23) (s : Fin 2048) (n : Fin 512) : (iblk m c 4 t (ix2 s n) : EReal) = dz4 m c (ix2 s ⟨(t.val - 22) * 512 + n.val, by omega⟩) := by
  show dz4 m c ((win0_4.blk t).view.emb (ix2 s n)) = _
  generalize dz4 m c = W; blk_ext [(idx t).2.2.2.2.1 ht]

/-- Column `n` of the block of columns that point `t` takes. -/
abbrev col (t : Fin cfg0.N) (n : Fin 512) : Fin 11776 := ⟨t.val * 512 + n.val, by have := t.isLt; have e : cfg0.N = 23 := N_0; omega⟩

theorem blk5 (t : Fin cfg0.N) (d : Fin 1024) (n : Fin 512) : (iblk m c 5 t (ix2 d n) : EReal) = win m c (ix2 d (col t n)) := by
  show win m c ((win0_5.blk t).view.emb (ix2 d n)) = _
  generalize win m c = W; blk_ext [(idx t).2.2.2.2.2]

abbrev gblk0 (t : Fin cfg0.N) : S2048x512.Idx → EReal := iblk m c 0 t
abbrev gblk1 (t : Fin cfg0.N) : S2048x512.Idx → EReal := iblk m c 1 t
abbrev gblk2 (t : Fin cfg0.N) : S2048x512.Idx → EReal := iblk m c 2 t
abbrev gblk3 (t : Fin cfg0.N) : S2048x512.Idx → EReal := iblk m c 3 t
abbrev gblk4 (t : Fin cfg0.N) : S2048x512.Idx → EReal := iblk m c 4 t
abbrev wblk (t : Fin cfg0.N) : S1024x512.Idx → EReal := iblk m c 5 t

/-- What point `t` adds. -/
def term (t : Fin cfg0.N) (s : Fin 2048) (d : Fin 1024) : EReal :=
  ∑ n : Fin 512, cat (dz0 m c) (dz1 m c) (dz2 m c) (dz3 m c) (dz4 m c) s (col t n) * win m c (ix2 d (col t n))

theorem term_0 (t : Fin cfg0.N) (ht : 0 ≤ t.val ∧ t.val < 6) (s : Fin 2048) (d : Fin 1024) :
    (∑ n : Fin 512, gblk0 m c t (ix2 s n) * wblk m c t (ix2 d n)) = term m c t s d := by
  refine Finset.sum_congr rfl fun n _ => ?_
  refine congrArg₂ (fun p q : EReal => p * q) ((blk0 m c t ht s n).trans (cat_0 _ _ _ _ _ s _ _ ?_).symm) (blk5 m c t d n)
  show t.val * 512 + n.val = 0 + ((t.val - 0) * 512 + n.val)
  omega

theorem term_1 (t : Fin cfg0.N) (ht : 6 ≤ t.val ∧ t.val < 10) (s : Fin 2048) (d : Fin 1024) :
    (∑ n : Fin 512, gblk1 m c t (ix2 s n) * wblk m c t (ix2 d n)) = term m c t s d := by
  refine Finset.sum_congr rfl fun n _ => ?_
  refine congrArg₂ (fun p q : EReal => p * q) ((blk1 m c t ht s n).trans (cat_1 _ _ _ _ _ s _ _ ?_).symm) (blk5 m c t d n)
  show t.val * 512 + n.val = 3072 + ((t.val - 6) * 512 + n.val)
  omega

theorem term_2 (t : Fin cfg0.N) (ht : 10 ≤ t.val ∧ t.val < 16) (s : Fin 2048) (d : Fin 1024) :
    (∑ n : Fin 512, gblk2 m c t (ix2 s n) * wblk m c t (ix2 d n)) = term m c t s d := by
  refine Finset.sum_congr rfl fun n _ => ?_
  refine congrArg₂ (fun p q : EReal => p * q) ((blk2 m c t ht s n).trans (cat_2 _ _ _ _ _ s _ _ ?_).symm) (blk5 m c t d n)
  show t.val * 512 + n.val = 5120 + ((t.val - 10) * 512 + n.val)
  omega

theorem term_3 (t : Fin cfg0.N) (ht : 16 ≤ t.val ∧ t.val < 22) (s : Fin 2048) (d : Fin 1024) :
    (∑ n : Fin 512, gblk3 m c t (ix2 s n) * wblk m c t (ix2 d n)) = term m c t s d := by
  refine Finset.sum_congr rfl fun n _ => ?_
  refine congrArg₂ (fun p q : EReal => p * q) ((blk3 m c t ht s n).trans (cat_3 _ _ _ _ _ s _ _ ?_).symm) (blk5 m c t d n)
  show t.val * 512 + n.val = 8192 + ((t.val - 16) * 512 + n.val)
  omega

theorem term_4 (t : Fin cfg0.N) (ht : 22 ≤ t.val ∧ t.val < 23) (s : Fin 2048) (d : Fin 1024) :
    (∑ n : Fin 512, gblk4 m c t (ix2 s n) * wblk m c t (ix2 d n)) = term m c t s d := by
  refine Finset.sum_congr rfl fun n _ => ?_
  refine congrArg₂ (fun p q : EReal => p * q) ((blk4 m c t ht s n).trans (cat_4 _ _ _ _ _ s _ _ ?_).symm) (blk5 m c t d n)
  show t.val * 512 + n.val = 11264 + ((t.val - 22) * 512 + n.val)
  omega

theorem first (t : Fin cfg0.N) (h0 : t.val % 23 = 0) (s : Fin 2048) (d : Fin 1024) :
    ((outsAt0 m c t.val t.isLt).2 (ix2 s d) : EReal) = 0 + term m c t s d := by
  have hN : cfg0.N = 23 := N_0
  have := t.isLt
  simp only [outsAt0_A m c t h0 (by omega) (by omega) (by omega) (by omega) (by omega) (by omega)]
  rw [sout0_A_0_eq]
  refine (pay2 _ _ _ s d).trans ?_
  exact congrArg₂ (fun p q : EReal => p + q) (zeros _) (term_0 m c t (by omega) s d)

theorem next (t : Fin cfg0.N) (h0 : ¬t.val % 23 = 0) (s : Fin 2048) (d : Fin 1024) :
    ((outsAt0 m c t.val t.isLt).2 (ix2 s d) : EReal) = (outsAt0 m c (t.val - 1) (Nat.lt_of_le_of_lt (Nat.sub_le _ _) t.isLt)).2 (ix2 s d) + term m c t s d := by
  have hN : cfg0.N = 23 := N_0
  have hlt := t.isLt
  rcases (by omega : t.val < 6 ∨ (6 ≤ t.val ∧ t.val < 10) ∨ (10 ≤ t.val ∧ t.val < 16) ∨ (16 ≤ t.val ∧ t.val < 22) ∨ t.val = 22) with h | h | h | h | h
  · simp only [outsAt0_B m c t h0 (by omega) (by omega) (by omega) (by omega) (by omega) (by omega)]
    rw [sout0_B_0_eq]
    refine (pay2 _ _ _ s d).trans ?_
    exact congrArg (fun q : EReal => _ + q) (term_0 m c t (by omega) s d)
  · simp only [outsAt0_C m c t h0 (by omega) (by omega) (by omega) (by omega) (by omega) (by omega)]
    rw [sout0_C_0_eq]
    refine (pay3 _ _ _ s d).trans ?_
    exact congrArg (fun q : EReal => _ + q) (term_1 m c t (by omega) s d)
  · simp only [outsAt0_D m c t h0 (by omega) (by omega) (by omega) (by omega) (by omega) (by omega)]
    rw [sout0_D_0_eq]
    refine (pay4 _ _ _ s d).trans ?_
    exact congrArg (fun q : EReal => _ + q) (term_2 m c t (by omega) s d)
  · simp only [outsAt0_E m c t h0 (by omega) (by omega) (by omega) (by omega) (by omega) (by omega)]
    rw [sout0_E_0_eq]
    refine (pay5 _ _ _ s d).trans ?_
    exact congrArg (fun q : EReal => _ + q) (term_3 m c t (by omega) s d)
  · simp only [outsAt0_F m c t h0 (by omega) (by omega) (by omega) (by omega) (by omega) (by omega)]
    rw [sout0_F_0_eq]
    refine (pay6 _ _ _ s d).trans ?_
    exact congrArg (fun q : EReal => _ + q) (term_4 m c t (by omega) s d)

theorem last (t : Fin cfg0.N) (ht : t.val + 1 = cfg0.N) (s : Fin 2048) (d : Fin 1024) :
    ((outsAt0 m c t.val t.isLt).1 (ix2 s d) : EReal) = prod (dz0 m c) (dz1 m c) (dz2 m c) (dz3 m c) (dz4 m c) (win m c) (ix2 s d) := by
  have hN : cfg0.N = 23 := N_0
  have e := Pipeline.eq_sum_fin_of_reset_step_last (M := EReal) (fun n h => (outsAt0 m c n h).2 (ix2 s d)) 23 0 (fun t => term m c t s d)
    (fun t h => first m c t h s d) (fun t h => next m c t h s d) (le_of_eq N_0) t ht
  have e2 : ((outsAt0 m c t.val t.isLt).1 (ix2 s d) : EReal) = (outsAt0 m c t.val t.isLt).2 (ix2 s d) := by
    simp only [outsAt0_F m c t (by omega) (by omega) (by omega) (by omega) (by omega) (by omega) (by omega)]
    rw [sout0_F_0_eq, out0_F_6_eq]
  refine e2.trans (e.trans ?_)
  rw [zero_add]
  refine Eq.trans ?_ (sum_blocks _).symm
  exact Fintype.sum_equiv (finCongr hN) _ _ fun p => rfl

abbrev tl : Fin cfg0.N := ⟨22, by have e : cfg0.N = 23 := N_0; omega⟩

theorem whole6 : (cfg0.win 6).WholeAt tl := by decide +kernel

theorem arr6 : (dats m 0 c).arrAt 6 cfg0.N = prod (dz0 m c) (dz1 m c) (dz2 m c) (dz3 m c) (dz4 m c) (win m c) := by
  refine (dats m 0 c).arrAt_eq_of_after_last 6 tl whole6 _ fun y => ?_
  blk_simp
  rw [after0_6]
  obtain ⟨s, d, rfl⟩ : ∃ (s : Fin 2048) (d : Fin 1024), y = ix2 s d := ⟨_, _, eta_res y⟩
  exact last m c tl (show (22 : ℕ) + 1 = cfg0.N from N_0.symm) s d

end

theorem ref (x0 : (⟨S2048x3072, .bf16⟩ : BufTy).Contents (Elt Idealize.ShloMosaic.Ideal)) (x1 : (⟨S2048x2048, .bf16⟩ : BufTy).Contents (Elt Idealize.ShloMosaic.Ideal)) (x2 : (⟨S2048x3072, .bf16⟩ : BufTy).Contents (Elt Idealize.ShloMosaic.Ideal)) (x3 : (⟨S2048x3072, .bf16⟩ : BufTy).Contents (Elt Idealize.ShloMosaic.Ideal)) (x4 : (⟨S2048x512, .bf16⟩ : BufTy).Contents (Elt Idealize.ShloMosaic.Ideal)) (x5 : (⟨S1024x11776, .bf16⟩ : BufTy).Contents (Elt Idealize.ShloMosaic.Ideal)) :
    Cert.DhinRefIdeal.Read.val_main_v5 (F := Idealize.ShloMosaic.Ideal) x0 x1 x2 x3 x4 x5 = prod x0 x1 x2 x3 x4 x5 := by
  funext y
  obtain ⟨s, d, rfl⟩ : ∃ (s : Fin 2048) (d : Fin 1024), y = ix2 s d := ⟨_, _, eta_res y⟩
  unfold Cert.DhinRefIdeal.Read.val_main_v5 Cert.DhinRefIdeal.Read.val_main_v4 Cert.DhinRefIdeal.Read.val_main_v3 Cert.DhinRefIdeal.Read.val_main_v0
  pointwise
  rfl

/-- The run: the result array the pipeline leaves, the arguments as launched. -/
theorem run_arr (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r => ∀ c : Dev nD,
      r.2.mem ((c : Thread nD τ).loc main_v0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩)
    (run_main m ρ)

theorem value : Cert.algebraic_DhinIdeal_DhinRefIdeal (hDhinIdeal := Cert.DhinIdeal.Gen.facts) (hDhinRefIdeal := Cert.DhinRefIdeal.Gen.facts) := by
  intro m g m' g' _ hagree
  refine ⟨fun c => _, run_arr m g, ?_⟩
  refine (θ_run (Cert.DhinRefIdeal.defs (F := Idealize.ShloMosaic.Ideal)) _ _).mono (fun r h c => ?_) (Cert.DhinRefIdeal.Value.run (F := Idealize.ShloMosaic.Ideal) m' g')
  obtain ⟨g0, g1, g2, g3, g4, g5⟩ := hagree c
  refine ⟨(h c).1.trans ((Cert.DhinRefIdeal.Read.val_main_v5_eq (F := Idealize.ShloMosaic.Ideal) _ _ _ _ _ _).trans ((ref _ _ _ _ _ _).trans ?_)), (h c).2⟩
  refine Eq.trans ?_ (arr6 m c).symm
  rw [g0, g1, g2, g3, g4, g5]

end Cert.Bwd.Dhin

end
-- ==== Proof.Bwd.DsqO.lean ====
module

public import proofs.«01_k».proof.Defs
public import proofs.«01_k».proof.Proof.Gen.DsqOIdeal
public import proofs.«01_k».proof.Proof.Gen.DsqOIdeal.Value
public import proofs.«01_k».proof.Proof.Gen.DsqORefIdeal
public import proofs.«01_k».proof.Proof.Gen.DsqORefIdeal.Run
public import proofs.«01_k».proof.Proof.Gen.DsqORefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.DsqO

open Cert.DsqOIdeal Cert.DsqOIdeal.Gen Idealize.ShloMosaic Idealize.ShloMosaic.TcCoe Idealize.ShloMosaic.Tactic Idealize.SL.Sem

/-! # The gradient of a square product's input: each row of the output's gradient by the weight's rows -/

/-- The index maps: a tile of rows, the one weight, and the tile of rows again. -/
theorem idx : ∀ t : Fin cfg0.N, win0_0.index t = ![t.val, 0] ∧ win0_1.index t = ![0, 3, 0, 0] ∧ win0_2.index t = ![t.val, 0] :=
  (by decide +kernel : ∀ t : Fin grid0.N, _)

/-- Row `i` of tile `t`. -/
abbrev row (t : Fin cfg0.N) (i : Fin 1024) : Fin 2048 := ⟨t.val * 1024 + i.val, by have := t.isLt; have e : cfg0.N = 2 := N_0; omega⟩

/-- The product, from the whole arrays. -/
def prod (dy : S2048x1024.Idx → EReal) (w : S1x4x1024x1024.Idx → EReal) : S2048x1024.Idx → EReal :=
  fun y => ∑ k : Fin 1024, dy (ix2 (y 0) k) * w (ix4 0 3 (y 1) k)

theorem pay (x0 : Vec Idealize.ShloMosaic.Ideal S1024x1024 .f32) (x1 : Vec Idealize.ShloMosaic.Ideal S1x1x1024x1024 .bf16) (i j : Fin 1024) :
    (k0_pay1 x0 x1 (ix2 i j) : EReal) = ∑ k : Fin 1024, x0 (ix2 i k) * x1 (ix4 0 0 j k) := by
  unfold k0_pay1
  pointwise

theorem ix2_eta (y : S1024x1024.Idx) : y = ix2 (⟨(y 0).val, (y 0).isLt⟩ : Fin 1024) (⟨(y 1).val, (y 1).isLt⟩ : Fin 1024) := by
  funext a; match a with | ⟨0, _⟩ => rfl | ⟨1, _⟩ => rfl

theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

section
variable (m : (ℓ : Loc nD τ sig) → Buf (Elt Idealize.ShloMosaic.Ideal) ℓ) (c : Dev nD)

abbrev dy : S2048x1024.Idx → EReal := m ((c : Thread nD τ).loc main_arg0)
abbrev w : S1x4x1024x1024.Idx → EReal := m ((c : Thread nD τ).loc main_arg1)

theorem blk0 (t : Fin cfg0.N) (i k : Fin 1024) : (iblk m c 0 t (ix2 i k) : EReal) = dy m c (ix2 (row t i) k) := by
  show dy m c ((win0_0.blk t).view.emb (ix2 i k)) = _
  generalize dy m c = W; blk_ext [(idx t).1]
theorem blk1 (t : Fin cfg0.N) (j k : Fin 1024) : (iblk m c 1 t (ix4 0 0 j k) : EReal) = w m c (ix4 0 3 j k) := by
  show w m c ((win0_1.blk t).view.emb (ix4 0 0 j k)) = _
  generalize w m c = W; blk_ext [(idx t).2.1]
theorem emb2 (t : Fin cfg0.N) (i j : Fin 1024) : (win0_2.blk t).view.emb (ix2 i j) = (ix2 (row t i) j : S2048x1024.Idx) := by
  blk_ext [(idx t).2.2]

theorem covers2 : (cfg0.win 2).Covers := by decide +kernel

theorem arr2 : (dats m 0 c).arrAt 2 cfg0.N = prod (dy m c) (w m c) := by
  refine (dats m 0 c).arrAt_eq_of_covers 2 _ covers2 fun t hf y => ?_
  blk_simp
  rw [after0_2]
  obtain ⟨i, j, rfl⟩ : ∃ (i j : Fin 1024), y = ix2 i j := ⟨_, _, ix2_eta y⟩
  have e : (out0_2 (iblk m c 0 t) (iblk m c 1 t) (ix2 i j) : EReal) = prod (dy m c) (w m c) (ix2 (row t i) j) := by
    unfold out0_2
    rw [View.canon_unit_zero (by funext a; match a with | ⟨0, _⟩ => rfl | ⟨1, _⟩ => rfl)]
    rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl)]
    rw [pay]
    simp only [blk0, blk1]
    rfl
  exact e.trans (congrArg _ (emb2 t i j).symm)

end

theorem ref (x0 : (⟨S2048x1024, .f32⟩ : BufTy).Contents (Elt Idealize.ShloMosaic.Ideal)) (x1 : (⟨S1x4x1024x1024, .bf16⟩ : BufTy).Contents (Elt Idealize.ShloMosaic.Ideal)) :
    Cert.DsqORefIdeal.Read.val_main_v5 (F := Idealize.ShloMosaic.Ideal) x0 x1 = prod x0 x1 := by
  funext y
  obtain ⟨i, j, rfl⟩ : ∃ (i : Fin 2048) (j : Fin 1024), y = ix2 i j := ⟨_, _, ix2_eta' y⟩
  unfold Cert.DsqORefIdeal.Read.val_main_v5 Cert.DsqORefIdeal.Read.val_main_v2 Cert.DsqORefIdeal.Read.val_main_v1 Cert.DsqORefIdeal.Read.val_main_v0
  pointwise
  rfl

theorem value : Cert.algebraic_DsqOIdeal_DsqORefIdeal (hDsqOIdeal := Cert.DsqOIdeal.Gen.facts) (hDsqORefIdeal := Cert.DsqORefIdeal.Gen.facts) := by
  intro m g m' g' _ hagree
  refine ⟨fun c => _, Cert.DsqOIdeal.Value.run_blocks m g, ?_⟩
  refine (θ_run (Cert.DsqORefIdeal.defs (F := Idealize.ShloMosaic.Ideal)) _ _).mono (fun r h c => ?_) (Cert.DsqORefIdeal.Value.run (F := Idealize.ShloMosaic.Ideal) m' g')
  obtain ⟨g0, g1⟩ := hagree c
  refine ⟨(h c).1.trans ((Cert.DsqORefIdeal.Read.val_main_v5_eq (F := Idealize.ShloMosaic.Ideal) _ _).trans ((ref _ _).trans ?_)), (h c).2⟩
  exact (congrArg₂ prod g0 g1).trans (arr2 m c).symm

end Cert.Bwd.DsqO

end
-- ==== Proof.Bwd.DsqC.lean ====
module

public import proofs.«01_k».proof.Defs
public import proofs.«01_k».proof.Proof.Gen.DsqCIdeal
public import proofs.«01_k».proof.Proof.Gen.DsqCIdeal.Value
public import proofs.«01_k».proof.Proof.Gen.DsqCRefIdeal
public import proofs.«01_k».proof.Proof.Gen.DsqCRefIdeal.Run
public import proofs.«01_k».proof.Proof.Gen.DsqCRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.DsqC

open Cert.DsqCIdeal Cert.DsqCIdeal.Gen Idealize.ShloMosaic Idealize.ShloMosaic.TcCoe Idealize.ShloMosaic.Tactic Idealize.SL.Sem

/-! # The gradient of a square product's input: each row of the output's gradient by the weight's rows -/

/-- The index maps: a tile of rows, the one weight, and the tile of rows again. -/
theorem idx : ∀ t : Fin cfg0.N, win0_0.index t = ![t.val, 0] ∧ win0_1.index t = ![0, 0, 0, 0] ∧ win0_2.index t = ![t.val, 0] :=
  (by decide +kernel : ∀ t : Fin grid0.N, _)

/-- Row `i` of tile `t`. -/
abbrev row (t : Fin cfg0.N) (i : Fin 1024) : Fin 2048 := ⟨t.val * 1024 + i.val, by have := t.isLt; have e : cfg0.N = 2 := N_0; omega⟩

/-- The product, from the whole arrays. -/
def prod (dy : S2048x1024.Idx → EReal) (w : S1x4x1024x1024.Idx → EReal) : S2048x1024.Idx → EReal :=
  fun y => ∑ k : Fin 1024, dy (ix2 (y 0) k) * w (ix4 0 0 (y 1) k)

theorem pay (x0 : Vec Idealize.ShloMosaic.Ideal S1024x1024 .bf16) (x1 : Vec Idealize.ShloMosaic.Ideal S1x1x1024x1024 .bf16) (i j : Fin 1024) :
    (k0_pay1 x0 x1 (ix2 i j) : EReal) = ∑ k : Fin 1024, x0 (ix2 i k) * x1 (ix4 0 0 j k) := by
  unfold k0_pay1
  pointwise

theorem ix2_eta (y : S1024x1024.Idx) : y = ix2 (⟨(y 0).val, (y 0).isLt⟩ : Fin 1024) (⟨(y 1).val, (y 1).isLt⟩ : Fin 1024) := by
  funext a; match a with | ⟨0, _⟩ => rfl | ⟨1, _⟩ => rfl

theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

section
variable (m : (ℓ : Loc nD τ sig) → Buf (Elt Idealize.ShloMosaic.Ideal) ℓ) (c : Dev nD)

abbrev dy : S2048x1024.Idx → EReal := m ((c : Thread nD τ).loc main_arg0)
abbrev w : S1x4x1024x1024.Idx → EReal := m ((c : Thread nD τ).loc main_arg1)

theorem blk0 (t : Fin cfg0.N) (i k : Fin 1024) : (iblk m c 0 t (ix2 i k) : EReal) = dy m c (ix2 (row t i) k) := by
  show dy m c ((win0_0.blk t).view.emb (ix2 i k)) = _
  generalize dy m c = W; blk_ext [(idx t).1]
theorem blk1 (t : Fin cfg0.N) (j k : Fin 1024) : (iblk m c 1 t (ix4 0 0 j k) : EReal) = w m c (ix4 0 0 j k) := by
  show w m c ((win0_1.blk t).view.emb (ix4 0 0 j k)) = _
  generalize w m c = W; blk_ext [(idx t).2.1]
theorem emb2 (t : Fin cfg0.N) (i j : Fin 1024) : (win0_2.blk t).view.emb (ix2 i j) = (ix2 (row t i) j : S2048x1024.Idx) := by
  blk_ext [(idx t).2.2]

theorem covers2 : (cfg0.win 2).Covers := by decide +kernel

theorem arr2 : (dats m 0 c).arrAt 2 cfg0.N = prod (dy m c) (w m c) := by
  refine (dats m 0 c).arrAt_eq_of_covers 2 _ covers2 fun t hf y => ?_
  blk_simp
  rw [after0_2]
  obtain ⟨i, j, rfl⟩ : ∃ (i j : Fin 1024), y = ix2 i j := ⟨_, _, ix2_eta y⟩
  have e : (out0_2 (iblk m c 0 t) (iblk m c 1 t) (ix2 i j) : EReal) = prod (dy m c) (w m c) (ix2 (row t i) j) := by
    unfold out0_2
    rw [View.canon_unit_zero (by funext a; match a with | ⟨0, _⟩ => rfl | ⟨1, _⟩ => rfl)]
    rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl)]
    rw [pay]
    simp only [blk0, blk1]
    rfl
  exact e.trans (congrArg _ (emb2 t i j).symm)

end

theorem ref (x0 : (⟨S2048x1024, .bf16⟩ : BufTy).Contents (Elt Idealize.ShloMosaic.Ideal)) (x1 : (⟨S1x4x1024x1024, .bf16⟩ : BufTy).Contents (Elt Idealize.ShloMosaic.Ideal)) :
    Cert.DsqCRefIdeal.Read.val_main_v6 (F := Idealize.ShloMosaic.Ideal) x0 x1 = prod x0 x1 := by
  funext y
  obtain ⟨i, j, rfl⟩ : ∃ (i : Fin 2048) (j : Fin 1024), y = ix2 i j := ⟨_, _, ix2_eta' y⟩
  unfold Cert.DsqCRefIdeal.Read.val_main_v6 Cert.DsqCRefIdeal.Read.val_main_v2 Cert.DsqCRefIdeal.Read.val_main_v1 Cert.DsqCRefIdeal.Read.val_main_v0 Cert.DsqCRefIdeal.Read.val_main_v5
  pointwise
  rfl

theorem value : Cert.algebraic_DsqCIdeal_DsqCRefIdeal (hDsqCIdeal := Cert.DsqCIdeal.Gen.facts) (hDsqCRefIdeal := Cert.DsqCRefIdeal.Gen.facts) := by
  intro m g m' g' _ hagree
  refine ⟨fun c => _, Cert.DsqCIdeal.Value.run_blocks m g, ?_⟩
  refine (θ_run (Cert.DsqCRefIdeal.defs (F := Idealize.ShloMosaic.Ideal)) _ _).mono (fun r h c => ?_) (Cert.DsqCRefIdeal.Value.run (F := Idealize.ShloMosaic.Ideal) m' g')
  obtain ⟨g0, g1⟩ := hagree c
  refine ⟨(h c).1.trans ((Cert.DsqCRefIdeal.Read.val_main_v6_eq (F := Idealize.ShloMosaic.Ideal) _ _).trans ((ref _ _).trans ?_)), (h c).2⟩
  exact (congrArg₂ prod g0 g1).trans (arr2 m c).symm

end Cert.Bwd.DsqC

end
-- ==== Proof.Bwd.DsqS.lean ====
module

public import proofs.«01_k».proof.Defs
public import proofs.«01_k».proof.Proof.Gen.DsqSIdeal
public import proofs.«01_k».proof.Proof.Gen.DsqSIdeal.Value
public import proofs.«01_k».proof.Proof.Gen.DsqSRefIdeal
public import proofs.«01_k».proof.Proof.Gen.DsqSRefIdeal.Run
public import proofs.«01_k».proof.Proof.Gen.DsqSRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.DsqS

open Cert.DsqSIdeal Cert.DsqSIdeal.Gen Idealize.ShloMosaic Idealize.ShloMosaic.TcCoe Idealize.ShloMosaic.Tactic Idealize.SL.Sem

/-! # The gradient of a square product's input: each row of the output's gradient by the weight's rows -/

/-- The index maps: a tile of rows, the one weight, and the tile of rows again. -/
theorem idx : ∀ t : Fin cfg0.N, win0_0.index t = ![t.val, 0] ∧ win0_1.index t = ![0, 1, 0, 0] ∧ win0_2.index t = ![t.val, 0] :=
  (by decide +kernel : ∀ t : Fin grid0.N, _)

/-- Row `i` of tile `t`. -/
abbrev row (t : Fin cfg0.N) (i : Fin 1024) : Fin 2048 := ⟨t.val * 1024 + i.val, by have := t.isLt; have e : cfg0.N = 2 := N_0; omega⟩

/-- The product, from the whole arrays. -/
def prod (dy : S2048x1024.Idx → EReal) (w : S1x4x1024x1024.Idx → EReal) : S2048x1024.Idx → EReal :=
  fun y => ∑ k : Fin 1024, dy (ix2 (y 0) k) * w (ix4 0 1 (y 1) k)

theorem pay (x0 : Vec Idealize.ShloMosaic.Ideal S1024x1024 .bf16) (x1 : Vec Idealize.ShloMosaic.Ideal S1x1x1024x1024 .bf16) (i j : Fin 1024) :
    (k0_pay1 x0 x1 (ix2 i j) : EReal) = ∑ k : Fin 1024, x0 (ix2 i k) * x1 (ix4 0 0 j k) := by
  unfold k0_pay1
  pointwise

theorem ix2_eta (y : S1024x1024.Idx) : y = ix2 (⟨(y 0).val, (y 0).isLt⟩ : Fin 1024) (⟨(y 1).val, (y 1).isLt⟩ : Fin 1024) := by
  funext a; match a with | ⟨0, _⟩ => rfl | ⟨1, _⟩ => rfl

theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

section
variable (m : (ℓ : Loc nD τ sig) → Buf (Elt Idealize.ShloMosaic.Ideal) ℓ) (c : Dev nD)

abbrev dy : S2048x1024.Idx → EReal := m ((c : Thread nD τ).loc main_arg0)
abbrev w : S1x4x1024x1024.Idx → EReal := m ((c : Thread nD τ).loc main_arg1)

theorem blk0 (t : Fin cfg0.N) (i k : Fin 1024) : (iblk m c 0 t (ix2 i k) : EReal) = dy m c (ix2 (row t i) k) := by
  show dy m c ((win0_0.blk t).view.emb (ix2 i k)) = _
  generalize dy m c = W; blk_ext [(idx t).1]
theorem blk1 (t : Fin cfg0.N) (j k : Fin 1024) : (iblk m c 1 t (ix4 0 0 j k) : EReal) = w m c (ix4 0 1 j k) := by
  show w m c ((win0_1.blk t).view.emb (ix4 0 0 j k)) = _
  generalize w m c = W; blk_ext [(idx t).2.1]
theorem emb2 (t : Fin cfg0.N) (i j : Fin 1024) : (win0_2.blk t).view.emb (ix2 i j) = (ix2 (row t i) j : S2048x1024.Idx) := by
  blk_ext [(idx t).2.2]

theorem covers2 : (cfg0.win 2).Covers := by decide +kernel

theorem arr2 : (dats m 0 c).arrAt 2 cfg0.N = prod (dy m c) (w m c) := by
  refine (dats m 0 c).arrAt_eq_of_covers 2 _ covers2 fun t hf y => ?_
  blk_simp
  rw [after0_2]
  obtain ⟨i, j, rfl⟩ : ∃ (i j : Fin 1024), y = ix2 i j := ⟨_, _, ix2_eta y⟩
  have e : (out0_2 (iblk m c 0 t) (iblk m c 1 t) (ix2 i j) : EReal) = prod (dy m c) (w m c) (ix2 (row t i) j) := by
    unfold out0_2
    rw [View.canon_unit_zero (by funext a; match a with | ⟨0, _⟩ => rfl | ⟨1, _⟩ => rfl)]
    rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl)]
    rw [pay]
    simp only [blk0, blk1]
    rfl
  exact e.trans (congrArg _ (emb2 t i j).symm)

end

theorem ref (x0 : (⟨S2048x1024, .bf16⟩ : BufTy).Contents (Elt Idealize.ShloMosaic.Ideal)) (x1 : (⟨S1x4x1024x1024, .bf16⟩ : BufTy).Contents (Elt Idealize.ShloMosaic.Ideal)) :
    Cert.DsqSRefIdeal.Read.val_main_v6 (F := Idealize.ShloMosaic.Ideal) x0 x1 = prod x0 x1 := by
  funext y
  obtain ⟨i, j, rfl⟩ : ∃ (i : Fin 2048) (j : Fin 1024), y = ix2 i j := ⟨_, _, ix2_eta' y⟩
  unfold Cert.DsqSRefIdeal.Read.val_main_v6 Cert.DsqSRefIdeal.Read.val_main_v2 Cert.DsqSRefIdeal.Read.val_main_v1 Cert.DsqSRefIdeal.Read.val_main_v0 Cert.DsqSRefIdeal.Read.val_main_v5
  pointwise
  rfl

theorem value : Cert.algebraic_DsqSIdeal_DsqSRefIdeal (hDsqSIdeal := Cert.DsqSIdeal.Gen.facts) (hDsqSRefIdeal := Cert.DsqSRefIdeal.Gen.facts) := by
  intro m g m' g' _ hagree
  refine ⟨fun c => _, Cert.DsqSIdeal.Value.run_blocks m g, ?_⟩
  refine (θ_run (Cert.DsqSRefIdeal.defs (F := Idealize.ShloMosaic.Ideal)) _ _).mono (fun r h c => ?_) (Cert.DsqSRefIdeal.Value.run (F := Idealize.ShloMosaic.Ideal) m' g')
  obtain ⟨g0, g1⟩ := hagree c
  refine ⟨(h c).1.trans ((Cert.DsqSRefIdeal.Read.val_main_v6_eq (F := Idealize.ShloMosaic.Ideal) _ _).trans ((ref _ _).trans ?_)), (h c).2⟩
  exact (congrArg₂ prod g0 g1).trans (arr2 m c).symm

end Cert.Bwd.DsqS

end
-- ==== Proof.Bwd.DsqA.lean ====
module

public import proofs.«01_k».proof.Defs
public import proofs.«01_k».proof.Proof.Gen.DsqAIdeal
public import proofs.«01_k».proof.Proof.Gen.DsqAIdeal.Value
public import proofs.«01_k».proof.Proof.Gen.DsqARefIdeal
public import proofs.«01_k».proof.Proof.Gen.DsqARefIdeal.Run
public import proofs.«01_k».proof.Proof.Gen.DsqARefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.DsqA

open Cert.DsqAIdeal Cert.DsqAIdeal.Gen Idealize.ShloMosaic Idealize.ShloMosaic.TcCoe Idealize.ShloMosaic.Tactic Idealize.SL.Sem

/-! # The gradient of a square product's input: each row of the output's gradient by the weight's rows -/

/-- The index maps: a tile of rows, the one weight, and the tile of rows again. -/
theorem idx : ∀ t : Fin cfg0.N, win0_0.index t = ![t.val, 0] ∧ win0_1.index t = ![0, 2, 0, 0] ∧ win0_2.index t = ![t.val, 0] :=
  (by decide +kernel : ∀ t : Fin grid0.N, _)

/-- Row `i` of tile `t`. -/
abbrev row (t : Fin cfg0.N) (i : Fin 1024) : Fin 2048 := ⟨t.val * 1024 + i.val, by have := t.isLt; have e : cfg0.N = 2 := N_0; omega⟩

/-- The product, from the whole arrays. -/
def prod (dy : S2048x1024.Idx → EReal) (w : S1x4x1024x1024.Idx → EReal) : S2048x1024.Idx → EReal :=
  fun y => ∑ k : Fin 1024, dy (ix2 (y 0) k) * w (ix4 0 2 (y 1) k)

theorem pay (x0 : Vec Idealize.ShloMosaic.Ideal S1024x1024 .bf16) (x1 : Vec Idealize.ShloMosaic.Ideal S1x1x1024x1024 .bf16) (i j : Fin 1024) :
    (k0_pay1 x0 x1 (ix2 i j) : EReal) = ∑ k : Fin 1024, x0 (ix2 i k) * x1 (ix4 0 0 j k) := by
  unfold k0_pay1
  pointwise

theorem ix2_eta (y : S1024x1024.Idx) : y = ix2 (⟨(y 0).val, (y 0).isLt⟩ : Fin 1024) (⟨(y 1).val, (y 1).isLt⟩ : Fin 1024) := by
  funext a; match a with | ⟨0, _⟩ => rfl | ⟨1, _⟩ => rfl

theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

section
variable (m : (ℓ : Loc nD τ sig) → Buf (Elt Idealize.ShloMosaic.Ideal) ℓ) (c : Dev nD)

abbrev dy : S2048x1024.Idx → EReal := m ((c : Thread nD τ).loc main_arg0)
abbrev w : S1x4x1024x1024.Idx → EReal := m ((c : Thread nD τ).loc main_arg1)

theorem blk0 (t : Fin cfg0.N) (i k : Fin 1024) : (iblk m c 0 t (ix2 i k) : EReal) = dy m c (ix2 (row t i) k) := by
  show dy m c ((win0_0.blk t).view.emb (ix2 i k)) = _
  generalize dy m c = W; blk_ext [(idx t).1]
theorem blk1 (t : Fin cfg0.N) (j k : Fin 1024) : (iblk m c 1 t (ix4 0 0 j k) : EReal) = w m c (ix4 0 2 j k) := by
  show w m c ((win0_1.blk t).view.emb (ix4 0 0 j k)) = _
  generalize w m c = W; blk_ext [(idx t).2.1]
theorem emb2 (t : Fin cfg0.N) (i j : Fin 1024) : (win0_2.blk t).view.emb (ix2 i j) = (ix2 (row t i) j : S2048x1024.Idx) := by
  blk_ext [(idx t).2.2]

theorem covers2 : (cfg0.win 2).Covers := by decide +kernel

theorem arr2 : (dats m 0 c).arrAt 2 cfg0.N = prod (dy m c) (w m c) := by
  refine (dats m 0 c).arrAt_eq_of_covers 2 _ covers2 fun t hf y => ?_
  blk_simp
  rw [after0_2]
  obtain ⟨i, j, rfl⟩ : ∃ (i j : Fin 1024), y = ix2 i j := ⟨_, _, ix2_eta y⟩
  have e : (out0_2 (iblk m c 0 t) (iblk m c 1 t) (ix2 i j) : EReal) = prod (dy m c) (w m c) (ix2 (row t i) j) := by
    unfold out0_2
    rw [View.canon_unit_zero (by funext a; match a with | ⟨0, _⟩ => rfl | ⟨1, _⟩ => rfl)]
    rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl)]
    rw [pay]
    simp only [blk0, blk1]
    rfl
  exact e.trans (congrArg _ (emb2 t i j).symm)

end

theorem ref (x0 : (⟨S2048x1024, .bf16⟩ : BufTy).Contents (Elt Idealize.ShloMosaic.Ideal)) (x1 : (⟨S1x4x1024x1024, .bf16⟩ : BufTy).Contents (Elt Idealize.ShloMosaic.Ideal)) :
    Cert.DsqARefIdeal.Read.val_main_v6 (F := Idealize.ShloMosaic.Ideal) x0 x1 = prod x0 x1 := by
  funext y
  obtain ⟨i, j, rfl⟩ : ∃ (i : Fin 2048) (j : Fin 1024), y = ix2 i j := ⟨_, _, ix2_eta' y⟩
  unfold Cert.DsqARefIdeal.Read.val_main_v6 Cert.DsqARefIdeal.Read.val_main_v2 Cert.DsqARefIdeal.Read.val_main_v1 Cert.DsqARefIdeal.Read.val_main_v0 Cert.DsqARefIdeal.Read.val_main_v5
  pointwise
  rfl

theorem value : Cert.algebraic_DsqAIdeal_DsqARefIdeal (hDsqAIdeal := Cert.DsqAIdeal.Gen.facts) (hDsqARefIdeal := Cert.DsqARefIdeal.Gen.facts) := by
  intro m g m' g' _ hagree
  refine ⟨fun c => _, Cert.DsqAIdeal.Value.run_blocks m g, ?_⟩
  refine (θ_run (Cert.DsqARefIdeal.defs (F := Idealize.ShloMosaic.Ideal)) _ _).mono (fun r h c => ?_) (Cert.DsqARefIdeal.Value.run (F := Idealize.ShloMosaic.Ideal) m' g')
  obtain ⟨g0, g1⟩ := hagree c
  refine ⟨(h c).1.trans ((Cert.DsqARefIdeal.Read.val_main_v6_eq (F := Idealize.ShloMosaic.Ideal) _ _).trans ((ref _ _).trans ?_)), (h c).2⟩
  exact (congrArg₂ prod g0 g1).trans (arr2 m c).symm

end Cert.Bwd.DsqA

end
-- ==== Proof.Bwd.DwsqO.lean ====
module

public import proofs.«01_k».proof.Defs
public import proofs.«01_k».proof.Proof.Gen.DwsqOIdeal
public import proofs.«01_k».proof.Proof.Gen.DwsqOIdeal.Value
public import proofs.«01_k».proof.Proof.Gen.DwsqORefIdeal
public import proofs.«01_k».proof.Proof.Gen.DwsqORefIdeal.Run
public import proofs.«01_k».proof.Proof.Gen.DwsqORefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.DwsqO

open Cert.DwsqOIdeal Cert.DwsqOIdeal.Gen Idealize.ShloMosaic Idealize.ShloMosaic.TcCoe Idealize.ShloMosaic.Tactic Idealize.SL.Sem

/-! # The gradient of a weight whose rows are split into the devices' blocks, the even ones first -/

/-- Column `f` of block `q`. -/
abbrev colOf (q : Fin 4) (f : Fin 256) : Fin 1024 := ⟨q.val * 256 + f.val, by omega⟩

/-- The index maps: a block of columns, the whole output's gradient, and the place of the two blocks of rows. -/
theorem idx : ∀ t : Fin cfg0.N, win0_0.index t = ![0, t.val] ∧ win0_1.index t = ![0, 0] ∧ win0_2.index t = ![0, t.val, 0, 0, 0] :=
  (by decide +kernel : ∀ t : Fin grid0.N, _)

abbrev pt (t : Fin cfg0.N) : Fin 4 := ⟨t.val, by have := t.isLt; have e : cfg0.N = 4 := N_0; omega⟩
/-- Row `r` of half `p`. -/
abbrev half (p : Fin 2) (r : Fin 128) : Fin 256 := ⟨p.val * 128 + r.val, by omega⟩

/-- The gradient, from the whole arrays: rows `128 * p` and after of block `q` at `p`, `q`. -/
def prod (a : S2048x1024.Idx → EReal) (dy : S2048x1024.Idx → EReal) : S2x4x1x128x1024.Idx → EReal :=
  fun y => ∑ s : Fin 2048, a (ix2 s (colOf ((y 1)) (half (y 0) (y 3)))) * dy (ix2 s (y 4))

/-- One point's product. -/
theorem pay1 (x0 : Vec Idealize.ShloMosaic.Ideal S2048x256 .bf16) (x1 : Vec Idealize.ShloMosaic.Ideal S2048x1024 .f32) (f : Fin 256) (d : Fin 1024) :
    (k0_pay1 x0 x1 (ix2 f d) : EReal) = ∑ s : Fin 2048, x0 (ix2 s f) * x1 (ix2 s d) := by
  unfold k0_pay1
  pointwise

theorem pay2 (x0 : Vec Idealize.ShloMosaic.Ideal S2048x256 .bf16) (x1 : Vec Idealize.ShloMosaic.Ideal S2048x1024 .f32) (r : Fin 128) (d : Fin 1024) :
    (k0_pay2 x0 x1 (ix5 0 0 0 r d) : EReal) = k0_pay1 x0 x1 (ix2 (half 0 r) d) := by
  unfold k0_pay2
  pointwise
  congr 2; exact Fin.ext (by show r.val = 0 * 128 + r.val; omega)

theorem pay3 (x0 : Vec Idealize.ShloMosaic.Ideal S2048x256 .bf16) (x1 : Vec Idealize.ShloMosaic.Ideal S2048x1024 .f32) (r : Fin 128) (d : Fin 1024) :
    (k0_pay3 x0 x1 (ix5 0 0 0 r d) : EReal) = k0_pay1 x0 x1 (ix2 (half 1 r) d) := by
  unfold k0_pay3
  pointwise
  congr 2

theorem ix5_eta (y : S1x1x1x128x1024.Idx) : y = ix5 0 0 0 (⟨(y 3).val, (y 3).isLt⟩ : Fin 128) (⟨(y 4).val, (y 4).isLt⟩ : Fin 1024) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

theorem ix5_eta2 (y : S2x1x1x128x1024.Idx) : y = ix5 (⟨(y 0).val, (y 0).isLt⟩ : Fin 2) 0 0 (⟨(y 3).val, (y 3).isLt⟩ : Fin 128) (⟨(y 4).val, (y 4).isLt⟩ : Fin 1024) := by
  funext a
  match a with
  | ⟨0, _⟩ => rfl
  | ⟨1, _⟩ => exact Subsingleton.elim (α := Fin 1) _ _
  | ⟨2, _⟩ => exact Subsingleton.elim (α := Fin 1) _ _
  | ⟨3, _⟩ => rfl
  | ⟨4, _⟩ => rfl

theorem ix5_eta3 (y : S2x4x1x128x1024.Idx) : y = ix5 (⟨(y 0).val, (y 0).isLt⟩ : Fin 2) (⟨(y 1).val, (y 1).isLt⟩ : Fin 4) 0 (⟨(y 3).val, (y 3).isLt⟩ : Fin 128) (⟨(y 4).val, (y 4).isLt⟩ : Fin 1024) := by
  funext a
  match a with
  | ⟨0, _⟩ => rfl
  | ⟨1, _⟩ => rfl
  | ⟨2, _⟩ => exact Subsingleton.elim (α := Fin 1) _ _
  | ⟨3, _⟩ => rfl
  | ⟨4, _⟩ => rfl

/-- A point's two stores: the product's two halves. -/
theorem out_eq (c : Dev nD) (i : grid0.Coords) (arg3 : Memref sig .tc .vmem S2048x256 .bf16) (harg3 : arg3.IsWhole) (arg4 : Memref sig .tc .vmem S2048x1024 .f32) (harg4 : arg4.IsWhole)
    (arg6 : Memref sig .tc .vmem S2x1x1x128x1024 .bf16) (harg6 : arg6.IsWhole) (x0 : Vec Idealize.ShloMosaic.Ideal S2048x256 .bf16) (x1 : Vec Idealize.ShloMosaic.Ideal S2048x1024 .f32) (p : Fin 2) (r : Fin 128) (d : Fin 1024) :
    (out0_A_2 c i arg3 harg3 arg4 harg4 arg6 harg6 x0 x1 (ix5 p 0 0 r d) : EReal) = k0_pay1 x0 x1 (ix2 (half p r) d) := by
  unfold out0_A_2
  rw [View.read_writes_eq_canon _ _ _ (cover0_A_2 c i arg3 harg3 arg4 harg4 arg6 harg6 x0 x1)]
  refine View.canon_apply_of_pieces (fun y : S2x1x1x128x1024.Idx => k0_pay1 x0 x1 (ix2 (half (y 0) (y 3)) (y 4))) _ ?_ _ (cover0_A_2 c i arg3 harg3 arg4 harg4 arg6 harg6 x0 x1 _)
  unfold kernelRun0_A
  dsimp only
  sl_unfold_words
  simp only [View.readAt_eq_ld, harg3.read_unread, harg4.read_unread]
  rw [View.ld_unit_zero (by funext a; match a with | ⟨0, _⟩ => rfl | ⟨1, _⟩ => rfl), View.ld_unit_zero (by funext a; match a with | ⟨0, _⟩ => rfl | ⟨1, _⟩ => rfl)]
  intro q hq
  rcases List.mem_cons.mp hq with rfl | hq
  · intro y
    obtain ⟨r, d, rfl⟩ : ∃ (r : Fin 128) (d : Fin 1024), y = ix5 0 0 0 r d := ⟨_, _, ix5_eta y⟩
    refine (pay3 x0 x1 r d).trans (congrArg (k0_pay1 x0 x1) ?_)
    funext a
    match a with
    | ⟨0, _⟩ => exact Fin.ext (by show 1 * 128 + r.val = (1 + 1 * 0) * 128 + (0 + 1 * r.val); omega)
    | ⟨1, _⟩ => exact Fin.ext (by show d.val = 0 + 1 * d.val; omega)
  rcases List.mem_cons.mp hq with rfl | hq
  · intro y
    obtain ⟨r, d, rfl⟩ : ∃ (r : Fin 128) (d : Fin 1024), y = ix5 0 0 0 r d := ⟨_, _, ix5_eta y⟩
    refine (pay2 x0 x1 r d).trans (congrArg (k0_pay1 x0 x1) ?_)
    funext a
    match a with
    | ⟨0, _⟩ => exact Fin.ext (by show 0 * 128 + r.val = (0 + 1 * 0) * 128 + (0 + 1 * r.val); omega)
    | ⟨1, _⟩ => exact Fin.ext (by show d.val = 0 + 1 * d.val; omega)
  exact absurd hq List.not_mem_nil

section
variable (m : (ℓ : Loc nD τ sig) → Buf (Elt Idealize.ShloMosaic.Ideal) ℓ) (c : Dev nD)

abbrev ain : S2048x1024.Idx → EReal := m ((c : Thread nD τ).loc main_arg0)
abbrev dy : S2048x1024.Idx → EReal := m ((c : Thread nD τ).loc main_arg1)

theorem blk0 (t : Fin cfg0.N) (s : Fin 2048) (f : Fin 256) : (iblk m c 0 t (ix2 s f) : EReal) = ain m c (ix2 s (colOf (pt t) f)) := by
  show ain m c ((win0_0.blk t).view.emb (ix2 s f)) = _
  generalize ain m c = W; blk_ext [(idx t).1]
theorem blk1 (t : Fin cfg0.N) (s : Fin 2048) (d : Fin 1024) : (iblk m c 1 t (ix2 s d) : EReal) = dy m c (ix2 s d) := by
  show dy m c ((win0_1.blk t).view.emb (ix2 s d)) = _
  generalize dy m c = W; blk_ext [(idx t).2.1]
theorem emb2 (t : Fin cfg0.N) (p : Fin 2) (r : Fin 128) (d : Fin 1024) : (win0_2.blk t).view.emb (ix5 p 0 0 r d) = (ix5 p (pt t) 0 r d : S2x4x1x128x1024.Idx) := by
  blk_ext [(idx t).2.2]

theorem covers2 : (cfg0.win 2).Covers := by decide +kernel

theorem arr2 : (dats m 0 c).arrAt 2 cfg0.N = prod (ain m c) (dy m c) := by
  refine (dats m 0 c).arrAt_eq_of_covers 2 _ covers2 fun t hf y => ?_
  blk_simp
  rw [after0_2]
  obtain ⟨p, r, d, rfl⟩ : ∃ (p : Fin 2) (r : Fin 128) (d : Fin 1024), y = ix5 p 0 0 r d := ⟨_, _, _, ix5_eta2 y⟩
  have e : (outsAt0 m c t (ix5 p 0 0 r d) : EReal) = prod (ain m c) (dy m c) (ix5 p (pt t) 0 r d) := by
    unfold outsAt0
    rw [out_eq, pay1]
    simp only [blk0, blk1]
    rfl
  exact e.trans (congrArg _ (emb2 t p r d).symm)

end

theorem ref (x0 : (⟨S2048x1024, .bf16⟩ : BufTy).Contents (Elt Idealize.ShloMosaic.Ideal)) (x1 : (⟨S2048x1024, .f32⟩ : BufTy).Contents (Elt Idealize.ShloMosaic.Ideal)) :
    Cert.DwsqORefIdeal.Read.val_main_v7 (F := Idealize.ShloMosaic.Ideal) x0 x1 = prod x0 x1 := by
  funext y
  obtain ⟨p, q, r, d, rfl⟩ : ∃ (p : Fin 2) (q : Fin 4) (r : Fin 128) (d : Fin 1024), y = ix5 p q 0 r d := ⟨_, _, _, _, ix5_eta3 y⟩
  unfold Cert.DwsqORefIdeal.Read.val_main_v7 Cert.DwsqORefIdeal.Read.val_main_v6 Cert.DwsqORefIdeal.Read.val_main_v5 Cert.DwsqORefIdeal.Read.val_main_v4 Cert.DwsqORefIdeal.Read.val_main_v3 Cert.DwsqORefIdeal.Read.val_main_v0
  pointwise
  show _ = ∑ s : Fin 2048, x0 (ix2 s (colOf q (half p r))) * x1 (ix2 s d)
  refine Finset.sum_congr rfl fun s _ => ?_
  rw [mul_comm]
  refine congrArg (fun k => (x0 k : EReal) * x1 (ix2 s d)) ?_
  funext a
  match a with
  | ⟨0, _⟩ => rfl
  | ⟨1, _⟩ => exact Fin.ext (by show q.val * 256 + p.val * 128 + r.val = q.val * 256 + (p.val * 128 + r.val); omega)

theorem value : Cert.algebraic_DwsqOIdeal_DwsqORefIdeal (hDwsqOIdeal := Cert.DwsqOIdeal.Gen.facts) (hDwsqORefIdeal := Cert.DwsqORefIdeal.Gen.facts) := by
  intro m g m' g' _ hagree
  refine ⟨fun c => _, Cert.DwsqOIdeal.Value.run_blocks m g, ?_⟩
  refine (θ_run (Cert.DwsqORefIdeal.defs (F := Idealize.ShloMosaic.Ideal)) _ _).mono (fun r h c => ?_) (Cert.DwsqORefIdeal.Value.run (F := Idealize.ShloMosaic.Ideal) m' g')
  obtain ⟨g0, g1, g2⟩ := hagree c
  refine ⟨(h c).1.trans ((Cert.DwsqORefIdeal.Read.val_main_v7_eq (F := Idealize.ShloMosaic.Ideal) _ _).trans ((ref _ _).trans ?_)), (h c).2⟩
  exact (congrArg₂ prod g0 g1).trans (arr2 m c).symm

end Cert.Bwd.DwsqO

end
-- ==== Proof.Bwd.DwsqM.lean ====
module

public import proofs.«01_k».proof.Defs
public import proofs.«01_k».proof.Proof.Gen.DwsqMIdeal
public import proofs.«01_k».proof.Proof.Gen.DwsqMIdeal.Value
public import proofs.«01_k».proof.Proof.Gen.DwsqMRefIdeal
public import proofs.«01_k».proof.Proof.Gen.DwsqMRefIdeal.Run
public import proofs.«01_k».proof.Proof.Gen.DwsqMRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.DwsqM

open Cert.DwsqMIdeal Cert.DwsqMIdeal.Gen Idealize.ShloMosaic Idealize.ShloMosaic.TcCoe Idealize.ShloMosaic.Tactic Idealize.SL.Sem

/-! # The gradient of a weight whose rows are split into the devices' blocks, the even ones first -/

/-- Column `f` of block `q`. -/
abbrev colOf (q : Fin 4) (f : Fin 256) : Fin 1024 := ⟨q.val * 256 + f.val, by omega⟩

/-- The index maps: a block of columns, the whole output's gradient, and the place of the two blocks of rows. -/
theorem idx : ∀ t : Fin cfg0.N, win0_0.index t = ![0, t.val] ∧ win0_1.index t = ![0, 0] ∧ win0_2.index t = ![0, t.val, 0, 0, 0] :=
  (by decide +kernel : ∀ t : Fin grid0.N, _)

abbrev pt (t : Fin cfg0.N) : Fin 4 := ⟨t.val, by have := t.isLt; have e : cfg0.N = 4 := N_0; omega⟩
/-- Row `r` of half `p`. -/
abbrev half (p : Fin 2) (r : Fin 128) : Fin 256 := ⟨p.val * 128 + r.val, by omega⟩

/-- The gradient, from the whole arrays: rows `128 * p` and after of block `q` at `p`, `q`. -/
def prod (a : S2048x1024.Idx → EReal) (dy : S2048x1024.Idx → EReal) : S2x4x1x128x1024.Idx → EReal :=
  fun y => ∑ s : Fin 2048, a (ix2 s (colOf ((y 1)) (half (y 0) (y 3)))) * dy (ix2 s (y 4))

/-- One point's product. -/
theorem pay1 (x0 : Vec Idealize.ShloMosaic.Ideal S2048x256 .bf16) (x1 : Vec Idealize.ShloMosaic.Ideal S2048x1024 .bf16) (f : Fin 256) (d : Fin 1024) :
    (k0_pay1 x0 x1 (ix2 f d) : EReal) = ∑ s : Fin 2048, x0 (ix2 s f) * x1 (ix2 s d) := by
  unfold k0_pay1
  pointwise

theorem pay2 (x0 : Vec Idealize.ShloMosaic.Ideal S2048x256 .bf16) (x1 : Vec Idealize.ShloMosaic.Ideal S2048x1024 .bf16) (r : Fin 128) (d : Fin 1024) :
    (k0_pay2 x0 x1 (ix5 0 0 0 r d) : EReal) = k0_pay1 x0 x1 (ix2 (half 0 r) d) := by
  unfold k0_pay2
  pointwise
  congr 2; exact Fin.ext (by show r.val = 0 * 128 + r.val; omega)

theorem pay3 (x0 : Vec Idealize.ShloMosaic.Ideal S2048x256 .bf16) (x1 : Vec Idealize.ShloMosaic.Ideal S2048x1024 .bf16) (r : Fin 128) (d : Fin 1024) :
    (k0_pay3 x0 x1 (ix5 0 0 0 r d) : EReal) = k0_pay1 x0 x1 (ix2 (half 1 r) d) := by
  unfold k0_pay3
  pointwise
  congr 2

theorem ix5_eta (y : S1x1x1x128x1024.Idx) : y = ix5 0 0 0 (⟨(y 3).val, (y 3).isLt⟩ : Fin 128) (⟨(y 4).val, (y 4).isLt⟩ : Fin 1024) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

theorem ix5_eta2 (y : S2x1x1x128x1024.Idx) : y = ix5 (⟨(y 0).val, (y 0).isLt⟩ : Fin 2) 0 0 (⟨(y 3).val, (y 3).isLt⟩ : Fin 128) (⟨(y 4).val, (y 4).isLt⟩ : Fin 1024) := by
  funext a
  match a with
  | ⟨0, _⟩ => rfl
  | ⟨1, _⟩ => exact Subsingleton.elim (α := Fin 1) _ _
  | ⟨2, _⟩ => exact Subsingleton.elim (α := Fin 1) _ _
  | ⟨3, _⟩ => rfl
  | ⟨4, _⟩ => rfl

theorem ix5_eta3 (y : S2x4x1x128x1024.Idx) : y = ix5 (⟨(y 0).val, (y 0).isLt⟩ : Fin 2) (⟨(y 1).val, (y 1).isLt⟩ : Fin 4) 0 (⟨(y 3).val, (y 3).isLt⟩ : Fin 128) (⟨(y 4).val, (y 4).isLt⟩ : Fin 1024) := by
  funext a
  match a with
  | ⟨0, _⟩ => rfl
  | ⟨1, _⟩ => rfl
  | ⟨2, _⟩ => exact Subsingleton.elim (α := Fin 1) _ _
  | ⟨3, _⟩ => rfl
  | ⟨4, _⟩ => rfl

/-- A point's two stores: the product's two halves. -/
theorem out_eq (c : Dev nD) (i : grid0.Coords) (arg3 : Memref sig .tc .vmem S2048x256 .bf16) (harg3 : arg3.IsWhole) (arg4 : Memref sig .tc .vmem S2048x1024 .bf16) (harg4 : arg4.IsWhole)
    (arg6 : Memref sig .tc .vmem S2x1x1x128x1024 .bf16) (harg6 : arg6.IsWhole) (x0 : Vec Idealize.ShloMosaic.Ideal S2048x256 .bf16) (x1 : Vec Idealize.ShloMosaic.Ideal S2048x1024 .bf16) (p : Fin 2) (r : Fin 128) (d : Fin 1024) :
    (out0_A_2 c i arg3 harg3 arg4 harg4 arg6 harg6 x0 x1 (ix5 p 0 0 r d) : EReal) = k0_pay1 x0 x1 (ix2 (half p r) d) := by
  unfold out0_A_2
  rw [View.read_writes_eq_canon _ _ _ (cover0_A_2 c i arg3 harg3 arg4 harg4 arg6 harg6 x0 x1)]
  refine View.canon_apply_of_pieces (fun y : S2x1x1x128x1024.Idx => k0_pay1 x0 x1 (ix2 (half (y 0) (y 3)) (y 4))) _ ?_ _ (cover0_A_2 c i arg3 harg3 arg4 harg4 arg6 harg6 x0 x1 _)
  unfold kernelRun0_A
  dsimp only
  sl_unfold_words
  simp only [View.readAt_eq_ld, harg3.read_unread, harg4.read_unread]
  rw [View.ld_unit_zero (by funext a; match a with | ⟨0, _⟩ => rfl | ⟨1, _⟩ => rfl), View.ld_unit_zero (by funext a; match a with | ⟨0, _⟩ => rfl | ⟨1, _⟩ => rfl)]
  intro q hq
  rcases List.mem_cons.mp hq with rfl | hq
  · intro y
    obtain ⟨r, d, rfl⟩ : ∃ (r : Fin 128) (d : Fin 1024), y = ix5 0 0 0 r d := ⟨_, _, ix5_eta y⟩
    refine (pay3 x0 x1 r d).trans (congrArg (k0_pay1 x0 x1) ?_)
    funext a
    match a with
    | ⟨0, _⟩ => exact Fin.ext (by show 1 * 128 + r.val = (1 + 1 * 0) * 128 + (0 + 1 * r.val); omega)
    | ⟨1, _⟩ => exact Fin.ext (by show d.val = 0 + 1 * d.val; omega)
  rcases List.mem_cons.mp hq with rfl | hq
  · intro y
    obtain ⟨r, d, rfl⟩ : ∃ (r : Fin 128) (d : Fin 1024), y = ix5 0 0 0 r d := ⟨_, _, ix5_eta y⟩
    refine (pay2 x0 x1 r d).trans (congrArg (k0_pay1 x0 x1) ?_)
    funext a
    match a with
    | ⟨0, _⟩ => exact Fin.ext (by show 0 * 128 + r.val = (0 + 1 * 0) * 128 + (0 + 1 * r.val); omega)
    | ⟨1, _⟩ => exact Fin.ext (by show d.val = 0 + 1 * d.val; omega)
  exact absurd hq List.not_mem_nil

section
variable (m : (ℓ : Loc nD τ sig) → Buf (Elt Idealize.ShloMosaic.Ideal) ℓ) (c : Dev nD)

abbrev ain : S2048x1024.Idx → EReal := m ((c : Thread nD τ).loc main_arg0)
abbrev dy : S2048x1024.Idx → EReal := m ((c : Thread nD τ).loc main_arg1)

theorem blk0 (t : Fin cfg0.N) (s : Fin 2048) (f : Fin 256) : (iblk m c 0 t (ix2 s f) : EReal) = ain m c (ix2 s (colOf (pt t) f)) := by
  show ain m c ((win0_0.blk t).view.emb (ix2 s f)) = _
  generalize ain m c = W; blk_ext [(idx t).1]
theorem blk1 (t : Fin cfg0.N) (s : Fin 2048) (d : Fin 1024) : (iblk m c 1 t (ix2 s d) : EReal) = dy m c (ix2 s d) := by
  show dy m c ((win0_1.blk t).view.emb (ix2 s d)) = _
  generalize dy m c = W; blk_ext [(idx t).2.1]
theorem emb2 (t : Fin cfg0.N) (p : Fin 2) (r : Fin 128) (d : Fin 1024) : (win0_2.blk t).view.emb (ix5 p 0 0 r d) = (ix5 p (pt t) 0 r d : S2x4x1x128x1024.Idx) := by
  blk_ext [(idx t).2.2]

theorem covers2 : (cfg0.win 2).Covers := by decide +kernel

theorem arr2 : (dats m 0 c).arrAt 2 cfg0.N = prod (ain m c) (dy m c) := by
  refine (dats m 0 c).arrAt_eq_of_covers 2 _ covers2 fun t hf y => ?_
  blk_simp
  rw [after0_2]
  obtain ⟨p, r, d, rfl⟩ : ∃ (p : Fin 2) (r : Fin 128) (d : Fin 1024), y = ix5 p 0 0 r d := ⟨_, _, _, ix5_eta2 y⟩
  have e : (outsAt0 m c t (ix5 p 0 0 r d) : EReal) = prod (ain m c) (dy m c) (ix5 p (pt t) 0 r d) := by
    unfold outsAt0
    rw [out_eq, pay1]
    simp only [blk0, blk1]
    rfl
  exact e.trans (congrArg _ (emb2 t p r d).symm)

end

theorem ref (x0 : (⟨S2048x1024, .bf16⟩ : BufTy).Contents (Elt Idealize.ShloMosaic.Ideal)) (x1 : (⟨S2048x1024, .bf16⟩ : BufTy).Contents (Elt Idealize.ShloMosaic.Ideal)) :
    Cert.DwsqMRefIdeal.Read.val_main_v8 (F := Idealize.ShloMosaic.Ideal) x0 x1 = prod x0 x1 := by
  funext y
  obtain ⟨p, q, r, d, rfl⟩ : ∃ (p : Fin 2) (q : Fin 4) (r : Fin 128) (d : Fin 1024), y = ix5 p q 0 r d := ⟨_, _, _, _, ix5_eta3 y⟩
  unfold Cert.DwsqMRefIdeal.Read.val_main_v8 Cert.DwsqMRefIdeal.Read.val_main_v7 Cert.DwsqMRefIdeal.Read.val_main_v6 Cert.DwsqMRefIdeal.Read.val_main_v5 Cert.DwsqMRefIdeal.Read.val_main_v4 Cert.DwsqMRefIdeal.Read.val_main_v3 Cert.DwsqMRefIdeal.Read.val_main_v0
  pointwise
  show _ = ∑ s : Fin 2048, x0 (ix2 s (colOf q (half p r))) * x1 (ix2 s d)
  refine Finset.sum_congr rfl fun s _ => ?_
  rw [mul_comm]
  refine congrArg (fun k => (x0 k : EReal) * x1 (ix2 s d)) ?_
  funext a
  match a with
  | ⟨0, _⟩ => rfl
  | ⟨1, _⟩ => exact Fin.ext (by show q.val * 256 + p.val * 128 + r.val = q.val * 256 + (p.val * 128 + r.val); omega)

theorem value : Cert.algebraic_DwsqMIdeal_DwsqMRefIdeal (hDwsqMIdeal := Cert.DwsqMIdeal.Gen.facts) (hDwsqMRefIdeal := Cert.DwsqMRefIdeal.Gen.facts) := by
  intro m g m' g' _ hagree
  refine ⟨fun c => _, Cert.DwsqMIdeal.Value.run_blocks m g, ?_⟩
  refine (θ_run (Cert.DwsqMRefIdeal.defs (F := Idealize.ShloMosaic.Ideal)) _ _).mono (fun r h c => ?_) (Cert.DwsqMRefIdeal.Value.run (F := Idealize.ShloMosaic.Ideal) m' g')
  obtain ⟨g0, g1, g2⟩ := hagree c
  refine ⟨(h c).1.trans ((Cert.DwsqMRefIdeal.Read.val_main_v8_eq (F := Idealize.ShloMosaic.Ideal) _ _).trans ((ref _ _).trans ?_)), (h c).2⟩
  exact (congrArg₂ prod g0 g1).trans (arr2 m c).symm

end Cert.Bwd.DwsqM

end
-- ==== Proof.Bwd.DwsqA.lean ====
module

public import proofs.«01_k».proof.Defs
public import proofs.«01_k».proof.Proof.Gen.DwsqAIdeal
public import proofs.«01_k».proof.Proof.Gen.DwsqAIdeal.Value
public import proofs.«01_k».proof.Proof.Gen.DwsqARefIdeal
public import proofs.«01_k».proof.Proof.Gen.DwsqARefIdeal.Run
public import proofs.«01_k».proof.Proof.Gen.DwsqARefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.DwsqA

open Cert.DwsqAIdeal Cert.DwsqAIdeal.Gen Idealize.ShloMosaic Idealize.ShloMosaic.TcCoe Idealize.ShloMosaic.Tactic Idealize.SL.Sem

/-! # The gradient of a weight whose rows are split into the devices' blocks, the even ones first -/

/-- Column `f` of block `q`. -/
abbrev colOf (q : Fin 4) (f : Fin 256) : Fin 1024 := ⟨q.val * 256 + f.val, by omega⟩

/-- The index maps: a block of columns, the whole output's gradient, and the place of the two blocks of rows. -/
theorem idx : ∀ t : Fin cfg0.N, win0_0.index t = ![0, t.val] ∧ win0_1.index t = ![0, 0] ∧ win0_2.index t = ![0, t.val, 0, 0, 0] :=
  (by decide +kernel : ∀ t : Fin grid0.N, _)

abbrev pt (t : Fin cfg0.N) : Fin 4 := ⟨t.val, by have := t.isLt; have e : cfg0.N = 4 := N_0; omega⟩
/-- Row `r` of half `p`. -/
abbrev half (p : Fin 2) (r : Fin 128) : Fin 256 := ⟨p.val * 128 + r.val, by omega⟩

/-- The gradient, from the whole arrays: rows `128 * p` and after of block `q` at `p`, `q`. -/
def prod (a : S2048x1024.Idx → EReal) (dy : S2048x1024.Idx → EReal) : S2x4x1x128x1024.Idx → EReal :=
  fun y => ∑ s : Fin 2048, a (ix2 s (colOf ((y 1)) (half (y 0) (y 3)))) * dy (ix2 s (y 4))

/-- One point's product. -/
theorem pay1 (x0 : Vec Idealize.ShloMosaic.Ideal S2048x256 .f32) (x1 : Vec Idealize.ShloMosaic.Ideal S2048x1024 .bf16) (f : Fin 256) (d : Fin 1024) :
    (k0_pay1 x0 x1 (ix2 f d) : EReal) = ∑ s : Fin 2048, x0 (ix2 s f) * x1 (ix2 s d) := by
  unfold k0_pay1
  pointwise

theorem pay2 (x0 : Vec Idealize.ShloMosaic.Ideal S2048x256 .f32) (x1 : Vec Idealize.ShloMosaic.Ideal S2048x1024 .bf16) (r : Fin 128) (d : Fin 1024) :
    (k0_pay2 x0 x1 (ix5 0 0 0 r d) : EReal) = k0_pay1 x0 x1 (ix2 (half 0 r) d) := by
  unfold k0_pay2
  pointwise
  congr 2; exact Fin.ext (by show r.val = 0 * 128 + r.val; omega)

theorem pay3 (x0 : Vec Idealize.ShloMosaic.Ideal S2048x256 .f32) (x1 : Vec Idealize.ShloMosaic.Ideal S2048x1024 .bf16) (r : Fin 128) (d : Fin 1024) :
    (k0_pay3 x0 x1 (ix5 0 0 0 r d) : EReal) = k0_pay1 x0 x1 (ix2 (half 1 r) d) := by
  unfold k0_pay3
  pointwise
  congr 2

theorem ix5_eta (y : S1x1x1x128x1024.Idx) : y = ix5 0 0 0 (⟨(y 3).val, (y 3).isLt⟩ : Fin 128) (⟨(y 4).val, (y 4).isLt⟩ : Fin 1024) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl
  | ⟨4, _⟩ => rfl

theorem ix5_eta2 (y : S2x1x1x128x1024.Idx) : y = ix5 (⟨(y 0).val, (y 0).isLt⟩ : Fin 2) 0 0 (⟨(y 3).val, (y 3).isLt⟩ : Fin 128) (⟨(y 4).val, (y 4).isLt⟩ : Fin 1024) := by
  funext a
  match a with
  | ⟨0, _⟩ => rfl
  | ⟨1, _⟩ => exact Subsingleton.elim (α := Fin 1) _ _
  | ⟨2, _⟩ => exact Subsingleton.elim (α := Fin 1) _ _
  | ⟨3, _⟩ => rfl
  | ⟨4, _⟩ => rfl

theorem ix5_eta3 (y : S2x4x1x128x1024.Idx) : y = ix5 (⟨(y 0).val, (y 0).isLt⟩ : Fin 2) (⟨(y 1).val, (y 1).isLt⟩ : Fin 4) 0 (⟨(y 3).val, (y 3).isLt⟩ : Fin 128) (⟨(y 4).val, (y 4).isLt⟩ : Fin 1024) := by
  funext a
  match a with
  | ⟨0, _⟩ => rfl
  | ⟨1, _⟩ => rfl
  | ⟨2, _⟩ => exact Subsingleton.elim (α := Fin 1) _ _
  | ⟨3, _⟩ => rfl
  | ⟨4, _⟩ => rfl

/-- A point's two stores: the product's two halves. -/
theorem out_eq (c : Dev nD) (i : grid0.Coords) (arg3 : Memref sig .tc .vmem S2048x256 .f32) (harg3 : arg3.IsWhole) (arg4 : Memref sig .tc .vmem S2048x1024 .bf16) (harg4 : arg4.IsWhole)
    (arg6 : Memref sig .tc .vmem S2x1x1x128x1024 .bf16) (harg6 : arg6.IsWhole) (x0 : Vec Idealize.ShloMosaic.Ideal S2048x256 .f32) (x1 : Vec Idealize.ShloMosaic.Ideal S2048x1024 .bf16) (p : Fin 2) (r : Fin 128) (d : Fin 1024) :
    (out0_A_2 c i arg3 harg3 arg4 harg4 arg6 harg6 x0 x1 (ix5 p 0 0 r d) : EReal) = k0_pay1 x0 x1 (ix2 (half p r) d) := by
  unfold out0_A_2
  rw [View.read_writes_eq_canon _ _ _ (cover0_A_2 c i arg3 harg3 arg4 harg4 arg6 harg6 x0 x1)]
  refine View.canon_apply_of_pieces (fun y : S2x1x1x128x1024.Idx => k0_pay1 x0 x1 (ix2 (half (y 0) (y 3)) (y 4))) _ ?_ _ (cover0_A_2 c i arg3 harg3 arg4 harg4 arg6 harg6 x0 x1 _)
  unfold kernelRun0_A
  dsimp only
  sl_unfold_words
  simp only [View.readAt_eq_ld, harg3.read_unread, harg4.read_unread]
  rw [View.ld_unit_zero (by funext a; match a with | ⟨0, _⟩ => rfl | ⟨1, _⟩ => rfl), View.ld_unit_zero (by funext a; match a with | ⟨0, _⟩ => rfl | ⟨1, _⟩ => rfl)]
  intro q hq
  rcases List.mem_cons.mp hq with rfl | hq
  · intro y
    obtain ⟨r, d, rfl⟩ : ∃ (r : Fin 128) (d : Fin 1024), y = ix5 0 0 0 r d := ⟨_, _, ix5_eta y⟩
    refine (pay3 x0 x1 r d).trans (congrArg (k0_pay1 x0 x1) ?_)
    funext a
    match a with
    | ⟨0, _⟩ => exact Fin.ext (by show 1 * 128 + r.val = (1 + 1 * 0) * 128 + (0 + 1 * r.val); omega)
    | ⟨1, _⟩ => exact Fin.ext (by show d.val = 0 + 1 * d.val; omega)
  rcases List.mem_cons.mp hq with rfl | hq
  · intro y
    obtain ⟨r, d, rfl⟩ : ∃ (r : Fin 128) (d : Fin 1024), y = ix5 0 0 0 r d := ⟨_, _, ix5_eta y⟩
    refine (pay2 x0 x1 r d).trans (congrArg (k0_pay1 x0 x1) ?_)
    funext a
    match a with
    | ⟨0, _⟩ => exact Fin.ext (by show 0 * 128 + r.val = (0 + 1 * 0) * 128 + (0 + 1 * r.val); omega)
    | ⟨1, _⟩ => exact Fin.ext (by show d.val = 0 + 1 * d.val; omega)
  exact absurd hq List.not_mem_nil

section
variable (m : (ℓ : Loc nD τ sig) → Buf (Elt Idealize.ShloMosaic.Ideal) ℓ) (c : Dev nD)

abbrev ain : S2048x1024.Idx → EReal := m ((c : Thread nD τ).loc main_arg0)
abbrev dy : S2048x1024.Idx → EReal := m ((c : Thread nD τ).loc main_arg1)

theorem blk0 (t : Fin cfg0.N) (s : Fin 2048) (f : Fin 256) : (iblk m c 0 t (ix2 s f) : EReal) = ain m c (ix2 s (colOf (pt t) f)) := by
  show ain m c ((win0_0.blk t).view.emb (ix2 s f)) = _
  generalize ain m c = W; blk_ext [(idx t).1]
theorem blk1 (t : Fin cfg0.N) (s : Fin 2048) (d : Fin 1024) : (iblk m c 1 t (ix2 s d) : EReal) = dy m c (ix2 s d) := by
  show dy m c ((win0_1.blk t).view.emb (ix2 s d)) = _
  generalize dy m c = W; blk_ext [(idx t).2.1]
theorem emb2 (t : Fin cfg0.N) (p : Fin 2) (r : Fin 128) (d : Fin 1024) : (win0_2.blk t).view.emb (ix5 p 0 0 r d) = (ix5 p (pt t) 0 r d : S2x4x1x128x1024.Idx) := by
  blk_ext [(idx t).2.2]

theorem covers2 : (cfg0.win 2).Covers := by decide +kernel

theorem arr2 : (dats m 0 c).arrAt 2 cfg0.N = prod (ain m c) (dy m c) := by
  refine (dats m 0 c).arrAt_eq_of_covers 2 _ covers2 fun t hf y => ?_
  blk_simp
  rw [after0_2]
  obtain ⟨p, r, d, rfl⟩ : ∃ (p : Fin 2) (r : Fin 128) (d : Fin 1024), y = ix5 p 0 0 r d := ⟨_, _, _, ix5_eta2 y⟩
  have e : (outsAt0 m c t (ix5 p 0 0 r d) : EReal) = prod (ain m c) (dy m c) (ix5 p (pt t) 0 r d) := by
    unfold outsAt0
    rw [out_eq, pay1]
    simp only [blk0, blk1]
    rfl
  exact e.trans (congrArg _ (emb2 t p r d).symm)

end

theorem ref (x0 : (⟨S2048x1024, .f32⟩ : BufTy).Contents (Elt Idealize.ShloMosaic.Ideal)) (x1 : (⟨S2048x1024, .bf16⟩ : BufTy).Contents (Elt Idealize.ShloMosaic.Ideal)) :
    Cert.DwsqARefIdeal.Read.val_main_v7 (F := Idealize.ShloMosaic.Ideal) x0 x1 = prod x0 x1 := by
  funext y
  obtain ⟨p, q, r, d, rfl⟩ : ∃ (p : Fin 2) (q : Fin 4) (r : Fin 128) (d : Fin 1024), y = ix5 p q 0 r d := ⟨_, _, _, _, ix5_eta3 y⟩
  unfold Cert.DwsqARefIdeal.Read.val_main_v7 Cert.DwsqARefIdeal.Read.val_main_v6 Cert.DwsqARefIdeal.Read.val_main_v5 Cert.DwsqARefIdeal.Read.val_main_v4 Cert.DwsqARefIdeal.Read.val_main_v3 Cert.DwsqARefIdeal.Read.val_main_v2
  pointwise
  show _ = ∑ s : Fin 2048, x0 (ix2 s (colOf q (half p r))) * x1 (ix2 s d)
  refine Finset.sum_congr rfl fun s _ => ?_
  rw [mul_comm]
  refine congrArg (fun k => (x0 k : EReal) * x1 (ix2 s d)) ?_
  funext a
  match a with
  | ⟨0, _⟩ => rfl
  | ⟨1, _⟩ => exact Fin.ext (by show q.val * 256 + p.val * 128 + r.val = q.val * 256 + (p.val * 128 + r.val); omega)

theorem value : Cert.algebraic_DwsqAIdeal_DwsqARefIdeal (hDwsqAIdeal := Cert.DwsqAIdeal.Gen.facts) (hDwsqARefIdeal := Cert.DwsqARefIdeal.Gen.facts) := by
  intro m g m' g' _ hagree
  refine ⟨fun c => _, Cert.DwsqAIdeal.Value.run_blocks m g, ?_⟩
  refine (θ_run (Cert.DwsqARefIdeal.defs (F := Idealize.ShloMosaic.Ideal)) _ _).mono (fun r h c => ?_) (Cert.DwsqARefIdeal.Value.run (F := Idealize.ShloMosaic.Ideal) m' g')
  obtain ⟨g0, g1, g2⟩ := hagree c
  refine ⟨(h c).1.trans ((Cert.DwsqARefIdeal.Read.val_main_v7_eq (F := Idealize.ShloMosaic.Ideal) _ _).trans ((ref _ _).trans ?_)), (h c).2⟩
  exact (congrArg₂ prod g0 g1).trans (arr2 m c).symm

end Cert.Bwd.DwsqA

end
-- ==== Proof.Bwd.Dmerge.lean ====
module

public import proofs.«01_k».proof.Defs
public import proofs.«01_k».proof.Proof.Gen.DmergeIdeal
public import proofs.«01_k».proof.Proof.Gen.DmergeIdeal.Value
public import proofs.«01_k».proof.Proof.Gen.DmergeRefIdeal
public import proofs.«01_k».proof.Proof.Gen.DmergeRefIdeal.Run
public import proofs.«01_k».proof.Proof.Gen.DmergeRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.Dmerge

open Cert.DmergeIdeal Cert.DmergeIdeal.Gen Idealize.ShloMosaic Idealize.ShloMosaic.TcCoe Idealize.ShloMosaic.Tactic Idealize.SL.Sem

/-! # The gradients through the gated sum of the three mixers -/

/-- The logistic function. -/
def lgs (g : EReal) : EReal := Ideal.div 1 (1 + Ideal.exp (-g))

/-- A sum's gradient through a gated value, with respect to the gate's argument. -/
def dl (g y z : EReal) : EReal := g * y * lgs z * (1 - lgs z)

/-- The gate and the column of a column of the joined gates. -/
abbrev hi (q : Fin 3072) : Fin 3 := ⟨q.val / 1024, by omega⟩
abbrev lo (q : Fin 3072) : Fin 1024 := ⟨q.val % 1024, by omega⟩

/-- The index maps: a block of rows, and the three gates' blocks of columns. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 8] ∧ win0_5.index t = ![t.val, 9] ∧ win0_6.index t = ![t.val, 10] ∧ win0_7.index t = ![0, 0] ∧ win0_8.index t = ![t.val, 0] ∧ win0_9.index t = ![t.val, 0] ∧ win0_10.index t = ![t.val, 0] ∧ win0_11.index t = ![t.val, 0] ∧ win0_12.index t = ![0, 0] :=
  (by decide +kernel : ∀ t : Fin grid0.N, _)

abbrev row (t : Fin cfg0.N) (s : Fin 512) : Fin 2048 := ⟨t.val * 512 + s.val, by have := t.isLt; have e : cfg0.N = 4 := N_0; omega⟩
/-- Column `d` of gate `k` in the input product. -/
abbrev gcol (k : Fin 3) (d : Fin 1024) : Fin 11776 := ⟨8192 + (k.val * 1024 + d.val), by omega⟩

theorem ix2_eta (y : S512x1024.Idx) : y = ix2 (⟨(y 0).val, (y 0).isLt⟩ : Fin 512) (⟨(y 1).val, (y 1).isLt⟩ : Fin 1024) := by
  funext a; match a with | ⟨0, _⟩ => rfl | ⟨1, _⟩ => rfl
theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl
theorem ix2_eta3 (y : S3x1024.Idx) : y = ix2 (⟨(y 0).val, (y 0).isLt⟩ : Fin 3) (⟨(y 1).val, (y 1).isLt⟩ : Fin 1024) := by
  funext a; match a with | ⟨0, _⟩ => rfl | ⟨1, _⟩ => rfl
theorem ix2_etaz (y : S512x3072.Idx) : y = ix2 (⟨(y 0).val, (y 0).isLt⟩ : Fin 512) (⟨(y 1).val, (y 1).isLt⟩ : Fin 3072) := by
  funext a; match a with | ⟨0, _⟩ => rfl | ⟨1, _⟩ => rfl
theorem ix2_etaz' (y : S2048x3072.Idx) : y = ix2 (⟨(y 0).val, (y 0).isLt⟩ : Fin 2048) (⟨(y 1).val, (y 1).isLt⟩ : Fin 3072) := by
  funext a; match a with | ⟨0, _⟩ => rfl | ⟨1, _⟩ => rfl

/-- A gate's row of biases. -/
theorem bias0 (x7 : Vec Idealize.ShloMosaic.Ideal S3x1024 .f32) (h) (d : Fin 1024) : (View.ld x7 (Rect.unit ![0, 0] ![1, 1024] h) (ix2 0 d) : EReal) = x7 (ix2 0 d) := by
  refine congrArg x7 ?_
  funext a
  match a with
  | ⟨0, _⟩ => rfl
  | ⟨1, _⟩ => exact Fin.ext (by show 0 + 1 * d.val = d.val; omega)
theorem bias1 (x7 : Vec Idealize.ShloMosaic.Ideal S3x1024 .f32) (h) (d : Fin 1024) : (View.ld x7 (Rect.unit ![1, 0] ![1, 1024] h) (ix2 0 d) : EReal) = x7 (ix2 1 d) := by
  refine congrArg x7 ?_
  funext a
  match a with
  | ⟨0, _⟩ => rfl
  | ⟨1, _⟩ => exact Fin.ext (by show 0 + 1 * d.val = d.val; omega)
theorem bias2 (x7 : Vec Idealize.ShloMosaic.Ideal S3x1024 .f32) (h) (d : Fin 1024) : (View.ld x7 (Rect.unit ![2, 0] ![1, 1024] h) (ix2 0 d) : EReal) = x7 (ix2 2 d) := by
  refine congrArg x7 ?_
  funext a
  match a with
  | ⟨0, _⟩ => rfl
  | ⟨1, _⟩ => exact Fin.ext (by show 0 + 1 * d.val = d.val; omega)

theorem pay3 (v1 : Vec Idealize.ShloMosaic.Ideal S512x1024 .f32) (v2 : Vec Idealize.ShloMosaic.Ideal S1x1024 .f32) (s : Fin 512) (d : Fin 1024) :
    (k0_pay3 v1 v2 (ix2 s d) : EReal) = lgs (v1 (ix2 s d) + v2 (ix2 0 d)) := by
  unfold k0_pay3 lgs
  pointwise
  rw [sub_eq_add_neg, zero_add]
theorem pay9 (v1 : Vec Idealize.ShloMosaic.Ideal S512x1024 .f32) (v2 : Vec Idealize.ShloMosaic.Ideal S1x1024 .f32) (s : Fin 512) (d : Fin 1024) :
    (k0_pay9 (k0_pay8 v1 v2) (ix2 s d) : EReal) = lgs (v1 (ix2 s d) + v2 (ix2 0 d)) := by
  unfold k0_pay9 k0_pay8 lgs
  pointwise
  rw [sub_eq_add_neg, zero_add]
theorem pay14 (v1 : Vec Idealize.ShloMosaic.Ideal S512x1024 .f32) (v2 : Vec Idealize.ShloMosaic.Ideal S1x1024 .f32) (s : Fin 512) (d : Fin 1024) :
    (k0_pay14 v1 v2 (ix2 s d) : EReal) = lgs (v1 (ix2 s d) + v2 (ix2 0 d)) := by
  unfold k0_pay14 lgs
  pointwise
  rw [sub_eq_add_neg, zero_add]
theorem pay4 (v0 v1 : Vec Idealize.ShloMosaic.Ideal S512x1024 .f32) (v2 : Vec Idealize.ShloMosaic.Ideal S1x1024 .f32) (s : Fin 512) (d : Fin 1024) :
    (k0_pay4 v0 v1 v2 (ix2 s d) : EReal) = v0 (ix2 s d) * lgs (v1 (ix2 s d) + v2 (ix2 0 d)) := by
  unfold k0_pay4
  pointwise
  rw [pay3]
theorem pay10 (v0 v1 : Vec Idealize.ShloMosaic.Ideal S512x1024 .f32) (v2 : Vec Idealize.ShloMosaic.Ideal S1x1024 .f32) (s : Fin 512) (d : Fin 1024) :
    (k0_pay10 v0 (k0_pay8 v1 v2) (ix2 s d) : EReal) = v0 (ix2 s d) * lgs (v1 (ix2 s d) + v2 (ix2 0 d)) := by
  unfold k0_pay10
  pointwise
  rw [pay9]
theorem pay15 (v0 v1 : Vec Idealize.ShloMosaic.Ideal S512x1024 .f32) (v2 : Vec Idealize.ShloMosaic.Ideal S1x1024 .f32) (s : Fin 512) (d : Fin 1024) :
    (k0_pay15 v0 v1 v2 (ix2 s d) : EReal) = v0 (ix2 s d) * lgs (v1 (ix2 s d) + v2 (ix2 0 d)) := by
  unfold k0_pay15
  pointwise
  rw [pay14]
theorem pay5 (v0 v1 : Vec Idealize.ShloMosaic.Ideal S512x1024 .f32) (v2 : Vec Idealize.ShloMosaic.Ideal S1x1024 .f32) (y : Vec Idealize.ShloMosaic.Ideal S512x1024 .f32) (s : Fin 512) (d : Fin 1024) :
    (k0_pay5 v0 v1 v2 y (ix2 s d) : EReal) = dl (v0 (ix2 s d)) (y (ix2 s d)) (v1 (ix2 s d) + v2 (ix2 0 d)) := by
  unfold k0_pay5 dl
  pointwise
  rw [pay3]
theorem pay11 (v0 v1 : Vec Idealize.ShloMosaic.Ideal S512x1024 .f32) (v2 : Vec Idealize.ShloMosaic.Ideal S1x1024 .f32) (y : Vec Idealize.ShloMosaic.Ideal S512x1024 .f32) (s : Fin 512) (d : Fin 1024) :
    (k0_pay11 v0 (k0_pay8 v1 v2) y (ix2 s d) : EReal) = dl (v0 (ix2 s d)) (y (ix2 s d)) (v1 (ix2 s d) + v2 (ix2 0 d)) := by
  unfold k0_pay11 dl
  pointwise
  rw [pay9]
theorem pay16 (v0 v1 : Vec Idealize.ShloMosaic.Ideal S512x1024 .f32) (v2 : Vec Idealize.ShloMosaic.Ideal S1x1024 .f32) (y : Vec Idealize.ShloMosaic.Ideal S512x1024 .f32) (s : Fin 512) (d : Fin 1024) :
    (k0_pay16 v0 v1 v2 y (ix2 s d) : EReal) = dl (v0 (ix2 s d)) (y (ix2 s d)) (v1 (ix2 s d) + v2 (ix2 0 d)) := by
  unfold k0_pay16 dl
  pointwise
  rw [pay14]
theorem pay1 (a b : Vec Idealize.ShloMosaic.Ideal S1x1024 .f32) (r : Vec Idealize.ShloMosaic.Ideal S512x1024 .f32) (k : Fin 3) (d : Fin 1024) :
    (k0_pay1 (F := Idealize.ShloMosaic.Ideal) a b r (ix2 k d) : EReal) = (![a (ix2 0 d), b (ix2 0 d), ∑ s : Fin 512, r (ix2 s d)] : Fin 3 → EReal) k := by
  unfold k0_pay1
  fin_cases k
  · pointwise
  · pointwise
  · pointwise
theorem pay2 (a b : Vec Idealize.ShloMosaic.Ideal S1x1024 .f32) (r : Vec Idealize.ShloMosaic.Ideal S512x1024 .f32) (xo : Vec Idealize.ShloMosaic.Ideal S3x1024 .f32) (k : Fin 3) (d : Fin 1024) :
    (k0_pay2 (F := Idealize.ShloMosaic.Ideal) a b r xo (ix2 k d) : EReal) = xo (ix2 k d) + k0_pay1 (F := Idealize.ShloMosaic.Ideal) a b r (ix2 k d) := by
  unfold k0_pay2
  pointwise
theorem pay7 (v0 v1 : Vec Idealize.ShloMosaic.Ideal S512x1024 .f32) (v2 : Vec Idealize.ShloMosaic.Ideal S1x1024 .f32) (y : Vec Idealize.ShloMosaic.Ideal S512x1024 .f32) (d : Fin 1024) :
    (k0_pay7 v0 v1 v2 y (ix2 0 d) : EReal) = ∑ s : Fin 512, dl (v0 (ix2 s d)) (y (ix2 s d)) (v1 (ix2 s d) + v2 (ix2 0 d)) := by
  unfold k0_pay7
  pointwise
  exact Finset.sum_congr rfl fun s _ => pay5 v0 v1 v2 y s d
theorem pay13 (v0 v1 : Vec Idealize.ShloMosaic.Ideal S512x1024 .f32) (v2 : Vec Idealize.ShloMosaic.Ideal S1x1024 .f32) (y : Vec Idealize.ShloMosaic.Ideal S512x1024 .f32) (d : Fin 1024) :
    (k0_pay13 v0 (k0_pay8 v1 v2) y (ix2 0 d) : EReal) = ∑ s : Fin 512, dl (v0 (ix2 s d)) (y (ix2 s d)) (v1 (ix2 s d) + v2 (ix2 0 d)) := by
  unfold k0_pay13
  pointwise
  exact Finset.sum_congr rfl fun s _ => pay11 v0 v1 v2 y s d

/-- The gradient of a gate's argument in one block. -/
def dlb (x0 x1 x2 x3 x4 x5 x6 : S512x1024.Idx → EReal) (x7 : S3x1024.Idx → EReal) (k : Fin 3) (s : Fin 512) (d : Fin 1024) : EReal :=
  dl (x0 (ix2 s d)) ((![x1, x2, x3] : Fin 3 → S512x1024.Idx → EReal) k (ix2 s d)) ((![x4, x5, x6] : Fin 3 → S512x1024.Idx → EReal) k (ix2 s d) + x7 (ix2 k d))

theorem place (x0 x1 x2 x3 x4 x5 x6 : S512x1024.Idx → EReal) (x7 : S3x1024.Idx → EReal) (k : Fin 3) (s : Fin 512) (d : Fin 1024) (y : S512x3072.Idx) (h0 : (y 0).val = s.val) (h1 : (y 1).val = k.val * 1024 + d.val) :
    dlb x0 x1 x2 x3 x4 x5 x6 x7 (hi (y 1)) (y 0) (lo (y 1)) = dlb x0 x1 x2 x3 x4 x5 x6 x7 k s d := by
  have e0 : y 0 = s := Fin.ext h0
  have e1 : hi (y 1) = k := Fin.ext (by show (y 1).val / 1024 = k.val; omega)
  have e2 : lo (y 1) = d := Fin.ext (by show (y 1).val % 1024 = d.val; omega)
  rw [e0, e1, e2]

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S3x1024 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S512x3072 .bf16) (harg12 : arg12.IsWhole) (arg13 : Memref sig .tc .vmem S3x1024 .f32) (harg13 : arg13.IsWhole)
  (x0 x1 x2 x3 x4 x5 x6 : Vec Idealize.ShloMosaic.Ideal S512x1024 .f32) (x7 xo : Vec Idealize.ShloMosaic.Ideal S3x1024 .f32)

theorem out0_A_8_eq (hc0 : cond0_0 i) (hc1 : ¬cond0_1 i) (s : Fin 512) (d : Fin 1024) :
    (out0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 s d) : EReal) = x0 (ix2 s d) * lgs (x4 (ix2 s d) + x7 (ix2 0 d)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), pay4, bias0]

theorem out0_A_9_eq (hc0 : cond0_0 i) (hc1 : ¬cond0_1 i) (s : Fin 512) (d : Fin 1024) :
    (out0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 s d) : EReal) = x0 (ix2 s d) * lgs (x5 (ix2 s d) + x7 (ix2 1 d)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), pay10, bias1]

theorem out0_A_10_eq (hc0 : cond0_0 i) (hc1 : ¬cond0_1 i) (s : Fin 512) (d : Fin 1024) :
    (out0_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 s d) : EReal) = x0 (ix2 s d) * lgs (x6 (ix2 s d) + x7 (ix2 2 d)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), pay15, bias2]

theorem out0_A_11_eq (hc0 : cond0_0 i) (hc1 : ¬cond0_1 i) (s : Fin 512) (q : Fin 3072) :
    (out0_A_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 s q) : EReal) = dlb x0 x1 x2 x3 x4 x5 x6 x7 (hi q) s (lo q) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  refine View.canon_apply_of_pieces (Val := Elt Idealize.ShloMosaic.Ideal) (e := .bf16) (fun y : S512x3072.Idx => dlb x0 x1 x2 x3 x4 x5 x6 x7 (hi (y 1)) (y 0) (lo (y 1))) _ ?_ _ (cover0_A_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 _)
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread]
  intro q hq
  rcases List.mem_cons.mp hq with rfl | hq
  · intro y
    obtain ⟨s, d, rfl⟩ : ∃ (s : Fin 512) (d : Fin 1024), y = ix2 s d := ⟨_, _, ix2_eta y⟩
    refine Eq.trans (b := dlb x0 x1 x2 x3 x4 x5 x6 x7 2 s d) ?_ (place x0 x1 x2 x3 x4 x5 x6 x7 2 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
      refine (pay16 _ _ _ _ s d).trans ?_
      rw [bias2]
      rfl
    · show 0 + 1 * s.val = s.val; omega
    · show 2048 + 1 * d.val = 2 * 1024 + d.val; omega
  rcases List.mem_cons.mp hq with rfl | hq
  · intro y
    obtain ⟨s, d, rfl⟩ : ∃ (s : Fin 512) (d : Fin 1024), y = ix2 s d := ⟨_, _, ix2_eta y⟩
    refine Eq.trans (b := dlb x0 x1 x2 x3 x4 x5 x6 x7 1 s d) ?_ (place x0 x1 x2 x3 x4 x5 x6 x7 1 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
      refine (pay11 _ _ _ _ s d).trans ?_
      rw [bias1]
      rfl
    · show 0 + 1 * s.val = s.val; omega
    · show 1024 + 1 * d.val = 1 * 1024 + d.val; omega
  rcases List.mem_cons.mp hq with rfl | hq
  · intro y
    obtain ⟨s, d, rfl⟩ : ∃ (s : Fin 512) (d : Fin 1024), y = ix2 s d := ⟨_, _, ix2_eta y⟩
    refine Eq.trans (b := dlb x0 x1 x2 x3 x4 x5 x6 x7 0 s d) ?_ (place x0 x1 x2 x3 x4 x5 x6 x7 0 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
      refine (pay5 _ _ _ _ s d).trans ?_
      rw [bias0]
      rfl
    · show 0 + 1 * s.val = s.val; omega
    · show 0 + 1 * d.val = 0 * 1024 + d.val; omega
  exact absurd hq List.not_mem_nil

theorem out0_A_12_eq (hc0 : cond0_0 i) (hc1 : ¬cond0_1 i) (k : Fin 3) (d : Fin 1024) :
    (out0_A_12 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 (ix2 k d) : EReal) = ∑ s : Fin 512, dlb x0 x1 x2 x3 x4 x5 x6 x7 k s d := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg13.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
  rw [pay1]
  fin_cases k
  · refine (pay7 _ _ _ _ d).trans ?_
    rw [bias0]
    rfl
  · refine (pay13 _ _ _ _ d).trans ?_
    rw [bias1]
    rfl
  · show (∑ s : Fin 512, (k0_pay16 x0 x6 _ x3 (ix2 s d) : EReal)) = ∑ s : Fin 512, dlb x0 x1 x2 x3 x4 x5 x6 x7 2 s d
    refine Finset.sum_congr rfl fun s _ => ?_
    rw [pay16, bias2]
    rfl

theorem out0_B_8_eq (hc0 : ¬cond0_0 i) (hc1 : cond0_1 i) (s : Fin 512) (d : Fin 1024) :
    (out0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo (ix2 s d) : EReal) = x0 (ix2 s d) * lgs (x4 (ix2 s d) + x7 (ix2 0 d)) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), pay4, bias0]

theorem out0_B_9_eq (hc0 : ¬cond0_0 i) (hc1 : cond0_1 i) (s : Fin 512) (d : Fin 1024) :
    (out0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo (ix2 s d) : EReal) = x0 (ix2 s d) * lgs (x5 (ix2 s d) + x7 (ix2 1 d)) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), pay10, bias1]

theorem out0_B_10_eq (hc0 : ¬cond0_0 i) (hc1 : cond0_1 i) (s : Fin 512) (d : Fin 1024) :
    (out0_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo (ix2 s d) : EReal) = x0 (ix2 s d) * lgs (x6 (ix2 s d) + x7 (ix2 2 d)) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), pay15, bias2]

theorem out0_B_11_eq (hc0 : ¬cond0_0 i) (hc1 : cond0_1 i) (s : Fin 512) (q : Fin 3072) :
    (out0_B_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo (ix2 s q) : EReal) = dlb x0 x1 x2 x3 x4 x5 x6 x7 (hi q) s (lo q) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo)]
  refine View.canon_apply_of_pieces (Val := Elt Idealize.ShloMosaic.Ideal) (e := .bf16) (fun y : S512x3072.Idx => dlb x0 x1 x2 x3 x4 x5 x6 x7 (hi (y 1)) (y 0) (lo (y 1))) _ ?_ _ (cover0_B_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo _)
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread]
  intro q hq
  rcases List.mem_cons.mp hq with rfl | hq
  · intro y
    obtain ⟨s, d, rfl⟩ : ∃ (s : Fin 512) (d : Fin 1024), y = ix2 s d := ⟨_, _, ix2_eta y⟩
    refine Eq.trans (b := dlb x0 x1 x2 x3 x4 x5 x6 x7 2 s d) ?_ (place x0 x1 x2 x3 x4 x5 x6 x7 2 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
      refine (pay16 _ _ _ _ s d).trans ?_
      rw [bias2]
      rfl
    · show 0 + 1 * s.val = s.val; omega
    · show 2048 + 1 * d.val = 2 * 1024 + d.val; omega
  rcases List.mem_cons.mp hq with rfl | hq
  · intro y
    obtain ⟨s, d, rfl⟩ : ∃ (s : Fin 512) (d : Fin 1024), y = ix2 s d := ⟨_, _, ix2_eta y⟩
    refine Eq.trans (b := dlb x0 x1 x2 x3 x4 x5 x6 x7 1 s d) ?_ (place x0 x1 x2 x3 x4 x5 x6 x7 1 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
      refine (pay11 _ _ _ _ s d).trans ?_
      rw [bias1]
      rfl
    · show 0 + 1 * s.val = s.val; omega
    · show 1024 + 1 * d.val = 1 * 1024 + d.val; omega
  rcases List.mem_cons.mp hq with rfl | hq
  · intro y
    obtain ⟨s, d, rfl⟩ : ∃ (s : Fin 512) (d : Fin 1024), y = ix2 s d := ⟨_, _, ix2_eta y⟩
    refine Eq.trans (b := dlb x0 x1 x2 x3 x4 x5 x6 x7 0 s d) ?_ (place x0 x1 x2 x3 x4 x5 x6 x7 0 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
      refine (pay5 _ _ _ _ s d).trans ?_
      rw [bias0]
      rfl
    · show 0 + 1 * s.val = s.val; omega
    · show 0 + 1 * d.val = 0 * 1024 + d.val; omega
  exact absurd hq List.not_mem_nil

theorem out0_B_12_eq (hc0 : ¬cond0_0 i) (hc1 : cond0_1 i) (k : Fin 3) (d : Fin 1024) :
    (out0_B_12 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo (ix2 k d) : EReal) = xo (ix2 k d) + ∑ s : Fin 512, dlb x0 x1 x2 x3 x4 x5 x6 x7 k s d := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xo)]
  unfold kernelRun0_B
  dsimp only
  sl_unfold_words
  simp only [View.readAt_eq_ld, harg1.read_unread, harg2.read_unread, harg3.read_unread, harg4.read_unread, harg5.read_unread, harg6.read_unread, harg7.read_unread, harg8.read_unread, harg13.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
  rw [pay2]
  refine congrArg (fun q : EReal => xo (ix2 k d) + q) ?_
  rw [pay1]
  fin_cases k
  · refine (pay7 _ _ _ _ d).trans ?_
    rw [bias0]
    rfl
  · refine (pay13 _ _ _ _ d).trans ?_
    rw [bias1]
    rfl
  · show (∑ s : Fin 512, (k0_pay16 x0 x6 _ x3 (ix2 s d) : EReal)) = ∑ s : Fin 512, dlb x0 x1 x2 x3 x4 x5 x6 x7 2 s d
    refine Finset.sum_congr rfl fun s _ => ?_
    rw [pay16, bias2]
    rfl

end

/-- A gate's gradient with respect to its mixer's output, from the whole arrays. -/
def dy (g : S2048x1024.Idx → EReal) (z : S2048x11776.Idx → EReal) (b : S3x1024.Idx → EReal) (k : Fin 3) : S2048x1024.Idx → EReal :=
  fun y => g y * lgs (z (ix2 (y 0) (gcol k (y 1))) + b (ix2 k (y 1)))

/-- The gradient of gate `k`'s argument at a row and a column, from the whole arrays. -/
def dlw (g y0 y1 y2 : S2048x1024.Idx → EReal) (z : S2048x11776.Idx → EReal) (b : S3x1024.Idx → EReal) (k : Fin 3) (s : Fin 2048) (d : Fin 1024) : EReal :=
  dl (g (ix2 s d)) ((![y0, y1, y2] : Fin 3 → S2048x1024.Idx → EReal) k (ix2 s d)) (z (ix2 s (gcol k d)) + b (ix2 k d))

def dz (g y0 y1 y2 : S2048x1024.Idx → EReal) (z : S2048x11776.Idx → EReal) (b : S3x1024.Idx → EReal) : S2048x3072.Idx → EReal :=
  fun y => dlw g y0 y1 y2 z b (hi (y 1)) (y 0) (lo (y 1))

def db (g y0 y1 y2 : S2048x1024.Idx → EReal) (z : S2048x11776.Idx → EReal) (b : S3x1024.Idx → EReal) : S3x1024.Idx → EReal :=
  fun y => ∑ s : Fin 2048, dlw g y0 y1 y2 z b (y 0) s (y 1)

section
variable (m : (ℓ : Loc nD τ sig) → Buf (Elt Idealize.ShloMosaic.Ideal) ℓ) (c : Dev nD)

abbrev ag : S2048x1024.Idx → EReal := m ((c : Thread nD τ).loc main_arg0)
abbrev a0 : S2048x1024.Idx → EReal := m ((c : Thread nD τ).loc main_arg1)
abbrev a1 : S2048x1024.Idx → EReal := m ((c : Thread nD τ).loc main_arg2)
abbrev a2 : S2048x1024.Idx → EReal := m ((c : Thread nD τ).loc main_arg3)
abbrev az : S2048x11776.Idx → EReal := m ((c : Thread nD τ).loc main_arg4)
abbrev ab : S3x1024.Idx → EReal := m ((c : Thread nD τ).loc main_arg5)

theorem blk0 (t : Fin cfg0.N) (s : Fin 512) (d : Fin 1024) : (iblk m c 0 t (ix2 s d) : EReal) = ag m c (ix2 (row t s) d) := by
  show ag m c ((win0_0.blk t).view.emb (ix2 s d)) = _
  generalize ag m c = W; blk_ext [(idx t).1]
theorem blk1 (t : Fin cfg0.N) (s : Fin 512) (d : Fin 1024) : (iblk m c 1 t (ix2 s d) : EReal) = a0 m c (ix2 (row t s) d) := by
  show a0 m c ((win0_1.blk t).view.emb (ix2 s d)) = _
  generalize a0 m c = W; blk_ext [(idx t).2.1]
theorem blk2 (t : Fin cfg0.N) (s : Fin 512) (d : Fin 1024) : (iblk m c 2 t (ix2 s d) : EReal) = a1 m c (ix2 (row t s) d) := by
  show a1 m c ((win0_2.blk t).view.emb (ix2 s d)) = _
  generalize a1 m c = W; blk_ext [(idx t).2.2.1]
theorem blk3 (t : Fin cfg0.N) (s : Fin 512) (d : Fin 1024) : (iblk m c 3 t (ix2 s d) : EReal) = a2 m c (ix2 (row t s) d) := by
  show a2 m c ((win0_3.blk t).view.emb (ix2 s d)) = _
  generalize a2 m c = W; blk_ext [(idx t).2.2.2.1]
theorem blk4 (t : Fin cfg0.N) (s : Fin 512) (d : Fin 1024) : (X0_4 m c t (ix2 s d) : EReal) = az m c (ix2 (row t s) (gcol 0 d)) := by
  unfold X0_4 Pipeline.Window.fill
  refine (dif_pos (moved0_4 t _)).trans ?_
  show az m c ((win0_4.blk t).view.emb (fun a => ⟨(ix2 s d a : Fin _).val, _⟩)) = _
  generalize az m c = W; blk_ext [(idx t).2.2.2.2.1]
theorem blk5 (t : Fin cfg0.N) (s : Fin 512) (d : Fin 1024) : (X0_5 m c t (ix2 s d) : EReal) = az m c (ix2 (row t s) (gcol 1 d)) := by
  unfold X0_5 Pipeline.Window.fill
  refine (dif_pos (moved0_5 t _)).trans ?_
  show az m c ((win0_5.blk t).view.emb (fun a => ⟨(ix2 s d a : Fin _).val, _⟩)) = _
  generalize az m c = W; blk_ext [(idx t).2.2.2.2.2.1]
theorem blk6 (t : Fin cfg0.N) (s : Fin 512) (d : Fin 1024) : (X0_6 m c t (ix2 s d) : EReal) = az m c (ix2 (row t s) (gcol 2 d)) := by
  unfold X0_6 Pipeline.Window.fill
  refine (dif_pos (moved0_6 t _)).trans ?_
  show az m c ((win0_6.blk t).view.emb (fun a => ⟨(ix2 s d a : Fin _).val, _⟩)) = _
  generalize az m c = W; blk_ext [(idx t).2.2.2.2.2.2.1]
theorem blk7 (t : Fin cfg0.N) (k : Fin 3) (d : Fin 1024) : (iblk m c 7 t (ix2 k d) : EReal) = ab m c (ix2 k d) := by
  show ab m c ((win0_7.blk t).view.emb (ix2 k d)) = _
  generalize ab m c = W; blk_ext [(idx t).2.2.2.2.2.2.2.1]
theorem emb8 (t : Fin cfg0.N) (s : Fin 512) (d : Fin 1024) : (win0_8.blk t).view.emb (ix2 s d) = (ix2 (row t s) d : S2048x1024.Idx) := by
  blk_ext [(idx t).2.2.2.2.2.2.2.2.1]
theorem emb9 (t : Fin cfg0.N) (s : Fin 512) (d : Fin 1024) : (win0_9.blk t).view.emb (ix2 s d) = (ix2 (row t s) d : S2048x1024.Idx) := by
  blk_ext [(idx t).2.2.2.2.2.2.2.2.2.1]
theorem emb10 (t : Fin cfg0.N) (s : Fin 512) (d : Fin 1024) : (win0_10.blk t).view.emb (ix2 s d) = (ix2 (row t s) d : S2048x1024.Idx) := by
  blk_ext [(idx t).2.2.2.2.2.2.2.2.2.2.1]
theorem emb11 (t : Fin cfg0.N) (s : Fin 512) (q : Fin 3072) : (win0_11.blk t).view.emb (ix2 s q) = (ix2 (row t s) q : S2048x3072.Idx) := by
  blk_ext [(idx t).2.2.2.2.2.2.2.2.2.2.2.1]
theorem emb12 (t : Fin cfg0.N) (k : Fin 3) (d : Fin 1024) : (win0_12.blk t).view.emb (ix2 k d) = (ix2 k d : S3x1024.Idx) := by
  blk_ext [(idx t).2.2.2.2.2.2.2.2.2.2.2.2]

/-- A block's gradient of a gate's argument is the whole's at the block's rows. -/
theorem dlb_eq (t : Fin cfg0.N) (k : Fin 3) (s : Fin 512) (d : Fin 1024) :
    dlb (iblk m c 0 t) (iblk m c 1 t) (iblk m c 2 t) (iblk m c 3 t) (X0_4 m c t) (X0_5 m c t) (X0_6 m c t) (iblk m c 7 t) k s d = dlw (ag m c) (a0 m c) (a1 m c) (a2 m c) (az m c) (ab m c) k (row t s) d := by
  unfold dlb dlw
  rw [blk0, blk7]
  have hy : ((![iblk m c 1 t, iblk m c 2 t, iblk m c 3 t] : Fin 3 → S512x1024.Idx → EReal) k (ix2 s d)) = (![a0 m c, a1 m c, a2 m c] : Fin 3 → S2048x1024.Idx → EReal) k (ix2 (row t s) d) := by
    fin_cases k
    · exact blk1 m c t s d
    · exact blk2 m c t s d
    · exact blk3 m c t s d
  have hz : ((![X0_4 m c t, X0_5 m c t, X0_6 m c t] : Fin 3 → S512x1024.Idx → EReal) k (ix2 s d)) = az m c (ix2 (row t s) (gcol k d)) := by
    fin_cases k
    · exact blk4 m c t s d
    · exact blk5 m c t s d
    · exact blk6 m c t s d
  rw [hy, hz]

theorem out8 (t : Fin cfg0.N) (s : Fin 512) (d : Fin 1024) : ((outsAt0 m c t.val t.isLt).1 (ix2 s d) : EReal) = dy (ag m c) (az m c) (ab m c) 0 (ix2 (row t s) d) := by
  have hN : t.val < 4 := lt_of_lt_of_eq t.isLt N_0
  by_cases h0 : t.val % 4 = 0
  · simp only [outsAt0_A m c t h0 (by omega)]
    rw [out0_A_8_eq, blk0, blk4, blk7]
    rfl
  · simp only [outsAt0_B m c t h0 (by omega)]
    rw [out0_B_8_eq, blk0, blk4, blk7]
    rfl
theorem covers8 : (cfg0.win 8).Covers := by decide +kernel
theorem arr8 : (dats m 0 c).arrAt 8 cfg0.N = dy (ag m c) (az m c) (ab m c) 0 := by
  refine (dats m 0 c).arrAt_eq_of_covers 8 _ covers8 fun t hf y => ?_
  blk_simp
  rw [after0_8]
  obtain ⟨s, d, rfl⟩ : ∃ (s : Fin 512) (d : Fin 1024), y = ix2 s d := ⟨_, _, ix2_eta y⟩
  exact (out8 m c t s d).trans (congrArg _ (emb8 t s d).symm)

theorem out9 (t : Fin cfg0.N) (s : Fin 512) (d : Fin 1024) : ((outsAt0 m c t.val t.isLt).2.1 (ix2 s d) : EReal) = dy (ag m c) (az m c) (ab m c) 1 (ix2 (row t s) d) := by
  have hN : t.val < 4 := lt_of_lt_of_eq t.isLt N_0
  by_cases h0 : t.val % 4 = 0
  · simp only [outsAt0_A m c t h0 (by omega)]
    rw [out0_A_9_eq, blk0, blk5, blk7]
    rfl
  · simp only [outsAt0_B m c t h0 (by omega)]
    rw [out0_B_9_eq, blk0, blk5, blk7]
    rfl
theorem covers9 : (cfg0.win 9).Covers := by decide +kernel
theorem arr9 : (dats m 0 c).arrAt 9 cfg0.N = dy (ag m c) (az m c) (ab m c) 1 := by
  refine (dats m 0 c).arrAt_eq_of_covers 9 _ covers9 fun t hf y => ?_
  blk_simp
  rw [after0_9]
  obtain ⟨s, d, rfl⟩ : ∃ (s : Fin 512) (d : Fin 1024), y = ix2 s d := ⟨_, _, ix2_eta y⟩
  exact (out9 m c t s d).trans (congrArg _ (emb9 t s d).symm)

theorem out10 (t : Fin cfg0.N) (s : Fin 512) (d : Fin 1024) : ((outsAt0 m c t.val t.isLt).2.2.1 (ix2 s d) : EReal) = dy (ag m c) (az m c) (ab m c) 2 (ix2 (row t s) d) := by
  have hN : t.val < 4 := lt_of_lt_of_eq t.isLt N_0
  by_cases h0 : t.val % 4 = 0
  · simp only [outsAt0_A m c t h0 (by omega)]
    rw [out0_A_10_eq, blk0, blk6, blk7]
    rfl
  · simp only [outsAt0_B m c t h0 (by omega)]
    rw [out0_B_10_eq, blk0, blk6, blk7]
    rfl
theorem covers10 : (cfg0.win 10).Covers := by decide +kernel
theorem arr10 : (dats m 0 c).arrAt 10 cfg0.N = dy (ag m c) (az m c) (ab m c) 2 := by
  refine (dats m 0 c).arrAt_eq_of_covers 10 _ covers10 fun t hf y => ?_
  blk_simp
  rw [after0_10]
  obtain ⟨s, d, rfl⟩ : ∃ (s : Fin 512) (d : Fin 1024), y = ix2 s d := ⟨_, _, ix2_eta y⟩
  exact (out10 m c t s d).trans (congrArg _ (emb10 t s d).symm)

theorem out11 (t : Fin cfg0.N) (s : Fin 512) (q : Fin 3072) : ((outsAt0 m c t.val t.isLt).2.2.2.1 (ix2 s q) : EReal) = dz (ag m c) (a0 m c) (a1 m c) (a2 m c) (az m c) (ab m c) (ix2 (row t s) q) := by
  have hN : t.val < 4 := lt_of_lt_of_eq t.isLt N_0
  by_cases h0 : t.val % 4 = 0
  · simp only [outsAt0_A m c t h0 (by omega)]
    rw [out0_A_11_eq, dlb_eq]
    rfl
  · simp only [outsAt0_B m c t h0 (by omega)]
    rw [out0_B_11_eq, dlb_eq]
    rfl
theorem covers11 : (cfg0.win 11).Covers := by decide +kernel
theorem arr11 : (dats m 0 c).arrAt 11 cfg0.N = dz (ag m c) (a0 m c) (a1 m c) (a2 m c) (az m c) (ab m c) := by
  refine (dats m 0 c).arrAt_eq_of_covers 11 _ covers11 fun t hf y => ?_
  blk_simp
  rw [after0_11]
  obtain ⟨s, q, rfl⟩ : ∃ (s : Fin 512) (q : Fin 3072), y = ix2 s q := ⟨_, _, ix2_etaz y⟩
  exact (out11 m c t s q).trans (congrArg _ (emb11 t s q).symm)

/-- What point `t` adds to the biases' gradient. -/
def term (t : Fin cfg0.N) (k : Fin 3) (d : Fin 1024) : EReal :=
  ∑ s : Fin 512, dlw (ag m c) (a0 m c) (a1 m c) (a2 m c) (az m c) (ab m c) k (row t s) d

theorem first (t : Fin cfg0.N) (h0 : t.val % 4 = 0) (k : Fin 3) (d : Fin 1024) :
    ((outsAt0 m c t.val t.isLt).2.2.2.2 (ix2 k d) : EReal) = 0 + term m c t k d := by
  have hN : t.val < 4 := lt_of_lt_of_eq t.isLt N_0
  simp only [outsAt0_A m c t h0 (by omega)]
  rw [out0_A_12_eq, zero_add]
  exact Finset.sum_congr rfl fun s _ => dlb_eq m c t k s d
theorem next (t : Fin cfg0.N) (h0 : ¬t.val % 4 = 0) (k : Fin 3) (d : Fin 1024) :
    ((outsAt0 m c t.val t.isLt).2.2.2.2 (ix2 k d) : EReal) = (outsAt0 m c (t.val - 1) (Nat.lt_of_le_of_lt (Nat.sub_le _ _) t.isLt)).2.2.2.2 (ix2 k d) + term m c t k d := by
  simp only [outsAt0_B m c t h0 (by omega)]
  rw [out0_B_12_eq]
  exact congrArg (fun q : EReal => _ + q) (Finset.sum_congr rfl fun s _ => dlb_eq m c t k s d)
theorem out12 (t : Fin cfg0.N) (h3 : t.val % 4 = 3) (k : Fin 3) (d : Fin 1024) :
    ((outsAt0 m c t.val t.isLt).2.2.2.2 (ix2 k d) : EReal) = db (ag m c) (a0 m c) (a1 m c) (a2 m c) (az m c) (ab m c) (ix2 k d) := by
  have hN : cfg0.N = 4 := N_0
  have e := Pipeline.eq_sum_fin_of_reset_step_of_flush (M := EReal) (fun n h => (outsAt0 m c n h).2.2.2.2 (ix2 k d)) 4 0 (fun t => term m c t k d)
    (fun t h => first m c t h k d) (fun t h => next m c t h k d) t h3
  refine e.trans ?_
  rw [zero_add]
  show _ = ∑ s : Fin (4 * 512), dlw (ag m c) (a0 m c) (a1 m c) (a2 m c) (az m c) (ab m c) k s d
  rw [← finProdFinEquiv.sum_comp, Fintype.sum_prod_type]
  refine Finset.sum_congr rfl fun j _ => Finset.sum_congr rfl fun s _ => ?_
  refine congrArg (fun r => dlw (ag m c) (a0 m c) (a1 m c) (a2 m c) (az m c) (ab m c) k r d) (Fin.ext ?_)
  show (4 * (t.val / 4) + j.val) * 512 + s.val = s.val + 512 * j.val
  have := t.isLt
  omega
theorem covers12 : (cfg0.win 12).Covers := by decide +kernel
theorem arr12 : (dats m 0 c).arrAt 12 cfg0.N = db (ag m c) (a0 m c) (a1 m c) (a2 m c) (az m c) (ab m c) := by
  refine (dats m 0 c).arrAt_eq_of_covers 12 _ covers12 fun t hf y => ?_
  blk_simp
  rw [after0_12]
  obtain ⟨k, d, rfl⟩ : ∃ (k : Fin 3) (d : Fin 1024), y = ix2 k d := ⟨_, _, ix2_eta3 y⟩
  exact (out12 m c t ((flush0_12 t).mp hf) k d).trans (congrArg _ (emb12 t k d).symm)

end

section
variable (x0 : (⟨S2048x1024, .f32⟩ : BufTy).Contents (Elt Idealize.ShloMosaic.Ideal)) (x1 x2 x3 : (⟨S2048x1024, .f32⟩ : BufTy).Contents (Elt Idealize.ShloMosaic.Ideal)) (x4 : (⟨S2048x11776, .f32⟩ : BufTy).Contents (Elt Idealize.ShloMosaic.Ideal)) (x5 : (⟨S3x1024, .f32⟩ : BufTy).Contents (Elt Idealize.ShloMosaic.Ideal))

/-- The reference's gates. -/
theorem refG (s : Fin 2048) (k : Fin 3) (d : Fin 1024) : (Cert.DmergeRefIdeal.Read.val_main_v10 (F := Idealize.ShloMosaic.Ideal) x4 x5 (ix3 s k d) : EReal) = lgs (x4 (ix2 s (gcol k d)) + x5 (ix2 k d)) := by
  unfold Cert.DmergeRefIdeal.Read.val_main_v10 Cert.DmergeRefIdeal.Read.val_main_v9 Cert.DmergeRefIdeal.Read.val_main_v8 Cert.DmergeRefIdeal.Read.val_main_v7 Cert.DmergeRefIdeal.Read.val_main_v6 Cert.DmergeRefIdeal.Read.val_main_v5 Cert.DmergeRefIdeal.Read.val_main_v4 Cert.DmergeRefIdeal.Read.val_main_v3 Cert.DmergeRefIdeal.Read.val_main_v2 Cert.DmergeRefIdeal.Read.val_main_v1 Cert.DmergeRefIdeal.Read.val_main_v0 Cert.DmergeRefIdeal.Read.val_main_cst Cert.DmergeRefIdeal.Read.val_main_cst_0 lgs
  pointwise
  try rfl
theorem refY0 : Cert.DmergeRefIdeal.Read.val_main_v46 (F := Idealize.ShloMosaic.Ideal) x0 x4 x5 = dy x0 x4 x5 0 := by
  funext y
  obtain ⟨s, d, rfl⟩ : ∃ (s : Fin 2048) (d : Fin 1024), y = ix2 s d := ⟨_, _, ix2_eta' y⟩
  unfold Cert.DmergeRefIdeal.Read.val_main_v46 Cert.DmergeRefIdeal.Read.val_main_v36 Cert.DmergeRefIdeal.Read.val_main_v25 Cert.DmergeRefIdeal.Read.val_main_v15 Cert.DmergeRefIdeal.Read.val_main_v14
  pointwise
  rw [refG, mul_comm]
  rfl
theorem refY1 : Cert.DmergeRefIdeal.Read.val_main_v47 (F := Idealize.ShloMosaic.Ideal) x0 x4 x5 = dy x0 x4 x5 1 := by
  funext y
  obtain ⟨s, d, rfl⟩ : ∃ (s : Fin 2048) (d : Fin 1024), y = ix2 s d := ⟨_, _, ix2_eta' y⟩
  unfold Cert.DmergeRefIdeal.Read.val_main_v47 Cert.DmergeRefIdeal.Read.val_main_v31 Cert.DmergeRefIdeal.Read.val_main_v25 Cert.DmergeRefIdeal.Read.val_main_v18 Cert.DmergeRefIdeal.Read.val_main_v17
  pointwise
  rw [refG, mul_comm]
  rfl
theorem refY2 : Cert.DmergeRefIdeal.Read.val_main_v48 (F := Idealize.ShloMosaic.Ideal) x0 x4 x5 = dy x0 x4 x5 2 := by
  funext y
  obtain ⟨s, d, rfl⟩ : ∃ (s : Fin 2048) (d : Fin 1024), y = ix2 s d := ⟨_, _, ix2_eta' y⟩
  unfold Cert.DmergeRefIdeal.Read.val_main_v48 Cert.DmergeRefIdeal.Read.val_main_v27 Cert.DmergeRefIdeal.Read.val_main_v26 Cert.DmergeRefIdeal.Read.val_main_v22 Cert.DmergeRefIdeal.Read.val_main_v21
  pointwise
  rw [refG, mul_comm]
  rfl
theorem refD (s : Fin 2048) (k : Fin 3) (d : Fin 1024) : (Cert.DmergeRefIdeal.Read.val_main_v41 (F := Idealize.ShloMosaic.Ideal) x0 x1 x2 x3 x4 x5 (ix3 s k d) : EReal) = dlw x0 x1 x2 x3 x4 x5 k s d := by
  unfold dlw dl
  rw [mul_assoc, ← refG]
  unfold Cert.DmergeRefIdeal.Read.val_main_v41 Cert.DmergeRefIdeal.Read.val_main_v40 Cert.DmergeRefIdeal.Read.val_main_v39 Cert.DmergeRefIdeal.Read.val_main_v38 Cert.DmergeRefIdeal.Read.val_main_v37 Cert.DmergeRefIdeal.Read.val_main_v35 Cert.DmergeRefIdeal.Read.val_main_v34 Cert.DmergeRefIdeal.Read.val_main_v33 Cert.DmergeRefIdeal.Read.val_main_v32 Cert.DmergeRefIdeal.Read.val_main_v30 Cert.DmergeRefIdeal.Read.val_main_v29 Cert.DmergeRefIdeal.Read.val_main_v28 Cert.DmergeRefIdeal.Read.val_main_v26 Cert.DmergeRefIdeal.Read.val_main_v25 Cert.DmergeRefIdeal.Read.val_main_v13 Cert.DmergeRefIdeal.Read.val_main_v12 Cert.DmergeRefIdeal.Read.val_main_v11 Cert.DmergeRefIdeal.Read.val_main_cst_1 Cert.DmergeRefIdeal.Read.val_main_cst_2 Cert.DmergeRefIdeal.Read.val_main_cst_3 Cert.DmergeRefIdeal.Read.val_main_cst_4
  fin_cases k
  · pointwise
  · pointwise
  · pointwise
theorem refZ : Cert.DmergeRefIdeal.Read.val_main_v49 (F := Idealize.ShloMosaic.Ideal) x0 x1 x2 x3 x4 x5 = dz x0 x1 x2 x3 x4 x5 := by
  funext y
  obtain ⟨s, q, rfl⟩ : ∃ (s : Fin 2048) (q : Fin 3072), y = ix2 s q := ⟨_, _, ix2_etaz' y⟩
  refine Eq.trans ?_ (refD x0 x1 x2 x3 x4 x5 s (hi q) (lo q))
  unfold Cert.DmergeRefIdeal.Read.val_main_v49 Cert.DmergeRefIdeal.Read.val_main_v45
  pointwise
theorem refB : Cert.DmergeRefIdeal.Read.val_main_v44 (F := Idealize.ShloMosaic.Ideal) x0 x1 x2 x3 x4 x5 = db x0 x1 x2 x3 x4 x5 := by
  funext y
  obtain ⟨k, d, rfl⟩ : ∃ (k : Fin 3) (d : Fin 1024), y = ix2 k d := ⟨_, _, ix2_eta3 y⟩
  unfold Cert.DmergeRefIdeal.Read.val_main_v44 Cert.DmergeRefIdeal.Read.val_main_v43 Cert.DmergeRefIdeal.Read.val_main_v42 Cert.DmergeRefIdeal.Read.val_main_cst_5 Cert.DmergeRefIdeal.Read.val_main_cst_6
  pointwise
  refine (Fin.sum_univ_one _).trans ?_
  exact Finset.sum_congr rfl fun s _ => refD x0 x1 x2 x3 x4 x5 s k d

end

theorem value : Cert.algebraic_DmergeIdeal_DmergeRefIdeal (hDmergeIdeal := Cert.DmergeIdeal.Gen.facts) (hDmergeRefIdeal := Cert.DmergeRefIdeal.Gen.facts) := by
  intro m g m' g' _ hagree
  refine ⟨fun c => _, fun c => _, fun c => _, fun c => _, fun c => _, Cert.DmergeIdeal.Value.run_blocks m g, ?_⟩
  refine (θ_run (Cert.DmergeRefIdeal.defs (F := Idealize.ShloMosaic.Ideal)) _ _).mono (fun r h c => ?_) (Cert.DmergeRefIdeal.Value.run (F := Idealize.ShloMosaic.Ideal) m' g')
  obtain ⟨g0, g1, g2, g3, g4, g5⟩ := hagree c
  refine ⟨(h c).1.trans ((Cert.DmergeRefIdeal.Read.val_main_v46_eq (F := Idealize.ShloMosaic.Ideal) _ _ _).trans ?_), (h c).2.1.trans ((Cert.DmergeRefIdeal.Read.val_main_v47_eq (F := Idealize.ShloMosaic.Ideal) _ _ _).trans ?_), (h c).2.2.1.trans ((Cert.DmergeRefIdeal.Read.val_main_v48_eq (F := Idealize.ShloMosaic.Ideal) _ _ _).trans ?_), (h c).2.2.2.1.trans ((Cert.DmergeRefIdeal.Read.val_main_v49_eq (F := Idealize.ShloMosaic.Ideal) _ _ _ _ _ _).trans ?_), (h c).2.2.2.2.1.trans ((Cert.DmergeRefIdeal.Read.val_main_v44_eq (F := Idealize.ShloMosaic.Ideal) _ _ _ _ _ _).trans ?_), (h c).2.2.2.2.2⟩
  · rw [g0, g4, g5]
    exact (refY0 _ _ _).trans (arr8 m c).symm
  · rw [g0, g4, g5]
    exact (refY1 _ _ _).trans (arr9 m c).symm
  · rw [g0, g4, g5]
    exact (refY2 _ _ _).trans (arr10 m c).symm
  · rw [g0, g1, g2, g3, g4, g5]
    exact (refZ _ _ _ _ _ _).trans (arr11 m c).symm
  · rw [g0, g1, g2, g3, g4, g5]
    exact (refB _ _ _ _ _ _).trans (arr12 m c).symm

end Cert.Bwd.Dmerge

end
-- ==== Proof.Bwd.Fin.lean ====
module

public import proofs.«01_k».proof.Defs
public import proofs.«01_k».proof.Proof.Gen.FinIdeal
public import proofs.«01_k».proof.Proof.Gen.FinIdeal.Value
public import proofs.«01_k».proof.Proof.Gen.FinRefIdeal
public import proofs.«01_k».proof.Proof.Gen.FinRefIdeal.Run
public import proofs.«01_k».proof.Proof.Gen.FinRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.Fin

open Cert.FinIdeal Cert.FinIdeal.Gen Idealize.ShloMosaic Idealize.ShloMosaic.TcCoe Idealize.ShloMosaic.Tactic Idealize.SL.Sem

/-! # The mixer's input product: 23 tiles of 512 columns -/

/-- The index maps: the whole input, a tile of the weight's columns, and the same columns of the result. -/
theorem idx : ∀ t : Fin cfg0.N, win0_0.index t = ![0, 0] ∧ win0_1.index t = ![0, t.val] ∧ win0_2.index t = ![0, t.val] :=
  (by decide +kernel : ∀ t : Fin grid0.N, _)

/-- Column `j` of tile `t`. -/
abbrev col (t : Fin cfg0.N) (j : Fin 512) : Fin 11776 := ⟨t.val * 512 + j.val, by have := t.isLt; have e : cfg0.N = 23 := N_0; omega⟩

/-- The product, from the whole arrays. -/
def prod (h : S2048x1024.Idx → EReal) (w : S1024x11776.Idx → EReal) : S2048x11776.Idx → EReal :=
  fun y => ∑ k : Fin 1024, h (ix2 (y 0) k) * w (ix2 k (y 1))

theorem pay (x0 : Vec Idealize.ShloMosaic.Ideal S2048x1024 .bf16) (x1 : Vec Idealize.ShloMosaic.Ideal S1024x512 .bf16) (i : Fin 2048) (j : Fin 512) :
    (k0_pay1 x0 x1 (ix2 i j) : EReal) = ∑ k : Fin 1024, x0 (ix2 i k) * x1 (ix2 k j) := by
  unfold k0_pay1
  pointwise

theorem ix2_eta (y : S2048x512.Idx) : y = ix2 (⟨(y 0).val, (y 0).isLt⟩ : Fin 2048) (⟨(y 1).val, (y 1).isLt⟩ : Fin 512) := by
  funext a; match a with | ⟨0, _⟩ => rfl | ⟨1, _⟩ => rfl

theorem ix2_eta' (y : S2048x11776.Idx) : y = ix2 (⟨(y 0).val, (y 0).isLt⟩ : Fin 2048) (⟨(y 1).val, (y 1).isLt⟩ : Fin 11776) := by
  funext a; match a with | ⟨0, _⟩ => rfl | ⟨1, _⟩ => rfl

section
variable (m : (ℓ : Loc nD τ sig) → Buf (Elt Idealize.ShloMosaic.Ideal) ℓ) (c : Dev nD)

abbrev h : S2048x1024.Idx → EReal := m ((c : Thread nD τ).loc main_arg0)
abbrev w : S1024x11776.Idx → EReal := m ((c : Thread nD τ).loc main_arg1)

theorem blk0 (t : Fin cfg0.N) (i : Fin 2048) (k : Fin 1024) : (iblk m c 0 t (ix2 i k) : EReal) = h m c (ix2 i k) := by
  show h m c ((win0_0.blk t).view.emb (ix2 i k)) = _
  generalize h m c = W; blk_ext [(idx t).1]
theorem blk1 (t : Fin cfg0.N) (k : Fin 1024) (j : Fin 512) : (iblk m c 1 t (ix2 k j) : EReal) = w m c (ix2 k (col t j)) := by
  show w m c ((win0_1.blk t).view.emb (ix2 k j)) = _
  generalize w m c = W; blk_ext [(idx t).2.1]
theorem emb2 (t : Fin cfg0.N) (i : Fin 2048) (j : Fin 512) : (win0_2.blk t).view.emb (ix2 i j) = (ix2 i (col t j) : S2048x11776.Idx) := by
  blk_ext [(idx t).2.2]

theorem covers2 : (cfg0.win 2).Covers := by decide +kernel

theorem arr2 : (dats m 0 c).arrAt 2 cfg0.N = prod (h m c) (w m c) := by
  refine (dats m 0 c).arrAt_eq_of_covers 2 _ covers2 fun t hf y => ?_
  blk_simp
  rw [after0_2]
  obtain ⟨i, j, rfl⟩ : ∃ (i : Fin 2048) (j : Fin 512), y = ix2 i j := ⟨_, _, ix2_eta y⟩
  have e : (out0_2 (iblk m c 0 t) (iblk m c 1 t) (ix2 i j) : EReal) = prod (h m c) (w m c) (ix2 i (col t j)) := by
    unfold out0_2
    rw [View.canon_unit_zero (by funext a; match a with | ⟨0, _⟩ => rfl | ⟨1, _⟩ => rfl)]
    rw [View.ld_unit_zero (by funext a; match a with | ⟨0, _⟩ => rfl | ⟨1, _⟩ => rfl), View.ld_unit_zero (by funext a; match a with | ⟨0, _⟩ => rfl | ⟨1, _⟩ => rfl)]
    rw [pay]
    simp only [blk0, blk1]
    rfl
  exact e.trans (congrArg _ (emb2 t i j).symm)

end

theorem ref (x0 : (⟨S2048x1024, .bf16⟩ : BufTy).Contents (Elt Idealize.ShloMosaic.Ideal)) (x1 : (⟨S1024x11776, .bf16⟩ : BufTy).Contents (Elt Idealize.ShloMosaic.Ideal)) :
    Cert.FinRefIdeal.Read.val_main_v2 (F := Idealize.ShloMosaic.Ideal) x0 x1 = prod x0 x1 := by
  funext y
  obtain ⟨i, j, rfl⟩ : ∃ (i : Fin 2048) (j : Fin 11776), y = ix2 i j := ⟨_, _, ix2_eta' y⟩
  unfold Cert.FinRefIdeal.Read.val_main_v2 Cert.FinRefIdeal.Read.val_main_v1 Cert.FinRefIdeal.Read.val_main_v0
  pointwise
  rfl

theorem value : Cert.algebraic_FinIdeal_FinRefIdeal (hFinIdeal := Cert.FinIdeal.Gen.facts) (hFinRefIdeal := Cert.FinRefIdeal.Gen.facts) := by
  intro m g m' g' _ hagree
  refine ⟨fun c => _, Cert.FinIdeal.Value.run_blocks m g, ?_⟩
  refine (θ_run (Cert.FinRefIdeal.defs (F := Idealize.ShloMosaic.Ideal)) _ _).mono (fun r h c => ?_) (Cert.FinRefIdeal.Value.run (F := Idealize.ShloMosaic.Ideal) m' g')
  obtain ⟨g0, g1⟩ := hagree c
  refine ⟨(h c).1.trans ((Cert.FinRefIdeal.Read.val_main_v2_eq (F := Idealize.ShloMosaic.Ideal) _ _).trans ((ref _ _).trans ?_)), (h c).2⟩
  exact (congrArg₂ prod g0 g1).trans (arr2 m c).symm

end Cert.Bwd.Fin

end
-- ==== Proof.Bwd.Fgu.lean ====
module

public import proofs.«01_k».proof.Defs
public import proofs.«01_k».proof.Proof.Gen.FguIdeal
public import proofs.«01_k».proof.Proof.Gen.FguIdeal.Value
public import proofs.«01_k».proof.Proof.Gen.FguRefIdeal
public import proofs.«01_k».proof.Proof.Gen.FguRefIdeal.Run
public import proofs.«01_k».proof.Proof.Gen.FguRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.Fgu

open Cert.FguIdeal Cert.FguIdeal.Gen Idealize.ShloMosaic Idealize.ShloMosaic.TcCoe Idealize.ShloMosaic.Tactic Idealize.SL.Sem

/-! # The feed-forward's gate and upper half, and their SwiGLU -/

/-- The index maps: the whole input, the gate's block of the weight, the upper half's, and the blocks of the results. -/
theorem idx : ∀ t : Fin cfg0.N, win0_0.index t = ![0, 0] ∧ win0_1.index t = ![0, t.val, 0, 0] ∧ win0_2.index t = ![0, t.val + 4, 0, 0] ∧ win0_3.index t = ![0, t.val, 0, 0] ∧ win0_4.index t = ![t.val, 0, 0] :=
  (by decide +kernel : ∀ t : Fin grid0.N, _)

/-- The logistic function. -/
def lgs (g : EReal) : EReal := Ideal.div 1 (1 + Ideal.exp (-g))

theorem pay1 (x0 : Vec Idealize.ShloMosaic.Ideal S2048x1024 .bf16) (x1 : Vec Idealize.ShloMosaic.Ideal S1x1x704x1024 .bf16) (s : Fin 2048) (f : Fin 704) :
    (k0_pay1 x0 x1 (ix2 s f) : EReal) = ∑ d : Fin 1024, x0 (ix2 s d) * x1 (ix4 0 0 f d) := by
  unfold k0_pay1
  pointwise

theorem pay2 (x0 : Vec Idealize.ShloMosaic.Ideal S2048x1024 .bf16) (x1 : Vec Idealize.ShloMosaic.Ideal S1x1x704x1024 .bf16) (s : Fin 2048) (f : Fin 704) :
    (k0_pay2 x0 x1 (ix2 s f) : EReal) = ∑ d : Fin 1024, x0 (ix2 s d) * x1 (ix4 0 0 f d) := by
  unfold k0_pay2
  pointwise

theorem pay3 (x0 : Vec Idealize.ShloMosaic.Ideal S2048x1024 .bf16) (x1 : Vec Idealize.ShloMosaic.Ideal S1x1x704x1024 .bf16) (s : Fin 2048) (f : Fin 704) :
    (k0_pay3 x0 x1 (ix4 0 0 s f) : EReal) = ∑ d : Fin 1024, x0 (ix2 s d) * x1 (ix4 0 0 f d) := by
  rw [← pay1]
  unfold k0_pay3
  pointwise

theorem pay4 (x0 : Vec Idealize.ShloMosaic.Ideal S2048x1024 .bf16) (x1 : Vec Idealize.ShloMosaic.Ideal S1x1x704x1024 .bf16) (s : Fin 2048) (f : Fin 704) :
    (k0_pay4 x0 x1 (ix4 0 0 s f) : EReal) = ∑ d : Fin 1024, x0 (ix2 s d) * x1 (ix4 0 0 f d) := by
  rw [← pay2]
  unfold k0_pay4
  pointwise

theorem pay5 (x0 : Vec Idealize.ShloMosaic.Ideal S2048x1024 .bf16) (x1 x2 : Vec Idealize.ShloMosaic.Ideal S1x1x704x1024 .bf16) (s : Fin 2048) (f : Fin 704) :
    (k0_pay5 x0 x1 x2 (ix3 0 s f) : EReal) = (k0_pay1 x0 x1 (ix2 s f) : EReal) * lgs (k0_pay1 x0 x1 (ix2 s f)) * k0_pay2 x0 x2 (ix2 s f) := by
  unfold k0_pay5 lgs
  pointwise
  rw [sub_eq_add_neg, zero_add]

/-- One of the eight blocks of products, from the whole arrays. -/
def half (h : S2048x1024.Idx → EReal) (w : S1x8x704x1024.Idx → EReal) (j : Fin 8) (s : Fin 2048) (f : Fin 704) : EReal :=
  ∑ d : Fin 1024, h (ix2 s d) * w (ix4 0 j f d)

abbrev lo (j : Fin 4) : Fin 8 := ⟨j.val, by omega⟩
abbrev hi (j : Fin 4) : Fin 8 := ⟨4 + j.val, by omega⟩

/-- Which of the eight blocks the gate (0) and the upper half (1) take. -/
def pick (p : Fin 2) (j : Fin 4) : Fin 8 := match p with
  | ⟨0, _⟩ => lo j
  | ⟨1, _⟩ => hi j

def gu (h : S2048x1024.Idx → EReal) (w : S1x8x704x1024.Idx → EReal) : S2x4x2048x704.Idx → EReal :=
  fun y => half h w (pick (y 0) (y 1)) (y 2) (y 3)

def act (h : S2048x1024.Idx → EReal) (w : S1x8x704x1024.Idx → EReal) : S4x2048x704.Idx → EReal :=
  fun y => half h w (lo (y 0)) (y 1) (y 2) * lgs (half h w (lo (y 0)) (y 1) (y 2)) * half h w (hi (y 0)) (y 1) (y 2)

theorem eta_gu (y : S2x4x2048x704.Idx) : y = ix4 (⟨(y 0).val, (y 0).isLt⟩ : Fin 2) (⟨(y 1).val, (y 1).isLt⟩ : Fin 4) (⟨(y 2).val, (y 2).isLt⟩ : Fin 2048) (⟨(y 3).val, (y 3).isLt⟩ : Fin 704) := by
  funext a; match a with | ⟨0, _⟩ => rfl | ⟨1, _⟩ => rfl | ⟨2, _⟩ => rfl | ⟨3, _⟩ => rfl

theorem eta_act (y : S4x2048x704.Idx) : y = ix3 (⟨(y 0).val, (y 0).isLt⟩ : Fin 4) (⟨(y 1).val, (y 1).isLt⟩ : Fin 2048) (⟨(y 2).val, (y 2).isLt⟩ : Fin 704) := by
  funext a; match a with | ⟨0, _⟩ => rfl | ⟨1, _⟩ => rfl | ⟨2, _⟩ => rfl

theorem eta_blk (y : S2x1x2048x704.Idx) : y = ix4 (⟨(y 0).val, (y 0).isLt⟩ : Fin 2) 0 (⟨(y 2).val, (y 2).isLt⟩ : Fin 2048) (⟨(y 3).val, (y 3).isLt⟩ : Fin 704) := by
  funext a; match a with | ⟨0, _⟩ => rfl | ⟨1, _⟩ => exact Subsingleton.elim (α := Fin 1) _ _ | ⟨2, _⟩ => rfl | ⟨3, _⟩ => rfl

theorem eta_half (y : S1x1x2048x704.Idx) : y = ix4 0 0 (⟨(y 2).val, (y 2).isLt⟩ : Fin 2048) (⟨(y 3).val, (y 3).isLt⟩ : Fin 704) := by
  funext a; match a with | ⟨0, _⟩ => exact Subsingleton.elim (α := Fin 1) _ _ | ⟨1, _⟩ => exact Subsingleton.elim (α := Fin 1) _ _ | ⟨2, _⟩ => rfl | ⟨3, _⟩ => rfl

theorem eta_one (y : S1x2048x704.Idx) : y = ix3 0 (⟨(y 1).val, (y 1).isLt⟩ : Fin 2048) (⟨(y 2).val, (y 2).isLt⟩ : Fin 704) := by
  funext a; match a with | ⟨0, _⟩ => exact Subsingleton.elim (α := Fin 1) _ _ | ⟨1, _⟩ => rfl | ⟨2, _⟩ => rfl

/-- What a point leaves of each half. -/
def piece (x0 : Vec Idealize.ShloMosaic.Ideal S2048x1024 .bf16) (x1 x2 : Vec Idealize.ShloMosaic.Ideal S1x1x704x1024 .bf16) (p : Fin 2) (s : Fin 2048) (f : Fin 704) : EReal :=
  match p with
  | ⟨0, _⟩ => k0_pay3 x0 x1 (ix4 0 0 s f)
  | ⟨1, _⟩ => k0_pay4 x0 x2 (ix4 0 0 s f)

theorem out_eq (x0 : Vec Idealize.ShloMosaic.Ideal S2048x1024 .bf16) (x1 x2 : Vec Idealize.ShloMosaic.Ideal S1x1x704x1024 .bf16) (p : Fin 2) (s : Fin 2048) (f : Fin 704) :
    (out0_3 x0 x1 x2 (ix4 p 0 s f) : EReal) = piece x0 x1 x2 p s f := by
  unfold out0_3
  refine View.canon_apply_of_pieces (Val := Elt Idealize.ShloMosaic.Ideal) (e := .f32) (fun y : S2x1x2048x704.Idx => piece x0 x1 x2 (y 0) (y 2) (y 3)) _ ?_ _ (cover0_3 _ _ _)
  rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl | ⟨2, _⟩ => rfl | ⟨3, _⟩ => rfl)]
  intro q hq
  rcases List.mem_cons.mp hq with rfl | hq
  · intro y
    obtain ⟨s, f, rfl⟩ : ∃ (s : Fin 2048) (f : Fin 704), y = ix4 0 0 s f := ⟨_, _, eta_half y⟩
    show _ = piece x0 x1 x2 ⟨1 + 1 * 0, _⟩ ⟨0 + 1 * s.val, _⟩ ⟨0 + 1 * f.val, _⟩
    simp only [Nat.one_mul, Nat.zero_add]
    rfl
  rcases List.mem_cons.mp hq with rfl | hq
  · intro y
    obtain ⟨s, f, rfl⟩ : ∃ (s : Fin 2048) (f : Fin 704), y = ix4 0 0 s f := ⟨_, _, eta_half y⟩
    show _ = piece x0 x1 x2 ⟨0 + 1 * 0, _⟩ ⟨0 + 1 * s.val, _⟩ ⟨0 + 1 * f.val, _⟩
    simp only [Nat.one_mul, Nat.zero_add]
    rfl
  exact absurd hq List.not_mem_nil

section
variable (m : (ℓ : Loc nD τ sig) → Buf (Elt Idealize.ShloMosaic.Ideal) ℓ) (c : Dev nD)

abbrev h : S2048x1024.Idx → EReal := m ((c : Thread nD τ).loc main_arg0)
abbrev w : S1x8x704x1024.Idx → EReal := m ((c : Thread nD τ).loc main_arg1)

abbrev pj (t : Fin cfg0.N) : Fin 4 := ⟨t.val, by have := t.isLt; have e : cfg0.N = 4 := N_0; omega⟩

theorem blk0 (t : Fin cfg0.N) (s : Fin 2048) (d : Fin 1024) : (iblk m c 0 t (ix2 s d) : EReal) = h m c (ix2 s d) := by
  show h m c ((win0_0.blk t).view.emb (ix2 s d)) = _
  generalize h m c = W; blk_ext [(idx t).1]
theorem blk1 (t : Fin cfg0.N) (f : Fin 704) (d : Fin 1024) : (iblk m c 1 t (ix4 0 0 f d) : EReal) = w m c (ix4 0 (lo (pj t)) f d) := by
  show w m c ((win0_1.blk t).view.emb (ix4 0 0 f d)) = _
  generalize w m c = W; blk_ext [(idx t).2.1]
theorem blk2 (t : Fin cfg0.N) (f : Fin 704) (d : Fin 1024) : (iblk m c 2 t (ix4 0 0 f d) : EReal) = w m c (ix4 0 (hi (pj t)) f d) := by
  show w m c ((win0_2.blk t).view.emb (ix4 0 0 f d)) = _
  generalize w m c = W; blk_ext [(idx t).2.2.1]
theorem emb3 (t : Fin cfg0.N) (p : Fin 2) (s : Fin 2048) (f : Fin 704) : (win0_3.blk t).view.emb (ix4 p 0 s f) = (ix4 p (pj t) s f : S2x4x2048x704.Idx) := by
  blk_ext [(idx t).2.2.2.1]
theorem emb4 (t : Fin cfg0.N) (s : Fin 2048) (f : Fin 704) : (win0_4.blk t).view.emb (ix3 0 s f) = (ix3 (pj t) s f : S4x2048x704.Idx) := by
  blk_ext [(idx t).2.2.2.2]

theorem covers3 : (cfg0.win 3).Covers := by decide +kernel
theorem covers4 : (cfg0.win 4).Covers := by decide +kernel

theorem half_lo (t : Fin cfg0.N) (s : Fin 2048) (f : Fin 704) : (k0_pay1 (iblk m c 0 t) (iblk m c 1 t) (ix2 s f) : EReal) = half (h m c) (w m c) (lo (pj t)) s f := by
  refine (pay1 _ _ s f).trans ?_
  simp only [blk0, blk1]
  rfl

theorem half_hi (t : Fin cfg0.N) (s : Fin 2048) (f : Fin 704) : (k0_pay2 (iblk m c 0 t) (iblk m c 2 t) (ix2 s f) : EReal) = half (h m c) (w m c) (hi (pj t)) s f := by
  refine (pay2 _ _ s f).trans ?_
  simp only [blk0, blk2]
  rfl

theorem arr3 : (dats m 0 c).arrAt 3 cfg0.N = gu (h m c) (w m c) := by
  refine (dats m 0 c).arrAt_eq_of_covers 3 _ covers3 fun t hf y => ?_
  blk_simp
  rw [after0_3]
  obtain ⟨p, s, f, rfl⟩ : ∃ (p : Fin 2) (s : Fin 2048) (f : Fin 704), y = ix4 p 0 s f := ⟨_, _, _, eta_blk y⟩
  have e : (out0_3 (iblk m c 0 t) (iblk m c 1 t) (iblk m c 2 t) (ix4 p 0 s f) : EReal) = gu (h m c) (w m c) (ix4 p (pj t) s f) := by
    refine (out_eq _ _ _ p s f).trans ?_
    match p with
    | ⟨0, _⟩ => exact ((pay3 _ _ s f).trans (pay1 _ _ s f).symm).trans (half_lo m c t s f)
    | ⟨1, _⟩ => exact ((pay4 _ _ s f).trans (pay2 _ _ s f).symm).trans (half_hi m c t s f)
  exact e.trans (congrArg _ (emb3 t p s f).symm)

theorem arr4 : (dats m 0 c).arrAt 4 cfg0.N = act (h m c) (w m c) := by
  refine (dats m 0 c).arrAt_eq_of_covers 4 _ covers4 fun t hf y => ?_
  blk_simp
  rw [after0_4]
  obtain ⟨s, f, rfl⟩ : ∃ (s : Fin 2048) (f : Fin 704), y = ix3 0 s f := ⟨_, _, eta_one y⟩
  have e : (out0_4 (iblk m c 0 t) (iblk m c 1 t) (iblk m c 2 t) (ix3 0 s f) : EReal) = act (h m c) (w m c) (ix3 (pj t) s f) := by
    unfold out0_4
    rw [View.canon_unit_zero (by funext a; match a with | ⟨0, _⟩ => rfl | ⟨1, _⟩ => rfl | ⟨2, _⟩ => rfl)]
    rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl | ⟨2, _⟩ => rfl | ⟨3, _⟩ => rfl)]
    refine (pay5 _ _ _ s f).trans ?_
    rw [half_lo, half_hi]
    rfl
  exact e.trans (congrArg _ (emb4 t s f).symm)

end

theorem refH (x0 : (⟨S2048x1024, .bf16⟩ : BufTy).Contents (Elt Idealize.ShloMosaic.Ideal)) (x1 : (⟨S1x8x704x1024, .bf16⟩ : BufTy).Contents (Elt Idealize.ShloMosaic.Ideal)) (j : Fin 8) (s : Fin 2048) (f : Fin 704) :
    (Cert.FguRefIdeal.Read.val_main_v4 (F := Idealize.ShloMosaic.Ideal) x0 x1 (ix3 j s f) : EReal) = half x0 x1 j s f := by
  refine Eq.trans (b := ∑ d : Fin 1024, x1 (ix4 0 j f d) * x0 (ix2 s d)) ?_ (Finset.sum_congr rfl fun d _ => mul_comm _ _)
  unfold Cert.FguRefIdeal.Read.val_main_v4 Cert.FguRefIdeal.Read.val_main_v3 Cert.FguRefIdeal.Read.val_main_v2 Cert.FguRefIdeal.Read.val_main_v1 Cert.FguRefIdeal.Read.val_main_v0
  pointwise

theorem refLo (x0 : (⟨S2048x1024, .bf16⟩ : BufTy).Contents (Elt Idealize.ShloMosaic.Ideal)) (x1 : (⟨S1x8x704x1024, .bf16⟩ : BufTy).Contents (Elt Idealize.ShloMosaic.Ideal)) (j : Fin 4) (s : Fin 2048) (f : Fin 704) :
    (Cert.FguRefIdeal.Read.val_main_v5 (F := Idealize.ShloMosaic.Ideal) x0 x1 (ix3 j s f) : EReal) = half x0 x1 (lo j) s f := by
  rw [← refH]
  unfold Cert.FguRefIdeal.Read.val_main_v5
  pointwise

theorem refHi (x0 : (⟨S2048x1024, .bf16⟩ : BufTy).Contents (Elt Idealize.ShloMosaic.Ideal)) (x1 : (⟨S1x8x704x1024, .bf16⟩ : BufTy).Contents (Elt Idealize.ShloMosaic.Ideal)) (j : Fin 4) (s : Fin 2048) (f : Fin 704) :
    (Cert.FguRefIdeal.Read.val_main_v6 (F := Idealize.ShloMosaic.Ideal) x0 x1 (ix3 j s f) : EReal) = half x0 x1 (hi j) s f := by
  rw [← refH]
  unfold Cert.FguRefIdeal.Read.val_main_v6
  pointwise

theorem refG (x0 : (⟨S2048x1024, .bf16⟩ : BufTy).Contents (Elt Idealize.ShloMosaic.Ideal)) (x1 : (⟨S1x8x704x1024, .bf16⟩ : BufTy).Contents (Elt Idealize.ShloMosaic.Ideal)) :
    Cert.FguRefIdeal.Read.val_main_v9 (F := Idealize.ShloMosaic.Ideal) x0 x1 = gu x0 x1 := by
  funext y
  obtain ⟨p, j, s, f, rfl⟩ : ∃ (p : Fin 2) (j : Fin 4) (s : Fin 2048) (f : Fin 704), y = ix4 p j s f := ⟨_, _, _, _, eta_gu y⟩
  match p with
  | ⟨0, _⟩ =>
    refine Eq.trans ?_ (refLo x0 x1 j s f)
    unfold Cert.FguRefIdeal.Read.val_main_v9 Cert.FguRefIdeal.Read.val_main_v8 Cert.FguRefIdeal.Read.val_main_v7
    pointwise
    try rfl
  | ⟨1, _⟩ =>
    refine Eq.trans ?_ (refHi x0 x1 j s f)
    unfold Cert.FguRefIdeal.Read.val_main_v9 Cert.FguRefIdeal.Read.val_main_v8 Cert.FguRefIdeal.Read.val_main_v7
    pointwise
    try rfl

theorem refA (x0 : (⟨S2048x1024, .bf16⟩ : BufTy).Contents (Elt Idealize.ShloMosaic.Ideal)) (x1 : (⟨S1x8x704x1024, .bf16⟩ : BufTy).Contents (Elt Idealize.ShloMosaic.Ideal)) :
    Cert.FguRefIdeal.Read.val_main_v12 (F := Idealize.ShloMosaic.Ideal) x0 x1 = act x0 x1 := by
  funext y
  obtain ⟨j, s, f, rfl⟩ : ∃ (j : Fin 4) (s : Fin 2048) (f : Fin 704), y = ix3 j s f := ⟨_, _, _, eta_act y⟩
  show _ = half x0 x1 (lo j) s f * lgs (half x0 x1 (lo j) s f) * half x0 x1 (hi j) s f
  rw [← refLo, ← refHi]
  unfold Cert.FguRefIdeal.Read.val_main_v12 Cert.FguRefIdeal.Read.val_main_v11 Cert.FguRefIdeal.Read.val_main_v10 Cert.FguRefIdeal.Read.val_main_call0_v5 Cert.FguRefIdeal.Read.val_main_call0_v4 Cert.FguRefIdeal.Read.val_main_call0_v3 Cert.FguRefIdeal.Read.val_main_call0_v2 Cert.FguRefIdeal.Read.val_main_call0_v1 Cert.FguRefIdeal.Read.val_main_call0_v0 Cert.FguRefIdeal.Read.val_main_call0_cst Cert.FguRefIdeal.Read.val_main_call0_cst_0 lgs
  pointwise
  try rfl

theorem value : Cert.algebraic_FguIdeal_FguRefIdeal (hFguIdeal := Cert.FguIdeal.Gen.facts) (hFguRefIdeal := Cert.FguRefIdeal.Gen.facts) := by
  intro m g m' g' _ hagree
  refine ⟨fun c => _, fun c => _, Cert.FguIdeal.Value.run_blocks m g, ?_⟩
  refine (θ_run (Cert.FguRefIdeal.defs (F := Idealize.ShloMosaic.Ideal)) _ _).mono (fun r h c => ?_) (Cert.FguRefIdeal.Value.run (F := Idealize.ShloMosaic.Ideal) m' g')
  obtain ⟨g0, g1⟩ := hagree c
  refine ⟨(h c).1.trans ((Cert.FguRefIdeal.Read.val_main_v9_eq (F := Idealize.ShloMosaic.Ideal) _ _).trans ((refG _ _).trans ?_)), (h c).2.1.trans ((Cert.FguRefIdeal.Read.val_main_v12_eq (F := Idealize.ShloMosaic.Ideal) _ _).trans ((refA _ _).trans ?_)), (h c).2.2⟩
  · exact (congrArg₂ gu g0 g1).trans (arr3 m c).symm
  · exact (congrArg₂ act g0 g1).trans (arr4 m c).symm

end Cert.Bwd.Fgu

end
-- ==== Proof.Bwd.Fdown.lean ====
module

public import proofs.«01_k».proof.Defs
public import proofs.«01_k».proof.Proof.Gen.FdownIdeal
public import proofs.«01_k».proof.Proof.Gen.FdownIdeal.Value
public import proofs.«01_k».proof.Proof.Gen.FdownRefIdeal
public import proofs.«01_k».proof.Proof.Gen.FdownRefIdeal.Run
public import proofs.«01_k».proof.Proof.Gen.FdownRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.Fdown

open Cert.FdownIdeal Cert.FdownIdeal.Gen Idealize.ShloMosaic Idealize.ShloMosaic.TcCoe Idealize.ShloMosaic.Tactic Idealize.SL.Sem

/-! # The feed-forward's second product: four blocks of columns, summed, halved, and added to the residual -/

/-- The index maps: a tile of rows of a block, the block's weight, and the tile of rows of the residual and of the result. -/
theorem idx : ∀ t : Fin cfg0.N, win0_0.index t = ![t.val % 4, t.val / 4, 0] ∧ win0_1.index t = ![0, t.val % 4, 0, 0] ∧ win0_2.index t = ![t.val / 4, 0] ∧ win0_3.index t = ![t.val / 4, 0] :=
  (by decide +kernel : ∀ t : Fin grid0.N, _)

abbrev pj (t : Fin cfg0.N) : Fin 4 := ⟨t.val % 4, by omega⟩
abbrev row (t : Fin cfg0.N) (s : Fin 1024) : Fin 2048 := ⟨t.val / 4 * 1024 + s.val, by have := t.isLt; have e : cfg0.N = 8 := N_0; omega⟩

def half1 : EReal := Ideal.ofBits .f32 0x3F000000#32

/-- The residual and half the product, from the whole arrays. -/
def prod (x : S2048x1024.Idx → EReal) (a : S4x2048x704.Idx → EReal) (w : S1x4x704x1024.Idx → EReal) : S2048x1024.Idx → EReal :=
  fun y => x y + half1 * ∑ j : Fin 4, ∑ f : Fin 704, a (ix3 j (y 0) f) * w (ix4 0 j f (y 1))

theorem pay1 (x0 : Vec Idealize.ShloMosaic.Ideal S1x1024x704 .bf16) (x1 : Vec Idealize.ShloMosaic.Ideal S1x1x704x1024 .bf16) (s : Fin 1024) (d : Fin 1024) :
    (k0_pay1 x0 x1 (ix2 s d) : EReal) = ∑ f : Fin 704, x0 (ix3 0 s f) * x1 (ix4 0 0 f d) := by
  unfold k0_pay1
  pointwise

theorem pay2 (x0 : Vec Idealize.ShloMosaic.Ideal S1x1024x704 .bf16) (x1 : Vec Idealize.ShloMosaic.Ideal S1x1x704x1024 .bf16) (s : Fin 1024) (d : Fin 1024) :
    (k0_pay2 x0 x1 (ix2 s d) : EReal) = ∑ f : Fin 704, x0 (ix3 0 s f) * x1 (ix4 0 0 f d) := by
  refine Eq.trans ?_ (pay1 x0 x1 s d)
  unfold k0_pay2
  pointwise

theorem pay3 (x0 : Vec Idealize.ShloMosaic.Ideal S1x1024x704 .bf16) (x1 : Vec Idealize.ShloMosaic.Ideal S1x1x704x1024 .bf16) (xs : Vec Idealize.ShloMosaic.Ideal S1024x1024 .f32) (s : Fin 1024) (d : Fin 1024) :
    (k0_pay3 x0 x1 xs (ix2 s d) : EReal) = xs (ix2 s d) + ∑ f : Fin 704, x0 (ix3 0 s f) * x1 (ix4 0 0 f d) := by
  rw [← pay1]
  unfold k0_pay3
  pointwise

theorem pay4 (xs x2 : Vec Idealize.ShloMosaic.Ideal S1024x1024 .f32) (s : Fin 1024) (d : Fin 1024) :
    (k0_pay4 xs x2 (ix2 s d) : EReal) = x2 (ix2 s d) + half1 * xs (ix2 s d) := by
  unfold k0_pay4 half1
  pointwise

theorem ix2_eta (y : S1024x1024.Idx) : y = ix2 (⟨(y 0).val, (y 0).isLt⟩ : Fin 1024) (⟨(y 1).val, (y 1).isLt⟩ : Fin 1024) := by
  funext a; match a with | ⟨0, _⟩ => rfl | ⟨1, _⟩ => rfl

theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

theorem sout0_A_0_eq (c : Dev nD) (i : grid0.Coords) (arg3 : Memref sig .tc .vmem S1x1024x704 .bf16) (harg3 : arg3.IsWhole) (arg4 : Memref sig .tc .vmem S1x1x704x1024 .bf16) (harg4 : arg4.IsWhole)
    (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (hc2 : ¬cond0_2 i)
    (x0 : Vec Idealize.ShloMosaic.Ideal S1x1024x704 .bf16) (x1 : Vec Idealize.ShloMosaic.Ideal S1x1x704x1024 .bf16) (x2 : Vec Idealize.ShloMosaic.Ideal S1024x1024 .f32) :
    sout0_A_0 c i arg3 harg3 arg4 harg4 arg5 harg5 arg6 harg6 arg7 harg7 hc0 hc1 hc2 x0 x1 x2 = k0_pay2 x0 x1 := by
  unfold sout0_A_0
  rw [View.read_writes_eq_canon _ _ _ (scover0_A_0 c i arg3 harg3 arg4 harg4 arg5 harg5 arg6 harg6 arg7 harg7 hc0 hc1 hc2 x0 x1 x2)]
  unfold kernelRun0_A
  dsimp only
  sl_unfold_words
  simp only [View.readAt_eq_ld, harg3.read_unread, harg4.read_unread, harg5.read_unread, harg7.read_unread, harg6.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl | ⟨3, _⟩ => rfl)]

theorem sout0_B_0_eq (c : Dev nD) (i : grid0.Coords) (arg3 : Memref sig .tc .vmem S1x1024x704 .bf16) (harg3 : arg3.IsWhole) (arg4 : Memref sig .tc .vmem S1x1x704x1024 .bf16) (harg4 : arg4.IsWhole)
    (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (hc2 : ¬cond0_2 i)
    (x0 : Vec Idealize.ShloMosaic.Ideal S1x1024x704 .bf16) (x1 : Vec Idealize.ShloMosaic.Ideal S1x1x704x1024 .bf16) (x2 : Vec Idealize.ShloMosaic.Ideal S1024x1024 .f32) (xs0 : Vec Idealize.ShloMosaic.Ideal S1024x1024 .f32) :
    sout0_B_0 c i arg3 harg3 arg4 harg4 arg5 harg5 arg6 harg6 arg7 harg7 hc0 hc1 hc2 x0 x1 x2 xs0 = k0_pay3 x0 x1 xs0 := by
  unfold sout0_B_0
  rw [View.read_writes_eq_canon _ _ _ (scover0_B_0 c i arg3 harg3 arg4 harg4 arg5 harg5 arg6 harg6 arg7 harg7 hc0 hc1 hc2 x0 x1 x2 xs0)]
  unfold kernelRun0_B
  dsimp only
  sl_unfold_words
  simp only [View.readAt_eq_ld, harg3.read_unread, harg4.read_unread, harg5.read_unread, harg7.read_unread, harg6.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl)]

theorem sout0_C_0_eq (c : Dev nD) (i : grid0.Coords) (arg3 : Memref sig .tc .vmem S1x1024x704 .bf16) (harg3 : arg3.IsWhole) (arg4 : Memref sig .tc .vmem S1x1x704x1024 .bf16) (harg4 : arg4.IsWhole)
    (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (hc2 : cond0_2 i)
    (x0 : Vec Idealize.ShloMosaic.Ideal S1x1024x704 .bf16) (x1 : Vec Idealize.ShloMosaic.Ideal S1x1x704x1024 .bf16) (x2 : Vec Idealize.ShloMosaic.Ideal S1024x1024 .f32) (xs0 : Vec Idealize.ShloMosaic.Ideal S1024x1024 .f32) :
    sout0_C_0 c i arg3 harg3 arg4 harg4 arg5 harg5 arg6 harg6 arg7 harg7 hc0 hc1 hc2 x0 x1 x2 xs0 = k0_pay3 x0 x1 xs0 := by
  unfold sout0_C_0
  rw [View.read_writes_eq_canon _ _ _ (scover0_C_0 c i arg3 harg3 arg4 harg4 arg5 harg5 arg6 harg6 arg7 harg7 hc0 hc1 hc2 x0 x1 x2 xs0)]
  unfold kernelRun0_C
  dsimp only
  sl_unfold_words
  simp only [View.readAt_eq_ld, harg3.read_unread, harg4.read_unread, harg5.read_unread, harg7.read_unread, harg6.read_unread]
  refine (View.canon_unit_zero (by funext a; match a with | ⟨0, _⟩ => rfl | ⟨1, _⟩ => rfl) _ _).trans ?_
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl)]

theorem out0_C_3_eq (c : Dev nD) (i : grid0.Coords) (arg3 : Memref sig .tc .vmem S1x1024x704 .bf16) (harg3 : arg3.IsWhole) (arg4 : Memref sig .tc .vmem S1x1x704x1024 .bf16) (harg4 : arg4.IsWhole)
    (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (hc2 : cond0_2 i)
    (x0 : Vec Idealize.ShloMosaic.Ideal S1x1024x704 .bf16) (x1 : Vec Idealize.ShloMosaic.Ideal S1x1x704x1024 .bf16) (x2 : Vec Idealize.ShloMosaic.Ideal S1024x1024 .f32) (xs0 : Vec Idealize.ShloMosaic.Ideal S1024x1024 .f32) :
    out0_C_3 c i arg3 harg3 arg4 harg4 arg5 harg5 arg6 harg6 arg7 harg7 hc0 hc1 hc2 x0 x1 x2 xs0 = k0_pay4 (k0_pay3 x0 x1 xs0) x2 := by
  unfold out0_C_3
  rw [View.read_writes_eq_canon _ _ _ (cover0_C_3 c i arg3 harg3 arg4 harg4 arg5 harg5 arg6 harg6 arg7 harg7 hc0 hc1 hc2 x0 x1 x2 xs0)]
  unfold kernelRun0_C
  dsimp only
  sl_unfold_words
  simp only [View.readAt_eq_ld, harg3.read_unread, harg4.read_unread, harg5.read_unread, harg7.read_unread, harg6.read_unread]
  refine (View.canon_unit_zero (by funext a; match a with | ⟨0, _⟩ => rfl | ⟨1, _⟩ => rfl) _ _).trans ?_
  refine congrArg₂ k0_pay4 ((View.readCov_unit_zero _ (by funext a; match a with | ⟨0, _⟩ => rfl | ⟨1, _⟩ => rfl) _ _).trans ?_) (View.ld_unit_zero (by funext a; match a with | ⟨0, _⟩ => rfl | ⟨1, _⟩ => rfl) _ _)
  rw [View.ld_unit_zero (by funext a; match a with | ⟨0, _⟩ => rfl | ⟨1, _⟩ => rfl | ⟨2, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl)]

section
variable (m : (ℓ : Loc nD τ sig) → Buf (Elt Idealize.ShloMosaic.Ideal) ℓ) (c : Dev nD)

abbrev x : S2048x1024.Idx → EReal := m ((c : Thread nD τ).loc main_arg0)
abbrev a : S4x2048x704.Idx → EReal := m ((c : Thread nD τ).loc main_arg1)
abbrev w : S1x4x704x1024.Idx → EReal := m ((c : Thread nD τ).loc main_arg2)

theorem blk0 (t : Fin cfg0.N) (s : Fin 1024) (f : Fin 704) : (iblk m c 0 t (ix3 0 s f) : EReal) = a m c (ix3 (pj t) (row t s) f) := by
  show a m c ((win0_0.blk t).view.emb (ix3 0 s f)) = _
  generalize a m c = W; blk_ext [(idx t).1]
theorem blk1 (t : Fin cfg0.N) (f : Fin 704) (d : Fin 1024) : (iblk m c 1 t (ix4 0 0 f d) : EReal) = w m c (ix4 0 (pj t) f d) := by
  show w m c ((win0_1.blk t).view.emb (ix4 0 0 f d)) = _
  generalize w m c = W; blk_ext [(idx t).2.1]
theorem blk2 (t : Fin cfg0.N) (s d : Fin 1024) : (iblk m c 2 t (ix2 s d) : EReal) = x m c (ix2 (row t s) d) := by
  show x m c ((win0_2.blk t).view.emb (ix2 s d)) = _
  generalize x m c = W; blk_ext [(idx t).2.2.1]
theorem emb3 (t : Fin cfg0.N) (s d : Fin 1024) : (win0_3.blk t).view.emb (ix2 s d) = (ix2 (row t s) d : S2048x1024.Idx) := by
  blk_ext [(idx t).2.2.2]

/-- What point `t` adds. -/
def term (t : Fin cfg0.N) (s : Fin 1024) (d : Fin 1024) : EReal :=
  ∑ f : Fin 704, a m c (ix3 (pj t) (row t s) f) * w m c (ix4 0 (pj t) f d)

theorem first (t : Fin cfg0.N) (h0 : t.val % 4 = 0) (s : Fin 1024) (d : Fin 1024) :
    ((outsAt0 m c t.val t.isLt).2 (ix2 s d) : EReal) = 0 + term m c t s d := by
  simp only [outsAt0_A m c t h0 (by omega) (by omega)]
  rw [sout0_A_0_eq, pay2, zero_add]
  simp only [blk0, blk1]
  rfl

theorem next (t : Fin cfg0.N) (h0 : ¬t.val % 4 = 0) (s : Fin 1024) (d : Fin 1024) :
    ((outsAt0 m c t.val t.isLt).2 (ix2 s d) : EReal) = (outsAt0 m c (t.val - 1) (Nat.lt_of_le_of_lt (Nat.sub_le _ _) t.isLt)).2 (ix2 s d) + term m c t s d := by
  by_cases h2 : t.val % 4 = 3
  · simp only [outsAt0_C m c t h0 (by omega) h2]
    rw [sout0_C_0_eq, pay3]
    simp only [blk0, blk1]
    rfl
  · simp only [outsAt0_B m c t h0 (by omega) h2]
    rw [sout0_B_0_eq, pay3]
    simp only [blk0, blk1]
    rfl

theorem last (t : Fin cfg0.N) (h3 : t.val % 4 = 3) (s : Fin 1024) (d : Fin 1024) :
    ((outsAt0 m c t.val t.isLt).1 (ix2 s d) : EReal) = prod (x m c) (a m c) (w m c) (ix2 (row t s) d) := by
  have hN : cfg0.N = 8 := N_0
  have e := Pipeline.eq_sum_fin_of_reset_step_of_flush (M := EReal) (fun n h => (outsAt0 m c n h).2 (ix2 s d)) 4 0 (fun t => term m c t s d)
    (fun t h => first m c t h s d) (fun t h => next m c t h s d) t h3
  have e2 : ((outsAt0 m c t.val t.isLt).1 (ix2 s d) : EReal) = x m c (ix2 (row t s) d) + half1 * (outsAt0 m c t.val t.isLt).2 (ix2 s d) := by
    simp only [outsAt0_C m c t (by omega) (by omega) h3]
    rw [sout0_C_0_eq, out0_C_3_eq, pay4, blk2]
  refine e2.trans ?_
  show _ = x m c (ix2 (row t s) d) + half1 * ∑ j : Fin 4, ∑ f : Fin 704, a m c (ix3 j (row t s) f) * w m c (ix4 0 j f d)
  refine congrArg (fun q : EReal => x m c (ix2 (row t s) d) + half1 * q) (e.trans ?_)
  rw [zero_add]
  refine Finset.sum_congr rfl fun j _ => ?_
  have hj : pj ⟨4 * (t.val / 4) + j.val, by have := t.isLt; have := j.isLt; omega⟩ = j := Fin.ext (by show (4 * (t.val / 4) + j.val) % 4 = j.val; have := j.isLt; omega)
  have hr : row ⟨4 * (t.val / 4) + j.val, by have := t.isLt; have := j.isLt; omega⟩ s = row t s := Fin.ext (by show (4 * (t.val / 4) + j.val) / 4 * 1024 + s.val = t.val / 4 * 1024 + s.val; have := j.isLt; omega)
  unfold term
  rw [hj, hr]

theorem covers3 : (cfg0.win 3).Covers := by decide +kernel

theorem arr3 : (dats m 0 c).arrAt 3 cfg0.N = prod (x m c) (a m c) (w m c) := by
  refine (dats m 0 c).arrAt_eq_of_covers 3 _ covers3 fun t hf y => ?_
  blk_simp
  rw [after0_3]
  obtain ⟨s, d, rfl⟩ : ∃ (s d : Fin 1024), y = ix2 s d := ⟨_, _, ix2_eta y⟩
  exact (last m c t ((flush0_3 t).mp hf) s d).trans (congrArg _ (emb3 t s d).symm)

end

theorem ref (x0 : (⟨S2048x1024, .f32⟩ : BufTy).Contents (Elt Idealize.ShloMosaic.Ideal)) (x1 : (⟨S4x2048x704, .bf16⟩ : BufTy).Contents (Elt Idealize.ShloMosaic.Ideal)) (x2 : (⟨S1x4x704x1024, .bf16⟩ : BufTy).Contents (Elt Idealize.ShloMosaic.Ideal)) :
    Cert.FdownRefIdeal.Read.val_main_v6 (F := Idealize.ShloMosaic.Ideal) x0 x1 x2 = prod x0 x1 x2 := by
  funext y
  obtain ⟨i, j, rfl⟩ : ∃ (i : Fin 2048) (j : Fin 1024), y = ix2 i j := ⟨_, _, ix2_eta' y⟩
  unfold Cert.FdownRefIdeal.Read.val_main_v6 Cert.FdownRefIdeal.Read.val_main_v5 Cert.FdownRefIdeal.Read.val_main_v4 Cert.FdownRefIdeal.Read.val_main_cst Cert.FdownRefIdeal.Read.val_main_v3 Cert.FdownRefIdeal.Read.val_main_v2 Cert.FdownRefIdeal.Read.val_main_v1 Cert.FdownRefIdeal.Read.val_main_v0
  pointwise
  exact congrArg (fun q : EReal => x0 (ix2 i j) + half1 * q) Finset.sum_comm

theorem value : Cert.algebraic_FdownIdeal_FdownRefIdeal (hFdownIdeal := Cert.FdownIdeal.Gen.facts) (hFdownRefIdeal := Cert.FdownRefIdeal.Gen.facts) := by
  intro m g m' g' _ hagree
  refine ⟨fun c => _, Cert.FdownIdeal.Value.run_blocks m g, ?_⟩
  refine (θ_run (Cert.FdownRefIdeal.defs (F := Idealize.ShloMosaic.Ideal)) _ _).mono (fun r h c => ?_) (Cert.FdownRefIdeal.Value.run (F := Idealize.ShloMosaic.Ideal) m' g')
  obtain ⟨g0, g1, g2⟩ := hagree c
  refine ⟨(h c).1.trans ((Cert.FdownRefIdeal.Read.val_main_v6_eq (F := Idealize.ShloMosaic.Ideal) _ _ _).trans ?_), (h c).2⟩
  rw [g0, g1, g2]
  exact (ref _ _ _).trans (arr3 m c).symm

end Cert.Bwd.Fdown

end
-- ==== Proof.Bwd.FsqC.lean ====
module

public import proofs.«01_k».proof.Defs
public import proofs.«01_k».proof.Proof.Gen.FsqCIdeal
public import proofs.«01_k».proof.Proof.Gen.FsqCIdeal.Value
public import proofs.«01_k».proof.Proof.Gen.FsqCRefIdeal
public import proofs.«01_k».proof.Proof.Gen.FsqCRefIdeal.Run
public import proofs.«01_k».proof.Proof.Gen.FsqCRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.FsqC

open Cert.FsqCIdeal Cert.FsqCIdeal.Gen Idealize.ShloMosaic Idealize.ShloMosaic.TcCoe Idealize.ShloMosaic.Tactic Idealize.SL.Sem

/-! # The convolution branch's output product -/

/-- The index maps: a tile of rows, the one weight, and the tile of rows again. -/
theorem idx : ∀ t : Fin cfg0.N, win0_0.index t = ![t.val, 0] ∧ win0_1.index t = ![0, 0, 0, 0] ∧ win0_2.index t = ![t.val, 0] :=
  (by decide +kernel : ∀ t : Fin grid0.N, _)

/-- Row `i` of tile `t`. -/
abbrev row (t : Fin cfg0.N) (i : Fin 1024) : Fin 2048 := ⟨t.val * 1024 + i.val, by have := t.isLt; have e : cfg0.N = 2 := N_0; omega⟩

/-- The product, from the whole arrays. -/
def prod (a : S2048x1024.Idx → EReal) (w : S1x4x1024x1024.Idx → EReal) : S2048x1024.Idx → EReal :=
  fun y => ∑ k : Fin 1024, a (ix2 (y 0) k) * w (ix4 0 0 k (y 1))

theorem pay (x0 : Vec Idealize.ShloMosaic.Ideal S1024x1024 .bf16) (x1 : Vec Idealize.ShloMosaic.Ideal S1x1x1024x1024 .bf16) (i j : Fin 1024) :
    (k0_pay1 x0 x1 (ix2 i j) : EReal) = ∑ k : Fin 1024, x0 (ix2 i k) * x1 (ix4 0 0 k j) := by
  unfold k0_pay1
  pointwise

theorem ix2_eta (y : S1024x1024.Idx) : y = ix2 (⟨(y 0).val, (y 0).isLt⟩ : Fin 1024) (⟨(y 1).val, (y 1).isLt⟩ : Fin 1024) := by
  funext a; match a with | ⟨0, _⟩ => rfl | ⟨1, _⟩ => rfl

theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

section
variable (m : (ℓ : Loc nD τ sig) → Buf (Elt Idealize.ShloMosaic.Ideal) ℓ) (c : Dev nD)

abbrev a : S2048x1024.Idx → EReal := m ((c : Thread nD τ).loc main_arg0)
abbrev w : S1x4x1024x1024.Idx → EReal := m ((c : Thread nD τ).loc main_arg1)

theorem blk0 (t : Fin cfg0.N) (i k : Fin 1024) : (iblk m c 0 t (ix2 i k) : EReal) = a m c (ix2 (row t i) k) := by
  show a m c ((win0_0.blk t).view.emb (ix2 i k)) = _
  generalize a m c = W; blk_ext [(idx t).1]
theorem blk1 (t : Fin cfg0.N) (j k : Fin 1024) : (iblk m c 1 t (ix4 0 0 j k) : EReal) = w m c (ix4 0 0 j k) := by
  show w m c ((win0_1.blk t).view.emb (ix4 0 0 j k)) = _
  generalize w m c = W; blk_ext [(idx t).2.1]
theorem emb2 (t : Fin cfg0.N) (i j : Fin 1024) : (win0_2.blk t).view.emb (ix2 i j) = (ix2 (row t i) j : S2048x1024.Idx) := by
  blk_ext [(idx t).2.2]

theorem covers2 : (cfg0.win 2).Covers := by decide +kernel

theorem arr2 : (dats m 0 c).arrAt 2 cfg0.N = prod (a m c) (w m c) := by
  refine (dats m 0 c).arrAt_eq_of_covers 2 _ covers2 fun t hf y => ?_
  blk_simp
  rw [after0_2]
  obtain ⟨i, j, rfl⟩ : ∃ (i j : Fin 1024), y = ix2 i j := ⟨_, _, ix2_eta y⟩
  have e : (out0_2 (iblk m c 0 t) (iblk m c 1 t) (ix2 i j) : EReal) = prod (a m c) (w m c) (ix2 (row t i) j) := by
    unfold out0_2
    rw [View.canon_unit_zero (by funext a; match a with | ⟨0, _⟩ => rfl | ⟨1, _⟩ => rfl)]
    rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl)]
    rw [pay]
    simp only [blk0, blk1]
    rfl
  exact e.trans (congrArg _ (emb2 t i j).symm)

end

theorem ref (x0 : (⟨S2048x1024, .bf16⟩ : BufTy).Contents (Elt Idealize.ShloMosaic.Ideal)) (x1 : (⟨S1x4x1024x1024, .bf16⟩ : BufTy).Contents (Elt Idealize.ShloMosaic.Ideal)) :
    Cert.FsqCRefIdeal.Read.val_main_v4 (F := Idealize.ShloMosaic.Ideal) x0 x1 = prod x0 x1 := by
  funext y
  obtain ⟨i, j, rfl⟩ : ∃ (i : Fin 2048) (j : Fin 1024), y = ix2 i j := ⟨_, _, ix2_eta' y⟩
  unfold Cert.FsqCRefIdeal.Read.val_main_v4 Cert.FsqCRefIdeal.Read.val_main_v3 Cert.FsqCRefIdeal.Read.val_main_v2 Cert.FsqCRefIdeal.Read.val_main_v1 Cert.FsqCRefIdeal.Read.val_main_v0
  pointwise
  rfl

theorem value : Cert.algebraic_FsqCIdeal_FsqCRefIdeal (hFsqCIdeal := Cert.FsqCIdeal.Gen.facts) (hFsqCRefIdeal := Cert.FsqCRefIdeal.Gen.facts) := by
  intro m g m' g' _ hagree
  refine ⟨fun c => _, Cert.FsqCIdeal.Value.run_blocks m g, ?_⟩
  refine (θ_run (Cert.FsqCRefIdeal.defs (F := Idealize.ShloMosaic.Ideal)) _ _).mono (fun r h c => ?_) (Cert.FsqCRefIdeal.Value.run (F := Idealize.ShloMosaic.Ideal) m' g')
  obtain ⟨g0, g1⟩ := hagree c
  refine ⟨(h c).1.trans ((Cert.FsqCRefIdeal.Read.val_main_v4_eq (F := Idealize.ShloMosaic.Ideal) _ _).trans ((ref _ _).trans ?_)), (h c).2⟩
  exact (congrArg₂ prod g0 g1).trans (arr2 m c).symm

end Cert.Bwd.FsqC

end
-- ==== Proof.Bwd.FsqS.lean ====
module

public import proofs.«01_k».proof.Defs
public import proofs.«01_k».proof.Proof.Gen.FsqSIdeal
public import proofs.«01_k».proof.Proof.Gen.FsqSIdeal.Value
public import proofs.«01_k».proof.Proof.Gen.FsqSRefIdeal
public import proofs.«01_k».proof.Proof.Gen.FsqSRefIdeal.Run
public import proofs.«01_k».proof.Proof.Gen.FsqSRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.FsqS

open Cert.FsqSIdeal Cert.FsqSIdeal.Gen Idealize.ShloMosaic Idealize.ShloMosaic.TcCoe Idealize.ShloMosaic.Tactic Idealize.SL.Sem

/-! # The spatial gating branch's output product -/

/-- The index maps: a tile of rows, the one weight, and the tile of rows again. -/
theorem idx : ∀ t : Fin cfg0.N, win0_0.index t = ![t.val, 0] ∧ win0_1.index t = ![0, 1, 0, 0] ∧ win0_2.index t = ![t.val, 0] :=
  (by decide +kernel : ∀ t : Fin grid0.N, _)

/-- Row `i` of tile `t`. -/
abbrev row (t : Fin cfg0.N) (i : Fin 1024) : Fin 2048 := ⟨t.val * 1024 + i.val, by have := t.isLt; have e : cfg0.N = 2 := N_0; omega⟩

/-- The product, from the whole arrays. -/
def prod (a : S2048x1024.Idx → EReal) (w : S1x4x1024x1024.Idx → EReal) : S2048x1024.Idx → EReal :=
  fun y => ∑ k : Fin 1024, a (ix2 (y 0) k) * w (ix4 0 1 k (y 1))

theorem pay (x0 : Vec Idealize.ShloMosaic.Ideal S1024x1024 .bf16) (x1 : Vec Idealize.ShloMosaic.Ideal S1x1x1024x1024 .bf16) (i j : Fin 1024) :
    (k0_pay1 x0 x1 (ix2 i j) : EReal) = ∑ k : Fin 1024, x0 (ix2 i k) * x1 (ix4 0 0 k j) := by
  unfold k0_pay1
  pointwise

theorem ix2_eta (y : S1024x1024.Idx) : y = ix2 (⟨(y 0).val, (y 0).isLt⟩ : Fin 1024) (⟨(y 1).val, (y 1).isLt⟩ : Fin 1024) := by
  funext a; match a with | ⟨0, _⟩ => rfl | ⟨1, _⟩ => rfl

theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

section
variable (m : (ℓ : Loc nD τ sig) → Buf (Elt Idealize.ShloMosaic.Ideal) ℓ) (c : Dev nD)

abbrev a : S2048x1024.Idx → EReal := m ((c : Thread nD τ).loc main_arg0)
abbrev w : S1x4x1024x1024.Idx → EReal := m ((c : Thread nD τ).loc main_arg1)

theorem blk0 (t : Fin cfg0.N) (i k : Fin 1024) : (iblk m c 0 t (ix2 i k) : EReal) = a m c (ix2 (row t i) k) := by
  show a m c ((win0_0.blk t).view.emb (ix2 i k)) = _
  generalize a m c = W; blk_ext [(idx t).1]
theorem blk1 (t : Fin cfg0.N) (j k : Fin 1024) : (iblk m c 1 t (ix4 0 0 j k) : EReal) = w m c (ix4 0 1 j k) := by
  show w m c ((win0_1.blk t).view.emb (ix4 0 0 j k)) = _
  generalize w m c = W; blk_ext [(idx t).2.1]
theorem emb2 (t : Fin cfg0.N) (i j : Fin 1024) : (win0_2.blk t).view.emb (ix2 i j) = (ix2 (row t i) j : S2048x1024.Idx) := by
  blk_ext [(idx t).2.2]

theorem covers2 : (cfg0.win 2).Covers := by decide +kernel

theorem arr2 : (dats m 0 c).arrAt 2 cfg0.N = prod (a m c) (w m c) := by
  refine (dats m 0 c).arrAt_eq_of_covers 2 _ covers2 fun t hf y => ?_
  blk_simp
  rw [after0_2]
  obtain ⟨i, j, rfl⟩ : ∃ (i j : Fin 1024), y = ix2 i j := ⟨_, _, ix2_eta y⟩
  have e : (out0_2 (iblk m c 0 t) (iblk m c 1 t) (ix2 i j) : EReal) = prod (a m c) (w m c) (ix2 (row t i) j) := by
    unfold out0_2
    rw [View.canon_unit_zero (by funext a; match a with | ⟨0, _⟩ => rfl | ⟨1, _⟩ => rfl)]
    rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl)]
    rw [pay]
    simp only [blk0, blk1]
    rfl
  exact e.trans (congrArg _ (emb2 t i j).symm)

end

theorem ref (x0 : (⟨S2048x1024, .bf16⟩ : BufTy).Contents (Elt Idealize.ShloMosaic.Ideal)) (x1 : (⟨S1x4x1024x1024, .bf16⟩ : BufTy).Contents (Elt Idealize.ShloMosaic.Ideal)) :
    Cert.FsqSRefIdeal.Read.val_main_v4 (F := Idealize.ShloMosaic.Ideal) x0 x1 = prod x0 x1 := by
  funext y
  obtain ⟨i, j, rfl⟩ : ∃ (i : Fin 2048) (j : Fin 1024), y = ix2 i j := ⟨_, _, ix2_eta' y⟩
  unfold Cert.FsqSRefIdeal.Read.val_main_v4 Cert.FsqSRefIdeal.Read.val_main_v3 Cert.FsqSRefIdeal.Read.val_main_v2 Cert.FsqSRefIdeal.Read.val_main_v1 Cert.FsqSRefIdeal.Read.val_main_v0
  pointwise
  rfl

theorem value : Cert.algebraic_FsqSIdeal_FsqSRefIdeal (hFsqSIdeal := Cert.FsqSIdeal.Gen.facts) (hFsqSRefIdeal := Cert.FsqSRefIdeal.Gen.facts) := by
  intro m g m' g' _ hagree
  refine ⟨fun c => _, Cert.FsqSIdeal.Value.run_blocks m g, ?_⟩
  refine (θ_run (Cert.FsqSRefIdeal.defs (F := Idealize.ShloMosaic.Ideal)) _ _).mono (fun r h c => ?_) (Cert.FsqSRefIdeal.Value.run (F := Idealize.ShloMosaic.Ideal) m' g')
  obtain ⟨g0, g1⟩ := hagree c
  refine ⟨(h c).1.trans ((Cert.FsqSRefIdeal.Read.val_main_v4_eq (F := Idealize.ShloMosaic.Ideal) _ _).trans ((ref _ _).trans ?_)), (h c).2⟩
  exact (congrArg₂ prod g0 g1).trans (arr2 m c).symm

end Cert.Bwd.FsqS

end
-- ==== Proof.Bwd.FsqA.lean ====
module

public import proofs.«01_k».proof.Defs
public import proofs.«01_k».proof.Proof.Gen.FsqAIdeal
public import proofs.«01_k».proof.Proof.Gen.FsqAIdeal.Value
public import proofs.«01_k».proof.Proof.Gen.FsqARefIdeal
public import proofs.«01_k».proof.Proof.Gen.FsqARefIdeal.Run
public import proofs.«01_k».proof.Proof.Gen.FsqARefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.FsqA

open Cert.FsqAIdeal Cert.FsqAIdeal.Gen Idealize.ShloMosaic Idealize.ShloMosaic.TcCoe Idealize.ShloMosaic.Tactic Idealize.SL.Sem

/-! # The attention branch's output product -/

/-- The index maps: a tile of rows, the one weight, and the tile of rows again. -/
theorem idx : ∀ t : Fin cfg0.N, win0_0.index t = ![t.val, 0] ∧ win0_1.index t = ![0, 2, 0, 0] ∧ win0_2.index t = ![t.val, 0] :=
  (by decide +kernel : ∀ t : Fin grid0.N, _)

/-- Row `i` of tile `t`. -/
abbrev row (t : Fin cfg0.N) (i : Fin 1024) : Fin 2048 := ⟨t.val * 1024 + i.val, by have := t.isLt; have e : cfg0.N = 2 := N_0; omega⟩

/-- The product, from the whole arrays. -/
def prod (a : S2048x1024.Idx → EReal) (w : S1x4x1024x1024.Idx → EReal) : S2048x1024.Idx → EReal :=
  fun y => ∑ k : Fin 1024, a (ix2 (y 0) k) * w (ix4 0 2 k (y 1))

theorem pay (x0 : Vec Idealize.ShloMosaic.Ideal S1024x1024 .f32) (x1 : Vec Idealize.ShloMosaic.Ideal S1x1x1024x1024 .bf16) (i j : Fin 1024) :
    (k0_pay1 x0 x1 (ix2 i j) : EReal) = ∑ k : Fin 1024, x0 (ix2 i k) * x1 (ix4 0 0 k j) := by
  unfold k0_pay1
  pointwise

theorem ix2_eta (y : S1024x1024.Idx) : y = ix2 (⟨(y 0).val, (y 0).isLt⟩ : Fin 1024) (⟨(y 1).val, (y 1).isLt⟩ : Fin 1024) := by
  funext a; match a with | ⟨0, _⟩ => rfl | ⟨1, _⟩ => rfl

theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

section
variable (m : (ℓ : Loc nD τ sig) → Buf (Elt Idealize.ShloMosaic.Ideal) ℓ) (c : Dev nD)

abbrev a : S2048x1024.Idx → EReal := m ((c : Thread nD τ).loc main_arg0)
abbrev w : S1x4x1024x1024.Idx → EReal := m ((c : Thread nD τ).loc main_arg1)

theorem blk0 (t : Fin cfg0.N) (i k : Fin 1024) : (iblk m c 0 t (ix2 i k) : EReal) = a m c (ix2 (row t i) k) := by
  show a m c ((win0_0.blk t).view.emb (ix2 i k)) = _
  generalize a m c = W; blk_ext [(idx t).1]
theorem blk1 (t : Fin cfg0.N) (j k : Fin 1024) : (iblk m c 1 t (ix4 0 0 j k) : EReal) = w m c (ix4 0 2 j k) := by
  show w m c ((win0_1.blk t).view.emb (ix4 0 0 j k)) = _
  generalize w m c = W; blk_ext [(idx t).2.1]
theorem emb2 (t : Fin cfg0.N) (i j : Fin 1024) : (win0_2.blk t).view.emb (ix2 i j) = (ix2 (row t i) j : S2048x1024.Idx) := by
  blk_ext [(idx t).2.2]

theorem covers2 : (cfg0.win 2).Covers := by decide +kernel

theorem arr2 : (dats m 0 c).arrAt 2 cfg0.N = prod (a m c) (w m c) := by
  refine (dats m 0 c).arrAt_eq_of_covers 2 _ covers2 fun t hf y => ?_
  blk_simp
  rw [after0_2]
  obtain ⟨i, j, rfl⟩ : ∃ (i j : Fin 1024), y = ix2 i j := ⟨_, _, ix2_eta y⟩
  have e : (out0_2 (iblk m c 0 t) (iblk m c 1 t) (ix2 i j) : EReal) = prod (a m c) (w m c) (ix2 (row t i) j) := by
    unfold out0_2
    rw [View.canon_unit_zero (by funext a; match a with | ⟨0, _⟩ => rfl | ⟨1, _⟩ => rfl)]
    rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl)]
    rw [pay]
    simp only [blk0, blk1]
    rfl
  exact e.trans (congrArg _ (emb2 t i j).symm)

end

theorem ref (x0 : (⟨S2048x1024, .f32⟩ : BufTy).Contents (Elt Idealize.ShloMosaic.Ideal)) (x1 : (⟨S1x4x1024x1024, .bf16⟩ : BufTy).Contents (Elt Idealize.ShloMosaic.Ideal)) :
    Cert.FsqARefIdeal.Read.val_main_v3 (F := Idealize.ShloMosaic.Ideal) x0 x1 = prod x0 x1 := by
  funext y
  obtain ⟨i, j, rfl⟩ : ∃ (i : Fin 2048) (j : Fin 1024), y = ix2 i j := ⟨_, _, ix2_eta' y⟩
  unfold Cert.FsqARefIdeal.Read.val_main_v3 Cert.FsqARefIdeal.Read.val_main_v2 Cert.FsqARefIdeal.Read.val_main_v1 Cert.FsqARefIdeal.Read.val_main_v0
  pointwise
  rfl

theorem value : Cert.algebraic_FsqAIdeal_FsqARefIdeal (hFsqAIdeal := Cert.FsqAIdeal.Gen.facts) (hFsqARefIdeal := Cert.FsqARefIdeal.Gen.facts) := by
  intro m g m' g' _ hagree
  refine ⟨fun c => _, Cert.FsqAIdeal.Value.run_blocks m g, ?_⟩
  refine (θ_run (Cert.FsqARefIdeal.defs (F := Idealize.ShloMosaic.Ideal)) _ _).mono (fun r h c => ?_) (Cert.FsqARefIdeal.Value.run (F := Idealize.ShloMosaic.Ideal) m' g')
  obtain ⟨g0, g1⟩ := hagree c
  refine ⟨(h c).1.trans ((Cert.FsqARefIdeal.Read.val_main_v3_eq (F := Idealize.ShloMosaic.Ideal) _ _).trans ((ref _ _).trans ?_)), (h c).2⟩
  exact (congrArg₂ prod g0 g1).trans (arr2 m c).symm

end Cert.Bwd.FsqA

end
-- ==== Proof.Bwd.FsqO.lean ====
module

public import proofs.«01_k».proof.Defs
public import proofs.«01_k».proof.Proof.Gen.FsqOIdeal
public import proofs.«01_k».proof.Proof.Gen.FsqOIdeal.Value
public import proofs.«01_k».proof.Proof.Gen.FsqORefIdeal
public import proofs.«01_k».proof.Proof.Gen.FsqORefIdeal.Run
public import proofs.«01_k».proof.Proof.Gen.FsqORefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.FsqO

open Cert.FsqOIdeal Cert.FsqOIdeal.Gen Idealize.ShloMosaic Idealize.ShloMosaic.TcCoe Idealize.ShloMosaic.Tactic Idealize.SL.Sem

/-! # The mixer's output product, added to the residual -/

/-- The index maps: a tile of rows, the one weight, and twice the tile of rows again. -/
theorem idx : ∀ t : Fin cfg0.N, win0_0.index t = ![t.val, 0] ∧ win0_1.index t = ![0, 3, 0, 0] ∧ win0_2.index t = ![t.val, 0] ∧ win0_3.index t = ![t.val, 0] :=
  (by decide +kernel : ∀ t : Fin grid0.N, _)

/-- Row `i` of tile `t`. -/
abbrev row (t : Fin cfg0.N) (i : Fin 1024) : Fin 2048 := ⟨t.val * 1024 + i.val, by have := t.isLt; have e : cfg0.N = 2 := N_0; omega⟩

/-- The residual and the product, from the whole arrays. -/
def prod (a : S2048x1024.Idx → EReal) (w : S1x4x1024x1024.Idx → EReal) (x : S2048x1024.Idx → EReal) : S2048x1024.Idx → EReal :=
  fun y => x y + ∑ k : Fin 1024, a (ix2 (y 0) k) * w (ix4 0 3 k (y 1))

theorem pay (x0 : Vec Idealize.ShloMosaic.Ideal S1024x1024 .bf16) (x1 : Vec Idealize.ShloMosaic.Ideal S1x1x1024x1024 .bf16) (x2 : Vec Idealize.ShloMosaic.Ideal S1024x1024 .f32) (i j : Fin 1024) :
    (k0_pay1 x0 x1 x2 (ix2 i j) : EReal) = x2 (ix2 i j) + ∑ k : Fin 1024, x0 (ix2 i k) * x1 (ix4 0 0 k j) := by
  unfold k0_pay1
  pointwise

theorem ix2_eta (y : S1024x1024.Idx) : y = ix2 (⟨(y 0).val, (y 0).isLt⟩ : Fin 1024) (⟨(y 1).val, (y 1).isLt⟩ : Fin 1024) := by
  funext a; match a with | ⟨0, _⟩ => rfl | ⟨1, _⟩ => rfl

theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

section
variable (m : (ℓ : Loc nD τ sig) → Buf (Elt Idealize.ShloMosaic.Ideal) ℓ) (c : Dev nD)

abbrev a : S2048x1024.Idx → EReal := m ((c : Thread nD τ).loc main_arg0)
abbrev w : S1x4x1024x1024.Idx → EReal := m ((c : Thread nD τ).loc main_arg1)
abbrev x : S2048x1024.Idx → EReal := m ((c : Thread nD τ).loc main_arg2)

theorem blk0 (t : Fin cfg0.N) (i k : Fin 1024) : (iblk m c 0 t (ix2 i k) : EReal) = a m c (ix2 (row t i) k) := by
  show a m c ((win0_0.blk t).view.emb (ix2 i k)) = _
  generalize a m c = W; blk_ext [(idx t).1]
theorem blk1 (t : Fin cfg0.N) (k j : Fin 1024) : (iblk m c 1 t (ix4 0 0 k j) : EReal) = w m c (ix4 0 3 k j) := by
  show w m c ((win0_1.blk t).view.emb (ix4 0 0 k j)) = _
  generalize w m c = W; blk_ext [(idx t).2.1]
theorem blk2 (t : Fin cfg0.N) (i j : Fin 1024) : (iblk m c 2 t (ix2 i j) : EReal) = x m c (ix2 (row t i) j) := by
  show x m c ((win0_2.blk t).view.emb (ix2 i j)) = _
  generalize x m c = W; blk_ext [(idx t).2.2.1]
theorem emb3 (t : Fin cfg0.N) (i j : Fin 1024) : (win0_3.blk t).view.emb (ix2 i j) = (ix2 (row t i) j : S2048x1024.Idx) := by
  blk_ext [(idx t).2.2.2]

theorem covers3 : (cfg0.win 3).Covers := by decide +kernel

theorem arr3 : (dats m 0 c).arrAt 3 cfg0.N = prod (a m c) (w m c) (x m c) := by
  refine (dats m 0 c).arrAt_eq_of_covers 3 _ covers3 fun t hf y => ?_
  blk_simp
  rw [after0_3]
  obtain ⟨i, j, rfl⟩ : ∃ (i j : Fin 1024), y = ix2 i j := ⟨_, _, ix2_eta y⟩
  have e : (out0_3 (iblk m c 0 t) (iblk m c 1 t) (iblk m c 2 t) (ix2 i j) : EReal) = prod (a m c) (w m c) (x m c) (ix2 (row t i) j) := by
    unfold out0_3
    rw [View.canon_unit_zero (by funext a; match a with | ⟨0, _⟩ => rfl | ⟨1, _⟩ => rfl)]
    rw [View.ld_unit_zero (by funext a; match a with | ⟨0, _⟩ => rfl | ⟨1, _⟩ => rfl), View.ld_unit_zero (by funext a; match a with | ⟨0, _⟩ => rfl | ⟨1, _⟩ => rfl | ⟨2, _⟩ => rfl | ⟨3, _⟩ => rfl), View.ld_unit_zero (by funext a; match a with | ⟨0, _⟩ => rfl | ⟨1, _⟩ => rfl)]
    rw [pay]
    simp only [blk0, blk1, blk2]
    rfl
  exact e.trans (congrArg _ (emb3 t i j).symm)

end

theorem ref (x0 : (⟨S2048x1024, .bf16⟩ : BufTy).Contents (Elt Idealize.ShloMosaic.Ideal)) (x1 : (⟨S1x4x1024x1024, .bf16⟩ : BufTy).Contents (Elt Idealize.ShloMosaic.Ideal)) (x2 : (⟨S2048x1024, .f32⟩ : BufTy).Contents (Elt Idealize.ShloMosaic.Ideal)) :
    Cert.FsqORefIdeal.Read.val_main_v5 (F := Idealize.ShloMosaic.Ideal) x0 x1 x2 = prod x0 x1 x2 := by
  funext y
  obtain ⟨i, j, rfl⟩ : ∃ (i : Fin 2048) (j : Fin 1024), y = ix2 i j := ⟨_, _, ix2_eta' y⟩
  unfold Cert.FsqORefIdeal.Read.val_main_v5 Cert.FsqORefIdeal.Read.val_main_v4 Cert.FsqORefIdeal.Read.val_main_v3 Cert.FsqORefIdeal.Read.val_main_v2 Cert.FsqORefIdeal.Read.val_main_v1 Cert.FsqORefIdeal.Read.val_main_v0
  pointwise
  rfl

theorem value : Cert.algebraic_FsqOIdeal_FsqORefIdeal (hFsqOIdeal := Cert.FsqOIdeal.Gen.facts) (hFsqORefIdeal := Cert.FsqORefIdeal.Gen.facts) := by
  intro m g m' g' _ hagree
  refine ⟨fun c => _, Cert.FsqOIdeal.Value.run_blocks m g, ?_⟩
  refine (θ_run (Cert.FsqORefIdeal.defs (F := Idealize.ShloMosaic.Ideal)) _ _).mono (fun r h c => ?_) (Cert.FsqORefIdeal.Value.run (F := Idealize.ShloMosaic.Ideal) m' g')
  obtain ⟨g0, g1, g2⟩ := hagree c
  refine ⟨(h c).1.trans ((Cert.FsqORefIdeal.Read.val_main_v5_eq (F := Idealize.ShloMosaic.Ideal) _ _ _).trans ?_), (h c).2⟩
  rw [g0, g1, g2]
  exact (ref _ _ _).trans (arr3 m c).symm

end Cert.Bwd.FsqO

end
-- ==== Proof.Bwd.Dconv.lean ====
module

public import proofs.«01_k».proof.Defs
public import proofs.«01_k».proof.Proof.Gen.DconvIdeal
public import proofs.«01_k».proof.Proof.Gen.DconvIdeal.Value
public import proofs.«01_k».proof.Proof.Gen.DconvRefIdeal
public import proofs.«01_k».proof.Proof.Gen.DconvRefIdeal.Run
public import proofs.«01_k».proof.Proof.Gen.DconvRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise

@[expose] public section

set_option maxRecDepth 16384

noncomputable section

namespace Cert.Bwd.Dconv

open Cert.DconvIdeal Cert.DconvIdeal.Gen Idealize.ShloMosaic Idealize.ShloMosaic.TcCoe Idealize.ShloMosaic.Tactic Idealize.SL.Sem

/-! # The gradients through the gated causal convolution -/

/-- The part and the column of a column of the joined gradients. -/
abbrev hi (q : Fin 3072) : Fin 3 := ⟨q.val / 1024, by omega⟩
abbrev lo (q : Fin 3072) : Fin 1024 := ⟨q.val % 1024, by omega⟩

/-- The index maps: a block of rows, the eight rows before it, the eight rows after it. -/
theorem idx : ∀ t : Fin cfg0.N, win0_0.index t = ![t.val, 0] ∧ win0_1.index t = ![t.val, 0] ∧ win0_2.index t = ![t.val, 1] ∧ win0_3.index t = ![t.val, 2] ∧ win0_4.index t = ![t.val * 64 - 1, 1] ∧ win0_5.index t = ![t.val * 64 - 1, 2] ∧ win0_6.index t = ![min (t.val * 64 + 64) 255, 0] ∧ win0_7.index t = ![min (t.val * 64 + 64) 255, 0] ∧ win0_8.index t = ![0, 0] ∧ win0_9.index t = ![t.val, 0] ∧ win0_10.index t = ![0, 0] :=
  (by decide +kernel : ∀ t : Fin grid0.N, _)

theorem coord : ∀ t : Fin cfg0.N, ((grid0.coords t) 0).val = t.val := (by decide +kernel : ∀ t : Fin grid0.N, _)

abbrev row (t : Fin cfg0.N) (s : Fin 512) : Fin 2048 := ⟨t.val * 512 + s.val, by have := t.isLt; have e : cfg0.N = 4 := N_0; omega⟩
/-- Column `d` of part `k` of the input product. -/
abbrev pcol (k : Fin 3) (d : Fin 1024) : Fin 11776 := ⟨k.val * 1024 + d.val, by omega⟩

theorem ix2_eta (y : S512x1024.Idx) : y = ix2 (⟨(y 0).val, (y 0).isLt⟩ : Fin 512) (⟨(y 1).val, (y 1).isLt⟩ : Fin 1024) := by
  funext a; match a with | ⟨0, _⟩ => rfl | ⟨1, _⟩ => rfl
theorem ix2_eta3 (y : S3x1024.Idx) : y = ix2 (⟨(y 0).val, (y 0).isLt⟩ : Fin 3) (⟨(y 1).val, (y 1).isLt⟩ : Fin 1024) := by
  funext a; match a with | ⟨0, _⟩ => rfl | ⟨1, _⟩ => rfl
theorem ix2_etaz (y : S512x3072.Idx) : y = ix2 (⟨(y 0).val, (y 0).isLt⟩ : Fin 512) (⟨(y 1).val, (y 1).isLt⟩ : Fin 3072) := by
  funext a; match a with | ⟨0, _⟩ => rfl | ⟨1, _⟩ => rfl
theorem ix2_etaZ (y : S2048x3072.Idx) : y = ix2 (⟨(y 0).val, (y 0).isLt⟩ : Fin 2048) (⟨(y 1).val, (y 1).isLt⟩ : Fin 3072) := by
  funext a; match a with | ⟨0, _⟩ => rfl | ⟨1, _⟩ => rfl

/-- One row of a block, read alone. -/
theorem ldrow3 (n : ℕ) (hn : n < 3) (X : Vec Idealize.ShloMosaic.Ideal S3x1024 .f32) (h) (d : Fin 1024) : (View.ld X (Rect.unit ![n, 0] ![1, 1024] h) (ix2 0 d) : EReal) = X (ix2 ⟨n, hn⟩ d) := by
  refine congrArg X ?_
  funext a
  match a with
  | ⟨0, _⟩ => exact Fin.ext (by show n + 1 * 0 = n; omega)
  | ⟨1, _⟩ => exact Fin.ext (by show 0 + 1 * d.val = d.val; omega)
theorem ldrow8 (n : ℕ) (hn : n < 8) (X : Vec Idealize.ShloMosaic.Ideal S8x1024 .f32) (h) (d : Fin 1024) : (View.ld X (Rect.unit ![n, 0] ![1, 1024] h) (ix2 0 d) : EReal) = X (ix2 ⟨n, hn⟩ d) := by
  refine congrArg X ?_
  funext a
  match a with
  | ⟨0, _⟩ => exact Fin.ext (by show n + 1 * 0 = n; omega)
  | ⟨1, _⟩ => exact Fin.ext (by show 0 + 1 * d.val = d.val; omega)

/-- The row a rotation by `n` brings to row `s`. -/
abbrev rot (n : ℕ) (s : Fin 512) : Fin 512 := ⟨(s.val + 512 - n) % 512, by omega⟩

/-- One where there are rows before the block, zero at the first block. -/
def kp (i : grid0.Coords) : EReal := if 0 < (i 0).val then 1 else 0
/-- One where there are rows after the block, zero at the last block. -/
def kn (i : grid0.Coords) : EReal := if (i 0).val < 3 then 1 else 0

theorem one_ext : (Scalar.extui 1#1 : BitVec 32).toInt = 1 := by decide
theorem zero_ext : (Scalar.extui 0#1 : BitVec 32).toInt = 0 := by decide

theorem pay3 (i : grid0.Coords) : (k0_pay3 (F := Idealize.ShloMosaic.Ideal) i : EReal) = kp i := by
  have e := (by decide +kernel : ∀ a : Fin 4, Scalar.cmpi .sgt (BitVec.ofNat 32 a.val) 0#32 = if 0 < a.val then 1#1 else 0#1) (i 0)
  unfold k0_pay3 kp
  dsimp only
  rw [e]
  split
  · pointwise
    rw [one_ext]
    norm_num
  · pointwise
    rw [zero_ext]
    norm_num
theorem pay9 (i : grid0.Coords) : (k0_pay9 (F := Idealize.ShloMosaic.Ideal) (BitVec.ofNat 32 (i 0).val) : EReal) = kn i := by
  have e := (by decide +kernel : ∀ a : Fin 4, Scalar.cmpi .slt (BitVec.ofNat 32 a.val) 3#32 = if a.val < 3 then 1#1 else 0#1) (i 0)
  unfold k0_pay9 kn
  dsimp only
  rw [e]
  split
  · pointwise
    rw [one_ext]
    norm_num
  · pointwise
    rw [zero_ext]
    norm_num

/-- Where the row number is compared, the choice is by the row. -/
theorem cmp : ∀ s : Fin 512, IntOp.cmpi .eq (BitVec.ofNat 32 s.val) 0#32 = (if s.val = 0 then 1#1 else 0#1) ∧ IntOp.cmpi .eq (BitVec.ofNat 32 s.val) 1#32 = (if s.val = 1 then 1#1 else 0#1) ∧ IntOp.cmpi .eq (BitVec.ofNat 32 s.val) 510#32 = (if s.val = 510 then 1#1 else 0#1) ∧ IntOp.cmpi .eq (BitVec.ofNat 32 s.val) 511#32 = (if s.val = 511 then 1#1 else 0#1) := by decide +kernel
theorem sel (p : Prop) [Decidable p] (a b : EReal) : Scalar.select (if p then 1#1 else 0#1) a b = if p then a else b := by
  by_cases h : p
  · rw [if_pos h, if_pos h]; rfl
  · rw [if_neg h, if_neg h]; rfl

theorem pay2 (v0 v1 : Vec Idealize.ShloMosaic.Ideal S512x1024 .f32) (s : Fin 512) (d : Fin 1024) : (k0_pay2 v0 v1 (ix2 s d) : EReal) = v0 (ix2 s d) * v1 (ix2 s d) := by
  unfold k0_pay2
  pointwise
theorem pay8 (v0 v1 : Vec Idealize.ShloMosaic.Ideal S512x1024 .f32) (s : Fin 512) (d : Fin 1024) : (k0_pay8 v0 v1 (ix2 s d) : EReal) = v0 (ix2 s d) * v1 (ix2 s d) := by
  unfold k0_pay8
  pointwise
/-- The rows one back. -/
theorem pay5 (i : grid0.Coords) (v0 v1 : Vec Idealize.ShloMosaic.Ideal S512x1024 .f32) (v6 v7 : Vec Idealize.ShloMosaic.Ideal S1x1024 .f32) (s : Fin 512) (d : Fin 1024) :
    (k0_pay5 i v0 v1 v6 v7 (ix2 s d) : EReal) = if s.val = 0 then v6 (ix2 0 d) * v7 (ix2 0 d) * kp i else v0 (ix2 (rot 1 s) d) * v1 (ix2 (rot 1 s) d) := by
  unfold k0_pay5 k0_pay4 k0_pay2
  pointwise
  rw [(cmp s).1, sel, pay3]
/-- The rows two back. -/
theorem pay6 (i : grid0.Coords) (v0 v1 : Vec Idealize.ShloMosaic.Ideal S512x1024 .f32) (v6 v7 v11 v12 : Vec Idealize.ShloMosaic.Ideal S1x1024 .f32) (s : Fin 512) (d : Fin 1024) :
    (k0_pay6 i v0 v1 v6 v7 v11 v12 (ix2 s d) : EReal) = if s.val = 0 then v11 (ix2 0 d) * v12 (ix2 0 d) * kp i else if s.val = 1 then v6 (ix2 0 d) * v7 (ix2 0 d) * kp i else v0 (ix2 (rot 2 s) d) * v1 (ix2 (rot 2 s) d) := by
  unfold k0_pay6 k0_pay4 k0_pay2
  pointwise
  rw [(cmp s).1, (cmp s).2.1, sel, sel, pay3]
/-- The rows one on. -/
theorem pay11 (i : grid0.Coords) (v0 v1 : Vec Idealize.ShloMosaic.Ideal S512x1024 .f32) (v6 v7 : Vec Idealize.ShloMosaic.Ideal S1x1024 .f32) (s : Fin 512) (d : Fin 1024) :
    (k0_pay11 (BitVec.ofNat 32 (i 0).val) v0 v1 v6 v7 (ix2 s d) : EReal) = if s.val = 511 then v6 (ix2 0 d) * v7 (ix2 0 d) * kn i else v0 (ix2 (rot 511 s) d) * v1 (ix2 (rot 511 s) d) := by
  unfold k0_pay11 k0_pay10 k0_pay8
  pointwise
  rw [(cmp s).2.2.2, sel, pay9]
theorem pay13 (i : grid0.Coords) (v0 v1 : Vec Idealize.ShloMosaic.Ideal S512x1024 .f32) (v6 v7 : Vec Idealize.ShloMosaic.Ideal S1x1024 .f32) (s : Fin 512) (d : Fin 1024) :
    (k0_pay13 (BitVec.ofNat 32 (i 0).val) v0 v1 v6 v7 (ix2 s d) : EReal) = if s.val = 510 then v6 (ix2 0 d) * v7 (ix2 0 d) * kn i else v0 (ix2 (rot 510 s) d) * v1 (ix2 (rot 510 s) d) := by
  unfold k0_pay13 k0_pay10 k0_pay8
  pointwise
  rw [(cmp s).2.2.1, sel, pay9]
theorem pay14 (i : grid0.Coords) (v6 v7 : Vec Idealize.ShloMosaic.Ideal S1x1024 .f32) (d : Fin 1024) :
    (k0_pay14 (BitVec.ofNat 32 (i 0).val) v6 v7 (ix2 0 d) : EReal) = v6 (ix2 0 d) * v7 (ix2 0 d) * kn i := by
  unfold k0_pay14
  pointwise
  rw [pay9]
theorem pay7 (v2 v22 v33 : Vec Idealize.ShloMosaic.Ideal S512x1024 .f32) (v34 v35 v36 : Vec Idealize.ShloMosaic.Ideal S1x1024 .f32) (s : Fin 512) (d : Fin 1024) :
    (k0_pay7 (F := Idealize.ShloMosaic.Ideal) v2 v22 v33 v34 v35 v36 (ix2 s d) : EReal) = v34 (ix2 0 d) * v33 (ix2 s d) + v35 (ix2 0 d) * v22 (ix2 s d) + v36 (ix2 0 d) * v2 (ix2 s d) := by
  unfold k0_pay7
  pointwise
theorem pay15 (v34 v35 v36 : Vec Idealize.ShloMosaic.Ideal S1x1024 .f32) (v47 v67 v75 : Vec Idealize.ShloMosaic.Ideal S512x1024 .f32) (v76 : Vec Idealize.ShloMosaic.Ideal S1x1024 .f32) (s : Fin 512) (d : Fin 1024) :
    (k0_pay15 (F := Idealize.ShloMosaic.Ideal) v34 v35 v36 v47 v67 k0_pay12 v75 v76 (ix2 s d) : EReal) = v36 (ix2 0 d) * v47 (ix2 s d) + v35 (ix2 0 d) * v67 (ix2 s d) + v34 (ix2 0 d) * (if s.val = 511 then v76 (ix2 0 d) else v75 (ix2 s d)) := by
  unfold k0_pay15 k0_pay12
  pointwise
  rw [(cmp s).2.2.2, sel]
theorem pay16 (v44 v45 : Vec Idealize.ShloMosaic.Ideal S512x1024 .f32) (s : Fin 512) (d : Fin 1024) : (k0_pay16 (F := Idealize.ShloMosaic.Ideal) v44 v45 (ix2 s d) : EReal) = v45 (ix2 s d) * v44 (ix2 s d) := by
  unfold k0_pay16
  pointwise
theorem pay17 (v34 v35 v36 : Vec Idealize.ShloMosaic.Ideal S1x1024 .f32) (v47 v67 v75 : Vec Idealize.ShloMosaic.Ideal S512x1024 .f32) (v76 : Vec Idealize.ShloMosaic.Ideal S1x1024 .f32) (x : Vec Idealize.ShloMosaic.Ideal S512x1024 .f32) (s : Fin 512) (d : Fin 1024) :
    (k0_pay17 (F := Idealize.ShloMosaic.Ideal) v34 v35 v36 v47 v67 k0_pay12 v75 v76 x (ix2 s d) : EReal) = k0_pay15 (F := Idealize.ShloMosaic.Ideal) v34 v35 v36 v47 v67 k0_pay12 v75 v76 (ix2 s d) * x (ix2 s d) := by
  unfold k0_pay17
  pointwise
theorem pay18 (v34 v35 v36 : Vec Idealize.ShloMosaic.Ideal S1x1024 .f32) (v47 v67 v75 : Vec Idealize.ShloMosaic.Ideal S512x1024 .f32) (v76 : Vec Idealize.ShloMosaic.Ideal S1x1024 .f32) (x : Vec Idealize.ShloMosaic.Ideal S512x1024 .f32) (s : Fin 512) (d : Fin 1024) :
    (k0_pay18 (F := Idealize.ShloMosaic.Ideal) v34 v35 v36 v47 v67 k0_pay12 v75 v76 x (ix2 s d) : EReal) = k0_pay15 (F := Idealize.ShloMosaic.Ideal) v34 v35 v36 v47 v67 k0_pay12 v75 v76 (ix2 s d) * x (ix2 s d) := by
  unfold k0_pay18
  pointwise
theorem pay19 (v2 v22 v33 v47 : Vec Idealize.ShloMosaic.Ideal S512x1024 .f32) (k : Fin 3) (d : Fin 1024) :
    (k0_pay19 (F := Idealize.ShloMosaic.Ideal) v2 v22 v33 v47 (ix2 k d) : EReal) = ∑ s : Fin 512, v47 (ix2 s d) * (![v33 (ix2 s d), v22 (ix2 s d), v2 (ix2 s d)] : Fin 3 → EReal) k := by
  unfold k0_pay19
  fin_cases k
  · pointwise
  · pointwise
  · pointwise
theorem pay1 (v107 xo : Vec Idealize.ShloMosaic.Ideal S3x1024 .f32) (k : Fin 3) (d : Fin 1024) : (k0_pay1 (F := Idealize.ShloMosaic.Ideal) v107 xo (ix2 k d) : EReal) = xo (ix2 k d) + v107 (ix2 k d) := by
  unfold k0_pay1
  pointwise

/-! What one block computes. -/

section
variable (i : grid0.Coords) (x0 x1 x2 x3 : S512x1024.Idx → EReal) (x4 x5 x6 x7 : S8x1024.Idx → EReal) (x8 : S3x1024.Idx → EReal) (k : Fin 3) (s : Fin 512) (d : Fin 1024)

def back1 : EReal := if s.val = 0 then x4 (ix2 7 d) * x5 (ix2 7 d) * kp i else x2 (ix2 (rot 1 s) d) * x3 (ix2 (rot 1 s) d)
def back2 : EReal := if s.val = 0 then x4 (ix2 6 d) * x5 (ix2 6 d) * kp i else if s.val = 1 then x4 (ix2 7 d) * x5 (ix2 7 d) * kp i else x2 (ix2 (rot 2 s) d) * x3 (ix2 (rot 2 s) d)
def on1 : EReal := if s.val = 511 then x6 (ix2 0 d) * x7 (ix2 0 d) * kn i else x0 (ix2 (rot 511 s) d) * x1 (ix2 (rot 511 s) d)
def on2 : EReal := if s.val = 511 then x6 (ix2 1 d) * x7 (ix2 1 d) * kn i else if s.val = 510 then x6 (ix2 0 d) * x7 (ix2 0 d) * kn i else x0 (ix2 (rot 510 s) d) * x1 (ix2 (rot 510 s) d)
def cvb : EReal := x8 (ix2 0 d) * back2 i x2 x3 x4 x5 s d + x8 (ix2 1 d) * back1 i x2 x3 x4 x5 s d + x8 (ix2 2 d) * (x2 (ix2 s d) * x3 (ix2 s d))
def dcab : EReal := x8 (ix2 2 d) * (x0 (ix2 s d) * x1 (ix2 s d)) + x8 (ix2 1 d) * on1 i x0 x1 x6 x7 s d + x8 (ix2 0 d) * on2 i x0 x1 x6 x7 s d
def dzb : EReal := (![x0 (ix2 s d) * cvb i x2 x3 x4 x5 x8 s d, dcab i x0 x1 x6 x7 x8 s d * x3 (ix2 s d), dcab i x0 x1 x6 x7 x8 s d * x2 (ix2 s d)] : Fin 3 → EReal) k
def dwb : EReal := ∑ s : Fin 512, x0 (ix2 s d) * x1 (ix2 s d) * (![back2 i x2 x3 x4 x5 s d, back1 i x2 x3 x4 x5 s d, x2 (ix2 s d) * x3 (ix2 s d)] : Fin 3 → EReal) k

theorem place (y : S512x3072.Idx) (h0 : (y 0).val = s.val) (h1 : (y 1).val = k.val * 1024 + d.val) :
    dzb i x0 x1 x2 x3 x4 x5 x6 x7 x8 (hi (y 1)) (y 0) (lo (y 1)) = dzb i x0 x1 x2 x3 x4 x5 x6 x7 x8 k s d := by
  have e0 : y 0 = s := Fin.ext h0
  have e1 : hi (y 1) = k := Fin.ext (by show (y 1).val / 1024 = k.val; omega)
  have e2 : lo (y 1) = d := Fin.ext (by show (y 1).val % 1024 = d.val; omega)
  rw [e0, e1, e2]

end

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S3x1024 .f32) (harg9 : arg9.IsWhole) (arg10 : Memref sig .tc .vmem S512x3072 .bf16) (harg10 : arg10.IsWhole) (arg11 : Memref sig .tc .vmem S3x1024 .f32) (harg11 : arg11.IsWhole)
  (x0 x1 x2 x3 : Vec Idealize.ShloMosaic.Ideal S512x1024 .f32) (x4 x5 x6 x7 : Vec Idealize.ShloMosaic.Ideal S8x1024 .f32) (x8 xo : Vec Idealize.ShloMosaic.Ideal S3x1024 .f32)

theorem out0_A_9_eq (hc0 : cond0_0 i) (hc1 : ¬cond0_1 i) (s : Fin 512) (q : Fin 3072) :
    (out0_A_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 (ix2 s q) : EReal) = dzb i x0 x1 x2 x3 x4 x5 x6 x7 x8 (hi q) s (lo q) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8)]
  refine View.canon_apply_of_pieces (Val := Elt Idealize.ShloMosaic.Ideal) (e := .bf16) (fun y : S512x3072.Idx => dzb i x0 x1 x2 x3 x4 x5 x6 x7 x8 (hi (y 1)) (y 0) (lo (y 1))) _ ?_ _ (cover0_A_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 _)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg11.read_unread]
  intro q hq
  rcases List.mem_cons.mp hq with rfl | hq
  · intro y
    obtain ⟨s, d, rfl⟩ : ∃ (s : Fin 512) (d : Fin 1024), y = ix2 s d := ⟨_, _, ix2_eta y⟩
    refine Eq.trans (b := dzb i x0 x1 x2 x3 x4 x5 x6 x7 x8 2 s d) ?_ (place i x0 x1 x2 x3 x4 x5 x6 x7 x8 2 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), pay18, pay15, pay11, pay13, pay14, pay8]
      rw [ldrow3 0 (by decide) x8, ldrow3 1 (by decide) x8, ldrow3 2 (by decide) x8, ldrow8 0 (by decide) x6, ldrow8 0 (by decide) x7, ldrow8 1 (by decide) x6, ldrow8 1 (by decide) x7]
      rfl
    · show 0 + 1 * s.val = s.val; omega
    · show 2048 + 1 * d.val = 2 * 1024 + d.val; omega
  rcases List.mem_cons.mp hq with rfl | hq
  · intro y
    obtain ⟨s, d, rfl⟩ : ∃ (s : Fin 512) (d : Fin 1024), y = ix2 s d := ⟨_, _, ix2_eta y⟩
    refine Eq.trans (b := dzb i x0 x1 x2 x3 x4 x5 x6 x7 x8 1 s d) ?_ (place i x0 x1 x2 x3 x4 x5 x6 x7 x8 1 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), pay17, pay15, pay11, pay13, pay14, pay8]
      rw [ldrow3 0 (by decide) x8, ldrow3 1 (by decide) x8, ldrow3 2 (by decide) x8, ldrow8 0 (by decide) x6, ldrow8 0 (by decide) x7, ldrow8 1 (by decide) x6, ldrow8 1 (by decide) x7]
      rfl
    · show 0 + 1 * s.val = s.val; omega
    · show 1024 + 1 * d.val = 1 * 1024 + d.val; omega
  rcases List.mem_cons.mp hq with rfl | hq
  · intro y
    obtain ⟨s, d, rfl⟩ : ∃ (s : Fin 512) (d : Fin 1024), y = ix2 s d := ⟨_, _, ix2_eta y⟩
    refine Eq.trans (b := dzb i x0 x1 x2 x3 x4 x5 x6 x7 x8 0 s d) ?_ (place i x0 x1 x2 x3 x4 x5 x6 x7 x8 0 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), pay16, pay7, pay5, pay6, pay2]
      rw [ldrow3 0 (by decide) x8, ldrow3 1 (by decide) x8, ldrow3 2 (by decide) x8, ldrow8 7 (by decide) x4, ldrow8 7 (by decide) x5, ldrow8 6 (by decide) x4, ldrow8 6 (by decide) x5]
      rfl
    · show 0 + 1 * s.val = s.val; omega
    · show 0 + 1 * d.val = 0 * 1024 + d.val; omega
  exact absurd hq List.not_mem_nil

theorem out0_A_10_eq (hc0 : cond0_0 i) (hc1 : ¬cond0_1 i) (k : Fin 3) (d : Fin 1024) :
    (out0_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 (ix2 k d) : EReal) = dwb i x0 x1 x2 x3 x4 x5 k d := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg11.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
  rw [pay19]
  refine Finset.sum_congr rfl fun s _ => ?_
  rw [pay8, pay2, pay5, pay6]
  rw [ldrow8 7 (by decide) x4, ldrow8 7 (by decide) x5, ldrow8 6 (by decide) x4, ldrow8 6 (by decide) x5]
  rfl

theorem out0_B_9_eq (hc0 : ¬cond0_0 i) (hc1 : cond0_1 i) (s : Fin 512) (q : Fin 3072) :
    (out0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo (ix2 s q) : EReal) = dzb i x0 x1 x2 x3 x4 x5 x6 x7 x8 (hi q) s (lo q) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo)]
  refine View.canon_apply_of_pieces (Val := Elt Idealize.ShloMosaic.Ideal) (e := .bf16) (fun y : S512x3072.Idx => dzb i x0 x1 x2 x3 x4 x5 x6 x7 x8 (hi (y 1)) (y 0) (lo (y 1))) _ ?_ _ (cover0_B_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo _)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg11.read_unread]
  intro q hq
  rcases List.mem_cons.mp hq with rfl | hq
  · intro y
    obtain ⟨s, d, rfl⟩ : ∃ (s : Fin 512) (d : Fin 1024), y = ix2 s d := ⟨_, _, ix2_eta y⟩
    refine Eq.trans (b := dzb i x0 x1 x2 x3 x4 x5 x6 x7 x8 2 s d) ?_ (place i x0 x1 x2 x3 x4 x5 x6 x7 x8 2 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), pay18, pay15, pay11, pay13, pay14, pay8]
      rw [ldrow3 0 (by decide) x8, ldrow3 1 (by decide) x8, ldrow3 2 (by decide) x8, ldrow8 0 (by decide) x6, ldrow8 0 (by decide) x7, ldrow8 1 (by decide) x6, ldrow8 1 (by decide) x7]
      rfl
    · show 0 + 1 * s.val = s.val; omega
    · show 2048 + 1 * d.val = 2 * 1024 + d.val; omega
  rcases List.mem_cons.mp hq with rfl | hq
  · intro y
    obtain ⟨s, d, rfl⟩ : ∃ (s : Fin 512) (d : Fin 1024), y = ix2 s d := ⟨_, _, ix2_eta y⟩
    refine Eq.trans (b := dzb i x0 x1 x2 x3 x4 x5 x6 x7 x8 1 s d) ?_ (place i x0 x1 x2 x3 x4 x5 x6 x7 x8 1 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), pay17, pay15, pay11, pay13, pay14, pay8]
      rw [ldrow3 0 (by decide) x8, ldrow3 1 (by decide) x8, ldrow3 2 (by decide) x8, ldrow8 0 (by decide) x6, ldrow8 0 (by decide) x7, ldrow8 1 (by decide) x6, ldrow8 1 (by decide) x7]
      rfl
    · show 0 + 1 * s.val = s.val; omega
    · show 1024 + 1 * d.val = 1 * 1024 + d.val; omega
  rcases List.mem_cons.mp hq with rfl | hq
  · intro y
    obtain ⟨s, d, rfl⟩ : ∃ (s : Fin 512) (d : Fin 1024), y = ix2 s d := ⟨_, _, ix2_eta y⟩
    refine Eq.trans (b := dzb i x0 x1 x2 x3 x4 x5 x6 x7 x8 0 s d) ?_ (place i x0 x1 x2 x3 x4 x5 x6 x7 x8 0 s d _ ?_ ?_).symm
    · dsimp only
      rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), pay16, pay7, pay5, pay6, pay2]
      rw [ldrow3 0 (by decide) x8, ldrow3 1 (by decide) x8, ldrow3 2 (by decide) x8, ldrow8 7 (by decide) x4, ldrow8 7 (by decide) x5, ldrow8 6 (by decide) x4, ldrow8 6 (by decide) x5]
      rfl
    · show 0 + 1 * s.val = s.val; omega
    · show 0 + 1 * d.val = 0 * 1024 + d.val; omega
  exact absurd hq List.not_mem_nil

theorem out0_B_10_eq (hc0 : ¬cond0_0 i) (hc1 : cond0_1 i) (k : Fin 3) (d : Fin 1024) :
    (out0_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo (ix2 k d) : EReal) = xo (ix2 k d) + dwb i x0 x1 x2 x3 x4 x5 k d := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xo)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg11.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
  rw [pay1]
  refine congrArg (fun q : EReal => xo (ix2 k d) + q) ?_
  rw [pay19]
  refine Finset.sum_congr rfl fun s _ => ?_
  rw [pay8, pay2, pay5, pay6]
  rw [ldrow8 7 (by decide) x4, ldrow8 7 (by decide) x5, ldrow8 6 (by decide) x4, ldrow8 6 (by decide) x5]
  rfl

end

/-! The same from the whole arrays. -/

section
variable (g : S2048x1024.Idx → EReal) (z : S2048x11776.Idx → EReal) (w : S3x1024.Idx → EReal) (j : ℕ) (k : Fin 3) (s : Fin 2048) (d : Fin 1024)

def ca : EReal := z (ix2 s (pcol 1 d)) * z (ix2 s (pcol 2 d))
def dcv : EReal := g (ix2 s d) * z (ix2 s (pcol 0 d))
/-- The convolved values `j` rows back, zero before the first row. -/
def back : EReal := if j ≤ s.val then ca z ⟨s.val - j, by omega⟩ d else 0
/-- The convolution's gradient `j` rows on, zero after the last row. -/
def ahead : EReal := if h : s.val + j < 2048 then dcv g z ⟨s.val + j, h⟩ d else 0
def cv : EReal := w (ix2 0 d) * back z 2 s d + w (ix2 1 d) * back z 1 s d + w (ix2 2 d) * ca z s d
def dca : EReal := w (ix2 2 d) * dcv g z s d + w (ix2 1 d) * ahead g z 1 s d + w (ix2 0 d) * ahead g z 2 s d
def dzw : EReal := (![g (ix2 s d) * cv z w s d, dca g z w s d * z (ix2 s (pcol 2 d)), dca g z w s d * z (ix2 s (pcol 1 d))] : Fin 3 → EReal) k
def dww : EReal := dcv g z s d * (![back z 2 s d, back z 1 s d, ca z s d] : Fin 3 → EReal) k

theorem ca_congr (a b : Fin 2048) (h : a.val = b.val) : ca z a d = ca z b d := by rw [Fin.ext h]
theorem dcv_congr (a b : Fin 2048) (h : a.val = b.val) : dcv g z a d = dcv g z b d := by rw [Fin.ext h]

end

def dz (g : S2048x1024.Idx → EReal) (z : S2048x11776.Idx → EReal) (w : S3x1024.Idx → EReal) : S2048x3072.Idx → EReal :=
  fun y => dzw g z w (hi (y 1)) (y 0) (lo (y 1))
def dw (g : S2048x1024.Idx → EReal) (z : S2048x11776.Idx → EReal) : S3x1024.Idx → EReal :=
  fun y => ∑ s : Fin 2048, dww g z (y 0) s (y 1)

section
variable (m : (ℓ : Loc nD τ sig) → Buf (Elt Idealize.ShloMosaic.Ideal) ℓ) (c : Dev nD)

abbrev ag : S2048x1024.Idx → EReal := m ((c : Thread nD τ).loc main_arg0)
abbrev az : S2048x11776.Idx → EReal := m ((c : Thread nD τ).loc main_arg1)
abbrev aw : S3x1024.Idx → EReal := m ((c : Thread nD τ).loc main_arg2)

/-- Row `r` of the eight rows before a block, and of the eight after it. -/
abbrev prow (t : Fin cfg0.N) (r : Fin 8) : Fin 2048 := ⟨(t.val * 64 - 1) * 8 + r.val, by have := t.isLt; have e : cfg0.N = 4 := N_0; omega⟩
abbrev nrow (t : Fin cfg0.N) (r : Fin 8) : Fin 2048 := ⟨min (t.val * 64 + 64) 255 * 8 + r.val, by have := t.isLt; have e : cfg0.N = 4 := N_0; omega⟩

theorem blk0 (t : Fin cfg0.N) (s : Fin 512) (d : Fin 1024) : (iblk m c 0 t (ix2 s d) : EReal) = ag m c (ix2 (row t s) d) := by
  show ag m c ((win0_0.blk t).view.emb (ix2 s d)) = _
  generalize ag m c = W; blk_ext [(idx t).1]
theorem blk6 (t : Fin cfg0.N) (r : Fin 8) (d : Fin 1024) : (iblk m c 6 t (ix2 r d) : EReal) = ag m c (ix2 (nrow t r) d) := by
  show ag m c ((win0_6.blk t).view.emb (ix2 r d)) = _
  generalize ag m c = W; blk_ext [(idx t).2.2.2.2.2.2.1]
theorem blk8 (t : Fin cfg0.N) (k : Fin 3) (d : Fin 1024) : (iblk m c 8 t (ix2 k d) : EReal) = aw m c (ix2 k d) := by
  show aw m c ((win0_8.blk t).view.emb (ix2 k d)) = _
  generalize aw m c = W; blk_ext [(idx t).2.2.2.2.2.2.2.2.1]
theorem blk1 (t : Fin cfg0.N) (s : Fin 512) (d : Fin 1024) : (X0_1 m c t (ix2 s d) : EReal) = az m c (ix2 (row t s) (pcol 0 d)) := by
  unfold X0_1 Pipeline.Window.fill
  refine (dif_pos (moved0_1 t _)).trans ?_
  show az m c ((win0_1.blk t).view.emb (fun a => ⟨(ix2 s d a : Fin _).val, _⟩)) = _
  generalize az m c = W; blk_ext [(idx t).2.1]
theorem blk2 (t : Fin cfg0.N) (s : Fin 512) (d : Fin 1024) : (X0_2 m c t (ix2 s d) : EReal) = az m c (ix2 (row t s) (pcol 1 d)) := by
  unfold X0_2 Pipeline.Window.fill
  refine (dif_pos (moved0_2 t _)).trans ?_
  show az m c ((win0_2.blk t).view.emb (fun a => ⟨(ix2 s d a : Fin _).val, _⟩)) = _
  generalize az m c = W; blk_ext [(idx t).2.2.1]
theorem blk3 (t : Fin cfg0.N) (s : Fin 512) (d : Fin 1024) : (X0_3 m c t (ix2 s d) : EReal) = az m c (ix2 (row t s) (pcol 2 d)) := by
  unfold X0_3 Pipeline.Window.fill
  refine (dif_pos (moved0_3 t _)).trans ?_
  show az m c ((win0_3.blk t).view.emb (fun a => ⟨(ix2 s d a : Fin _).val, _⟩)) = _
  generalize az m c = W; blk_ext [(idx t).2.2.2.1]
theorem blk4 (t : Fin cfg0.N) (s : Fin 8) (d : Fin 1024) : (X0_4 m c t (ix2 s d) : EReal) = az m c (ix2 (prow t s) (pcol 1 d)) := by
  unfold X0_4 Pipeline.Window.fill
  refine (dif_pos (moved0_4 t _)).trans ?_
  show az m c ((win0_4.blk t).view.emb (fun a => ⟨(ix2 s d a : Fin _).val, _⟩)) = _
  generalize az m c = W; blk_ext [(idx t).2.2.2.2.1]
theorem blk5 (t : Fin cfg0.N) (s : Fin 8) (d : Fin 1024) : (X0_5 m c t (ix2 s d) : EReal) = az m c (ix2 (prow t s) (pcol 2 d)) := by
  unfold X0_5 Pipeline.Window.fill
  refine (dif_pos (moved0_5 t _)).trans ?_
  show az m c ((win0_5.blk t).view.emb (fun a => ⟨(ix2 s d a : Fin _).val, _⟩)) = _
  generalize az m c = W; blk_ext [(idx t).2.2.2.2.2.1]
theorem blk7 (t : Fin cfg0.N) (s : Fin 8) (d : Fin 1024) : (X0_7 m c t (ix2 s d) : EReal) = az m c (ix2 (nrow t s) (pcol 0 d)) := by
  unfold X0_7 Pipeline.Window.fill
  refine (dif_pos (moved0_7 t _)).trans ?_
  show az m c ((win0_7.blk t).view.emb (fun a => ⟨(ix2 s d a : Fin _).val, _⟩)) = _
  generalize az m c = W; blk_ext [(idx t).2.2.2.2.2.2.2.1]
theorem emb9 (t : Fin cfg0.N) (s : Fin 512) (q : Fin 3072) : (win0_9.blk t).view.emb (ix2 s q) = (ix2 (row t s) q : S2048x3072.Idx) := by
  blk_ext [(idx t).2.2.2.2.2.2.2.2.2.1]
theorem emb10 (t : Fin cfg0.N) (k : Fin 3) (d : Fin 1024) : (win0_10.blk t).view.emb (ix2 k d) = (ix2 k d : S3x1024.Idx) := by
  blk_ext [(idx t).2.2.2.2.2.2.2.2.2.2]

/-- The values one row back, across the block's first row. -/
theorem back1_eq (t : Fin cfg0.N) (s : Fin 512) (d : Fin 1024) : back1 (grid0.coords t) (X0_2 m c t) (X0_3 m c t) (X0_4 m c t) (X0_5 m c t) s d = back (az m c) 1 (row t s) d := by
  unfold back1 kp back
  rw [coord t, blk2, blk3, blk4, blk5]
  have hN : t.val < 4 := lt_of_lt_of_eq t.isLt N_0
  by_cases hs : s.val = 0
  · rw [if_pos hs]
    by_cases ht : 0 < t.val
    · rw [if_pos ht, if_pos (by show 1 ≤ t.val * 512 + s.val; omega), mul_one]
      exact ca_congr _ _ _ _ (by show (t.val * 64 - 1) * 8 + 7 = t.val * 512 + s.val - 1; omega)
    · rw [if_neg ht, if_neg (by show ¬ 1 ≤ t.val * 512 + s.val; omega), mul_zero]
  · rw [if_neg hs, if_pos (by show 1 ≤ t.val * 512 + s.val; omega)]
    exact ca_congr _ _ _ _ (by show t.val * 512 + (s.val + 512 - 1) % 512 = t.val * 512 + s.val - 1; omega)
theorem back2_eq (t : Fin cfg0.N) (s : Fin 512) (d : Fin 1024) : back2 (grid0.coords t) (X0_2 m c t) (X0_3 m c t) (X0_4 m c t) (X0_5 m c t) s d = back (az m c) 2 (row t s) d := by
  unfold back2 kp back
  rw [coord t, blk2, blk3, blk4, blk5, blk4, blk5]
  have hN : t.val < 4 := lt_of_lt_of_eq t.isLt N_0
  by_cases hs : s.val = 0
  · rw [if_pos hs]
    by_cases ht : 0 < t.val
    · rw [if_pos ht, if_pos (by show 2 ≤ t.val * 512 + s.val; omega), mul_one]
      exact ca_congr _ _ _ _ (by show (t.val * 64 - 1) * 8 + 6 = t.val * 512 + s.val - 2; omega)
    · rw [if_neg ht, if_neg (by show ¬ 2 ≤ t.val * 512 + s.val; omega), mul_zero]
  rw [if_neg hs]
  by_cases h1 : s.val = 1
  · rw [if_pos h1]
    by_cases ht : 0 < t.val
    · rw [if_pos ht, if_pos (by show 2 ≤ t.val * 512 + s.val; omega), mul_one]
      exact ca_congr _ _ _ _ (by show (t.val * 64 - 1) * 8 + 7 = t.val * 512 + s.val - 2; omega)
    · rw [if_neg ht, if_neg (by show ¬ 2 ≤ t.val * 512 + s.val; omega), mul_zero]
  · rw [if_neg h1, if_pos (by show 2 ≤ t.val * 512 + s.val; omega)]
    exact ca_congr _ _ _ _ (by show t.val * 512 + (s.val + 512 - 2) % 512 = t.val * 512 + s.val - 2; omega)
/-- The gradient one row on, across the block's last row. -/
theorem on1_eq (t : Fin cfg0.N) (s : Fin 512) (d : Fin 1024) : on1 (grid0.coords t) (iblk m c 0 t) (X0_1 m c t) (iblk m c 6 t) (X0_7 m c t) s d = ahead (ag m c) (az m c) 1 (row t s) d := by
  unfold on1 kn ahead
  rw [coord t, blk0, blk1, blk6, blk7]
  have hN : t.val < 4 := lt_of_lt_of_eq t.isLt N_0
  by_cases hs : s.val = 511
  · rw [if_pos hs]
    by_cases ht : t.val < 3
    · rw [if_pos ht, dif_pos (show t.val * 512 + s.val + 1 < 2048 by omega), mul_one]
      exact dcv_congr _ _ _ _ _ (by show min (t.val * 64 + 64) 255 * 8 + 0 = t.val * 512 + s.val + 1; omega)
    · rw [if_neg ht, dif_neg (show ¬ t.val * 512 + s.val + 1 < 2048 by omega), mul_zero]
  · rw [if_neg hs, dif_pos (show t.val * 512 + s.val + 1 < 2048 by omega)]
    exact dcv_congr _ _ _ _ _ (by show t.val * 512 + (s.val + 512 - 511) % 512 = t.val * 512 + s.val + 1; omega)
theorem on2_eq (t : Fin cfg0.N) (s : Fin 512) (d : Fin 1024) : on2 (grid0.coords t) (iblk m c 0 t) (X0_1 m c t) (iblk m c 6 t) (X0_7 m c t) s d = ahead (ag m c) (az m c) 2 (row t s) d := by
  unfold on2 kn ahead
  rw [coord t, blk0, blk1, blk6, blk7, blk6, blk7]
  have hN : t.val < 4 := lt_of_lt_of_eq t.isLt N_0
  by_cases hs : s.val = 511
  · rw [if_pos hs]
    by_cases ht : t.val < 3
    · rw [if_pos ht, dif_pos (show t.val * 512 + s.val + 2 < 2048 by omega), mul_one]
      exact dcv_congr _ _ _ _ _ (by show min (t.val * 64 + 64) 255 * 8 + 1 = t.val * 512 + s.val + 2; omega)
    · rw [if_neg ht, dif_neg (show ¬ t.val * 512 + s.val + 2 < 2048 by omega), mul_zero]
  rw [if_neg hs]
  by_cases h1 : s.val = 510
  · rw [if_pos h1]
    by_cases ht : t.val < 3
    · rw [if_pos ht, dif_pos (show t.val * 512 + s.val + 2 < 2048 by omega), mul_one]
      exact dcv_congr _ _ _ _ _ (by show min (t.val * 64 + 64) 255 * 8 + 0 = t.val * 512 + s.val + 2; omega)
    · rw [if_neg ht, dif_neg (show ¬ t.val * 512 + s.val + 2 < 2048 by omega), mul_zero]
  · rw [if_neg h1, dif_pos (show t.val * 512 + s.val + 2 < 2048 by omega)]
    exact dcv_congr _ _ _ _ _ (by show t.val * 512 + (s.val + 512 - 510) % 512 = t.val * 512 + s.val + 2; omega)

theorem dzb_eq (t : Fin cfg0.N) (k : Fin 3) (s : Fin 512) (d : Fin 1024) :
    dzb (grid0.coords t) (iblk m c 0 t) (X0_1 m c t) (X0_2 m c t) (X0_3 m c t) (X0_4 m c t) (X0_5 m c t) (iblk m c 6 t) (X0_7 m c t) (iblk m c 8 t) k s d = dzw (ag m c) (az m c) (aw m c) k (row t s) d := by
  unfold dzb cvb dcab
  rw [back1_eq, back2_eq, on1_eq, on2_eq, blk0, blk1, blk2, blk3, blk8, blk8, blk8]
  rfl
theorem dwb_eq (t : Fin cfg0.N) (k : Fin 3) (d : Fin 1024) :
    dwb (grid0.coords t) (iblk m c 0 t) (X0_1 m c t) (X0_2 m c t) (X0_3 m c t) (X0_4 m c t) (X0_5 m c t) k d = ∑ s : Fin 512, dww (ag m c) (az m c) k (row t s) d := by
  unfold dwb
  refine Finset.sum_congr rfl fun s _ => ?_
  rw [back1_eq, back2_eq, blk0, blk1, blk2, blk3]
  rfl

theorem out9 (t : Fin cfg0.N) (s : Fin 512) (q : Fin 3072) : ((outsAt0 m c t.val t.isLt).1 (ix2 s q) : EReal) = dz (ag m c) (az m c) (aw m c) (ix2 (row t s) q) := by
  have hN : t.val < 4 := lt_of_lt_of_eq t.isLt N_0
  by_cases h0 : t.val % 4 = 0
  · simp only [outsAt0_A m c t h0 (by omega)]
    rw [out0_A_9_eq, dzb_eq]
    rfl
  · simp only [outsAt0_B m c t h0 (by omega)]
    rw [out0_B_9_eq, dzb_eq]
    rfl
theorem covers9 : (cfg0.win 9).Covers := by decide +kernel
theorem arr9 : (dats m 0 c).arrAt 9 cfg0.N = dz (ag m c) (az m c) (aw m c) := by
  refine (dats m 0 c).arrAt_eq_of_covers 9 _ covers9 fun t hf y => ?_
  blk_simp
  rw [after0_9]
  obtain ⟨s, q, rfl⟩ : ∃ (s : Fin 512) (q : Fin 3072), y = ix2 s q := ⟨_, _, ix2_etaz y⟩
  exact (out9 m c t s q).trans (congrArg _ (emb9 t s q).symm)

/-- What point `t` adds to the taps' gradient. -/
def term (t : Fin cfg0.N) (k : Fin 3) (d : Fin 1024) : EReal := ∑ s : Fin 512, dww (ag m c) (az m c) k (row t s) d

theorem first (t : Fin cfg0.N) (h0 : t.val % 4 = 0) (k : Fin 3) (d : Fin 1024) :
    ((outsAt0 m c t.val t.isLt).2 (ix2 k d) : EReal) = 0 + term m c t k d := by
  have hN : t.val < 4 := lt_of_lt_of_eq t.isLt N_0
  simp only [outsAt0_A m c t h0 (by omega)]
  rw [out0_A_10_eq, zero_add, dwb_eq]
  rfl
theorem next (t : Fin cfg0.N) (h0 : ¬t.val % 4 = 0) (k : Fin 3) (d : Fin 1024) :
    ((outsAt0 m c t.val t.isLt).2 (ix2 k d) : EReal) = (outsAt0 m c (t.val - 1) (Nat.lt_of_le_of_lt (Nat.sub_le _ _) t.isLt)).2 (ix2 k d) + term m c t k d := by
  simp only [outsAt0_B m c t h0 (by omega)]
  rw [out0_B_10_eq, dwb_eq]
  rfl
theorem out10 (t : Fin cfg0.N) (h3 : t.val % 4 = 3) (k : Fin 3) (d : Fin 1024) :
    ((outsAt0 m c t.val t.isLt).2 (ix2 k d) : EReal) = dw (ag m c) (az m c) (ix2 k d) := by
  have hN : cfg0.N = 4 := N_0
  have e := Pipeline.eq_sum_fin_of_reset_step_of_flush (M := EReal) (fun n h => (outsAt0 m c n h).2 (ix2 k d)) 4 0 (fun t => term m c t k d)
    (fun t h => first m c t h k d) (fun t h => next m c t h k d) t h3
  refine e.trans ?_
  rw [zero_add]
  show _ = ∑ s : Fin (4 * 512), dww (ag m c) (az m c) k s d
  rw [← finProdFinEquiv.sum_comp, Fintype.sum_prod_type]
  refine Finset.sum_congr rfl fun j _ => Finset.sum_congr rfl fun s _ => ?_
  refine congrArg (fun r => dww (ag m c) (az m c) k r d) (Fin.ext ?_)
  show (4 * (t.val / 4) + j.val) * 512 + s.val = s.val + 512 * j.val
  have := t.isLt
  omega
theorem covers10 : (cfg0.win 10).Covers := by decide +kernel
theorem arr10 : (dats m 0 c).arrAt 10 cfg0.N = dw (ag m c) (az m c) := by
  refine (dats m 0 c).arrAt_eq_of_covers 10 _ covers10 fun t hf y => ?_
  blk_simp
  rw [after0_10]
  obtain ⟨k, d, rfl⟩ : ∃ (k : Fin 3) (d : Fin 1024), y = ix2 k d := ⟨_, _, ix2_eta3 y⟩
  exact (out10 m c t ((flush0_10 t).mp hf) k d).trans (congrArg _ (emb10 t k d).symm)

end

section
variable (x0 : (⟨S2048x1024, .f32⟩ : BufTy).Contents (Elt Idealize.ShloMosaic.Ideal)) (x1 : (⟨S2048x11776, .f32⟩ : BufTy).Contents (Elt Idealize.ShloMosaic.Ideal)) (x2 : (⟨S3x1024, .f32⟩ : BufTy).Contents (Elt Idealize.ShloMosaic.Ideal))

theorem ref9 (s : Fin 2048) (d : Fin 1024) : (Cert.DconvRefIdeal.Read.val_main_v9 (F := Idealize.ShloMosaic.Ideal) x1 (ix2 s d) : EReal) = back x1 2 s d := by
  unfold Cert.DconvRefIdeal.Read.val_main_v9 Cert.DconvRefIdeal.Read.val_main_v5 Cert.DconvRefIdeal.Read.val_main_v4 Cert.DconvRefIdeal.Read.val_main_v3 Cert.DconvRefIdeal.Read.val_main_v2 Cert.DconvRefIdeal.Read.val_main_v1 Cert.DconvRefIdeal.Read.val_main_cst
  pointwise
  unfold back
  by_cases h : s.val < 2
  · exact (dif_pos h).trans (if_neg (by omega)).symm
  · exact (dif_neg h).trans (if_pos (by omega : 2 ≤ s.val)).symm
theorem ref15 (s : Fin 2048) (d : Fin 1024) : (Cert.DconvRefIdeal.Read.val_main_v15 (F := Idealize.ShloMosaic.Ideal) x1 (ix2 s d) : EReal) = back x1 1 s d := by
  unfold Cert.DconvRefIdeal.Read.val_main_v15 Cert.DconvRefIdeal.Read.val_main_v5 Cert.DconvRefIdeal.Read.val_main_v4 Cert.DconvRefIdeal.Read.val_main_v3 Cert.DconvRefIdeal.Read.val_main_v2 Cert.DconvRefIdeal.Read.val_main_v1 Cert.DconvRefIdeal.Read.val_main_cst
  pointwise
  unfold back
  by_cases h : 1 + s.val < 2
  · exact (dif_pos h).trans (if_neg (by omega)).symm
  · refine (dif_neg h).trans (Eq.trans ?_ (if_pos (by omega : 1 ≤ s.val)).symm)
    exact ca_congr _ _ ⟨1 + s.val - 2, by omega⟩ _ (by show 1 + s.val - 2 = s.val - 1; omega)
theorem ref22 (s : Fin 2048) (d : Fin 1024) : (Cert.DconvRefIdeal.Read.val_main_v22 (F := Idealize.ShloMosaic.Ideal) x1 (ix2 s d) : EReal) = ca x1 s d := by
  unfold Cert.DconvRefIdeal.Read.val_main_v22 Cert.DconvRefIdeal.Read.val_main_v5 Cert.DconvRefIdeal.Read.val_main_v4 Cert.DconvRefIdeal.Read.val_main_v3 Cert.DconvRefIdeal.Read.val_main_v2 Cert.DconvRefIdeal.Read.val_main_v1 Cert.DconvRefIdeal.Read.val_main_cst
  pointwise
  rfl
theorem ref28 (s : Fin 2048) (d : Fin 1024) : (Cert.DconvRefIdeal.Read.val_main_v28 (F := Idealize.ShloMosaic.Ideal) x0 x1 (ix2 s d) : EReal) = dcv x0 x1 s d := by
  unfold Cert.DconvRefIdeal.Read.val_main_v28 Cert.DconvRefIdeal.Read.val_main_v0
  pointwise
  refine (mul_comm (x1 _ : EReal) (x0 _)).trans (congrArg (fun p => (x0 (ix2 s d) * x1 (ix2 s p) : EReal)) (Fin.ext ?_))
  show d.val = 0 * 1024 + d.val
  omega
theorem ref62 (s : Fin 2048) (d : Fin 1024) : (Cert.DconvRefIdeal.Read.val_main_v62 (F := Idealize.ShloMosaic.Ideal) x0 x1 x2 (ix2 s d) : EReal) = dca x0 x1 x2 s d := by
  unfold Cert.DconvRefIdeal.Read.val_main_v62 Cert.DconvRefIdeal.Read.val_main_v57 Cert.DconvRefIdeal.Read.val_main_v46 Cert.DconvRefIdeal.Read.val_main_v36 Cert.DconvRefIdeal.Read.val_main_v31 Cert.DconvRefIdeal.Read.val_main_v30 Cert.DconvRefIdeal.Read.val_main_v23 Cert.DconvRefIdeal.Read.val_main_v21 Cert.DconvRefIdeal.Read.val_main_v20 Cert.DconvRefIdeal.Read.val_main_v45 Cert.DconvRefIdeal.Read.val_main_v40 Cert.DconvRefIdeal.Read.val_main_v39 Cert.DconvRefIdeal.Read.val_main_v16 Cert.DconvRefIdeal.Read.val_main_v14 Cert.DconvRefIdeal.Read.val_main_v13 Cert.DconvRefIdeal.Read.val_main_v56 Cert.DconvRefIdeal.Read.val_main_v51 Cert.DconvRefIdeal.Read.val_main_v50 Cert.DconvRefIdeal.Read.val_main_v10 Cert.DconvRefIdeal.Read.val_main_v8 Cert.DconvRefIdeal.Read.val_main_v7 Cert.DconvRefIdeal.Read.val_main_cst_3 Cert.DconvRefIdeal.Read.val_main_cst_7 Cert.DconvRefIdeal.Read.val_main_cst_11
  pointwise
  unfold dca ahead
  rw [ref28]
  refine congrArg₂ (fun a b : EReal => x2 (ix2 2 d) * dcv x0 x1 s d + a + b) ?_ ?_
  · by_cases h : s.val + 1 < 2048
    · rw [dif_pos (by omega), dif_pos h, ref28]
      exact congrArg _ (dcv_congr _ _ _ _ _ (by show 2 + s.val - 1 = s.val + 1; omega))
    · rw [dif_neg (by omega), dif_neg h, mul_zero]
  · by_cases h : s.val + 2 < 2048
    · rw [dif_pos (by omega), dif_pos h, ref28]
      exact congrArg _ (dcv_congr _ _ _ _ _ (by show 2 + s.val = s.val + 2; omega))
    · rw [dif_neg (by omega), dif_neg h, mul_zero]
theorem ref60 (k : Fin 3) (d : Fin 1024) : (Cert.DconvRefIdeal.Read.val_main_v60 (F := Idealize.ShloMosaic.Ideal) x0 x1 (ix2 k d) : EReal) = dw x0 x1 (ix2 k d) := by
  unfold Cert.DconvRefIdeal.Read.val_main_v60 Cert.DconvRefIdeal.Read.val_main_v49 Cert.DconvRefIdeal.Read.val_main_v38 Cert.DconvRefIdeal.Read.val_main_v37 Cert.DconvRefIdeal.Read.val_main_v35 Cert.DconvRefIdeal.Read.val_main_v34 Cert.DconvRefIdeal.Read.val_main_v33 Cert.DconvRefIdeal.Read.val_main_v32 Cert.DconvRefIdeal.Read.val_main_v48 Cert.DconvRefIdeal.Read.val_main_v47 Cert.DconvRefIdeal.Read.val_main_v44 Cert.DconvRefIdeal.Read.val_main_v43 Cert.DconvRefIdeal.Read.val_main_v42 Cert.DconvRefIdeal.Read.val_main_v41 Cert.DconvRefIdeal.Read.val_main_v59 Cert.DconvRefIdeal.Read.val_main_v58 Cert.DconvRefIdeal.Read.val_main_v55 Cert.DconvRefIdeal.Read.val_main_v54 Cert.DconvRefIdeal.Read.val_main_v53 Cert.DconvRefIdeal.Read.val_main_v52 Cert.DconvRefIdeal.Read.val_main_cst_1 Cert.DconvRefIdeal.Read.val_main_cst_2 Cert.DconvRefIdeal.Read.val_main_cst_4 Cert.DconvRefIdeal.Read.val_main_cst_5 Cert.DconvRefIdeal.Read.val_main_cst_6 Cert.DconvRefIdeal.Read.val_main_cst_8 Cert.DconvRefIdeal.Read.val_main_cst_9 Cert.DconvRefIdeal.Read.val_main_cst_10 Cert.DconvRefIdeal.Read.val_main_cst_12
  fin_cases k
  · pointwise
    refine (Fin.sum_univ_one _).trans ?_
    refine Finset.sum_congr rfl fun s _ => ?_
    rw [ref28, ref9]
    rfl
  · pointwise
    refine (Fin.sum_univ_one _).trans ?_
    refine Finset.sum_congr rfl fun s _ => ?_
    rw [ref28, ref15]
    rfl
  · pointwise
    refine (Fin.sum_univ_one _).trans ?_
    refine Finset.sum_congr rfl fun s _ => ?_
    rw [ref28, ref22]
    rfl
theorem dz_at (k : Fin 3) (s : Fin 2048) (d : Fin 1024) (q : Fin 3072) (h : q.val = k.val * 1024 + d.val) : dz x0 x1 x2 (ix2 s q) = dzw x0 x1 x2 k s d := by
  have hd := d.isLt
  have h1 : hi q = k := Fin.ext (show q.val / 1024 = k.val by omega)
  have h2 : lo q = d := Fin.ext (show q.val % 1024 = d.val by omega)
  show dzw x0 x1 x2 (hi q) s (lo q) = _
  rw [h1, h2]
theorem ref66 (s : Fin 2048) (q : Fin 3072) : (Cert.DconvRefIdeal.Read.val_main_v66 (F := Idealize.ShloMosaic.Ideal) x0 x1 x2 (ix2 s q) : EReal) = dz x0 x1 x2 (ix2 s q) := by
  unfold Cert.DconvRefIdeal.Read.val_main_v66 Cert.DconvRefIdeal.Read.val_main_v65 Cert.DconvRefIdeal.Read.val_main_v29 Cert.DconvRefIdeal.Read.val_main_v64 Cert.DconvRefIdeal.Read.val_main_v63 Cert.DconvRefIdeal.Read.val_main_v26 Cert.DconvRefIdeal.Read.val_main_v19 Cert.DconvRefIdeal.Read.val_main_v12 Cert.DconvRefIdeal.Read.val_main_v11 Cert.DconvRefIdeal.Read.val_main_v10 Cert.DconvRefIdeal.Read.val_main_v8 Cert.DconvRefIdeal.Read.val_main_v7 Cert.DconvRefIdeal.Read.val_main_v18 Cert.DconvRefIdeal.Read.val_main_v17 Cert.DconvRefIdeal.Read.val_main_v16 Cert.DconvRefIdeal.Read.val_main_v14 Cert.DconvRefIdeal.Read.val_main_v13 Cert.DconvRefIdeal.Read.val_main_v25 Cert.DconvRefIdeal.Read.val_main_v24 Cert.DconvRefIdeal.Read.val_main_v23 Cert.DconvRefIdeal.Read.val_main_v21 Cert.DconvRefIdeal.Read.val_main_v20 Cert.DconvRefIdeal.Read.val_main_v2 Cert.DconvRefIdeal.Read.val_main_v1
  pointwise
  by_cases h1 : q.val < 1024
  · refine (dif_pos h1).trans (Eq.trans ?_ (dz_at _ _ _ 0 s ⟨q.val, h1⟩ q (by show q.val = 0 * 1024 + q.val; omega)).symm)
    rw [ref9, ref15, ref22]
    rfl
  refine (dif_neg h1).trans ?_
  by_cases h2 : q.val - 1024 < 1024
  · refine (dif_pos h2).trans (Eq.trans ?_ (dz_at _ _ _ 1 s ⟨q.val - 1024, h2⟩ q (by show q.val = 1 * 1024 + (q.val - 1024); omega)).symm)
    rw [ref62]
    rfl
  · have hq := q.isLt
    have h3 : q.val - 1024 - 1024 < 1024 := by omega
    refine (dif_neg h2).trans (Eq.trans ?_ (dz_at _ _ _ 2 s ⟨q.val - 1024 - 1024, h3⟩ q (by show q.val = 2 * 1024 + (q.val - 1024 - 1024); omega)).symm)
    rw [ref62]
    exact mul_comm (x1 _ : EReal) (dca x0 x1 x2 _ _)
theorem refZ : Cert.DconvRefIdeal.Read.val_main_v66 (F := Idealize.ShloMosaic.Ideal) x0 x1 x2 = dz x0 x1 x2 := funext fun y => by
  obtain ⟨s, q, rfl⟩ : ∃ (s : Fin 2048) (q : Fin 3072), y = ix2 s q := ⟨_, _, ix2_etaZ y⟩
  exact ref66 _ _ _ s q
theorem refW : Cert.DconvRefIdeal.Read.val_main_v60 (F := Idealize.ShloMosaic.Ideal) x0 x1 = dw x0 x1 := funext fun y => by
  obtain ⟨k, d, rfl⟩ : ∃ (k : Fin 3) (d : Fin 1024), y = ix2 k d := ⟨_, _, ix2_eta3 y⟩
  exact ref60 _ _ k d
end

theorem value : Cert.algebraic_DconvIdeal_DconvRefIdeal (hDconvIdeal := Cert.DconvIdeal.Gen.facts) (hDconvRefIdeal := Cert.DconvRefIdeal.Gen.facts) := by
  intro m g m' g' _ hagree
  refine ⟨fun c => _, fun c => _, Cert.DconvIdeal.Value.run_blocks m g, ?_⟩
  refine (θ_run (Cert.DconvRefIdeal.defs (F := Idealize.ShloMosaic.Ideal)) _ _).mono (fun r h c => ?_) (Cert.DconvRefIdeal.Value.run (F := Idealize.ShloMosaic.Ideal) m' g')
  obtain ⟨g0, g1, g2⟩ := hagree c
  refine ⟨(h c).1.trans ((Cert.DconvRefIdeal.Read.val_main_v66_eq (F := Idealize.ShloMosaic.Ideal) m' c).trans ?_), (h c).2.1.trans ((Cert.DconvRefIdeal.Read.val_main_v60_eq (F := Idealize.ShloMosaic.Ideal) _ _).trans ?_), (h c).2.2⟩
  · clear h
    rw [g0, g1, g2]
    exact (refZ _ _ _).trans (arr9 m c).symm
  · clear h
    rw [g0, g1]
    exact (refW _ _).trans (arr10 m c).symm

end Cert.Bwd.Dconv

end
-- ==== Proof.Bwd.Frms.lean ====
module

public import proofs.«01_k».proof.Defs
public import proofs.«01_k».proof.Proof.Gen.FrmsIdeal
public import proofs.«01_k».proof.Proof.Gen.FrmsIdeal.Value
public import proofs.«01_k».proof.Proof.Gen.FrmsRefIdeal
public import proofs.«01_k».proof.Proof.Gen.FrmsRefIdeal.Run
public import proofs.«01_k».proof.Proof.Gen.FrmsRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise
public import proofs.«01_k».proof.Proof.Bwd.Drms

@[expose] public section

set_option maxRecDepth 16384

noncomputable section

namespace Cert.Bwd.Frms

open Cert.FrmsIdeal Cert.FrmsIdeal.Gen Idealize.ShloMosaic Idealize.ShloMosaic.TcCoe Idealize.ShloMosaic.Tactic Idealize.SL.Sem

/-! # The root mean square normalization of the rows -/

theorem idx : ∀ t : Fin cfg0.N, win0_0.index t = ![t.val, 0] ∧ win0_1.index t = ![0, 0] ∧ win0_2.index t = ![t.val, 0] :=
  (by decide +kernel : ∀ t : Fin grid0.N, _)

abbrev row (t : Fin cfg0.N) (s : Fin 512) : Fin 2048 := ⟨t.val * 512 + s.val, by have := t.isLt; have e : cfg0.N = 4 := N_0; omega⟩
theorem ix2_eta (y : S512x1024.Idx) : y = ix2 (⟨(y 0).val, (y 0).isLt⟩ : Fin 512) (⟨(y 1).val, (y 1).isLt⟩ : Fin 1024) := by
  funext a; match a with | ⟨0, _⟩ => rfl | ⟨1, _⟩ => rfl
theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

/-- The normalized rows, from the whole arrays. -/
def nrm (x : S2048x1024.Idx → EReal) (g : S1x1024.Idx → EReal) : S2048x1024.Idx → EReal :=
  fun y => x y * Drms.ri (fun e => x (ix2 (y 0) e)) * g (ix2 0 (y 1))

theorem pay (x : Vec Idealize.ShloMosaic.Ideal S512x1024 .f32) (g : Vec Idealize.ShloMosaic.Ideal S1x1024 .f32) (s : Fin 512) (d : Fin 1024) :
    (k0_pay1 x g (ix2 s d) : EReal) = x (ix2 s d) * Drms.ri (fun e => x (ix2 s e)) * g (ix2 0 d) := by
  unfold k0_pay1
  pointwise
  rfl

section
variable (m : (ℓ : Loc nD τ sig) → Buf (Elt Idealize.ShloMosaic.Ideal) ℓ) (c : Dev nD)

abbrev ax : S2048x1024.Idx → EReal := m ((c : Thread nD τ).loc main_arg0)
abbrev ag : S1x1024.Idx → EReal := m ((c : Thread nD τ).loc main_arg1)

theorem blk0 (t : Fin cfg0.N) (s : Fin 512) (d : Fin 1024) : (iblk m c 0 t (ix2 s d) : EReal) = ax m c (ix2 (row t s) d) := by
  show ax m c ((win0_0.blk t).view.emb (ix2 s d)) = _
  generalize ax m c = W; blk_ext [(idx t).1]
theorem blk1 (t : Fin cfg0.N) (d : Fin 1024) : (iblk m c 1 t (ix2 0 d) : EReal) = ag m c (ix2 0 d) := by
  show ag m c ((win0_1.blk t).view.emb (ix2 0 d)) = _
  generalize ag m c = W; blk_ext [(idx t).2.1]
theorem out2 (t : Fin cfg0.N) (s : Fin 512) (d : Fin 1024) : (out0_2 (iblk m c 0 t) (iblk m c 1 t) (ix2 s d) : EReal) = nrm (ax m c) (ag m c) (ix2 (row t s) d) := by
  unfold out0_2
  rw [View.canon_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), pay]
  simp only [blk0, blk1]
  rfl
theorem emb2 (t : Fin cfg0.N) (s : Fin 512) (d : Fin 1024) : (win0_2.blk t).view.emb (ix2 s d) = (ix2 (row t s) d : S2048x1024.Idx) := by
  blk_ext [(idx t).2.2]
theorem covers2 : (cfg0.win 2).Covers := by decide +kernel
theorem arr2 : (dats m 0 c).arrAt 2 cfg0.N = nrm (ax m c) (ag m c) := by
  refine (dats m 0 c).arrAt_eq_of_covers 2 _ covers2 fun t hf y => ?_
  blk_simp
  rw [after0_2]
  obtain ⟨s, d, rfl⟩ : ∃ (s : Fin 512) (d : Fin 1024), y = ix2 s d := ⟨_, _, ix2_eta y⟩
  exact (out2 m c t s d).trans (congrArg _ (emb2 t s d).symm)

end

theorem ref (x0 : (⟨S2048x1024, .f32⟩ : BufTy).Contents (Elt Idealize.ShloMosaic.Ideal)) (x1 : (⟨S1x1024, .f32⟩ : BufTy).Contents (Elt Idealize.ShloMosaic.Ideal)) :
    Cert.FrmsRefIdeal.Read.val_main_v14 (F := Idealize.ShloMosaic.Ideal) x0 x1 = nrm x0 x1 := by
  funext y
  obtain ⟨s, d, rfl⟩ : ∃ (s : Fin 2048) (d : Fin 1024), y = ix2 s d := ⟨_, _, ix2_eta' y⟩
  unfold Cert.FrmsRefIdeal.Read.val_main_v14 Cert.FrmsRefIdeal.Read.val_main_v13 Cert.FrmsRefIdeal.Read.val_main_v12 Cert.FrmsRefIdeal.Read.val_main_v11 Cert.FrmsRefIdeal.Read.val_main_v10 Cert.FrmsRefIdeal.Read.val_main_v9 Cert.FrmsRefIdeal.Read.val_main_v8 Cert.FrmsRefIdeal.Read.val_main_v7 Cert.FrmsRefIdeal.Read.val_main_v6 Cert.FrmsRefIdeal.Read.val_main_v5 Cert.FrmsRefIdeal.Read.val_main_v4 Cert.FrmsRefIdeal.Read.val_main_v3 Cert.FrmsRefIdeal.Read.val_main_v2 Cert.FrmsRefIdeal.Read.val_main_v1 Cert.FrmsRefIdeal.Read.val_main_v0 Cert.FrmsRefIdeal.Read.val_main_cst Cert.FrmsRefIdeal.Read.val_main_cst_0 Cert.FrmsRefIdeal.Read.val_main_cst_1
  pointwise
  rfl

theorem value : Cert.algebraic_FrmsIdeal_FrmsRefIdeal (hFrmsIdeal := Cert.FrmsIdeal.Gen.facts) (hFrmsRefIdeal := Cert.FrmsRefIdeal.Gen.facts) := by
  intro m g m' g' _ hagree
  refine ⟨fun c => _, Cert.FrmsIdeal.Value.run_blocks m g, ?_⟩
  refine (θ_run (Cert.FrmsRefIdeal.defs (F := Idealize.ShloMosaic.Ideal)) _ _).mono (fun r h c => ?_) (Cert.FrmsRefIdeal.Value.run (F := Idealize.ShloMosaic.Ideal) m' g')
  obtain ⟨g0, g1⟩ := hagree c
  refine ⟨(h c).1.trans ((Cert.FrmsRefIdeal.Read.val_main_v14_eq (F := Idealize.ShloMosaic.Ideal) _ _).trans ?_), (h c).2⟩
  clear h
  rw [g0, g1]
  exact (ref _ _).trans (arr2 m c).symm

end Cert.Bwd.Frms

end
-- ==== Proof.Bwd.Fconv.lean ====
module

public import proofs.«01_k».proof.Defs
public import proofs.«01_k».proof.Proof.Gen.FconvIdeal
public import proofs.«01_k».proof.Proof.Gen.FconvIdeal.Value
public import proofs.«01_k».proof.Proof.Gen.FconvRefIdeal
public import proofs.«01_k».proof.Proof.Gen.FconvRefIdeal.Run
public import proofs.«01_k».proof.Proof.Gen.FconvRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise
public import proofs.«01_k».proof.Proof.Bwd.Dconv

@[expose] public section

set_option maxRecDepth 16384

noncomputable section

namespace Cert.Bwd.Fconv

open Cert.FconvIdeal Cert.FconvIdeal.Gen Idealize.ShloMosaic Idealize.ShloMosaic.TcCoe Idealize.ShloMosaic.Tactic Idealize.SL.Sem

/-! # The gated causal convolution -/

theorem idx : ∀ t : Fin cfg0.N, win0_0.index t = ![t.val, 0] ∧ win0_1.index t = ![t.val, 1] ∧ win0_2.index t = ![t.val, 2] ∧ win0_3.index t = ![t.val * 64 - 1, 1] ∧ win0_4.index t = ![t.val * 64 - 1, 2] ∧ win0_5.index t = ![0, 0] ∧ win0_6.index t = ![t.val, 0] :=
  (by decide +kernel : ∀ t : Fin grid0.N, _)
theorem coord : ∀ t : Fin cfg0.N, ((grid0.coords t) 0).val = t.val := (by decide +kernel : ∀ t : Fin grid0.N, _)

abbrev row (t : Fin cfg0.N) (s : Fin 512) : Fin 2048 := ⟨t.val * 512 + s.val, by have := t.isLt; have e : cfg0.N = 4 := N_0; omega⟩
theorem ix2_eta (y : S512x1024.Idx) : y = ix2 (⟨(y 0).val, (y 0).isLt⟩ : Fin 512) (⟨(y 1).val, (y 1).isLt⟩ : Fin 1024) := by
  funext a; match a with | ⟨0, _⟩ => rfl | ⟨1, _⟩ => rfl
theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

/-- One where there are rows before the block, zero at the first block. -/
def kp (i : grid0.Coords) : EReal := if 0 < (i 0).val then 1 else 0

theorem pay3 (i : grid0.Coords) : (k0_pay3 (F := Idealize.ShloMosaic.Ideal) i : EReal) = kp i := by
  have e := (by decide +kernel : ∀ a : Fin 4, Scalar.cmpi .sgt (BitVec.ofNat 32 a.val) 0#32 = if 0 < a.val then 1#1 else 0#1) (i 0)
  unfold k0_pay3 kp
  dsimp only
  rw [e]
  split
  · pointwise
    rw [Dconv.one_ext]
    norm_num
  · pointwise
    rw [Dconv.zero_ext]
    norm_num
theorem pay2 (v0 v1 : Vec Idealize.ShloMosaic.Ideal S512x1024 .f32) (s : Fin 512) (d : Fin 1024) : (k0_pay2 v0 v1 (ix2 s d) : EReal) = v0 (ix2 s d) * v1 (ix2 s d) := by
  unfold k0_pay2
  pointwise
/-- The rows one back. -/
theorem pay5 (i : grid0.Coords) (v0 v1 : Vec Idealize.ShloMosaic.Ideal S512x1024 .f32) (v6 v7 : Vec Idealize.ShloMosaic.Ideal S1x1024 .f32) (s : Fin 512) (d : Fin 1024) :
    (k0_pay5 i v0 v1 v6 v7 (ix2 s d) : EReal) = if s.val = 0 then v6 (ix2 0 d) * v7 (ix2 0 d) * kp i else v0 (ix2 (Dconv.rot 1 s) d) * v1 (ix2 (Dconv.rot 1 s) d) := by
  unfold k0_pay5 k0_pay4 k0_pay2
  pointwise
  rw [(Dconv.cmp s).1, Dconv.sel, pay3]
/-- The rows two back, times the first tap. -/
theorem pay6 (i : grid0.Coords) (v0 v1 : Vec Idealize.ShloMosaic.Ideal S512x1024 .f32) (v6 v7 v11 v12 v34 : Vec Idealize.ShloMosaic.Ideal S1x1024 .f32) (s : Fin 512) (d : Fin 1024) :
    (k0_pay6 i v0 v1 v6 v7 v11 v12 v34 (ix2 s d) : EReal) = v34 (ix2 0 d) * if s.val = 0 then v11 (ix2 0 d) * v12 (ix2 0 d) * kp i else if s.val = 1 then v6 (ix2 0 d) * v7 (ix2 0 d) * kp i else v0 (ix2 (Dconv.rot 2 s) d) * v1 (ix2 (Dconv.rot 2 s) d) := by
  unfold k0_pay6 k0_pay4 k0_pay2
  pointwise
  rw [(Dconv.cmp s).1, (Dconv.cmp s).2.1, Dconv.sel, Dconv.sel, pay3]
theorem pay1 (v2 v22 v36 : Vec Idealize.ShloMosaic.Ideal S512x1024 .f32) (v37 v41 : Vec Idealize.ShloMosaic.Ideal S1x1024 .f32) (v45 : Vec Idealize.ShloMosaic.Ideal S512x1024 .f32) (s : Fin 512) (d : Fin 1024) :
    (k0_pay1 (F := Idealize.ShloMosaic.Ideal) v2 v22 v36 v37 v41 v45 (ix2 s d) : EReal) = v45 (ix2 s d) * (v36 (ix2 s d) + v37 (ix2 0 d) * v22 (ix2 s d) + v41 (ix2 0 d) * v2 (ix2 s d)) := by
  unfold k0_pay1
  pointwise

section
variable (i : grid0.Coords) (x1 x2 : S512x1024.Idx → EReal) (x3 x4 : S8x1024.Idx → EReal) (s : Fin 512) (d : Fin 1024)
def back1 : EReal := if s.val = 0 then x3 (ix2 7 d) * x4 (ix2 7 d) * kp i else x1 (ix2 (Dconv.rot 1 s) d) * x2 (ix2 (Dconv.rot 1 s) d)
def back2 : EReal := if s.val = 0 then x3 (ix2 6 d) * x4 (ix2 6 d) * kp i else if s.val = 1 then x3 (ix2 7 d) * x4 (ix2 7 d) * kp i else x1 (ix2 (Dconv.rot 2 s) d) * x2 (ix2 (Dconv.rot 2 s) d)
end

theorem out0_A_6_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S3x1024 .f32) (harg6 : arg6.IsWhole) (arg7 : Memref sig .tc .vmem S512x1024 .bf16) (harg7 : arg7.IsWhole)
    (x0 x1 x2 : Vec Idealize.ShloMosaic.Ideal S512x1024 .f32) (x3 x4 : Vec Idealize.ShloMosaic.Ideal S8x1024 .f32) (x5 : Vec Idealize.ShloMosaic.Ideal S3x1024 .f32) (s : Fin 512) (d : Fin 1024) :
    (out0_A_6 c i arg1 harg1 arg2 harg2 arg3 harg3 arg4 harg4 arg5 harg5 arg6 harg6 arg7 harg7 x0 x1 x2 x3 x4 x5 (ix2 s d) : EReal) = x0 (ix2 s d) * (x5 (ix2 0 d) * back2 i x1 x2 x3 x4 s d + x5 (ix2 1 d) * back1 i x1 x2 x3 x4 s d + x5 (ix2 2 d) * (x1 (ix2 s d) * x2 (ix2 s d))) := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  simp only [View.readAt_eq_ld, harg1.read_unread, harg2.read_unread, harg3.read_unread, harg4.read_unread, harg5.read_unread, harg6.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), pay1, pay2, pay5, pay6]
  rw [Dconv.ldrow3 0 (by decide) x5, Dconv.ldrow3 1 (by decide) x5, Dconv.ldrow3 2 (by decide) x5, Dconv.ldrow8 7 (by decide) x3, Dconv.ldrow8 7 (by decide) x4, Dconv.ldrow8 6 (by decide) x3, Dconv.ldrow8 6 (by decide) x4]
  rfl

/-- The gated convolution, from the whole arrays. -/
def gcv (z : S2048x11776.Idx → EReal) (w : S3x1024.Idx → EReal) : S2048x1024.Idx → EReal :=
  fun y => z (ix2 (y 0) (Dconv.pcol 0 (y 1))) * Dconv.cv z w (y 0) (y 1)

section
variable (m : (ℓ : Loc nD τ sig) → Buf (Elt Idealize.ShloMosaic.Ideal) ℓ) (c : Dev nD)

abbrev az : S2048x11776.Idx → EReal := m ((c : Thread nD τ).loc main_arg0)
abbrev aw : S3x1024.Idx → EReal := m ((c : Thread nD τ).loc main_arg1)
/-- A row of the eight before the block. -/
abbrev prow (t : Fin cfg0.N) (s : Fin 8) : Fin 2048 := ⟨(t.val * 64 - 1) * 8 + s.val, by have := t.isLt; have e : cfg0.N = 4 := N_0; omega⟩

theorem blk0 (t : Fin cfg0.N) (s : Fin 512) (d : Fin 1024) : (X0_0 m c t (ix2 s d) : EReal) = az m c (ix2 (row t s) (Dconv.pcol 0 d)) := by
  unfold X0_0 Pipeline.Window.fill
  refine (dif_pos (moved0_0 t _)).trans ?_
  show az m c ((win0_0.blk t).view.emb (fun a => ⟨(ix2 s d a : Fin _).val, _⟩)) = _
  generalize az m c = W; blk_ext [(idx t).1]
theorem blk1 (t : Fin cfg0.N) (s : Fin 512) (d : Fin 1024) : (X0_1 m c t (ix2 s d) : EReal) = az m c (ix2 (row t s) (Dconv.pcol 1 d)) := by
  unfold X0_1 Pipeline.Window.fill
  refine (dif_pos (moved0_1 t _)).trans ?_
  show az m c ((win0_1.blk t).view.emb (fun a => ⟨(ix2 s d a : Fin _).val, _⟩)) = _
  generalize az m c = W; blk_ext [(idx t).2.1]
theorem blk2 (t : Fin cfg0.N) (s : Fin 512) (d : Fin 1024) : (X0_2 m c t (ix2 s d) : EReal) = az m c (ix2 (row t s) (Dconv.pcol 2 d)) := by
  unfold X0_2 Pipeline.Window.fill
  refine (dif_pos (moved0_2 t _)).trans ?_
  show az m c ((win0_2.blk t).view.emb (fun a => ⟨(ix2 s d a : Fin _).val, _⟩)) = _
  generalize az m c = W; blk_ext [(idx t).2.2.1]
theorem blk3 (t : Fin cfg0.N) (s : Fin 8) (d : Fin 1024) : (X0_3 m c t (ix2 s d) : EReal) = az m c (ix2 (prow t s) (Dconv.pcol 1 d)) := by
  unfold X0_3 Pipeline.Window.fill
  refine (dif_pos (moved0_3 t _)).trans ?_
  show az m c ((win0_3.blk t).view.emb (fun a => ⟨(ix2 s d a : Fin _).val, _⟩)) = _
  generalize az m c = W; blk_ext [(idx t).2.2.2.1]
theorem blk4 (t : Fin cfg0.N) (s : Fin 8) (d : Fin 1024) : (X0_4 m c t (ix2 s d) : EReal) = az m c (ix2 (prow t s) (Dconv.pcol 2 d)) := by
  unfold X0_4 Pipeline.Window.fill
  refine (dif_pos (moved0_4 t _)).trans ?_
  show az m c ((win0_4.blk t).view.emb (fun a => ⟨(ix2 s d a : Fin _).val, _⟩)) = _
  generalize az m c = W; blk_ext [(idx t).2.2.2.2.1]
theorem blk5 (t : Fin cfg0.N) (k : Fin 3) (d : Fin 1024) : (iblk m c 5 t (ix2 k d) : EReal) = aw m c (ix2 k d) := by
  show aw m c ((win0_5.blk t).view.emb (ix2 k d)) = _
  generalize aw m c = W; blk_ext [(idx t).2.2.2.2.2.1]
/-- The values one and two rows back, across the block's first rows. -/
theorem back1_eq (t : Fin cfg0.N) (s : Fin 512) (d : Fin 1024) : back1 (grid0.coords t) (X0_1 m c t) (X0_2 m c t) (X0_3 m c t) (X0_4 m c t) s d = Dconv.back (az m c) 1 (row t s) d := by
  unfold back1 kp Dconv.back
  rw [coord t, blk1, blk2, blk3, blk4]
  have hN : t.val < 4 := lt_of_lt_of_eq t.isLt N_0
  by_cases hs : s.val = 0
  · rw [if_pos hs]
    by_cases ht : 0 < t.val
    · rw [if_pos ht, if_pos (by show 1 ≤ t.val * 512 + s.val; omega), mul_one]
      exact Dconv.ca_congr _ _ _ _ (by show (t.val * 64 - 1) * 8 + 7 = t.val * 512 + s.val - 1; omega)
    · rw [if_neg ht, if_neg (by show ¬ 1 ≤ t.val * 512 + s.val; omega), mul_zero]
  · rw [if_neg hs, if_pos (by show 1 ≤ t.val * 512 + s.val; omega)]
    exact Dconv.ca_congr _ _ _ _ (by show t.val * 512 + (s.val + 512 - 1) % 512 = t.val * 512 + s.val - 1; omega)
theorem back2_eq (t : Fin cfg0.N) (s : Fin 512) (d : Fin 1024) : back2 (grid0.coords t) (X0_1 m c t) (X0_2 m c t) (X0_3 m c t) (X0_4 m c t) s d = Dconv.back (az m c) 2 (row t s) d := by
  unfold back2 kp Dconv.back
  rw [coord t, blk1, blk2, blk3, blk4, blk3, blk4]
  have hN : t.val < 4 := lt_of_lt_of_eq t.isLt N_0
  by_cases hs : s.val = 0
  · rw [if_pos hs]
    by_cases ht : 0 < t.val
    · rw [if_pos ht, if_pos (by show 2 ≤ t.val * 512 + s.val; omega), mul_one]
      exact Dconv.ca_congr _ _ _ _ (by show (t.val * 64 - 1) * 8 + 6 = t.val * 512 + s.val - 2; omega)
    · rw [if_neg ht, if_neg (by show ¬ 2 ≤ t.val * 512 + s.val; omega), mul_zero]
  rw [if_neg hs]
  by_cases h1 : s.val = 1
  · rw [if_pos h1]
    by_cases ht : 0 < t.val
    · rw [if_pos ht, if_pos (by show 2 ≤ t.val * 512 + s.val; omega), mul_one]
      exact Dconv.ca_congr _ _ _ _ (by show (t.val * 64 - 1) * 8 + 7 = t.val * 512 + s.val - 2; omega)
    · rw [if_neg ht, if_neg (by show ¬ 2 ≤ t.val * 512 + s.val; omega), mul_zero]
  · rw [if_neg h1, if_pos (by show 2 ≤ t.val * 512 + s.val; omega)]
    exact Dconv.ca_congr _ _ _ _ (by show t.val * 512 + (s.val + 512 - 2) % 512 = t.val * 512 + s.val - 2; omega)
theorem out6 (t : Fin cfg0.N) (s : Fin 512) (d : Fin 1024) : (outsAt0 m c t (ix2 s d) : EReal) = gcv (az m c) (aw m c) (ix2 (row t s) d) := by
  unfold outsAt0
  refine (out0_A_6_eq c (grid0.coords t) _ _ _ _ _ _ _ _ _ _ _ _ _ _ _ _ _ _ _ _ s d).trans ?_
  rw [back1_eq, back2_eq, blk0, blk1, blk2, blk5, blk5, blk5]
  rfl
theorem emb6 (t : Fin cfg0.N) (s : Fin 512) (d : Fin 1024) : (win0_6.blk t).view.emb (ix2 s d) = (ix2 (row t s) d : S2048x1024.Idx) := by
  blk_ext [(idx t).2.2.2.2.2.2]
theorem covers6 : (cfg0.win 6).Covers := by decide +kernel
theorem arr6 : (dats m 0 c).arrAt 6 cfg0.N = gcv (az m c) (aw m c) := by
  refine (dats m 0 c).arrAt_eq_of_covers 6 _ covers6 fun t hf y => ?_
  blk_simp
  rw [after0_6]
  obtain ⟨s, d, rfl⟩ : ∃ (s : Fin 512) (d : Fin 1024), y = ix2 s d := ⟨_, _, ix2_eta y⟩
  exact (out6 m c t s d).trans (congrArg _ (emb6 t s d).symm)

end

section
variable (x0 : (⟨S2048x11776, .f32⟩ : BufTy).Contents (Elt Idealize.ShloMosaic.Ideal)) (x1 : (⟨S3x1024, .f32⟩ : BufTy).Contents (Elt Idealize.ShloMosaic.Ideal))

theorem ref8 (s : Fin 2048) (d : Fin 1024) : (Cert.FconvRefIdeal.Read.val_main_v8 (F := Idealize.ShloMosaic.Ideal) x0 (ix2 s d) : EReal) = Dconv.back x0 2 s d := by
  unfold Cert.FconvRefIdeal.Read.val_main_v8 Cert.FconvRefIdeal.Read.val_main_v5 Cert.FconvRefIdeal.Read.val_main_v4 Cert.FconvRefIdeal.Read.val_main_v3 Cert.FconvRefIdeal.Read.val_main_v2 Cert.FconvRefIdeal.Read.val_main_v1 Cert.FconvRefIdeal.Read.val_main_cst
  pointwise
  unfold Dconv.back
  by_cases h : s.val < 2
  · exact (dif_pos h).trans (if_neg (by omega)).symm
  · exact (dif_neg h).trans (if_pos (by omega : 2 ≤ s.val)).symm
theorem ref14 (s : Fin 2048) (d : Fin 1024) : (Cert.FconvRefIdeal.Read.val_main_v14 (F := Idealize.ShloMosaic.Ideal) x0 (ix2 s d) : EReal) = Dconv.back x0 1 s d := by
  unfold Cert.FconvRefIdeal.Read.val_main_v14 Cert.FconvRefIdeal.Read.val_main_v5 Cert.FconvRefIdeal.Read.val_main_v4 Cert.FconvRefIdeal.Read.val_main_v3 Cert.FconvRefIdeal.Read.val_main_v2 Cert.FconvRefIdeal.Read.val_main_v1 Cert.FconvRefIdeal.Read.val_main_cst
  pointwise
  unfold Dconv.back
  by_cases h : 1 + s.val < 2
  · exact (dif_pos h).trans (if_neg (by omega)).symm
  · refine (dif_neg h).trans (Eq.trans ?_ (if_pos (by omega : 1 ≤ s.val)).symm)
    exact Dconv.ca_congr _ _ ⟨1 + s.val - 2, by omega⟩ _ (by show 1 + s.val - 2 = s.val - 1; omega)
theorem ref21 (s : Fin 2048) (d : Fin 1024) : (Cert.FconvRefIdeal.Read.val_main_v21 (F := Idealize.ShloMosaic.Ideal) x0 (ix2 s d) : EReal) = Dconv.ca x0 s d := by
  unfold Cert.FconvRefIdeal.Read.val_main_v21 Cert.FconvRefIdeal.Read.val_main_v5 Cert.FconvRefIdeal.Read.val_main_v4 Cert.FconvRefIdeal.Read.val_main_v3 Cert.FconvRefIdeal.Read.val_main_v2 Cert.FconvRefIdeal.Read.val_main_v1 Cert.FconvRefIdeal.Read.val_main_cst
  pointwise
  rfl
theorem ref : Cert.FconvRefIdeal.Read.val_main_v27 (F := Idealize.ShloMosaic.Ideal) x0 x1 = gcv x0 x1 := by
  funext y
  obtain ⟨s, d, rfl⟩ : ∃ (s : Fin 2048) (d : Fin 1024), y = ix2 s d := ⟨_, _, ix2_eta' y⟩
  unfold Cert.FconvRefIdeal.Read.val_main_v27 Cert.FconvRefIdeal.Read.val_main_v26 Cert.FconvRefIdeal.Read.val_main_v25 Cert.FconvRefIdeal.Read.val_main_v24 Cert.FconvRefIdeal.Read.val_main_v23 Cert.FconvRefIdeal.Read.val_main_v22 Cert.FconvRefIdeal.Read.val_main_v20 Cert.FconvRefIdeal.Read.val_main_v19 Cert.FconvRefIdeal.Read.val_main_v18 Cert.FconvRefIdeal.Read.val_main_v17 Cert.FconvRefIdeal.Read.val_main_v16 Cert.FconvRefIdeal.Read.val_main_v15 Cert.FconvRefIdeal.Read.val_main_v13 Cert.FconvRefIdeal.Read.val_main_v12 Cert.FconvRefIdeal.Read.val_main_v11 Cert.FconvRefIdeal.Read.val_main_v10 Cert.FconvRefIdeal.Read.val_main_v9 Cert.FconvRefIdeal.Read.val_main_v7 Cert.FconvRefIdeal.Read.val_main_v6 Cert.FconvRefIdeal.Read.val_main_v0
  pointwise
  rw [ref8, ref14, ref21]
  refine congrArg (fun p => (x0 (ix2 s p) * Dconv.cv x0 x1 s d : EReal)) (Fin.ext ?_)
  show d.val = 0 * 1024 + d.val
  omega
end

theorem value : Cert.algebraic_FconvIdeal_FconvRefIdeal (hFconvIdeal := Cert.FconvIdeal.Gen.facts) (hFconvRefIdeal := Cert.FconvRefIdeal.Gen.facts) := by
  intro m g m' g' _ hagree
  refine ⟨fun c => _, Cert.FconvIdeal.Value.run_blocks m g, ?_⟩
  refine (θ_run (Cert.FconvRefIdeal.defs (F := Idealize.ShloMosaic.Ideal)) _ _).mono (fun r h c => ?_) (Cert.FconvRefIdeal.Value.run (F := Idealize.ShloMosaic.Ideal) m' g')
  obtain ⟨g0, g1⟩ := hagree c
  refine ⟨(h c).1.trans ((Cert.FconvRefIdeal.Read.val_main_v27_eq (F := Idealize.ShloMosaic.Ideal) _ _).trans ?_), (h c).2⟩
  clear h
  rw [g0, g1]
  exact (ref _ _).trans (arr6 m c).symm

end Cert.Bwd.Fconv

end
-- ==== Proof.Bwd.Fmerge.lean ====
module

public import proofs.«01_k».proof.Defs
public import proofs.«01_k».proof.Proof.Gen.FmergeIdeal
public import proofs.«01_k».proof.Proof.Gen.FmergeIdeal.Value
public import proofs.«01_k».proof.Proof.Gen.FmergeRefIdeal
public import proofs.«01_k».proof.Proof.Gen.FmergeRefIdeal.Run
public import proofs.«01_k».proof.Proof.Gen.FmergeRefIdeal.Read
public import Idealize.ShloMosaic.Lib.WritesUnit
public import Idealize.ShloMosaic.Lib.Pipeline.ValueKit
public import Idealize.ShloMosaic.Lib.Pipeline.ValueKit.Tiles
public import Idealize.ShloMosaic.Lib.Pipeline.ValueKit.Point
public import Idealize.ShloMosaic.Lib.Pointwise
public import proofs.«01_k».proof.Proof.Bwd.Dmerge

@[expose] public section

set_option maxRecDepth 16384

noncomputable section

namespace Cert.Bwd.Fmerge

open Cert.FmergeIdeal Cert.FmergeIdeal.Gen Idealize.ShloMosaic Idealize.ShloMosaic.TcCoe Idealize.ShloMosaic.Tactic Idealize.SL.Sem

/-! # The gated sum of the three mixers -/

theorem idx : ∀ t : Fin cfg0.N, win0_0.index t = ![t.val, 0] ∧ win0_1.index t = ![t.val, 0] ∧ win0_2.index t = ![t.val, 0] ∧ win0_3.index t = ![t.val, 8] ∧ win0_4.index t = ![t.val, 9] ∧ win0_5.index t = ![t.val, 10] ∧ win0_6.index t = ![0, 0] ∧ win0_7.index t = ![t.val, 0] :=
  (by decide +kernel : ∀ t : Fin grid0.N, _)

abbrev row (t : Fin cfg0.N) (s : Fin 512) : Fin 2048 := ⟨t.val * 512 + s.val, by have := t.isLt; have e : cfg0.N = 4 := N_0; omega⟩
theorem ix2_eta (y : S512x1024.Idx) : y = ix2 (⟨(y 0).val, (y 0).isLt⟩ : Fin 512) (⟨(y 1).val, (y 1).isLt⟩ : Fin 1024) := by
  funext a; match a with | ⟨0, _⟩ => rfl | ⟨1, _⟩ => rfl
theorem ix2_eta' (y : S2048x1024.Idx) : y = ix2 (⟨(y 0).val, (y 0).isLt⟩ : Fin 2048) (⟨(y 1).val, (y 1).isLt⟩ : Fin 1024) := by
  funext a; match a with | ⟨0, _⟩ => rfl | ⟨1, _⟩ => rfl

theorem neg0 (a : EReal) : 0 - a = -a := by rw [sub_eq_add_neg, zero_add]
theorem pay2 (v0 : Vec Idealize.ShloMosaic.Ideal S512x1024 .f32) (v1 : Vec Idealize.ShloMosaic.Ideal S1x1024 .f32) (v11 v13 : Vec Idealize.ShloMosaic.Ideal S512x1024 .f32) (v14 : Vec Idealize.ShloMosaic.Ideal S1x1024 .f32) (v24 : Vec Idealize.ShloMosaic.Ideal S512x1024 .f32) (s : Fin 512) (d : Fin 1024) :
    (k0_pay2 v0 v1 v11 v13 v14 v24 (ix2 s d) : EReal) = Dmerge.lgs (v0 (ix2 s d) + v1 (ix2 0 d)) * v11 (ix2 s d) + Dmerge.lgs (v13 (ix2 s d) + v14 (ix2 0 d)) * v24 (ix2 s d) := by
  unfold k0_pay2 Dmerge.lgs
  pointwise
  rw [neg0, neg0]
theorem pay1 (v26 v27 : Vec Idealize.ShloMosaic.Ideal S512x1024 .f32) (v28 : Vec Idealize.ShloMosaic.Ideal S1x1024 .f32) (v38 : Vec Idealize.ShloMosaic.Ideal S512x1024 .f32) (s : Fin 512) (d : Fin 1024) :
    (k0_pay1 v26 (k0_pay3 v27 v28) k0_pay4 v38 (ix2 s d) : EReal) = v26 (ix2 s d) + Dmerge.lgs (v27 (ix2 s d) + v28 (ix2 0 d)) * v38 (ix2 s d) := by
  unfold k0_pay1 k0_pay3 k0_pay4 Dmerge.lgs
  pointwise
  rw [neg0]

/-- The sum of the gated outputs, from the whole arrays. -/
def mrg (a b e : S2048x1024.Idx → EReal) (z : S2048x11776.Idx → EReal) (w : S3x1024.Idx → EReal) : S2048x1024.Idx → EReal :=
  fun y => Dmerge.lgs (z (ix2 (y 0) (Dmerge.gcol 0 (y 1))) + w (ix2 0 (y 1))) * a y + Dmerge.lgs (z (ix2 (y 0) (Dmerge.gcol 1 (y 1))) + w (ix2 1 (y 1))) * b y + Dmerge.lgs (z (ix2 (y 0) (Dmerge.gcol 2 (y 1))) + w (ix2 2 (y 1))) * e y

theorem out0_A_7_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S3x1024 .f32) (harg7 : arg7.IsWhole) (arg8 : Memref sig .tc .vmem S512x1024 .bf16) (harg8 : arg8.IsWhole)
    (x0 x1 x2 x3 x4 x5 : Vec Idealize.ShloMosaic.Ideal S512x1024 .f32) (x6 : Vec Idealize.ShloMosaic.Ideal S3x1024 .f32) (s : Fin 512) (d : Fin 1024) :
    (out0_A_7 c i arg1 harg1 arg2 harg2 arg3 harg3 arg4 harg4 arg5 harg5 arg6 harg6 arg7 harg7 arg8 harg8 x0 x1 x2 x3 x4 x5 x6 (ix2 s d) : EReal) = Dmerge.lgs (x3 (ix2 s d) + x6 (ix2 0 d)) * x0 (ix2 s d) + Dmerge.lgs (x4 (ix2 s d) + x6 (ix2 1 d)) * x1 (ix2 s d) + Dmerge.lgs (x5 (ix2 s d) + x6 (ix2 2 d)) * x2 (ix2 s d) := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  refine (congrFun (View.canon_unit_zero (by funext a; match a with | ⟨0, _⟩ => rfl | ⟨1, _⟩ => rfl) _ _) _).trans ?_
  rw [View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl), View.ld_unit_zero (by funext a; match a with | ⟨0, _⟩ => rfl | ⟨1, _⟩ => rfl)]
  refine (pay1 _ _ _ _ s d).trans ?_
  rw [pay2, Dmerge.bias0, Dmerge.bias1, Dmerge.bias2]

section
variable (m : (ℓ : Loc nD τ sig) → Buf (Elt Idealize.ShloMosaic.Ideal) ℓ) (c : Dev nD)

abbrev a0 : S2048x1024.Idx → EReal := m ((c : Thread nD τ).loc main_arg0)
abbrev a1 : S2048x1024.Idx → EReal := m ((c : Thread nD τ).loc main_arg1)
abbrev a2 : S2048x1024.Idx → EReal := m ((c : Thread nD τ).loc main_arg2)
abbrev az : S2048x11776.Idx → EReal := m ((c : Thread nD τ).loc main_arg3)
abbrev ab : S3x1024.Idx → EReal := m ((c : Thread nD τ).loc main_arg4)

theorem blk0 (t : Fin cfg0.N) (s : Fin 512) (d : Fin 1024) : (iblk m c 0 t (ix2 s d) : EReal) = a0 m c (ix2 (row t s) d) := by
  show a0 m c ((win0_0.blk t).view.emb (ix2 s d)) = _
  generalize a0 m c = W; blk_ext [(idx t).1]
theorem blk1 (t : Fin cfg0.N) (s : Fin 512) (d : Fin 1024) : (iblk m c 1 t (ix2 s d) : EReal) = a1 m c (ix2 (row t s) d) := by
  show a1 m c ((win0_1.blk t).view.emb (ix2 s d)) = _
  generalize a1 m c = W; blk_ext [(idx t).2.1]
theorem blk2 (t : Fin cfg0.N) (s : Fin 512) (d : Fin 1024) : (iblk m c 2 t (ix2 s d) : EReal) = a2 m c (ix2 (row t s) d) := by
  show a2 m c ((win0_2.blk t).view.emb (ix2 s d)) = _
  generalize a2 m c = W; blk_ext [(idx t).2.2.1]
theorem blk3 (t : Fin cfg0.N) (s : Fin 512) (d : Fin 1024) : (X0_3 m c t (ix2 s d) : EReal) = az m c (ix2 (row t s) (Dmerge.gcol 0 d)) := by
  unfold X0_3 Pipeline.Window.fill
  refine (dif_pos (moved0_3 t _)).trans ?_
  show az m c ((win0_3.blk t).view.emb (fun a => ⟨(ix2 s d a : Fin _).val, _⟩)) = _
  generalize az m c = W; blk_ext [(idx t).2.2.2.1]
theorem blk4 (t : Fin cfg0.N) (s : Fin 512) (d : Fin 1024) : (X0_4 m c t (ix2 s d) : EReal) = az m c (ix2 (row t s) (Dmerge.gcol 1 d)) := by
  unfold X0_4 Pipeline.Window.fill
  refine (dif_pos (moved0_4 t _)).trans ?_
  show az m c ((win0_4.blk t).view.emb (fun a => ⟨(ix2 s d a : Fin _).val, _⟩)) = _
  generalize az m c = W; blk_ext [(idx t).2.2.2.2.1]
theorem blk5 (t : Fin cfg0.N) (s : Fin 512) (d : Fin 1024) : (X0_5 m c t (ix2 s d) : EReal) = az m c (ix2 (row t s) (Dmerge.gcol 2 d)) := by
  unfold X0_5 Pipeline.Window.fill
  refine (dif_pos (moved0_5 t _)).trans ?_
  show az m c ((win0_5.blk t).view.emb (fun a => ⟨(ix2 s d a : Fin _).val, _⟩)) = _
  generalize az m c = W; blk_ext [(idx t).2.2.2.2.2.1]
theorem blk6 (t : Fin cfg0.N) (k : Fin 3) (d : Fin 1024) : (iblk m c 6 t (ix2 k d) : EReal) = ab m c (ix2 k d) := by
  show ab m c ((win0_6.blk t).view.emb (ix2 k d)) = _
  generalize ab m c = W; blk_ext [(idx t).2.2.2.2.2.2.1]
theorem out7 (t : Fin cfg0.N) (s : Fin 512) (d : Fin 1024) : (outsAt0 m c t (ix2 s d) : EReal) = mrg (a0 m c) (a1 m c) (a2 m c) (az m c) (ab m c) (ix2 (row t s) d) := by
  unfold outsAt0
  refine (out0_A_7_eq c (grid0.coords t) _ _ _ _ _ _ _ _ _ _ _ _ _ _ _ _ _ _ _ _ _ _ _ s d).trans ?_
  rw [blk0, blk1, blk2, blk3, blk4, blk5, blk6, blk6, blk6]
  rfl
theorem emb7 (t : Fin cfg0.N) (s : Fin 512) (d : Fin 1024) : (win0_7.blk t).view.emb (ix2 s d) = (ix2 (row t s) d : S2048x1024.Idx) := by
  blk_ext [(idx t).2.2.2.2.2.2.2]
theorem covers7 : (cfg0.win 7).Covers := by decide +kernel
theorem arr7 : (dats m 0 c).arrAt 7 cfg0.N = mrg (a0 m c) (a1 m c) (a2 m c) (az m c) (ab m c) := by
  refine (dats m 0 c).arrAt_eq_of_covers 7 _ covers7 fun t hf y => ?_
  blk_simp
  rw [after0_7]
  obtain ⟨s, d, rfl⟩ : ∃ (s : Fin 512) (d : Fin 1024), y = ix2 s d := ⟨_, _, ix2_eta y⟩
  exact (out7 m c t s d).trans (congrArg _ (emb7 t s d).symm)

end

section
variable (x0 x1 x2 : (⟨S2048x1024, .f32⟩ : BufTy).Contents (Elt Idealize.ShloMosaic.Ideal)) (x3 : (⟨S2048x11776, .f32⟩ : BufTy).Contents (Elt Idealize.ShloMosaic.Ideal)) (x4 : (⟨S3x1024, .f32⟩ : BufTy).Contents (Elt Idealize.ShloMosaic.Ideal))

theorem refG (s : Fin 2048) (k : Fin 3) (d : Fin 1024) : (Cert.FmergeRefIdeal.Read.val_main_v10 (F := Idealize.ShloMosaic.Ideal) x3 x4 (ix3 s k d) : EReal) = Dmerge.lgs (x3 (ix2 s (Dmerge.gcol k d)) + x4 (ix2 k d)) := by
  unfold Cert.FmergeRefIdeal.Read.val_main_v10 Cert.FmergeRefIdeal.Read.val_main_v9 Cert.FmergeRefIdeal.Read.val_main_v8 Cert.FmergeRefIdeal.Read.val_main_v7 Cert.FmergeRefIdeal.Read.val_main_v6 Cert.FmergeRefIdeal.Read.val_main_v5 Cert.FmergeRefIdeal.Read.val_main_v4 Cert.FmergeRefIdeal.Read.val_main_v3 Cert.FmergeRefIdeal.Read.val_main_v2 Cert.FmergeRefIdeal.Read.val_main_v1 Cert.FmergeRefIdeal.Read.val_main_v0 Cert.FmergeRefIdeal.Read.val_main_cst Cert.FmergeRefIdeal.Read.val_main_cst_0 Dmerge.lgs
  pointwise
  try rfl
theorem ref : Cert.FmergeRefIdeal.Read.val_main_v22 (F := Idealize.ShloMosaic.Ideal) x0 x1 x2 x3 x4 = mrg x0 x1 x2 x3 x4 := by
  funext y
  obtain ⟨s, d, rfl⟩ : ∃ (s : Fin 2048) (d : Fin 1024), y = ix2 s d := ⟨_, _, ix2_eta' y⟩
  unfold Cert.FmergeRefIdeal.Read.val_main_v22 Cert.FmergeRefIdeal.Read.val_main_v21 Cert.FmergeRefIdeal.Read.val_main_v20 Cert.FmergeRefIdeal.Read.val_main_v19 Cert.FmergeRefIdeal.Read.val_main_v18 Cert.FmergeRefIdeal.Read.val_main_v17 Cert.FmergeRefIdeal.Read.val_main_v16 Cert.FmergeRefIdeal.Read.val_main_v15 Cert.FmergeRefIdeal.Read.val_main_v14 Cert.FmergeRefIdeal.Read.val_main_v13 Cert.FmergeRefIdeal.Read.val_main_v12 Cert.FmergeRefIdeal.Read.val_main_v11
  pointwise
  rw [refG, refG, refG]
  rfl
end

theorem value : Cert.algebraic_FmergeIdeal_FmergeRefIdeal (hFmergeIdeal := Cert.FmergeIdeal.Gen.facts) (hFmergeRefIdeal := Cert.FmergeRefIdeal.Gen.facts) := by
  intro m g m' g' _ hagree
  refine ⟨fun c => _, Cert.FmergeIdeal.Value.run_blocks m g, ?_⟩
  refine (θ_run (Cert.FmergeRefIdeal.defs (F := Idealize.ShloMosaic.Ideal)) _ _).mono (fun r h c => ?_) (Cert.FmergeRefIdeal.Value.run (F := Idealize.ShloMosaic.Ideal) m' g')
  obtain ⟨g0, g1, g2, g3, g4⟩ := hagree c
  refine ⟨(h c).1.trans ((Cert.FmergeRefIdeal.Read.val_main_v22_eq (F := Idealize.ShloMosaic.Ideal) _ _ _ _ _).trans ?_), (h c).2⟩
  clear h
  rw [g0, g1, g2, g3, g4]
  exact (ref _ _ _ _ _).trans (arr7 m c).symm

end Cert.Bwd.Fmerge

end
-- ==== Proof.lean ====
/- The proof of the claim (Defs.lean): the frames are generated, the reference declares no semaphore, and the value
   claims join three equations of Proof/Dkv/Final.lean, one for each result of the key and value gradient kernel, and one
   of each module of Proof/Bwd for the other kernels of the training step. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Dkv.Final
public import proofs.«01_k».proof.Proof.Gen.Dgu
public import proofs.«01_k».proof.Proof.Gen.Dgu.Frame
public import proofs.«01_k».proof.Proof.Gen.DguIdeal
public import proofs.«01_k».proof.Proof.Gen.DguIdeal.Frame
public import proofs.«01_k».proof.Proof.Gen.DguIdeal.Value
public import proofs.«01_k».proof.Proof.Gen.DguRefIdeal
public import proofs.«01_k».proof.Proof.Gen.DguRefIdeal.Run
public import proofs.«01_k».proof.Proof.Gen.DguRefIdeal.Read
public import proofs.«01_k».proof.Proof.Gen.Drms
public import proofs.«01_k».proof.Proof.Gen.Drms.Frame
public import proofs.«01_k».proof.Proof.Gen.DrmsIdeal
public import proofs.«01_k».proof.Proof.Gen.DrmsIdeal.Frame
public import proofs.«01_k».proof.Proof.Gen.DrmsIdeal.Value
public import proofs.«01_k».proof.Proof.Gen.DrmsRefIdeal
public import proofs.«01_k».proof.Proof.Gen.DrmsRefIdeal.Run
public import proofs.«01_k».proof.Proof.Gen.DrmsRefIdeal.Read
public import proofs.«01_k».proof.Proof.Gen.Dqk
public import proofs.«01_k».proof.Proof.Gen.Dqk.Frame
public import proofs.«01_k».proof.Proof.Gen.DqkIdeal
public import proofs.«01_k».proof.Proof.Gen.DqkIdeal.Frame
public import proofs.«01_k».proof.Proof.Gen.DqkIdeal.Value
public import proofs.«01_k».proof.Proof.Gen.DqkRefIdeal
public import proofs.«01_k».proof.Proof.Gen.DqkRefIdeal.Run
public import proofs.«01_k».proof.Proof.Gen.DqkRefIdeal.Read
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.DhRefIdeal.Read
public import proofs.«01_k».proof.Proof.Gen.Dwgu
public import proofs.«01_k».proof.Proof.Gen.Dwgu.Frame
public import proofs.«01_k».proof.Proof.Gen.DwguIdeal
public import proofs.«01_k».proof.Proof.Gen.DwguIdeal.Frame
public import proofs.«01_k».proof.Proof.Gen.DwguIdeal.Value
public import proofs.«01_k».proof.Proof.Gen.DwguRefIdeal
public import proofs.«01_k».proof.Proof.Gen.DwguRefIdeal.Run
public import proofs.«01_k».proof.Proof.Gen.DwguRefIdeal.Read
public import proofs.«01_k».proof.Proof.Gen.Dwd
public import proofs.«01_k».proof.Proof.Gen.Dwd.Frame
public import proofs.«01_k».proof.Proof.Gen.DwdIdeal
public import proofs.«01_k».proof.Proof.Gen.DwdIdeal.Frame
public import proofs.«01_k».proof.Proof.Gen.DwdIdeal.Value
public import proofs.«01_k».proof.Proof.Gen.DwdRefIdeal
public import proofs.«01_k».proof.Proof.Gen.DwdRefIdeal.Run
public import proofs.«01_k».proof.Proof.Gen.DwdRefIdeal.Read
public import proofs.«01_k».proof.Proof.Gen.Dwin
public import proofs.«01_k».proof.Proof.Gen.Dwin.Frame
public import proofs.«01_k».proof.Proof.Gen.DwinIdeal
public import proofs.«01_k».proof.Proof.Gen.DwinIdeal.Frame
public import proofs.«01_k».proof.Proof.Gen.DwinIdeal.Value
public import proofs.«01_k».proof.Proof.Gen.DwinRefIdeal
public import proofs.«01_k».proof.Proof.Gen.DwinRefIdeal.Run
public import proofs.«01_k».proof.Proof.Gen.DwinRefIdeal.Read
public import proofs.«01_k».proof.Proof.Gen.Dhin
public import proofs.«01_k».proof.Proof.Gen.Dhin.Frame
public import proofs.«01_k».proof.Proof.Gen.DhinIdeal
public import proofs.«01_k».proof.Proof.Gen.DhinIdeal.Frame
public import proofs.«01_k».proof.Proof.Gen.DhinRefIdeal
public import proofs.«01_k».proof.Proof.Gen.DhinRefIdeal.Run
public import proofs.«01_k».proof.Proof.Gen.DhinRefIdeal.Read
public import proofs.«01_k».proof.Proof.Gen.DsqO
public import proofs.«01_k».proof.Proof.Gen.DsqO.Frame
public import proofs.«01_k».proof.Proof.Gen.DsqOIdeal
public import proofs.«01_k».proof.Proof.Gen.DsqOIdeal.Frame
public import proofs.«01_k».proof.Proof.Gen.DsqOIdeal.Value
public import proofs.«01_k».proof.Proof.Gen.DsqORefIdeal
public import proofs.«01_k».proof.Proof.Gen.DsqORefIdeal.Run
public import proofs.«01_k».proof.Proof.Gen.DsqORefIdeal.Read
public import proofs.«01_k».proof.Proof.Gen.DsqC
public import proofs.«01_k».proof.Proof.Gen.DsqC.Frame
public import proofs.«01_k».proof.Proof.Gen.DsqCIdeal
public import proofs.«01_k».proof.Proof.Gen.DsqCIdeal.Frame
public import proofs.«01_k».proof.Proof.Gen.DsqCIdeal.Value
public import proofs.«01_k».proof.Proof.Gen.DsqCRefIdeal
public import proofs.«01_k».proof.Proof.Gen.DsqCRefIdeal.Run
public import proofs.«01_k».proof.Proof.Gen.DsqCRefIdeal.Read
public import proofs.«01_k».proof.Proof.Gen.DsqS
public import proofs.«01_k».proof.Proof.Gen.DsqS.Frame
public import proofs.«01_k».proof.Proof.Gen.DsqSIdeal
public import proofs.«01_k».proof.Proof.Gen.DsqSIdeal.Frame
public import proofs.«01_k».proof.Proof.Gen.DsqSIdeal.Value
public import proofs.«01_k».proof.Proof.Gen.DsqSRefIdeal
public import proofs.«01_k».proof.Proof.Gen.DsqSRefIdeal.Run
public import proofs.«01_k».proof.Proof.Gen.DsqSRefIdeal.Read
public import proofs.«01_k».proof.Proof.Gen.DsqA
public import proofs.«01_k».proof.Proof.Gen.DsqA.Frame
public import proofs.«01_k».proof.Proof.Gen.DsqAIdeal
public import proofs.«01_k».proof.Proof.Gen.DsqAIdeal.Frame
public import proofs.«01_k».proof.Proof.Gen.DsqAIdeal.Value
public import proofs.«01_k».proof.Proof.Gen.DsqARefIdeal
public import proofs.«01_k».proof.Proof.Gen.DsqARefIdeal.Run
public import proofs.«01_k».proof.Proof.Gen.DsqARefIdeal.Read
public import proofs.«01_k».proof.Proof.Gen.DwsqO
public import proofs.«01_k».proof.Proof.Gen.DwsqO.Frame
public import proofs.«01_k».proof.Proof.Gen.DwsqOIdeal
public import proofs.«01_k».proof.Proof.Gen.DwsqOIdeal.Frame
public import proofs.«01_k».proof.Proof.Gen.DwsqOIdeal.Value
public import proofs.«01_k».proof.Proof.Gen.DwsqORefIdeal
public import proofs.«01_k».proof.Proof.Gen.DwsqORefIdeal.Run
public import proofs.«01_k».proof.Proof.Gen.DwsqORefIdeal.Read
public import proofs.«01_k».proof.Proof.Gen.DwsqM
public import proofs.«01_k».proof.Proof.Gen.DwsqM.Frame
public import proofs.«01_k».proof.Proof.Gen.DwsqMIdeal
public import proofs.«01_k».proof.Proof.Gen.DwsqMIdeal.Frame
public import proofs.«01_k».proof.Proof.Gen.DwsqMIdeal.Value
public import proofs.«01_k».proof.Proof.Gen.DwsqMRefIdeal
public import proofs.«01_k».proof.Proof.Gen.DwsqMRefIdeal.Run
public import proofs.«01_k».proof.Proof.Gen.DwsqMRefIdeal.Read
public import proofs.«01_k».proof.Proof.Gen.DwsqA
public import proofs.«01_k».proof.Proof.Gen.DwsqA.Frame
public import proofs.«01_k».proof.Proof.Gen.DwsqAIdeal
public import proofs.«01_k».proof.Proof.Gen.DwsqAIdeal.Frame
public import proofs.«01_k».proof.Proof.Gen.DwsqAIdeal.Value
public import proofs.«01_k».proof.Proof.Gen.DwsqARefIdeal
public import proofs.«01_k».proof.Proof.Gen.DwsqARefIdeal.Run
public import proofs.«01_k».proof.Proof.Gen.DwsqARefIdeal.Read
public import proofs.«01_k».proof.Proof.Gen.Dmerge
public import proofs.«01_k».proof.Proof.Gen.Dmerge.Frame
public import proofs.«01_k».proof.Proof.Gen.DmergeIdeal
public import proofs.«01_k».proof.Proof.Gen.DmergeIdeal.Frame
public import proofs.«01_k».proof.Proof.Gen.DmergeIdeal.Value
public import proofs.«01_k».proof.Proof.Gen.DmergeRefIdeal
public import proofs.«01_k».proof.Proof.Gen.DmergeRefIdeal.Run
public import proofs.«01_k».proof.Proof.Gen.DmergeRefIdeal.Read
public import proofs.«01_k».proof.Proof.Gen.Fin
public import proofs.«01_k».proof.Proof.Gen.Fin.Frame
public import proofs.«01_k».proof.Proof.Gen.FinIdeal
public import proofs.«01_k».proof.Proof.Gen.FinIdeal.Frame
public import proofs.«01_k».proof.Proof.Gen.FinIdeal.Value
public import proofs.«01_k».proof.Proof.Gen.FinRefIdeal
public import proofs.«01_k».proof.Proof.Gen.FinRefIdeal.Run
public import proofs.«01_k».proof.Proof.Gen.FinRefIdeal.Read
public import proofs.«01_k».proof.Proof.Gen.Fgu
public import proofs.«01_k».proof.Proof.Gen.Fgu.Frame
public import proofs.«01_k».proof.Proof.Gen.FguIdeal
public import proofs.«01_k».proof.Proof.Gen.FguIdeal.Frame
public import proofs.«01_k».proof.Proof.Gen.FguIdeal.Value
public import proofs.«01_k».proof.Proof.Gen.FguRefIdeal
public import proofs.«01_k».proof.Proof.Gen.FguRefIdeal.Run
public import proofs.«01_k».proof.Proof.Gen.FguRefIdeal.Read
public import proofs.«01_k».proof.Proof.Gen.Fdown
public import proofs.«01_k».proof.Proof.Gen.Fdown.Frame
public import proofs.«01_k».proof.Proof.Gen.FdownIdeal
public import proofs.«01_k».proof.Proof.Gen.FdownIdeal.Frame
public import proofs.«01_k».proof.Proof.Gen.FdownIdeal.Value
public import proofs.«01_k».proof.Proof.Gen.FdownRefIdeal
public import proofs.«01_k».proof.Proof.Gen.FdownRefIdeal.Run
public import proofs.«01_k».proof.Proof.Gen.FdownRefIdeal.Read
public import proofs.«01_k».proof.Proof.Gen.FsqC
public import proofs.«01_k».proof.Proof.Gen.FsqC.Frame
public import proofs.«01_k».proof.Proof.Gen.FsqCIdeal
public import proofs.«01_k».proof.Proof.Gen.FsqCIdeal.Frame
public import proofs.«01_k».proof.Proof.Gen.FsqCIdeal.Value
public import proofs.«01_k».proof.Proof.Gen.FsqCRefIdeal
public import proofs.«01_k».proof.Proof.Gen.FsqCRefIdeal.Run
public import proofs.«01_k».proof.Proof.Gen.FsqCRefIdeal.Read
public import proofs.«01_k».proof.Proof.Gen.FsqS
public import proofs.«01_k».proof.Proof.Gen.FsqS.Frame
public import proofs.«01_k».proof.Proof.Gen.FsqSIdeal
public import proofs.«01_k».proof.Proof.Gen.FsqSIdeal.Frame
public import proofs.«01_k».proof.Proof.Gen.FsqSIdeal.Value
public import proofs.«01_k».proof.Proof.Gen.FsqSRefIdeal
public import proofs.«01_k».proof.Proof.Gen.FsqSRefIdeal.Run
public import proofs.«01_k».proof.Proof.Gen.FsqSRefIdeal.Read
public import proofs.«01_k».proof.Proof.Gen.FsqA
public import proofs.«01_k».proof.Proof.Gen.FsqA.Frame
public import proofs.«01_k».proof.Proof.Gen.FsqAIdeal
public import proofs.«01_k».proof.Proof.Gen.FsqAIdeal.Frame
public import proofs.«01_k».proof.Proof.Gen.FsqAIdeal.Value
public import proofs.«01_k».proof.Proof.Gen.FsqARefIdeal
public import proofs.«01_k».proof.Proof.Gen.FsqARefIdeal.Run
public import proofs.«01_k».proof.Proof.Gen.FsqARefIdeal.Read
public import proofs.«01_k».proof.Proof.Gen.FsqO
public import proofs.«01_k».proof.Proof.Gen.FsqO.Frame
public import proofs.«01_k».proof.Proof.Gen.FsqOIdeal
public import proofs.«01_k».proof.Proof.Gen.FsqOIdeal.Frame
public import proofs.«01_k».proof.Proof.Gen.FsqOIdeal.Value
public import proofs.«01_k».proof.Proof.Gen.FsqORefIdeal
public import proofs.«01_k».proof.Proof.Gen.FsqORefIdeal.Run
public import proofs.«01_k».proof.Proof.Gen.FsqORefIdeal.Read
public import proofs.«01_k».proof.Proof.Gen.Dconv
public import proofs.«01_k».proof.Proof.Gen.Dconv.Frame
public import proofs.«01_k».proof.Proof.Gen.DconvIdeal
public import proofs.«01_k».proof.Proof.Gen.DconvIdeal.Frame
public import proofs.«01_k».proof.Proof.Gen.DconvIdeal.Value
public import proofs.«01_k».proof.Proof.Gen.DconvRefIdeal
public import proofs.«01_k».proof.Proof.Gen.DconvRefIdeal.Run
public import proofs.«01_k».proof.Proof.Gen.DconvRefIdeal.Read
public import proofs.«01_k».proof.Proof.Gen.Frms
public import proofs.«01_k».proof.Proof.Gen.Frms.Frame
public import proofs.«01_k».proof.Proof.Gen.FrmsIdeal
public import proofs.«01_k».proof.Proof.Gen.FrmsIdeal.Frame
public import proofs.«01_k».proof.Proof.Gen.FrmsIdeal.Value
public import proofs.«01_k».proof.Proof.Gen.FrmsRefIdeal
public import proofs.«01_k».proof.Proof.Gen.FrmsRefIdeal.Run
public import proofs.«01_k».proof.Proof.Gen.FrmsRefIdeal.Read
public import proofs.«01_k».proof.Proof.Gen.Fconv
public import proofs.«01_k».proof.Proof.Gen.Fconv.Frame
public import proofs.«01_k».proof.Proof.Gen.FconvIdeal
public import proofs.«01_k».proof.Proof.Gen.FconvIdeal.Frame
public import proofs.«01_k».proof.Proof.Gen.FconvIdeal.Value
public import proofs.«01_k».proof.Proof.Gen.FconvRefIdeal
public import proofs.«01_k».proof.Proof.Gen.FconvRefIdeal.Run
public import proofs.«01_k».proof.Proof.Gen.FconvRefIdeal.Read
public import proofs.«01_k».proof.Proof.Gen.Fmerge
public import proofs.«01_k».proof.Proof.Gen.Fmerge.Frame
public import proofs.«01_k».proof.Proof.Gen.FmergeIdeal
public import proofs.«01_k».proof.Proof.Gen.FmergeIdeal.Frame
public import proofs.«01_k».proof.Proof.Gen.FmergeIdeal.Value
public import proofs.«01_k».proof.Proof.Gen.FmergeRefIdeal
public import proofs.«01_k».proof.Proof.Gen.FmergeRefIdeal.Run
public import proofs.«01_k».proof.Proof.Gen.FmergeRefIdeal.Read
public import proofs.«01_k».proof.Proof.Bwd.Dgu
public import proofs.«01_k».proof.Proof.Bwd.Drms
public import proofs.«01_k».proof.Proof.Bwd.Dqk
public import proofs.«01_k».proof.Proof.Bwd.Dh
public import proofs.«01_k».proof.Proof.Bwd.Dwgu
public import proofs.«01_k».proof.Proof.Bwd.Dwd
public import proofs.«01_k».proof.Proof.Bwd.Dwin
public import proofs.«01_k».proof.Proof.Bwd.Dhin
public import proofs.«01_k».proof.Proof.Bwd.DsqO
public import proofs.«01_k».proof.Proof.Bwd.DsqC
public import proofs.«01_k».proof.Proof.Bwd.DsqS
public import proofs.«01_k».proof.Proof.Bwd.DsqA
public import proofs.«01_k».proof.Proof.Bwd.DwsqO
public import proofs.«01_k».proof.Proof.Bwd.DwsqM
public import proofs.«01_k».proof.Proof.Bwd.DwsqA
public import proofs.«01_k».proof.Proof.Bwd.Dmerge
public import proofs.«01_k».proof.Proof.Bwd.Fin
public import proofs.«01_k».proof.Proof.Bwd.Fgu
public import proofs.«01_k».proof.Proof.Bwd.Fdown
public import proofs.«01_k».proof.Proof.Bwd.FsqC
public import proofs.«01_k».proof.Proof.Bwd.FsqS
public import proofs.«01_k».proof.Proof.Bwd.FsqA
public import proofs.«01_k».proof.Proof.Bwd.FsqO
public import proofs.«01_k».proof.Proof.Bwd.Dconv
public import proofs.«01_k».proof.Proof.Bwd.Frms
public import proofs.«01_k».proof.Proof.Bwd.Fconv
public import proofs.«01_k».proof.Proof.Bwd.Fmerge
public import Idealize.ShloMosaic.Adequacy
public import Idealize.ShloMosaic.Init

@[expose] public section

noncomputable section

namespace Cert.Proof

open Idealize.ShloMosaic Idealize.SL.Sem Cert.Kernel

/-- Under the precondition every entry of the five arguments is a real number. -/
theorem pre_real (m : (ℓ : Loc Cert.KernelIdeal.nD Cert.KernelIdeal.τ Cert.KernelIdeal.sig) → Buf (Elt Ideal) ℓ)
    (h : Cert.Pre_KernelIdeal_finite (hPre_finite := Cert.Dkv.facts_pre) m) (c : Dev Cert.KernelIdeal.nD) :
    (∀ y, ∃ r : ℝ, Cert.Dkv.a0 m c y = (r : EReal)) ∧ (∀ y, ∃ r : ℝ, Cert.Dkv.a1 m c y = (r : EReal)) ∧ (∀ y, ∃ r : ℝ, Cert.Dkv.a2 m c y = (r : EReal))
    ∧ (∀ y, ∃ r : ℝ, Cert.Dkv.a3 m c y = (r : EReal)) ∧ (∀ y, ∃ r : ℝ, Cert.Dkv.a4 m c y = (r : EReal)) :=
  have e := h c
  ⟨Cert.Dkv.fin_gen _ _ Cert.Dkv.inf_bf16 _ e.1, Cert.Dkv.fin_gen _ _ Cert.Dkv.inf_bf16 _ e.2.1, Cert.Dkv.fin_gen _ _ Cert.Dkv.inf_bf16 _ e.2.2.1,
    Cert.Dkv.fin_gen _ _ Cert.Dkv.inf_f32 _ e.2.2.2.1, Cert.Dkv.fin_gen _ _ Cert.Dkv.inf_f32 _ e.2.2.2.2⟩

/-- The reference leaves its arguments as they were; it declares no semaphore. -/
theorem frame_reference : Cert.quiescent_ReferenceIdeal (hReferenceIdeal := Cert.ReferenceIdeal.Gen.facts) := by
  intro m g _
  exact (θ_run (Cert.ReferenceIdeal.defs (F := Ideal)) _ _).mono (fun r h => ⟨fun c => (h c).2.2.2,
      Idealize.ShloMosaic.sem_eq_zero_of_no_sems (by decide) r.2⟩)
    (Cert.ReferenceIdeal.Value.run (F := Ideal) m g)

theorem claim_value : Cert.algebraic_KernelIdeal_ReferenceIdeal_pre_finite (hKernelIdeal := Cert.KernelIdeal.Gen.facts) (hReferenceIdeal := Cert.ReferenceIdeal.Gen.facts) (hPre_finite := Cert.Dkv.facts_pre) := by
  intro m g m' g' hpre hagree
  refine ⟨fun c => _, fun c => _, fun c => _, Cert.KernelIdeal.Value.run_blocks m g, ?_⟩
  refine (θ_run (Cert.ReferenceIdeal.defs (F := Ideal)) _ _).mono (fun r h c => ?_) (Cert.ReferenceIdeal.Value.run (F := Ideal) m' g')
  obtain ⟨h0, h1, h2, h3, h4⟩ := pre_real m hpre c
  have e := Cert.Dkv.final m c h0 h1 h2 h3 h4
  obtain ⟨g0, g1, g2, g3, g4⟩ := hagree c
  refine ⟨(h c).1.trans (((Cert.ReferenceIdeal.Read.val_main_v85_eq m' c).trans ?_).trans e.1.symm), (h c).2.1.trans (((Cert.ReferenceIdeal.Read.val_main_v86_eq m' c).trans ?_).trans e.2.1.symm),
    (h c).2.2.1.trans (((Cert.ReferenceIdeal.Read.val_main_v89_eq m' c).trans ?_).trans e.2.2.symm), (h c).2.2.2⟩
  · rw [g0, g1, g2, g3, g4]
  · rw [g0, g1, g3, g4]
  · rw [g0, g1, g2, g3, g4]

theorem frame_DguRef : Cert.quiescent_DguRefIdeal (hDguRefIdeal := Cert.DguRefIdeal.Gen.facts) := by
  intro m g _
  exact (θ_run (Cert.DguRefIdeal.defs (F := Ideal)) _ _).mono (fun r h => ⟨fun c => (h c).2,
      Idealize.ShloMosaic.sem_eq_zero_of_no_sems (by decide) r.2⟩)
    (Cert.DguRefIdeal.Value.run (F := Ideal) m g)

theorem frame_DrmsRef : Cert.quiescent_DrmsRefIdeal (hDrmsRefIdeal := Cert.DrmsRefIdeal.Gen.facts) := by
  intro m g _
  exact (θ_run (Cert.DrmsRefIdeal.defs (F := Ideal)) _ _).mono (fun r h => ⟨fun c => (h c).2.2,
      Idealize.ShloMosaic.sem_eq_zero_of_no_sems (by decide) r.2⟩)
    (Cert.DrmsRefIdeal.Value.run (F := Ideal) m g)

theorem frame_DqkRef : Cert.quiescent_DqkRefIdeal (hDqkRefIdeal := Cert.DqkRefIdeal.Gen.facts) := by
  intro m g _
  exact (θ_run (Cert.DqkRefIdeal.defs (F := Ideal)) _ _).mono (fun r h => ⟨fun c => (h c).2.2.2,
      Idealize.ShloMosaic.sem_eq_zero_of_no_sems (by decide) r.2⟩)
    (Cert.DqkRefIdeal.Value.run (F := Ideal) m g)

theorem frame_DhRef : Cert.quiescent_DhRefIdeal (hDhRefIdeal := Cert.DhRefIdeal.Gen.facts) := by
  intro m g _
  exact (θ_run (Cert.DhRefIdeal.defs (F := Ideal)) _ _).mono (fun r h => ⟨fun c => (h c).2,
      Idealize.ShloMosaic.sem_eq_zero_of_no_sems (by decide) r.2⟩)
    (Cert.DhRefIdeal.Value.run (F := Ideal) m g)

theorem frame_DwguRef : Cert.quiescent_DwguRefIdeal (hDwguRefIdeal := Cert.DwguRefIdeal.Gen.facts) := by
  intro m g _
  exact (θ_run (Cert.DwguRefIdeal.defs (F := Ideal)) _ _).mono (fun r h => ⟨fun c => (h c).2,
      Idealize.ShloMosaic.sem_eq_zero_of_no_sems (by decide) r.2⟩)
    (Cert.DwguRefIdeal.Value.run (F := Ideal) m g)

theorem frame_DwdRef : Cert.quiescent_DwdRefIdeal (hDwdRefIdeal := Cert.DwdRefIdeal.Gen.facts) := by
  intro m g _
  exact (θ_run (Cert.DwdRefIdeal.defs (F := Ideal)) _ _).mono (fun r h => ⟨fun c => (h c).2,
      Idealize.ShloMosaic.sem_eq_zero_of_no_sems (by decide) r.2⟩)
    (Cert.DwdRefIdeal.Value.run (F := Ideal) m g)

theorem frame_DwinRef : Cert.quiescent_DwinRefIdeal (hDwinRefIdeal := Cert.DwinRefIdeal.Gen.facts) := by
  intro m g _
  exact (θ_run (Cert.DwinRefIdeal.defs (F := Ideal)) _ _).mono (fun r h => ⟨fun c => (h c).2,
      Idealize.ShloMosaic.sem_eq_zero_of_no_sems (by decide) r.2⟩)
    (Cert.DwinRefIdeal.Value.run (F := Ideal) m g)

theorem frame_DhinRef : Cert.quiescent_DhinRefIdeal (hDhinRefIdeal := Cert.DhinRefIdeal.Gen.facts) := by
  intro m g _
  exact (θ_run (Cert.DhinRefIdeal.defs (F := Ideal)) _ _).mono (fun r h => ⟨fun c => (h c).2,
      Idealize.ShloMosaic.sem_eq_zero_of_no_sems (by decide) r.2⟩)
    (Cert.DhinRefIdeal.Value.run (F := Ideal) m g)

theorem frame_DsqORef : Cert.quiescent_DsqORefIdeal (hDsqORefIdeal := Cert.DsqORefIdeal.Gen.facts) := by
  intro m g _
  exact (θ_run (Cert.DsqORefIdeal.defs (F := Ideal)) _ _).mono (fun r h => ⟨fun c => (h c).2,
      Idealize.ShloMosaic.sem_eq_zero_of_no_sems (by decide) r.2⟩)
    (Cert.DsqORefIdeal.Value.run (F := Ideal) m g)

theorem frame_DsqCRef : Cert.quiescent_DsqCRefIdeal (hDsqCRefIdeal := Cert.DsqCRefIdeal.Gen.facts) := by
  intro m g _
  exact (θ_run (Cert.DsqCRefIdeal.defs (F := Ideal)) _ _).mono (fun r h => ⟨fun c => (h c).2,
      Idealize.ShloMosaic.sem_eq_zero_of_no_sems (by decide) r.2⟩)
    (Cert.DsqCRefIdeal.Value.run (F := Ideal) m g)

theorem frame_DsqSRef : Cert.quiescent_DsqSRefIdeal (hDsqSRefIdeal := Cert.DsqSRefIdeal.Gen.facts) := by
  intro m g _
  exact (θ_run (Cert.DsqSRefIdeal.defs (F := Ideal)) _ _).mono (fun r h => ⟨fun c => (h c).2,
      Idealize.ShloMosaic.sem_eq_zero_of_no_sems (by decide) r.2⟩)
    (Cert.DsqSRefIdeal.Value.run (F := Ideal) m g)

theorem frame_DsqARef : Cert.quiescent_DsqARefIdeal (hDsqARefIdeal := Cert.DsqARefIdeal.Gen.facts) := by
  intro m g _
  exact (θ_run (Cert.DsqARefIdeal.defs (F := Ideal)) _ _).mono (fun r h => ⟨fun c => (h c).2,
      Idealize.ShloMosaic.sem_eq_zero_of_no_sems (by decide) r.2⟩)
    (Cert.DsqARefIdeal.Value.run (F := Ideal) m g)

theorem frame_DwsqORef : Cert.quiescent_DwsqORefIdeal (hDwsqORefIdeal := Cert.DwsqORefIdeal.Gen.facts) := by
  intro m g _
  exact (θ_run (Cert.DwsqORefIdeal.defs (F := Ideal)) _ _).mono (fun r h => ⟨fun c => (h c).2,
      Idealize.ShloMosaic.sem_eq_zero_of_no_sems (by decide) r.2⟩)
    (Cert.DwsqORefIdeal.Value.run (F := Ideal) m g)

theorem frame_DwsqMRef : Cert.quiescent_DwsqMRefIdeal (hDwsqMRefIdeal := Cert.DwsqMRefIdeal.Gen.facts) := by
  intro m g _
  exact (θ_run (Cert.DwsqMRefIdeal.defs (F := Ideal)) _ _).mono (fun r h => ⟨fun c => (h c).2,
      Idealize.ShloMosaic.sem_eq_zero_of_no_sems (by decide) r.2⟩)
    (Cert.DwsqMRefIdeal.Value.run (F := Ideal) m g)

theorem frame_DwsqARef : Cert.quiescent_DwsqARefIdeal (hDwsqARefIdeal := Cert.DwsqARefIdeal.Gen.facts) := by
  intro m g _
  exact (θ_run (Cert.DwsqARefIdeal.defs (F := Ideal)) _ _).mono (fun r h => ⟨fun c => (h c).2,
      Idealize.ShloMosaic.sem_eq_zero_of_no_sems (by decide) r.2⟩)
    (Cert.DwsqARefIdeal.Value.run (F := Ideal) m g)

theorem frame_DmergeRef : Cert.quiescent_DmergeRefIdeal (hDmergeRefIdeal := Cert.DmergeRefIdeal.Gen.facts) := by
  intro m g _
  exact (θ_run (Cert.DmergeRefIdeal.defs (F := Ideal)) _ _).mono (fun r h => ⟨fun c => (h c).2.2.2.2.2,
      Idealize.ShloMosaic.sem_eq_zero_of_no_sems (by decide) r.2⟩)
    (Cert.DmergeRefIdeal.Value.run (F := Ideal) m g)

theorem frame_FinRef : Cert.quiescent_FinRefIdeal (hFinRefIdeal := Cert.FinRefIdeal.Gen.facts) := by
  intro m g _
  exact (θ_run (Cert.FinRefIdeal.defs (F := Ideal)) _ _).mono (fun r h => ⟨fun c => (h c).2,
      Idealize.ShloMosaic.sem_eq_zero_of_no_sems (by decide) r.2⟩)
    (Cert.FinRefIdeal.Value.run (F := Ideal) m g)

theorem frame_FguRef : Cert.quiescent_FguRefIdeal (hFguRefIdeal := Cert.FguRefIdeal.Gen.facts) := by
  intro m g _
  exact (θ_run (Cert.FguRefIdeal.defs (F := Ideal)) _ _).mono (fun r h => ⟨fun c => (h c).2.2,
      Idealize.ShloMosaic.sem_eq_zero_of_no_sems (by decide) r.2⟩)
    (Cert.FguRefIdeal.Value.run (F := Ideal) m g)

theorem frame_FdownRef : Cert.quiescent_FdownRefIdeal (hFdownRefIdeal := Cert.FdownRefIdeal.Gen.facts) := by
  intro m g _
  exact (θ_run (Cert.FdownRefIdeal.defs (F := Ideal)) _ _).mono (fun r h => ⟨fun c => (h c).2,
      Idealize.ShloMosaic.sem_eq_zero_of_no_sems (by decide) r.2⟩)
    (Cert.FdownRefIdeal.Value.run (F := Ideal) m g)

theorem frame_FsqCRef : Cert.quiescent_FsqCRefIdeal (hFsqCRefIdeal := Cert.FsqCRefIdeal.Gen.facts) := by
  intro m g _
  exact (θ_run (Cert.FsqCRefIdeal.defs (F := Ideal)) _ _).mono (fun r h => ⟨fun c => (h c).2,
      Idealize.ShloMosaic.sem_eq_zero_of_no_sems (by decide) r.2⟩)
    (Cert.FsqCRefIdeal.Value.run (F := Ideal) m g)

theorem frame_FsqSRef : Cert.quiescent_FsqSRefIdeal (hFsqSRefIdeal := Cert.FsqSRefIdeal.Gen.facts) := by
  intro m g _
  exact (θ_run (Cert.FsqSRefIdeal.defs (F := Ideal)) _ _).mono (fun r h => ⟨fun c => (h c).2,
      Idealize.ShloMosaic.sem_eq_zero_of_no_sems (by decide) r.2⟩)
    (Cert.FsqSRefIdeal.Value.run (F := Ideal) m g)

theorem frame_FsqARef : Cert.quiescent_FsqARefIdeal (hFsqARefIdeal := Cert.FsqARefIdeal.Gen.facts) := by
  intro m g _
  exact (θ_run (Cert.FsqARefIdeal.defs (F := Ideal)) _ _).mono (fun r h => ⟨fun c => (h c).2,
      Idealize.ShloMosaic.sem_eq_zero_of_no_sems (by decide) r.2⟩)
    (Cert.FsqARefIdeal.Value.run (F := Ideal) m g)

theorem frame_FsqORef : Cert.quiescent_FsqORefIdeal (hFsqORefIdeal := Cert.FsqORefIdeal.Gen.facts) := by
  intro m g _
  exact (θ_run (Cert.FsqORefIdeal.defs (F := Ideal)) _ _).mono (fun r h => ⟨fun c => (h c).2,
      Idealize.ShloMosaic.sem_eq_zero_of_no_sems (by decide) r.2⟩)
    (Cert.FsqORefIdeal.Value.run (F := Ideal) m g)

theorem frame_DconvRef : Cert.quiescent_DconvRefIdeal (hDconvRefIdeal := Cert.DconvRefIdeal.Gen.facts) := by
  intro m g _
  exact (θ_run (Cert.DconvRefIdeal.defs (F := Ideal)) _ _).mono (fun r h => ⟨fun c => (h c).2.2,
      Idealize.ShloMosaic.sem_eq_zero_of_no_sems (by decide) r.2⟩)
    (Cert.DconvRefIdeal.Value.run (F := Ideal) m g)

theorem frame_FrmsRef : Cert.quiescent_FrmsRefIdeal (hFrmsRefIdeal := Cert.FrmsRefIdeal.Gen.facts) := by
  intro m g _
  exact (θ_run (Cert.FrmsRefIdeal.defs (F := Ideal)) _ _).mono (fun r h => ⟨fun c => (h c).2,
      Idealize.ShloMosaic.sem_eq_zero_of_no_sems (by decide) r.2⟩)
    (Cert.FrmsRefIdeal.Value.run (F := Ideal) m g)

theorem frame_FconvRef : Cert.quiescent_FconvRefIdeal (hFconvRefIdeal := Cert.FconvRefIdeal.Gen.facts) := by
  intro m g _
  exact (θ_run (Cert.FconvRefIdeal.defs (F := Ideal)) _ _).mono (fun r h => ⟨fun c => (h c).2,
      Idealize.ShloMosaic.sem_eq_zero_of_no_sems (by decide) r.2⟩)
    (Cert.FconvRefIdeal.Value.run (F := Ideal) m g)

theorem frame_FmergeRef : Cert.quiescent_FmergeRefIdeal (hFmergeRefIdeal := Cert.FmergeRefIdeal.Gen.facts) := by
  intro m g _
  exact (θ_run (Cert.FmergeRefIdeal.defs (F := Ideal)) _ _).mono (fun r h => ⟨fun c => (h c).2,
      Idealize.ShloMosaic.sem_eq_zero_of_no_sems (by decide) r.2⟩)
    (Cert.FmergeRefIdeal.Value.run (F := Ideal) m g)

theorem claim : Cert.Claim := ⟨
  Cert.Kernel.Gen.facts, Cert.KernelIdeal.Gen.facts, Cert.ReferenceIdeal.Gen.facts, Cert.Dgu.Gen.facts, Cert.DguIdeal.Gen.facts,
  Cert.DguRefIdeal.Gen.facts, Cert.Drms.Gen.facts, Cert.DrmsIdeal.Gen.facts, Cert.DrmsRefIdeal.Gen.facts, Cert.Dqk.Gen.facts, Cert.DqkIdeal.Gen.facts,
  Cert.DqkRefIdeal.Gen.facts, Cert.Dh.Gen.facts, Cert.DhIdeal.Gen.facts, Cert.DhRefIdeal.Gen.facts, Cert.Dwgu.Gen.facts, Cert.DwguIdeal.Gen.facts,
  Cert.DwguRefIdeal.Gen.facts, Cert.Dwd.Gen.facts, Cert.DwdIdeal.Gen.facts, Cert.DwdRefIdeal.Gen.facts, Cert.Dwin.Gen.facts, Cert.DwinIdeal.Gen.facts,
  Cert.DwinRefIdeal.Gen.facts, Cert.Dhin.Gen.facts, Cert.DhinIdeal.Gen.facts, Cert.DhinRefIdeal.Gen.facts, Cert.DsqO.Gen.facts,
  Cert.DsqOIdeal.Gen.facts, Cert.DsqORefIdeal.Gen.facts, Cert.DsqC.Gen.facts, Cert.DsqCIdeal.Gen.facts, Cert.DsqCRefIdeal.Gen.facts,
  Cert.DsqS.Gen.facts, Cert.DsqSIdeal.Gen.facts, Cert.DsqSRefIdeal.Gen.facts, Cert.DsqA.Gen.facts, Cert.DsqAIdeal.Gen.facts,
  Cert.DsqARefIdeal.Gen.facts, Cert.DwsqO.Gen.facts, Cert.DwsqOIdeal.Gen.facts, Cert.DwsqORefIdeal.Gen.facts, Cert.DwsqM.Gen.facts,
  Cert.DwsqMIdeal.Gen.facts, Cert.DwsqMRefIdeal.Gen.facts, Cert.DwsqA.Gen.facts, Cert.DwsqAIdeal.Gen.facts, Cert.DwsqARefIdeal.Gen.facts,
  Cert.Dmerge.Gen.facts, Cert.DmergeIdeal.Gen.facts, Cert.DmergeRefIdeal.Gen.facts, Cert.Fin.Gen.facts, Cert.FinIdeal.Gen.facts,
  Cert.FinRefIdeal.Gen.facts, Cert.Fgu.Gen.facts, Cert.FguIdeal.Gen.facts, Cert.FguRefIdeal.Gen.facts, Cert.Fdown.Gen.facts, Cert.FdownIdeal.Gen.facts,
  Cert.FdownRefIdeal.Gen.facts, Cert.FsqC.Gen.facts, Cert.FsqCIdeal.Gen.facts, Cert.FsqCRefIdeal.Gen.facts, Cert.FsqS.Gen.facts,
  Cert.FsqSIdeal.Gen.facts, Cert.FsqSRefIdeal.Gen.facts, Cert.FsqA.Gen.facts, Cert.FsqAIdeal.Gen.facts, Cert.FsqARefIdeal.Gen.facts,
  Cert.FsqO.Gen.facts, Cert.FsqOIdeal.Gen.facts, Cert.FsqORefIdeal.Gen.facts, Cert.Dconv.Gen.facts, Cert.DconvIdeal.Gen.facts,
  Cert.DconvRefIdeal.Gen.facts, Cert.Frms.Gen.facts, Cert.FrmsIdeal.Gen.facts, Cert.FrmsRefIdeal.Gen.facts, Cert.Fconv.Gen.facts,
  Cert.FconvIdeal.Gen.facts, Cert.FconvRefIdeal.Gen.facts, Cert.Fmerge.Gen.facts, Cert.FmergeIdeal.Gen.facts, Cert.FmergeRefIdeal.Gen.facts,
  Cert.Dkv.facts_pre, Cert.Bwd.Dgu.pre_facts, Cert.Bwd.Drms.pre_facts, Cert.Bwd.Dqk.pre_facts, fun m ρ _ => Cert.Kernel.Gen.frame m ρ,
  fun m ρ _ => Cert.KernelIdeal.Gen.frame m ρ, fun m ρ _ => Cert.KernelIdeal.Gen.frame m ρ, frame_reference, fun m ρ _ => frame_reference m ρ trivial,
  fun m ρ _ => Cert.Dgu.Gen.frame m ρ, fun m ρ _ => Cert.DguIdeal.Gen.frame m ρ, fun m ρ _ => Cert.DguIdeal.Gen.frame m ρ, frame_DguRef,
  fun m ρ _ => frame_DguRef m ρ trivial, fun m ρ _ => Cert.Drms.Gen.frame m ρ, fun m ρ _ => Cert.DrmsIdeal.Gen.frame m ρ,
  fun m ρ _ => Cert.DrmsIdeal.Gen.frame m ρ, frame_DrmsRef, fun m ρ _ => frame_DrmsRef m ρ trivial, fun m ρ _ => Cert.Dqk.Gen.frame m ρ,
  fun m ρ _ => Cert.DqkIdeal.Gen.frame m ρ, fun m ρ _ => Cert.DqkIdeal.Gen.frame m ρ, frame_DqkRef, fun m ρ _ => frame_DqkRef m ρ trivial,
  fun m ρ _ => Cert.Dh.Gen.frame m ρ, fun m ρ _ => Cert.DhIdeal.Gen.frame m ρ, frame_DhRef, fun m ρ _ => Cert.Dwgu.Gen.frame m ρ,
  fun m ρ _ => Cert.DwguIdeal.Gen.frame m ρ, frame_DwguRef, fun m ρ _ => Cert.Dwd.Gen.frame m ρ, fun m ρ _ => Cert.DwdIdeal.Gen.frame m ρ,
  frame_DwdRef, fun m ρ _ => Cert.Dwin.Gen.frame m ρ, fun m ρ _ => Cert.DwinIdeal.Gen.frame m ρ, frame_DwinRef, fun m ρ _ => Cert.Dhin.Gen.frame m ρ,
  fun m ρ _ => Cert.DhinIdeal.Gen.frame m ρ, frame_DhinRef, fun m ρ _ => Cert.DsqO.Gen.frame m ρ, fun m ρ _ => Cert.DsqOIdeal.Gen.frame m ρ,
  frame_DsqORef, fun m ρ _ => Cert.DsqC.Gen.frame m ρ, fun m ρ _ => Cert.DsqCIdeal.Gen.frame m ρ, frame_DsqCRef, fun m ρ _ => Cert.DsqS.Gen.frame m ρ,
  fun m ρ _ => Cert.DsqSIdeal.Gen.frame m ρ, frame_DsqSRef, fun m ρ _ => Cert.DsqA.Gen.frame m ρ, fun m ρ _ => Cert.DsqAIdeal.Gen.frame m ρ,
  frame_DsqARef, fun m ρ _ => Cert.DwsqO.Gen.frame m ρ, fun m ρ _ => Cert.DwsqOIdeal.Gen.frame m ρ, frame_DwsqORef,
  fun m ρ _ => Cert.DwsqM.Gen.frame m ρ, fun m ρ _ => Cert.DwsqMIdeal.Gen.frame m ρ, frame_DwsqMRef, fun m ρ _ => Cert.DwsqA.Gen.frame m ρ,
  fun m ρ _ => Cert.DwsqAIdeal.Gen.frame m ρ, frame_DwsqARef, fun m ρ _ => Cert.Dmerge.Gen.frame m ρ, fun m ρ _ => Cert.DmergeIdeal.Gen.frame m ρ,
  frame_DmergeRef, fun m ρ _ => Cert.Fin.Gen.frame m ρ, fun m ρ _ => Cert.FinIdeal.Gen.frame m ρ, frame_FinRef, fun m ρ _ => Cert.Fgu.Gen.frame m ρ,
  fun m ρ _ => Cert.FguIdeal.Gen.frame m ρ, frame_FguRef, fun m ρ _ => Cert.Fdown.Gen.frame m ρ, fun m ρ _ => Cert.FdownIdeal.Gen.frame m ρ,
  frame_FdownRef, fun m ρ _ => Cert.FsqC.Gen.frame m ρ, fun m ρ _ => Cert.FsqCIdeal.Gen.frame m ρ, frame_FsqCRef, fun m ρ _ => Cert.FsqS.Gen.frame m ρ,
  fun m ρ _ => Cert.FsqSIdeal.Gen.frame m ρ, frame_FsqSRef, fun m ρ _ => Cert.FsqA.Gen.frame m ρ, fun m ρ _ => Cert.FsqAIdeal.Gen.frame m ρ,
  frame_FsqARef, fun m ρ _ => Cert.FsqO.Gen.frame m ρ, fun m ρ _ => Cert.FsqOIdeal.Gen.frame m ρ, frame_FsqORef, fun m ρ _ => Cert.Dconv.Gen.frame m ρ,
  fun m ρ _ => Cert.DconvIdeal.Gen.frame m ρ, frame_DconvRef, fun m ρ _ => Cert.Frms.Gen.frame m ρ, fun m ρ _ => Cert.FrmsIdeal.Gen.frame m ρ,
  frame_FrmsRef, fun m ρ _ => Cert.Fconv.Gen.frame m ρ, fun m ρ _ => Cert.FconvIdeal.Gen.frame m ρ, frame_FconvRef,
  fun m ρ _ => Cert.Fmerge.Gen.frame m ρ, fun m ρ _ => Cert.FmergeIdeal.Gen.frame m ρ, frame_FmergeRef, trivial, claim_value, trivial,
  Cert.Bwd.Dgu.value, trivial, Cert.Bwd.Drms.value, trivial, Cert.Bwd.Dqk.value, trivial, Cert.Bwd.Dh.value, trivial, Cert.Bwd.Dwgu.value, trivial,
  Cert.Bwd.Dwd.value, trivial, Cert.Bwd.Dwin.value, trivial, Cert.Bwd.Dhin.value, trivial, Cert.Bwd.DsqO.value, trivial, Cert.Bwd.DsqC.value, trivial,
  Cert.Bwd.DsqS.value, trivial, Cert.Bwd.DsqA.value, trivial, Cert.Bwd.DwsqO.value, trivial, Cert.Bwd.DwsqM.value, trivial, Cert.Bwd.DwsqA.value,
  trivial, Cert.Bwd.Dmerge.value, trivial, Cert.Bwd.Fin.value, trivial, Cert.Bwd.Fgu.value, trivial, Cert.Bwd.Fdown.value, trivial,
  Cert.Bwd.FsqC.value, trivial, Cert.Bwd.FsqS.value, trivial, Cert.Bwd.FsqA.value, trivial, Cert.Bwd.FsqO.value, trivial, Cert.Bwd.Dconv.value,
  trivial, Cert.Bwd.Frms.value, trivial, Cert.Bwd.Fconv.value, trivial, Cert.Bwd.Fmerge.value⟩

end Cert.Proof

end
